-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v8) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v16) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v73) = v0 c
          ∧ r.2.mem ((c.tc : Thread Cert.Reference17Ideal.nD Cert.Reference17Ideal.τ).loc Cert.Reference17Ideal.main_v54) = v1 c
          ∧ r.2.mem ((c.tc : Thread Cert.Reference17Ideal.nD Cert.Reference17Ideal.τ).loc Cert.Reference17Ideal.main_v57) = v2 c
          ∧ r.2.mem ((c.tc : Thread Cert.Reference17Ideal.nD Cert.Reference17Ideal.τ).loc Cert.Reference17Ideal.main_v38) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v34) = v0 c
          ∧ r.2.mem ((c.tc : Thread Cert.Reference19Ideal.nD Cert.Reference19Ideal.τ).loc Cert.Reference19Ideal.main_v17) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v25) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v48) = v0 c
          ∧ r.2.mem ((c.tc : Thread Cert.Reference21Ideal.nD Cert.Reference21Ideal.τ).loc Cert.Reference21Ideal.main_v32) = v1 c
          ∧ r.2.mem ((c.tc : Thread Cert.Reference21Ideal.nD Cert.Reference21Ideal.τ).loc Cert.Reference21Ideal.main_v49) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  IdealRules.named_const.Statement Cert.Kernel22Ideal.κ "mask" .f32 0xF149F2CA#32 ⊥

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v28) = v0 c
          ∧ r.2.mem ((c.tc : Thread Cert.Reference22Ideal.nD Cert.Reference22Ideal.τ).loc Cert.Reference22Ideal.main_v54) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_arg3) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_v4) = v2 c
          ∧ r.2.mem ((c.tc : Thread Cert.Reference23Ideal.nD Cert.Reference23Ideal.τ).loc Cert.Reference23Ideal.main_v10) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_v31) = v1 c
          ∧ r.2.mem ((c.tc : Thread Cert.Reference24Ideal.nD Cert.Reference24Ideal.τ).loc Cert.Reference24Ideal.main_v12) = v2 c
          ∧ r.2.mem ((c.tc : Thread Cert.Reference24Ideal.nD Cert.Reference24Ideal.τ).loc Cert.Reference24Ideal.main_v18) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_v30) = v1 c
          ∧ r.2.mem ((c.tc : Thread Cert.Reference25Ideal.nD Cert.Reference25Ideal.τ).loc Cert.Reference25Ideal.main_v11) = v2 c
          ∧ r.2.mem ((c.tc : Thread Cert.Reference25Ideal.nD Cert.Reference25Ideal.τ).loc Cert.Reference25Ideal.main_v17) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_v30) = v1 c
          ∧ r.2.mem ((c.tc : Thread Cert.Reference26Ideal.nD Cert.Reference26Ideal.τ).loc Cert.Reference26Ideal.main_v11) = v2 c
          ∧ r.2.mem ((c.tc : Thread Cert.Reference26Ideal.nD Cert.Reference26Ideal.τ).loc Cert.Reference26Ideal.main_v17) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S4096x4608 : Shape := ⟨2, ![4096, 4608]⟩
abbrev S4096x1024 : Shape := ⟨2, ![4096, 1024]⟩
abbrev S_ : Shape := ⟨0, ![]⟩

class Facts : Prop where
  bitsLt_bf16_f32 : FTy.bits .bf16 < FTy.bits .f32
  bcast_S_S4096x4608 : S_.BroadcastsInDim S4096x4608 (![] : Fin 0 → Fin S4096x4608.rank)
  reducesTo_S4096x4608_S_d0_1 : S4096x4608.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x4608 .bf16) (main_arg1 : FVec F S4096x1024 .f32) (main_arg2 : FVec F S4096x4608 .bf16) : IVec S_ 1 :=
  let main_v0 : FVec F S4096x4608 .f32 := (extf .f32 · bitsLt_bf16_f32) main_arg0
  let main_v1 : FVec F S4096x4608 .f32 := Host.absf main_v0
  let main_cst : FVec F S_ .f32 := constant S_ .f32 0x7F800000#32
  let main_v2 : FVec F S4096x4608 .f32 := broadcastInDim S4096x4608 ![] bcast_S_S4096x4608 main_cst
  let main_v3 : IVec S4096x4608 1 := cmpf .olt main_v1 main_v2
  let main_c : IVec S_ 1 := constantI S_ 1 1#1
  let main_v4 : IVec S_ 1 := (fun x v => Host.reduce IntOp.andi x v reducesTo_S4096x4608_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  main_v9
-- ==== Pre_finite2.lean ====
abbrev S4096x2048 : Shape := ⟨2, ![4096, 2048]⟩
abbrev S4x1408x2048 : Shape := ⟨3, ![4, 1408, 2048]⟩
abbrev S4x4096x1408 : Shape := ⟨3, ![4, 4096, 1408]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bitsLt_bf16_f32 : FTy.bits .bf16 < FTy.bits .f32
  bcast_S_S4x1408x2048 : S_.BroadcastsInDim S4x1408x2048 (![] : Fin 0 → Fin S4x1408x2048.rank)
  reducesTo_S4x1408x2048_S_d0_1_2 : S4x1408x2048.ReducesTo [0, 1, 2] S_
  bcast_S_S4x4096x1408 : S_.BroadcastsInDim S4x4096x1408 (![] : Fin 0 → Fin S4x4096x1408.rank)
  reducesTo_S4x4096x1408_S_d0_1_2 : S4x4096x1408.ReducesTo [0, 1, 2] S_

variable [Facts]

def fn {F : FTy → Type} [FloatOps F] (main_arg0 : FVec F S4096x2048 .f32) (main_arg1 : FVec F S4x1408x2048 .bf16) (main_arg2 : FVec F S4x4096x1408 .bf16) (main_arg3 : FVec F S4x4096x1408 .bf16) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4x1408x2048 .f32 := (extf .f32 · bitsLt_bf16_f32) main_arg1
  let main_v5 : FVec F S4x1408x2048 .f32 := Host.absf main_v4
  let main_cst_0 : FVec F S_ .f32 := constant S_ .f32 0x7F800000#32
  let main_v6 : FVec F S4x1408x2048 .f32 := broadcastInDim S4x1408x2048 ![] bcast_S_S4x1408x2048 main_cst_0
  let main_v7 : IVec S4x1408x2048 1 := cmpf .olt main_v5 main_v6
  let main_c_1 : IVec S_ 1 := constantI S_ 1 1#1
  let main_v8 : IVec S_ 1 := (fun x v => Host.reduce IntOp.andi x v reducesTo_S4x1408x2048_S_d0_1_2 h_S_) main_v7 main_c_1
  let main_v9 : IVec S_ 1 := andi main_v3 main_v8
  let main_v10 : FVec F S4x4096x1408 .f32 := (extf .f32 · bitsLt_bf16_f32) main_arg3
  let main_v11 : FVec F S4x4096x1408 .f32 := Host.absf main_v10
  let main_cst_2 : FVec F S_ .f32 := constant S_ .f32 0x7F800000#32
  let main_v12 : FVec F S4x4096x1408 .f32 := broadcastInDim S4x4096x1408 ![] bcast_S_S4x4096x1408 main_cst_2
  let main_v13 : IVec S4x4096x1408 1 := cmpf .olt main_v11 main_v12
  let main_c_3 : IVec S_ 1 := constantI S_ 1 1#1
  let main_v14 : IVec S_ 1 := (fun x v => Host.reduce IntOp.andi x v reducesTo_S4x4096x1408_S_d0_1_2 h_S_) main_v13 main_c_3
  let main_v15 : IVec S_ 1 := andi main_v9 main_v14
  main_v15
-- ==== Kernel.lean ====
abbrev S4096x4608 : Shape := ⟨2, ![4096, 4608]⟩
abbrev S4096x1024 : Shape := ⟨2, ![4096, 1024]⟩
abbrev S4096x3072 : Shape := ⟨2, ![4096, 3072]⟩
abbrev S2x2048x16x64 : Shape := ⟨4, ![2, 2048, 16, 64]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x2048 : Shape := ⟨3, ![2, 16, 2048]⟩
abbrev S2x8x2x2048 : Shape := ⟨4, ![2, 8, 2, 2048]⟩
abbrev S2x8x2048x2 : Shape := ⟨4, ![2, 8, 2048, 2]⟩
abbrev S2x8x2048x2x1 : Shape := ⟨5, ![2, 8, 2048, 2, 1]⟩
abbrev S2x8x2048x2x64 : Shape := ⟨5, ![2, 8, 2048, 2, 64]⟩
abbrev S16x2048x128 : Shape := ⟨3, ![16, 2048, 128]⟩
abbrev S2048x128 : Shape := ⟨2, ![2048, 128]⟩
abbrev S1x2048x128 : Shape := ⟨3, ![1, 2048, 128]⟩
abbrev S3x2048x128 : Shape := ⟨3, ![3, 2048, 128]⟩
abbrev S3 : Shape := ⟨1, ![3]⟩
abbrev S256x128 : Shape := ⟨2, ![256, 128]⟩
abbrev S256x256 : Shape := ⟨2, ![256, 256]⟩
abbrev S1x256x128 : Shape := ⟨3, ![1, 256, 128]⟩
abbrev S512x128 : Shape := ⟨2, ![512, 128]⟩
abbrev S256 : Shape := ⟨1, ![256]⟩
abbrev S256x1 : Shape := ⟨2, ![256, 1]⟩
abbrev S512x256 : Shape := ⟨2, ![512, 256]⟩
abbrev S1024x256 : Shape := ⟨2, ![1024, 256]⟩
abbrev S256x512 : Shape := ⟨2, ![256, 512]⟩
abbrev S1 : Shape := ⟨1, ![1]⟩

abbrev nBuf : Space → Nat
  | .hbm => 51
  | .vmem => 13
  | .smem => 0
  | _ => 0

abbrev bufTy : (tb : Table) → Fin (tcTables nBuf tb) → BufTy
  | .hbm, ⟨0, _⟩ => ⟨S4096x4608, .bf16⟩
  | .hbm, ⟨1, _⟩ => ⟨S4096x1024, .f32⟩
  | .hbm, ⟨2, _⟩ => ⟨S4096x4608, .bf16⟩
  | .hbm, ⟨3, _⟩ => ⟨S4096x3072, .bf16⟩
  | .hbm, ⟨4, _⟩ => ⟨S4096x3072, .f32⟩
  | .hbm, ⟨5, _⟩ => ⟨S4096x1024, .f32⟩
  | .hbm, ⟨6, _⟩ => ⟨S2x2048x16x64, .f32⟩
  | .hbm, ⟨7, _⟩ => ⟨S4096x1024, .f32⟩
  | .hbm, ⟨8, _⟩ => ⟨S2x2048x16x64, .f32⟩
  | .hbm, ⟨9, _⟩ => ⟨S4096x1024, .f32⟩
  | .hbm, ⟨10, _⟩ => ⟨S2x2048x16x64, .f32⟩
  | .hbm, ⟨11, _⟩ => ⟨S2x16x2048x2048, .f32⟩
  | .hbm, ⟨12, _⟩ => ⟨S_, .f32⟩
  | .hbm, ⟨13, _⟩ => ⟨S2x16x2048x2048, .f32⟩
  | .hbm, ⟨14, _⟩ => ⟨S2x16x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .i1⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S_, .f32⟩
  | .hbm, ⟨39, _⟩ => ⟨S_, .f32⟩
  | .hbm, ⟨40, _⟩ => ⟨S2x16x2048x2048, .i1⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S2x8x2x2048, .f32⟩
  | .hbm, ⟨46, _⟩ => ⟨S2x8x2048x2, .f32⟩
  | .hbm, ⟨47, _⟩ => ⟨S2x8x2048x2x1, .f32⟩
  | .hbm, ⟨48, _⟩ => ⟨S2x8x2048x2x64, .f32⟩
  | .hbm, ⟨49, _⟩ => ⟨S16x2048x128, .f32⟩
  | .hbm, ⟨50, _⟩ => ⟨S4096x4608, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S1x2048x128, .f32⟩
  | .local _ .vmem, ⟨9, _⟩ => ⟨S1x2048x128, .f32⟩
  | .local _ .vmem, ⟨10, _⟩ => ⟨S3x2048x128, .bf16⟩
  | .local _ .vmem, ⟨11, _⟩ => ⟨S2048x128, .f32⟩
  | .local _ .vmem, ⟨12, _⟩ => ⟨S2048x128, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_11 : BitVec 32 := 0#32
  let c8_i32 : BitVec 32 := 8#32
  let v34 : BitVec 32 := Scalar.addi c0_i32_11 c8_i32
  let c1_i32_12 : BitVec 32 := 1#32
  ⟨c0_i32_11, v34, c1_i32_12⟩
def k0_mult1 (k0_t1 : Fin k0_t1_loop.trips) : BitVec 32 :=
  let c0_i32_11 : BitVec 32 := 0#32
  let c1_i32_12 : BitVec 32 := 1#32
  let arg13 : BitVec 32 := Scf.iv c0_i32_11 c1_i32_12 k0_t1
  let c256_i32 : BitVec 32 := 256#32
  let v89 : BitVec 32 := Scalar.muli arg13 c256_i32
  v89
def k0_off1 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c256_i32 : BitVec 32 := 256#32
  let v89 : BitVec 32 := Scalar.muli arg13 c256_i32
  let v90 : BitVec 32 := v89
  let v91 : Index := Scalar.indexCast v90
  let c0_51 : Index := 0#32
  ![v91.toNat, 0]
def k0_off2 (k0_t1 : Fin k0_t1_loop.trips) : Fin 3 → Nat :=
  let c0_53 : Index := 0#32
  let c0_i32_11 : BitVec 32 := 0#32
  let c1_i32_12 : BitVec 32 := 1#32
  let arg13 : BitVec 32 := Scf.iv c0_i32_11 c1_i32_12 k0_t1
  let c256_i32 : BitVec 32 := 256#32
  let v89 : BitVec 32 := Scalar.muli arg13 c256_i32
  let v90 : BitVec 32 := v89
  let v98 : Index := Scalar.indexCast v90
  let c0_54 : Index := 0#32
  ![0, v98.toNat, 0]
@[reducible] def k0_t2_loop (k0_t1 : Fin k0_t1_loop.trips) : Scf.Loop 32 :=
  let c0_i32_62 : BitVec 32 := 0#32
  let c0_i32_11 : BitVec 32 := 0#32
  let c1_i32_12 : BitVec 32 := 1#32
  let arg13 : BitVec 32 := Scf.iv c0_i32_11 c1_i32_12 k0_t1
  let v121 : BitVec 32 := Scalar.subi arg13 c0_i32_62
  let c1_i32_63 : BitVec 32 := 1#32
  let v123 : BitVec 32 := Scalar.divsi v121 c1_i32_63
  let v124 : BitVec 32 := Scalar.muli v123 c1_i32_63
  let v125 : BitVec 32 := Scalar.addi c0_i32_62 v124
  let c1_i32_64 : BitVec 32 := 1#32
  ⟨c0_i32_62, v125, c1_i32_64⟩
def k0_mult2 (k0_t1 : Fin k0_t1_loop.trips) (k0_t2 : Fin (k0_t2_loop k0_t1).trips) : BitVec 32 :=
  let c0_i32_62 : BitVec 32 := 0#32
  let c1_i32_64 : BitVec 32 := 1#32
  let arg14 : BitVec 32 := Scf.iv c0_i32_62 c1_i32_64 k0_t2
  let c256_i32_98 : BitVec 32 := 256#32
  let v276 : BitVec 32 := Scalar.muli arg14 c256_i32_98
  v276
def k0_off3 (k0_t1 : Fin k0_t1_loop.trips) (k0_t2 : Fin (k0_t2_loop k0_t1).trips) : Fin 2 → Nat :=
  let c0_i32_62 : BitVec 32 := 0#32
  let c1_i32_64 : BitVec 32 := 1#32
  let arg14 : BitVec 32 := Scf.iv c0_i32_62 c1_i32_64 k0_t2
  let c256_i32_98 : BitVec 32 := 256#32
  let v276 : BitVec 32 := Scalar.muli arg14 c256_i32_98
  let v277 : BitVec 32 := v276
  let v278 : Index := Scalar.indexCast v277
  let c0_99 : Index := 0#32
  ![v278.toNat, 0]
@[reducible] def k0_t3_loop (k0_t1 : Fin k0_t1_loop.trips) : Scf.Loop 32 :=
  let c0_i32_62 : BitVec 32 := 0#32
  let c0_i32_11 : BitVec 32 := 0#32
  let c1_i32_12 : BitVec 32 := 1#32
  let arg13 : BitVec 32 := Scf.iv c0_i32_11 c1_i32_12 k0_t1
  let v121 : BitVec 32 := Scalar.subi arg13 c0_i32_62
  let c1_i32_63 : BitVec 32 := 1#32
  let v123 : BitVec 32 := Scalar.divsi v121 c1_i32_63
  let v124 : BitVec 32 := Scalar.muli v123 c1_i32_63
  let v125 : BitVec 32 := Scalar.addi c0_i32_62 v124
  let v122 : BitVec 32 := Scalar.addi c0_i32_62 v121
  let c1_i32_65 : BitVec 32 := 1#32
  ⟨v125, v122, c1_i32_65⟩
def k0_mult3 (k0_t1 : Fin k0_t1_loop.trips) (k0_t3 : Fin (k0_t3_loop k0_t1).trips) : BitVec 32 :=
  let c0_i32_62 : BitVec 32 := 0#32
  let c0_i32_11 : BitVec 32 := 0#32
  let c1_i32_12 : BitVec 32 := 1#32
  let arg13 : BitVec 32 := Scf.iv c0_i32_11 c1_i32_12 k0_t1
  let v121 : BitVec 32 := Scalar.subi arg13 c0_i32_62
  let c1_i32_63 : BitVec 32 := 1#32
  let v123 : BitVec 32 := Scalar.divsi v121 c1_i32_63
  let v124 : BitVec 32 := Scalar.muli v123 c1_i32_63
  let v125 : BitVec 32 := Scalar.addi c0_i32_62 v124
  let c1_i32_65 : BitVec 32 := 1#32
  let arg14 : BitVec 32 := Scf.iv v125 c1_i32_65 k0_t3
  let c256_i32_98 : BitVec 32 := 256#32
  let v276 : BitVec 32 := Scalar.muli arg14 c256_i32_98
  v276
def k0_off4 (k0_t1 : Fin k0_t1_loop.trips) (k0_t3 : Fin (k0_t3_loop k0_t1).trips) : Fin 2 → Nat :=
  let c0_i32_62 : BitVec 32 := 0#32
  let c0_i32_11 : BitVec 32 := 0#32
  let c1_i32_12 : BitVec 32 := 1#32
  let arg13 : BitVec 32 := Scf.iv c0_i32_11 c1_i32_12 k0_t1
  let v121 : BitVec 32 := Scalar.subi arg13 c0_i32_62
  let c1_i32_63 : BitVec 32 := 1#32
  let v123 : BitVec 32 := Scalar.divsi v121 c1_i32_63
  let v124 : BitVec 32 := Scalar.muli v123 c1_i32_63
  let v125 : BitVec 32 := Scalar.addi c0_i32_62 v124
  let c1_i32_65 : BitVec 32 := 1#32
  let arg14 : BitVec 32 := Scf.iv v125 c1_i32_65 k0_t3
  let c256_i32_98 : BitVec 32 := 256#32
  let v276 : BitVec 32 := Scalar.muli arg14 c256_i32_98
  let v277 : BitVec 32 := v276
  let v278 : Index := Scalar.indexCast v277
  let c0_99 : Index := 0#32
  ![v278.toNat, 0]
def k0_mult4 (k0_t1 : Fin k0_t1_loop.trips) : BitVec 32 :=
  let c0_i32_11 : BitVec 32 := 0#32
  let c1_i32_12 : BitVec 32 := 1#32
  let arg13 : BitVec 32 := Scf.iv c0_i32_11 c1_i32_12 k0_t1
  let c256_i32_66 : BitVec 32 := 256#32
  let v129 : BitVec 32 := Scalar.muli arg13 c256_i32_66
  v129
def k0_off5 (k0_t1 : Fin k0_t1_loop.trips) : Fin 3 → Nat :=
  let c0_96 : Index := 0#32
  let c0_i32_11 : BitVec 32 := 0#32
  let c1_i32_12 : BitVec 32 := 1#32
  let arg13 : BitVec 32 := Scf.iv c0_i32_11 c1_i32_12 k0_t1
  let c256_i32 : BitVec 32 := 256#32
  let v89 : BitVec 32 := Scalar.muli arg13 c256_i32
  let v90 : BitVec 32 := v89
  let v272 : Index := Scalar.indexCast v90
  let c0_97 : Index := 0#32
  ![0, v272.toNat, 0]
def k0_mult5 (i : grid0.Coords) : BitVec 32 :=
  let arg0 : BitVec 32 := BitVec.ofNat 32 (i 0).val
  let c2048_i32 : BitVec 32 := 2048#32
  let v45 : BitVec 32 := Scalar.muli arg0 c2048_i32
  v45
def k0_mult6 (i : grid0.Coords) : BitVec 32 :=
  let c12_i32 : BitVec 32 := 12#32
  let arg1 : BitVec 32 := BitVec.ofNat 32 (i 1).val
  let v47 : BitVec 32 := Scalar.addi c12_i32 arg1
  let c0_i32_22 : BitVec 32 := 0#32
  let v48 : BitVec 32 := Scalar.addi v47 c0_i32_22
  let c128_i32 : BitVec 32 := 128#32
  let v49 : BitVec 32 := Scalar.muli v48 c128_i32
  v49
def k0_mult7 (i : grid0.Coords) : BitVec 32 :=
  let c12_i32_23 : BitVec 32 := 12#32
  let arg1 : BitVec 32 := BitVec.ofNat 32 (i 1).val
  let v51 : BitVec 32 := Scalar.addi c12_i32_23 arg1
  let c8_i32_24 : BitVec 32 := 8#32
  let v52 : BitVec 32 := Scalar.addi v51 c8_i32_24
  let c128_i32_25 : BitVec 32 := 128#32
  let v53 : BitVec 32 := Scalar.muli v52 c128_i32_25
  v53
def k0_mult8 (i : grid0.Coords) : BitVec 32 :=
  let c12_i32_26 : BitVec 32 := 12#32
  let arg1 : BitVec 32 := BitVec.ofNat 32 (i 1).val
  let v55 : BitVec 32 := Scalar.addi c12_i32_26 arg1
  let c16_i32 : BitVec 32 := 16#32
  let v56 : BitVec 32 := Scalar.addi v55 c16_i32
  let c128_i32_27 : BitVec 32 := 128#32
  let v57 : BitVec 32 := Scalar.muli v56 c128_i32_27
  v57
def k0_off6 (i : grid0.Coords) (c0_i32_22 : BitVec 32) : Fin 2 → Nat :=
  let arg0 : BitVec 32 := BitVec.ofNat 32 (i 0).val
  let c2048_i32 : BitVec 32 := 2048#32
  let v45 : BitVec 32 := Scalar.muli arg0 c2048_i32
  let v46 : BitVec 32 := v45
  let c12_i32 : BitVec 32 := 12#32
  let arg1 : BitVec 32 := BitVec.ofNat 32 (i 1).val
  let v47 : BitVec 32 := Scalar.addi c12_i32 arg1
  let v48 : BitVec 32 := Scalar.addi v47 c0_i32_22
  let c128_i32 : BitVec 32 := 128#32
  let v49 : BitVec 32 := Scalar.muli v48 c128_i32
  let v50 : BitVec 32 := v49
  ![v46.toNat, v50.toNat]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4096x4608 : Shape := ⟨2, ![4096, 4608]⟩
abbrev S4096x1024 : Shape := ⟨2, ![4096, 1024]⟩
abbrev S4096x3072 : Shape := ⟨2, ![4096, 3072]⟩
abbrev S2x2048x16x64 : Shape := ⟨4, ![2, 2048, 16, 64]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x64x2048 : Shape := ⟨4, ![2, 16, 64, 2048]⟩
abbrev S2x16x2048x64 : Shape := ⟨4, ![2, 16, 2048, 64]⟩
abbrev S4096x1536 : Shape := ⟨2, ![4096, 1536]⟩

abbrev nBuf : Space → Nat
  | .hbm => 180
  | .vmem => 0
  | .smem => 0
  | _ => 0

abbrev hbmTy0_0 (i : Nat) : BufTy := match i % 128 with
  | 0 => ⟨S4096x4608, .bf16⟩
  | 1 => ⟨S4096x1024, .f32⟩
  | 2 => ⟨S4096x4608, .bf16⟩
  | 3 => ⟨S4096x3072, .bf16⟩
  | 4 => ⟨S4096x3072, .f32⟩
  | 5 => ⟨S4096x1024, .f32⟩
  | 6 => ⟨S2x2048x16x64, .f32⟩
  | 7 => ⟨S4096x1024, .f32⟩
  | 8 => ⟨S2x2048x16x64, .f32⟩
  | 9 => ⟨S4096x1024, .f32⟩
  | 10 => ⟨S2x2048x16x64, .f32⟩
  | 11 => ⟨S2x16x2048x2048, .f32⟩
  | 12 => ⟨S_, .f32⟩
  | 13 => ⟨S2x16x2048x2048, .f32⟩
  | 14 => ⟨S2x16x2048x2048, .f32⟩
  | 15 => ⟨S2048, .i32⟩
  | 16 => ⟨S1x2048, .i32⟩
  | 17 => ⟨S2048x1, .i32⟩
  | 18 => ⟨S2048x2048, .i32⟩
  | 19 => ⟨S2048x2048, .i32⟩
  | 20 => ⟨S2048x2048, .i1⟩
  | 21 => ⟨S2x16x2048x2048, .f32⟩
  | 22 => ⟨S_, .f32⟩
  | 23 => ⟨S2x16x2048x2048, .f32⟩
  | 24 => ⟨S2x16x2048x2048, .f32⟩
  | 25 => ⟨S2x16x2048x2048, .f32⟩
  | 26 => ⟨S2x16x2048x2048, .f32⟩
  | 27 => ⟨S2x16x2048x2048, .i1⟩
  | 28 => ⟨S2x16x2048x2048, .f32⟩
  | 29 => ⟨S2x16x2048x2048, .f32⟩
  | 30 => ⟨S2x16x2048x2048, .f32⟩
  | 31 => ⟨S2x16x2048x2048, .f32⟩
  | 32 => ⟨S2x16x2048x2048, .f32⟩
  | 33 => ⟨S2x16x2048x2048, .f32⟩
  | 34 => ⟨S2x16x2048x2048, .f32⟩
  | 35 => ⟨S2x16x2048x2048, .f32⟩
  | 36 => ⟨S_, .f32⟩
  | 37 => ⟨S2x16x2048x2048, .f32⟩
  | 38 => ⟨S2x16x2048x2048, .i1⟩
  | 39 => ⟨S_, .f32⟩
  | 40 => ⟨S2x16x2048x2048, .f32⟩
  | 41 => ⟨S2x16x2048x2048, .f32⟩
  | 42 => ⟨S_, .f32⟩
  | 43 => ⟨S2x16x2048x2048, .f32⟩
  | 44 => ⟨S2x16x2048x2048, .i1⟩
  | 45 => ⟨S_, .f32⟩
  | 46 => ⟨S2x16x2048x2048, .f32⟩
  | 47 => ⟨S2x16x2048x2048, .f32⟩
  | 48 => ⟨S2x16x2048x2048, .f32⟩
  | 49 => ⟨S2x16x2048x2048, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S2x16x2048x2048, .f32⟩
  | 58 => ⟨S2x16x2048x2048, .i1⟩
  | 59 => ⟨S_, .f32⟩
  | 60 => ⟨S2x16x2048x2048, .f32⟩
  | 61 => ⟨S2x16x2048x2048, .f32⟩
  | 62 => ⟨S2x16x2048x2048, .f32⟩
  | 63 => ⟨S2x16x2048x2048, .f32⟩
  | 64 => ⟨S2x16x2048x2048, .f32⟩
  | 65 => ⟨S_, .f32⟩
  | 66 => ⟨S2x16x2048x2048, .f32⟩
  | 67 => ⟨S2x16x2048x2048, .f32⟩
  | 68 => ⟨S2x16x2048x2048, .f32⟩
  | 69 => ⟨S2x16x2048x2048, .f32⟩
  | 70 => ⟨S2x16x2048x2048, .f32⟩
  | 71 => ⟨S_, .f32⟩
  | 72 => ⟨S2x16x2048x2048, .f32⟩
  | 73 => ⟨S2x16x2048x2048, .f32⟩
  | 74 => ⟨S2x16x2048x2048, .f32⟩
  | 75 => ⟨S2x16x2048x2048, .f32⟩
  | 76 => ⟨S2x16x2048x2048, .i1⟩
  | 77 => ⟨S2x16x2048x2048, .f32⟩
  | 78 => ⟨S2x16x2048x2048, .f32⟩
  | 79 => ⟨S2x16x2048x2048, .f32⟩
  | 80 => ⟨S2x16x2048x2048, .f32⟩
  | 81 => ⟨S2x16x2048x2048, .f32⟩
  | 82 => ⟨S2x16x2048x2048, .f32⟩
  | 83 => ⟨S2x16x2048x2048, .f32⟩
  | 84 => ⟨S2x16x2048x2048, .f32⟩
  | 85 => ⟨S_, .f32⟩
  | 86 => ⟨S2x16x2048x2048, .f32⟩
  | 87 => ⟨S2x16x2048x2048, .i1⟩
  | 88 => ⟨S_, .f32⟩
  | 89 => ⟨S2x16x2048x2048, .f32⟩
  | 90 => ⟨S2x16x2048x2048, .f32⟩
  | 91 => ⟨S_, .f32⟩
  | 92 => ⟨S2x16x2048x2048, .f32⟩
  | 93 => ⟨S2x16x2048x2048, .i1⟩
  | 94 => ⟨S_, .f32⟩
  | 95 => ⟨S2x16x2048x2048, .f32⟩
  | 96 => ⟨S2x16x2048x2048, .f32⟩
  | 97 => ⟨S2x16x2048x2048, .f32⟩
  | 98 => ⟨S2x16x2048x2048, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S2x16x2048x2048, .f32⟩
  | 107 => ⟨S2x16x2048x2048, .i1⟩
  | 108 => ⟨S_, .f32⟩
  | 109 => ⟨S2x16x2048x2048, .f32⟩
  | 110 => ⟨S2x16x2048x2048, .f32⟩
  | 111 => ⟨S2x16x2048x2048, .f32⟩
  | 112 => ⟨S2x16x2048x2048, .f32⟩
  | 113 => ⟨S2x16x2048x2048, .f32⟩
  | 114 => ⟨S_, .f32⟩
  | 115 => ⟨S2x16x2048x2048, .f32⟩
  | 116 => ⟨S2x16x2048x2048, .f32⟩
  | 117 => ⟨S2x16x2048x2048, .f32⟩
  | 118 => ⟨S_, .f32⟩
  | 119 => ⟨S_, .f32⟩
  | 120 => ⟨S2x16x2048x2048, .i1⟩
  | 121 => ⟨S2x16x2048x2048, .f32⟩
  | 122 => ⟨S2x16x2048x2048, .f32⟩
  | 123 => ⟨S_, .f32⟩
  | 124 => ⟨S2x16x2048x2048, .f32⟩
  | 125 => ⟨S_, .f32⟩
  | 126 => ⟨S_, .f32⟩
  | 127 => ⟨S2x16x2048x2048, .f32⟩
  | _ => ⟨S4096x4608, .bf16⟩

abbrev hbmTy0_1 (i : Nat) : BufTy := match i % 128 with
  | 0 => ⟨S2x16x2048x2048, .f32⟩
  | 1 => ⟨S2x16x2048x2048, .f32⟩
  | 2 => ⟨S2x16x2048x2048, .f32⟩
  | 3 => ⟨S_, .f32⟩
  | 4 => ⟨S_, .f32⟩
  | 5 => ⟨S2x16x2048x2048, .i1⟩
  | 6 => ⟨S2x16x2048x2048, .f32⟩
  | 7 => ⟨S2x16x2048x2048, .f32⟩
  | 8 => ⟨S_, .f32⟩
  | 9 => ⟨S2x16x2048x2048, .f32⟩
  | 10 => ⟨S2x16x64x2048, .f32⟩
  | 11 => ⟨S2x2048x16x64, .f32⟩
  | 12 => ⟨S2x2048x16x64, .f32⟩
  | 13 => ⟨S2x16x64x2048, .f32⟩
  | 14 => ⟨S2x16x2048x2048, .f32⟩
  | 15 => ⟨S2x16x64x2048, .f32⟩
  | 16 => ⟨S2x2048x16x64, .f32⟩
  | 17 => ⟨S_, .f32⟩
  | 18 => ⟨S2x16x2048x2048, .f32⟩
  | 19 => ⟨S2x16x2048x2048, .f32⟩
  | 20 => ⟨S2x16x2048x2048, .f32⟩
  | 21 => ⟨S2x16x2048x2048, .f32⟩
  | 22 => ⟨S_, .f32⟩
  | 23 => ⟨S_, .f32⟩
  | 24 => ⟨S2x16x2048x2048, .f32⟩
  | 25 => ⟨S2x16x2048x2048, .f32⟩
  | 26 => ⟨S_, .f32⟩
  | 27 => ⟨S2x16x2048x2048, .f32⟩
  | 28 => ⟨S2x16x2048x2048, .f32⟩
  | 29 => ⟨S2x16x2048x2048, .f32⟩
  | 30 => ⟨S2x16x2048x2048, .f32⟩
  | 31 => ⟨S2x16x2048x2048, .f32⟩
  | 32 => ⟨S2x16x2048x2048, .f32⟩
  | 33 => ⟨S2x16x2048x2048, .f32⟩
  | 34 => ⟨S2x16x2048x2048, .f32⟩
  | 35 => ⟨S2x16x2048x2048, .f32⟩
  | 36 => ⟨S2x16x2048x2048, .f32⟩
  | 37 => ⟨S_, .f32⟩
  | 38 => ⟨S2x16x2048x2048, .f32⟩
  | 39 => ⟨S2x16x2048x2048, .f32⟩
  | 40 => ⟨S2x16x2048x64, .f32⟩
  | 41 => ⟨S2x2048x16x64, .f32⟩
  | 42 => ⟨S2x16x2048x64, .f32⟩
  | 43 => ⟨S2x2048x16x64, .f32⟩
  | 44 => ⟨S4096x1024, .f32⟩
  | 45 => ⟨S4096x1024, .bf16⟩
  | 46 => ⟨S4096x1024, .f32⟩
  | 47 => ⟨S4096x1024, .bf16⟩
  | 48 => ⟨S4096x1024, .f32⟩
  | 49 => ⟨S4096x1024, .bf16⟩
  | 50 => ⟨S4096x1536, .bf16⟩
  | 51 => ⟨S4096x4608, .bf16⟩
  | _ => ⟨S4096x4608, .bf16⟩

abbrev hbmTy (i : Nat) : BufTy := match i / 128 with
  | 0 => hbmTy0_0 i
  | 1 => hbmTy0_1 i
  | _ => ⟨S4096x4608, .bf16⟩

abbrev bufTy : (tb : Table) → Fin (tcTables nBuf tb) → BufTy
  | .hbm, ⟨i, _⟩ => hbmTy i
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v17_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v17_2 : Ref sig .tc := ⟨.hbm, 67, rfl⟩
abbrev main_v17_0 : Ref sig .tc := ⟨.hbm, 68, rfl⟩
abbrev main_v18 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v19_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v19_2 : Ref sig .tc := ⟨.hbm, 116, rfl⟩
abbrev main_v19_0 : Ref sig .tc := ⟨.hbm, 117, rfl⟩
abbrev main_cst_0 : Ref sig .tc := ⟨.hbm, 118, rfl⟩
abbrev main_call2_v0 : Ref sig .tc := ⟨.hbm, 119, rfl⟩
abbrev main_v20_1 : Ref sig .tc := ⟨.hbm, 120, rfl⟩
abbrev main_call2_v2 : Ref sig .tc := ⟨.hbm, 121, rfl⟩
abbrev main_v20_0 : Ref sig .tc := ⟨.hbm, 122, rfl⟩
abbrev main_call2_cst : Ref sig .tc := ⟨.hbm, 123, rfl⟩
abbrev main_v20_2 : Ref sig .tc := ⟨.hbm, 124, rfl⟩
abbrev main_call3_cst : Ref sig .tc := ⟨.hbm, 125, rfl⟩
abbrev main_call3_v0 : Ref sig .tc := ⟨.hbm, 126, rfl⟩
abbrev main_v21 : Ref sig .tc := ⟨.hbm, 127, rfl⟩
abbrev main_v22 : Ref sig .tc := ⟨.hbm, 128, rfl⟩
abbrev main_v23 : Ref sig .tc := ⟨.hbm, 129, rfl⟩
abbrev main_v24 : Ref sig .tc := ⟨.hbm, 130, rfl⟩
abbrev main_cst_1 : Ref sig .tc := ⟨.hbm, 131, rfl⟩
abbrev main_call4_v0 : Ref sig .tc := ⟨.hbm, 132, rfl⟩
abbrev main_v25_1 : Ref sig .tc := ⟨.hbm, 133, rfl⟩
abbrev main_call4_v2 : Ref sig .tc := ⟨.hbm, 134, rfl⟩
abbrev main_v25_0 : Ref sig .tc := ⟨.hbm, 135, rfl⟩
abbrev main_call4_cst : Ref sig .tc := ⟨.hbm, 136, rfl⟩
abbrev main_v25_2 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_call5_cst : Ref sig .tc := ⟨.hbm, 145, rfl⟩
abbrev main_call5_v0 : Ref sig .tc := ⟨.hbm, 146, rfl⟩
abbrev main_v33 : Ref sig .tc := ⟨.hbm, 147, rfl⟩
abbrev main_v34 : Ref sig .tc := ⟨.hbm, 148, rfl⟩
abbrev main_v35 : Ref sig .tc := ⟨.hbm, 149, rfl⟩
abbrev main_call6_cst : Ref sig .tc := ⟨.hbm, 150, rfl⟩
abbrev main_call6_v0 : Ref sig .tc := ⟨.hbm, 151, rfl⟩
abbrev main_v36 : Ref sig .tc := ⟨.hbm, 152, rfl⟩
abbrev main_v37 : Ref sig .tc := ⟨.hbm, 153, rfl⟩
abbrev main_call7_cst : Ref sig .tc := ⟨.hbm, 154, rfl⟩
abbrev main_call7_v0 : Ref sig .tc := ⟨.hbm, 155, rfl⟩
abbrev main_v38 : Ref sig .tc := ⟨.hbm, 156, rfl⟩
abbrev main_call8_v0 : Ref sig .tc := ⟨.hbm, 157, rfl⟩
abbrev main_call8_v1 : Ref sig .tc := ⟨.hbm, 158, rfl⟩
abbrev main_v39 : Ref sig .tc := ⟨.hbm, 159, rfl⟩
abbrev main_v40 : Ref sig .tc := ⟨.hbm, 160, rfl⟩
abbrev main_call9_v0 : Ref sig .tc := ⟨.hbm, 161, rfl⟩
abbrev main_call9_v1 : Ref sig .tc := ⟨.hbm, 162, rfl⟩
abbrev main_v41 : Ref sig .tc := ⟨.hbm, 163, rfl⟩
abbrev main_v42 : Ref sig .tc := ⟨.hbm, 164, rfl⟩
abbrev main_cst_2 : Ref sig .tc := ⟨.hbm, 165, rfl⟩
abbrev main_v43 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩

abbrev nD : Nat := 1
abbrev τ : Topo := Topo.v7x

variable {F : FTy → Type} [FloatOps F]
-- ==== Kernel2.lean ====
abbrev S4096x2048 : Shape := ⟨2, ![4096, 2048]⟩
abbrev S4x1408x2048 : Shape := ⟨3, ![4, 1408, 2048]⟩
abbrev S4x4096x1408 : Shape := ⟨3, ![4, 4096, 1408]⟩
abbrev S512x2048 : Shape := ⟨2, ![512, 2048]⟩
abbrev S1x1408x2048 : Shape := ⟨3, ![1, 1408, 2048]⟩
abbrev S1x512x1408 : Shape := ⟨3, ![1, 512, 1408]⟩
abbrev S1x768x2048 : Shape := ⟨3, ![1, 768, 2048]⟩
abbrev S768x2048 : Shape := ⟨2, ![768, 2048]⟩
abbrev S512x768 : Shape := ⟨2, ![512, 768]⟩
abbrev S1x512x768 : Shape := ⟨3, ![1, 512, 768]⟩
abbrev S1x640x2048 : Shape := ⟨3, ![1, 640, 2048]⟩
abbrev S640x2048 : Shape := ⟨2, ![640, 2048]⟩
abbrev S512x640 : Shape := ⟨2, ![512, 640]⟩
abbrev S1x512x640 : Shape := ⟨3, ![1, 512, 640]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4x1408x2048, .bf16⟩
  | .hbm, ⟨2, _⟩ => ⟨S4x4096x1408, .bf16⟩
  | .hbm, ⟨3, _⟩ => ⟨S4x4096x1408, .bf16⟩
  | .hbm, ⟨4, _⟩ => ⟨S4x4096x1408, .bf16⟩
  | .hbm, ⟨5, _⟩ => ⟨S4x4096x1408, .bf16⟩
  | .local _ .vmem, ⟨0, _⟩ => ⟨S512x2048, .f32⟩
  | .local _ .vmem, ⟨1, _⟩ => ⟨S512x2048, .f32⟩
  | .local _ .vmem, ⟨2, _⟩ => ⟨S1x1408x2048, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x512x1408, .bf16⟩
  | .local _ .vmem, ⟨9, _⟩ => ⟨S1x512x1408, .bf16⟩
  | .local _ .vmem, ⟨10, _⟩ => ⟨S1x512x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1408x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x2048 : Shape := ⟨2, ![4096, 2048]⟩
abbrev S4x1408x2048 : Shape := ⟨3, ![4, 1408, 2048]⟩
abbrev S4x4096x1408 : Shape := ⟨3, ![4, 4096, 1408]⟩
abbrev S_ : Shape := ⟨0, ![]⟩
abbrev S4096x4x1408 : Shape := ⟨3, ![4096, 4, 1408]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x1408x2048, .bf16⟩
  | .hbm, ⟨2, _⟩ => ⟨S4x4096x1408, .bf16⟩
  | .hbm, ⟨3, _⟩ => ⟨S4x4096x1408, .bf16⟩
  | .hbm, ⟨4, _⟩ => ⟨S4x1408x2048, .f32⟩
  | .hbm, ⟨5, _⟩ => ⟨S4x4096x1408, .f32⟩
  | .hbm, ⟨6, _⟩ => ⟨S4x4096x1408, .f32⟩
  | .hbm, ⟨7, _⟩ => ⟨S4x4096x1408, .f32⟩
  | .hbm, ⟨8, _⟩ => ⟨S4x4096x1408, .f32⟩
  | .hbm, ⟨9, _⟩ => ⟨S_, .f32⟩
  | .hbm, ⟨10, _⟩ => ⟨S4x4096x1408, .f32⟩
  | .hbm, ⟨11, _⟩ => ⟨S4x4096x1408, .f32⟩
  | .hbm, ⟨12, _⟩ => ⟨S_, .f32⟩
  | .hbm, ⟨13, _⟩ => ⟨S4x4096x1408, .f32⟩
  | .hbm, ⟨14, _⟩ => ⟨S4x4096x1408, .f32⟩
  | .hbm, ⟨15, _⟩ => ⟨S_, .f32⟩
  | .hbm, ⟨16, _⟩ => ⟨S4x4096x1408, .f32⟩
  | .hbm, ⟨17, _⟩ => ⟨S4x4096x1408, .f32⟩
  | .hbm, ⟨18, _⟩ => ⟨S4x4096x1408, .f32⟩
  | .hbm, ⟨19, _⟩ => ⟨S4x4096x1408, .f32⟩
  | .hbm, ⟨20, _⟩ => ⟨S4x4096x1408, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x4x1408, .f32⟩
  | .hbm, ⟨29, _⟩ => ⟨S4x4096x1408, .f32⟩
  | .hbm, ⟨30, _⟩ => ⟨S4x4096x1408, .f32⟩
  | .hbm, ⟨31, _⟩ => ⟨S4x4096x1408, .f32⟩
  | .hbm, ⟨32, _⟩ => ⟨S4x4096x1408, .f32⟩
  | .hbm, ⟨33, _⟩ => ⟨S4x4096x1408, .f32⟩
  | .hbm, ⟨34, _⟩ => ⟨S4x4096x1408, .f32⟩
  | .hbm, ⟨35, _⟩ => ⟨S4x4096x1408, .f32⟩
  | .hbm, ⟨36, _⟩ => ⟨S4x4096x1408, .bf16⟩
  | .hbm, ⟨37, _⟩ => ⟨S4x4096x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel3.lean ====
abbrev S4096x2048 : Shape := ⟨2, ![4096, 2048]⟩
abbrev S4x4096x1408 : Shape := ⟨3, ![4, 4096, 1408]⟩
abbrev S2x4x1024x1408 : Shape := ⟨4, ![2, 4, 1024, 1408]⟩
abbrev S2048x1024 : Shape := ⟨2, ![2048, 1024]⟩
abbrev S1x2048x1408 : Shape := ⟨3, ![1, 2048, 1408]⟩
abbrev S1x1x1024x1408 : Shape := ⟨4, ![1, 1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x4096x1408, .bf16⟩
  | .hbm, ⟨2, _⟩ => ⟨S2x4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4x4096x1408 : Shape := ⟨3, ![4, 4096, 1408]⟩
abbrev S_ : Shape := ⟨0, ![]⟩
abbrev S4x2048x1408 : Shape := ⟨3, ![4, 2048, 1408]⟩
abbrev S4x1408x4096 : Shape := ⟨3, ![4, 1408, 4096]⟩
abbrev S4x1408x2048 : Shape := ⟨3, ![4, 1408, 2048]⟩
abbrev S4x2x1024x1408 : Shape := ⟨4, ![4, 2, 1024, 1408]⟩
abbrev S2x4x1024x1408 : Shape := ⟨4, ![2, 4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x4096x1408, .bf16⟩
  | .hbm, ⟨2, _⟩ => ⟨S4096x2048, .f32⟩
  | .hbm, ⟨3, _⟩ => ⟨S4x4096x1408, .f32⟩
  | .hbm, ⟨4, _⟩ => ⟨S_, .f32⟩
  | .hbm, ⟨5, _⟩ => ⟨S4x2048x1408, .f32⟩
  | .hbm, ⟨6, _⟩ => ⟨S4x1408x4096, .f32⟩
  | .hbm, ⟨7, _⟩ => ⟨S4x4096x1408, .f32⟩
  | .hbm, ⟨8, _⟩ => ⟨S4x1408x4096, .f32⟩
  | .hbm, ⟨9, _⟩ => ⟨S4x1408x2048, .f32⟩
  | .hbm, ⟨10, _⟩ => ⟨S4x2048x1408, .f32⟩
  | .hbm, ⟨11, _⟩ => ⟨S4x2x1024x1408, .f32⟩
  | .hbm, ⟨12, _⟩ => ⟨S2x4x1024x1408, .f32⟩
  | .hbm, ⟨13, _⟩ => ⟨S2x4x1024x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S4x4096x1408 : Shape := ⟨3, ![4, 4096, 1408]⟩
abbrev S4096x2048 : Shape := ⟨2, ![4096, 2048]⟩
abbrev S2x4x1408x1024 : Shape := ⟨4, ![2, 4, 1408, 1024]⟩
abbrev S1x2048x1408 : Shape := ⟨3, ![1, 2048, 1408]⟩
abbrev S2048x1024 : Shape := ⟨2, ![2048, 1024]⟩
abbrev S1x1x1408x1024 : Shape := ⟨4, ![1, 1, 1408, 1024]⟩
abbrev S1408x1024 : Shape := ⟨2, ![1408, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x1408, .bf16⟩
  | .hbm, ⟨1, _⟩ => ⟨S4096x2048, .f32⟩
  | .hbm, ⟨2, _⟩ => ⟨S2x4x1408x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S4x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4x4096x1408 : Shape := ⟨3, ![4, 4096, 1408]⟩
abbrev S4096x2048 : Shape := ⟨2, ![4096, 2048]⟩
abbrev S_ : Shape := ⟨0, ![]⟩
abbrev S4x1408x2048 : Shape := ⟨3, ![4, 1408, 2048]⟩
abbrev S2048x4x1408 : Shape := ⟨3, ![2048, 4, 1408]⟩
abbrev S4x1408x2x1024 : Shape := ⟨4, ![4, 1408, 2, 1024]⟩
abbrev S2x4x1408x1024 : Shape := ⟨4, ![2, 4, 1408, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x1408, .bf16⟩
  | .hbm, ⟨1, _⟩ => ⟨S4096x2048, .f32⟩
  | .hbm, ⟨2, _⟩ => ⟨S4x4096x1408, .f32⟩
  | .hbm, ⟨3, _⟩ => ⟨S_, .f32⟩
  | .hbm, ⟨4, _⟩ => ⟨S4x1408x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S2048x4x1408, .f32⟩
  | .hbm, ⟨13, _⟩ => ⟨S4x1408x2048, .f32⟩
  | .hbm, ⟨14, _⟩ => ⟨S4x1408x2x1024, .f32⟩
  | .hbm, ⟨15, _⟩ => ⟨S2x4x1408x1024, .f32⟩
  | .hbm, ⟨16, _⟩ => ⟨S2x4x1408x1024, .bf16⟩
  | _, _ => ⟨S4x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel5.lean ====
abbrev S4x4096x1408 : Shape := ⟨3, ![4, 4096, 1408]⟩
abbrev S4x2048x1408 : Shape := ⟨3, ![4, 2048, 1408]⟩
abbrev S4096x2048 : Shape := ⟨2, ![4096, 2048]⟩
abbrev S1x512x1408 : Shape := ⟨3, ![1, 512, 1408]⟩
abbrev S1x2048x1408 : Shape := ⟨3, ![1, 2048, 1408]⟩
abbrev S512x2048 : Shape := ⟨2, ![512, 2048]⟩
abbrev S512x1408 : Shape := ⟨2, ![512, 1408]⟩
abbrev S2048x1408 : Shape := ⟨2, ![2048, 1408]⟩

abbrev nBuf : Space → Nat
  | .hbm => 5
  | .vmem => 11
  | .smem => 0
  | _ => 0

abbrev bufTy : (tb : Table) → Fin (tcTables nBuf tb) → BufTy
  | .hbm, ⟨0, _⟩ => ⟨S4x4096x1408, .bf16⟩
  | .hbm, ⟨1, _⟩ => ⟨S4x4096x1408, .bf16⟩
  | .hbm, ⟨2, _⟩ => ⟨S4x2048x1408, .bf16⟩
  | .hbm, ⟨3, _⟩ => ⟨S4x2048x1408, .bf16⟩
  | .hbm, ⟨4, _⟩ => ⟨S4096x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S4x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_21 : BitVec 32 := 0#32
  let v25 : BitVec 1 := Scalar.cmpi .ne v24 c0_i32_21
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S4x4096x1408 : Shape := ⟨3, ![4, 4096, 1408]⟩
abbrev S4x2048x1408 : Shape := ⟨3, ![4, 2048, 1408]⟩
abbrev S_ : Shape := ⟨0, ![]⟩
abbrev S4096x2048 : Shape := ⟨2, ![4096, 2048]⟩
abbrev S4x1408x4096 : Shape := ⟨3, ![4, 1408, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1408, .bf16⟩
  | .hbm, ⟨1, _⟩ => ⟨S4x4096x1408, .bf16⟩
  | .hbm, ⟨2, _⟩ => ⟨S4x2048x1408, .bf16⟩
  | .hbm, ⟨3, _⟩ => ⟨S4x2048x1408, .bf16⟩
  | .hbm, ⟨4, _⟩ => ⟨S4x4096x1408, .f32⟩
  | .hbm, ⟨5, _⟩ => ⟨S4x4096x1408, .f32⟩
  | .hbm, ⟨6, _⟩ => ⟨S4x2048x1408, .f32⟩
  | .hbm, ⟨7, _⟩ => ⟨S4x2048x1408, .f32⟩
  | .hbm, ⟨8, _⟩ => ⟨S_, .f32⟩
  | .hbm, ⟨9, _⟩ => ⟨S4096x2048, .f32⟩
  | .hbm, ⟨10, _⟩ => ⟨S4x1408x4096, .f32⟩
  | .hbm, ⟨11, _⟩ => ⟨S4x4096x1408, .f32⟩
  | .hbm, ⟨12, _⟩ => ⟨S4x1408x4096, .f32⟩
  | .hbm, ⟨13, _⟩ => ⟨S4x4096x1408, .f32⟩
  | .hbm, ⟨14, _⟩ => ⟨S4x1408x4096, .f32⟩
  | .hbm, ⟨15, _⟩ => ⟨S4096x2048, .f32⟩
  | .hbm, ⟨16, _⟩ => ⟨S4x1408x4096, .f32⟩
  | .hbm, ⟨17, _⟩ => ⟨S4096x2048, .f32⟩
  | .hbm, ⟨18, _⟩ => ⟨S4096x2048, .f32⟩
  | _, _ => ⟨S4x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S4096x2048 : Shape := ⟨2, ![4096, 2048]⟩
abbrev S4x2048x1408 : Shape := ⟨3, ![4, 2048, 1408]⟩
abbrev S4x4096x1408 : Shape := ⟨3, ![4, 4096, 1408]⟩
abbrev S512x2048 : Shape := ⟨2, ![512, 2048]⟩
abbrev S1x2048x1408 : Shape := ⟨3, ![1, 2048, 1408]⟩
abbrev S1x512x1408 : Shape := ⟨3, ![1, 512, 1408]⟩
abbrev S1x2048x768 : Shape := ⟨3, ![1, 2048, 768]⟩
abbrev S2048x768 : Shape := ⟨2, ![2048, 768]⟩
abbrev S512x768 : Shape := ⟨2, ![512, 768]⟩
abbrev S1x512x768 : Shape := ⟨3, ![1, 512, 768]⟩
abbrev S1x2048x640 : Shape := ⟨3, ![1, 2048, 640]⟩
abbrev S2048x640 : Shape := ⟨2, ![2048, 640]⟩
abbrev S512x640 : Shape := ⟨2, ![512, 640]⟩
abbrev S1x512x640 : Shape := ⟨3, ![1, 512, 640]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S4x4096x1408, .bf16⟩
  | .hbm, ⟨4, _⟩ => ⟨S4x4096x1408, .bf16⟩
  | .hbm, ⟨5, _⟩ => ⟨S4x4096x1408, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x512x1408, .bf16⟩
  | .local _ .vmem, ⟨9, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x2048 : Shape := ⟨2, ![4096, 2048]⟩
abbrev S4x2048x1408 : Shape := ⟨3, ![4, 2048, 1408]⟩
abbrev S4x1408x4096 : Shape := ⟨3, ![4, 1408, 4096]⟩
abbrev S4x4096x1408 : Shape := ⟨3, ![4, 4096, 1408]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S4096x2048, .f32⟩
  | .hbm, ⟨4, _⟩ => ⟨S4x2048x1408, .f32⟩
  | .hbm, ⟨5, _⟩ => ⟨S4x2048x1408, .f32⟩
  | .hbm, ⟨6, _⟩ => ⟨S4x1408x4096, .f32⟩
  | .hbm, ⟨7, _⟩ => ⟨S4x4096x1408, .f32⟩
  | .hbm, ⟨8, _⟩ => ⟨S4x1408x4096, .f32⟩
  | .hbm, ⟨9, _⟩ => ⟨S4x4096x1408, .f32⟩
  | .hbm, ⟨10, _⟩ => ⟨S4x4096x1408, .bf16⟩
  | .hbm, ⟨11, _⟩ => ⟨S4x4096x1408, .bf16⟩
  | .hbm, ⟨12, _⟩ => ⟨S4x4096x1408, .f32⟩
  | .hbm, ⟨13, _⟩ => ⟨S4x4096x1408, .f32⟩
  | .hbm, ⟨14, _⟩ => ⟨S_, .f32⟩
  | .hbm, ⟨15, _⟩ => ⟨S4x4096x1408, .f32⟩
  | .hbm, ⟨16, _⟩ => ⟨S4x4096x1408, .f32⟩
  | .hbm, ⟨17, _⟩ => ⟨S_, .f32⟩
  | .hbm, ⟨18, _⟩ => ⟨S4x4096x1408, .f32⟩
  | .hbm, ⟨19, _⟩ => ⟨S4x4096x1408, .f32⟩
  | .hbm, ⟨20, _⟩ => ⟨S4x4096x1408, .f32⟩
  | .hbm, ⟨21, _⟩ => ⟨S4x4096x1408, .f32⟩
  | .hbm, ⟨22, _⟩ => ⟨S4x4096x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel7.lean ====
abbrev S4096x2048 : Shape := ⟨2, ![4096, 2048]⟩
abbrev S4x2048x1408 : Shape := ⟨3, ![4, 2048, 1408]⟩
abbrev S4x4096x1408 : Shape := ⟨3, ![4, 4096, 1408]⟩
abbrev S512x2048 : Shape := ⟨2, ![512, 2048]⟩
abbrev S1x2048x1408 : Shape := ⟨3, ![1, 2048, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x4096x1408, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x512x1408, .bf16⟩
  | .local _ .vmem, ⟨4, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x2048 : Shape := ⟨2, ![4096, 2048]⟩
abbrev S4x2048x1408 : Shape := ⟨3, ![4, 2048, 1408]⟩
abbrev S4x1408x4096 : Shape := ⟨3, ![4, 1408, 4096]⟩
abbrev S4x4096x1408 : Shape := ⟨3, ![4, 4096, 1408]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x2048, .f32⟩
  | .hbm, ⟨3, _⟩ => ⟨S4x2048x1408, .f32⟩
  | .hbm, ⟨4, _⟩ => ⟨S4x1408x4096, .f32⟩
  | .hbm, ⟨5, _⟩ => ⟨S4x4096x1408, .f32⟩
  | .hbm, ⟨6, _⟩ => ⟨S4x4096x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S4x2048x1408 : Shape := ⟨3, ![4, 2048, 1408]⟩
abbrev S4x4096x1408 : Shape := ⟨3, ![4, 4096, 1408]⟩
abbrev S512x2048 : Shape := ⟨2, ![512, 2048]⟩
abbrev S1x2048x1408 : Shape := ⟨3, ![1, 2048, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x4096x1408, .bf16⟩
  | .hbm, ⟨3, _⟩ => ⟨S4x4096x1408, .bf16⟩
  | .hbm, ⟨4, _⟩ => ⟨S4x4096x1408, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S4096x2048 : Shape := ⟨2, ![4096, 2048]⟩
abbrev S4x2048x1408 : Shape := ⟨3, ![4, 2048, 1408]⟩
abbrev S4x4096x1408 : Shape := ⟨3, ![4, 4096, 1408]⟩
abbrev S4x1408x4096 : Shape := ⟨3, ![4, 1408, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x4096x1408, .bf16⟩
  | .hbm, ⟨3, _⟩ => ⟨S4096x2048, .f32⟩
  | .hbm, ⟨4, _⟩ => ⟨S4x2048x1408, .f32⟩
  | .hbm, ⟨5, _⟩ => ⟨S4x4096x1408, .f32⟩
  | .hbm, ⟨6, _⟩ => ⟨S4x1408x4096, .f32⟩
  | .hbm, ⟨7, _⟩ => ⟨S4x4096x1408, .f32⟩
  | .hbm, ⟨8, _⟩ => ⟨S4x4096x1408, .bf16⟩
  | .hbm, ⟨9, _⟩ => ⟨S4x4096x1408, .f32⟩
  | .hbm, ⟨10, _⟩ => ⟨S4x4096x1408, .f32⟩
  | .hbm, ⟨11, _⟩ => ⟨S_, .f32⟩
  | .hbm, ⟨12, _⟩ => ⟨S4x4096x1408, .f32⟩
  | .hbm, ⟨13, _⟩ => ⟨S4x4096x1408, .f32⟩
  | .hbm, ⟨14, _⟩ => ⟨S_, .f32⟩
  | .hbm, ⟨15, _⟩ => ⟨S4x4096x1408, .f32⟩
  | .hbm, ⟨16, _⟩ => ⟨S4x4096x1408, .f32⟩
  | .hbm, ⟨17, _⟩ => ⟨S4x4096x1408, .f32⟩
  | .hbm, ⟨18, _⟩ => ⟨S4x4096x1408, .f32⟩
  | .hbm, ⟨19, _⟩ => ⟨S4x4096x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel9.lean ====
abbrev S4x4096x1408 : Shape := ⟨3, ![4, 4096, 1408]⟩
abbrev S4x1408x2048 : Shape := ⟨3, ![4, 1408, 2048]⟩
abbrev S4096x2048 : Shape := ⟨2, ![4096, 2048]⟩
abbrev S1x512x1408 : Shape := ⟨3, ![1, 512, 1408]⟩
abbrev S1x1408x2048 : Shape := ⟨3, ![1, 1408, 2048]⟩
abbrev S512x2048 : Shape := ⟨2, ![512, 2048]⟩
abbrev S512x1408 : Shape := ⟨2, ![512, 1408]⟩
abbrev S1408x2048 : Shape := ⟨2, ![1408, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x1408, .bf16⟩
  | .hbm, ⟨1, _⟩ => ⟨S4x1408x2048, .bf16⟩
  | .hbm, ⟨2, _⟩ => ⟨S4096x2048, .f32⟩
  | .hbm, ⟨3, _⟩ => ⟨S4096x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference9Ideal.lean ====
abbrev S4x4096x1408 : Shape := ⟨3, ![4, 4096, 1408]⟩
abbrev S4x1408x2048 : Shape := ⟨3, ![4, 1408, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x1408, .bf16⟩
  | .hbm, ⟨1, _⟩ => ⟨S4x1408x2048, .bf16⟩
  | .hbm, ⟨2, _⟩ => ⟨S4096x2048, .f32⟩
  | .hbm, ⟨3, _⟩ => ⟨S4x4096x1408, .f32⟩
  | .hbm, ⟨4, _⟩ => ⟨S4x1408x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel10.lean ====
abbrev S4096x2048 : Shape := ⟨2, ![4096, 2048]⟩
abbrev S4096x4608 : Shape := ⟨2, ![4096, 4608]⟩
abbrev S2x4x1024x1152 : Shape := ⟨4, ![2, 4, 1024, 1152]⟩
abbrev S2048x1024 : Shape := ⟨2, ![2048, 1024]⟩
abbrev S2048x1152 : Shape := ⟨2, ![2048, 1152]⟩
abbrev S1x1x1024x1152 : Shape := ⟨4, ![1, 1, 1024, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4608, .bf16⟩
  | .hbm, ⟨2, _⟩ => ⟨S2x4x1024x1152, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1x1x1024x1152, .bf16⟩
  | .local _ .vmem, ⟨5, _⟩ => ⟨S1x1x1024x1152, .bf16⟩
  | .local _ .vmem, ⟨6, _⟩ => ⟨S1024x1152, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x4608 : Shape := ⟨2, ![4096, 4608]⟩
abbrev S_ : Shape := ⟨0, ![]⟩
abbrev S4x2048x1152 : Shape := ⟨3, ![4, 2048, 1152]⟩
abbrev S4096x4x1152 : Shape := ⟨3, ![4096, 4, 1152]⟩
abbrev S4x1152x2048 : Shape := ⟨3, ![4, 1152, 2048]⟩
abbrev S4x2x1024x1152 : Shape := ⟨4, ![4, 2, 1024, 1152]⟩
abbrev S2x4x1024x1152 : Shape := ⟨4, ![2, 4, 1024, 1152]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4608, .bf16⟩
  | .hbm, ⟨2, _⟩ => ⟨S4096x2048, .f32⟩
  | .hbm, ⟨3, _⟩ => ⟨S4096x4608, .f32⟩
  | .hbm, ⟨4, _⟩ => ⟨S_, .f32⟩
  | .hbm, ⟨5, _⟩ => ⟨S4x2048x1152, .f32⟩
  | .hbm, ⟨6, _⟩ => ⟨S4096x4x1152, .f32⟩
  | .hbm, ⟨7, _⟩ => ⟨S4096x4608, .f32⟩
  | .hbm, ⟨8, _⟩ => ⟨S4096x4x1152, .f32⟩
  | .hbm, ⟨9, _⟩ => ⟨S4x1152x2048, .f32⟩
  | .hbm, ⟨10, _⟩ => ⟨S4x2048x1152, .f32⟩
  | .hbm, ⟨11, _⟩ => ⟨S4x2x1024x1152, .f32⟩
  | .hbm, ⟨12, _⟩ => ⟨S2x4x1024x1152, .f32⟩
  | .hbm, ⟨13, _⟩ => ⟨S2x4x1024x1152, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel11.lean ====
abbrev S4096x4608 : Shape := ⟨2, ![4096, 4608]⟩
abbrev S4x2048x1152 : Shape := ⟨3, ![4, 2048, 1152]⟩
abbrev S4096x2048 : Shape := ⟨2, ![4096, 2048]⟩
abbrev S512x1152 : Shape := ⟨2, ![512, 1152]⟩
abbrev S1x2048x1152 : Shape := ⟨3, ![1, 2048, 1152]⟩
abbrev S512x2048 : Shape := ⟨2, ![512, 2048]⟩
abbrev S2048x1152 : Shape := ⟨2, ![2048, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x4608, .bf16⟩
  | .hbm, ⟨1, _⟩ => ⟨S4x2048x1152, .bf16⟩
  | .hbm, ⟨2, _⟩ => ⟨S4096x2048, .f32⟩
  | .local _ .vmem, ⟨0, _⟩ => ⟨S512x1152, .bf16⟩
  | .local _ .vmem, ⟨1, _⟩ => ⟨S512x1152, .bf16⟩
  | .local _ .vmem, ⟨2, _⟩ => ⟨S1x2048x1152, .bf16⟩
  | .local _ .vmem, ⟨3, _⟩ => ⟨S1x2048x1152, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S4096x4608 : Shape := ⟨2, ![4096, 4608]⟩
abbrev S4x2048x1152 : Shape := ⟨3, ![4, 2048, 1152]⟩
abbrev S_ : Shape := ⟨0, ![]⟩
abbrev S4096x2048 : Shape := ⟨2, ![4096, 2048]⟩
abbrev S4096x4x1152 : Shape := ⟨3, ![4096, 4, 1152]⟩

abbrev nBuf : Space → Nat
  | .hbm => 10
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4x2048x1152, .bf16⟩
  | .hbm, ⟨2, _⟩ => ⟨S4096x4608, .f32⟩
  | .hbm, ⟨3, _⟩ => ⟨S4x2048x1152, .f32⟩
  | .hbm, ⟨4, _⟩ => ⟨S_, .f32⟩
  | .hbm, ⟨5, _⟩ => ⟨S4096x2048, .f32⟩
  | .hbm, ⟨6, _⟩ => ⟨S4096x4x1152, .f32⟩
  | .hbm, ⟨7, _⟩ => ⟨S4096x4608, .f32⟩
  | .hbm, ⟨8, _⟩ => ⟨S4096x4x1152, .f32⟩
  | .hbm, ⟨9, _⟩ => ⟨S4096x2048, .f32⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x2048 : Shape := ⟨2, ![4096, 2048]⟩
abbrev S4x2048x1152 : Shape := ⟨3, ![4, 2048, 1152]⟩
abbrev S4096x4608 : Shape := ⟨2, ![4096, 4608]⟩
abbrev S1024x2048 : Shape := ⟨2, ![1024, 2048]⟩
abbrev S1x2048x1152 : Shape := ⟨3, ![1, 2048, 1152]⟩
abbrev S1024x1152 : Shape := ⟨2, ![1024, 1152]⟩
abbrev S2048x1152 : Shape := ⟨2, ![2048, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1152, .bf16⟩
  | .hbm, ⟨2, _⟩ => ⟨S4096x4608, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1152, .bf16⟩
  | .local _ .vmem, ⟨3, _⟩ => ⟨S1x2048x1152, .bf16⟩
  | .local _ .vmem, ⟨4, _⟩ => ⟨S1024x1152, .bf16⟩
  | .local _ .vmem, ⟨5, _⟩ => ⟨S1024x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x2048 : Shape := ⟨2, ![4096, 2048]⟩
abbrev S4x2048x1152 : Shape := ⟨3, ![4, 2048, 1152]⟩
abbrev S4096x4x1152 : Shape := ⟨3, ![4096, 4, 1152]⟩
abbrev S4096x4608 : Shape := ⟨2, ![4096, 4608]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1152, .bf16⟩
  | .hbm, ⟨2, _⟩ => ⟨S4096x2048, .f32⟩
  | .hbm, ⟨3, _⟩ => ⟨S4x2048x1152, .f32⟩
  | .hbm, ⟨4, _⟩ => ⟨S4096x4x1152, .f32⟩
  | .hbm, ⟨5, _⟩ => ⟨S4096x4608, .f32⟩
  | .hbm, ⟨6, _⟩ => ⟨S4096x4608, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S2x4x256x2048 : Shape := ⟨4, ![2, 4, 256, 2048]⟩
abbrev S2048x256 : Shape := ⟨2, ![2048, 256]⟩
abbrev S2048x2048 : Shape := ⟨2, ![2048, 2048]⟩
abbrev S1x1x256x2048 : Shape := ⟨4, ![1, 1, 256, 2048]⟩
abbrev S256x2048 : Shape := ⟨2, ![256, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2x4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .f32⟩
  | .local _ .vmem, ⟨3, _⟩ => ⟨S2048x2048, .f32⟩
  | .local _ .vmem, ⟨4, _⟩ => ⟨S1x1x256x2048, .bf16⟩
  | .local _ .vmem, ⟨5, _⟩ => ⟨S1x1x256x2048, .bf16⟩
  | .local _ .vmem, ⟨6, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S_ : Shape := ⟨0, ![]⟩
abbrev S2048x2048 : Shape := ⟨2, ![2048, 2048]⟩
abbrev S4x2x256x2048 : Shape := ⟨4, ![4, 2, 256, 2048]⟩
abbrev S2x4x256x2048 : Shape := ⟨4, ![2, 4, 256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S4x2x256x2048, .f32⟩
  | .hbm, ⟨9, _⟩ => ⟨S2x4x256x2048, .f32⟩
  | .hbm, ⟨10, _⟩ => ⟨S2x4x256x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4x4096x1408 : Shape := ⟨3, ![4, 4096, 1408]⟩
abbrev S4x2048x1408 : Shape := ⟨3, ![4, 2048, 1408]⟩
abbrev S4096x2048 : Shape := ⟨2, ![4096, 2048]⟩
abbrev S1x512x1408 : Shape := ⟨3, ![1, 512, 1408]⟩
abbrev S1x2048x1408 : Shape := ⟨3, ![1, 2048, 1408]⟩
abbrev S512x2048 : Shape := ⟨2, ![512, 2048]⟩
abbrev S512x1408 : Shape := ⟨2, ![512, 1408]⟩
abbrev S2048x1408 : Shape := ⟨2, ![2048, 1408]⟩
abbrev S2048x2048 : Shape := ⟨2, ![2048, 2048]⟩

abbrev nBuf : Space → Nat
  | .hbm => 6
  | .vmem => 11
  | .smem => 0
  | _ => 0

abbrev bufTy : (tb : Table) → Fin (tcTables nBuf tb) → BufTy
  | .hbm, ⟨0, _⟩ => ⟨S4x4096x1408, .bf16⟩
  | .hbm, ⟨1, _⟩ => ⟨S4x4096x1408, .bf16⟩
  | .hbm, ⟨2, _⟩ => ⟨S4x2048x1408, .bf16⟩
  | .hbm, ⟨3, _⟩ => ⟨S4x2048x1408, .bf16⟩
  | .hbm, ⟨4, _⟩ => ⟨S4096x2048, .f32⟩
  | .hbm, ⟨5, _⟩ => ⟨S2048x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S4x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_21 : BitVec 32 := 0#32
  let v25 : BitVec 1 := Scalar.cmpi .ne v24 c0_i32_21
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference15Ideal.lean ====
abbrev S4x4096x1408 : Shape := ⟨3, ![4, 4096, 1408]⟩
abbrev S4x2048x1408 : Shape := ⟨3, ![4, 2048, 1408]⟩
abbrev S_ : Shape := ⟨0, ![]⟩
abbrev S4096x2048 : Shape := ⟨2, ![4096, 2048]⟩
abbrev S4x1408x4096 : Shape := ⟨3, ![4, 1408, 4096]⟩
abbrev S2048x2048 : Shape := ⟨2, ![2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x1408, .bf16⟩
  | .hbm, ⟨1, _⟩ => ⟨S4x4096x1408, .bf16⟩
  | .hbm, ⟨2, _⟩ => ⟨S4x2048x1408, .bf16⟩
  | .hbm, ⟨3, _⟩ => ⟨S4x2048x1408, .bf16⟩
  | .hbm, ⟨4, _⟩ => ⟨S4x4096x1408, .f32⟩
  | .hbm, ⟨5, _⟩ => ⟨S4x4096x1408, .f32⟩
  | .hbm, ⟨6, _⟩ => ⟨S4x2048x1408, .f32⟩
  | .hbm, ⟨7, _⟩ => ⟨S4x2048x1408, .f32⟩
  | .hbm, ⟨8, _⟩ => ⟨S_, .f32⟩
  | .hbm, ⟨9, _⟩ => ⟨S4096x2048, .f32⟩
  | .hbm, ⟨10, _⟩ => ⟨S4x1408x4096, .f32⟩
  | .hbm, ⟨11, _⟩ => ⟨S4x4096x1408, .f32⟩
  | .hbm, ⟨12, _⟩ => ⟨S4x1408x4096, .f32⟩
  | .hbm, ⟨13, _⟩ => ⟨S4x4096x1408, .f32⟩
  | .hbm, ⟨14, _⟩ => ⟨S4x1408x4096, .f32⟩
  | .hbm, ⟨15, _⟩ => ⟨S4096x2048, .f32⟩
  | .hbm, ⟨16, _⟩ => ⟨S4x1408x4096, .f32⟩
  | .hbm, ⟨17, _⟩ => ⟨S4096x2048, .f32⟩
  | .hbm, ⟨18, _⟩ => ⟨S4096x2048, .f32⟩
  | .hbm, ⟨19, _⟩ => ⟨S2048x2048, .f32⟩
  | _, _ => ⟨S4x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel16.lean ====
abbrev S4x4096x1408 : Shape := ⟨3, ![4, 4096, 1408]⟩
abbrev S4x2048x1408 : Shape := ⟨3, ![4, 2048, 1408]⟩
abbrev S4096x2048 : Shape := ⟨2, ![4096, 2048]⟩
abbrev S1x512x1408 : Shape := ⟨3, ![1, 512, 1408]⟩
abbrev S1x2048x1408 : Shape := ⟨3, ![1, 2048, 1408]⟩
abbrev S512x2048 : Shape := ⟨2, ![512, 2048]⟩
abbrev S512x1408 : Shape := ⟨2, ![512, 1408]⟩
abbrev S2048x1408 : Shape := ⟨2, ![2048, 1408]⟩

abbrev nBuf : Space → Nat
  | .hbm => 6
  | .vmem => 11
  | .smem => 0
  | _ => 0

abbrev bufTy : (tb : Table) → Fin (tcTables nBuf tb) → BufTy
  | .hbm, ⟨0, _⟩ => ⟨S4x4096x1408, .bf16⟩
  | .hbm, ⟨1, _⟩ => ⟨S4x4096x1408, .bf16⟩
  | .hbm, ⟨2, _⟩ => ⟨S4x2048x1408, .bf16⟩
  | .hbm, ⟨3, _⟩ => ⟨S4x2048x1408, .bf16⟩
  | .hbm, ⟨4, _⟩ => ⟨S4096x2048, .f32⟩
  | .hbm, ⟨5, _⟩ => ⟨S4096x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S4x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_21 : BitVec 32 := 0#32
  let v25 : BitVec 1 := Scalar.cmpi .ne v24 c0_i32_21
  v25

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![arg1.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![arg1.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference16Ideal.lean ====
abbrev S4x4096x1408 : Shape := ⟨3, ![4, 4096, 1408]⟩
abbrev S4x2048x1408 : Shape := ⟨3, ![4, 2048, 1408]⟩
abbrev S4096x2048 : Shape := ⟨2, ![4096, 2048]⟩
abbrev S2048x2048 : Shape := ⟨2, ![2048, 2048]⟩
abbrev S_ : Shape := ⟨0, ![]⟩
abbrev S4x1408x4096 : Shape := ⟨3, ![4, 1408, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1408, .bf16⟩
  | .hbm, ⟨1, _⟩ => ⟨S4x4096x1408, .bf16⟩
  | .hbm, ⟨2, _⟩ => ⟨S4x2048x1408, .bf16⟩
  | .hbm, ⟨3, _⟩ => ⟨S4x2048x1408, .bf16⟩
  | .hbm, ⟨4, _⟩ => ⟨S4096x2048, .f32⟩
  | .hbm, ⟨5, _⟩ => ⟨S2048x2048, .f32⟩
  | .hbm, ⟨6, _⟩ => ⟨S4x4096x1408, .f32⟩
  | .hbm, ⟨7, _⟩ => ⟨S4x4096x1408, .f32⟩
  | .hbm, ⟨8, _⟩ => ⟨S4x2048x1408, .f32⟩
  | .hbm, ⟨9, _⟩ => ⟨S4x2048x1408, .f32⟩
  | .hbm, ⟨10, _⟩ => ⟨S_, .f32⟩
  | .hbm, ⟨11, _⟩ => ⟨S4096x2048, .f32⟩
  | .hbm, ⟨12, _⟩ => ⟨S4x1408x4096, .f32⟩
  | .hbm, ⟨13, _⟩ => ⟨S4x4096x1408, .f32⟩
  | .hbm, ⟨14, _⟩ => ⟨S4x1408x4096, .f32⟩
  | .hbm, ⟨15, _⟩ => ⟨S4x4096x1408, .f32⟩
  | .hbm, ⟨16, _⟩ => ⟨S4x1408x4096, .f32⟩
  | .hbm, ⟨17, _⟩ => ⟨S4096x2048, .f32⟩
  | .hbm, ⟨18, _⟩ => ⟨S4x1408x4096, .f32⟩
  | .hbm, ⟨19, _⟩ => ⟨S4096x2048, .f32⟩
  | .hbm, ⟨20, _⟩ => ⟨S4096x2048, .f32⟩
  | .hbm, ⟨21, _⟩ => ⟨S2048x2048, .f32⟩
  | .hbm, ⟨22, _⟩ => ⟨S4096x2048, .f32⟩
  | _, _ => ⟨S4x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S4096x1024 : Shape := ⟨2, ![4096, 1024]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference17Ideal.lean ====
abbrev S4096x2048 : Shape := ⟨2, ![4096, 2048]⟩
abbrev S2048x2048 : Shape := ⟨2, ![2048, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S2048x2048, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== Kernel18.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel19.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference19Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel20.lean ====
abbrev S4096x1024 : Shape := ⟨2, ![4096, 1024]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x2048, .bf16⟩
  | .local _ .vmem, ⟨7, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference20Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x2048, .f32⟩
  | .hbm, ⟨35, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel21.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel22.lean ====
abbrev S4096x4608 : Shape := ⟨2, ![4096, 4608]⟩
abbrev S4096x1024 : Shape := ⟨2, ![4096, 1024]⟩
abbrev S16x2048x128 : Shape := ⟨3, ![16, 2048, 128]⟩
abbrev S256x128 : Shape := ⟨2, ![256, 128]⟩
abbrev S2048x128 : Shape := ⟨2, ![2048, 128]⟩
abbrev S1x256x128 : Shape := ⟨3, ![1, 256, 128]⟩
abbrev S256x256 : Shape := ⟨2, ![256, 256]⟩
abbrev S512x128 : Shape := ⟨2, ![512, 128]⟩
abbrev S256x1 : Shape := ⟨2, ![256, 1]⟩
abbrev S512x256 : Shape := ⟨2, ![512, 256]⟩
abbrev S256 : Shape := ⟨1, ![256]⟩
abbrev S1024x256 : Shape := ⟨2, ![1024, 256]⟩

abbrev nBuf : Space → Nat
  | .hbm => 3
  | .vmem => 10
  | .smem => 0
  | _ => 0

abbrev bufTy : (tb : Table) → Fin (tcTables nBuf tb) → BufTy
  | .hbm, ⟨0, _⟩ => ⟨S4096x4608, .bf16⟩
  | .hbm, ⟨1, _⟩ => ⟨S4096x1024, .f32⟩
  | .hbm, ⟨2, _⟩ => ⟨S16x2048x128, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .f32⟩
  | .local _ .vmem, ⟨7, _⟩ => ⟨S256x128, .f32⟩
  | .local _ .vmem, ⟨8, _⟩ => ⟨S1x256x128, .f32⟩
  | .local _ .vmem, ⟨9, _⟩ => ⟨S1x256x128, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c256_i32 : BitVec 32 := 256#32
  let v28 : BitVec 32 := Scalar.muli arg2 c256_i32
  v28
def k0_off1 (i : grid0.Coords) : Fin 2 → Nat :=
  let arg2 : BitVec 32 := BitVec.ofNat 32 (i 2).val
  let c256_i32 : BitVec 32 := 256#32
  let v28 : BitVec 32 := Scalar.muli arg2 c256_i32
  let v29 : BitVec 32 := v28
  let v30 : Index := Scalar.indexCast v29
  let c0_7 : Index := 0#32
  ![v30.toNat, 0]
@[reducible] def k0_t1_loop (i : grid0.Coords) : Scf.Loop 32 :=
  let c0_i32_26 : BitVec 32 := 0#32
  let arg2 : BitVec 32 := BitVec.ofNat 32 (i 2).val
  let v109 : BitVec 32 := Scalar.subi arg2 c0_i32_26
  let c1_i32_27 : BitVec 32 := 1#32
  let v111 : BitVec 32 := Scalar.divsi v109 c1_i32_27
  let v112 : BitVec 32 := Scalar.muli v111 c1_i32_27
  let v113 : BitVec 32 := Scalar.addi c0_i32_26 v112
  let c1_i32_28 : BitVec 32 := 1#32
  ⟨c0_i32_26, v113, c1_i32_28⟩
def k0_mult2 (i : grid0.Coords) (k0_t1 : Fin (k0_t1_loop i).trips) : BitVec 32 :=
  let arg2 : BitVec 32 := BitVec.ofNat 32 (i 2).val
  let c1_i32_36 : BitVec 32 := 1#32
  let v130 : BitVec 32 := Scalar.subi arg2 c1_i32_36
  let c0_i32_26 : BitVec 32 := 0#32
  let c1_i32_28 : BitVec 32 := 1#32
  let arg8 : BitVec 32 := Scf.iv c0_i32_26 c1_i32_28 k0_t1
  let v131 : BitVec 32 := Scalar.subi v130 arg8
  let c256_i32_37 : BitVec 32 := 256#32
  let v132 : BitVec 32 := Scalar.muli v131 c256_i32_37
  v132
def k0_off2 (i : grid0.Coords) (k0_t1 : Fin (k0_t1_loop i).trips) : Fin 2 → Nat :=
  let arg2 : BitVec 32 := BitVec.ofNat 32 (i 2).val
  let c1_i32_36 : BitVec 32 := 1#32
  let v130 : BitVec 32 := Scalar.subi arg2 c1_i32_36
  let c0_i32_26 : BitVec 32 := 0#32
  let c1_i32_28 : BitVec 32 := 1#32
  let arg8 : BitVec 32 := Scf.iv c0_i32_26 c1_i32_28 k0_t1
  let v131 : BitVec 32 := Scalar.subi v130 arg8
  let c256_i32_37 : BitVec 32 := 256#32
  let v132 : BitVec 32 := Scalar.muli v131 c256_i32_37
  let v133 : BitVec 32 := v132
  let v134 : Index := Scalar.indexCast v133
  let c0_38 : Index := 0#32
  ![v134.toNat, 0]
@[reducible] def k0_t2_loop (i : grid0.Coords) : Scf.Loop 32 :=
  let c0_i32_26 : BitVec 32 := 0#32
  let arg2 : BitVec 32 := BitVec.ofNat 32 (i 2).val
  let v109 : BitVec 32 := Scalar.subi arg2 c0_i32_26
  let c1_i32_27 : BitVec 32 := 1#32
  let v111 : BitVec 32 := Scalar.divsi v109 c1_i32_27
  let v112 : BitVec 32 := Scalar.muli v111 c1_i32_27
  let v113 : BitVec 32 := Scalar.addi c0_i32_26 v112
  let v110 : BitVec 32 := Scalar.addi c0_i32_26 v109
  let c1_i32_29 : BitVec 32 := 1#32
  ⟨v113, v110, c1_i32_29⟩
def k0_mult3 (i : grid0.Coords) (k0_t2 : Fin (k0_t2_loop i).trips) : BitVec 32 :=
  let arg2 : BitVec 32 := BitVec.ofNat 32 (i 2).val
  let c1_i32_36 : BitVec 32 := 1#32
  let v130 : BitVec 32 := Scalar.subi arg2 c1_i32_36
  let c0_i32_26 : BitVec 32 := 0#32
  let v109 : BitVec 32 := Scalar.subi arg2 c0_i32_26
  let c1_i32_27 : BitVec 32 := 1#32
  let v111 : BitVec 32 := Scalar.divsi v109 c1_i32_27
  let v112 : BitVec 32 := Scalar.muli v111 c1_i32_27
  let v113 : BitVec 32 := Scalar.addi c0_i32_26 v112
  let c1_i32_29 : BitVec 32 := 1#32
  let arg8 : BitVec 32 := Scf.iv v113 c1_i32_29 k0_t2
  let v131 : BitVec 32 := Scalar.subi v130 arg8
  let c256_i32_37 : BitVec 32 := 256#32
  let v132 : BitVec 32 := Scalar.muli v131 c256_i32_37
  v132
def k0_off3 (i : grid0.Coords) (k0_t2 : Fin (k0_t2_loop i).trips) : Fin 2 → Nat :=
  let arg2 : BitVec 32 := BitVec.ofNat 32 (i 2).val
  let c1_i32_36 : BitVec 32 := 1#32
  let v130 : BitVec 32 := Scalar.subi arg2 c1_i32_36
  let c0_i32_26 : BitVec 32 := 0#32
  let v109 : BitVec 32 := Scalar.subi arg2 c0_i32_26
  let c1_i32_27 : BitVec 32 := 1#32
  let v111 : BitVec 32 := Scalar.divsi v109 c1_i32_27
  let v112 : BitVec 32 := Scalar.muli v111 c1_i32_27
  let v113 : BitVec 32 := Scalar.addi c0_i32_26 v112
  let c1_i32_29 : BitVec 32 := 1#32
  let arg8 : BitVec 32 := Scf.iv v113 c1_i32_29 k0_t2
  let v131 : BitVec 32 := Scalar.subi v130 arg8
  let c256_i32_37 : BitVec 32 := 256#32
  let v132 : BitVec 32 := Scalar.muli v131 c256_i32_37
  let v133 : BitVec 32 := v132
  let v134 : Index := Scalar.indexCast v133
  let c0_38 : Index := 0#32
  ![v134.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel22Ideal.lean ====
variable {F : FTy → Type} [FloatOps F] [Named F]
def κ : String → Option EReal := fun
  | "mask" => some ⊥
  | _ => none
-- ==== Reference22Ideal.lean ====
abbrev S4096x4608 : Shape := ⟨2, ![4096, 4608]⟩
abbrev S4096x3072 : Shape := ⟨2, ![4096, 3072]⟩
abbrev S4096x1024 : Shape := ⟨2, ![4096, 1024]⟩
abbrev S2x2048x16x64 : Shape := ⟨4, ![2, 2048, 16, 64]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x64x2048 : Shape := ⟨4, ![2, 16, 64, 2048]⟩
abbrev S2x16x2048 : Shape := ⟨3, ![2, 16, 2048]⟩
abbrev S2x8x2x2048 : Shape := ⟨4, ![2, 8, 2, 2048]⟩
abbrev S2x8x2048x2 : Shape := ⟨4, ![2, 8, 2048, 2]⟩
abbrev S2x8x2048x2x1 : Shape := ⟨5, ![2, 8, 2048, 2, 1]⟩
abbrev S2x8x2048x2x64 : Shape := ⟨5, ![2, 8, 2048, 2, 64]⟩
abbrev S16x2048x128 : Shape := ⟨3, ![16, 2048, 128]⟩

abbrev nBuf : Space → Nat
  | .hbm => 118
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4096x3072, .bf16⟩
  | .hbm, ⟨2, _⟩ => ⟨S4096x3072, .f32⟩
  | .hbm, ⟨3, _⟩ => ⟨S4096x1024, .f32⟩
  | .hbm, ⟨4, _⟩ => ⟨S2x2048x16x64, .f32⟩
  | .hbm, ⟨5, _⟩ => ⟨S4096x1024, .f32⟩
  | .hbm, ⟨6, _⟩ => ⟨S2x2048x16x64, .f32⟩
  | .hbm, ⟨7, _⟩ => ⟨S4096x1024, .f32⟩
  | .hbm, ⟨8, _⟩ => ⟨S2x2048x16x64, .f32⟩
  | .hbm, ⟨9, _⟩ => ⟨S2x16x2048x2048, .f32⟩
  | .hbm, ⟨10, _⟩ => ⟨S_, .f32⟩
  | .hbm, ⟨11, _⟩ => ⟨S2x16x2048x2048, .f32⟩
  | .hbm, ⟨12, _⟩ => ⟨S2x16x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S2x16x2048x2048, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .i1⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S2x16x2048x2048, .f32⟩
  | .hbm, ⟨37, _⟩ => ⟨S_, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .i1⟩
  | .hbm, ⟨43, _⟩ => ⟨S2x16x2048x2048, .f32⟩
  | .hbm, ⟨44, _⟩ => ⟨S2x16x2048x2048, .f32⟩
  | .hbm, ⟨45, _⟩ => ⟨S2x16x2048x2048, .f32⟩
  | .hbm, ⟨46, _⟩ => ⟨S2x16x2048x2048, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S2x16x2048x2048, .f32⟩
  | .hbm, ⟨51, _⟩ => ⟨S2x16x2048x2048, .f32⟩
  | .hbm, ⟨52, _⟩ => ⟨S_, .f32⟩
  | .hbm, ⟨53, _⟩ => ⟨S_, .f32⟩
  | .hbm, ⟨54, _⟩ => ⟨S2x16x2048x2048, .i1⟩
  | .hbm, ⟨55, _⟩ => ⟨S2x16x2048x2048, .f32⟩
  | .hbm, ⟨56, _⟩ => ⟨S2x16x2048x2048, .f32⟩
  | .hbm, ⟨57, _⟩ => ⟨S_, .f32⟩
  | .hbm, ⟨58, _⟩ => ⟨S_, .f32⟩
  | .hbm, ⟨59, _⟩ => ⟨S2x16x2048x2048, .f32⟩
  | .hbm, ⟨60, _⟩ => ⟨S2x16x2048x2048, .f32⟩
  | .hbm, ⟨61, _⟩ => ⟨S2x16x2048x2048, .f32⟩
  | .hbm, ⟨62, _⟩ => ⟨S2x16x2048x2048, .f32⟩
  | .hbm, ⟨63, _⟩ => ⟨S_, .f32⟩
  | .hbm, ⟨64, _⟩ => ⟨S_, .f32⟩
  | .hbm, ⟨65, _⟩ => ⟨S2x16x2048x2048, .i1⟩
  | .hbm, ⟨66, _⟩ => ⟨S2x16x2048x2048, .f32⟩
  | .hbm, ⟨67, _⟩ => ⟨S2x16x2048x2048, .f32⟩
  | .hbm, ⟨68, _⟩ => ⟨S2x16x64x2048, .f32⟩
  | .hbm, ⟨69, _⟩ => ⟨S2x2048x16x64, .f32⟩
  | .hbm, ⟨70, _⟩ => ⟨S4096x1024, .f32⟩
  | .hbm, ⟨71, _⟩ => ⟨S4096x3072, .bf16⟩
  | .hbm, ⟨72, _⟩ => ⟨S4096x3072, .f32⟩
  | .hbm, ⟨73, _⟩ => ⟨S4096x1024, .f32⟩
  | .hbm, ⟨74, _⟩ => ⟨S2x2048x16x64, .f32⟩
  | .hbm, ⟨75, _⟩ => ⟨S4096x1024, .f32⟩
  | .hbm, ⟨76, _⟩ => ⟨S2x2048x16x64, .f32⟩
  | .hbm, ⟨77, _⟩ => ⟨S4096x1024, .f32⟩
  | .hbm, ⟨78, _⟩ => ⟨S2x2048x16x64, .f32⟩
  | .hbm, ⟨79, _⟩ => ⟨S2x16x2048x2048, .f32⟩
  | .hbm, ⟨80, _⟩ => ⟨S_, .f32⟩
  | .hbm, ⟨81, _⟩ => ⟨S2x16x2048x2048, .f32⟩
  | .hbm, ⟨82, _⟩ => ⟨S2x16x2048x2048, .f32⟩
  | .hbm, ⟨83, _⟩ => ⟨S2048, .i32⟩
  | .hbm, ⟨84, _⟩ => ⟨S1x2048, .i32⟩
  | .hbm, ⟨85, _⟩ => ⟨S2048x1, .i32⟩
  | .hbm, ⟨86, _⟩ => ⟨S2048x2048, .i32⟩
  | .hbm, ⟨87, _⟩ => ⟨S2048x2048, .i32⟩
  | .hbm, ⟨88, _⟩ => ⟨S2048x2048, .i1⟩
  | .hbm, ⟨89, _⟩ => ⟨S2x16x2048x2048, .f32⟩
  | .hbm, ⟨90, _⟩ => ⟨S2x16x2048x2048, .f32⟩
  | .hbm, ⟨91, _⟩ => ⟨S_, .f32⟩
  | .hbm, ⟨92, _⟩ => ⟨S2x16x2048x2048, .f32⟩
  | .hbm, ⟨93, _⟩ => ⟨S2x16x2048x2048, .f32⟩
  | .hbm, ⟨94, _⟩ => ⟨S2x16x2048x2048, .f32⟩
  | .hbm, ⟨95, _⟩ => ⟨S2x16x2048x2048, .f32⟩
  | .hbm, ⟨96, _⟩ => ⟨S2x16x2048x2048, .i1⟩
  | .hbm, ⟨97, _⟩ => ⟨S2x16x2048x2048, .f32⟩
  | .hbm, ⟨98, _⟩ => ⟨S2x16x2048x2048, .f32⟩
  | .hbm, ⟨99, _⟩ => ⟨S2x16x2048x2048, .f32⟩
  | .hbm, ⟨100, _⟩ => ⟨S2x16x2048x2048, .f32⟩
  | .hbm, ⟨101, _⟩ => ⟨S2x16x2048x2048, .f32⟩
  | .hbm, ⟨102, _⟩ => ⟨S2x16x2048x2048, .f32⟩
  | .hbm, ⟨103, _⟩ => ⟨S2x16x2048x2048, .f32⟩
  | .hbm, ⟨104, _⟩ => ⟨S2x16x2048x2048, .f32⟩
  | .hbm, ⟨105, _⟩ => ⟨S2x16x2048x2048, .f32⟩
  | .hbm, ⟨106, _⟩ => ⟨S_, .f32⟩
  | .hbm, ⟨107, _⟩ => ⟨S_, .f32⟩
  | .hbm, ⟨108, _⟩ => ⟨S2x16x2048x2048, .i1⟩
  | .hbm, ⟨109, _⟩ => ⟨S2x16x2048x2048, .f32⟩
  | .hbm, ⟨110, _⟩ => ⟨S2x16x2048x2048, .f32⟩
  | .hbm, ⟨111, _⟩ => ⟨S_, .f32⟩
  | .hbm, ⟨112, _⟩ => ⟨S2x16x2048, .f32⟩
  | .hbm, ⟨113, _⟩ => ⟨S2x8x2x2048, .f32⟩
  | .hbm, ⟨114, _⟩ => ⟨S2x8x2048x2, .f32⟩
  | .hbm, ⟨115, _⟩ => ⟨S2x8x2048x2x1, .f32⟩
  | .hbm, ⟨116, _⟩ => ⟨S2x8x2048x2x64, .f32⟩
  | .hbm, ⟨117, _⟩ => ⟨S16x2048x128, .f32⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v19 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v20 : Ref sig .tc := ⟨.hbm, 56, rfl⟩
abbrev main_call3_cst : Ref sig .tc := ⟨.hbm, 57, rfl⟩
abbrev main_call3_v0 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_2 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_call5_v0 : Ref sig .tc := ⟨.hbm, 90, rfl⟩
abbrev main_call5_call0_cst : Ref sig .tc := ⟨.hbm, 91, rfl⟩
abbrev main_call5_call0_v0 : Ref sig .tc := ⟨.hbm, 92, rfl⟩
abbrev main_call5_call0_v1 : Ref sig .tc := ⟨.hbm, 93, rfl⟩
abbrev main_call5_call0_v2 : Ref sig .tc := ⟨.hbm, 94, rfl⟩
abbrev main_call5_call0_v3 : Ref sig .tc := ⟨.hbm, 95, rfl⟩
abbrev main_call5_call0_v4 : Ref sig .tc := ⟨.hbm, 96, rfl⟩
abbrev main_call5_call0_v5 : Ref sig .tc := ⟨.hbm, 97, rfl⟩
abbrev main_call5_call0_v6 : Ref sig .tc := ⟨.hbm, 98, rfl⟩
abbrev main_call5_call0_v7 : Ref sig .tc := ⟨.hbm, 99, rfl⟩
abbrev main_call5_call0_v8 : Ref sig .tc := ⟨.hbm, 100, rfl⟩
abbrev main_call5_call0_v9 : Ref sig .tc := ⟨.hbm, 101, rfl⟩
abbrev main_call5_call0_v10 : Ref sig .tc := ⟨.hbm, 102, rfl⟩
abbrev main_call5_call0_v11 : Ref sig .tc := ⟨.hbm, 103, rfl⟩
abbrev main_call5_v1 : Ref sig .tc := ⟨.hbm, 104, rfl⟩
abbrev main_v47 : Ref sig .tc := ⟨.hbm, 105, rfl⟩
abbrev main_cst_3 : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_v48 : Ref sig .tc := ⟨.hbm, 110, rfl⟩
abbrev main_cst_4 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩

abbrev nD : Nat := 1
abbrev τ : Topo := Topo.v7x

variable {F : FTy → Type} [FloatOps F]
-- ==== Kernel23.lean ====
abbrev S88x128 : Shape := ⟨2, ![88, 128]⟩

abbrev nBuf : Space → Nat
  | .hbm => 8
  | .vmem => 8
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S88x128, .f32⟩
  | .hbm, ⟨5, _⟩ => ⟨S88x128, .f32⟩
  | .hbm, ⟨6, _⟩ => ⟨S88x128, .f32⟩
  | .hbm, ⟨7, _⟩ => ⟨S88x128, .f32⟩
  | .local _ .vmem, ⟨0, _⟩ => ⟨S88x128, .f32⟩
  | .local _ .vmem, ⟨1, _⟩ => ⟨S88x128, .f32⟩
  | .local _ .vmem, ⟨2, _⟩ => ⟨S88x128, .f32⟩
  | .local _ .vmem, ⟨3, _⟩ => ⟨S88x128, .f32⟩
  | .local _ .vmem, ⟨4, _⟩ => ⟨S88x128, .f32⟩
  | .local _ .vmem, ⟨5, _⟩ => ⟨S88x128, .f32⟩
  | .local _ .vmem, ⟨6, _⟩ => ⟨S88x128, .f32⟩
  | .local _ .vmem, ⟨7, _⟩ => ⟨S88x128, .f32⟩
  | _, _ => ⟨S88x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S88x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S88x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S88x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S88x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S88x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S88x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S88x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S88x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference23Ideal.lean ====
abbrev S88x128 : Shape := ⟨2, ![88, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S_, .f32⟩
  | .hbm, ⟨5, _⟩ => ⟨S88x128, .f32⟩
  | .hbm, ⟨6, _⟩ => ⟨S88x128, .f32⟩
  | .hbm, ⟨7, _⟩ => ⟨S_, .f32⟩
  | .hbm, ⟨8, _⟩ => ⟨S88x128, .f32⟩
  | .hbm, ⟨9, _⟩ => ⟨S88x128, .f32⟩
  | .hbm, ⟨10, _⟩ => ⟨S88x128, .f32⟩
  | .hbm, ⟨11, _⟩ => ⟨S_, .f32⟩
  | .hbm, ⟨12, _⟩ => ⟨S88x128, .f32⟩
  | .hbm, ⟨13, _⟩ => ⟨S88x128, .f32⟩
  | .hbm, ⟨14, _⟩ => ⟨S88x128, .f32⟩
  | .hbm, ⟨15, _⟩ => ⟨S_, .f32⟩
  | .hbm, ⟨16, _⟩ => ⟨S88x128, .f32⟩
  | .hbm, ⟨17, _⟩ => ⟨S88x128, .f32⟩
  | .hbm, ⟨18, _⟩ => ⟨S88x128, .f32⟩
  | .hbm, ⟨19, _⟩ => ⟨S_, .f32⟩
  | .hbm, ⟨20, _⟩ => ⟨S88x128, .f32⟩
  | .hbm, ⟨21, _⟩ => ⟨S88x128, .f32⟩
  | .hbm, ⟨22, _⟩ => ⟨S_, .f32⟩
  | .hbm, ⟨23, _⟩ => ⟨S88x128, .f32⟩
  | .hbm, ⟨24, _⟩ => ⟨S88x128, .f32⟩
  | .hbm, ⟨25, _⟩ => ⟨S88x128, .f32⟩
  | .hbm, ⟨26, _⟩ => ⟨S_, .f32⟩
  | .hbm, ⟨27, _⟩ => ⟨S88x128, .f32⟩
  | .hbm, ⟨28, _⟩ => ⟨S88x128, .f32⟩
  | .hbm, ⟨29, _⟩ => ⟨S88x128, .f32⟩
  | .hbm, ⟨30, _⟩ => ⟨S_, .f32⟩
  | .hbm, ⟨31, _⟩ => ⟨S88x128, .f32⟩
  | .hbm, ⟨32, _⟩ => ⟨S88x128, .f32⟩
  | .hbm, ⟨33, _⟩ => ⟨S88x128, .f32⟩
  | .hbm, ⟨34, _⟩ => ⟨S_, .f32⟩
  | .hbm, ⟨35, _⟩ => ⟨S88x128, .f32⟩
  | .hbm, ⟨36, _⟩ => ⟨S88x128, .f32⟩
  | _, _ => ⟨S88x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2048x1376 : Shape := ⟨2, ![2048, 1376]⟩
abbrev S1024x1408 : Shape := ⟨2, ![1024, 1408]⟩
abbrev S1 : Shape := ⟨1, ![1]⟩
abbrev S128x1376 : Shape := ⟨2, ![128, 1376]⟩
abbrev S128x1408 : Shape := ⟨2, ![128, 1408]⟩

abbrev nBuf : Space → Nat
  | .hbm => 9
  | .vmem => 18
  | .smem => 1
  | _ => 0

abbrev bufTy : (tb : Table) → Fin (tcTables nBuf tb) → BufTy
  | .hbm, ⟨0, _⟩ => ⟨S2048x1376, .f32⟩
  | .hbm, ⟨1, _⟩ => ⟨S2048x1376, .f32⟩
  | .hbm, ⟨2, _⟩ => ⟨S2048x1376, .f32⟩
  | .hbm, ⟨3, _⟩ => ⟨S1024x1408, .f32⟩
  | .hbm, ⟨4, _⟩ => ⟨S1024x1408, .f32⟩
  | .hbm, ⟨5, _⟩ => ⟨S2048x1376, .f32⟩
  | .hbm, ⟨6, _⟩ => ⟨S2048x1376, .f32⟩
  | .hbm, ⟨7, _⟩ => ⟨S2048x1376, .f32⟩
  | .hbm, ⟨8, _⟩ => ⟨S2048x1376, .f32⟩
  | .local _ .vmem, ⟨0, _⟩ => ⟨S128x1376, .f32⟩
  | .local _ .vmem, ⟨1, _⟩ => ⟨S128x1376, .f32⟩
  | .local _ .vmem, ⟨2, _⟩ => ⟨S128x1376, .f32⟩
  | .local _ .vmem, ⟨3, _⟩ => ⟨S128x1376, .f32⟩
  | .local _ .vmem, ⟨4, _⟩ => ⟨S128x1376, .f32⟩
  | .local _ .vmem, ⟨5, _⟩ => ⟨S128x1376, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1376, .f32⟩
  | .local _ .vmem, ⟨11, _⟩ => ⟨S128x1376, .f32⟩
  | .local _ .vmem, ⟨12, _⟩ => ⟨S128x1376, .f32⟩
  | .local _ .vmem, ⟨13, _⟩ => ⟨S128x1376, .f32⟩
  | .local _ .vmem, ⟨14, _⟩ => ⟨S128x1376, .f32⟩
  | .local _ .vmem, ⟨15, _⟩ => ⟨S128x1376, .f32⟩
  | .local _ .vmem, ⟨16, _⟩ => ⟨S128x1376, .f32⟩
  | .local _ .vmem, ⟨17, _⟩ => ⟨S128x1376, .f32⟩
  | .local _ .smem, ⟨0, _⟩ => ⟨S1, .i32⟩
  | _, _ => ⟨S2048x1376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_true : BitVec 1 := 1#1
  let v19 : BitVec 1 := Scalar.xori v18 v_true
  let true_4 : BitVec 1 := 1#1
  let v20 : BitVec 1 := Scalar.xori v19 true_4
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi arg0 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  ![v31.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_false : BitVec 1 := 0#1
  let v19 : BitVec 1 := Scalar.xori v18 v_false
  let v_true : BitVec 1 := 1#1
  let v20 : BitVec 1 := Scalar.xori v19 v_true
  let c8_i32_4 : BitVec 32 := 8#32
  let c0_i32_5 : BitVec 32 := 0#32
  let v21 : BitVec 1 := Scalar.cmpi .eq c8_i32_4 c0_i32_5
  let c1_i32_6 : BitVec 32 := 1#32
  let v22 : BitVec 32 := Scalar.select v21 c1_i32_6 c8_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let v31 : BitVec 32 := Scalar.select v20 v30 c0_i32_10
  let c0_i32_11 : BitVec 32 := 0#32
  ![v31.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1376 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1376 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1376 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1376 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference24Ideal.lean ====
abbrev S2048x1376 : Shape := ⟨2, ![2048, 1376]⟩
abbrev S1024x1408 : Shape := ⟨2, ![1024, 1408]⟩
abbrev S1 : Shape := ⟨1, ![1]⟩
abbrev S_ : Shape := ⟨0, ![]⟩
abbrev S2048x1408 : Shape := ⟨2, ![2048, 1408]⟩

abbrev nBuf : Space → Nat
  | .hbm => 49
  | .vmem => 0
  | .smem => 0
  | _ => 0

abbrev bufTy : (tb : Table) → Fin (tcTables nBuf tb) → BufTy
  | .hbm, ⟨0, _⟩ => ⟨S2048x1376, .f32⟩
  | .hbm, ⟨1, _⟩ => ⟨S2048x1376, .f32⟩
  | .hbm, ⟨2, _⟩ => ⟨S2048x1376, .f32⟩
  | .hbm, ⟨3, _⟩ => ⟨S1024x1408, .f32⟩
  | .hbm, ⟨4, _⟩ => ⟨S1024x1408, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x1408, .f32⟩
  | .hbm, ⟨14, _⟩ => ⟨S2048x1408, .f32⟩
  | .hbm, ⟨15, _⟩ => ⟨S2048x1376, .f32⟩
  | .hbm, ⟨16, _⟩ => ⟨S_, .f32⟩
  | .hbm, ⟨17, _⟩ => ⟨S2048x1376, .f32⟩
  | .hbm, ⟨18, _⟩ => ⟨S2048x1376, .f32⟩
  | .hbm, ⟨19, _⟩ => ⟨S_, .f32⟩
  | .hbm, ⟨20, _⟩ => ⟨S2048x1376, .f32⟩
  | .hbm, ⟨21, _⟩ => ⟨S2048x1376, .f32⟩
  | .hbm, ⟨22, _⟩ => ⟨S2048x1376, .f32⟩
  | .hbm, ⟨23, _⟩ => ⟨S_, .f32⟩
  | .hbm, ⟨24, _⟩ => ⟨S2048x1376, .f32⟩
  | .hbm, ⟨25, _⟩ => ⟨S2048x1376, .f32⟩
  | .hbm, ⟨26, _⟩ => ⟨S2048x1376, .f32⟩
  | .hbm, ⟨27, _⟩ => ⟨S_, .f32⟩
  | .hbm, ⟨28, _⟩ => ⟨S2048x1376, .f32⟩
  | .hbm, ⟨29, _⟩ => ⟨S2048x1376, .f32⟩
  | .hbm, ⟨30, _⟩ => ⟨S2048x1376, .f32⟩
  | .hbm, ⟨31, _⟩ => ⟨S_, .f32⟩
  | .hbm, ⟨32, _⟩ => ⟨S2048x1376, .f32⟩
  | .hbm, ⟨33, _⟩ => ⟨S2048x1376, .f32⟩
  | .hbm, ⟨34, _⟩ => ⟨S_, .f32⟩
  | .hbm, ⟨35, _⟩ => ⟨S2048x1376, .f32⟩
  | .hbm, ⟨36, _⟩ => ⟨S2048x1376, .f32⟩
  | .hbm, ⟨37, _⟩ => ⟨S2048x1376, .f32⟩
  | .hbm, ⟨38, _⟩ => ⟨S_, .f32⟩
  | .hbm, ⟨39, _⟩ => ⟨S2048x1376, .f32⟩
  | .hbm, ⟨40, _⟩ => ⟨S2048x1376, .f32⟩
  | .hbm, ⟨41, _⟩ => ⟨S2048x1376, .f32⟩
  | .hbm, ⟨42, _⟩ => ⟨S_, .f32⟩
  | .hbm, ⟨43, _⟩ => ⟨S2048x1376, .f32⟩
  | .hbm, ⟨44, _⟩ => ⟨S2048x1376, .f32⟩
  | .hbm, ⟨45, _⟩ => ⟨S2048x1376, .f32⟩
  | .hbm, ⟨46, _⟩ => ⟨S_, .f32⟩
  | .hbm, ⟨47, _⟩ => ⟨S2048x1376, .f32⟩
  | .hbm, ⟨48, _⟩ => ⟨S2048x1376, .f32⟩
  | _, _ => ⟨S2048x1376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel25.lean ====
abbrev S2048x1152 : Shape := ⟨2, ![2048, 1152]⟩
abbrev S1024x1152 : Shape := ⟨2, ![1024, 1152]⟩
abbrev S1 : Shape := ⟨1, ![1]⟩
abbrev S128x1152 : Shape := ⟨2, ![128, 1152]⟩

abbrev nBuf : Space → Nat
  | .hbm => 9
  | .vmem => 18
  | .smem => 1
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S1024x1152, .f32⟩
  | .hbm, ⟨4, _⟩ => ⟨S1024x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S2048x1152, .f32⟩
  | .local _ .vmem, ⟨0, _⟩ => ⟨S128x1152, .f32⟩
  | .local _ .vmem, ⟨1, _⟩ => ⟨S128x1152, .f32⟩
  | .local _ .vmem, ⟨2, _⟩ => ⟨S128x1152, .f32⟩
  | .local _ .vmem, ⟨3, _⟩ => ⟨S128x1152, .f32⟩
  | .local _ .vmem, ⟨4, _⟩ => ⟨S128x1152, .f32⟩
  | .local _ .vmem, ⟨5, _⟩ => ⟨S128x1152, .f32⟩
  | .local _ .vmem, ⟨6, _⟩ => ⟨S128x1152, .f32⟩
  | .local _ .vmem, ⟨7, _⟩ => ⟨S128x1152, .f32⟩
  | .local _ .vmem, ⟨8, _⟩ => ⟨S128x1152, .f32⟩
  | .local _ .vmem, ⟨9, _⟩ => ⟨S128x1152, .f32⟩
  | .local _ .vmem, ⟨10, _⟩ => ⟨S128x1152, .f32⟩
  | .local _ .vmem, ⟨11, _⟩ => ⟨S128x1152, .f32⟩
  | .local _ .vmem, ⟨12, _⟩ => ⟨S128x1152, .f32⟩
  | .local _ .vmem, ⟨13, _⟩ => ⟨S128x1152, .f32⟩
  | .local _ .vmem, ⟨14, _⟩ => ⟨S128x1152, .f32⟩
  | .local _ .vmem, ⟨15, _⟩ => ⟨S128x1152, .f32⟩
  | .local _ .vmem, ⟨16, _⟩ => ⟨S128x1152, .f32⟩
  | .local _ .vmem, ⟨17, _⟩ => ⟨S128x1152, .f32⟩
  | .local _ .smem, ⟨0, _⟩ => ⟨S1, .i32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_true : BitVec 1 := 1#1
  let v19 : BitVec 1 := Scalar.xori v18 v_true
  let true_4 : BitVec 1 := 1#1
  let v20 : BitVec 1 := Scalar.xori v19 true_4
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi arg0 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  ![v31.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_false : BitVec 1 := 0#1
  let v19 : BitVec 1 := Scalar.xori v18 v_false
  let v_true : BitVec 1 := 1#1
  let v20 : BitVec 1 := Scalar.xori v19 v_true
  let c8_i32_4 : BitVec 32 := 8#32
  let c0_i32_5 : BitVec 32 := 0#32
  let v21 : BitVec 1 := Scalar.cmpi .eq c8_i32_4 c0_i32_5
  let c1_i32_6 : BitVec 32 := 1#32
  let v22 : BitVec 32 := Scalar.select v21 c1_i32_6 c8_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let v31 : BitVec 32 := Scalar.select v20 v30 c0_i32_10
  let c0_i32_11 : BitVec 32 := 0#32
  ![v31.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference25Ideal.lean ====
abbrev S2048x1152 : Shape := ⟨2, ![2048, 1152]⟩
abbrev S1024x1152 : Shape := ⟨2, ![1024, 1152]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S1024x1152, .f32⟩
  | .hbm, ⟨4, _⟩ => ⟨S1024x1152, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x1152, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x1152, .f32⟩
  | .hbm, ⟨14, _⟩ => ⟨S2048x1152, .f32⟩
  | .hbm, ⟨15, _⟩ => ⟨S_, .f32⟩
  | .hbm, ⟨16, _⟩ => ⟨S2048x1152, .f32⟩
  | .hbm, ⟨17, _⟩ => ⟨S2048x1152, .f32⟩
  | .hbm, ⟨18, _⟩ => ⟨S_, .f32⟩
  | .hbm, ⟨19, _⟩ => ⟨S2048x1152, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S2048x1152, .f32⟩
  | .hbm, ⟨26, _⟩ => ⟨S_, .f32⟩
  | .hbm, ⟨27, _⟩ => ⟨S2048x1152, .f32⟩
  | .hbm, ⟨28, _⟩ => ⟨S2048x1152, .f32⟩
  | .hbm, ⟨29, _⟩ => ⟨S2048x1152, .f32⟩
  | .hbm, ⟨30, _⟩ => ⟨S_, .f32⟩
  | .hbm, ⟨31, _⟩ => ⟨S2048x1152, .f32⟩
  | .hbm, ⟨32, _⟩ => ⟨S2048x1152, .f32⟩
  | .hbm, ⟨33, _⟩ => ⟨S_, .f32⟩
  | .hbm, ⟨34, _⟩ => ⟨S2048x1152, .f32⟩
  | .hbm, ⟨35, _⟩ => ⟨S2048x1152, .f32⟩
  | .hbm, ⟨36, _⟩ => ⟨S2048x1152, .f32⟩
  | .hbm, ⟨37, _⟩ => ⟨S_, .f32⟩
  | .hbm, ⟨38, _⟩ => ⟨S2048x1152, .f32⟩
  | .hbm, ⟨39, _⟩ => ⟨S2048x1152, .f32⟩
  | .hbm, ⟨40, _⟩ => ⟨S2048x1152, .f32⟩
  | .hbm, ⟨41, _⟩ => ⟨S_, .f32⟩
  | .hbm, ⟨42, _⟩ => ⟨S2048x1152, .f32⟩
  | .hbm, ⟨43, _⟩ => ⟨S2048x1152, .f32⟩
  | .hbm, ⟨44, _⟩ => ⟨S2048x1152, .f32⟩
  | .hbm, ⟨45, _⟩ => ⟨S_, .f32⟩
  | .hbm, ⟨46, _⟩ => ⟨S2048x1152, .f32⟩
  | .hbm, ⟨47, _⟩ => ⟨S2048x1152, .f32⟩
  | _, _ => ⟨S2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel26.lean ====
abbrev S512x2048 : Shape := ⟨2, ![512, 2048]⟩
abbrev S256x2048 : Shape := ⟨2, ![256, 2048]⟩
abbrev S1 : Shape := ⟨1, ![1]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S256x2048, .f32⟩
  | .hbm, ⟨4, _⟩ => ⟨S256x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_true : BitVec 1 := 1#1
  let v19 : BitVec 1 := Scalar.xori v18 v_true
  let true_4 : BitVec 1 := 1#1
  let v20 : BitVec 1 := Scalar.xori v19 true_4
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg0 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  ![v31.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let v_false : BitVec 1 := 0#1
  let v19 : BitVec 1 := Scalar.xori v18 v_false
  let v_true : BitVec 1 := 1#1
  let v20 : BitVec 1 := Scalar.xori v19 v_true
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let v31 : BitVec 32 := Scalar.select v20 v30 c0_i32_10
  let c0_i32_11 : BitVec 32 := 0#32
  ![v31.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference26Ideal.lean ====
abbrev S512x2048 : Shape := ⟨2, ![512, 2048]⟩
abbrev S256x2048 : Shape := ⟨2, ![256, 2048]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S256x2048, .f32⟩
  | .hbm, ⟨4, _⟩ => ⟨S256x2048, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | .hbm, ⟨40, _⟩ => ⟨S512x2048, .f32⟩
  | .hbm, ⟨41, _⟩ => ⟨S_, .f32⟩
  | .hbm, ⟨42, _⟩ => ⟨S512x2048, .f32⟩
  | .hbm, ⟨43, _⟩ => ⟨S512x2048, .f32⟩
  | .hbm, ⟨44, _⟩ => ⟨S512x2048, .f32⟩
  | .hbm, ⟨45, _⟩ => ⟨S_, .f32⟩
  | .hbm, ⟨46, _⟩ => ⟨S512x2048, .f32⟩
  | .hbm, ⟨47, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.Sb.Tile.lean ====
/-
  The stick-breaking gradient kernel, one tile at a time: what one 256 × 256 tile of the score matrix adds to the
  three gradients and to the four running row sums, over any float operations. A tile strictly below the diagonal
  is `fullTile`, a tile on it is `diagTile`; `colSweep` runs the tiles of one block of query rows, `rowSweep` the
  eight blocks.
-/
module

public import proofs.«01_k».proof.Proof.Gen.KernelIdeal.Skeleton

@[expose] public section

noncomputable section

namespace Cert.KernelIdeal.Sb

open Idealize.ShloMosaic Idealize.ShloMosaic.TcCoe
open Cert.KernelIdeal Cert.KernelIdeal.Gen

variable {F : FTy → Type} [FloatOps F]

/-- Lane numbers of a 256 × 128 block. -/
abbrev lanes : IVec S256x128 32 := iota .tc S256x128 32 [1] iota_S256x128_d1_w32
/-- Row numbers of a 256 × 256 tile. -/
abbrev tileRows : IVec S256x256 32 := iota .tc S256x256 32 [0] iota_S256x256_d0_w32
/-- Column numbers of a 256 × 256 tile. -/
abbrev tileCols : IVec S256x256 32 := iota .tc S256x256 32 [1] iota_S256x256_d1_w32
/-- The score scale 1/8. -/
abbrev eighth : F .bf16 := Scalar.ofBits .bf16 0x3E00#16

/-- The running row sums of the two heads (log and gradient, head 0 then head 1 interleaved) and the query gradient. -/
abbrev Carry (F : FTy → Type) : Type :=
  FVec F S256x1 .f32 × FVec F S256x1 .f32 × FVec F S256x1 .f32 × FVec F S256x1 .f32 × FVec F S256x128 .f32

/-- The carried values before the first tile of a block of rows. -/
abbrev carry0 : Carry F := (k0_pay58, k0_pay58, k0_pay58, k0_pay58, k0_pay59)

/-- The two heads' query rows, one under the other, scaled. -/
abbrev q2 (qb : Vec F S256x128 .bf16) : FVec F S512x128 .bf16 := k0_pay54 k0_pay110 k0_pay111 k0_pay112 eighth qb
/-- The two heads' rows of the incoming gradient, one under the other. -/
abbrev do2 (ob : Vec F S256x128 .f32) : FVec F S512x128 .bf16 := k0_pay55 k0_pay110 k0_pay111 k0_pay112 ob

section Full

variable (qb : Vec F S256x128 .bf16) (ob : Vec F S256x128 .f32) (lb : Vec F S1x256x128 .f32)
  (kb vb : Vec F S256x128 .bf16) (a : Carry F)

abbrev fA0 : FVec F S256x256 .bf16 :=
  k0_pay17 k0_pay106 (k0_pay56 lanes lb) a.1 (k0_pay7 (q2 qb) kb) (k0_pay10 (q2 qb) kb) (k0_pay12 (q2 qb) kb) (k0_pay13 (q2 qb) kb) (k0_pay14 (q2 qb) kb)
abbrev fG0 : FVec F S256x256 .f32 :=
  k0_pay18 k0_pay106 (k0_pay56 lanes lb) a.1 (k0_pay3 (do2 ob) vb) (k0_pay7 (q2 qb) kb) (k0_pay10 (q2 qb) kb) (k0_pay12 (q2 qb) kb) (k0_pay13 (q2 qb) kb) (k0_pay14 (q2 qb) kb)
abbrev fA1 : FVec F S256x256 .bf16 :=
  k0_pay20 k0_pay106 (k0_pay57 lanes lb) a.2.2.1 (k0_pay10 (q2 qb) kb) (k0_pay11 (q2 qb) kb) (k0_pay12 (q2 qb) kb) (k0_pay13 (q2 qb) kb) (k0_pay14 (q2 qb) kb)
abbrev fG1 : FVec F S256x256 .f32 :=
  k0_pay21 k0_pay106 (k0_pay57 lanes lb) a.2.2.1 (k0_pay3 (do2 ob) vb) (k0_pay10 (q2 qb) kb) (k0_pay11 (q2 qb) kb) (k0_pay12 (q2 qb) kb) (k0_pay13 (q2 qb) kb) (k0_pay14 (q2 qb) kb)
abbrev fP : FVec F S1024x256 .f32 :=
  k0_pay22 k0_pay106 k0_pay107 (k0_pay56 lanes lb) (k0_pay57 lanes lb) a.1 a.2.2.1 (k0_pay3 (do2 ob) vb) (k0_pay7 (q2 qb) kb) (k0_pay10 (q2 qb) kb) (k0_pay11 (q2 qb) kb) (k0_pay12 (q2 qb) kb) (k0_pay13 (q2 qb) kb) (k0_pay14 (q2 qb) kb)
abbrev fZ0 : FVec F S256x256 .bf16 :=
  k0_pay23 k0_pay106 k0_pay107 (k0_pay56 lanes lb) (k0_pay57 lanes lb) a.1 a.2.1 a.2.2.1 (k0_pay3 (do2 ob) vb) (k0_pay7 (q2 qb) kb) (k0_pay10 (q2 qb) kb) (k0_pay11 (q2 qb) kb) (k0_pay12 (q2 qb) kb) (k0_pay13 (q2 qb) kb) (k0_pay14 (q2 qb) kb)
abbrev fB1 : FVec F S256x256 .f32 := k0_pay24 (k0_pay11 (q2 qb) kb)
abbrev fW1 : FVec F S256x256 .f32 :=
  k0_pay25 k0_pay106 (k0_pay57 lanes lb) a.2.2.1 (k0_pay3 (do2 ob) vb) (k0_pay10 (q2 qb) kb) (k0_pay11 (q2 qb) kb) (k0_pay12 (q2 qb) kb) (k0_pay13 (q2 qb) kb) (k0_pay14 (q2 qb) kb)
abbrev fS1 : FVec F S256x256 .f32 :=
  k0_pay26 k0_pay106 k0_pay107 (k0_pay56 lanes lb) (k0_pay57 lanes lb) a.1 a.2.2.1 (k0_pay3 (do2 ob) vb) (k0_pay7 (q2 qb) kb) (k0_pay10 (q2 qb) kb) (k0_pay11 (q2 qb) kb) (k0_pay12 (q2 qb) kb) (k0_pay13 (q2 qb) kb) (k0_pay14 (q2 qb) kb)

/-- The carried values after a tile below the diagonal. -/
def fullCarry : Carry F :=
  (k0_pay64 a.1 (k0_pay6 (q2 qb) kb), k0_pay65 a.2.1 (fG0 qb ob lb kb vb a), k0_pay66 a.2.2.1 (k0_pay10 (q2 qb) kb),
    k0_pay67 a.2.2.2.1 (fG1 qb ob lb kb vb a),
    k0_pay63 a.2.2.2.1 a.2.2.2.2 (k0_pay1 k0_pay110 k0_pay111 k0_pay112 eighth kb) (fP qb ob lb kb vb a) (fZ0 qb ob lb kb vb a)
      (fB1 qb kb) (fW1 qb ob lb kb vb a) (fS1 qb ob lb kb vb a))
/-- The value gradient's block after such a tile, over what it held. -/
def fullDv (old : Vec F S256x128 .f32) : FVec F S256x128 .f32 :=
  k0_pay61 k0_pay110 k0_pay111 k0_pay112 ob (fA0 qb lb kb a) (fA1 qb lb kb a) old
/-- The key gradient's block after such a tile, over what it held. -/
def fullDk (old : Vec F S256x128 .f32) : FVec F S256x128 .f32 :=
  k0_pay62 k0_pay110 k0_pay111 k0_pay112 eighth qb a.2.2.2.1 (fP qb ob lb kb vb a) (fZ0 qb ob lb kb vb a)
      (fB1 qb kb) (fW1 qb ob lb kb vb a) (fS1 qb ob lb kb vb a) old

/-- Which entries of a diagonal tile count: column before row. -/
abbrev below : IVec S256x256 1 := k0_pay76 tileRows tileCols

abbrev dL0 : FVec F S256x256 .f32 := k0_pay82 (q2 qb) below kb
abbrev dE0 : FVec F S256x256 .f32 := k0_pay83 (q2 qb) kb
abbrev dL1 : FVec F S256x256 .f32 := k0_pay86 (q2 qb) below kb
abbrev dE1 : FVec F S256x256 .f32 := k0_pay87 (q2 qb) kb
abbrev dH0 : FVec F S256x256 .bf16 := k0_pay88 (q2 qb) below kb
abbrev dR0 : FVec F S256x256 .f32 := k0_pay89 (q2 qb) below kb
abbrev dA0 : FVec F S256x256 .bf16 :=
  k0_pay92 k0_pay106 (k0_pay56 lanes lb) a.1 below (dL0 qb kb) (dE0 qb kb) (dL1 qb kb) (dH0 qb kb) (dR0 qb kb)
abbrev dA1 : FVec F S256x256 .bf16 :=
  k0_pay95 k0_pay106 (k0_pay57 lanes lb) a.2.2.1 below (dL0 qb kb) (dL1 qb kb) (dE1 qb kb) (dH0 qb kb) (dR0 qb kb)
abbrev dG1 : FVec F S256x256 .f32 :=
  k0_pay96 k0_pay106 (k0_pay57 lanes lb) a.2.2.1 below (k0_pay79 (do2 ob) vb) (dL0 qb kb) (dL1 qb kb) (dE1 qb kb) (dH0 qb kb) (dR0 qb kb)
abbrev dP : FVec F S1024x256 .f32 :=
  k0_pay97 k0_pay106 k0_pay107 (k0_pay56 lanes lb) (k0_pay57 lanes lb) a.1 a.2.2.1 below (k0_pay79 (do2 ob) vb) (dL0 qb kb) (dE0 qb kb) (dL1 qb kb) (dE1 qb kb) (dH0 qb kb) (dR0 qb kb)
abbrev dB0 : FVec F S256x256 .f32 := k0_pay98 (dE0 qb kb)
abbrev dW0 : FVec F S256x256 .f32 :=
  k0_pay99 k0_pay106 (k0_pay56 lanes lb) a.1 below (k0_pay79 (do2 ob) vb) (dL0 qb kb) (dE0 qb kb) (dL1 qb kb) (dH0 qb kb) (dR0 qb kb)
abbrev dS0 : FVec F S256x256 .f32 :=
  k0_pay100 k0_pay106 k0_pay107 (k0_pay56 lanes lb) (k0_pay57 lanes lb) a.1 a.2.1 a.2.2.1 below (k0_pay79 (do2 ob) vb) (dL0 qb kb) (dE0 qb kb) (dL1 qb kb) (dE1 qb kb) (dH0 qb kb) (dR0 qb kb)

/-- The value gradient's block after the diagonal tile, over what it held. -/
def diagDv (old : Vec F S256x128 .f32) : FVec F S256x128 .f32 :=
  k0_pay103 (do2 ob) (dA0 qb lb kb a) (dA1 qb lb kb a) old
/-- The key gradient's block after the diagonal tile, over what it held. -/
def diagDk (old : Vec F S256x128 .f32) : FVec F S256x128 .f32 :=
  k0_pay104 (q2 qb) a.2.2.2.1 below (dE1 qb kb) (dG1 qb ob lb kb vb a) (dP qb ob lb kb vb a) (dB0 qb kb) (dW0 qb ob lb kb vb a) (dS0 qb ob lb kb vb a) old
/-- The query gradient's block after the diagonal tile, rounded. -/
def diagDq : FVec F S1x256x128 .bf16 :=
  k0_pay105 a.2.2.2.1 a.2.2.2.2 below (k0_pay77 k0_pay110 k0_pay111 k0_pay112 eighth kb) (dE1 qb kb) (dG1 qb ob lb kb vb a) (dP qb ob lb kb vb a) (dB0 qb kb) (dW0 qb ob lb kb vb a) (dS0 qb ob lb kb vb a)

end Full

end Cert.KernelIdeal.Sb

end
-- ==== Proof.Sb.Trip.lean ====
/-
  One tile below the diagonal as a step of the kernel's memory: the two loads, the two accumulations, and what the
  tile hands on.
-/
module

public import proofs.«01_k».proof.Proof.Sb.Tile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Rows `[256 b, 256 b + 256)` of a 2048-row array. -/
def rowsAt {e : EltTy} (X : Vec F S2048x128 e) (b : ℕ) : Vec F S256x128 e :=
  fun x => X (fun a => ⟨(if a = 0 then (256 * b + (x a).val) % 2048 else (x a).val), by
    fin_cases a
    · exact Nat.mod_lt _ (by decide)
    · exact (x 1).isLt⟩)

/-- The array with rows `[256 b, 256 b + 256)` replaced. -/
def putRows {e : EltTy} (X : Vec F S2048x128 e) (b : ℕ) (w : Vec F S256x128 e) : Vec F S2048x128 e :=
  fun y => if h : 256 * b ≤ (y 0).val ∧ (y 0).val < 256 * b + 256 then
    w (fun a => ⟨if a = 0 then (y 0).val - 256 * b else (y a).val, by
      fin_cases a
      · show (y 0).val - 256 * b < 256
        omega
      · exact (y 1).isLt⟩) else X y

/-- Reading a block of rows of a whole 2048-row buffer. -/
theorem readAt_rows {κ : Kind} {sp : Space} {e : EltTy} (M : Memref sig κ sp S2048x128 e) (f : M.view.ty.Contents (Elt F)) (b : ℕ)
    (hb : b < 8) {off : Fin 2 → ℕ} (inb : ∀ a : Fin 2, off a + S256x128.size a ≤ S2048x128.size a) (hoff : off = ![256 * b, 0]) :
    M.view.readAt (Elt F) (Rect.unit (s := S2048x128) off S256x128.size inb).toLoadRect f
      = rowsAt (M.view.read (Elt F) f) b := by
  subst hoff
  funext x
  refine (View.readAt_apply _ _ _).trans (congrArg (M.view.read (Elt F) f) (funext fun a => Fin.ext ?_))
  have h0 : (x 0).val < 256 := (x 0).isLt
  fin_cases a
  · show 256 * b + 1 * (x 0).val = (256 * b + (x 0).val) % 2048
    omega
  · show 0 + 1 * (x 1).val = (x 1).val
    omega

/-- Storing a block of rows of a whole 2048-row buffer. -/
theorem read_store_rows {κ : Kind} {sp : Space} {e : EltTy} (M : Memref sig κ sp S2048x128 e) (f : M.view.ty.Contents (Elt F)) (b : ℕ)
    {off : Fin 2 → ℕ} (inb : ∀ a : Fin 2, off a + S256x128.size a ≤ S2048x128.size a) (hoff : off = ![256 * b, 0])
    (w : Vec F S256x128 e) (L : List (View.Piece (Elt F) S2048x128 e)) :
    M.view.read (Elt F) (M.view.writes (Elt F) f (⟨Rect.unit (s := S2048x128) off S256x128.size inb, w⟩ :: L))
      = putRows (M.view.read (Elt F) (M.view.writes (Elt F) f L)) b w := by
  funext y
  refine (View.read_writes_cons_rows M.view f inb w L y hoff rfl rfl).trans ?_
  unfold putRows
  by_cases h : 256 * b ≤ (y 0).val ∧ (y 0).val < 256 * b + 256
  · rw [dif_pos h]
    refine (dif_pos (c := 256 * b ≤ (y 0).val ∧ (y 0).val < 256 * b + 256) h).trans (congrArg w (funext fun a => Fin.ext ?_))
    rw [Rect.unitLocal_val]
    fin_cases a
    · rfl
    · rfl
  · rw [dif_neg h]
    exact dif_neg (c := 256 * b ≤ (y 0).val ∧ (y 0).val < 256 * b + 256) h

theorem trips1 : k0_t1_loop.trips = 8 := by decide
theorem trips2 : ∀ k : Fin k0_t1_loop.trips, (k0_t2_loop k).trips = k.val := by decide
theorem trips3 : ∀ k : Fin k0_t1_loop.trips, (k0_t3_loop k).trips = 0 := by decide
theorem off1_eq : ∀ k : Fin k0_t1_loop.trips, k0_off1 k = ![256 * k.val, 0] := by decide
theorem off2_eq : ∀ k : Fin k0_t1_loop.trips, k0_off2 k = ![0, 256 * k.val, 0] := by decide
theorem off5_eq : ∀ k : Fin k0_t1_loop.trips, k0_off5 k = ![0, 256 * k.val, 0] := by decide
theorem off3_eq : ∀ (k : Fin k0_t1_loop.trips) (j : Fin (k0_t2_loop k).trips), k0_off3 k j = ![256 * j.val, 0] := by decide

theorem lt_trips2 (k : Fin k0_t1_loop.trips) (j : Fin (k0_t2_loop k).trips) : j.val < 8 := by
  have h1 : j.val < k.val := j.isLt.trans_eq (trips2 k)
  have h2 : k.val < 8 := k.isLt.trans_eq trips1
  omega

section
variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2048x128 .f32) (harg6 : arg6.IsWhole) (arg7 : Memref sig .tc .hbm S4096x4608 .bf16) (harg7 : arg7.IsWhole) (arg8 : Memref sig .tc .hbm S4096x4608 .bf16) (harg8 : arg8.IsWhole) (arg9 : Memref sig .tc .vmem S3x2048x128 .bf16) (harg9 : arg9.IsWhole) (arg10 : Memref sig .tc .vmem S2048x128 .f32) (harg10 : arg10.IsWhole) (arg11 : Memref sig .tc .vmem S2048x128 .f32) (harg11 : arg11.IsWhole) (arg12 : DmaSems sig S3)

/-- One tile below the diagonal. -/
theorem trip2 (k0_t1 : Fin k0_t1_loop.trips) (qb : Vec F S256x128 .bf16) (ob : Vec F S256x128 .f32) (lb : Vec F S1x256x128 .f32)
    (K V : Vec F S2048x128 .bf16) (dk dv : Vec F S2048x128 .f32) (k : Fin (k0_t2_loop k0_t1).trips) (acc : Carry F) :
    (iprop(owns (c : Thread nD τ) arg3 fullShare K ∗ owns (c : Thread nD τ) arg4 fullShare V
        ∗ owns (c : Thread nD τ) arg10 fullShare dk ∗ owns (c : Thread nD τ) arg11 fullShare dv) : sProp 𝕄)
      ⊢ wp frame (wpE (defs₀ (F := F)) Variants.none (c : Thread nD τ) none) Set.univ
          (k0_t2_body (F := F) i arg2 harg2 arg3 harg3 arg4 harg4 arg5 harg5 arg6 harg6 arg7 harg7 arg8 harg8 arg9 harg9 arg10 harg10 arg11 harg11 arg12 lanes k0_pay106 k0_pay107 tileRows tileCols k0_pay110 k0_pay111 k0_pay112 eighth 0#32 1#32 k0_t1 qb ob lb k acc)
          (fun yld => iprop(⌜yld = fullCarry qb ob lb (rowsAt K k.val) (rowsAt V k.val) acc⌝
            ∗ owns (c : Thread nD τ) arg3 fullShare K ∗ owns (c : Thread nD τ) arg4 fullShare V
            ∗ owns (c : Thread nD τ) arg10 fullShare (putRows dk k.val (fullDk qb ob lb (rowsAt K k.val) (rowsAt V k.val) acc (rowsAt dk k.val)))
            ∗ owns (c : Thread nD τ) arg11 fullShare (putRows dv k.val (fullDv qb ob lb (rowsAt K k.val) acc (rowsAt dv k.val))))) := by
  obtain ⟨a1, a2, a3, a4, a5⟩ := acc
  unfold k0_t2_body owns
  iintro ⟨⟨%f3, %h3, H3⟩, ⟨%f4, %h4, H4⟩, ⟨%f10, %h10, H10⟩, ⟨%f11, %h11, H11⟩⟩
  subst h3 h4 h10 h11
  have e3 : rowsAt (arg3.view.read (Elt F) f3) k.val = _ := (readAt_rows (F := F) arg3 f3 k.val (lt_trips2 k0_t1 k) (k0_off3_inb k0_t1 k) (off3_eq k0_t1 k)).symm
  have e4 : rowsAt (arg4.view.read (Elt F) f4) k.val = _ := (readAt_rows (F := F) arg4 f4 k.val (lt_trips2 k0_t1 k) (k0_off3_inb k0_t1 k) (off3_eq k0_t1 k)).symm
  have e10 : rowsAt (arg10.view.read (Elt F) f10) k.val = _ := (readAt_rows (F := F) arg10 f10 k.val (lt_trips2 k0_t1 k) (k0_off3_inb k0_t1 k) (off3_eq k0_t1 k)).symm
  have e11 : rowsAt (arg11.view.read (Elt F) f11) k.val = _ := (readAt_rows (F := F) arg11 f11 k.val (lt_trips2 k0_t1 k) (k0_off3_inb k0_t1 k) (off3_eq k0_t1 k)).symm
  rw [e3, e4, e10, e11]
  sl_exec
  sl_step
  isplitl []
  · ipureintro
    rfl
  isplitl [H3]
  · iexists f3
    isplitl []
    · ipureintro; rfl
    · iexact H3
  isplitl [H4]
  · iexists f4
    isplitl []
    · ipureintro; rfl
    · iexact H4
  isplitl [H10]
  · iexists _
    isplitl []
    rotate_left
    · iexact H10
    · ipureintro
      exact read_store_rows (F := F) arg10 f10 k.val (k0_off3_inb k0_t1 k) (off3_eq k0_t1 k) _ []
  · iexists _
    isplitl []
    rotate_left
    · iexact H11
    · ipureintro
      exact read_store_rows (F := F) arg11 f11 k.val (k0_off3_inb k0_t1 k) (off3_eq k0_t1 k) _ []

end
end Cert.KernelIdeal.Sb

end
-- ==== Proof.Sb.Sweep.lean ====
/-
  The tiles of one block of query rows, and the eight blocks, as steps of the kernel's memory.
-/
module

public import proofs.«01_k».proof.Proof.Sb.Trip

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Rows `[256 b, 256 b + 256)` of the row totals. -/
def totRows (L : Vec F S1x2048x128 .f32) (b : ℕ) : Vec F S1x256x128 .f32 :=
  fun x => L (fun a => ⟨if a = 0 then 0 else if a = 1 then (256 * b + (x 1).val) % 2048 else (x 2).val, by
    fin_cases a
    · show 0 < 1
      decide
    · exact Nat.mod_lt _ (by decide)
    · exact (x 2).isLt⟩)

/-- The three staged results with rows `[256 b, 256 b + 256)` of the first replaced. -/
def putStage (X : Vec F S3x2048x128 .bf16) (b : ℕ) (w : Vec F S1x256x128 .bf16) : Vec F S3x2048x128 .bf16 :=
  fun y => if h : (y 0).val = 0 ∧ 256 * b ≤ (y 1).val ∧ (y 1).val < 256 * b + 256 then
    w (fun a => ⟨if a = 0 then 0 else if a = 1 then (y 1).val - 256 * b else (y 2).val, by
      fin_cases a
      · show 0 < 1
        decide
      · show (y 1).val - 256 * b < 256
        omega
      · exact (y 2).isLt⟩) else X y

/-- The carried values and the key and value gradients after the first `j` tiles of a block of query rows. -/
def colSweep (qb : Vec F S256x128 .bf16) (ob : Vec F S256x128 .f32) (lb : Vec F S1x256x128 .f32)
    (K V : Vec F S2048x128 .bf16) (dk dv : Vec F S2048x128 .f32) :
    ℕ → Carry F × Vec F S2048x128 .f32 × Vec F S2048x128 .f32
  | 0 => (carry0, dk, dv)
  | j + 1 =>
    let s := colSweep qb ob lb K V dk dv j
    (fullCarry qb ob lb (rowsAt K j) (rowsAt V j) s.1,
      putRows s.2.1 j (fullDk qb ob lb (rowsAt K j) (rowsAt V j) s.1 (rowsAt s.2.1 j)),
      putRows s.2.2 j (fullDv qb ob lb (rowsAt K j) s.1 (rowsAt s.2.2 j)))

section
variable (Q : Vec F S2048x128 .bf16) (O : Vec F S2048x128 .f32) (L : Vec F S1x2048x128 .f32) (K V : Vec F S2048x128 .bf16)

/-- What block `b` of query rows leaves: after the tiles below the diagonal, the tile on it. -/
def block (b : ℕ) (s : Vec F S2048x128 .f32 × Vec F S2048x128 .f32 × Vec F S3x2048x128 .bf16) :
    Vec F S2048x128 .f32 × Vec F S2048x128 .f32 × Vec F S3x2048x128 .bf16 :=
  let u := colSweep (rowsAt Q b) (rowsAt O b) (totRows L b) K V s.1 s.2.1 b
  (putRows u.2.1 b (diagDk (rowsAt Q b) (rowsAt O b) (totRows L b) (rowsAt K b) (rowsAt V b) u.1 (rowsAt u.2.1 b)),
    putRows u.2.2 b (diagDv (rowsAt Q b) (rowsAt O b) (totRows L b) (rowsAt K b) u.1 (rowsAt u.2.2 b)),
    putStage s.2.2 b (diagDq (rowsAt Q b) (rowsAt O b) (totRows L b) (rowsAt K b) (rowsAt V b) u.1))

/-- The key gradient, the value gradient and the stage after the first `b` blocks of query rows. -/
def rowSweep (s : Vec F S2048x128 .f32 × Vec F S2048x128 .f32 × Vec F S3x2048x128 .bf16) :
    ℕ → Vec F S2048x128 .f32 × Vec F S2048x128 .f32 × Vec F S3x2048x128 .bf16
  | 0 => s
  | b + 1 => block Q O L K V b (rowSweep s b)
end

/-- Reading a block of rows of the row totals. -/
theorem readAt_tot (M : Memref sig .tc .vmem S1x2048x128 .f32) (f : M.view.ty.Contents (Elt F)) (b : ℕ)
    (hb : b < 8) {off : Fin 3 → ℕ} (inb : ∀ a : Fin 3, off a + S1x256x128.size a ≤ S1x2048x128.size a) (hoff : off = ![0, 256 * b, 0]) :
    M.view.readAt (Elt F) (Rect.unit (s := S1x2048x128) off S1x256x128.size inb).toLoadRect f
      = totRows (M.view.read (Elt F) f) b := by
  subst hoff
  funext x
  refine (View.readAt_apply _ _ _).trans (congrArg (M.view.read (Elt F) f) (funext fun a => Fin.ext ?_))
  have h0 : (x 0).val < 1 := (x 0).isLt
  have h1 : (x 1).val < 256 := (x 1).isLt
  fin_cases a
  · show 0 + 1 * (x 0).val = 0
    omega
  · show 256 * b + 1 * (x 1).val = (256 * b + (x 1).val) % 2048
    omega
  · show 0 + 1 * (x 2).val = (x 2).val
    omega

/-- Storing a block of rows of the first staged result. -/
theorem read_store_stage (M : Memref sig .tc .vmem S3x2048x128 .bf16) (f : M.view.ty.Contents (Elt F)) (b : ℕ)
    {off : Fin 3 → ℕ} (inb : ∀ a : Fin 3, off a + S1x256x128.size a ≤ S3x2048x128.size a) (hoff : off = ![0, 256 * b, 0])
    (w : Vec F S1x256x128 .bf16) :
    M.view.read (Elt F) (M.view.writes (Elt F) f [⟨Rect.unit (s := S3x2048x128) off S1x256x128.size inb, w⟩])
      = putStage (M.view.read (Elt F) f) b w := by
  funext y
  unfold putStage
  by_cases h : (y 0).val = 0 ∧ 256 * b ≤ (y 1).val ∧ (y 1).val < 256 * b + 256
  · rw [dif_pos h]
    refine View.read_writes_cons_unit_of_mem M.view f inb w [] y _ hoff fun a => ?_
    fin_cases a
    · show (y 0).val = 0 + 0
      omega
    · show (y 1).val = 256 * b + ((y 1).val - 256 * b)
      omega
    · show (y 2).val = 0 + (y 2).val
      omega
  · rw [dif_neg h]
    by_cases h0 : (y 0).val = 0
    · refine View.read_writes_cons_unit_of_not_mem M.view f inb w [] y hoff (1 : Fin 3) ?_
      show (y 1).val < 256 * b ∨ 256 * b + 256 ≤ (y 1).val
      omega
    · refine View.read_writes_cons_unit_of_not_mem M.view f inb w [] y hoff (0 : Fin 3) ?_
      show (y 0).val < 0 ∨ 0 + 1 ≤ (y 0).val
      omega

section
variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2048x128 .f32) (harg6 : arg6.IsWhole) (arg7 : Memref sig .tc .hbm S4096x4608 .bf16) (harg7 : arg7.IsWhole) (arg8 : Memref sig .tc .hbm S4096x4608 .bf16) (harg8 : arg8.IsWhole) (arg9 : Memref sig .tc .vmem S3x2048x128 .bf16) (harg9 : arg9.IsWhole) (arg10 : Memref sig .tc .vmem S2048x128 .f32) (harg10 : arg10.IsWhole) (arg11 : Memref sig .tc .vmem S2048x128 .f32) (harg11 : arg11.IsWhole) (arg12 : DmaSems sig S3)

set_option maxHeartbeats 2000000 in
/-- One block of query rows: the tiles below the diagonal, the tile on it, and the staged query gradient. -/
theorem trip1 (Q : Vec F S2048x128 .bf16) (O : Vec F S2048x128 .f32) (L : Vec F S1x2048x128 .f32) (K V : Vec F S2048x128 .bf16)
    (dk dv : Vec F S2048x128 .f32) (stg : Vec F S3x2048x128 .bf16) (k : Fin k0_t1_loop.trips) (acc : Unit) :
    (iprop(owns (c : Thread nD τ) arg2 fullShare Q ∗ owns (c : Thread nD τ) arg5 fullShare O ∗ owns (c : Thread nD τ) arg6 fullShare L
        ∗ owns (c : Thread nD τ) arg3 fullShare K ∗ owns (c : Thread nD τ) arg4 fullShare V
        ∗ owns (c : Thread nD τ) arg10 fullShare dk ∗ owns (c : Thread nD τ) arg11 fullShare dv
        ∗ owns (c : Thread nD τ) arg9 fullShare stg) : sProp 𝕄)
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 lanes tileRows tileCols eighth k acc)
          (fun _ => iprop(owns (c : Thread nD τ) arg2 fullShare Q ∗ owns (c : Thread nD τ) arg5 fullShare O ∗ owns (c : Thread nD τ) arg6 fullShare L
            ∗ owns (c : Thread nD τ) arg3 fullShare K ∗ owns (c : Thread nD τ) arg4 fullShare V
            ∗ owns (c : Thread nD τ) arg10 fullShare (block Q O L K V k.val (dk, dv, stg)).1
            ∗ owns (c : Thread nD τ) arg11 fullShare (block Q O L K V k.val (dk, dv, stg)).2.1
            ∗ owns (c : Thread nD τ) arg9 fullShare (block Q O L K V k.val (dk, dv, stg)).2.2)) := by
  have hk : k.val < 8 := k.isLt.trans_eq trips1
  unfold k0_t1_body
  iintro ⟨H2, H5, H6, H3, H4, H10, H11, H9⟩
  unfold owns
  icases H2 with ⟨%f2, %h2, H2⟩
  icases H5 with ⟨%f5, %h5, H5⟩
  icases H6 with ⟨%f6, %h6, H6⟩
  subst h2 h5 h6
  have e2 := readAt_rows (F := F) arg2 f2 k.val hk (k0_off1_inb k) (off1_eq k)
  have e5 := readAt_rows (F := F) arg5 f5 k.val hk (k0_off1_inb k) (off1_eq k)
  have e6 := readAt_tot (F := F) arg6 f6 k.val hk (k0_off2_inb k) (off2_eq k)
  unfold block
  sl_exec
  sl_for (fun j acc => iprop(⌜acc = (colSweep (rowsAt (arg2.view.read (Elt F) f2) k.val) (rowsAt (arg5.view.read (Elt F) f5) k.val) (totRows (arg6.view.read (Elt F) f6) k.val) K V dk dv j).1⌝
      ∗ owns (c : Thread nD τ) arg3 fullShare K ∗ owns (c : Thread nD τ) arg4 fullShare V
      ∗ owns (c : Thread nD τ) arg10 fullShare (colSweep (rowsAt (arg2.view.read (Elt F) f2) k.val) (rowsAt (arg5.view.read (Elt F) f5) k.val) (totRows (arg6.view.read (Elt F) f6) k.val) K V dk dv j).2.1
      ∗ owns (c : Thread nD τ) arg11 fullShare (colSweep (rowsAt (arg2.view.read (Elt F) f2) k.val) (rowsAt (arg5.view.read (Elt F) f5) k.val) (totRows (arg6.view.read (Elt F) f6) k.val) K V dk dv j).2.2)) $$ [H3 H4 H10 H11]
  · intro j acc
    iintro ⟨%hacc, H⟩
    subst hacc
    iapply wp_wand_r
    isplitl [H]
    · iapply (trip2 (F := F) c i arg2 harg2 arg3 harg3 arg4 harg4 arg5 harg5 arg6 harg6 arg7 harg7 arg8 harg8 arg9 harg9 arg10 harg10 arg11 harg11 arg12 k _ _ _ K V _ _ j _)
      iexact H
    · iintro %y H
      iexact H
  · isplitl []
    · ipureintro; rfl
    unfold owns
    isplitl [H3]
    · iexact H3
    isplitl [H4]
    · iexact H4
    isplitl [H10]
    · iexact H10
    · iexact H11
  irw [show Scf.trips (k0_t2_loop k).lb (k0_t2_loop k).ub (k0_t2_loop k).st = k.val from trips2 k]
  iintro %acc ⟨%hacc, H3, H4, H10, H11⟩
  sl_exec
  sl_for (fun j acc' => iprop(⌜acc' = acc⌝)) $$ []
  · intro j
    exact absurd (j.isLt.trans_eq (trips3 k)) (Nat.not_lt_zero _)
  · ipureintro; rfl
  iintro %acc' %hacc'
  subst hacc' hacc
  generalize colSweep (rowsAt (arg2.view.read (Elt F) f2) k.val) (rowsAt (arg5.view.read (Elt F) f5) k.val) (totRows (arg6.view.read (Elt F) f6) k.val) K V dk dv k.val = u
  obtain ⟨⟨u1, u2, u3, u4, u5⟩, udk, udv⟩ := u
  unfold owns
  icases H3 with ⟨%f3, %h3, H3⟩
  icases H4 with ⟨%f4, %h4, H4⟩
  icases H9 with ⟨%f9, %h9, H9⟩
  icases H10 with ⟨%f10, %h10, H10⟩
  icases H11 with ⟨%f11, %h11, H11⟩
  change arg10.view.read (Elt F) f10 = udk at h10
  change arg11.view.read (Elt F) f11 = udv at h11
  subst h3 h4 h9 h10 h11
  dsimp only
  have e3 := readAt_rows (F := F) arg3 f3 k.val hk (k0_off1_inb k) (off1_eq k)
  have e4 := readAt_rows (F := F) arg4 f4 k.val hk (k0_off1_inb k) (off1_eq k)
  have e10 := readAt_rows (F := F) arg10 f10 k.val hk (k0_off1_inb k) (off1_eq k)
  have e11 := readAt_rows (F := F) arg11 f11 k.val hk (k0_off1_inb k) (off1_eq k)
  sl_exec
  sl_step
  isplitl [H2]
  · iexists f2
    isplitl []
    · ipureintro; rfl
    · iexact H2
  isplitl [H5]
  · iexists f5
    isplitl []
    · ipureintro; rfl
    · iexact H5
  isplitl [H6]
  · iexists f6
    isplitl []
    · ipureintro; rfl
    · iexact H6
  isplitl [H3]
  · iexists f3
    isplitl []
    · ipureintro; rfl
    · iexact H3
  isplitl [H4]
  · iexists f4
    isplitl []
    · ipureintro; rfl
    · iexact H4
  isplitl [H10]
  · iexists _
    isplitl []
    rotate_left
    · iexact H10
    · ipureintro
      exact read_store_rows (F := F) arg10 f10 k.val (k0_off1_inb k) (off1_eq k) _ []
  isplitl [H11]
  · iexists _
    isplitl []
    rotate_left
    · iexact H11
    · ipureintro
      exact read_store_rows (F := F) arg11 f11 k.val (k0_off1_inb k) (off1_eq k) _ []
  · iexists _
    isplitl []
    rotate_left
    · iexact H9
    · ipureintro
      exact read_store_stage (F := F) arg9 f9 k.val (k0_off5_inb k) (off5_eq k) _

end
end Cert.KernelIdeal.Sb

end
-- ==== Proof.Sb.Acc.lean ====
/-
  What the eight blocks of query rows leave, without the stage's former contents: the two accumulators, and the query
  gradient row by row.
-/
module

public import proofs.«01_k».proof.Proof.Sb.Sweep
public import Idealize.ShloMosaic.Lib.ValueLayout

@[expose] public section

noncomputable section

namespace Cert.KernelIdeal.Sb

open Cert.KernelIdeal Cert.KernelIdeal.Gen
open Idealize.ShloMosaic Idealize.ShloMosaic.ValueIdx

variable {F : FTy → Type} [FloatOps F]

/-- The carried values after the first `j` tiles of a block of query rows. -/
def carries (qb : Vec F S256x128 .bf16) (ob : Vec F S256x128 .f32) (lb : Vec F S1x256x128 .f32)
    (K V : Vec F S2048x128 .bf16) : ℕ → Carry F
  | 0 => carry0
  | j + 1 => fullCarry qb ob lb (rowsAt K j) (rowsAt V j) (carries qb ob lb K V j)

theorem colSweep_carry (qb : Vec F S256x128 .bf16) (ob : Vec F S256x128 .f32) (lb : Vec F S1x256x128 .f32)
    (K V : Vec F S2048x128 .bf16) (dk dv : Vec F S2048x128 .f32) (j : ℕ) :
    (colSweep qb ob lb K V dk dv j).1 = carries qb ob lb K V j := by
  induction j with
  | zero => rfl
  | succ j ih => simp only [colSweep, carries, ih]

section
variable (Q : Vec F S2048x128 .bf16) (O : Vec F S2048x128 .f32) (L : Vec F S1x2048x128 .f32) (K V : Vec F S2048x128 .bf16)

/-- The carried values of block `b` of query rows after its first `j` tiles. -/
abbrev carry (b j : ℕ) : Carry F := carries (rowsAt Q b) (rowsAt O b) (totRows L b) K V j

/-- What block `b` of query rows leaves in the key and value accumulators. -/
def blockAcc (b : ℕ) (s : Vec F S2048x128 .f32 × Vec F S2048x128 .f32) : Vec F S2048x128 .f32 × Vec F S2048x128 .f32 :=
  let u := colSweep (rowsAt Q b) (rowsAt O b) (totRows L b) K V s.1 s.2 b
  (putRows u.2.1 b (diagDk (rowsAt Q b) (rowsAt O b) (totRows L b) (rowsAt K b) (rowsAt V b) (carry Q O L K V b b) (rowsAt u.2.1 b)),
    putRows u.2.2 b (diagDv (rowsAt Q b) (rowsAt O b) (totRows L b) (rowsAt K b) (carry Q O L K V b b) (rowsAt u.2.2 b)))

/-- The key and value accumulators after the first `b` blocks of query rows. -/
def accs : ℕ → Vec F S2048x128 .f32 × Vec F S2048x128 .f32
  | 0 => (k0_pay108, k0_pay109)
  | b + 1 => blockAcc Q O L K V b (accs b)

/-- Block `b` of the query gradient. -/
def dqBlock (b : ℕ) : Vec F S1x256x128 .bf16 :=
  diagDq (rowsAt Q b) (rowsAt O b) (totRows L b) (rowsAt K b) (rowsAt V b) (carry Q O L K V b b)

/-- The query gradient. -/
def dqAll : Vec F S2048x128 .bf16 := fun y =>
  dqBlock Q O L K V ((y 0).val / 256) (ix3 (0 : Fin 1) ⟨(y 0).val % 256, Nat.mod_lt _ (by decide)⟩ (y 1))

theorem rowSweep_acc (st : Vec F S3x2048x128 .bf16) (n : ℕ) :
    (rowSweep Q O L K V (k0_pay108, k0_pay109, st) n).1 = (accs Q O L K V n).1
      ∧ (rowSweep Q O L K V (k0_pay108, k0_pay109, st) n).2.1 = (accs Q O L K V n).2 := by
  induction n with
  | zero => exact ⟨rfl, rfl⟩
  | succ n ih => constructor <;> simp only [rowSweep, block, accs, blockAcc, ih.1, ih.2, colSweep_carry]

theorem rowSweep_stage (st : Vec F S3x2048x128 .bf16) (n : ℕ) (p : Fin 2048) (q : Fin 128) (h : p.val < 256 * n) :
    (rowSweep Q O L K V (k0_pay108, k0_pay109, st) n).2.2 (ix3 (0 : Fin 3) p q) = dqAll Q O L K V (ix2 p q) := by
  induction n with
  | zero => exact absurd h (by omega)
  | succ n ih =>
    show putStage _ n _ (ix3 (0 : Fin 3) p q) = _
    unfold putStage
    by_cases hp : 256 * n ≤ p.val
    · rw [dif_pos ⟨rfl, hp, by
        show p.val < 256 * n + 256
        omega⟩, colSweep_carry]
      have hn : p.val / 256 = n := by omega
      show dqBlock Q O L K V n _ = dqBlock Q O L K V (p.val / 256) _
      rw [hn]
      refine congrArg _ (funext fun a => Fin.ext ?_)
      fin_cases a
      · rfl
      · show p.val - 256 * n = p.val % 256
        omega
      · rfl
    · rw [dif_neg fun hh => hp hh.2.1]
      exact ih (by omega)

/-- One staged result as a matrix. -/
def slot (w : Vec F S1x2048x128 .bf16) : Vec F S2048x128 .bf16 := fun y => w (ix3 (0 : Fin 1) (y 0) (y 1))

/-- The three results a point copies out: the gradients of the queries, the keys and the values. -/
def sent (r : Fin 3) : Vec F S2048x128 .bf16 :=
  match r with
  | 0 => dqAll Q O L K V
  | 1 => slot (k0_pay113 (accs Q O L K V 8).1)
  | 2 => slot (k0_pay114 (accs Q O L K V 8).2)
end

end Cert.KernelIdeal.Sb

end
-- ==== Proof.Sb.Body.lean ====
/-
  One run of the kernel body: the eight blocks of query rows, the two accumulators staged, and the three copies into
  the result.
-/
module

public import proofs.«01_k».proof.Proof.Sb.Acc

@[expose] public section

set_option maxRecDepth 16384

noncomputable section

namespace Cert.KernelIdeal.Sb

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x2048x128 .f32) (harg6 : arg6.IsWhole)

/-- The result, left in HBM. -/
abbrev outM : Memref sig .tc .hbm S4096x4608 .bf16 := Memref.whole main_v26
/-- The stage and the two accumulators. -/
abbrev stgM : Memref sig .tc .vmem S3x2048x128 .bf16 := Memref.whole cc0_scratch0
abbrev dkM : Memref sig .tc .vmem S2048x128 .f32 := Memref.whole cc0_scratch1
abbrev dvM : Memref sig .tc .vmem S2048x128 .f32 := Memref.whole cc0_scratch2
abbrev OutBuf (c : Dev nD) : Type := Buf (Elt F) (outM.view.loc (c : Thread nD τ))

/-- The whole result, held at contents `f`. -/
abbrev outPt (c : Dev nD) (f : OutBuf (F := F) c) : sProp 𝕄 :=
  outM.view.loc (c : Thread nD τ) ↦{fullShare} f

/-- The window of the result that copy `r` at point `i` writes. -/
abbrev outWin (r : Fin 3) : Memref sig .tc .hbm S2048x128 .bf16 :=
  outM.slice (Rect.unit (s := S4096x4608) (k0_off6 i (BitVec.ofNat 32 (8 * r.val))) S2048x128.size (k0_off6_inb i r)) (fun _ => rfl)

/-- A store of every row of a 2048-row buffer leaves what was stored. -/
theorem read_store_all {e : EltTy} (M : Memref sig .tc .vmem S2048x128 e) (f : M.view.ty.Contents (Elt F))
    (inb : ∀ a : Fin 2, (![0, 0] : Fin 2 → ℕ) a + S2048x128.size a ≤ S2048x128.size a) (w : Vec F S2048x128 e) :
    M.view.read (Elt F) (M.view.writes (Elt F) f [⟨Rect.unit (s := S2048x128) ![0, 0] S2048x128.size inb, w⟩]) = w := by
  funext y
  exact View.read_writes_cons_unit_of_mem M.view f inb w [] y y rfl fun a => by
    fin_cases a
    · exact (Nat.zero_add _).symm
    · exact (Nat.zero_add _).symm

/-- A load of every row of a 2048-row buffer. -/
theorem readAt_all {e : EltTy} (M : Memref sig .tc .vmem S2048x128 e) (f : M.view.ty.Contents (Elt F))
    (inb : ∀ a : Fin 2, (![0, 0] : Fin 2 → ℕ) a + S2048x128.size a ≤ S2048x128.size a) :
    M.view.readAt (Elt F) (Rect.unit (s := S2048x128) ![0, 0] S2048x128.size inb).toLoadRect f = M.view.read (Elt F) f := by
  funext x
  refine (View.readAt_apply _ _ _).trans (congrArg (M.view.read (Elt F) f) (funext fun a => Fin.ext ?_))
  fin_cases a
  · show 0 + 1 * (x 0).val = (x 0).val
    omega
  · show 0 + 1 * (x 1).val = (x 1).val
    omega

/-- One staged result, read through its window. -/
theorem read_slot (f : (stgM.view).ty.Contents (Elt F)) (j : Fin 3)
    {off : Fin 3 → ℕ} (inb : ∀ a : Fin 3, off a + S1x2048x128.size a ≤ S3x2048x128.size a) (hs)
    (hoff : off = ![j.val, 0, 0]) :
    View.read (Elt F) ((stgM.slice (Rect.unit (s := S3x2048x128) off S1x2048x128.size inb) hs).squeeze S2048x128 squeezes_S1x2048x128_S2048x128).view f
      = fun y => stgM.view.read (Elt F) f (ix3 j (y 0) (y 1)) := by
  subst hoff
  funext y
  have hy : Shape.reshapeEquiv squeezes_S1x2048x128_S2048x128.numel_eq y = ix3 (⟨0, Nat.one_pos⟩ : Fin 1) (y 0) (y 1) :=
    (congrArg _ (eq_ix2 y)).trans (reshapeEquiv_ix2_1ab squeezes_S1x2048x128_S2048x128.numel_eq (y 0) (y 1))
  show stgM.view.read (Elt F) f ((Rect.unit (s := S3x2048x128) ![j.val, 0, 0] S1x2048x128.size inb).emb
    (Shape.reshapeEquiv squeezes_S1x2048x128_S2048x128.numel_eq y)) = _
  rw [hy]
  refine congrArg _ (funext fun a => Fin.ext ?_)
  fin_cases a
  · show j.val + 1 * 0 = j.val
    omega
  · show 0 + 1 * (y 0).val = (y 0).val
    omega
  · show 0 + 1 * (y 1).val = (y 1).val
    omega

/-- A buffer held at contents nothing names. -/
theorem owns_some {S : Shape} {e : EltTy} (M : Memref sig .tc .vmem S e) (f : M.view.ty.Contents (Elt F)) :
    (M.view.loc (c : Thread nD τ) ↦[M.view.set]{fullShare} f : sProp 𝕄)
      ⊢ iprop(∃ d, ∃ f, ⌜M.view.read (Elt F) f = d⌝ ∗ M.view.loc (c : Thread nD τ) ↦[M.view.set]{fullShare} f) := by
  iintro H
  iexists (M.view.read (Elt F) f)
  iexists f
  isplitl []
  · ipureintro
    rfl
  · iexact H

section
variable (g : (stgM.view).ty.Contents (Elt F)) (w1 w2 : Vec F S1x2048x128 .bf16)

/-- The stage after its second and third results are stored. -/
abbrev staged : (stgM.view).ty.Contents (Elt F) :=
  stgM.view.writes (Elt F) g
    [⟨Rect.unit (s := S3x2048x128) ![2, 0, 0] S1x2048x128.size inb_S3x2048x128_S1x2048x128_2_0_0, w2⟩,
      ⟨Rect.unit (s := S3x2048x128) ![1, 0, 0] S1x2048x128.size inb_S3x2048x128_S1x2048x128_1_0_0, w1⟩]

theorem staged_two (p : Fin 2048) (q : Fin 128) :
    stgM.view.read (Elt F) (staged g w1 w2) (ix3 (2 : Fin 3) p q) = w2 (ix3 (0 : Fin 1) p q) := by
  refine View.read_writes_cons_unit_of_mem stgM.view g _ w2 _ _ _ rfl fun a => ?_
  fin_cases a
  · rfl
  · exact (Nat.zero_add _).symm
  · exact (Nat.zero_add _).symm

theorem staged_one (p : Fin 2048) (q : Fin 128) :
    stgM.view.read (Elt F) (staged g w1 w2) (ix3 (1 : Fin 3) p q) = w1 (ix3 (0 : Fin 1) p q) := by
  refine (View.read_writes_cons_unit_of_not_mem stgM.view g _ w2 _ _ rfl (0 : Fin 3) (Or.inl ?_)).trans ?_
  · show 1 < 2
    decide
  refine View.read_writes_cons_unit_of_mem stgM.view g _ w1 _ _ _ rfl fun a => ?_
  fin_cases a
  · rfl
  · exact (Nat.zero_add _).symm
  · exact (Nat.zero_add _).symm

theorem staged_zero (p : Fin 2048) (q : Fin 128) :
    stgM.view.read (Elt F) (staged g w1 w2) (ix3 (0 : Fin 3) p q) = stgM.view.read (Elt F) g (ix3 (0 : Fin 3) p q) := by
  refine (View.read_writes_cons_unit_of_not_mem stgM.view g _ w2 _ _ rfl (0 : Fin 3) (Or.inl ?_)).trans ?_
  · show 0 < 2
    decide
  refine View.read_writes_cons_unit_of_not_mem stgM.view g _ w1 _ _ rfl (0 : Fin 3) (Or.inl ?_)
  show 0 < 1
  decide
end

/-- The result after the point's three copies. -/
def landed (Q : Vec F S2048x128 .bf16) (O : Vec F S2048x128 .f32) (L : Vec F S1x2048x128 .f32) (K V : Vec F S2048x128 .bf16)
    (G : OutBuf (F := F) c) : OutBuf (F := F) c :=
  (outWin i 2).view.write (Elt F) ((outWin i 1).view.write (Elt F) ((outWin i 0).view.write (Elt F) G
    (sent Q O L K V 0) Finset.univ) (sent Q O L K V 1) Finset.univ) (sent Q O L K V 2) Finset.univ

set_option maxHeartbeats 2000000 in
theorem body (Q : Vec F S2048x128 .bf16) (O : Vec F S2048x128 .f32) (L : Vec F S1x2048x128 .f32) (K V : Vec F S2048x128 .bf16)
    (G : OutBuf (F := F) c) (W : Waits sig Unit) (Ψ : PUnit → sProp 𝕄) :
    iprop(owns (c : Thread nD τ) arg2 fullShare Q ∗ owns (c : Thread nD τ) arg5 fullShare O ∗ owns (c : Thread nD τ) arg6 fullShare L
        ∗ owns (c : Thread nD τ) arg3 fullShare K ∗ owns (c : Thread nD τ) arg4 fullShare V
        ∗ (∃ d, owns (c : Thread nD τ) stgM fullShare d) ∗ (∃ d, owns (c : Thread nD τ) dkM fullShare d) ∗ (∃ d, owns (c : Thread nD τ) dvM fullShare d)
        ∗ semVal ((c : Thread nD τ), SemLoc.dma 10) 0 ∗ semVal ((c : Thread nD τ), SemLoc.dma 11) 0 ∗ semVal ((c : Thread nD τ), SemLoc.dma 12) 0
        ∗ outPt c G
        ∗ owes (c : Thread nD τ) 0 W
        ∗ (iprop(owns (c : Thread nD τ) arg2 fullShare Q ∗ owns (c : Thread nD τ) arg5 fullShare O ∗ owns (c : Thread nD τ) arg6 fullShare L
            ∗ owns (c : Thread nD τ) arg3 fullShare K ∗ owns (c : Thread nD τ) arg4 fullShare V
            ∗ (∃ d, owns (c : Thread nD τ) stgM fullShare d) ∗ (∃ d, owns (c : Thread nD τ) dkM fullShare d) ∗ (∃ d, owns (c : Thread nD τ) dvM fullShare d)
            ∗ semVal ((c : Thread nD τ), SemLoc.dma 10) 0 ∗ semVal ((c : Thread nD τ), SemLoc.dma 11) 0 ∗ semVal ((c : Thread nD τ), SemLoc.dma 12) 0
            ∗ outPt c (landed c i Q O L K V G)
            ∗ owes (c : Thread nD τ) 0 (insert (SemLoc.dma 12, default) (insert (SemLoc.dma 11, default) (insert (SemLoc.dma 10, default) W)))) -∗ Ψ ⟨⟩))
      ⊢ wp frame (wpE (defs₀ (F := F)) Variants.none (c : Thread nD τ) none) Set.univ
          (cc0_sb_bwd i arg2 harg2 arg3 harg3 arg4 harg4 arg5 harg5 arg6 harg6 outM (Memref.isWhole_whole _) outM (Memref.isWhole_whole _) stgM (Memref.isWhole_whole _) dkM (Memref.isWhole_whole _) dvM (Memref.isWhole_whole _) cc0_scratch3) Ψ := by
  simp only [cc0_sb_bwd_eq_skeleton]; unfold cc0_sb_bwd_skel
  iintro ⟨H2, H5, H6, H3, H4, ⟨%stg, H9⟩, ⟨%dk, H10⟩, ⟨%dv, H11⟩, Hs0, Hs1, Hs2, Hh, HW, Hk⟩
  unfold owns
  icases H10 with ⟨%f10, %h10, H10⟩
  icases H11 with ⟨%f11, %h11, H11⟩
  sl_exec
  sl_for (fun k _ => iprop(owns (c : Thread nD τ) arg2 fullShare Q ∗ owns (c : Thread nD τ) arg5 fullShare O ∗ owns (c : Thread nD τ) arg6 fullShare L
      ∗ owns (c : Thread nD τ) arg3 fullShare K ∗ owns (c : Thread nD τ) arg4 fullShare V
      ∗ owns (c : Thread nD τ) dkM fullShare (rowSweep Q O L K V (k0_pay108, k0_pay109, stg) k).1
      ∗ owns (c : Thread nD τ) dvM fullShare (rowSweep Q O L K V (k0_pay108, k0_pay109, stg) k).2.1
      ∗ owns (c : Thread nD τ) stgM fullShare (rowSweep Q O L K V (k0_pay108, k0_pay109, stg) k).2.2)) $$ [H2 H5 H6 H3 H4 H10 H11 H9]
  · intro k acc
    exact trip1 (F := F) c i arg2 harg2 arg3 harg3 arg4 harg4 arg5 harg5 arg6 harg6 outM (Memref.isWhole_whole _) outM (Memref.isWhole_whole _)
      stgM (Memref.isWhole_whole _) dkM (Memref.isWhole_whole _) dvM (Memref.isWhole_whole _) cc0_scratch3 Q O L K V _ _ _ k acc
  · unfold owns
    isplitl [H2]
    · iexact H2
    isplitl [H5]
    · iexact H5
    isplitl [H6]
    · iexact H6
    isplitl [H3]
    · iexact H3
    isplitl [H4]
    · iexact H4
    isplitl [H10]
    · iexists _
      isplitl []
      rotate_left
      · iexact H10
      · ipureintro
        exact read_store_all dkM _ _ _
    isplitl [H11]
    · iexists _
      isplitl []
      rotate_left
      · iexact H11
      · ipureintro
        exact read_store_all dvM _ _ _
    · iexact H9
  irw [show Scf.trips k0_t1_loop.lb k0_t1_loop.ub k0_t1_loop.st = 8 from trips1]
  iintro %acc ⟨H2, H5, H6, H3, H4, H10, H11, H9⟩
  obtain ⟨r1, r2⟩ := rowSweep_acc Q O L K V stg 8
  have r3 := fun p q => rowSweep_stage Q O L K V stg 8 p q p.isLt
  generalize rowSweep Q O L K V (k0_pay108, k0_pay109, stg) 8 = u at r1 r2 r3
  unfold owns
  icases H10 with ⟨%g10, %e10, H10⟩
  icases H11 with ⟨%g11, %e11, H11⟩
  icases H9 with ⟨%g9, %e9, H9⟩
  set_option sl_exec.dmaWindow true in
  sl_exec
  sl_step
  have d10 : View.readAt (Elt F) dkM.view (Rect.unit (s := S2048x128) ![0, 0] S2048x128.size inb_S2048x128_S2048x128_0_0).toLoadRect g10
      = (accs Q O L K V 8).1 := (readAt_all dkM g10 _).trans (e10.trans r1)
  have d11 : View.readAt (Elt F) dvM.view (Rect.unit (s := S2048x128) ![0, 0] S2048x128.size inb_S2048x128_S2048x128_0_0).toLoadRect g11
      = (accs Q O L K V 8).2 := (readAt_all dvM g11 _).trans (e11.trans r2)
  have h : body.sl.Hh_w2 c i G g10 g11 g9 = landed c i Q O L K V G := by
    unfold body.sl.Hh_w2 body.sl.Hh_w1 body.sl.Hh_w0 body.sl.dma6 body.sl.dma6_1 body.sl.dma6_2 body.sl.H9_2
    rw [d10, d11]
    have t0 := (read_slot (staged g9 (k0_pay113 (accs Q O L K V 8).1) (k0_pay114 (accs Q O L K V 8).2)) 0
      inb_S3x2048x128_S1x2048x128_0_0_0 (fun _ => rfl) rfl).trans (b := _) (c := sent Q O L K V 0) (funext fun y =>
        (staged_zero g9 _ _ (y 0) (y 1)).trans ((congrFun e9 _).trans ((r3 (y 0) (y 1)).trans (congrArg _ (eq_ix2 y).symm))))
    have t1 := (read_slot (staged g9 (k0_pay113 (accs Q O L K V 8).1) (k0_pay114 (accs Q O L K V 8).2)) 1
      inb_S3x2048x128_S1x2048x128_1_0_0 (fun _ => rfl) rfl).trans (b := _) (c := sent Q O L K V 1) (funext fun y => staged_one g9 _ _ (y 0) (y 1))
    have t2 := (read_slot (staged g9 (k0_pay113 (accs Q O L K V 8).1) (k0_pay114 (accs Q O L K V 8).2)) 2
      inb_S3x2048x128_S1x2048x128_2_0_0 (fun _ => rfl) rfl).trans (b := _) (c := sent Q O L K V 2) (funext fun y => staged_two g9 _ _ (y 0) (y 1))
    unfold landed
    rw [← t0, ← t1, ← t2]
    rfl
  rw [h]
  iapply Hk
  isplitl [H2]
  · iexact H2
  isplitl [H5]
  · iexact H5
  isplitl [H6]
  · iexact H6
  isplitl [H3]
  · iexact H3
  isplitl [H4]
  · iexact H4
  isplitl [H9]
  · iapply (owns_some c stgM _)
    iexact H9
  isplitl [H10]
  · iapply (owns_some c dkM _)
    iexact H10
  isplitl [H11]
  · iapply (owns_some c dvM _)
    iexact H11
  isplitl [Hs0]
  · iexact Hs0
  isplitl [Hs1]
  · iexact Hs1
  isplitl [Hs2]
  · iexact Hs2
  isplitl [Hh]
  · iexact Hh
  iexact HW

end
end Cert.KernelIdeal.Sb

end
-- ==== Proof.Sb.Run.lean ====
/-
  The run of the whole program: the host operations, then the sixteen points, each leaving its three windows of the
  result.
-/
module

public import proofs.«01_k».proof.Proof.Sb.Body
public import proofs.«01_k».proof.Proof.Gen.KernelIdeal.Frame

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The three semaphores of the copies out. -/
abbrev osem0 : Fin 3 → SemLoc sig := fun j => (![SemLoc.dma 10, SemLoc.dma 11, SemLoc.dma 12] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0
          ∗ semVal ((c : Thread nD τ), SemLoc.dma 12) 0) := by
  rw [Pipeline.ownSems0_eq_of_list c osem0 [0, 1, 2] (by decide) (by decide)]; rfl

/-- The buffer the body's copies write. -/
abbrev R0 : Finset (Ref sig .tc) := {main_v26}

/-- The result after point `t`, over what it held before. -/
abbrev landedAt (c : Dev nD) (t : Fin cfg0.N) (G : OutBuf (F := F) c) : OutBuf (F := F) c :=
  landed c (grid0.coords t) (iblk m c 0 t) (iblk m c 3 t) (iblk m c 4 t) (iblk m c 1 t) (iblk m c 2 t) G

/-- The result after the first `n` points. -/
def resultAt (c : Dev nD) : ℕ → OutBuf (F := F) c
  | 0 => V m c main_v26
  | n + 1 => if h : n < cfg0.N then landedAt m c ⟨n, h⟩ (resultAt c n) else resultAt c n

/-- The buffers' contents after the first `n` points. -/
def contentsAt (n : ℕ) (c : Dev nD) : (b : Ref sig .tc) → Buf (Elt F) ((c : Thread nD τ).loc b) :=
  Function.update (V m c) main_v26 (resultAt m c n)

theorem PhiDRG0_eq (n : ℕ) (c : Dev nD) :
    (Pipeline.ΦDRG osem0 spec0 ∅ R0 (V m) (contentsAt m n) c : sProp 𝕄)
      = iprop(iprop((∃ d, owns (c : Thread nD τ) stgM fullShare d) ∗ (∃ d, owns (c : Thread nD τ) dkM fullShare d)
                ∗ (∃ d, owns (c : Thread nD τ) dvM fullShare d))
          ∗ (∃ r, prngReg c r)
          ∗ iprop(semVal ((c : Thread nD τ), SemLoc.dma 10) 0 ∗ semVal ((c : Thread nD τ), SemLoc.dma 11) 0
                  ∗ semVal ((c : Thread nD τ), SemLoc.dma 12) 0)
          ∗ emp
          ∗ outPt c (resultAt m c n)) := by
  rw [Pipeline.ΦDRG_eq, scopedRest0_eq, ownSems00_eq]
  unfold Pipeline.routed
  rw [BI.bigSep_empty, BI.bigSep_eq_bigSepL_of_eq [main_v26] (by decide) (by decide)]
  simp only [BI.bigSepL_singleton, contentsAt, Function.update_self, stgM, dkM, dvM, owns_whole]
  try rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Pipeline.ΦDRG osem0 spec0 ∅ R0 (V m) (contentsAt m t.val) c
  q := Pipeline.shareOf spec0
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

section
variable {c : Dev nD} (dat : Dat τ (Elt F) Unit ℕ (Pipeline.UD sig nD τ) ℕ cfg0 c)
theorem found0 (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1 (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2 (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3 (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4 (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [after0, after1, after2, after3, after4]
  rw [show (dats m 0 c).Φ t.castSucc = Pipeline.ΦDRG osem0 spec0 ∅ R0 (V m) (contentsAt m t.val) c from rfl,
    show (dats m 0 c).Φ t.succ = Pipeline.ΦDRG osem0 spec0 ∅ R0 (V m) (contentsAt m (t.val + 1)) c from rfl, PhiDRG0_eq, PhiDRG0_eq,
    show resultAt m c (t.val + 1) = landedAt m c t (resultAt m c t.val) from dif_pos t.isLt]
  unfold Dat.owesAt Pipeline.owesWithin
  rw [show (dats m 0 c).owed t.castSucc = 0 from rfl, show (dats m 0 c).owed t.succ = 0 from rfl]
  iintro ⟨⟨⟨HS0, HS1, HS2⟩, Hg, ⟨Hq0, Hq1, Hq2⟩, He, Hh⟩, ⟨%W, -, HW⟩, ⟨%d0, H0⟩, ⟨%d1, H1⟩, ⟨%d2, H2⟩, ⟨%d3, H3⟩, ⟨%d4, H4⟩⟩
  rw [found0 m (dats m 0 c) (A_eq m c 0) (after0 m c), found1 m (dats m 0 c) (A_eq m c 1) (after1 m c),
    found2 m (dats m 0 c) (A_eq m c 2) (after2 m c), found3 m (dats m 0 c) (A_eq m c 3) (after3 m c),
    found4 m (dats m 0 c) (A_eq m c 4) (after4 m c)]
  iapply (body (F := F) c (grid0.coords t) _ _ _ _ _ _ _ _ _ _ (iblk m c 0 t) (iblk m c 3 t) (iblk m c 4 t) (iblk m c 1 t) (iblk m c 2 t)
    (resultAt m c t.val) W _)
  isplitl [H0]; · iexact H0
  isplitl [H3]; · iexact H3
  isplitl [H4]; · iexact H4
  isplitl [H1]; · iexact H1
  isplitl [H2]; · iexact H2
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh]; · iexact Hh
  isplitl [HW]; · iexact HW
  iintro ⟨H0, H3, H4, H1, H2, HS0, HS1, HS2, Hq0, Hq1, Hq2, Hh, HW⟩
  isplitl [HS0 HS1 HS2 Hg Hq0 Hq1 Hq2 He Hh]
  · isplitl [HS0 HS1 HS2]
    · isplitl [HS0]; · iexact HS0
      isplitl [HS1]; · iexact HS1
      iexact HS2
    isplitl [Hg]; · iexact Hg
    isplitl [Hq0 Hq1 Hq2]
    · isplitl [Hq0]; · iexact Hq0
      isplitl [Hq1]; · iexact Hq1
      iexact Hq2
    isplitl [He]; · iexact He
    iexact Hh
  isplitl [HW]
  · iexists _
    isplitr
    rotate_left
    · iexact HW
    · ipureintro; exact fun _ _ => Or.inl trivial
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
theorem hmainUD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem contents_zero (c : Dev nD) : contentsAt m 0 c = V m c := Function.update_eq_self _ _

set_option backward.isDefEq.respectTransparency.types false in
theorem run_main : θ_run defs (onTc (τ := τ) (main (F := F))) (s₀ m ρ)
    (fun r => Pipeline.FramePostRG cfgs (dats m) 0 R0 (V m) (contentsAt m cfg0.N) r ∧ r.2.sem = fun _ => 0) :=
  Pipeline.θ_run_frame_dmaRG_shared (Q' := _) cfgs (dats m) (0 : Fin 1) launch₀0 osem0 defs₀ Variants.none ownSemFacts0 ∅ R0
    (by decide) (by decide) m ρ main
    (hbody := fun c => (body_obligation m c).loose) (hq := fun _ _ _ => rfl)
    (howed := fun _ _ => rfl) (V := V m) (hmain := hmainUD m Variants.none) (hA := A_eq m) (G := contentsAt m cfg0.N)
    (hin := fun c => by
      show _ ⊢ Pipeline.ΦDRG osem0 spec0 ∅ R0 (V m) (contentsAt m 0) c
      unfold Pipeline.ΦDRG
      rw [contents_zero]) (hout := fun _ => .rfl)

/-- The three arguments come out as they went in, the result holds the sixteen points' writes, every semaphore is back at zero. -/
theorem run_result : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v26) = resultAt m c cfg0.N)
      ∧ r.2.sem = fun _ => 0) :=
  (θ_run defs _ _).mono (fun r h => ⟨fun c => ⟨⟨
      ((h.1.toR c).1 2).trans (((dats m 0 c).arrAt_in 2 rfl _).trans ((A_eq m c 2).trans (V_main_arg0 m c))),
      ((h.1.toR c).1 3).trans (((dats m 0 c).arrAt_in 3 rfl _).trans ((A_eq m c 3).trans (V_main_arg1 m c))),
      ((h.1.toR c).2 main_arg2 (Finset.mem_sdiff.mpr ⟨Pipeline.mem_restRefs_of main_arg2 (by decide) (by decide), by decide⟩)).trans (V_main_arg2 m c)⟩,
      (h.1.written c (by decide)).trans (Function.update_self _ _ _)⟩, h.2⟩) (run_main m ρ)

end Cert.KernelIdeal.Sb

end
-- ==== Proof.Sb.Real.lean ====
/-
  One tile of the stick-breaking gradient over the reals: the softplus, the weights, their gradients, as real functions
  of a row number and a column number, and the few sums the kernel's payloads read as.
-/
module

public import proofs.«01_k».proof.Proof.Sb.Acc
public import Idealize.ShloMosaic.Lib.Pointwise

@[expose] public section

noncomputable section

namespace Cert.KernelIdeal.Sb

open Cert.KernelIdeal Cert.KernelIdeal.Gen
open Idealize.ShloMosaic Idealize.ShloMosaic.Pointwise
open Finset (range)

/-- A finite sum of reals, as an extended real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- log(1 + exp z). -/
def sp (z : ℝ) : ℝ := max z 0 + Real.log (1 + Real.exp (-|z|))

/-- The word of 1/8. -/
theorem eighth_val : Ideal.ofBits .bf16 0x3E00#16 = ((1 / 8 : ℝ) : EReal) := by
  simp [Ideal.ofBits, Ideal.ieee, -EReal.coe_mul]; norm_num

/-- What the kernel's softplus computes of a real. -/
theorem sp_val (z : ℝ) (y : EReal) (hy : y = (z : EReal)) :
    max y 0 + Ideal.log (1 + Ideal.exp (0 - max y (-y))) = ((sp z : ℝ) : EReal) := by
  subst hy
  have h0 : (0 : EReal) - max (z : EReal) (-(z : EReal)) = ((-|z| : ℝ) : EReal) := by
    rw [← EReal.coe_neg, ← EReal.coe_strictMono.monotone.map_max, zero_sub, ← EReal.coe_neg]
    rfl
  have h1 : max (z : EReal) 0 = ((max z 0 : ℝ) : EReal) := by
    rw [← EReal.coe_zero, ← EReal.coe_strictMono.monotone.map_max]
  have hp : ¬ (1 + Real.exp (-|z|) ≤ 0) := by have := Real.exp_pos (-|z|); linarith
  rw [h0, h1, Ideal.exp_coe, ← EReal.coe_one, ← EReal.coe_add, Ideal.log_coe, if_neg hp, ← EReal.coe_add]
  rfl

/-- The lane's head: 0 for the first 64 lanes. -/
theorem head0 (d : Fin 128) {α : Type} (x y : α) :
    Scalar.select (IntOp.cmpi CmpIPredicate.eq (IntOp.shrsi ArithUnit.vector (BitVec.ofNat 32 d.val) 6#32) 0#32) x y
      = if d.val / 64 = 0 then x else y := by
  have h : IntOp.cmpi CmpIPredicate.eq (IntOp.shrsi ArithUnit.vector (BitVec.ofNat 32 d.val) 6#32) 0#32
      = if d.val / 64 = 0 then 1#1 else 0#1 := by
    revert d; decide
  rw [h]; split <;> rfl

theorem head1 (d : Fin 128) {α : Type} (x y : α) :
    Scalar.select (IntOp.cmpi CmpIPredicate.eq (IntOp.shrsi ArithUnit.vector (BitVec.ofNat 32 d.val) 6#32) 1#32) x y
      = if d.val / 64 = 1 then x else y := by
  have h : IntOp.cmpi CmpIPredicate.eq (IntOp.shrsi ArithUnit.vector (BitVec.ofNat 32 d.val) 6#32) 1#32
      = if d.val / 64 = 1 then 1#1 else 0#1 := by
    revert d; decide
  rw [h]; split <;> rfl

theorem word_sle (a b : Fin 256) {α : Type} (x y : α) :
    Scalar.select (IntOp.cmpi CmpIPredicate.sle (BitVec.ofNat 32 a.val) (BitVec.ofNat 32 b.val)) x y
      = if a.val ≤ b.val then x else y := by
  have ha := a.isLt
  have hb := b.isLt
  have h : (BitVec.ofNat 32 a.val).sle (BitVec.ofNat 32 b.val) = decide (a.val ≤ b.val) := by
    rw [BitVec.sle_eq_decide, BitVec.toInt_ofNat', BitVec.toInt_ofNat', Int.bmod_eq_of_le (by omega) (by omega),
      Int.bmod_eq_of_le (by omega) (by omega)]
    simp
  show Scalar.select (BitVec.ofBool ((BitVec.ofNat 32 a.val).sle (BitVec.ofNat 32 b.val))) x y = _
  rw [h]; split <;> simp [*, Scalar.select]

theorem word_slt (a b : Fin 256) {α : Type} (x y : α) :
    Scalar.select (IntOp.cmpi CmpIPredicate.slt (BitVec.ofNat 32 a.val) (BitVec.ofNat 32 b.val)) x y
      = if a.val < b.val then x else y := by
  have ha := a.isLt
  have hb := b.isLt
  have h : (BitVec.ofNat 32 a.val).slt (BitVec.ofNat 32 b.val) = decide (a.val < b.val) := by
    rw [BitVec.slt_eq_decide, BitVec.toInt_ofNat', BitVec.toInt_ofNat', Int.bmod_eq_of_le (by omega) (by omega),
      Int.bmod_eq_of_le (by omega) (by omega)]
    simp
  show Scalar.select (BitVec.ofBool ((BitVec.ofNat 32 a.val).slt (BitVec.ofNat 32 b.val))) x y = _
  rw [h]; split <;> simp [*, Scalar.select]

/-- A sum over the numbers below 256 that counts only those up to `j`. -/
theorem sum_upto (f : ℕ → ℝ) (j : Fin 256) :
    ∑ x : Fin 256, ((f x.val : ℝ) : EReal) * (if x.val ≤ j.val then (1 : EReal) else 0)
      = ((∑ d ∈ range (j.val + 1), f d : ℝ) : EReal) := by
  have : ∀ x : Fin 256, ((f x.val : ℝ) : EReal) * (if x.val ≤ j.val then (1 : EReal) else 0)
      = (((if x.val ≤ j.val then f x.val else 0 : ℝ)) : EReal) := fun x => by split <;> simp
  rw [Finset.sum_congr rfl fun x _ => this x, coe_sum, Fin.sum_univ_eq_sum_range (fun x => if x ≤ j.val then f x else 0) 256,
    ← Finset.sum_filter]
  congr 2
  ext x
  simp only [Finset.mem_filter, Finset.mem_range]
  omega

theorem sum_before (f : ℕ → ℝ) (j : Fin 256) :
    ∑ x : Fin 256, ((f x.val : ℝ) : EReal) * (if x.val < j.val then (1 : EReal) else 0)
      = ((∑ d ∈ range j.val, f d : ℝ) : EReal) := by
  have : ∀ x : Fin 256, ((f x.val : ℝ) : EReal) * (if x.val < j.val then (1 : EReal) else 0)
      = (((if x.val < j.val then f x.val else 0 : ℝ)) : EReal) := fun x => by split <;> simp
  rw [Finset.sum_congr rfl fun x _ => this x, coe_sum, Fin.sum_univ_eq_sum_range (fun x => if x < j.val then f x else 0) 256,
    ← Finset.sum_filter]
  congr 2
  ext x
  simp only [Finset.mem_filter, Finset.mem_range]
  omega

/-- A sum over 128 lanes that counts one head's. -/
theorem sum_head (f : ℕ → ℝ) (h : ℕ) (hh : h < 2) :
    ∑ x : Fin 128, (if x.val / 64 = h then f x.val else 0) = ∑ d ∈ range 64, f (64 * h + d) := by
  rw [Fin.sum_univ_eq_sum_range (fun x => if x / 64 = h then f x else 0) 128, ← Finset.sum_filter]
  have : (range 128).filter (fun x => x / 64 = h) = (range 64).map (addLeftEmbedding (64 * h)) := by
    ext x
    simp only [Finset.mem_filter, Finset.mem_range, Finset.mem_map, addLeftEmbedding_apply]
    exact ⟨fun hx => ⟨x - 64 * h, by omega, by omega⟩, fun ⟨y, hy, e⟩ => by omega⟩
  rw [this, Finset.sum_map]
  rfl

end Cert.KernelIdeal.Sb

end
-- ==== Proof.Sb.Full.lean ====
/-
  One tile of the stick-breaking gradient over the reals, and what the payloads of a tile below the diagonal compute of
  real numbers.
-/
module

public import proofs.«01_k».proof.Proof.Sb.Real

@[expose] public section

noncomputable section

namespace Cert.KernelIdeal.Sb

open Cert.KernelIdeal Cert.KernelIdeal.Gen
open Idealize.ShloMosaic Idealize.ShloMosaic.Pointwise
open Finset (range)

/-- The matrix has real entries, given by their row and column numbers. -/
def Rep {n m : ℕ} {e : FTy} (v : FVec Ideal ⟨2, ![n, m]⟩ e) (f : ℕ → ℕ → ℝ) : Prop :=
  ∀ (i : Fin n) (j : Fin m), v (ix2 i j) = ((f i.val j.val : ℝ) : EReal)

/-- A scaled score: head `h` of a query row against a key row. -/
def zz (h : ℕ) (q k : ℕ → ℕ → ℝ) (i j : ℕ) : ℝ := ∑ d ∈ range 64, q i (64 * h + d) * (1 / 8) * k j (64 * h + d)
/-- Head `h` of a row of the incoming gradient against a value row. -/
def dd (h : ℕ) (o v : ℕ → ℕ → ℝ) (i j : ℕ) : ℝ := ∑ d ∈ range 64, o i (64 * h + d) * v j (64 * h + d)

section
variable (M : ℕ → ℕ → Prop) [∀ i j, Decidable (M i j)] (q k o v : ℕ → ℕ → ℝ) (h : ℕ) (t s g : ℕ → ℝ)

/-- log(1 − β), counted entries only. -/
def tL (i j : ℕ) : ℝ := if M i j then 0 - sp (zz h q k i j) else 0
/-- log β. -/
def tB (i j : ℕ) : ℝ := zz h q k i j - sp (zz h q k i j)
/-- The weight: log β plus the row's total less its running sum. -/
def tA (i j : ℕ) : ℝ :=
  if M i j then Real.exp (tB q k h i j + (t i - ((∑ d ∈ range (j + 1), tL M q k h i d) + s i))) else 0
/-- The weight times its incoming gradient. -/
def tG (i j : ℕ) : ℝ := tA M q k h t s i j * dd h o v i j
/-- The score's gradient. -/
def tE (i j : ℕ) : ℝ :=
  if M i j then tG M q k o v h t s i j * (1 - Real.exp (tB q k h i j))
    - Real.exp (tB q k h i j) * ((∑ d ∈ range j, tG M q k o v h t s i d) + g i) else 0
end

/-- The words of one and of zero. -/
theorem head_cases (d : Fin 128) : d.val / 64 = 0 ∨ d.val / 64 = 1 := by omega

section
variable {qb : Vec Ideal S256x128 .bf16} {ob : Vec Ideal S256x128 .f32} {kb vb : Vec Ideal S256x128 .bf16}
  {q k o v : ℕ → ℕ → ℝ}

theorem q2_lo (hq : Rep (e := .bf16) qb q) (i : Fin 256) (d : Fin 128) :
    q2 qb (ix2 (⟨i.val, by omega⟩ : Fin 512) d) = ((if d.val / 64 = 0 then q i.val d.val * (1 / 8) else 0 : ℝ) : EReal) := by
  pointwise [q2, k0_pay54, k0_pay110, k0_pay111, k0_pay112, eighth]
  rw [head0, eighth_val, hq i d]
  split <;> simp [EReal.coe_mul]

theorem q2_hi (hq : Rep (e := .bf16) qb q) (i : Fin 256) (d : Fin 128) :
    q2 qb (ix2 (⟨256 + i.val, by omega⟩ : Fin 512) d) = ((if d.val / 64 = 1 then q i.val d.val * (1 / 8) else 0 : ℝ) : EReal) := by
  pointwise [q2, k0_pay54, k0_pay110, k0_pay111, k0_pay112, eighth]
  rw [head1, eighth_val, hq i d]
  split <;> simp [EReal.coe_mul]

theorem do2_lo (ho : Rep (e := .f32) ob o) (i : Fin 256) (d : Fin 128) :
    do2 ob (ix2 (⟨i.val, by omega⟩ : Fin 512) d) = ((if d.val / 64 = 0 then o i.val d.val else 0 : ℝ) : EReal) := by
  pointwise [do2, k0_pay55, k0_pay110, k0_pay111, k0_pay112]
  rw [head0, ho i d]
  split <;> simp

theorem do2_hi (ho : Rep (e := .f32) ob o) (i : Fin 256) (d : Fin 128) :
    do2 ob (ix2 (⟨256 + i.val, by omega⟩ : Fin 512) d) = ((if d.val / 64 = 1 then o i.val d.val else 0 : ℝ) : EReal) := by
  pointwise [do2, k0_pay55, k0_pay110, k0_pay111, k0_pay112]
  rw [head1, ho i d]
  split <;> simp

/-- One head's lanes of a row against a row. -/
theorem lane_dot (f k' : ℕ → ℝ) (hd : ℕ) (hh : hd < 2) (x y : Fin 128 → EReal)
    (hx : ∀ d, x d = ((if d.val / 64 = hd then f d.val else 0 : ℝ) : EReal)) (hy : ∀ d, y d = ((k' d.val : ℝ) : EReal)) :
    ∑ d : Fin 128, x d * y d = ((∑ d ∈ range 64, f (64 * hd + d) * k' (64 * hd + d) : ℝ) : EReal) := by
  rw [← sum_head (fun d => f d * k' d) hd hh, ← coe_sum]
  refine Finset.sum_congr rfl fun d _ => ?_
  rw [hx, hy, ← EReal.coe_mul, ite_mul, zero_mul]

theorem rep_pay4 (hq : Rep (e := .bf16) qb q) (hk : Rep (e := .bf16) kb k) : Rep (k0_pay4 (q2 qb) kb) (zz 0 q k) := fun i j => by
  pointwise [k0_pay4, k0_pay2]
  exact lane_dot (fun d => q i d * (1 / 8)) (k j) 0 (by decide) _ _ (q2_lo hq i) (hk j)

theorem rep_pay8 (hq : Rep (e := .bf16) qb q) (hk : Rep (e := .bf16) kb k) : Rep (k0_pay8 (q2 qb) kb) (zz 1 q k) := fun i j => by
  pointwise [k0_pay8, k0_pay2]
  exact lane_dot (fun d => q i d * (1 / 8)) (k j) 1 (by decide) _ _ (q2_hi hq i) (hk j)

/-- The products of the incoming gradient with the values, head 0 over head 1. -/
def Rep2 (w : FVec Ideal S512x256 .f32) (f0 f1 : ℕ → ℕ → ℝ) : Prop :=
  (∀ (i j : Fin 256), w (ix2 (⟨i.val, by omega⟩ : Fin 512) j) = ((f0 i.val j.val : ℝ) : EReal))
    ∧ ∀ (i j : Fin 256), w (ix2 (⟨256 + i.val, by omega⟩ : Fin 512) j) = ((f1 i.val j.val : ℝ) : EReal)

theorem rep_pay3 (ho : Rep (e := .f32) ob o) (hv : Rep (e := .bf16) vb v) : Rep2 (k0_pay3 (do2 ob) vb) (dd 0 o v) (dd 1 o v) :=
  ⟨fun i j => by
    pointwise [k0_pay3]
    exact lane_dot (o i) (v j) 0 (by decide) _ _ (do2_lo ho i) (hv j),
  fun i j => by
    pointwise [k0_pay3]
    exact lane_dot (o i) (v j) 1 (by decide) _ _ (do2_hi ho i) (hv j)⟩
end

section
variable {a : FVec Ideal S512x128 .bf16} {b : Vec Ideal S256x128 .bf16} {z0 z1 : ℕ → ℕ → ℝ}

theorem rep_pay5 (h : Rep (k0_pay4 a b) z0) : Rep (k0_pay5 a b) (fun i j => sp (z0 i j)) := fun i j => by
  pointwise [k0_pay5]
  exact sp_val _ _ (h i j)
theorem rep_pay9 (h : Rep (k0_pay8 a b) z0) : Rep (k0_pay9 a b) (fun i j => sp (z0 i j)) := fun i j => by
  pointwise [k0_pay9]
  exact sp_val _ _ (h i j)
theorem rep_pay6 (h : Rep (k0_pay4 a b) z0) : Rep (k0_pay6 a b) (fun i j => 0 - sp (z0 i j)) := fun i j => by
  pointwise [k0_pay6]
  rw [rep_pay5 h i j]; rfl
theorem rep_pay10 (h : Rep (k0_pay8 a b) z0) : Rep (k0_pay10 a b) (fun i j => 0 - sp (z0 i j)) := fun i j => by
  pointwise [k0_pay10]
  rw [rep_pay9 h i j]; rfl
theorem rep_pay7 (h : Rep (k0_pay4 a b) z0) : Rep (k0_pay7 a b) (fun i j => z0 i j - sp (z0 i j)) := fun i j => by
  pointwise [k0_pay7]
  rw [rep_pay5 h i j, h i j]; rfl
theorem rep_pay11 (h : Rep (k0_pay8 a b) z0) : Rep (k0_pay11 a b) (fun i j => z0 i j - sp (z0 i j)) := fun i j => by
  pointwise [k0_pay11]
  rw [rep_pay9 h i j, h i j]; rfl
theorem rep_pay12 (h : Rep (k0_pay4 a b) z0) : Rep (k0_pay12 a b) (fun i j => 0 - sp (z0 i j)) := fun i j => by
  pointwise [k0_pay12]
  exact rep_pay6 h i j
theorem rep_pay13 (h : Rep (k0_pay4 a b) z0) : Rep (k0_pay13 a b) (fun _ _ => 0) := fun i j => by
  pointwise [k0_pay13]
  rw [rep_pay6 h i j, rep_pay12 h i j, ← EReal.coe_sub, sub_self]
theorem rep_pay14 (h : Rep (k0_pay8 a b) z0) : Rep (k0_pay14 a b) (fun i j => 0 - sp (z0 i j)) := fun i j => by
  pointwise [k0_pay14]
  exact rep_pay10 h i j
end

/-- The matrix that sums each row up to a column. -/
theorem sums_upto (x y : Fin 256) : (k0_pay106 (F := Ideal)) (ix2 x y) = if x.val ≤ y.val then (1 : EReal) else 0 := by
  pointwise [k0_pay106]
  exact word_sle x y 1 0
/-- The matrix that sums each row before a column. -/
theorem sums_before (x y : Fin 256) : (k0_pay107 (F := Ideal)) (ix2 x y) = if x.val < y.val then (1 : EReal) else 0 := by
  pointwise [k0_pay107]
  exact word_slt x y 1 0

/-- Which of the four stacked tiles a row of the last two falls in. -/
theorem band_c0 (i : Fin 256) : (512 + i.val < 256) = False := eq_false (by omega)
theorem band_c1 (i : Fin 256) : (512 + i.val - 256 < 256) = False := eq_false (by omega)
theorem band_c2 (i : Fin 256) : 512 + i.val - 256 - 256 = i.val := by omega
theorem band_d0 (i : Fin 256) : (768 + i.val < 256) = False := eq_false (by omega)
theorem band_d1 (i : Fin 256) : (768 + i.val - 256 < 256) = False := eq_false (by omega)
theorem band_d2 (i : Fin 256) : (768 + i.val - 256 - 256 < 256) = False := eq_false (by omega)
theorem band_d3 (i : Fin 256) : 768 + i.val - 256 - 256 - 256 = i.val := by omega

theorem row_upto {f : ℕ → ℝ} {x : Fin 256 → EReal} (hx : ∀ d, x d = ((f d.val : ℝ) : EReal)) (j : Fin 256) :
    ∑ d : Fin 256, x d * (k0_pay106 (F := Ideal)) (ix2 d j) = ((∑ d ∈ range (j.val + 1), f d : ℝ) : EReal) := by
  rw [← sum_upto f j]
  exact Finset.sum_congr rfl fun d _ => by rw [hx, sums_upto]
theorem row_before {f : ℕ → ℝ} {x : Fin 256 → EReal} (hx : ∀ d, x d = ((f d.val : ℝ) : EReal)) (j : Fin 256) :
    ∑ d : Fin 256, x d * (k0_pay107 (F := Ideal)) (ix2 d j) = ((∑ d ∈ range j.val, f d : ℝ) : EReal) := by
  rw [← sum_before f j]
  exact Finset.sum_congr rfl fun d _ => by rw [hx, sums_before]

/-- A column of real numbers. -/
abbrev Col (x : FVec Ideal S256x1 .f32) (f : ℕ → ℝ) : Prop := ∀ i : Fin 256, x (ix2 i (0 : Fin 1)) = ((f i.val : ℝ) : EReal)

section
variable {t0 t1 s0 s1 g0 g1 : FVec Ideal S256x1 .f32} {w : FVec Ideal S512x256 .f32} {c0 c1 l1 : FVec Ideal S256x256 .f32}
  {l0 r0 m1 : FVec Ideal S256x256 .bf16} {T0 T1 A0 A1 B0 B1 : ℕ → ℝ} {D0 D1 C0 C1 L0 L1 : ℕ → ℕ → ℝ}

theorem rep_pay16 (ht : Col t0 T0) (hs : Col s0 A0) (hc : Rep c0 C0) (h0 : Rep l0 L0) (hr : Rep r0 fun _ _ => 0) :
    Rep (k0_pay16 k0_pay106 t0 s0 c0 l1 l0 r0 m1)
      (fun i j => Real.exp (C0 i j + (T0 i - ((∑ d ∈ range (j + 1), L0 i d) + A0 i)))) := fun i j => by
  pointwise [k0_pay16, k0_pay15]
  rw [row_upto (h0 i), row_upto (f := fun _ => 0) (hr i), ht i, hs i, hc i j]
  simp only [← EReal.coe_add, ← EReal.coe_sub, Ideal.exp_coe, Finset.sum_const_zero, add_zero]

theorem rep_pay19 (ht : Col t1 T1) (hs : Col s1 A1) (hc : Rep c1 C1) (h1 : Rep l1 L1) (hm : Rep m1 L1) :
    Rep (k0_pay19 k0_pay106 t1 s1 l1 c1 l0 r0 m1)
      (fun i j => Real.exp (C1 i j + (T1 i - ((∑ d ∈ range (j + 1), L1 i d) + A1 i)))) := fun i j => by
  pointwise [k0_pay19, k0_pay15]
  simp only [band_c0, band_c1, band_c2, band_d0, band_d1, band_d2, band_d3, Fin.is_lt, dite_true, dite_false, Fin.eta]
  rw [row_upto (hm i), row_upto (f := fun _ => 0) (fun d => by rw [h1 i d, hm i d, ← EReal.coe_sub, sub_self]), ht i, hs i, hc i j]
  simp only [← EReal.coe_add, ← EReal.coe_sub, Ideal.exp_coe, Finset.sum_const_zero, add_zero]

theorem rep_pay18 {A : ℕ → ℕ → ℝ} (h : Rep (k0_pay16 k0_pay106 t0 s0 c0 l1 l0 r0 m1) A) (hw : Rep2 w D0 D1) :
    Rep (k0_pay18 k0_pay106 t0 s0 w c0 l1 l0 r0 m1) (fun i j => A i j * D0 i j) := fun i j => by
  pointwise [k0_pay18]
  rw [h i j, hw.1, ← EReal.coe_mul]

theorem rep_pay21 {A : ℕ → ℕ → ℝ} (h : Rep (k0_pay19 k0_pay106 t1 s1 l1 c1 l0 r0 m1) A) (hw : Rep2 w D0 D1) :
    Rep (k0_pay21 k0_pay106 t1 s1 w l1 c1 l0 r0 m1) (fun i j => A i j * D1 i j) := fun i j => by
  pointwise [k0_pay21]
  rw [h i j, hw.2, ← EReal.coe_mul]

theorem rep_pay23 {G0 : ℕ → ℕ → ℝ} (hc : Rep c0 C0)
    (h0 : Rep (k0_pay18 k0_pay106 t0 s0 w c0 l1 l0 r0 m1) G0) (hg : Col g0 B0) :
    Rep (k0_pay23 k0_pay106 k0_pay107 t0 t1 s0 g0 s1 w c0 l1 c1 l0 r0 m1)
      (fun i j => G0 i j * (1 - Real.exp (C0 i j)) - Real.exp (C0 i j) * ((∑ d ∈ range j, G0 i d) + B0 i)) := fun i j => by
  pointwise [k0_pay23, k0_pay22]
  rw [row_before (h0 i), row_before (f := fun _ => 0) (fun d => by rw [h0 i d, ← EReal.coe_sub, sub_self]), h0 i j, hc i j, hg i]
  simp only [← EReal.coe_add, ← EReal.coe_sub, ← EReal.coe_mul, ← EReal.coe_one, Ideal.exp_coe, Finset.sum_const_zero, add_zero]

theorem rep_pay60 {G1 : ℕ → ℕ → ℝ} (hc : Rep c1 C1)
    (h1 : Rep (k0_pay21 k0_pay106 t1 s1 w l1 c1 l0 r0 m1) G1) (hg : Col g1 B1) :
    Rep (k0_pay60 g1 (k0_pay22 k0_pay106 k0_pay107 t0 t1 s0 s1 w c0 l1 c1 l0 r0 m1) (k0_pay24 c1)
        (k0_pay25 k0_pay106 t1 s1 w l1 c1 l0 r0 m1) (k0_pay26 k0_pay106 k0_pay107 t0 t1 s0 s1 w c0 l1 c1 l0 r0 m1))
      (fun i j => G1 i j * (1 - Real.exp (C1 i j)) - Real.exp (C1 i j) * ((∑ d ∈ range j, G1 i d) + B1 i)) := fun i j => by
  pointwise [k0_pay60, k0_pay22, k0_pay24, k0_pay25, k0_pay26]
  simp only [band_c0, band_c1, band_c2, band_d0, band_d1, band_d2, band_d3, Fin.is_lt, dite_true, dite_false, Fin.eta]
  rw [row_before (h1 i), row_before (f := fun _ => 0) (fun d => by rw [h1 i d, ← EReal.coe_sub, sub_self]), h1 i j, hc i j, hg i]
  simp only [← EReal.coe_add, ← EReal.coe_sub, ← EReal.coe_mul, ← EReal.coe_one, Ideal.exp_coe, Finset.sum_const_zero, add_zero]
end

end Cert.KernelIdeal.Sb

end
-- ==== Proof.Sb.Step.lean ====
/-
  What one tile below the diagonal does to the carried row sums and to the three gradients, over the reals.
-/
module

public import proofs.«01_k».proof.Proof.Sb.Full

@[expose] public section

noncomputable section

namespace Cert.KernelIdeal.Sb

open Cert.KernelIdeal Cert.KernelIdeal.Gen
open Idealize.ShloMosaic Idealize.ShloMosaic.Pointwise
open Finset (range)

/-- Two tiles, one per head, each times a matrix that keeps a head's lanes only. -/
theorem dot_halves {c : EReal} {w : ℝ} (x0 x1 y0 y1 : Fin 256 → EReal) (f : ℕ → ℕ → ℝ) (m : ℕ → ℝ) (d : Fin 128) (hc : c = (w : EReal))
    (hx0 : ∀ j : Fin 256, x0 j = ((f 0 j.val : ℝ) : EReal)) (hx1 : ∀ j : Fin 256, x1 j = ((f 1 j.val : ℝ) : EReal))
    (hy0 : ∀ j : Fin 256, y0 j = ((if d.val / 64 = 0 then m j.val else 0 : ℝ) : EReal))
    (hy1 : ∀ j : Fin 256, y1 j = ((if d.val / 64 = 1 then m j.val else 0 : ℝ) : EReal)) :
    c + (∑ j, x0 j * y0 j + ∑ j, x1 j * y1 j) = ((w + ∑ j ∈ range 256, f (d.val / 64) j * m j : ℝ) : EReal) := by
  rw [hc, EReal.coe_add, ← Fin.sum_univ_eq_sum_range (fun j => f (d.val / 64) j * m j) 256, ← coe_sum, ← Finset.sum_add_distrib]
  refine congrArg _ (Finset.sum_congr rfl fun j _ => ?_)
  rw [hx0, hx1, hy0, hy1]
  rcases head_cases d with h | h <;> simp [h]

section
variable {kb : Vec Ideal S256x128 .bf16} {k : ℕ → ℕ → ℝ}

theorem k2_lo (hk : Rep (e := .bf16) kb k) (i : Fin 256) (d : Fin 128) :
    k0_pay1 k0_pay110 k0_pay111 k0_pay112 eighth kb (ix2 (⟨i.val, by omega⟩ : Fin 512) d)
      = ((if d.val / 64 = 0 then k i.val d.val * (1 / 8) else 0 : ℝ) : EReal) := q2_lo hk i d
theorem k2_hi (hk : Rep (e := .bf16) kb k) (i : Fin 256) (d : Fin 128) :
    k0_pay1 k0_pay110 k0_pay111 k0_pay112 eighth kb (ix2 (⟨256 + i.val, by omega⟩ : Fin 512) d)
      = ((if d.val / 64 = 1 then k i.val d.val * (1 / 8) else 0 : ℝ) : EReal) := q2_hi hk i d
end

/-- The carried values are real: the two heads' running sums of log(1 − β) and of the weight's gradient, and the query gradient. -/
structure CarryRep (a : Carry Ideal) (s g dq : ℕ → ℕ → ℝ) : Prop where
  s0 : Col a.1 (s 0)
  g0 : Col a.2.1 (g 0)
  s1 : Col a.2.2.1 (s 1)
  g1 : Col a.2.2.2.1 (g 1)
  dq : Rep a.2.2.2.2 dq

theorem carryRep0 : CarryRep carry0 (fun _ _ => 0) (fun _ _ => 0) (fun _ _ => 0) where
  s0 i := by show k0_pay58 (F := Ideal) (ix2 i (0 : Fin 1)) = _; pointwise [k0_pay58]; rfl
  g0 i := by show k0_pay58 (F := Ideal) (ix2 i (0 : Fin 1)) = _; pointwise [k0_pay58]; rfl
  s1 i := by show k0_pay58 (F := Ideal) (ix2 i (0 : Fin 1)) = _; pointwise [k0_pay58]; rfl
  g1 i := by show k0_pay58 (F := Ideal) (ix2 i (0 : Fin 1)) = _; pointwise [k0_pay58]; rfl
  dq i j := by show k0_pay59 (F := Ideal) (ix2 i j) = _; pointwise [k0_pay59]; rfl

/-- Every entry counts. -/
abbrev Mt : ℕ → ℕ → Prop := fun _ _ => True

section
variable {qb : Vec Ideal S256x128 .bf16} {ob : Vec Ideal S256x128 .f32} {lb : Vec Ideal S1x256x128 .f32}
  {kb vb : Vec Ideal S256x128 .bf16} {a : Carry Ideal} {q k o v t s g dq : ℕ → ℕ → ℝ}
variable (hq : Rep (e := .bf16) qb q) (ho : Rep (e := .f32) ob o) (hk : Rep (e := .bf16) kb k) (hv : Rep (e := .bf16) vb v)
  (ht0 : Col (k0_pay56 lanes lb) (t 0)) (ht1 : Col (k0_pay57 lanes lb) (t 1)) (ha : CarryRep a s g dq)

include hq hk ht0 ha in
theorem rep_A0 : Rep (k0_pay16 k0_pay106 (k0_pay56 lanes lb) a.1 (k0_pay7 (q2 qb) kb) (k0_pay10 (q2 qb) kb) (k0_pay12 (q2 qb) kb)
    (k0_pay13 (q2 qb) kb) (k0_pay14 (q2 qb) kb)) (tA Mt q k 0 (t 0) (s 0)) := fun i j => by
  rw [rep_pay16 ht0 ha.s0 (rep_pay7 (rep_pay4 hq hk)) (rep_pay12 (rep_pay4 hq hk)) (rep_pay13 (rep_pay4 hq hk)) i j]
  simp only [tA, tB, tL, Mt, if_true]

include hq hk ht1 ha in
theorem rep_A1 : Rep (k0_pay19 k0_pay106 (k0_pay57 lanes lb) a.2.2.1 (k0_pay10 (q2 qb) kb) (k0_pay11 (q2 qb) kb) (k0_pay12 (q2 qb) kb)
    (k0_pay13 (q2 qb) kb) (k0_pay14 (q2 qb) kb)) (tA Mt q k 1 (t 1) (s 1)) := fun i j => by
  rw [rep_pay19 ht1 ha.s1 (rep_pay11 (rep_pay8 hq hk)) (rep_pay10 (rep_pay8 hq hk)) (rep_pay14 (rep_pay8 hq hk)) i j]
  simp only [tA, tB, tL, Mt, if_true]

include hq ho hk hv ht0 ha in
theorem rep_G0 : Rep (fG0 qb ob lb kb vb a) (tG Mt q k o v 0 (t 0) (s 0)) := fun i j =>
  rep_pay18 (rep_A0 hq hk ht0 ha) (rep_pay3 ho hv) i j

include hq ho hk hv ht1 ha in
theorem rep_G1 : Rep (fG1 qb ob lb kb vb a) (tG Mt q k o v 1 (t 1) (s 1)) := fun i j =>
  rep_pay21 (rep_A1 hq hk ht1 ha) (rep_pay3 ho hv) i j

include hq ho hk hv ht0 ha in
theorem rep_E0 : Rep (fZ0 qb ob lb kb vb a) (tE Mt q k o v 0 (t 0) (s 0) (g 0)) := fun i j => by
  refine (rep_pay23 (rep_pay7 (rep_pay4 hq hk)) (rep_G0 hq ho hk hv ht0 ha) ha.g0 i j).trans ?_
  simp only [tE, Mt, if_true]; rfl

include hq ho hk hv ht1 ha in
theorem rep_E1 : Rep (k0_pay60 a.2.2.2.1 (fP qb ob lb kb vb a) (fB1 qb kb) (fW1 qb ob lb kb vb a) (fS1 qb ob lb kb vb a))
    (tE Mt q k o v 1 (t 1) (s 1) (g 1)) := fun i j => by
  refine (rep_pay60 (rep_pay11 (rep_pay8 hq hk)) (rep_G1 hq ho hk hv ht1 ha) ha.g1 i j).trans ?_
  simp only [tE, Mt, if_true]; rfl

/-- A row's sum over a tile, added to a column. -/
theorem row_total {f : ℕ → ℝ} {x : Fin 256 → EReal} (hx : ∀ d, x d = ((f d.val : ℝ) : EReal)) :
    ∑ d : Fin 256, x d = ((∑ d ∈ range 256, f d : ℝ) : EReal) := by
  rw [← Fin.sum_univ_eq_sum_range, ← coe_sum]
  exact Finset.sum_congr rfl fun d _ => hx d

include hq ho hk hv ht0 ht1 ha in
theorem full_carry : CarryRep (fullCarry qb ob lb kb vb a)
    (fun h i => s h i + ∑ d ∈ range 256, tL Mt q k h i d)
    (fun h i => g h i + ∑ d ∈ range 256, tG Mt q k o v h (t h) (s h) i d)
    (fun i d => dq i d + ∑ j ∈ range 256, tE Mt q k o v (d / 64) (t (d / 64)) (s (d / 64)) (g (d / 64)) i j * (k j d * (1 / 8))) where
  s0 i := by
    show k0_pay64 _ _ _ = _
    pointwise [k0_pay64]
    rw [row_total (f := fun j => 0 - sp (zz 0 q k i j)) (rep_pay6 (rep_pay4 hq hk) i), ha.s0 i, ← EReal.coe_add]
    simp only [tL, Mt, if_true]
  g0 i := by
    show k0_pay65 _ _ _ = _
    pointwise [k0_pay65]
    rw [row_total (rep_G0 hq ho hk hv ht0 ha i), ha.g0 i, ← EReal.coe_add]
  s1 i := by
    show k0_pay66 _ _ _ = _
    pointwise [k0_pay66]
    rw [row_total (f := fun j => 0 - sp (zz 1 q k i j)) (rep_pay10 (rep_pay8 hq hk) i), ha.s1 i, ← EReal.coe_add]
    simp only [tL, Mt, if_true]
  g1 i := by
    show k0_pay67 _ _ _ = _
    pointwise [k0_pay67]
    rw [row_total (rep_G1 hq ho hk hv ht1 ha i), ha.g1 i, ← EReal.coe_add]
  dq i d := by
    show k0_pay63 _ _ _ _ _ _ _ _ _ = _
    pointwise [k0_pay63]
    exact dot_halves _ _ _ _ (fun h j => tE Mt q k o v h (t h) (s h) (g h) i j) (fun j => k j d * (1 / 8)) d (ha.dq i d) (rep_E0 hq ho hk hv ht0 ha i) (rep_E1 hq ho hk hv ht1 ha i)
      (fun j => k2_lo hk j d) (fun j => k2_hi hk j d)

include hq ho hk ht0 ht1 ha in
theorem full_dv {old : Vec Ideal S256x128 .f32} {w : ℕ → ℕ → ℝ} (hw : Rep (e := .f32) old w) :
    Rep (fullDv qb ob lb kb a old)
      (fun j d => w j d + ∑ i ∈ range 256, tA Mt q k (d / 64) (t (d / 64)) (s (d / 64)) i j * o i d) := fun j d => by
  show k0_pay61 _ _ _ _ _ _ _ _ = _
  pointwise [k0_pay61]
  exact dot_halves _ _ _ _ (fun h i => tA Mt q k h (t h) (s h) i j) (fun i => o i d) d (hw j d) (fun i => rep_A0 hq hk ht0 ha i j) (fun i => rep_A1 hq hk ht1 ha i j)
    (fun i => do2_lo ho i d) (fun i => do2_hi ho i d)

include hq ho hk hv ht0 ht1 ha in
theorem full_dk {old : Vec Ideal S256x128 .f32} {w : ℕ → ℕ → ℝ} (hw : Rep (e := .f32) old w) :
    Rep (fullDk qb ob lb kb vb a old)
      (fun j d => w j d + ∑ i ∈ range 256, tE Mt q k o v (d / 64) (t (d / 64)) (s (d / 64)) (g (d / 64)) i j * (q i d * (1 / 8))) :=
  fun j d => by
  show k0_pay62 _ _ _ _ _ _ _ _ _ _ _ _ _ = _
  pointwise [k0_pay62]
  exact dot_halves _ _ _ _ (fun h i => tE Mt q k o v h (t h) (s h) (g h) i j) (fun i => q i d * (1 / 8)) d (hw j d) (fun i => rep_E0 hq ho hk hv ht0 ha i j) (fun i => rep_E1 hq ho hk hv ht1 ha i j)
    (fun i => q2_lo hq i d) (fun i => q2_hi hq i d)
end

end Cert.KernelIdeal.Sb

end
-- ==== Proof.Sb.Diag.lean ====
/-
  What the tile on the diagonal does to the three gradients, over the reals: an entry counts when its column is before
  its row.
-/
module

public import proofs.«01_k».proof.Proof.Sb.Step

@[expose] public section

noncomputable section

namespace Cert.KernelIdeal.Sb

open Cert.KernelIdeal Cert.KernelIdeal.Gen
open Idealize.ShloMosaic Idealize.ShloMosaic.Pointwise
open Finset (range)

/-- The entries of a diagonal tile that count. -/
abbrev Md : ℕ → ℕ → Prop := fun i j => j < i

theorem sel_below (i j : Fin 256) {α : Type} (x y : α) :
    Scalar.select (below (ix2 i j)) x y = if j.val < i.val then x else y := by
  show Scalar.select (k0_pay76 tileRows tileCols (ix2 i j)) x y = _
  pointwise [k0_pay76]
  exact word_slt j i x y

section
variable {qb : Vec Ideal S256x128 .bf16} {ob : Vec Ideal S256x128 .f32} {kb vb : Vec Ideal S256x128 .bf16}
  {q k o v : ℕ → ℕ → ℝ}

theorem rep_pay80 (hq : Rep (e := .bf16) qb q) (hk : Rep (e := .bf16) kb k) : Rep (k0_pay80 (q2 qb) kb) (zz 0 q k) := fun i j => by
  pointwise [k0_pay80, k0_pay78]
  exact lane_dot (fun d => q i d * (1 / 8)) (k j) 0 (by decide) _ _ (q2_lo hq i) (hk j)

theorem rep_pay84 (hq : Rep (e := .bf16) qb q) (hk : Rep (e := .bf16) kb k) : Rep (k0_pay84 (q2 qb) kb) (zz 1 q k) := fun i j => by
  pointwise [k0_pay84, k0_pay78]
  exact lane_dot (fun d => q i d * (1 / 8)) (k j) 1 (by decide) _ _ (q2_hi hq i) (hk j)

theorem rep_pay79 (ho : Rep (e := .f32) ob o) (hv : Rep (e := .bf16) vb v) : Rep2 (k0_pay79 (do2 ob) vb) (dd 0 o v) (dd 1 o v) :=
  ⟨fun i j => by
    pointwise [k0_pay79]
    exact lane_dot (o i) (v j) 0 (by decide) _ _ (do2_lo ho i) (hv j),
  fun i j => by
    pointwise [k0_pay79]
    exact lane_dot (o i) (v j) 1 (by decide) _ _ (do2_hi ho i) (hv j)⟩
end

/-- The counted entries of -softplus. -/
def cut (z : ℕ → ℕ → ℝ) (i j : ℕ) : ℝ := if j < i then 0 - sp (z i j) else 0

section
variable {a : FVec Ideal S512x128 .bf16} {b : Vec Ideal S256x128 .bf16} {z : ℕ → ℕ → ℝ}

theorem rep_pay81 (h : Rep (k0_pay80 a b) z) : Rep (k0_pay81 a b) (fun i j => sp (z i j)) := fun i j => by
  pointwise [k0_pay81]
  exact sp_val _ _ (h i j)
theorem rep_pay85 (h : Rep (k0_pay84 a b) z) : Rep (k0_pay85 a b) (fun i j => sp (z i j)) := fun i j => by
  pointwise [k0_pay85]
  exact sp_val _ _ (h i j)
theorem rep_pay82 (h : Rep (k0_pay80 a b) z) : Rep (k0_pay82 a below b) (cut z) := fun i j => by
  pointwise [k0_pay82]
  rw [rep_pay81 h i j, sel_below]
  unfold cut
  split <;> rfl
theorem rep_pay86 (h : Rep (k0_pay84 a b) z) : Rep (k0_pay86 a below b) (cut z) := fun i j => by
  pointwise [k0_pay86]
  rw [rep_pay85 h i j, sel_below]
  unfold cut
  split <;> rfl
theorem rep_pay83 (h : Rep (k0_pay80 a b) z) : Rep (k0_pay83 a b) (fun i j => z i j - sp (z i j)) := fun i j => by
  pointwise [k0_pay83]
  rw [rep_pay81 h i j, h i j]; rfl
theorem rep_pay87 (h : Rep (k0_pay84 a b) z) : Rep (k0_pay87 a b) (fun i j => z i j - sp (z i j)) := fun i j => by
  pointwise [k0_pay87]
  rw [rep_pay85 h i j, h i j]; rfl
theorem rep_pay88 (h : Rep (k0_pay80 a b) z) : Rep (k0_pay88 a below b) (cut z) := fun i j => by
  pointwise [k0_pay88]
  exact rep_pay82 h i j
theorem rep_pay89 (h : Rep (k0_pay80 a b) z) : Rep (k0_pay89 a below b) (cut z) := fun i j => by
  pointwise [k0_pay89]
  exact rep_pay88 h i j
end

section
variable {t0 t1 s0 s1 g0 g1 : FVec Ideal S256x1 .f32} {w : FVec Ideal S512x256 .f32} {c0 c1 l0 l1 r0 : FVec Ideal S256x256 .f32}
  {h0 : FVec Ideal S256x256 .bf16} {T0 T1 A0 A1 B0 B1 : ℕ → ℝ} {D0 D1 C0 C1 L0 L1 : ℕ → ℕ → ℝ}

theorem rep_pay91 (ht : Col t0 T0) (hs : Col s0 A0) (hc : Rep c0 C0) (hl : Rep l0 L0) (hh : Rep h0 L0) (hr : Rep r0 L0) :
    Rep (k0_pay91 k0_pay106 t0 s0 below l0 c0 l1 h0 r0)
      (fun i j => if j < i then Real.exp (C0 i j + (T0 i - ((∑ d ∈ range (j + 1), L0 i d) + A0 i))) else 0) := fun i j => by
  pointwise [k0_pay91, k0_pay90]
  rw [row_upto (hh i), row_upto (f := fun _ => 0) (fun d => by rw [hl i d, hr i d, ← EReal.coe_sub, sub_self]), ht i, hs i, hc i j, sel_below]
  simp only [← EReal.coe_add, ← EReal.coe_sub, Ideal.exp_coe, Finset.sum_const_zero, add_zero]
  split <;> rfl

theorem rep_pay94 (ht : Col t1 T1) (hs : Col s1 A1) (hc : Rep c1 C1) (hl : Rep l1 L1) :
    Rep (k0_pay94 k0_pay106 t1 s1 below l0 l1 c1 h0 r0)
      (fun i j => if j < i then Real.exp (C1 i j + (T1 i - ((∑ d ∈ range (j + 1), L1 i d) + A1 i))) else 0) := fun i j => by
  pointwise [k0_pay94, k0_pay90]
  simp only [band_c0, band_c1, band_c2, band_d0, band_d1, band_d2, band_d3, Fin.is_lt, dite_true, dite_false, Fin.eta]
  rw [row_upto (hl i), row_upto (f := fun _ => 0) (fun d => by rw [hl i d, ← EReal.coe_sub, sub_self]), ht i, hs i, hc i j, sel_below]
  simp only [← EReal.coe_add, ← EReal.coe_sub, Ideal.exp_coe, Finset.sum_const_zero, add_zero]
  split <;> rfl

theorem rep_pay93 {A : ℕ → ℕ → ℝ} (h : Rep (k0_pay91 k0_pay106 t0 s0 below l0 c0 l1 h0 r0) A) (hw : Rep2 w D0 D1) :
    Rep (k0_pay93 k0_pay106 t0 s0 below w l0 c0 l1 h0 r0) (fun i j => A i j * D0 i j) := fun i j => by
  pointwise [k0_pay93]
  rw [h i j, hw.1, ← EReal.coe_mul]

theorem rep_pay96 {A : ℕ → ℕ → ℝ} (h : Rep (k0_pay94 k0_pay106 t1 s1 below l0 l1 c1 h0 r0) A) (hw : Rep2 w D0 D1) :
    Rep (k0_pay96 k0_pay106 t1 s1 below w l0 l1 c1 h0 r0) (fun i j => A i j * D1 i j) := fun i j => by
  pointwise [k0_pay96]
  rw [h i j, hw.2, ← EReal.coe_mul]

theorem rep_pay101 {G0 : ℕ → ℕ → ℝ} (hc : Rep c0 C0)
    (hG : Rep (k0_pay93 k0_pay106 t0 s0 below w l0 c0 l1 h0 r0) G0) (hg : Col g0 B0) :
    Rep (k0_pay101 below (k0_pay98 c0) (k0_pay99 k0_pay106 t0 s0 below w l0 c0 l1 h0 r0)
        (k0_pay100 k0_pay106 k0_pay107 t0 t1 s0 g0 s1 below w l0 c0 l1 c1 h0 r0))
      (fun i j => if j < i then G0 i j * (1 - Real.exp (C0 i j)) - Real.exp (C0 i j) * ((∑ d ∈ range j, G0 i d) + B0 i) else 0) := fun i j => by
  pointwise [k0_pay101, k0_pay97, k0_pay98, k0_pay99, k0_pay100]
  rw [row_before (hG i), row_before (f := fun _ => 0) (fun d => by rw [hG i d, ← EReal.coe_sub, sub_self]), hG i j, hc i j, hg i, sel_below]
  simp only [← EReal.coe_add, ← EReal.coe_sub, ← EReal.coe_mul, ← EReal.coe_one, Ideal.exp_coe, Finset.sum_const_zero, add_zero]
  split <;> rfl

theorem rep_pay102 {G1 : ℕ → ℕ → ℝ} (hc : Rep c1 C1)
    (hG : Rep (k0_pay96 k0_pay106 t1 s1 below w l0 l1 c1 h0 r0) G1) (hg : Col g1 B1) :
    Rep (k0_pay102 g1 below c1 (k0_pay96 k0_pay106 t1 s1 below w l0 l1 c1 h0 r0)
        (k0_pay97 k0_pay106 k0_pay107 t0 t1 s0 s1 below w l0 c0 l1 c1 h0 r0))
      (fun i j => if j < i then G1 i j * (1 - Real.exp (C1 i j)) - Real.exp (C1 i j) * ((∑ d ∈ range j, G1 i d) + B1 i) else 0) := fun i j => by
  pointwise [k0_pay102, k0_pay97]
  simp only [band_c0, band_c1, band_c2, band_d0, band_d1, band_d2, band_d3, Fin.is_lt, dite_true, dite_false, Fin.eta]
  rw [row_before (hG i), row_before (f := fun _ => 0) (fun d => by rw [hG i d, ← EReal.coe_sub, sub_self]), hG i j, hc i j, hg i, sel_below]
  simp only [← EReal.coe_add, ← EReal.coe_sub, ← EReal.coe_mul, ← EReal.coe_one, Ideal.exp_coe, Finset.sum_const_zero, add_zero]
  split <;> rfl
end

section
variable {qb : Vec Ideal S256x128 .bf16} {ob : Vec Ideal S256x128 .f32} {lb : Vec Ideal S1x256x128 .f32}
  {kb vb : Vec Ideal S256x128 .bf16} {a : Carry Ideal} {q k o v t s g dq : ℕ → ℕ → ℝ}
variable (hq : Rep (e := .bf16) qb q) (ho : Rep (e := .f32) ob o) (hk : Rep (e := .bf16) kb k) (hv : Rep (e := .bf16) vb v)
  (ht0 : Col (k0_pay56 lanes lb) (t 0)) (ht1 : Col (k0_pay57 lanes lb) (t 1)) (ha : CarryRep a s g dq)

include hq hk ht0 ha in
theorem rep_dA0 : Rep (k0_pay91 k0_pay106 (k0_pay56 lanes lb) a.1 below (dL0 qb kb) (dE0 qb kb) (dL1 qb kb) (dH0 qb kb) (dR0 qb kb))
    (tA Md q k 0 (t 0) (s 0)) := fun i j =>
  rep_pay91 ht0 ha.s0 (rep_pay83 (rep_pay80 hq hk)) (rep_pay82 (rep_pay80 hq hk)) (rep_pay88 (rep_pay80 hq hk)) (rep_pay89 (rep_pay80 hq hk)) i j

include hq hk ht1 ha in
theorem rep_dA1 : Rep (k0_pay94 k0_pay106 (k0_pay57 lanes lb) a.2.2.1 below (dL0 qb kb) (dL1 qb kb) (dE1 qb kb) (dH0 qb kb) (dR0 qb kb))
    (tA Md q k 1 (t 1) (s 1)) := fun i j =>
  rep_pay94 ht1 ha.s1 (rep_pay87 (rep_pay84 hq hk)) (rep_pay86 (rep_pay84 hq hk)) i j

include hq ho hk hv ht0 ha in
theorem rep_dG0 : Rep (k0_pay93 k0_pay106 (k0_pay56 lanes lb) a.1 below (k0_pay79 (do2 ob) vb) (dL0 qb kb) (dE0 qb kb) (dL1 qb kb) (dH0 qb kb) (dR0 qb kb))
    (tG Md q k o v 0 (t 0) (s 0)) := fun i j =>
  rep_pay93 (rep_dA0 hq hk ht0 ha) (rep_pay79 ho hv) i j

include hq ho hk hv ht1 ha in
theorem rep_dG1 : Rep (dG1 qb ob lb kb vb a) (tG Md q k o v 1 (t 1) (s 1)) := fun i j =>
  rep_pay96 (rep_dA1 hq hk ht1 ha) (rep_pay79 ho hv) i j

include hq ho hk hv ht0 ha in
theorem rep_dE0 : Rep (k0_pay101 below (dB0 qb kb) (dW0 qb ob lb kb vb a) (dS0 qb ob lb kb vb a))
    (tE Md q k o v 0 (t 0) (s 0) (g 0)) := fun i j =>
  rep_pay101 (rep_pay83 (rep_pay80 hq hk)) (rep_dG0 hq ho hk hv ht0 ha) ha.g0 i j

include hq ho hk hv ht1 ha in
theorem rep_dE1 : Rep (k0_pay102 a.2.2.2.1 below (dE1 qb kb) (dG1 qb ob lb kb vb a) (dP qb ob lb kb vb a))
    (tE Md q k o v 1 (t 1) (s 1) (g 1)) := fun i j =>
  rep_pay102 (rep_pay87 (rep_pay84 hq hk)) (rep_dG1 hq ho hk hv ht1 ha) ha.g1 i j

include hq ho hk ht0 ht1 ha in
theorem diag_dv {old : Vec Ideal S256x128 .f32} {w : ℕ → ℕ → ℝ} (hw : Rep (e := .f32) old w) :
    Rep (diagDv qb ob lb kb a old)
      (fun j d => w j d + ∑ i ∈ range 256, tA Md q k (d / 64) (t (d / 64)) (s (d / 64)) i j * o i d) := fun j d => by
  show k0_pay103 _ _ _ _ _ = _
  pointwise [k0_pay103]
  exact dot_halves _ _ _ _ (fun h i => tA Md q k h (t h) (s h) i j) (fun i => o i d) d (hw j d)
    (fun i => rep_dA0 hq hk ht0 ha i j) (fun i => rep_dA1 hq hk ht1 ha i j) (fun i => do2_lo ho i d) (fun i => do2_hi ho i d)

include hq ho hk hv ht0 ht1 ha in
theorem diag_dk {old : Vec Ideal S256x128 .f32} {w : ℕ → ℕ → ℝ} (hw : Rep (e := .f32) old w) :
    Rep (diagDk qb ob lb kb vb a old)
      (fun j d => w j d + ∑ i ∈ range 256, tE Md q k o v (d / 64) (t (d / 64)) (s (d / 64)) (g (d / 64)) i j * (q i d * (1 / 8))) :=
  fun j d => by
  show k0_pay104 _ _ _ _ _ _ _ _ _ _ _ = _
  pointwise [k0_pay104]
  exact dot_halves _ _ _ _ (fun h i => tE Md q k o v h (t h) (s h) (g h) i j) (fun i => q i d * (1 / 8)) d (hw j d)
    (fun i => rep_dE0 hq ho hk hv ht0 ha i j) (fun i => rep_dE1 hq ho hk hv ht1 ha i j)
    (fun i => q2_lo hq i d) (fun i => q2_hi hq i d)

include hq ho hk hv ht0 ht1 ha in
theorem diag_dq (i : Fin 256) (d : Fin 128) : diagDq qb ob lb kb vb a (ix3 (0 : Fin 1) i d)
    = ((dq i.val d.val + ∑ j ∈ range 256, tE Md q k o v (d.val / 64) (t (d.val / 64)) (s (d.val / 64)) (g (d.val / 64)) i.val j * (k j d.val * (1 / 8)) : ℝ) : EReal) := by
  show k0_pay105 _ _ _ _ _ _ _ _ _ _ _ = _
  pointwise [k0_pay105]
  exact dot_halves _ _ _ _ (fun h j => tE Md q k o v h (t h) (s h) (g h) i j) (fun j => k j d * (1 / 8)) d (ha.dq i d)
    (rep_dE0 hq ho hk hv ht0 ha i) (rep_dE1 hq ho hk hv ht1 ha i) (fun j => k2_lo hk j d) (fun j => k2_hi hk j d)
end

/-- The two columns of row totals a block reads: lane 0 for head 0, lane 64 for head 1. -/
theorem tot0 {lb : Vec Ideal S1x256x128 .f32} {f : ℕ → ℝ} (h : ∀ i : Fin 256, lb (ix3 (0 : Fin 1) i (0 : Fin 128)) = ((f i.val : ℝ) : EReal)) :
    Col (k0_pay56 lanes lb) f := fun i => by
  pointwise [k0_pay56, k0_pay53]
  rw [Finset.sum_eq_single (0 : Fin 128) (fun x _ hx => ?_) (fun hx => absurd (Finset.mem_univ _) hx)]
  · exact h i
  · have : IntOp.cmpi CmpIPredicate.eq (BitVec.ofNat 32 x.val) 0#32 = 0#1 := by revert x; decide
    rw [this]; rfl

theorem tot1 {lb : Vec Ideal S1x256x128 .f32} {f : ℕ → ℝ} (h : ∀ i : Fin 256, lb (ix3 (0 : Fin 1) i (64 : Fin 128)) = ((f i.val : ℝ) : EReal)) :
    Col (k0_pay57 lanes lb) f := fun i => by
  pointwise [k0_pay57, k0_pay53]
  rw [Finset.sum_eq_single (64 : Fin 128) (fun x _ hx => ?_) (fun hx => absurd (Finset.mem_univ _) hx)]
  · exact h i
  · have : IntOp.cmpi CmpIPredicate.eq (BitVec.ofNat 32 x.val) 64#32 = 0#1 := by revert x; decide
    rw [this]; rfl

end Cert.KernelIdeal.Sb

end
-- ==== Proof.Sb.Global.lean ====
/-
  The whole score matrix of one pair of heads over the reals, and that the kernel's sweep over its tiles computes its
  row sums and its three gradients.
-/
module

public import proofs.«01_k».proof.Proof.Sb.Diag

@[expose] public section

noncomputable section

namespace Cert.KernelIdeal.Sb

open Cert.KernelIdeal Cert.KernelIdeal.Gen
open Idealize.ShloMosaic Idealize.ShloMosaic.Pointwise
open Finset (range)

section
variable (Q K O V : ℕ → ℕ → ℝ) (T : ℕ → ℕ → ℝ)

/-- The row's running sum of log(1 − β) before a column. -/
def pre (h i n : ℕ) : ℝ := ∑ d ∈ range n, (0 - sp (zz h Q K i d))
/-- The weight of a key in a query's row. -/
def wA (h i n : ℕ) : ℝ := Real.exp (tB Q K h i n + (T h i - pre Q K h i (n + 1)))
/-- The weight times its incoming gradient. -/
def wG (h i n : ℕ) : ℝ := wA Q K T h i n * dd h O V i n
/-- The row's running sum of those before a column. -/
def preG (h i n : ℕ) : ℝ := ∑ d ∈ range n, wG Q K O V T h i d
/-- The score's gradient. -/
def wE (h i n : ℕ) : ℝ :=
  wG Q K O V T h i n * (1 - Real.exp (tB Q K h i n)) - Real.exp (tB Q K h i n) * preG Q K O V T h i n

/-- Rows of a matrix from a given one on. -/
abbrev sh (X : ℕ → ℕ → ℝ) (b : ℕ) : ℕ → ℕ → ℝ := fun i d => X (256 * b + i) d

variable (b j : ℕ)

theorem full_pre (h i c : ℕ) :
    (∑ d ∈ range c, tL Mt (sh Q b) (sh K j) h i d) + pre Q K h (256 * b + i) (256 * j) = pre Q K h (256 * b + i) (256 * j + c) := by
  rw [pre, pre, Finset.sum_range_add, add_comm]
  simp only [tL, Mt, if_true]
  rfl

theorem full_A (h i c : ℕ) :
    tA Mt (sh Q b) (sh K j) h (fun i => T h (256 * b + i)) (fun i => pre Q K h (256 * b + i) (256 * j)) i c
      = wA Q K T h (256 * b + i) (256 * j + c) := by
  simp only [tA, Mt, if_true, wA]
  rw [show (∑ d ∈ range (c + 1), tL (fun _ _ => True) (sh Q b) (sh K j) h i d) + pre Q K h (256 * b + i) (256 * j)
    = pre Q K h (256 * b + i) (256 * j + (c + 1)) from full_pre Q K b j h i (c + 1)]
  rfl

theorem full_G (h i c : ℕ) :
    tG Mt (sh Q b) (sh K j) (sh O b) (sh V j) h (fun i => T h (256 * b + i)) (fun i => pre Q K h (256 * b + i) (256 * j)) i c
      = wG Q K O V T h (256 * b + i) (256 * j + c) := by
  rw [tG, full_A]; rfl

theorem full_preG (h i c : ℕ) :
    (∑ d ∈ range c, tG Mt (sh Q b) (sh K j) (sh O b) (sh V j) h (fun i => T h (256 * b + i)) (fun i => pre Q K h (256 * b + i) (256 * j)) i d)
      + preG Q K O V T h (256 * b + i) (256 * j) = preG Q K O V T h (256 * b + i) (256 * j + c) := by
  rw [preG, preG, Finset.sum_range_add, add_comm]
  simp only [full_G]

theorem full_E (h i c : ℕ) :
    tE Mt (sh Q b) (sh K j) (sh O b) (sh V j) h (fun i => T h (256 * b + i)) (fun i => pre Q K h (256 * b + i) (256 * j))
        (fun i => preG Q K O V T h (256 * b + i) (256 * j)) i c
      = wE Q K O V T h (256 * b + i) (256 * j + c) := by
  unfold tE
  rw [if_pos trivial, full_preG, full_G]
  rfl

theorem diag_pre (h i c : ℕ) (hc : c ≤ i) :
    (∑ d ∈ range c, tL Md (sh Q b) (sh K b) h i d) + pre Q K h (256 * b + i) (256 * b) = pre Q K h (256 * b + i) (256 * b + c) := by
  rw [pre, pre, Finset.sum_range_add, add_comm]
  refine congrArg _ (Finset.sum_congr rfl fun d hd => ?_)
  have := Finset.mem_range.1 hd
  simp only [tL, Md]
  rw [if_pos (by omega)]
  rfl

theorem diag_A (h i c : ℕ) :
    tA Md (sh Q b) (sh K b) h (fun i => T h (256 * b + i)) (fun i => pre Q K h (256 * b + i) (256 * b)) i c
      = if c < i then wA Q K T h (256 * b + i) (256 * b + c) else 0 := by
  unfold tA
  by_cases hc : c < i
  · rw [if_pos hc, if_pos hc, diag_pre Q K b h i (c + 1) (by omega)]
    rfl
  · rw [if_neg hc, if_neg hc]

theorem diag_G (h i c : ℕ) :
    tG Md (sh Q b) (sh K b) (sh O b) (sh V b) h (fun i => T h (256 * b + i)) (fun i => pre Q K h (256 * b + i) (256 * b)) i c
      = if c < i then wG Q K O V T h (256 * b + i) (256 * b + c) else 0 := by
  rw [tG, diag_A, ite_mul, zero_mul]; rfl

theorem diag_E (h i c : ℕ) :
    tE Md (sh Q b) (sh K b) (sh O b) (sh V b) h (fun i => T h (256 * b + i)) (fun i => pre Q K h (256 * b + i) (256 * b))
        (fun i => preG Q K O V T h (256 * b + i) (256 * b)) i c
      = if c < i then wE Q K O V T h (256 * b + i) (256 * b + c) else 0 := by
  unfold tE
  by_cases hc : c < i
  · rw [if_pos hc, if_pos hc, diag_G, if_pos hc]
    have : (∑ d ∈ range c, tG Md (sh Q b) (sh K b) (sh O b) (sh V b) h (fun i => T h (256 * b + i)) (fun i => pre Q K h (256 * b + i) (256 * b)) i d)
        + preG Q K O V T h (256 * b + i) (256 * b) = preG Q K O V T h (256 * b + i) (256 * b + c) := by
      rw [preG, preG, Finset.sum_range_add, add_comm]
      refine congrArg _ (Finset.sum_congr rfl fun d hd => ?_)
      have := Finset.mem_range.1 hd
      rw [diag_G, if_pos (by omega)]
    rw [this]
    rfl
  · rw [if_neg hc, if_neg hc]
end

theorem rows_at (b : ℕ) (hb : b < 8) (i : Fin 256) (d : Fin 128) {e : EltTy} (X : Vec Ideal S2048x128 e) :
    rowsAt X b (ix2 i d) = X (ix2 (⟨256 * b + i.val, by omega⟩ : Fin 2048) d) := by
  refine congrArg X (funext fun a => Fin.ext ?_)
  fin_cases a
  · show (256 * b + i.val) % 2048 = 256 * b + i.val
    exact Nat.mod_eq_of_lt (by omega)
  · rfl

theorem rep_rows_bf16 {X : Vec Ideal S2048x128 .bf16} {f : ℕ → ℕ → ℝ} (hX : Rep (e := .bf16) X f) (b : ℕ) (hb : b < 8) :
    Rep (e := .bf16) (rowsAt X b) (sh f b) := fun i d => (rows_at b hb i d X).trans (hX _ d)

theorem rep_rows_f32 {X : Vec Ideal S2048x128 .f32} {f : ℕ → ℕ → ℝ} (hX : Rep (e := .f32) X f) (b : ℕ) (hb : b < 8) :
    Rep (e := .f32) (rowsAt X b) (sh f b) := fun i d => (rows_at b hb i d X).trans (hX _ d)

theorem rep_put {X : Vec Ideal S2048x128 .f32} {w : Vec Ideal S256x128 .f32} {f g : ℕ → ℕ → ℝ}
    (hX : Rep (e := .f32) X f) (hw : Rep (e := .f32) w g) (b : ℕ) :
    Rep (e := .f32) (putRows X b w) (fun n d => if 256 * b ≤ n ∧ n < 256 * b + 256 then g (n - 256 * b) d else f n d) := fun n d => by
  beta_reduce
  by_cases h : 256 * b ≤ n.val ∧ n.val < 256 * b + 256
  · rw [if_pos h]
    refine (dif_pos h).trans ?_
    refine Eq.trans (congrArg w (funext fun a => Fin.ext ?_)) (hw ⟨n.val - 256 * b, by omega⟩ d)
    fin_cases a <;> rfl
  · rw [if_neg h]
    exact (dif_neg h).trans (hX n d)

section
variable {Qv Kv Vv : Vec Ideal S2048x128 .bf16} {Ov : Vec Ideal S2048x128 .f32} {Lv : Vec Ideal S1x2048x128 .f32}
  {Q K O V T : ℕ → ℕ → ℝ}

/-- The five arrays a sweep reads are real. -/
structure Reads (Qv Kv Vv : Vec Ideal S2048x128 .bf16) (Ov : Vec Ideal S2048x128 .f32) (Lv : Vec Ideal S1x2048x128 .f32)
    (Q K O V T : ℕ → ℕ → ℝ) : Prop where
  q : Rep (e := .bf16) Qv Q
  k : Rep (e := .bf16) Kv K
  o : Rep (e := .f32) Ov O
  v : Rep (e := .bf16) Vv V
  t0 : ∀ i : Fin 2048, Lv (ix3 (0 : Fin 1) i (0 : Fin 128)) = ((T 0 i.val : ℝ) : EReal)
  t1 : ∀ i : Fin 2048, Lv (ix3 (0 : Fin 1) i (64 : Fin 128)) = ((T 1 i.val : ℝ) : EReal)

variable (R : Reads Qv Kv Vv Ov Lv Q K O V T)
include R

theorem tot_rows (b : ℕ) (hb : b < 8) (i : Fin 256) (d : Fin 128) :
    totRows Lv b (ix3 (0 : Fin 1) i d) = Lv (ix3 (0 : Fin 1) (⟨256 * b + i.val, by omega⟩ : Fin 2048) d) := by
  refine congrArg Lv (funext fun a => Fin.ext ?_)
  fin_cases a
  · rfl
  · show (256 * b + i.val) % 2048 = 256 * b + i.val
    exact Nat.mod_eq_of_lt (by omega)
  · rfl

theorem col0 (b : ℕ) (hb : b < 8) : Col (k0_pay56 lanes (totRows Lv b)) (fun i => T 0 (256 * b + i)) :=
  tot0 fun i => (tot_rows R b hb i 0).trans (R.t0 _)
theorem col1 (b : ℕ) (hb : b < 8) : Col (k0_pay57 lanes (totRows Lv b)) (fun i => T 1 (256 * b + i)) :=
  tot1 fun i => (tot_rows R b hb i 64).trans (R.t1 _)

/-- The carried values of block `b` after its first `j` tiles. -/
theorem carry_rep (b j : ℕ) (hb : b < 8) (hj : j ≤ b) : CarryRep (carry Qv Ov Lv Kv Vv b j)
    (fun h i => pre Q K h (256 * b + i) (256 * j)) (fun h i => preG Q K O V T h (256 * b + i) (256 * j))
    (fun i d => ∑ n ∈ range (256 * j), wE Q K O V T (d / 64) (256 * b + i) n * (K n d * (1 / 8))) := by
  induction j with
  | zero =>
    show CarryRep carry0 _ _ _
    simp only [pre, preG, Nat.mul_zero, Finset.range_zero, Finset.sum_empty]
    exact carryRep0
  | succ j ih =>
    have hc := full_carry (t := fun h i => T h (256 * b + i)) (rep_rows_bf16 R.q b hb) (rep_rows_f32 R.o b hb) (rep_rows_bf16 R.k j (by omega))
      (rep_rows_bf16 R.v j (by omega)) (col0 R b hb) (col1 R b hb) (ih (by omega))
    have e1 : (fun h i => pre Q K h (256 * b + i) (256 * j) + ∑ d ∈ range 256, tL Mt (sh Q b) (sh K j) h i d)
        = fun h i => pre Q K h (256 * b + i) (256 * (j + 1)) := by
      funext h i
      rw [add_comm, full_pre]; rfl
    have e2 : (fun h i => preG Q K O V T h (256 * b + i) (256 * j) + ∑ d ∈ range 256, tG Mt (sh Q b) (sh K j) (sh O b) (sh V j) h
        (fun i => T h (256 * b + i)) (fun i => pre Q K h (256 * b + i) (256 * j)) i d)
        = fun h i => preG Q K O V T h (256 * b + i) (256 * (j + 1)) := by
      funext h i
      rw [add_comm, full_preG]; rfl
    have e3 : (fun i d => ∑ n ∈ range (256 * j), wE Q K O V T (d / 64) (256 * b + i) n * (K n d * (1 / 8))
          + ∑ c ∈ range 256, tE Mt (sh Q b) (sh K j) (sh O b) (sh V j) (d / 64) (fun i => T (d / 64) (256 * b + i))
            (fun i => pre Q K (d / 64) (256 * b + i) (256 * j)) (fun i => preG Q K O V T (d / 64) (256 * b + i) (256 * j)) i c * (sh K j c d * (1 / 8)))
        = fun i d => ∑ n ∈ range (256 * (j + 1)), wE Q K O V T (d / 64) (256 * b + i) n * (K n d * (1 / 8)) := by
      funext i d
      rw [Nat.mul_succ, Finset.sum_range_add]
      simp only [full_E]
    rw [e1, e2, e3] at hc
    exact hc

/-- The query gradient. -/
theorem dq_rep : Rep (e := .bf16) (dqAll Qv Ov Lv Kv Vv)
    (fun i d => ∑ n ∈ range i, wE Q K O V T (d / 64) i n * (K n d * (1 / 8))) := fun i d => by
  obtain ⟨b, c, hb, hi⟩ : ∃ (b : ℕ) (c : Fin 256), b < 8 ∧ i.val = 256 * b + c.val :=
    ⟨i.val / 256, ⟨i.val % 256, Nat.mod_lt _ (by decide)⟩, by omega, (Nat.div_add_mod _ _).symm⟩
  have hd := diag_dq (t := fun h i => T h (256 * b + i)) (rep_rows_bf16 R.q b hb) (rep_rows_f32 R.o b hb) (rep_rows_bf16 R.k b hb)
      (rep_rows_bf16 R.v b hb) (col0 R b hb) (col1 R b hb) (carry_rep R b b hb le_rfl) c d
  have e : dqAll Qv Ov Lv Kv Vv (ix2 i d) = dqBlock Qv Ov Lv Kv Vv b (ix3 (0 : Fin 1) c d) := by
    show dqBlock Qv Ov Lv Kv Vv (i.val / 256) _ = _
    rw [show i.val / 256 = b by omega]
    refine congrArg _ (funext fun a => Fin.ext ?_)
    fin_cases a
    · rfl
    · show i.val % 256 = c.val
      omega
    · rfl
  rw [e]
  refine hd.trans (congrArg _ ?_)
  simp only [diag_E]
  rw [hi, Finset.sum_range_add]
  refine congrArg _ ?_
  simp only [ite_mul, zero_mul]
  rw [← Finset.sum_filter]
  refine Finset.sum_congr ?_ fun _ _ => rfl
  ext x
  simp only [Finset.mem_filter, Finset.mem_range]
  omega

/-- The key and value accumulators inside block `b`, after its first `j` tiles. -/
theorem sweep_rep (b j : ℕ) (hb : b < 8) (hj : j ≤ b) {dk dv : Vec Ideal S2048x128 .f32} {fk fv : ℕ → ℕ → ℝ}
    (hk : Rep (e := .f32) dk fk) (hv : Rep (e := .f32) dv fv) :
    Rep (e := .f32) (colSweep (rowsAt Qv b) (rowsAt Ov b) (totRows Lv b) Kv Vv dk dv j).2.1
        (fun n d => if n < 256 * j then fk n d + ∑ i ∈ range 256, wE Q K O V T (d / 64) (256 * b + i) n * (Q (256 * b + i) d * (1 / 8)) else fk n d)
      ∧ Rep (e := .f32) (colSweep (rowsAt Qv b) (rowsAt Ov b) (totRows Lv b) Kv Vv dk dv j).2.2
        (fun n d => if n < 256 * j then fv n d + ∑ i ∈ range 256, wA Q K T (d / 64) (256 * b + i) n * O (256 * b + i) d else fv n d) := by
  induction j with
  | zero =>
    simp only [Nat.mul_zero, Nat.not_lt_zero, if_false]
    exact ⟨hk, hv⟩
  | succ j ih =>
    obtain ⟨ik, iv⟩ := ih (by omega)
    have hc := carry_rep R b j hb (by omega)
    rw [show carry Qv Ov Lv Kv Vv b j = (colSweep (rowsAt Qv b) (rowsAt Ov b) (totRows Lv b) Kv Vv dk dv j).1 from
      (colSweep_carry ..).symm] at hc
    have hK := full_dk (t := fun h i => T h (256 * b + i)) (rep_rows_bf16 R.q b hb) (rep_rows_f32 R.o b hb) (rep_rows_bf16 R.k j (by omega))
      (rep_rows_bf16 R.v j (by omega)) (col0 R b hb) (col1 R b hb) hc (rep_rows_f32 ik j (by omega))
    have hV := full_dv (t := fun h i => T h (256 * b + i)) (rep_rows_bf16 R.q b hb) (rep_rows_f32 R.o b hb) (rep_rows_bf16 R.k j (by omega))
      (col0 R b hb) (col1 R b hb) hc (rep_rows_f32 iv j (by omega))
    constructor
    · intro n d
      refine (rep_put ik hK j n d).trans (congrArg _ ?_)
      simp only [full_E]
      simp only [sh]
      by_cases h1 : 256 * j ≤ n.val ∧ n.val < 256 * j + 256
      · rw [if_pos h1, show 256 * j + (n.val - 256 * j) = n.val by omega, if_neg (show ¬ n.val < 256 * j by omega),
          if_pos (show n.val < 256 * (j + 1) by omega)]
      · rw [if_neg h1]
        by_cases h2 : n.val < 256 * j
        · rw [if_pos h2, if_pos (show n.val < 256 * (j + 1) by omega)]
        · rw [if_neg h2, if_neg (show ¬ n.val < 256 * (j + 1) by omega)]
    · intro n d
      refine (rep_put iv hV j n d).trans (congrArg _ ?_)
      simp only [full_A]
      simp only [sh]
      by_cases h1 : 256 * j ≤ n.val ∧ n.val < 256 * j + 256
      · rw [if_pos h1, show 256 * j + (n.val - 256 * j) = n.val by omega, if_neg (show ¬ n.val < 256 * j by omega),
          if_pos (show n.val < 256 * (j + 1) by omega)]
      · rw [if_neg h1]
        by_cases h2 : n.val < 256 * j
        · rw [if_pos h2, if_pos (show n.val < 256 * (j + 1) by omega)]
        · rw [if_neg h2, if_neg (show ¬ n.val < 256 * (j + 1) by omega)]

/-- The key and value gradients after the first `b` blocks of query rows. -/
theorem accs_rep (b : ℕ) (hb : b ≤ 8) :
    Rep (e := .f32) (accs Qv Ov Lv Kv Vv b).1
        (fun n d => ∑ i ∈ range (256 * b), if n < i then wE Q K O V T (d / 64) i n * (Q i d * (1 / 8)) else 0)
      ∧ Rep (e := .f32) (accs Qv Ov Lv Kv Vv b).2
        (fun n d => ∑ i ∈ range (256 * b), if n < i then wA Q K T (d / 64) i n * O i d else 0) := by
  induction b with
  | zero =>
    constructor
    · intro n d
      show k0_pay108 (F := Ideal) (ix2 n d) = _
      pointwise [k0_pay108]; rfl
    · intro n d
      show k0_pay109 (F := Ideal) (ix2 n d) = _
      pointwise [k0_pay109]; rfl
  | succ b ih =>
    have hb' : b < 8 := by omega
    obtain ⟨hk, hv⟩ := ih (by omega)
    obtain ⟨ik, iv⟩ := sweep_rep R b b hb' le_rfl hk hv
    have hc := carry_rep R b b hb' le_rfl
    have hK := diag_dk (t := fun h i => T h (256 * b + i)) (rep_rows_bf16 R.q b hb') (rep_rows_f32 R.o b hb') (rep_rows_bf16 R.k b hb')
      (rep_rows_bf16 R.v b hb') (col0 R b hb') (col1 R b hb') hc (rep_rows_f32 ik b hb')
    have hV := diag_dv (t := fun h i => T h (256 * b + i)) (rep_rows_bf16 R.q b hb') (rep_rows_f32 R.o b hb') (rep_rows_bf16 R.k b hb')
      (col0 R b hb') (col1 R b hb') hc (rep_rows_f32 iv b hb')
    constructor
    · intro n d
      refine (rep_put ik hK b n d).trans (congrArg _ ?_)
      simp only [diag_E]
      simp only [sh]
      rw [Nat.mul_succ, Finset.sum_range_add]
      by_cases h1 : 256 * b ≤ n.val ∧ n.val < 256 * b + 256
      · rw [if_pos h1, show 256 * b + (n.val - 256 * b) = n.val by omega, if_neg (show ¬ n.val < 256 * b by omega)]
        refine congrArg _ (Finset.sum_congr rfl fun i _ => ?_)
        by_cases h3 : n.val - 256 * b < i
        · rw [if_pos h3, if_pos (by omega)]
        · rw [if_neg h3, if_neg (by omega), zero_mul]
      · rw [if_neg h1]
        by_cases h2 : n.val < 256 * b
        · rw [if_pos h2]
          refine congrArg _ (Finset.sum_congr rfl fun i _ => ?_)
          rw [if_pos (by omega)]
        · rw [if_neg h2]
          refine (add_zero _).symm.trans (congrArg _ (Finset.sum_eq_zero fun i hi => ?_).symm)
          have := Finset.mem_range.1 hi
          rw [if_neg (by omega)]
    · intro n d
      refine (rep_put iv hV b n d).trans (congrArg _ ?_)
      simp only [diag_A]
      simp only [sh]
      rw [Nat.mul_succ, Finset.sum_range_add]
      by_cases h1 : 256 * b ≤ n.val ∧ n.val < 256 * b + 256
      · rw [if_pos h1, show 256 * b + (n.val - 256 * b) = n.val by omega, if_neg (show ¬ n.val < 256 * b by omega)]
        refine congrArg _ (Finset.sum_congr rfl fun i _ => ?_)
        by_cases h3 : n.val - 256 * b < i
        · rw [if_pos h3, if_pos (by omega)]
        · rw [if_neg h3, if_neg (by omega), zero_mul]
      · rw [if_neg h1]
        by_cases h2 : n.val < 256 * b
        · rw [if_pos h2]
          refine congrArg _ (Finset.sum_congr rfl fun i _ => ?_)
          rw [if_pos (by omega)]
        · rw [if_neg h2]
          refine (add_zero _).symm.trans (congrArg _ (Finset.sum_eq_zero fun i hi => ?_).symm)
          have := Finset.mem_range.1 hi
          rw [if_neg (by omega)]
end

end Cert.KernelIdeal.Sb

end
-- ==== Proof.Sb.Host.lean ====
/-
  What the kernel's grid points read: the score rows, the value rows, the incoming gradient, and the row totals of
  log(1 − β) that the program computes before the launch.
-/
module

public import proofs.«01_k».proof.Proof.Sb.Global
public import proofs.«01_k».proof.Proof.Sb.Run
public import Idealize.ShloMosaic.Lib.Claim
public import Idealize.ShloMosaic.Lib.Pipeline.ValueKit

@[expose] public section

noncomputable section

namespace Cert.KernelIdeal.Sb

open Cert.KernelIdeal Cert.KernelIdeal.Gen
open Idealize.ShloMosaic Idealize.ShloMosaic.TcCoe Idealize.ShloMosaic.Pointwise
open Finset (range)

/-- The word of 1/8, in 32 bits. -/
theorem eighth_val32 : Ideal.ofBits .f32 0x3E000000#32 = ((1 / 8 : ℝ) : EReal) := by
  simp [Ideal.ofBits, Ideal.ieee, -EReal.coe_mul]; norm_num

/-- The softplus as the host writes it, of a real. -/
theorem sp_host (z : ℝ) (y : EReal) (hy : y = (z : EReal)) :
    max y 0 + Ideal.log1p (Ideal.exp (-FloatOps.absf (F := Ideal) (φ := .f32) y)) = ((sp z : ℝ) : EReal) := by
  rw [← sp_val z y hy, zero_sub]
  rfl

/-- Two row numbers compared as words. -/
theorem word_slt2 (a b : Fin 2048) {α : Type} (x y : α) :
    Scalar.select (IntOp.cmpi CmpIPredicate.slt (BitVec.ofNat 32 a.val) (BitVec.ofNat 32 b.val)) x y
      = if a.val < b.val then x else y := by
  have ha := a.isLt
  have hb := b.isLt
  have h : (BitVec.ofNat 32 a.val).slt (BitVec.ofNat 32 b.val) = decide (a.val < b.val) := by
    rw [BitVec.slt_eq_decide, BitVec.toInt_ofNat', BitVec.toInt_ofNat', Int.bmod_eq_of_le (by omega) (by omega),
      Int.bmod_eq_of_le (by omega) (by omega)]
    simp
  show Scalar.select (BitVec.ofBool ((BitVec.ofNat 32 a.val).slt (BitVec.ofNat 32 b.val))) x y = _
  rw [h]; split <;> simp [*, Scalar.select]

/-- A row's masked sum, over the extended reals, as the sum over the columns before the row's number. -/
theorem sum_row (f : Fin 2048 → EReal) (g : ℕ → ℝ) (hf : ∀ x, f x = ((g x.val : ℝ) : EReal)) (i : Fin 2048) :
    ∑ x : Fin 2048, (if x.val < i.val then f x else 0) = ((∑ n ∈ range i.val, g n : ℝ) : EReal) := by
  have h : ∀ x : Fin 2048, (if x.val < i.val then f x else 0) = ((if x.val < i.val then g x.val else 0 : ℝ) : EReal) := by
    intro x; rw [hf]; split <;> simp
  rw [Finset.sum_congr rfl fun x _ => h x, coe_sum, Fin.sum_univ_eq_sum_range (fun n => if n < i.val then g n else 0) 2048,
    ← Finset.sum_filter]
  congr 2
  ext n
  have := i.isLt
  simp only [Finset.mem_filter, Finset.mem_range]
  omega

section
variable (X Y : ℕ → ℕ → ℝ) (b p : ℕ)
/-- The pair's query, key and value rows, and its incoming gradient, by row and lane. -/
def qR : ℕ → ℕ → ℝ := fun i d => X (2048 * b + i) (1536 + 128 * p + d)
def kR : ℕ → ℕ → ℝ := fun i d => X (2048 * b + i) (2560 + 128 * p + d)
def vR : ℕ → ℕ → ℝ := fun i d => X (2048 * b + i) (3584 + 128 * p + d)
def oR : ℕ → ℕ → ℝ := fun i d => Y (2048 * b + i) (128 * p + d)
/-- The rows' totals. -/
def tR (h i : ℕ) : ℝ := pre (qR X b p) (kR X b p) h i i
end

variable (m : (ℓ : Loc nD τ sig) → Buf (Elt Ideal) ℓ)

set_option maxRecDepth 100000 in
set_option maxHeartbeats 4000000 in
/-- The totals the host hands the launch. -/
theorem total_at (c : Dev nD) (X : ℕ → ℕ → ℝ)
    (hX : ∀ (r : Fin 4096) (s : Fin 4608), m ((c : Thread nD τ).loc main_arg0) (ix2 r s) = ((X r.val s.val : ℝ) : EReal))
    (b : Fin 2) (p : Fin 8) (i : Fin 2048) (d : Fin 128) :
    V m c main_v25 (ix3 (⟨8 * b + p, by omega⟩ : Fin 16) i d) = ((tR X b p (d.val / 64) i : ℝ) : EReal) := by
  simp only [V, hostOps0, hostOps0_1, hostOps0_2, hostOps0_3, hostOps0_4, List.flatten_cons, List.flatten_nil,
    List.append_nil, List.cons_append, List.nil_append]
  after_results_simp
  simp -implicitDefEqProofs only [StableHlo.TRef.toBuf, StableHlo.TRef.ofBuf, cast_cast, cast_eq, id_eq]
  suffices h : ∀ B : FVec Ideal S16x2048x128 .f32, B (ix3 (⟨8 * b + p, by omega⟩ : Fin 16) i d)
      = (fun _ => ((tR X b p (d.val / 64) i : ℝ) : EReal) : FVec Ideal S16x2048x128 .f32) (ix3 (⟨8 * b + p, by omega⟩ : Fin 16) i d) →
      B (ix3 (⟨8 * b + p, by omega⟩ : Fin 16) i d) = ((tR X b p (d.val / 64) i : ℝ) : EReal) by
    apply h
    pointwise
    have hX' : ∀ (r : Fin 4096) (s : Fin 4608), m (c, Proc.tc.devRef main_arg0) (ix2 r s) = ((X r.val s.val : ℝ) : EReal) := hX
    simp only [hX', word_slt2, eighth_val32, neg_neg, ne_eq, not_true, if_false]
    refine sum_row _ (fun n => 0 - sp (zz (d.val / 64) (qR X b p) (kR X b p) i.val n)) (fun x => ?_) i
    simp only [← EReal.coe_mul, coe_sum]
    rw [sp_host (zz (d.val / 64) (qR X b p) (kR X b p) i.val x.val) _ ?_, ← EReal.coe_neg, zero_sub]
    rw [zz, Finset.sum_mul, ← Fin.sum_univ_eq_sum_range (fun e => qR X b p i.val (64 * (d.val / 64) + e) * (1 / 8) * kR X b p x.val (64 * (d.val / 64) + e)) 64]
    congr 1
    refine Finset.sum_congr rfl fun e _ => ?_
    simp only [qR, kR]
    rw [show b.val * 2048 + i.val = 2048 * b.val + i.val by ring, show b.val * 2048 + x.val = 2048 * b.val + x.val by ring,
      show 1536 + ((p.val * 2 + d.val / 64) * 64 + e.val) = 1536 + 128 * p.val + (64 * (d.val / 64) + e.val) by ring,
      show 1536 + (1024 + ((p.val * 2 + d.val / 64) * 64 + e.val)) = 2560 + 128 * p.val + (64 * (d.val / 64) + e.val) by ring]
    ring
  intro B hB
  exact hB

theorem idx0 : ∀ t, win0_0.index t = ![(grid0.coords t 0).val, 12 + (grid0.coords t 1).val]
    ∧ win0_1.index t = ![(grid0.coords t 0).val, 20 + (grid0.coords t 1).val]
    ∧ win0_2.index t = ![(grid0.coords t 0).val, 28 + (grid0.coords t 1).val]
    ∧ win0_3.index t = ![(grid0.coords t 0).val, (grid0.coords t 1).val]
    ∧ win0_4.index t = ![8 * (grid0.coords t 0).val + (grid0.coords t 1).val, 0, 0] := by decide +kernel

variable (c : Dev nD) (t : Fin cfg0.N)

/-- The grid point's two numbers. -/
abbrev gb : Fin 2 := grid0.coords t 0
abbrev gp : Fin 8 := grid0.coords t 1

theorem blk0 (i : Fin 2048) (d : Fin 128) : iblk m c 0 t (ix2 i d) = m ((c : Thread nD τ).loc main_arg0)
    (ix2 (⟨2048 * (gb t).val + i.val, by omega⟩ : Fin 4096) (⟨1536 + 128 * (gp t).val + d.val, by omega⟩ : Fin 4608)) := by
  blk_ext [iblk, V, (idx0 t).1]
  all_goals (simp only [gb, gp]; ring)
theorem blk1 (i : Fin 2048) (d : Fin 128) : iblk m c 1 t (ix2 i d) = m ((c : Thread nD τ).loc main_arg0)
    (ix2 (⟨2048 * (gb t).val + i.val, by omega⟩ : Fin 4096) (⟨2560 + 128 * (gp t).val + d.val, by omega⟩ : Fin 4608)) := by
  blk_ext [iblk, V, (idx0 t).2.1]
  all_goals (simp only [gb, gp]; ring)
theorem blk2 (i : Fin 2048) (d : Fin 128) : iblk m c 2 t (ix2 i d) = m ((c : Thread nD τ).loc main_arg0)
    (ix2 (⟨2048 * (gb t).val + i.val, by omega⟩ : Fin 4096) (⟨3584 + 128 * (gp t).val + d.val, by omega⟩ : Fin 4608)) := by
  blk_ext [iblk, V, (idx0 t).2.2.1]
  all_goals (simp only [gb, gp]; ring)
theorem blk3 (i : Fin 2048) (d : Fin 128) : iblk m c 3 t (ix2 i d) = m ((c : Thread nD τ).loc main_arg1)
    (ix2 (⟨2048 * (gb t).val + i.val, by omega⟩ : Fin 4096) (⟨128 * (gp t).val + d.val, by omega⟩ : Fin 1024)) := by
  blk_ext [iblk, V, (idx0 t).2.2.2.1]
  all_goals (simp only [gb, gp]; ring)
theorem blk4 (i : Fin 2048) (d : Fin 128) : iblk m c 4 t (ix3 0 i d) = V m c main_v25
    (ix3 (⟨8 * (gb t).val + (gp t).val, by omega⟩ : Fin 16) i d) := by
  generalize hW : V m c main_v25 = W
  unfold iblk
  rw [show V m c (Pipeline.arrRef spec0 4) = W from hW]
  blk_ext [(idx0 t).2.2.2.2]
  all_goals (simp only [gb, gp]; ring)

/-- The grid point's operands, as reals. -/
theorem reads_at (X Y : ℕ → ℕ → ℝ)
    (hX : ∀ (r : Fin 4096) (s : Fin 4608), m ((c : Thread nD τ).loc main_arg0) (ix2 r s) = ((X r.val s.val : ℝ) : EReal))
    (hY : ∀ (r : Fin 4096) (s : Fin 1024), m ((c : Thread nD τ).loc main_arg1) (ix2 r s) = ((Y r.val s.val : ℝ) : EReal)) :
    Reads (iblk m c 0 t) (iblk m c 1 t) (iblk m c 2 t) (iblk m c 3 t) (iblk m c 4 t)
      (qR X (gb t) (gp t)) (kR X (gb t) (gp t)) (oR Y (gb t) (gp t)) (vR X (gb t) (gp t)) (tR X (gb t) (gp t)) where
  q i d := (blk0 m c t i d).trans (hX _ _)
  k i d := (blk1 m c t i d).trans (hX _ _)
  v i d := (blk2 m c t i d).trans (hX _ _)
  o i d := (blk3 m c t i d).trans (hY _ _)
  t0 i := (blk4 m c t i 0).trans (total_at m c X hX (gb t) (gp t) i 0)
  t1 i := (blk4 m c t i 64).trans (total_at m c X hX (gb t) (gp t) i 64)

end Cert.KernelIdeal.Sb
-- ==== Proof.Sb.Result.lean ====
/-
  The kernel's result, entry by entry: the columns before the queries' are the operand's, and the gradients of the
  queries, the keys and the values are the sums over the score matrix.
-/
module

public import proofs.«01_k».proof.Proof.Sb.Host

@[expose] public section

noncomputable section

namespace Cert.KernelIdeal.Sb

open Cert.KernelIdeal Cert.KernelIdeal.Gen
open Idealize.ShloMosaic Idealize.ShloMosaic.TcCoe Idealize.ShloMosaic.Pointwise
open Finset (range)

theorem off6 : ∀ (i : grid0.Coords) (r : Fin 3), k0_off6 i (BitVec.ofNat 32 (8 * r.val))
    = ![2048 * (i 0).val, 128 * (12 + (i 1).val + 8 * r.val)] := by decide +kernel

section
variable (c : Dev nD) (i : grid0.Coords) (r : Fin 3)

theorem win_emb (y : S2048x128.Idx) (a : Fin 2) :
    (((outWin i r).view.emb y : S4096x4608.Idx) a).val
      = (![2048 * (i 0).val, 128 * (12 + (i 1).val + 8 * r.val)] : Fin 2 → ℕ) a + (y a).val := by
  have h : (((outWin i r).view.emb y : S4096x4608.Idx) a).val = k0_off6 i (BitVec.ofNat 32 (8 * r.val)) a + 1 * (y a).val := rfl
  rw [h, off6, one_mul]

variable (G : OutBuf (F := Ideal) c) (w : Vec Ideal S2048x128 .bf16) (x : S4096x4608.Idx)

/-- A write to the window, read inside it. -/
theorem win_in (a : Fin 2048) (l : Fin 128) (h0 : (x 0).val = 2048 * (i 0).val + a.val)
    (h1 : (x 1).val = 128 * (12 + (i 1).val + 8 * r.val) + l.val) :
    (outWin i r).view.write (Elt Ideal) G w Finset.univ x = w (ix2 a l) := by
  have e : (outWin i r).view.emb (ix2 a l) = x := by
    funext q
    apply Fin.ext
    refine (win_emb i r (ix2 a l) q).trans ?_
    fin_cases q
    · exact h0.symm
    · exact h1.symm
  have h := (outWin i r).view.write_emb_of_mem (Val := Elt Ideal) G w (M := Finset.univ) (x := ix2 a l) (Finset.mem_univ _)
  rw [e] at h
  exact h

/-- A write to the window, read off it. -/
theorem win_out (h : ¬ (2048 * (i 0).val ≤ (x 0).val ∧ (x 0).val < 2048 * (i 0).val + 2048
      ∧ 128 * (12 + (i 1).val + 8 * r.val) ≤ (x 1).val ∧ (x 1).val < 128 * (12 + (i 1).val + 8 * r.val) + 128)) :
    (outWin i r).view.write (Elt Ideal) G w Finset.univ x = G x := by
  refine View.write_of_not_mem _ _ _ fun hx => h ?_
  obtain ⟨y, -, hy⟩ := Finset.mem_map.mp hx
  have e0 := win_emb i r y 0
  have e1 := win_emb i r y 1
  have b0 : (y 0).val < 2048 := (y 0).isLt
  have b1 : (y 1).val < 128 := (y 1).isLt
  rw [show (outWin i r).view.emb y = x from hy] at e0 e1
  simp only [Matrix.cons_val_zero, Matrix.cons_val_one] at e0 e1
  omega
end

variable (m : (ℓ : Loc nD τ sig) → Buf (Elt Ideal) ℓ) (c : Dev nD) (t : Fin cfg0.N)

/-- The three blocks a grid point sends. -/
abbrev sentAt (r : Fin 3) : Vec Ideal S2048x128 .bf16 :=
  sent (iblk m c 0 t) (iblk m c 3 t) (iblk m c 4 t) (iblk m c 1 t) (iblk m c 2 t) r

theorem landed_in (G : OutBuf (F := Ideal) c) (x : S4096x4608.Idx) (r : Fin 3) (a : Fin 2048) (l : Fin 128)
    (h0 : (x 0).val = 2048 * (gb t).val + a.val) (h1 : (x 1).val = 128 * (12 + (gp t).val + 8 * r.val) + l.val) :
    landedAt m c t G x = sentAt m c t r (ix2 a l) := by
  have hp : (gp t).val < 8 := (gp t).isLt
  have hl := l.isLt
  match r with
  | 2 => exact win_in c (grid0.coords t) 2 _ _ x a l h0 h1
  | 1 =>
    refine (win_out c (grid0.coords t) 2 _ _ x ?_).trans (win_in c (grid0.coords t) 1 _ _ x a l h0 h1)
    simp only [show ((1 : Fin 3) : ℕ) = 1 from rfl, show ((2 : Fin 3) : ℕ) = 2 from rfl] at *
    omega
  | 0 =>
    refine (win_out c (grid0.coords t) 2 _ _ x ?_).trans ((win_out c (grid0.coords t) 1 _ _ x ?_).trans
      (win_in c (grid0.coords t) 0 _ _ x a l h0 h1))
    all_goals
      simp only [show ((0 : Fin 3) : ℕ) = 0 from rfl, show ((1 : Fin 3) : ℕ) = 1 from rfl, show ((2 : Fin 3) : ℕ) = 2 from rfl] at *
      omega

theorem landed_out (G : OutBuf (F := Ideal) c) (x : S4096x4608.Idx)
    (h : ∀ r : Fin 3, ¬ (2048 * (gb t).val ≤ (x 0).val ∧ (x 0).val < 2048 * (gb t).val + 2048
      ∧ 128 * (12 + (gp t).val + 8 * r.val) ≤ (x 1).val ∧ (x 1).val < 128 * (12 + (gp t).val + 8 * r.val) + 128)) :
    landedAt m c t G x = G x :=
  (win_out c (grid0.coords t) 2 _ _ x (h 2)).trans ((win_out c (grid0.coords t) 1 _ _ x (h 1)).trans
    (win_out c (grid0.coords t) 0 _ _ x (h 0)))

theorem point_num : ∀ t : Fin cfg0.N, t.val = 8 * (gb t).val + (gp t).val := by decide +kernel

/-- After the points so far, the blocks of the points passed are what those points sent. -/
theorem result_in (x : S4096x4608.Idx) (r : Fin 3) (a : Fin 2048) (l : Fin 128)
    (h0 : (x 0).val = 2048 * (gb t).val + a.val) (h1 : (x 1).val = 128 * (12 + (gp t).val + 8 * r.val) + l.val) (n : ℕ)
    (hn : t.val < n) (hN : n ≤ cfg0.N) : resultAt m c n x = sentAt m c t r (ix2 a l) := by
  induction n with
  | zero => omega
  | succ n ih =>
    rw [resultAt, dif_pos (show n < cfg0.N by omega)]
    by_cases e : t.val = n
    · subst e
      exact landed_in m c t _ x r a l h0 h1
    · refine (landed_out m c ⟨n, by omega⟩ _ x fun q hq => e ?_).trans (ih (by omega) (by omega))
      rw [point_num t, show n = 8 * (gb (⟨n, by omega⟩ : Fin cfg0.N)).val + (gp (⟨n, by omega⟩ : Fin cfg0.N)).val from point_num (⟨n, by omega⟩ : Fin cfg0.N)]
      have b0 : a.val < 2048 := a.isLt
      have b1 : l.val < 128 := l.isLt
      have b2 : (gp t).val < 8 := (gp t).isLt
      have b3 : (gp (⟨n, by omega⟩ : Fin cfg0.N)).val < 8 := (gp (⟨n, by omega⟩ : Fin cfg0.N)).isLt
      have b4 := q.isLt
      have b5 := r.isLt
      omega

/-- The columns before the queries' keep the operand's. -/
theorem result_out (x : S4096x4608.Idx) (h : (x 1).val < 1536) (n : ℕ) : resultAt m c n x = m ((c : Thread nD τ).loc main_arg2) x := by
  induction n with
  | zero =>
    rw [resultAt]
    have e : V m c main_v26 = m ((c : Thread nD τ).loc main_arg2) := by
      simp only [V, hostOps0, hostOps0_1, hostOps0_2, hostOps0_3, hostOps0_4, List.flatten_cons, List.flatten_nil,
        List.append_nil, List.cons_append, List.nil_append]
      after_results_simp
      rfl
    rw [e]
  | succ n ih =>
    rw [resultAt]
    split
    · exact (landed_out m c _ _ x fun q hq => by omega).trans ih
    · exact ih

section
variable (X Y : ℕ → ℕ → ℝ)
    (hX : ∀ (r : Fin 4096) (s : Fin 4608), m ((c : Thread nD τ).loc main_arg0) (ix2 r s) = ((X r.val s.val : ℝ) : EReal))
    (hY : ∀ (r : Fin 4096) (s : Fin 1024), m ((c : Thread nD τ).loc main_arg1) (ix2 r s) = ((Y r.val s.val : ℝ) : EReal))

/-- The weights' gradient and the weights of a head's score matrix. -/
def eR (b p h i n : ℕ) : ℝ := wE (qR X b p) (kR X b p) (oR Y b p) (vR X b p) (tR X b p) h i n
def aR (b p h i n : ℕ) : ℝ := wA (qR X b p) (kR X b p) (tR X b p) h i n

include hX hY

theorem dq_at (b : Fin 2) (p : Fin 8) (i : Fin 2048) (l : Fin 128) :
    resultAt m c cfg0.N (ix2 (⟨2048 * b.val + i.val, by omega⟩ : Fin 4096) (⟨1536 + 128 * p.val + l.val, by omega⟩ : Fin 4608))
      = ((∑ n ∈ range i.val, eR X Y b p (l.val / 64) i.val n * (kR X b p n l.val * (1 / 8)) : ℝ) : EReal) := by
  obtain ⟨t, hb, hp⟩ : ∃ t : Fin cfg0.N, gb t = b ∧ gp t = p := by revert b p; decide +kernel
  subst hb hp
  rw [result_in m c t _ 0 i l rfl (show 1536 + 128 * (gp t).val + l.val = 128 * (12 + (gp t).val + 8 * 0) + l.val by ring) _ t.isLt le_rfl]
  exact dq_rep (reads_at m c t X Y hX hY) i l

theorem dk_at (b : Fin 2) (p : Fin 8) (n : Fin 2048) (l : Fin 128) :
    resultAt m c cfg0.N (ix2 (⟨2048 * b.val + n.val, by omega⟩ : Fin 4096) (⟨2560 + 128 * p.val + l.val, by omega⟩ : Fin 4608))
      = ((∑ i ∈ range 2048, if n.val < i then eR X Y b p (l.val / 64) i n.val * (qR X b p i l.val * (1 / 8)) else 0 : ℝ) : EReal) := by
  obtain ⟨t, hb, hp⟩ : ∃ t : Fin cfg0.N, gb t = b ∧ gp t = p := by revert b p; decide +kernel
  subst hb hp
  rw [result_in m c t _ 1 n l rfl (show 2560 + 128 * (gp t).val + l.val = 128 * (12 + (gp t).val + 8 * 1) + l.val by ring) _ t.isLt le_rfl]
  have h := (accs_rep (reads_at m c t X Y hX hY) 8 le_rfl).1 n l
  rw [← show (range (256 * 8) = range 2048) from rfl]
  refine Eq.trans ?_ h
  show k0_pay113 _ (ix3 (0 : Fin 1) n l) = _
  generalize (accs (iblk m c 0 t) (iblk m c 3 t) (iblk m c 4 t) (iblk m c 1 t) (iblk m c 2 t) 8).1 = w
  pointwise [k0_pay113]

theorem dv_at (b : Fin 2) (p : Fin 8) (n : Fin 2048) (l : Fin 128) :
    resultAt m c cfg0.N (ix2 (⟨2048 * b.val + n.val, by omega⟩ : Fin 4096) (⟨3584 + 128 * p.val + l.val, by omega⟩ : Fin 4608))
      = ((∑ i ∈ range 2048, if n.val < i then aR X b p (l.val / 64) i n.val * oR Y b p i l.val else 0 : ℝ) : EReal) := by
  obtain ⟨t, hb, hp⟩ : ∃ t : Fin cfg0.N, gb t = b ∧ gp t = p := by revert b p; decide +kernel
  subst hb hp
  rw [result_in m c t _ 2 n l rfl (show 3584 + 128 * (gp t).val + l.val = 128 * (12 + (gp t).val + 8 * 2) + l.val by ring) _ t.isLt le_rfl]
  have h := (accs_rep (reads_at m c t X Y hX hY) 8 le_rfl).2 n l
  rw [← show (range (256 * 8) = range 2048) from rfl]
  refine Eq.trans ?_ h
  show k0_pay114 _ (ix3 (0 : Fin 1) n l) = _
  generalize (accs (iblk m c 0 t) (iblk m c 3 t) (iblk m c 4 t) (iblk m c 1 t) (iblk m c 2 t) 8).2 = w
  pointwise [k0_pay114]
end

end Cert.KernelIdeal.Sb
-- ==== Proof.Sb.Ref.lean ====
/-
  The reference's score matrix, its weights and their gradients, entry by entry, as the real functions the kernel's
  tiles compute.
-/
module

public import proofs.«01_k».proof.Proof.Sb.Result
public import proofs.«01_k».proof.Proof.Gen.ReferenceIdeal.Read

@[expose] public section

noncomputable section

namespace Cert.ReferenceIdeal.Sb

open Cert.ReferenceIdeal Cert.ReferenceIdeal.Gen Cert.ReferenceIdeal.Read
open Cert.KernelIdeal.Sb (sp zz dd tB pre wA wG preG wE qR kR vR oR tR coe_sum sp_host word_slt2 eighth_val32 eR aR)
open Idealize.ShloMosaic Idealize.ShloMosaic.Pointwise
open Finset (range)

/-- A left fold that adds is a sum. -/
theorem foldl_add {α : Type} (l : List α) (g : α → EReal) (r : EReal) : l.foldl (fun r n => r + g n) r = r + (l.map g).sum := by
  induction l generalizing r with
  | nil => simp
  | cons a l ih => rw [List.foldl_cons, ih, List.map_cons, List.sum_cons, add_assoc]

/-- A window sum along the last axis, at an index. -/
theorem window_sum {A B C N : ℕ} (lo hi : ℕ)
    (h : (⟨4, ![A, B, C, N]⟩ : Shape).ReduceWindows ![1, 1, 1, N] ![1, 1, 1, 1] ![0, 0, 0, lo] ![0, 0, 0, hi] ⟨4, ![A, B, C, N]⟩)
    (x : (⟨4, ![A, B, C, N]⟩ : Shape).Idx → EReal) (a : Fin A) (b : Fin B) (c : Fin C) (j : Fin N) :
    Ideal.hostReduceWindowAdd (s := ⟨4, ![A, B, C, N]⟩) ![1, 1, 1, N] ![1, 1, 1, 1] ![0, 0, 0, lo] ![0, 0, 0, hi] h x 0 (ix4 a b c j)
      = ∑ k : Fin N, if hk : lo ≤ j.val + k.val ∧ j.val + k.val - lo < N then x (ix4 a b c ⟨j.val + k.val - lo, hk.2⟩) else 0 := by
  unfold Ideal.hostReduceWindowAdd Host.reduceWindow
  simp only
  rw [foldl_add, zero_add, ← List.ofFn_eq_map, List.sum_ofFn]
  let e : (⟨4, ![1, 1, 1, N]⟩ : Shape).Idx ≃ Fin N :=
    { toFun := fun w => w 3
      invFun := fun k => ix4 (0 : Fin 1) (0 : Fin 1) (0 : Fin 1) k
      left_inv := fun w => by
        funext a
        fin_cases a
        · exact (Subsingleton.elim (α := Fin 1) _ _)
        · exact (Subsingleton.elim (α := Fin 1) _ _)
        · exact (Subsingleton.elim (α := Fin 1) _ _)
        · rfl
      right_inv := fun k => rfl }
  refine Fintype.sum_equiv ((⟨4, ![1, 1, 1, N]⟩ : Shape).rowMajor.symm.trans e) _ _ (fun n => ?_)
  rw [Equiv.trans_apply]
  have z0 : ∀ y : Fin 1, y.val = 0 := fun y => by omega
  have w0 := z0 ((⟨4, ![1, 1, 1, N]⟩ : Shape).rowMajor.symm n 0)
  have w1 := z0 ((⟨4, ![1, 1, 1, N]⟩ : Shape).rowMajor.symm n 1)
  have w2 := z0 ((⟨4, ![1, 1, 1, N]⟩ : Shape).rowMajor.symm n 2)
  have w3 : ((⟨4, ![1, 1, 1, N]⟩ : Shape).rowMajor.symm n 3).val = (e ((⟨4, ![1, 1, 1, N]⟩ : Shape).rowMajor.symm n)).val := rfl
  generalize e ((⟨4, ![1, 1, 1, N]⟩ : Shape).rowMajor.symm n) = k at w3 ⊢
  have p0 : ∀ y w : ℕ, w = 0 → y * 1 + w - 0 = y := by omega
  have p3 : ∀ y w k : ℕ, w = k → y * 1 + w - lo = y + k - lo := by intro y w k h; rw [h, mul_one]
  by_cases hin : lo ≤ j.val + k.val ∧ j.val + k.val - lo < N
  · rw [dif_pos hin, dif_pos]
    · congr 1
      funext q
      apply Fin.ext
      fin_cases q
      · exact p0 a.val _ w0
      · exact p0 b.val _ w1
      · exact p0 c.val _ w2
      · exact p3 j.val _ _ w3
    · intro q
      fin_cases q
      · exact ⟨Nat.zero_le _, (p0 a.val _ w0).trans_lt a.isLt⟩
      · exact ⟨Nat.zero_le _, (p0 b.val _ w1).trans_lt b.isLt⟩
      · exact ⟨Nat.zero_le _, (p0 c.val _ w2).trans_lt c.isLt⟩
      · exact ⟨by show lo ≤ j.val * 1 + ((⟨4, ![1, 1, 1, N]⟩ : Shape).rowMajor.symm n 3).val; rw [w3, mul_one]; exact hin.1, (p3 j.val _ _ w3).trans_lt hin.2⟩
  · rw [dif_neg hin, dif_neg]
    intro hall
    have h3 : lo ≤ j.val * 1 + ((⟨4, ![1, 1, 1, N]⟩ : Shape).rowMajor.symm n 3).val ∧ j.val * 1 + ((⟨4, ![1, 1, 1, N]⟩ : Shape).rowMajor.symm n 3).val - lo < N := hall 3
    rw [w3, mul_one] at h3
    exact hin h3

/-- The same of the host's operation, from an initial value of zero. -/
theorem host_window_sum {A B C N : ℕ} (lo hi : ℕ)
    (h : (⟨4, ![A, B, C, N]⟩ : Shape).ReduceWindows ![1, 1, 1, N] ![1, 1, 1, 1] ![0, 0, 0, lo] ![0, 0, 0, hi] ⟨4, ![A, B, C, N]⟩)
    (hu : 0 < (⟨0, ![]⟩ : Shape).numel) (x : FVec Ideal ⟨4, ![A, B, C, N]⟩ .f32) (init : FVec Ideal ⟨0, ![]⟩ .f32)
    (h0 : init (Shape.Idx.first hu) = (0 : EReal)) (a : Fin A) (b : Fin B) (c : Fin C) (j : Fin N) :
    Host.reduceWindowAdd (F := Ideal) ![1, 1, 1, N] ![1, 1, 1, 1] ![0, 0, 0, lo] ![0, 0, 0, hi] x init h hu (ix4 a b c j)
      = ∑ k : Fin N, if hk : lo ≤ j.val + k.val ∧ j.val + k.val - lo < N then x (ix4 a b c ⟨j.val + k.val - lo, hk.2⟩) else 0 := by
  rw [← window_sum lo hi h x a b c j, ← h0]
  rfl

/-- A sum of real values over an index type of 2048 entries. -/
theorem sum_fin (x : Fin 2048 → EReal) (g : ℕ → ℝ) (hx : ∀ k : Fin 2048, x k = ((g k.val : ℝ) : EReal)) :
    ∑ k, x k = ((∑ k ∈ range 2048, g k : ℝ) : EReal) := by
  rw [← Fin.sum_univ_eq_sum_range, ← coe_sum]
  exact Finset.sum_congr rfl fun k _ => hx k

/-- The sum from an entry on, of a row that is zero from the diagonal on, less the entry itself. -/
theorem suffix_eq (f : ℕ → ℝ) (i j : ℕ) (hi : i < 2048) (hj : j < i) :
    (∑ k ∈ range 2048, if j + k < 2048 then (if j + k < i then f (j + k) else 0) else 0) - f j
      = ∑ n ∈ range i, f n - ∑ n ∈ range (j + 1), f n := by
  have h1 : ∑ n ∈ range i, f n = ∑ n ∈ range j, f n + ∑ k ∈ range (i - j), f (j + k) := by
    rw [← Finset.sum_range_add, Nat.add_sub_cancel' hj.le]
  have h2 : (∑ k ∈ range 2048, if j + k < 2048 then (if j + k < i then f (j + k) else 0) else 0)
      = ∑ k ∈ range (i - j), f (j + k) := by
    rw [← Finset.sum_subset (s₁ := range (i - j)) (by intro k; simp only [Finset.mem_range]; omega)]
    · refine Finset.sum_congr rfl fun k hk => ?_
      rw [Finset.mem_range] at hk
      rw [if_pos (show j + k < 2048 by omega), if_pos (show j + k < i by omega)]
    · intro k _ hk
      rw [Finset.mem_range] at hk
      rw [if_neg (show ¬ j + k < i by omega), ite_self]
  rw [h1, h2, Finset.sum_range_succ]
  ring

/-- The sum up to an entry, taken as a window that reaches 2047 entries back. -/
theorem prefix_eq (f : ℕ → ℝ) (j : ℕ) (hj : j < 2048) :
    (∑ k ∈ range 2048, if 2047 ≤ j + k then f (j + k - 2047) else 0) = ∑ n ∈ range (j + 1), f n := by
  rw [← Finset.sum_filter]
  refine Finset.sum_nbij' (fun k => j + k - 2047) (fun n => n + 2047 - j) ?_ ?_ ?_ ?_ ?_
  · intro k; simp only [Finset.mem_filter, Finset.mem_range]; omega
  · intro n; simp only [Finset.mem_filter, Finset.mem_range]; omega
  · intro k; simp only [Finset.mem_filter, Finset.mem_range]; omega
  · intro n; simp only [Finset.mem_range]; omega
  · intro k _; rfl

/-- 1 − β as the exponential of minus the softplus. -/
theorem sp_compl (z : ℝ) : Real.exp (-sp z) = 1 - Real.exp (z - sp z) := by
  have h : Real.exp (sp z) = 1 + Real.exp z := by
    unfold sp
    rw [Real.exp_add, Real.exp_log (by positivity)]
    rcases le_total z 0 with h | h
    · rw [max_eq_right h, abs_of_nonpos h, neg_neg, Real.exp_zero, one_mul]
    · rw [max_eq_left h, abs_of_nonneg h, mul_add, mul_one, ← Real.exp_add, add_neg_cancel, Real.exp_zero, add_comm]
  have hp : (0 : ℝ) < 1 + Real.exp z := by positivity
  rw [Real.exp_sub, Real.exp_neg, h]
  field_simp
  ring

section Entries

variable (x0 : FVec Ideal S4096x4608 .bf16) (x1 : FVec Ideal S4096x1024 .f32) (X Y : ℕ → ℕ → ℝ)
  (hX : ∀ (r : Fin 4096) (s : Fin 4608), x0 (ix2 r s) = ((X r.val s.val : ℝ) : EReal))
  (hY : ∀ (r : Fin 4096) (s : Fin 1024), x1 (ix2 r s) = ((Y r.val s.val : ℝ) : EReal))

/-- The score of a query row against a key row, as head `h` takes it. -/
def zR (X : ℕ → ℕ → ℝ) (b h i j : ℕ) : ℝ := zz (h % 2) (qR X b (h / 2)) (kR X b (h / 2)) i j

/-- The softplus of the score. -/
def spR (X : ℕ → ℕ → ℝ) (b h i j : ℕ) : ℝ := sp (zR X b h i j)

include hX in
theorem v10_at (b : Fin 2) (h : Fin 16) (i j : Fin 2048) :
    val_main_v10 (F := Ideal) x0 (ix4 b h i j) = ((zR X b h i j : ℝ) : EReal) := by
  pointwise [val_main_v10, val_main_v8, val_main_v9, val_main_cst, val_main_v3, val_main_v5, val_main_v2, val_main_v4, val_main_v1, val_main_v0]
  simp only [hX, eighth_val32, ← EReal.coe_mul]
  rw [coe_sum, ← EReal.coe_mul]
  congr 1
  rw [Finset.sum_mul, zR, zz, ← Fin.sum_univ_eq_sum_range (fun d => qR X b (h.val / 2) i (64 * (h.val % 2) + d) * (1 / 8) * kR X b (h.val / 2) j (64 * (h.val % 2) + d))]
  refine Finset.sum_congr rfl fun d _ => ?_
  have e1 : b.val * 2048 + i.val = 2048 * b.val + i.val := by ring
  have e2 : b.val * 2048 + j.val = 2048 * b.val + j.val := by ring
  have e3 : 1536 + (h.val * 64 + d.val) = 1536 + 128 * (h.val / 2) + (64 * (h.val % 2) + d.val) := by omega
  have e4 : 1536 + (1024 + (h.val * 64 + d.val)) = 2560 + 128 * (h.val / 2) + (64 * (h.val % 2) + d.val) := by omega
  simp only [e1, e2, e3, e4, qR, kR]
  ring

include hX in
theorem sp_at (b : Fin 2) (h : Fin 16) (i j : Fin 2048) :
    val_main_call1_v1_0 (F := Ideal) x0 (ix4 b h i j) = ((spR X b h i j : ℝ) : EReal) := by
  pointwise [val_main_call1_v1_0, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_v18]
  rw [v10_at x0 X hX, neg_neg, if_neg (fun h => h rfl)]
  exact sp_host _ _ rfl

/-- The softplus of minus a number is the softplus less the number. -/
theorem sp_neg (z : ℝ) : sp (-z) = sp z - z := by
  unfold sp
  rw [abs_neg]
  have : max (-z) 0 = max z 0 - z := by
    rcases le_total z 0 with h | h
    · rw [max_eq_left (by linarith), max_eq_right h]; ring
    · rw [max_eq_right (by linarith), max_eq_left h]; ring
  rw [this]; ring

include hX in
theorem spn_at (b : Fin 2) (h : Fin 16) (i j : Fin 2048) :
    val_main_call0_v1_0 (F := Ideal) x0 (ix4 b h i j) = ((spR X b h i j - zR X b h i j : ℝ) : EReal) := by
  pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [v10_at x0 X hX, if_neg (fun h => h rfl), ← EReal.coe_neg, spR, ← sp_neg]
  exact sp_host _ _ rfl

theorem inf_val : Ideal.ofBits .f32 2139095040#32 = (⊤ : EReal) := by
  simp [Ideal.ofBits, Ideal.ieee]

include hX in
theorem v17_0_at (b : Fin 2) (h : Fin 16) (i j : Fin 2048) :
    val_main_v17_0 (F := Ideal) x0 (ix4 b h i j) = ((zR X b h i j - spR X b h i j : ℝ) : EReal) := by
  pointwise [val_main_v17_0]
  rw [spn_at x0 X hX, ← EReal.coe_neg, neg_sub]

include hX in
theorem v17_1_at (b : Fin 2) (h : Fin 16) (i j : Fin 2048) :
    val_main_v17_1 (F := Ideal) x0 (ix4 b h i j) = ((Real.exp (-spR X b h i j) : ℝ) : EReal) := by
  pointwise [val_main_v17_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_v0, val_main_call0_call0_cst_0, val_main_call0_call0_cst_1, val_main_call0_call0_cst_2, val_main_call0_call0_cst_3]
  rw [spn_at x0 X hX, v10_at x0 X hX, inf_val, ← EReal.coe_neg, if_neg (EReal.coe_ne_top _), if_neg (EReal.coe_ne_top _), ← EReal.coe_sub]
  rw [show -zR X b h i j - (spR X b h i j - zR X b h i j) = -spR X b h i j by ring]
  rfl

include hX in
theorem v19_0_at (b : Fin 2) (h : Fin 16) (i j : Fin 2048) :
    val_main_v19_0 (F := Ideal) x0 (ix4 b h i j) = ((0 - spR X b h i j : ℝ) : EReal) := by
  pointwise [val_main_v19_0]
  rw [sp_at x0 X hX, ← EReal.coe_neg, zero_sub]

include hX in
theorem v19_1_at (b : Fin 2) (h : Fin 16) (i j : Fin 2048) :
    val_main_v19_1 (F := Ideal) x0 (ix4 b h i j) = ((Real.exp (zR X b h i j - spR X b h i j) : ℝ) : EReal) := by
  pointwise [val_main_v19_1, val_main_call1_call0_v21, val_main_call1_call0_v20, val_main_call1_call0_v19, val_main_call1_call0_v18, val_main_call1_call0_v17, val_main_call1_call0_v16, val_main_call1_call0_v15, val_main_call1_call0_v14, val_main_call1_call0_v13, val_main_call1_v0, val_main_v18, val_main_call1_call0_cst_0, val_main_call1_call0_cst_1, val_main_call1_call0_cst_2, val_main_call1_call0_cst_3]
  rw [sp_at x0 X hX, v10_at x0 X hX, inf_val, neg_neg, if_neg (EReal.coe_ne_top _), if_neg (EReal.coe_ne_top _), ← EReal.coe_sub]
  rfl

theorem zero_val : Ideal.ofBits .f32 0#32 = (0 : EReal) := by
  simp [Ideal.ofBits, Ideal.ieee]

include hX in
theorem v20_at (b : Fin 2) (h : Fin 16) (i j : Fin 2048) :
    val_main_v20_0 (F := Ideal) x0 (ix4 b h i j) = ((if j.val < i.val then 0 - spR X b h i j else 0 : ℝ) : EReal) := by
  pointwise [val_main_v20_0, val_main_v20_1, val_main_v16, val_main_v15, val_main_v14, val_main_v13, val_main_v12, val_main_v11, val_main_call2_v2, val_main_call2_v0, val_main_cst_0]
  rw [word_slt2, v19_0_at x0 X hX]
  split
  · rfl
  · exact zero_val

/-- The sum from an entry on of the masked log(1 − β). -/
def sufR (X : ℕ → ℕ → ℝ) (b h i j : ℕ) : ℝ :=
  ∑ k ∈ range 2048, if j + k < 2048 then (if j + k < i then 0 - spR X b h i (j + k) else 0) else 0

include hX in
theorem v21_at (b : Fin 2) (h : Fin 16) (i j : Fin 2048) :
    val_main_v21 (F := Ideal) x0 (ix4 b h i j) = ((sufR X b h i j : ℝ) : EReal) := by
  have e0 : val_main_call3_v0 (F := Ideal) (Shape.Idx.first h_S_) = (0 : EReal) := zero_val
  rw [val_main_v21, host_window_sum _ _ _ _ _ _ e0]
  rw [sum_fin _ (fun k => if j.val + k < 2048 then (if j.val + k < i.val then 0 - spR X b h i (j.val + k) else 0) else 0)]
  · rw [sufR]
  intro k
  by_cases hk : j.val + k.val < 2048
  · rw [dif_pos ⟨Nat.zero_le _, hk⟩, if_pos hk]
    exact v20_at x0 X hX b h i ⟨j.val + k.val, hk⟩
  · rw [dif_neg (fun h => hk h.2), if_neg hk]
    rfl

/-- The weight's exponent, as the reference takes it. -/
def expR (X : ℕ → ℕ → ℝ) (b h i j : ℕ) : ℝ :=
  zR X b h i j - spR X b h i j + (sufR X b h i j - if j < i then 0 - spR X b h i j else 0)

include hX in
theorem v24_at (b : Fin 2) (h : Fin 16) (i j : Fin 2048) :
    val_main_v24 (F := Ideal) x0 (ix4 b h i j) = ((Real.exp (expR X b h i j) : ℝ) : EReal) := by
  pointwise [val_main_v24, val_main_v23, val_main_v22]
  rw [v17_0_at x0 X hX, v21_at x0 X hX, v20_at x0 X hX, ← EReal.coe_sub, ← EReal.coe_add]
  rfl

/-- Before the diagonal, the reference's weight is the kernel's. -/
theorem exp_eq (b h i j : ℕ) (hi : i < 2048) (hj : j < i) :
    Real.exp (expR X b h i j) = aR X b (h / 2) (h % 2) i j := by
  rw [expR, if_pos hj, sufR, suffix_eq (fun n => 0 - spR X b h i n) i j hi hj]
  rfl

include hX in
theorem v25_at (b : Fin 2) (h : Fin 16) (i j : Fin 2048) :
    val_main_v25_0 (F := Ideal) x0 (ix4 b h i j)
      = ((if j.val < i.val then aR X b (h / 2) (h % 2) i j else 0 : ℝ) : EReal) := by
  pointwise [val_main_v25_0, val_main_v25_1, val_main_v16, val_main_v15, val_main_v14, val_main_v13, val_main_v12, val_main_v11, val_main_call4_v2, val_main_call4_v0, val_main_cst_1]
  rw [word_slt2, v24_at x0 X hX]
  split
  · rename_i hj
    rw [exp_eq X b h i j i.isLt hj]
  · exact zero_val

/-- A row of the incoming gradient against a value row, as head `h` takes it. -/
def dR (X Y : ℕ → ℕ → ℝ) (b h i j : ℕ) : ℝ := dd (h % 2) (oR Y b (h / 2)) (vR X b (h / 2)) i j

include hX hY in
theorem v30_at (b : Fin 2) (h : Fin 16) (i j : Fin 2048) :
    val_main_v30 (F := Ideal) x0 x1 (ix4 b h i j) = ((dR X Y b h i j : ℝ) : EReal) := by
  pointwise [val_main_v30, val_main_v29, val_main_v28, val_main_v7, val_main_v6, val_main_v1, val_main_v0]
  simp only [hX, hY, ← EReal.coe_mul]
  rw [coe_sum]
  congr 1
  rw [dR, dd, ← Fin.sum_univ_eq_sum_range (fun d => oR Y b (h.val / 2) i (64 * (h.val % 2) + d) * vR X b (h.val / 2) j (64 * (h.val % 2) + d))]
  refine Finset.sum_congr rfl fun d _ => ?_
  have e1 : b.val * 2048 + i.val = 2048 * b.val + i.val := by ring
  have e2 : b.val * 2048 + j.val = 2048 * b.val + j.val := by ring
  have e3 : h.val * 64 + d.val = 128 * (h.val / 2) + (64 * (h.val % 2) + d.val) := by omega
  have e4 : 1536 + (2048 + (h.val * 64 + d.val)) = 3584 + 128 * (h.val / 2) + (64 * (h.val % 2) + d.val) := by omega
  simp only [e1, e2, e4, oR, vR]
  rw [e3]

/-- The weight times its incoming gradient. -/
def gR (X Y : ℕ → ℕ → ℝ) (b h i j : ℕ) : ℝ :=
  wG (qR X b (h / 2)) (kR X b (h / 2)) (oR Y b (h / 2)) (vR X b (h / 2)) (tR X b (h / 2)) (h % 2) i j

include hX hY in
theorem v34_at (b : Fin 2) (h : Fin 16) (i j : Fin 2048) :
    val_main_v34 (F := Ideal) x0 x1 (ix4 b h i j) = ((if j.val < i.val then gR X Y b h i j else 0 : ℝ) : EReal) := by
  pointwise [val_main_v34, val_main_v33, val_main_v25_1, val_main_v16, val_main_v15, val_main_v14, val_main_v13, val_main_v12, val_main_v11, val_main_call5_v0, val_main_call5_cst]
  rw [word_slt2, v24_at x0 X hX, v30_at x0 x1 X Y hX hY]
  split
  · rename_i hj
    rw [← EReal.coe_mul, exp_eq X b h i j i.isLt hj, mul_comm]
    rfl
  · simp [zero_val]

include hX hY in
theorem v36_at (b : Fin 2) (h : Fin 16) (i j : Fin 2048) :
    val_main_v36 (F := Ideal) x0 x1 (ix4 b h i j)
      = ((∑ n ∈ range (j.val + 1), if n < i.val then gR X Y b h i n else 0 : ℝ) : EReal) := by
  have e0 : val_main_call6_v0 (F := Ideal) (Shape.Idx.first h_S_) = (0 : EReal) := zero_val
  rw [val_main_v36, host_window_sum _ _ _ _ _ _ e0, ← prefix_eq _ j.val j.isLt]
  rw [sum_fin _ (fun k => if 2047 ≤ j.val + k then (if j.val + k - 2047 < i.val then gR X Y b h i (j.val + k - 2047) else 0) else 0)]
  intro k
  by_cases hk : 2047 ≤ j.val + k.val
  · have hk' : j.val + k.val - 2047 < 2048 := by omega
    rw [dif_pos ⟨hk, hk'⟩, if_pos hk]
    exact v34_at x0 x1 X Y hX hY b h i ⟨j.val + k.val - 2047, hk'⟩
  · rw [dif_neg (fun h => hk h.1), if_neg hk]
    rfl

include hX hY in
theorem v38_at (b : Fin 2) (h : Fin 16) (i j : Fin 2048) :
    val_main_v38 (F := Ideal) x0 x1 (ix4 b h i j)
      = ((if j.val < i.val then ∑ n ∈ range j.val, gR X Y b h i n else 0 : ℝ) : EReal) := by
  pointwise [val_main_v38, val_main_v37, val_main_v35, val_main_v20_1, val_main_v16, val_main_v15, val_main_v14, val_main_v13, val_main_v12, val_main_v11, val_main_call7_v0, val_main_call7_cst]
  rw [word_slt2, v34_at x0 x1 X Y hX hY, v36_at x0 x1 X Y hX hY]
  split
  · rename_i hj
    rw [← EReal.coe_neg, ← EReal.coe_add]
    congr 1
    rw [Finset.sum_range_succ, if_pos hj, Finset.sum_congr rfl fun n hn => if_pos (show n < i.val from (Finset.mem_range.mp hn).trans hj)]
    ring
  · rfl

include hX hY in
theorem v44_at (b : Fin 2) (h : Fin 16) (i j : Fin 2048) :
    val_main_v44 (F := Ideal) x0 x1 (ix4 b h i j)
      = ((if j.val < i.val then eR X Y b (h / 2) (h % 2) i j * (1 / 8) else 0 : ℝ) : EReal) := by
  pointwise [val_main_v44, val_main_v43, val_main_cst_2, val_main_v42, val_main_v41, val_main_call9_v1, val_main_call9_v0, val_main_v40, val_main_v39, val_main_call8_v1, val_main_call8_v0]
  rw [v34_at x0 x1 X Y hX hY, v38_at x0 x1 X Y hX hY, v17_1_at x0 X hX, v19_1_at x0 X hX, eighth_val32]
  simp only [← EReal.coe_neg, ← EReal.coe_mul, ← EReal.coe_add]
  congr 1
  have hb : zR X b h i j - spR X b h i j = tB (qR X b (h / 2)) (kR X b (h / 2)) (h % 2) i j := rfl
  have hn : Real.exp (-spR X b h i j) = 1 - Real.exp (zR X b h i j - spR X b h i j) := sp_compl _
  split
  · rw [hn, hb, eR, wE]
    show _ = (gR X Y b h i j * _ - _ * ∑ n ∈ range j.val, gR X Y b h i n) * _
    ring
  · simp

end Entries

end Cert.ReferenceIdeal.Sb
-- ==== Proof.Sb.Same.lean ====
/-
  The kernel's result is the reference's: entry by entry for finite arguments, then as a run of each.
-/
module

public import proofs.«01_k».proof.Proof.Sb.Ref
public import proofs.«01_k».proof.Proof.Gen.ReferenceIdeal.Run
public import proofs.«01_k».proof.Pre_finite
public import Idealize.ShloMosaic.Lib.ReduceAll

@[expose] public section

noncomputable section

namespace Cert.ReferenceIdeal.Sb

open Cert.ReferenceIdeal Cert.ReferenceIdeal.Gen Cert.ReferenceIdeal.Read
open Cert.KernelIdeal.Sb (sp zz dd tB pre wA wG preG wE qR kR vR oR tR coe_sum sp_host word_slt2 eighth_val32 eR aR)
open Idealize.ShloMosaic Idealize.ShloMosaic.Pointwise
open Finset (range)

section Entries

variable (x0 : FVec Ideal S4096x4608 .bf16) (x1 : FVec Ideal S4096x1024 .f32) (X Y : ℕ → ℕ → ℝ)
  (hX : ∀ (r : Fin 4096) (s : Fin 4608), x0 (ix2 r s) = ((X r.val s.val : ℝ) : EReal))
  (hY : ∀ (r : Fin 4096) (s : Fin 1024), x1 (ix2 r s) = ((Y r.val s.val : ℝ) : EReal))

include hX hY

/-- The gradient of q. -/
theorem v48_at (b : Fin 2) (i : Fin 2048) (h : Fin 16) (d : Fin 64) :
    val_main_v48 (F := Ideal) x0 x1 (ix4 b i h d)
      = ((∑ n ∈ range i.val, eR X Y b (h / 2) (h % 2) i n * (kR X b (h / 2) n (64 * (h % 2) + d) * (1 / 8)) : ℝ) : EReal) := by
  pointwise [val_main_v48, val_main_v47, val_main_v5, val_main_v4, val_main_v1, val_main_v0]
  simp only [v44_at x0 x1 X Y hX hY, hX, ← EReal.coe_mul]
  rw [sum_fin _ (fun n => if n < i.val then eR X Y b (h / 2) (h % 2) i n * (kR X b (h / 2) n (64 * (h % 2) + d) * (1 / 8)) else 0)]
  · congr 1
    rw [← Finset.sum_filter]
    refine Finset.sum_congr ?_ fun _ _ => rfl
    ext n
    have := i.isLt
    simp only [Finset.mem_filter, Finset.mem_range]
    omega
  intro k
  congr 1
  have e2 : b.val * 2048 + k.val = 2048 * b.val + k.val := by ring
  have e4 : 1536 + (1024 + (h.val * 64 + d.val)) = 2560 + 128 * (h.val / 2) + (64 * (h.val % 2) + d.val) := by omega
  rw [e2, e4]
  show _ = if k.val < i.val then eR X Y b (h / 2) (h % 2) i k * (X (2048 * b.val + k.val) (2560 + 128 * (h.val / 2) + (64 * (h.val % 2) + d.val)) * (1 / 8)) else 0
  split
  · ring
  · ring

/-- The gradient of k. -/
theorem v46_at (b : Fin 2) (n : Fin 2048) (h : Fin 16) (d : Fin 64) :
    val_main_v46 (F := Ideal) x0 x1 (ix4 b n h d)
      = ((∑ i ∈ range 2048, if n.val < i then eR X Y b (h / 2) (h % 2) i n * (qR X b (h / 2) i (64 * (h % 2) + d) * (1 / 8)) else 0 : ℝ) : EReal) := by
  pointwise [val_main_v46, val_main_v45, val_main_v3, val_main_v2, val_main_v1, val_main_v0]
  simp only [v44_at x0 x1 X Y hX hY, hX, ← EReal.coe_mul]
  rw [sum_fin _ (fun i => if n.val < i then eR X Y b (h / 2) (h % 2) i n * (qR X b (h / 2) i (64 * (h % 2) + d) * (1 / 8)) else 0)]
  intro k
  congr 1
  have e2 : b.val * 2048 + k.val = 2048 * b.val + k.val := by ring
  have e4 : 1536 + (h.val * 64 + d.val) = 1536 + 128 * (h.val / 2) + (64 * (h.val % 2) + d.val) := by omega
  rw [e2, e4]
  show _ = if n.val < k.val then eR X Y b (h / 2) (h % 2) k n * (X (2048 * b.val + k.val) (1536 + 128 * (h.val / 2) + (64 * (h.val % 2) + d.val)) * (1 / 8)) else 0
  split
  · ring
  · ring

/-- The gradient of v. -/
theorem v32_at (b : Fin 2) (n : Fin 2048) (h : Fin 16) (d : Fin 64) :
    val_main_v32 (F := Ideal) x0 x1 (ix4 b n h d)
      = ((∑ i ∈ range 2048, if n.val < i then aR X b (h / 2) (h % 2) i n * oR Y b (h / 2) i (64 * (h % 2) + d) else 0 : ℝ) : EReal) := by
  pointwise [val_main_v32, val_main_v31, val_main_v29, val_main_v28]
  simp only [v25_at x0 X hX, hY, ← EReal.coe_mul]
  rw [sum_fin _ (fun i => if n.val < i then aR X b (h / 2) (h % 2) i n * oR Y b (h / 2) i (64 * (h % 2) + d) else 0)]
  intro k
  congr 1
  have e2 : b.val * 2048 + k.val = 2048 * b.val + k.val := by ring
  have e4 : h.val * 64 + d.val = 128 * (h.val / 2) + (64 * (h.val % 2) + d.val) := by omega
  rw [e2, e4]
  show _ = if n.val < k.val then aR X b (h / 2) (h % 2) k n * (Y (2048 * b.val + k.val) (128 * (h.val / 2) + (64 * (h.val % 2) + d.val))) else 0
  split
  · ring
  · ring

end Entries

section Columns

variable (x0 : FVec Ideal S4096x4608 .bf16) (x1 : FVec Ideal S4096x1024 .f32) (x2 : FVec Ideal S4096x4608 .bf16)
  (b : Fin 2) (i : Fin 2048) (p : Fin 8) (l : Fin 128)

theorem cols_out (r : Fin 4096) (s : Fin 4608) (h : s.val < 1536) : val_main_v56 (F := Ideal) x0 x1 x2 (ix2 r s) = x2 (ix2 r s) := by
  pointwise [val_main_v56, val_main_v50, val_main_v49, val_main_v52, val_main_v51, val_main_v54, val_main_v53, val_main_v55]
  rw [dif_pos h]

theorem at_head (f : S2x2048x16x64.Idx → EReal) (b : Fin 2) (i : Fin 2048) (h h' : Fin 16) (d d' : Fin 64)
    (e1 : h.val = h'.val) (e2 : d.val = d'.val) : f (ix4 b i h d) = f (ix4 b i h' d') := by
  rw [Fin.ext e1, Fin.ext e2]

/-- The head of a pair that a lane belongs to. -/
def hd (p : Fin 8) (l : Fin 128) : Fin 16 := ⟨2 * p.val + l.val / 64, by omega⟩
/-- A lane's place in its head. -/
def ln (l : Fin 128) : Fin 64 := ⟨l.val % 64, by omega⟩

theorem cols_q : val_main_v56 (F := Ideal) x0 x1 x2 (ix2 (⟨2048 * b.val + i.val, by omega⟩ : Fin 4096) (⟨1536 + 128 * p.val + l.val, by omega⟩ : Fin 4608))
    = val_main_v48 (F := Ideal) x0 x1 (ix4 b i (hd p l) (ln l)) := by
  pointwise [val_main_v56, val_main_v50, val_main_v49, val_main_v52, val_main_v51, val_main_v54, val_main_v53, val_main_v55]
  rw [dif_neg (by omega), dif_pos (by omega)]
  exact at_head _ b i _ _ _ _ (by simp only [hd]; omega) (by simp only [ln]; omega)

theorem cols_k : val_main_v56 (F := Ideal) x0 x1 x2 (ix2 (⟨2048 * b.val + i.val, by omega⟩ : Fin 4096) (⟨2560 + 128 * p.val + l.val, by omega⟩ : Fin 4608))
    = val_main_v46 (F := Ideal) x0 x1 (ix4 b i (hd p l) (ln l)) := by
  pointwise [val_main_v56, val_main_v50, val_main_v49, val_main_v52, val_main_v51, val_main_v54, val_main_v53, val_main_v55]
  rw [dif_neg (by omega), dif_neg (by omega), dif_pos (by omega)]
  exact at_head _ b i _ _ _ _ (by simp only [hd]; omega) (by simp only [ln]; omega)

theorem cols_v : val_main_v56 (F := Ideal) x0 x1 x2 (ix2 (⟨2048 * b.val + i.val, by omega⟩ : Fin 4096) (⟨3584 + 128 * p.val + l.val, by omega⟩ : Fin 4608))
    = val_main_v32 (F := Ideal) x0 x1 (ix4 b i (hd p l) (ln l)) := by
  pointwise [val_main_v56, val_main_v50, val_main_v49, val_main_v52, val_main_v51, val_main_v54, val_main_v53, val_main_v55]
  rw [dif_neg (by omega), dif_neg (by omega), dif_neg (by omega)]
  exact at_head _ b i _ _ _ _ (by simp only [hd]; omega) (by simp only [ln]; omega)

end Columns

section Finite

/-- The real values of an array, zero outside it. -/
def vals {R C : ℕ} (x : (⟨2, ![R, C]⟩ : Shape).Idx → EReal) (r s : ℕ) : ℝ :=
  if h : r < R ∧ s < C then (x (ix2 ⟨r, h.1⟩ ⟨s, h.2⟩)).toReal else 0

theorem vals_eq {R C : ℕ} (x : (⟨2, ![R, C]⟩ : Shape).Idx → EReal) (h : ∀ i, x i ≠ ⊤ ∧ x i ≠ ⊥) (r : Fin R) (s : Fin C) :
    x (ix2 r s) = ((vals x r.val s.val : ℝ) : EReal) := by
  rw [vals, dif_pos ⟨r.isLt, s.isLt⟩, EReal.coe_toReal (h _).1 (h _).2]

/-- A number whose size is below ⊤ is finite. -/
theorem fin_of_abs (x : EReal) (h : max x (-x) < ⊤) : x ≠ ⊤ ∧ x ≠ ⊥ := by
  constructor
  · rintro rfl
    exact absurd h (by simp)
  · rintro rfl
    exact absurd h (by simp)

instance facts_finite : Cert.Pre_finite.Facts where
  bitsLt_bf16_f32 := by decide
  bcast_S_S4096x4608 := by decide
  reducesTo_S4096x4608_S_d0_1 := by decide
  h_S_ := by decide
  bcast_S_S4096x1024 := by decide
  reducesTo_S4096x1024_S_d0_1 := by decide

/-- The precondition says that both arrays are finite. -/
theorem finite_of (x0 : FVec Ideal S4096x4608 .bf16) (x1 : FVec Ideal S4096x1024 .f32) (x2 : FVec Ideal S4096x4608 .bf16)
    (h : Cert.Pre_finite.fn (F := Ideal) x0 x1 x2 = fun _ => 1#1) :
    (∀ i, (x0 i : EReal) ≠ ⊤ ∧ (x0 i : EReal) ≠ ⊥) ∧ (∀ i, (x1 i : EReal) ≠ ⊤ ∧ (x1 i : EReal) ≠ ⊥) := by
  have h0 := congrFun h ix0
  have two : ∀ a b : BitVec 1, IntOp.andi a b = 1#1 → a = 1#1 ∧ b = 1#1 := by decide
  have one : ∀ p : Bool, BitVec.ofBool p = 1#1 → p = true := by decide
  obtain ⟨ha, hb⟩ := two _ _ h0
  haveI : Subsingleton Cert.Pre_finite.S_.Idx := ⟨fun a b => funext fun i => i.elim0⟩
  constructor
  · intro i
    have h1 := Host.reduce_andi_all _ _ _ _ _ ha i
    pointwise at h1
    rw [inf_val] at h1
    exact fin_of_abs _ (of_decide_eq_true (one _ h1))
  · intro i
    have h1 := Host.reduce_andi_all _ _ _ _ _ hb i
    pointwise at h1
    rw [inf_val] at h1
    exact fin_of_abs _ (of_decide_eq_true (one _ h1))

end Finite

/-- A lane's pair, head and place. -/
theorem hd_div (p : Fin 8) (l : Fin 128) : (hd p l).val / 2 = p.val := by simp only [hd]; omega
theorem hd_mod (p : Fin 8) (l : Fin 128) : (hd p l).val % 2 = l.val / 64 := by simp only [hd]; omega
theorem ln_eq (p : Fin 8) (l : Fin 128) : 64 * (l.val / 64) + (ln l).val = l.val := by simp only [ln]; omega

open Cert.KernelIdeal.Sb (resultAt result_out dq_at dk_at dv_at) in
/-- The kernel's result is the reference's function of the kernel's arguments. -/
theorem result_eq (m : (ℓ : Loc Cert.KernelIdeal.nD Cert.KernelIdeal.τ Cert.KernelIdeal.sig) → Buf (Elt Ideal) ℓ)
    (c : Dev Cert.KernelIdeal.nD)
    (h : Cert.Pre_finite.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1) :
    resultAt m c Cert.KernelIdeal.cfg0.N
      = val_main_v56 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) := by
  obtain ⟨f0, f1⟩ := finite_of _ _ _ h
  have hX := vals_eq _ f0
  have hY := vals_eq _ f1
  have key : ∀ (r : Fin 4096) (s : Fin 4608), resultAt m c Cert.KernelIdeal.cfg0.N (ix2 r s)
      = val_main_v56 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (ix2 r s) := by
    intro r s
    by_cases hs : s.val < 1536
    · rw [cols_out _ _ _ r s hs]
      exact result_out m c (ix2 r s) hs _
    obtain ⟨b, i, rfl⟩ : ∃ (b : Fin 2) (i : Fin 2048), r = ⟨2048 * b.val + i.val, by omega⟩ :=
      ⟨⟨r.val / 2048, by omega⟩, ⟨r.val % 2048, by omega⟩, Fin.ext (Nat.div_add_mod _ _).symm⟩
    by_cases hq : s.val < 2560
    · obtain ⟨p, l, e⟩ : ∃ (p : Fin 8) (l : Fin 128), s.val = 1536 + 128 * p.val + l.val :=
        ⟨⟨(s.val - 1536) / 128, by omega⟩, ⟨(s.val - 1536) % 128, by omega⟩, by simp only; omega⟩
      have es : s = ⟨1536 + 128 * p.val + l.val, by omega⟩ := Fin.ext e
      rw [es, cols_q, v48_at _ _ _ _ hX hY, hd_div, hd_mod, ln_eq p l]
      exact dq_at m c _ _ hX hY b p i l
    by_cases hk : s.val < 3584
    · obtain ⟨p, l, e⟩ : ∃ (p : Fin 8) (l : Fin 128), s.val = 2560 + 128 * p.val + l.val :=
        ⟨⟨(s.val - 2560) / 128, by omega⟩, ⟨(s.val - 2560) % 128, by omega⟩, by simp only; omega⟩
      have es : s = ⟨2560 + 128 * p.val + l.val, by omega⟩ := Fin.ext e
      rw [es, cols_k, v46_at _ _ _ _ hX hY, hd_div, hd_mod, ln_eq p l]
      exact dk_at m c _ _ hX hY b p i l
    · obtain ⟨p, l, e⟩ : ∃ (p : Fin 8) (l : Fin 128), s.val = 3584 + 128 * p.val + l.val :=
        ⟨⟨(s.val - 3584) / 128, by omega⟩, ⟨(s.val - 3584) % 128, by omega⟩, by simp only; omega⟩
      have es : s = ⟨3584 + 128 * p.val + l.val, by omega⟩ := Fin.ext e
      rw [es, cols_v, v32_at _ _ _ _ hX hY, hd_div, hd_mod, ln_eq p l]
      exact dv_at m c _ _ hX hY b p i l
  funext x
  have ex := eq_ix2 x
  rw [ex]
  exact key _ _

end Cert.ReferenceIdeal.Sb
-- ==== Proof.Sb.FwdRun.lean ====
/-
  The stick-breaking forward kernel, one block of 256 query rows at a time: the tile on the diagonal, then the tiles
  before it from the nearest to the first, and what a grid point stores, over any float operations.
-/
module

public import proofs.«01_k».proof.Proof.Gen.Kernel22Ideal.Value
public import proofs.«01_k».proof.Proof.Sb.Global
public import Idealize.ShloMosaic.Lib.Tactic
public import Idealize.ShloMosaic.Lib.Pipeline.ValueKit

@[expose] public section

set_option maxRecDepth 16384

noncomputable section

namespace Cert.Kernel22Ideal.Sb

open Cert.Kernel22Ideal Cert.Kernel22Ideal.Gen
open Cert.KernelIdeal.Sb (rowsAt)
open Idealize.ShloMosaic Idealize.ShloMosaic.TcCoe Idealize.ShloMosaic.Tactic Idealize.SL

variable {F : FTy → Type} [FloatOps F] [Named F]

/-- What the tiles hand on: each head's running row sum and its result block. -/
abbrev Carry (F : FTy → Type) : Type :=
  FVec F S256x1 .f32 × FVec F S256x128 .f32 × FVec F S256x1 .f32 × FVec F S256x128 .f32

/-- Lane numbers of a 256 × 128 block. -/
abbrev lanes : IVec S256x128 32 := iota .tc S256x128 32 [1] iota_S256x128_d1_w32
/-- The zero the softplus compares with. -/
abbrev zeroF : F .f32 := Scalar.ofBits .f32 0x00000000#32

section
variable (qb kb vb : Vec F S256x128 .bf16)

/-- The products of the diagonal tile's masked row entries with the triangle, and their first band. -/
abbrev dBands : FVec F S1024x256 .f32 :=
  k0_pay45 k0_pay27 k0_pay31 (k0_pay32 qb kb) (k0_pay34 qb kb) (k0_pay35 qb kb) zeroF
abbrev dBand0 : FVec F S256x256 .f32 :=
  k0_pay46 k0_pay27 k0_pay31 (k0_pay32 qb kb) (k0_pay34 qb kb) (k0_pay35 qb kb) zeroF
/-- The two heads' masked log β on the diagonal tile. -/
abbrev dBeta0 : FVec F S256x256 .f32 := k0_pay38 k0_pay31 (k0_pay33 qb kb) (k0_pay34 qb kb) (k0_pay35 qb kb) zeroF
abbrev dBeta1 : FVec F S256x256 .f32 := k0_pay43 k0_pay31 (k0_pay32 qb kb)

/-- The carried values after the diagonal tile. -/
def diag : Carry F :=
  (k0_pay48 k0_pay29 (k0_pay39 k0_pay31 (k0_pay34 qb kb) (k0_pay35 qb kb) zeroF),
    k0_pay49 k0_pay29 k0_pay30 vb (dBeta0 qb kb) (dBeta1 qb kb) (dBands qb kb) (dBand0 qb kb),
    k0_pay50 k0_pay29 (k0_pay44 k0_pay31 (k0_pay32 qb kb)),
    k0_pay51 k0_pay29 k0_pay30 vb (dBeta0 qb kb) (dBeta1 qb kb) (dBands qb kb) (dBand0 qb kb))

/-- The carried values after one more tile. -/
def tile (a : Carry F) : Carry F :=
  (k0_pay53 a.1 (k0_pay8 (k0_pay28 qb) kb),
    k0_pay54 k0_pay27 a.1 a.2.1 a.2.2.1 vb (k0_pay5 (k0_pay28 qb) kb) (k0_pay6 (k0_pay28 qb) kb) (k0_pay7 (k0_pay28 qb) kb)
      (k0_pay9 (k0_pay28 qb) kb) (k0_pay10 (k0_pay28 qb) kb) (k0_pay12 (k0_pay28 qb) kb) (k0_pay13 (k0_pay28 qb) kb),
    k0_pay55 a.2.2.1 (k0_pay11 (k0_pay28 qb) kb),
    k0_pay56 k0_pay27 a.1 a.2.2.1 a.2.2.2 vb (k0_pay5 (k0_pay28 qb) kb) (k0_pay6 (k0_pay28 qb) kb) (k0_pay7 (k0_pay28 qb) kb)
      (k0_pay9 (k0_pay28 qb) kb) (k0_pay10 (k0_pay28 qb) kb) (k0_pay12 (k0_pay28 qb) kb) (k0_pay13 (k0_pay28 qb) kb))
end

/-- The carried values of query block `b` after its diagonal tile and `n` tiles before it. -/
def sweep (qb : Vec F S256x128 .bf16) (K V : Vec F S2048x128 .bf16) (b : ℕ) : ℕ → Carry F
  | 0 => diag qb (rowsAt K b) (rowsAt V b)
  | n + 1 => tile qb (rowsAt K (b - 1 - n)) (rowsAt V (b - 1 - n)) (sweep qb K V b n)

/-- Reading a block of rows of a whole 2048-row buffer. -/
theorem readAt_rows {κ : Kind} {sp : Space} {e : EltTy} (M : Memref sig κ sp S2048x128 e) (f : M.view.ty.Contents (Elt F)) (b : ℕ)
    (hb : b < 8) {off : Fin 2 → ℕ} (inb : ∀ a : Fin 2, off a + S256x128.size a ≤ S2048x128.size a) (hoff : off = ![256 * b, 0]) :
    M.view.readAt (Elt F) (Rect.unit (s := S2048x128) off S256x128.size inb).toLoadRect f
      = rowsAt (M.view.read (Elt F) f) b := by
  subst hoff
  funext x
  refine (View.readAt_apply _ _ _).trans (congrArg (M.view.read (Elt F) f) (funext fun a => Fin.ext ?_))
  have h0 : (x 0).val < 256 := (x 0).isLt
  fin_cases a
  · show 256 * b + 1 * (x 0).val = (256 * b + (x 0).val) % 2048
    omega
  · show 0 + 1 * (x 1).val = (x 1).val
    omega

theorem trips1 : ∀ i : grid0.Coords, (k0_t1_loop i).trips = (i 2).val := by decide +kernel
theorem trips2 : ∀ i : grid0.Coords, (k0_t2_loop i).trips = 0 := by decide +kernel
theorem off1_eq : ∀ i : grid0.Coords, k0_off1 i = ![256 * (i 2).val, 0] := by decide +kernel
theorem off2_eq : ∀ (i : grid0.Coords) (k : Fin (k0_t1_loop i).trips), k0_off2 i k = ![256 * ((i 2).val - 1 - k.val), 0] := by
  decide +kernel

theorem hz2 : (![0, 0] : Fin 2 → ℕ) = fun _ => 0 := by funext a; fin_cases a <;> rfl
theorem hz3 : (![0, 0, 0] : Fin 3 → ℕ) = fun _ => 0 := by funext a; fin_cases a <;> rfl

section
variable (c : Dev nD) (i : grid0.Coords) (a3 : Memref sig .tc .vmem S256x128 .bf16) (h3 : a3.IsWhole)
  (a4 : Memref sig .tc .vmem S2048x128 .bf16) (h4 : a4.IsWhole) (a5 : Memref sig .tc .vmem S2048x128 .bf16) (h5 : a5.IsWhole)
  (a6 : Memref sig .tc .vmem S256x128 .f32) (h6 : a6.IsWhole) (a7 : Memref sig .tc .vmem S1x256x128 .f32) (h7 : a7.IsWhole)
  (qb : Vec F S256x128 .bf16) (K V : Vec F S2048x128 .bf16)

/-- One trip of the loop is one tile. -/
theorem trip_eq (𝒱 : Variants) (bd : Option 𝒱.V) (w : BitVec 32) (k : Fin (k0_t1_loop i).trips) (a : Carry F) :
    tripR_k0_t1 (F := F) 𝒱 c bd i a3 h3 a4 h4 a5 h5 a6 h6 a7 h7 w k0_pay27 (k0_pay28 qb) (h4.unread K) (h5.unread V) k a
      = tile qb (rowsAt K ((i 2).val - 1 - k.val)) (rowsAt V ((i 2).val - 1 - k.val)) a := by
  have hi : (i 2).val < 8 := (i 2).isLt
  have hk := readAt_rows a4 (h4.unread K) ((i 2).val - 1 - k.val) (by omega) (k0_off2_inb i k) (off2_eq i k)
  have hv := readAt_rows a5 (h5.unread V) ((i 2).val - 1 - k.val) (by omega) (k0_off2_inb i k) (off2_eq i k)
  rw [h4.read_unread] at hk
  rw [h5.read_unread] at hv
  rw [← hk, ← hv]
  unfold tripR_k0_t1 trip_k0_t1
  rfl

/-- The carried values after the loop's first `n` trips. -/
theorem st_eq (𝒱 : Variants) (bd : Option 𝒱.V) (w : BitVec 32) (n : ℕ) (hn : n ≤ (i 2).val) :
    st_k0_t1 (F := F) 𝒱 c bd i a3 h3 a4 h4 a5 h5 a6 h6 a7 h7 w k0_pay27 (k0_pay28 qb) (h4.unread K) (h5.unread V)
      (diag qb (rowsAt K (i 2).val) (rowsAt V (i 2).val)) n = sweep qb K V (i 2).val n := by
  induction n with
  | zero => rfl
  | succ n ih =>
    have h := st_k0_t1_succ (F := F) 𝒱 c bd i a3 h3 a4 h4 a5 h5 a6 h6 a7 h7 w k0_pay27 (k0_pay28 qb) (h4.unread K) (h5.unread V)
      (diag qb (rowsAt K (i 2).val) (rowsAt V (i 2).val)) ⟨n, (by rw [trips1]; omega)⟩
    rw [trip_eq, ih (by omega)] at h
    exact h

/-- The remainder loop runs no trip. -/
theorem st2_eq (𝒱 : Variants) (bd : Option 𝒱.V) (w : BitVec 32) (v7 : FVec F S256x256 .bf16) (v24 : FVec F S512x128 .bf16) (u : BitVec 32)
    (a : Carry F) : st_k0_t2 (F := F) 𝒱 c bd i a3 h3 a4 h4 a5 h5 a6 h6 a7 h7 w v7 v24 u (h4.unread K) (h5.unread V) a (k0_t2_loop i).trips = a := by
  rw [trips2]
  rfl

/-- The carried values after every tile of the block. -/
abbrev last : Carry F := sweep qb K V (i 2).val (i 2).val

theorem diag_at : diag qb (a4.view.readAt (Elt F) (Rect.unit (s := S2048x128) (k0_off1 i) S256x128.size (k0_off1_inb i)).toLoadRect (h4.unread K))
      (a5.view.readAt (Elt F) (Rect.unit (s := S2048x128) (k0_off1 i) S256x128.size (k0_off1_inb i)).toLoadRect (h5.unread V))
    = diag qb (rowsAt K (i 2).val) (rowsAt V (i 2).val) := by
  rw [readAt_rows a4 _ (i 2).val (i 2).isLt (k0_off1_inb i) (off1_eq i), readAt_rows a5 _ (i 2).val (i 2).isLt (k0_off1_inb i) (off1_eq i),
    h4.read_unread, h5.read_unread]

/-- The carried values as the run computes them. -/
theorem run_last (w u : BitVec 32) (q' : Vec F S256x128 .bf16) (hq : q' = qb) :
    st_k0_t2 (F := F) Variants.none c none i a3 h3 a4 h4 a5 h5 a6 h6 a7 h7 w k0_pay27 (k0_pay28 q') u (h4.unread K) (h5.unread V)
      (st_k0_t1 (F := F) Variants.none c none i a3 h3 a4 h4 a5 h5 a6 h6 a7 h7 w k0_pay27 (k0_pay28 q') (h4.unread K) (h5.unread V)
        (diag q' (a4.view.readAt (Elt F) (Rect.unit (s := S2048x128) (k0_off1 i) S256x128.size (k0_off1_inb i)).toLoadRect (h4.unread K))
          (a5.view.readAt (Elt F) (Rect.unit (s := S2048x128) (k0_off1 i) S256x128.size (k0_off1_inb i)).toLoadRect (h5.unread V)))
        (k0_t1_loop i).trips) (k0_t2_loop i).trips = last i qb K V := by
  subst hq
  rw [st2_eq, diag_at, trips1]
  exact st_eq c i a3 h3 a4 h4 a5 h5 a6 h6 a7 h7 q' K V Variants.none none w (i 2).val le_rfl

theorem q_at (inb : ∀ a : Fin 2, ![0, 0] a + S256x128.size a ≤ S256x128.size a) :
    a3.view.readAt (Elt F) (Rect.unit (s := S256x128) ![0, 0] S256x128.size inb).toLoadRect (h3.unread qb) = qb := by
  simp only [View.readAt_eq_ld, h3.read_unread, View.ld_unit_zero (S := S256x128) hz2]

/-- What a grid point stores of the mixed values. -/
theorem out_eq : out0_A_3 c i a3 h3 a4 h4 a5 h5 a6 h6 a7 h7 qb K V
    = k0_pay62 lanes (last i qb K V).2.1 (last i qb K V).2.2.2 := by
  unfold out0_A_3
  rw [View.read_writes_eq_canon _ _ _ (cover0_A_3 c i a3 h3 a4 h4 a5 h5 a6 h6 a7 h7 qb K V)]
  unfold kernelRun0_A
  dsimp only
  rw [View.canon_unit_zero hz2]
  exact congrArg (fun x : Carry F => k0_pay62 lanes x.2.1 x.2.2.2) (run_last c i a3 h3 a4 h4 a5 h5 a6 h6 a7 h7 qb K V (BitVec.ofNat 32 (i 2).val) _ _
    (q_at a3 h3 qb inb_S256x128_S256x128_0_0))

/-- What a grid point stores of the row totals. -/
theorem lt_eq : out0_A_4 c i a3 h3 a4 h4 a5 h5 a6 h6 a7 h7 qb K V
    = k0_pay63 lanes (last i qb K V).1 (last i qb K V).2.2.1 := by
  unfold out0_A_4
  rw [View.read_writes_eq_canon _ _ _ (cover0_A_4 c i a3 h3 a4 h4 a5 h5 a6 h6 a7 h7 qb K V)]
  unfold kernelRun0_A
  dsimp only
  rw [View.canon_unit_zero hz3]
  exact congrArg (fun x : Carry F => k0_pay63 lanes x.1 x.2.2.1) (run_last c i a3 h3 a4 h4 a5 h5 a6 h6 a7 h7 qb K V (BitVec.ofNat 32 (i 2).val) _ _
    (q_at a3 h3 qb inb_S256x128_S256x128_0_0))
end

end Cert.Kernel22Ideal.Sb

end
-- ==== Proof.Sb.FwdTile.lean ====
/-
  One tile of the stick-breaking forward kernel over the extended reals: the scores, their softplus, the weights, and what
  a tile adds to the row totals and to the mixed values.
-/
module

public import proofs.«01_k».proof.Proof.Sb.FwdRun

@[expose] public section

noncomputable section

namespace Cert.Kernel22Ideal.Sb

open Cert.Kernel22Ideal Cert.Kernel22Ideal.Gen
open Cert.KernelIdeal.Sb (sp sp_val head0 head1 word_slt eighth_val band_c0 band_c1 band_c2 band_d0 band_d1 band_d2 band_d3)
open Idealize.ShloMosaic Idealize.ShloMosaic.Pointwise
open Finset (range)

/-- The mask's value over the extended reals. -/
theorem mask_val : Named.named (F := Ideal) κ "mask" (φ := .f32) 0xF149F2CA#32 = (⊥ : EReal) :=
  IdealRules.named_const.ideal_named_scalar _ _ _ _ rfl

theorem word_sgt (a b : Fin 256) {α : Type} (x y : α) :
    Scalar.select (IntOp.cmpi CmpIPredicate.sgt (BitVec.ofNat 32 a.val) (BitVec.ofNat 32 b.val)) x y
      = if b.val < a.val then x else y := word_slt b a x y

/-- The triangle that sums each row after a column. -/
theorem sums_after (x y : Fin 256) : (k0_pay27 (F := Ideal)) (ix2 x y) = if y.val < x.val then (1 : EReal) else 0 := by
  pointwise [k0_pay27]
  exact word_sgt x y 1 0

/-- A matrix read by its row and column numbers. -/
def Rep {n m : ℕ} {e : FTy} (v : FVec Ideal ⟨2, ![n, m]⟩ e) (f : ℕ → ℕ → EReal) : Prop := ∀ (i : Fin n) (j : Fin m), v (ix2 i j) = f i.val j.val
/-- A column read by its row number. -/
abbrev Col (x : FVec Ideal S256x1 .f32) (f : ℕ → EReal) : Prop := ∀ i : Fin 256, x (ix2 i (0 : Fin 1)) = f i.val

/-- log(1 + exp z), as the kernel takes it. -/
def sE (z : EReal) : EReal := max z 0 + Ideal.log (1 + Ideal.exp (0 - max z (-z)))

theorem sE_coe (z : ℝ) : sE (z : EReal) = ((sp z : ℝ) : EReal) := sp_val z _ rfl
theorem log_one : Ideal.log 1 = 0 := by
  rw [← EReal.coe_one, Ideal.log_coe, if_neg (by norm_num), Real.log_one, EReal.coe_zero]
theorem sE_bot : sE ⊥ = 0 := by simp [sE, log_one]
theorem sE_top : sE ⊤ = ⊤ := by simp [sE, log_one]

/-- log(1 − β) of a score. -/
def lE (z : EReal) : EReal := 0 - sE z

theorem lE_ne_top (z : EReal) : lE z ≠ ⊤ := by
  induction z using EReal.rec with
  | bot => simp [lE, sE_bot]
  | top => simp [lE, sE_top]
  | coe z => rw [lE, sE_coe, zero_sub, ← EReal.coe_neg]; exact EReal.coe_ne_top _

/-- A scaled score: head `h` of a query row against a key row. -/
def zE (h : ℕ) (q k : ℕ → ℕ → EReal) (i j : ℕ) : EReal := ∑ d ∈ range 64, q i (64 * h + d) * ((1 / 8 : ℝ) : EReal) * k j (64 * h + d)

/-- log(1 − β) below the diagonal. -/
def cut (z : ℕ → ℕ → EReal) (i j : ℕ) : EReal := if j < i then lE (z i j) else 0

theorem cut_ne_top (z : ℕ → ℕ → EReal) (i j : ℕ) : cut z i j ≠ ⊤ := by
  unfold cut
  split
  · exact lE_ne_top _
  · exact EReal.zero_ne_top

theorem row_after {f : ℕ → EReal} {x : Fin 256 → EReal} (hx : ∀ d, x d = f d.val) (j : Fin 256) :
    ∑ d : Fin 256, x d * (k0_pay27 (F := Ideal)) (ix2 d j) = ∑ d ∈ Finset.Ico (j.val + 1) 256, f d := by
  have h : ∀ d : Fin 256, x d * (k0_pay27 (F := Ideal)) (ix2 d j) = if j.val < d.val then f d.val else 0 := fun d => by
    rw [hx, sums_after]; split <;> simp
  rw [Finset.sum_congr rfl fun d _ => h d, Fin.sum_univ_eq_sum_range (fun d => if j.val < d then f d else 0) 256,
    ← Finset.sum_filter]
  congr 1
  ext d
  simp only [Finset.mem_filter, Finset.mem_range, Finset.mem_Ico]
  omega

/-- The high part and the rest add up to the sum itself: an entry less itself is 0, or −∞ where the entry is. -/
theorem halves (f : ℕ → EReal) (hf : ∀ d, f d ≠ ⊤) (s : Finset ℕ) : ∑ d ∈ s, f d + ∑ d ∈ s, (f d - f d) = ∑ d ∈ s, f d := by
  rw [← Finset.sum_add_distrib]
  refine Finset.sum_congr rfl fun d _ => ?_
  have h := hf d
  generalize f d = y at h
  induction y using EReal.rec with
  | bot => rw [EReal.bot_add]
  | top => exact absurd rfl h
  | coe y => rw [← EReal.coe_sub, sub_self, EReal.coe_zero, add_zero]

theorem row_total {f : ℕ → EReal} {x : Fin 256 → EReal} (hx : ∀ d, x d = f d.val) : ∑ d : Fin 256, x d = ∑ d ∈ range 256, f d := by
  rw [← Fin.sum_univ_eq_sum_range]
  exact Finset.sum_congr rfl fun d _ => hx d

theorem dot_row {f m : ℕ → EReal} {x y : Fin 256 → EReal} (hx : ∀ j, x j = f j.val) (hy : ∀ j, y j = m j.val) :
    ∑ j : Fin 256, x j * y j = ∑ j ∈ range 256, f j * m j :=
  row_total (f := fun j => f j * m j) fun j => by rw [hx, hy]

/-- A product over 128 lanes that counts one head's. -/
theorem lane_dot (f m : ℕ → EReal) (h : ℕ) (hh : h < 2) (x y : Fin 128 → EReal)
    (hx : ∀ d, x d = if d.val / 64 = h then f d.val else 0) (hy : ∀ d, y d = m d.val) :
    ∑ d : Fin 128, x d * y d = ∑ d ∈ range 64, f (64 * h + d) * m (64 * h + d) := by
  have e : ∀ d : Fin 128, x d * y d = if d.val / 64 = h then f d.val * m d.val else 0 := fun d => by rw [hx, hy, ite_mul, zero_mul]
  rw [Finset.sum_congr rfl fun d _ => e d, Fin.sum_univ_eq_sum_range (fun d => if d / 64 = h then f d * m d else 0) 128, ← Finset.sum_filter]
  have : (range 128).filter (fun d => d / 64 = h) = (range 64).map (addLeftEmbedding (64 * h)) := by
    ext d
    simp only [Finset.mem_filter, Finset.mem_range, Finset.mem_map, addLeftEmbedding_apply]
    exact ⟨fun hd => ⟨d - 64 * h, by omega, by omega⟩, fun ⟨c, hc, e⟩ => by omega⟩
  rw [this, Finset.sum_map]
  rfl

section
variable {qb kb vb : Vec Ideal S256x128 .bf16} {q k v : ℕ → ℕ → EReal}

theorem q2_lo (hq : Rep (e := .bf16) qb q) (i : Fin 256) (d : Fin 128) :
    k0_pay28 qb (ix2 (⟨i.val, by omega⟩ : Fin 512) d) = if d.val / 64 = 0 then q i.val d.val * ((1 / 8 : ℝ) : EReal) else 0 := by
  pointwise [k0_pay28]
  rw [head0, eighth_val, hq i d]

theorem q2_hi (hq : Rep (e := .bf16) qb q) (i : Fin 256) (d : Fin 128) :
    k0_pay28 qb (ix2 (⟨256 + i.val, by omega⟩ : Fin 512) d) = if d.val / 64 = 1 then q i.val d.val * ((1 / 8 : ℝ) : EReal) else 0 := by
  pointwise [k0_pay28]
  rw [head1, eighth_val, hq i d]

variable (hq : Rep (e := .bf16) qb q) (hk : Rep (e := .bf16) kb k)
include hq hk

theorem rep_pay2 : Rep (k0_pay2 (k0_pay28 qb) kb) (zE 0 q k) := fun i j => by
  pointwise [k0_pay2, k0_pay1]
  exact lane_dot (fun d => q i d * ((1 / 8 : ℝ) : EReal)) (k j) 0 (by decide) _ _ (q2_lo hq i) (hk j)
theorem rep_pay9 : Rep (k0_pay9 (k0_pay28 qb) kb) (zE 1 q k) := fun i j => by
  pointwise [k0_pay9, k0_pay1]
  exact lane_dot (fun d => q i d * ((1 / 8 : ℝ) : EReal)) (k j) 1 (by decide) _ _ (q2_hi hq i) (hk j)
theorem rep_pay33 : Rep (k0_pay33 qb kb) (zE 0 q k) := fun i j => by
  pointwise [k0_pay33, k0_pay32]
  exact lane_dot (fun d => q i d * ((1 / 8 : ℝ) : EReal)) (k j) 0 (by decide) _ _ (q2_lo hq i) (hk j)
theorem rep_pay40 : Rep (k0_pay40 (k0_pay32 qb kb)) (zE 1 q k) := fun i j => by
  pointwise [k0_pay40, k0_pay32]
  exact lane_dot (fun d => q i d * ((1 / 8 : ℝ) : EReal)) (k j) 1 (by decide) _ _ (q2_hi hq i) (hk j)

theorem rep_pay3 : Rep (k0_pay3 (k0_pay28 qb) kb) (fun i j => sE (zE 0 q k i j)) := fun i j => by
  pointwise [k0_pay3]
  exact congrArg sE (rep_pay2 hq hk i j)
theorem rep_pay10 : Rep (k0_pay10 (k0_pay28 qb) kb) (fun i j => sE (zE 1 q k i j)) := fun i j => by
  pointwise [k0_pay10]
  exact congrArg sE (rep_pay9 hq hk i j)
theorem rep_pay36 : Rep (k0_pay36 (k0_pay34 qb kb) (k0_pay35 qb kb) (0 : EReal)) (fun i j => sE (zE 0 q k i j)) := fun i j => by
  pointwise [k0_pay36, k0_pay34, k0_pay35]
  exact congrArg sE (rep_pay33 hq hk i j)
theorem rep_pay41 : Rep (k0_pay41 (k0_pay32 qb kb)) (fun i j => sE (zE 1 q k i j)) := fun i j => by
  pointwise [k0_pay41]
  exact congrArg sE (rep_pay40 hq hk i j)

theorem rep_pay4 : Rep (k0_pay4 (k0_pay28 qb) kb) (fun i j => lE (zE 0 q k i j)) := fun i j => by
  pointwise [k0_pay4]
  rw [rep_pay3 hq hk i j]; rfl
theorem rep_pay11 : Rep (k0_pay11 (k0_pay28 qb) kb) (fun i j => lE (zE 1 q k i j)) := fun i j => by
  pointwise [k0_pay11]
  rw [rep_pay10 hq hk i j]; rfl
theorem rep_pay5 : Rep (k0_pay5 (k0_pay28 qb) kb) (fun i j => lE (zE 0 q k i j)) := fun i j => by
  pointwise [k0_pay5]
  exact rep_pay4 hq hk i j
theorem rep_pay12 : Rep (k0_pay12 (k0_pay28 qb) kb) (fun i j => lE (zE 1 q k i j)) := fun i j => by
  pointwise [k0_pay12]
  exact rep_pay11 hq hk i j
theorem rep_pay6 : Rep (k0_pay6 (k0_pay28 qb) kb) (fun i j => lE (zE 0 q k i j) - lE (zE 0 q k i j)) := fun i j => by
  pointwise [k0_pay6]
  rw [rep_pay4 hq hk i j, rep_pay5 hq hk i j]
theorem rep_pay13 : Rep (k0_pay13 (k0_pay28 qb) kb) (fun i j => lE (zE 1 q k i j) - lE (zE 1 q k i j)) := fun i j => by
  pointwise [k0_pay13]
  rw [rep_pay11 hq hk i j, rep_pay12 hq hk i j]
theorem rep_pay7 : Rep (k0_pay7 (k0_pay28 qb) kb) (fun i j => zE 0 q k i j - sE (zE 0 q k i j)) := fun i j => by
  pointwise [k0_pay7]
  rw [rep_pay3 hq hk i j, rep_pay2 hq hk i j]
end

/-- The mask below the diagonal. -/
theorem sel_below (i j : Fin 256) {α : Type} (x y : α) : Scalar.select (k0_pay31 (ix2 i j)) x y = if j.val < i.val then x else y := by
  pointwise [k0_pay31]
  exact word_slt j i x y

section
variable {qb kb vb : Vec Ideal S256x128 .bf16} {q k v : ℕ → ℕ → EReal}
variable (hq : Rep (e := .bf16) qb q) (hk : Rep (e := .bf16) kb k)
include hq hk

theorem rep_pay37 : Rep (k0_pay37 k0_pay31 (k0_pay34 qb kb) (k0_pay35 qb kb) (0 : EReal)) (cut (zE 0 q k)) := fun i j => by
  pointwise [k0_pay37]
  rw [rep_pay36 hq hk i j, sel_below]; unfold cut; split <;> rfl
theorem rep_pay42 : Rep (k0_pay42 k0_pay31 (k0_pay32 qb kb)) (cut (zE 1 q k)) := fun i j => by
  pointwise [k0_pay42]
  rw [rep_pay41 hq hk i j, sel_below]; unfold cut; split <;> rfl

theorem beta0_at (i j : Fin 256) : k0_pay38 k0_pay31 (k0_pay33 qb kb) (k0_pay34 qb kb) (k0_pay35 qb kb) (0 : EReal) (ix2 i j)
    = if j.val < i.val then zE 0 q k i j - sE (zE 0 q k i j) else ⊥ := by
  pointwise [k0_pay38]
  rw [rep_pay36 hq hk i j, rep_pay33 hq hk i j, sel_below, mask_val]
theorem beta1_at (i j : Fin 256) : k0_pay43 k0_pay31 (k0_pay32 qb kb) (ix2 i j)
    = if j.val < i.val then zE 1 q k i j - sE (zE 1 q k i j) else ⊥ := by
  pointwise [k0_pay43]
  rw [rep_pay41 hq hk i j, rep_pay40 hq hk i j, sel_below, mask_val]
end

/-- The carried values, read by numbers. -/
structure CarryRep (a : Carry Ideal) (t : ℕ → ℕ → EReal) (o : ℕ → ℕ → ℕ → EReal) : Prop where
  t0 : Col a.1 (t 0)
  o0 : Rep a.2.1 (o 0)
  t1 : Col a.2.2.1 (t 1)
  o1 : Rep a.2.2.2 (o 1)

/-- A masked entry's exponential vanishes. -/
theorem exp_masked (p : Prop) [Decidable p] (x y : EReal) :
    Ideal.exp ((if p then x else ⊥) + y) = if p then Ideal.exp (x + y) else 0 := by
  split
  · rfl
  · rw [EReal.bot_add]; simp

/-- The diagonal tile's weights. -/
def dW (q k : ℕ → ℕ → EReal) (h i j : ℕ) : EReal :=
  if j < i then Ideal.exp (zE h q k i j - sE (zE h q k i j) + ∑ d ∈ Finset.Ico (j + 1) 256, cut (zE h q k) i d) else 0
/-- A full tile's weights, given the sums over the columns after it. -/
def fW (q k : ℕ → ℕ → EReal) (t : ℕ → EReal) (h i j : ℕ) : EReal :=
  Ideal.exp (zE h q k i j - sE (zE h q k i j) + ((∑ d ∈ Finset.Ico (j + 1) 256, (lE (zE h q k i d))) + t i))

section
variable {qb kb vb : Vec Ideal S256x128 .bf16} {q k v : ℕ → ℕ → EReal}
variable (hq : Rep (e := .bf16) qb q) (hk : Rep (e := .bf16) kb k) (hv : Rep (e := .bf16) vb v)
include hq hk hv

set_option maxHeartbeats 4000000 in
theorem diag_rep : CarryRep (diag qb kb vb) (fun h i => ∑ d ∈ range 256, cut (zE h q k) i d)
    (fun h i d => ∑ j ∈ range 256, dW q k h i j * v j d) where
  t0 i := by
    show k0_pay48 _ _ _ = _
    pointwise [k0_pay48, k0_pay39, k0_pay29, zeroF]
    exact row_total (f := cut (zE 0 q k) i) (rep_pay37 hq hk i)
  t1 i := by
    show k0_pay50 _ _ _ = _
    pointwise [k0_pay50, k0_pay44, k0_pay29]
    exact row_total (f := cut (zE 1 q k) i) (rep_pay42 hq hk i)
  o0 i d := by
    show k0_pay49 _ _ _ _ _ _ _ _ = _
    pointwise [k0_pay49, k0_pay47, dBands, dBand0, k0_pay46, k0_pay45, k0_pay29, k0_pay30, dBeta0, dBeta1, zeroF]
    refine dot_row (f := dW q k 0 i) (m := fun j => v j d) (fun j => ?_) (fun j => hv j d)
    rw [row_after (rep_pay37 hq hk i), row_after (f := fun d => cut (zE 0 q k) i d - cut (zE 0 q k) i d) (fun d => by rw [rep_pay37 hq hk i d]), beta0_at hq hk i j,
      halves _ (cut_ne_top _ _), exp_masked]
    rfl
  o1 i d := by
    show k0_pay51 _ _ _ _ _ _ _ _ = _
    pointwise [k0_pay51, k0_pay47, dBands, dBand0, k0_pay46, k0_pay45, k0_pay29, k0_pay30, dBeta0, dBeta1, zeroF]
    simp only [band_c0, band_c1, band_c2, band_d0, band_d1, band_d2, band_d3, Fin.is_lt, dite_true, dite_false, Fin.eta]
    refine dot_row (f := dW q k 1 i) (m := fun j => v j d) (fun j => ?_) (fun j => hv j d)
    rw [row_after (rep_pay42 hq hk i), row_after (f := fun d => cut (zE 1 q k) i d - cut (zE 1 q k) i d) (fun d => by rw [rep_pay42 hq hk i d]), beta1_at hq hk i j,
      halves _ (cut_ne_top _ _), exp_masked]
    rfl

set_option maxHeartbeats 4000000 in
theorem tile_rep {a : Carry Ideal} {t : ℕ → ℕ → EReal} {o : ℕ → ℕ → ℕ → EReal} (ha : CarryRep a t o) :
    CarryRep (tile qb kb vb a) (fun h i => t h i + ∑ d ∈ range 256, (lE (zE h q k i d)))
      (fun h i d => o h i d + ∑ j ∈ range 256, fW q k (t h) h i j * v j d) where
  t0 i := by
    show k0_pay53 _ _ _ = _
    pointwise [k0_pay53, k0_pay8]
    rw [row_total (f := fun d => lE (zE 0 q k i d)) (rep_pay4 hq hk i), ha.t0 i]
  t1 i := by
    show k0_pay55 _ _ _ = _
    pointwise [k0_pay55]
    rw [row_total (f := fun d => lE (zE 1 q k i d)) (rep_pay11 hq hk i), ha.t1 i]
  o0 i d := by
    show k0_pay54 _ _ _ _ _ _ _ _ _ _ _ _ _ = _
    pointwise [k0_pay54, k0_pay52]
    rw [dot_row (f := fW q k (t 0) 0 i) (m := fun j => v j d) (fun j => ?_) (fun j => hv j d), ha.o0 i d]
    rw [row_after (f := fun d => lE (zE 0 q k i d)) (rep_pay5 hq hk i), row_after (f := fun d => lE (zE 0 q k i d) - lE (zE 0 q k i d)) (rep_pay6 hq hk i), halves _ (fun _ => lE_ne_top _), ha.t0 i, rep_pay7 hq hk i j]
    rfl
  o1 i d := by
    show k0_pay56 _ _ _ _ _ _ _ _ _ _ _ _ _ = _
    pointwise [k0_pay56, k0_pay52]
    simp only [band_c0, band_c1, band_c2, band_d0, band_d1, band_d2, band_d3, Fin.is_lt, dite_true, dite_false, Fin.eta]
    rw [dot_row (f := fW q k (t 1) 1 i) (m := fun j => v j d) (fun j => ?_) (fun j => hv j d), ha.o1 i d]
    rw [row_after (f := fun d => lE (zE 1 q k i d)) (rep_pay12 hq hk i), row_after (f := fun d => lE (zE 1 q k i d) - lE (zE 1 q k i d)) (rep_pay13 hq hk i), halves _ (fun _ => lE_ne_top _), ha.t1 i, rep_pay9 hq hk i j,
      rep_pay10 hq hk i j]
    rfl
end

/-- Lanes below 64 are the first head's. -/
theorem lane_low (d : Fin 128) {α : Type} (x y : α) :
    Scalar.select (IntOp.cmpi CmpIPredicate.slt (BitVec.ofNat 32 d.val) 64#32) x y = if d.val / 64 = 0 then x else y := by
  have h : IntOp.cmpi CmpIPredicate.slt (BitVec.ofNat 32 d.val) 64#32 = if d.val / 64 = 0 then 1#1 else 0#1 := by
    revert d; decide
  rw [h]; split <;> rfl

section
variable {a : Carry Ideal} {t : ℕ → ℕ → EReal} {o : ℕ → ℕ → ℕ → EReal} (ha : CarryRep a t o)
include ha

theorem out_rep (i : Fin 256) (d : Fin 128) : k0_pay62 lanes a.2.1 a.2.2.2 (ix2 i d) = o (d.val / 64) i d := by
  pointwise [k0_pay62, lanes]
  rw [lane_low, ha.o0 i d, ha.o1 i d]
  rcases Cert.KernelIdeal.Sb.head_cases d with h | h <;> simp [h]

theorem tot_rep (i : Fin 256) (d : Fin 128) : k0_pay63 lanes a.1 a.2.2.1 (ix3 (0 : Fin 1) i d) = t (d.val / 64) i := by
  pointwise [k0_pay63, lanes]
  rw [lane_low, ha.t0 i, ha.t1 i]
  rcases Cert.KernelIdeal.Sb.head_cases d with h | h <;> simp [h]
end

end Cert.Kernel22Ideal.Sb

end
-- ==== Proof.Sb.FwdSweep.lean ====
/-
  A block of query rows of the stick-breaking forward kernel after all its tiles: the row totals and the mixed values, as
  sums over the whole score matrix.
-/
module

public import proofs.«01_k».proof.Proof.Sb.FwdTile

@[expose] public section

noncomputable section

namespace Cert.Kernel22Ideal.Sb

open Cert.Kernel22Ideal Cert.Kernel22Ideal.Gen
open Cert.KernelIdeal.Sb (rowsAt rows_at)
open Idealize.ShloMosaic
open Finset (range)

/-- The rows of block `b`. -/
abbrev sh (X : ℕ → ℕ → EReal) (b : ℕ) : ℕ → ℕ → EReal := fun i d => X (256 * b + i) d

theorem rep_rows {X : Vec Ideal S2048x128 .bf16} {f : ℕ → ℕ → EReal} (hX : Rep (e := .bf16) X f) (b : ℕ) (hb : b < 8) :
    Rep (e := .bf16) (rowsAt X b) (sh f b) := fun i d => (rows_at b hb i d X).trans (hX _ d)

/-- log(1 − β) at an entry of the whole score matrix. -/
def lg (Q K : ℕ → ℕ → EReal) (h R C : ℕ) : EReal := lE (zE h Q K R C)
/-- A weight: β times the product of what the columns between it and the diagonal leave. -/
def wE (Q K : ℕ → ℕ → EReal) (h R C : ℕ) : EReal :=
  Ideal.exp (zE h Q K R C - sE (zE h Q K R C) + ∑ d ∈ Finset.Ico (C + 1) R, lg Q K h R d)

/-- The columns of a pair of heads `p` in batch entry `b` of the projection: queries, keys, values. -/
def qE (X : ℕ → ℕ → EReal) (b p : ℕ) : ℕ → ℕ → EReal := fun i d => X (2048 * b + i) (1536 + 128 * p + d)
def kE (X : ℕ → ℕ → EReal) (b p : ℕ) : ℕ → ℕ → EReal := fun i d => X (2048 * b + i) (2560 + 128 * p + d)
def vE (X : ℕ → ℕ → EReal) (b p : ℕ) : ℕ → ℕ → EReal := fun i d => X (2048 * b + i) (3584 + 128 * p + d)
/-- The rows' totals. -/
def tE (X : ℕ → ℕ → EReal) (b p h i : ℕ) : EReal := ∑ d ∈ range i, lg (qE X b p) (kE X b p) h i d
/-- The mixed values: lane `l` belongs to head `l / 64` of the pair. -/
def oE (X : ℕ → ℕ → EReal) (b p i l : ℕ) : EReal := ∑ C ∈ range i, wE (qE X b p) (kE X b p) (l / 64) i C * vE X b p C l

section
variable (Q K V : ℕ → ℕ → EReal) (b j : ℕ)

/-- A sum over a stretch of a tile's columns. -/
theorem seg (g : ℕ → EReal) (s a e : ℕ) : ∑ d ∈ Finset.Ico a e, g (s + d) = ∑ d ∈ Finset.Ico (s + a) (s + e), g d := by
  rw [Finset.sum_Ico_add, add_comm a s, add_comm e s]

/-- A masked sum stops at the diagonal. -/
theorem cut_seg (h i a : ℕ) (hi : i ≤ 256) (ha : a ≤ i) :
    ∑ d ∈ Finset.Ico a 256, cut (zE h (sh Q b) (sh K b)) i d = ∑ d ∈ Finset.Ico (256 * b + a) (256 * b + i), lg Q K h (256 * b + i) d := by
  rw [← seg, ← Finset.sum_Ico_consecutive _ ha hi]
  have z : ∑ d ∈ Finset.Ico i 256, cut (zE h (sh Q b) (sh K b)) i d = 0 :=
    Finset.sum_eq_zero fun d hd => by
      have := Finset.mem_Ico.1 hd
      rw [cut, if_neg (by omega)]
  rw [z, add_zero]
  refine Finset.sum_congr rfl fun d hd => ?_
  have := Finset.mem_Ico.1 hd
  rw [cut, if_pos (by omega)]
  rfl

theorem dW_eq (h i c : ℕ) (hi : i ≤ 256) :
    dW (sh Q b) (sh K b) h i c = if c < i then wE Q K h (256 * b + i) (256 * b + c) else 0 := by
  unfold dW
  split
  · rw [cut_seg Q K b h i (c + 1) hi (by omega)]
    rfl
  · rfl

theorem fW_eq (h i c : ℕ) (hc : c < 256) (hj : 256 * j + 256 ≤ 256 * b + i) :
    fW (sh Q b) (sh K j) (fun i => ∑ d ∈ Finset.Ico (256 * j + 256) (256 * b + i), lg Q K h (256 * b + i) d) h i c
      = wE Q K h (256 * b + i) (256 * j + c) := by
  unfold fW wE
  rw [show (∑ d ∈ Finset.Ico (c + 1) 256, lE (zE h (sh Q b) (sh K j) i d))
    = ∑ d ∈ Finset.Ico (256 * j + (c + 1)) (256 * j + 256), lg Q K h (256 * b + i) d from seg (lg Q K h (256 * b + i)) (256 * j) (c + 1) 256]
  show Ideal.exp (zE h Q K (256 * b + i) (256 * j + c) - sE (zE h Q K (256 * b + i) (256 * j + c)) + _) = _
  rw [Finset.sum_Ico_consecutive _ (by omega) hj]
  rfl
end

/-- Reading the carried values another way, inside the block. -/
theorem CarryRep.of {a : Carry Ideal} {t t' : ℕ → ℕ → EReal} {o o' : ℕ → ℕ → ℕ → EReal} (ha : CarryRep a t o)
    (ht : ∀ h i, i < 256 → t h i = t' h i) (ho : ∀ h i d, i < 256 → o h i d = o' h i d) : CarryRep a t' o' where
  t0 i := by rw [ha.t0 i, ht 0 i i.isLt]
  o0 i d := by rw [ha.o0 i d, ho 0 i d i.isLt]
  t1 i := by rw [ha.t1 i, ht 1 i i.isLt]
  o1 i d := by rw [ha.o1 i d, ho 1 i d i.isLt]

section
variable {qb : Vec Ideal S256x128 .bf16} {Kb Vb : Vec Ideal S2048x128 .bf16} {Q K V : ℕ → ℕ → EReal} {b : ℕ}
variable (hb : b < 8) (hq : Rep (e := .bf16) qb (sh Q b)) (hK : Rep (e := .bf16) Kb K) (hV : Rep (e := .bf16) Vb V)
include hb hq hK hV

theorem sweep_rep (n : ℕ) (hn : n ≤ b) : CarryRep (sweep qb Kb Vb b n)
    (fun h i => ∑ d ∈ Finset.Ico (256 * (b - n)) (256 * b + i), lg Q K h (256 * b + i) d)
    (fun h i d => ∑ C ∈ Finset.Ico (256 * (b - n)) (256 * b + i), wE Q K h (256 * b + i) C * V C d) := by
  induction n with
  | zero =>
    refine (diag_rep hq (rep_rows hK b hb) (rep_rows hV b hb)).of (fun h i hi => ?_) (fun h i d hi => ?_)
    · have e := cut_seg Q K b h i 0 (by omega) (by omega)
      rw [← Finset.range_eq_Ico] at e
      exact e
    · rw [Nat.sub_zero]
      have e := seg (fun C => wE Q K h (256 * b + i) C * V C d) (256 * b) 0 i
      rw [add_zero] at e
      rw [← e, ← Finset.range_eq_Ico, ← Finset.sum_subset (Finset.range_mono hi.le)]
      · refine Finset.sum_congr rfl fun c hc => ?_
        rw [dW_eq Q K b h i c hi.le, if_pos (Finset.mem_range.1 hc)]
      · intro c _ hc
        rw [dW_eq Q K b h i c hi.le, if_neg (fun h => hc (Finset.mem_range.2 h)), zero_mul]
  | succ n ih =>
    have e : 256 * (b - n) = 256 * (b - 1 - n) + 256 := by omega
    have e' : b - (n + 1) = b - 1 - n := by omega
    have ih' := ih (by omega)
    rw [e] at ih'
    rw [e']
    refine (tile_rep hq (rep_rows hK (b - 1 - n) (by omega)) (rep_rows hV (b - 1 - n) (by omega)) ih').of (fun h i hi => ?_) (fun h i d hi => ?_)
    · have s := seg (lg Q K h (256 * b + i)) (256 * (b - 1 - n)) 0 256
      rw [← Finset.range_eq_Ico, add_zero] at s
      show _ + (∑ d ∈ range 256, lg Q K h (256 * b + i) (256 * (b - 1 - n) + d)) = _
      rw [s, add_comm, Finset.sum_Ico_consecutive _ (by omega) (by omega)]
    · rw [← Finset.sum_Ico_consecutive _ (show 256 * (b - 1 - n) ≤ 256 * (b - 1 - n) + 256 by omega) (show 256 * (b - 1 - n) + 256 ≤ 256 * b + i by omega), add_comm]
      congr 1
      have s := seg (fun C => wE Q K h (256 * b + i) C * V C d) (256 * (b - 1 - n)) 0 256
      rw [add_zero] at s
      rw [← s, ← Finset.range_eq_Ico]
      refine Finset.sum_congr rfl fun c hc => ?_
      rw [fW_eq Q K b (b - 1 - n) h i c (Finset.mem_range.1 hc) (by omega)]

/-- After every tile of the block. -/
theorem last_rep : CarryRep (sweep qb Kb Vb b b) (fun h i => ∑ d ∈ range (256 * b + i), lg Q K h (256 * b + i) d)
    (fun h i d => ∑ C ∈ range (256 * b + i), wE Q K h (256 * b + i) C * V C d) :=
  (sweep_rep hb hq hK hV b le_rfl).of (fun h i _ => by rw [Nat.sub_self, Nat.mul_zero, ← Finset.range_eq_Ico])
    (fun h i d _ => by rw [Nat.sub_self, Nat.mul_zero, ← Finset.range_eq_Ico])
end

end Cert.Kernel22Ideal.Sb

end
-- ==== Proof.Sb.FwdRef.lean ====
/-
  The forward reference's results, entry by entry, as sums over a row of the score matrix.
-/
module

public import proofs.«01_k».proof.Proof.Sb.Same
public import proofs.«01_k».proof.Proof.Sb.FwdSweep
public import proofs.«01_k».proof.Proof.Gen.Reference22Ideal.Read

@[expose] public section

noncomputable section

namespace Cert.ReferenceIdeal.SbE

open Cert.ReferenceIdeal Cert.ReferenceIdeal.Gen Cert.ReferenceIdeal.Read
open Cert.KernelIdeal.Sb (sp word_slt2 eighth_val32)
open Cert.Kernel22Ideal.Sb (sE sE_coe sE_bot sE_top lE zE wE qE kE)
open Cert.ReferenceIdeal.Sb (sp_neg host_window_sum zero_val)
open Idealize.ShloMosaic Idealize.ShloMosaic.Pointwise
open Finset (range)

/-- The softplus as the reference writes it. -/
theorem sE_host (y : EReal) : max y 0 + Ideal.log1p (Ideal.exp (-FloatOps.absf (F := Ideal) (φ := .f32) y)) = sE y := by
  rw [sE, zero_sub]
  rfl

/-- The exponent as the reference takes it: an inclusive sum less the entry, on log-sigmoid, is the exclusive sum on
    z − softplus z; at z = −∞ and z = +∞ both are −∞. -/
theorem exponent (z S : EReal) : -sE (-z) + ((lE z + S) - lE z) = z - sE z + S := by
  induction z using EReal.rec with
  | bot => simp [sE_top, sE_bot, lE]
  | top => simp [sE_top, sE_bot, lE]
  | coe z =>
    have h : (((-sp z : ℝ) : EReal) + S) - ((-sp z : ℝ) : EReal) = S := by
      induction S using EReal.rec with
      | bot => simp [← EReal.coe_neg]
      | top => rw [EReal.coe_add_top, EReal.top_sub_coe]
      | coe S => rw [← EReal.coe_add, ← EReal.coe_sub, add_sub_cancel_left]
    rw [lE, sE_coe, zero_sub, ← EReal.coe_neg (sp z), h, ← EReal.coe_neg z, sE_coe, sp_neg, ← EReal.coe_neg, ← EReal.coe_sub, neg_sub]

/-- The sum from an entry on, of a row that is zero from the diagonal on. -/
theorem suffix (f : ℕ → EReal) (i j : ℕ) (hi : i < 2048) (hj : j < i) :
    (∑ k ∈ range 2048, if j + k < 2048 then (if j + k < i then f (j + k) else 0) else 0) = f j + ∑ d ∈ Finset.Ico (j + 1) i, f d := by
  rw [← Finset.sum_eq_sum_Ico_succ_bot hj, Finset.sum_Ico_eq_sum_range, ← Finset.sum_subset (s₁ := range (i - j)) (by intro k; simp only [Finset.mem_range]; omega)]
  · refine Finset.sum_congr rfl fun k hk => ?_
    rw [Finset.mem_range] at hk
    rw [if_pos (show j + k < 2048 by omega), if_pos (show j + k < i by omega)]
  · intro k _ hk
    rw [Finset.mem_range] at hk
    rw [if_neg (show ¬ j + k < i by omega), ite_self]

/-- An eighth of a sum. -/
theorem sum_eighth (s : Finset ℕ) (f : ℕ → EReal) : (∑ d ∈ s, f d) * ((1 / 8 : ℝ) : EReal) = ∑ d ∈ s, f d * ((1 / 8 : ℝ) : EReal) := by
  induction s using Finset.induction_on with
  | empty => simp
  | insert a s ha ih =>
    rw [Finset.sum_insert ha, Finset.sum_insert ha, ← ih,
      EReal.right_distrib_of_nonneg_of_ne_top (EReal.coe_nonneg.2 (by norm_num)) (EReal.coe_ne_top _)]

theorem sum_row {N : ℕ} (x : Fin N → EReal) (g : ℕ → EReal) (hx : ∀ k : Fin N, x k = g k.val) : ∑ k, x k = ∑ k ∈ range N, g k := by
  rw [← Fin.sum_univ_eq_sum_range]
  exact Finset.sum_congr rfl fun k _ => hx k

/-- A sum that counts the entries before the diagonal. -/
theorem sum_before (g : ℕ → EReal) (i : Fin 2048) : (∑ k ∈ range 2048, if k < i.val then g k else 0) = ∑ k ∈ range i.val, g k := by
  rw [← Finset.sum_filter]
  refine Finset.sum_congr ?_ fun _ _ => rfl
  ext n
  have := i.isLt
  simp only [Finset.mem_filter, Finset.mem_range]
  omega

section
variable (x0 : FVec Ideal S4096x4608 .bf16)

variable (X : ℕ → ℕ → EReal) (hX : ∀ (r : Fin 4096) (s : Fin 4608), x0 (ix2 r s) = X r.val s.val)

/-- The score of a query row against a key row, as head `h` takes it. -/
def zR (X : ℕ → ℕ → EReal) (b h i j : ℕ) : EReal := zE (h % 2) (qE X b (h / 2)) (kE X b (h / 2)) i j

include hX in
theorem v10_at (b : Fin 2) (h : Fin 16) (i j : Fin 2048) :
    val_main_v10 (F := Ideal) x0 (ix4 b h i j) = zR X b h i j := by
  pointwise [val_main_v10, val_main_v8, val_main_v9, val_main_cst, val_main_v3, val_main_v5, val_main_v2, val_main_v4, val_main_v1, val_main_v0]
  simp only [hX, eighth_val32]
  rw [sum_row _ (fun d => qE X b (h / 2) i (64 * (h % 2) + d) * kE X b (h / 2) j (64 * (h % 2) + d)) (fun d => ?_), sum_eighth]
  · exact Finset.sum_congr rfl fun d _ => mul_right_comm _ _ _
  have e1 : b.val * 2048 + i.val = 2048 * b.val + i.val := by ring
  have e2 : b.val * 2048 + j.val = 2048 * b.val + j.val := by ring
  have e3 : 1536 + (h.val * 64 + d.val) = 1536 + 128 * (h.val / 2) + (64 * (h.val % 2) + d.val) := by omega
  have e4 : 1536 + (1024 + (h.val * 64 + d.val)) = 2560 + 128 * (h.val / 2) + (64 * (h.val % 2) + d.val) := by omega
  simp only [e1, e2, e3, e4, qE, kE]

include hX in
theorem sp_at (b : Fin 2) (h : Fin 16) (i j : Fin 2048) :
    val_main_call1_v1_0 (F := Ideal) x0 (ix4 b h i j) = sE (zR X b h i j) := by
  pointwise [val_main_call1_v1_0, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_v18]
  rw [v10_at x0 X hX, neg_neg, if_neg (fun h => h rfl)]
  exact sE_host _

include hX in
theorem spn_at (b : Fin 2) (h : Fin 16) (i j : Fin 2048) :
    val_main_call0_v1_0 (F := Ideal) x0 (ix4 b h i j) = sE (-zR X b h i j) := by
  pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [v10_at x0 X hX, if_neg (fun h => h rfl)]
  exact sE_host _

include hX in
theorem v17_at (b : Fin 2) (h : Fin 16) (i j : Fin 2048) : val_main_v17_0 (F := Ideal) x0 (ix4 b h i j) = -sE (-zR X b h i j) := by
  pointwise [val_main_v17_0]
  rw [spn_at x0 X hX]

include hX in
theorem v20_at (b : Fin 2) (h : Fin 16) (i j : Fin 2048) :
    val_main_v20_0 (F := Ideal) x0 (ix4 b h i j) = if j.val < i.val then lE (zR X b h i j) else 0 := by
  pointwise [val_main_v20_0, val_main_v20_1, val_main_v16, val_main_v15, val_main_v14, val_main_v13, val_main_v12, val_main_v11, val_main_call2_v2, val_main_call2_v0, val_main_cst_0, val_main_v19_0]
  rw [word_slt2, sp_at x0 X hX, lE, zero_sub]
  split
  · rfl
  · exact zero_val

include hX in
theorem v21_at (b : Fin 2) (h : Fin 16) (i j : Fin 2048) :
    val_main_v21 (F := Ideal) x0 (ix4 b h i j)
      = ∑ k ∈ range 2048, if j.val + k < 2048 then (if j.val + k < i.val then lE (zR X b h i (j.val + k)) else 0) else 0 := by
  have e0 : val_main_call3_v0 (F := Ideal) (Shape.Idx.first h_S_) = (0 : EReal) := zero_val
  rw [val_main_v21, host_window_sum _ _ _ _ _ _ e0]
  refine sum_row _ (fun k => if j.val + k < 2048 then (if j.val + k < i.val then lE (zR X b h i (j.val + k)) else 0) else 0) fun k => ?_
  by_cases hk : j.val + k.val < 2048
  · rw [dif_pos ⟨Nat.zero_le _, hk⟩, if_pos hk]
    exact v20_at x0 X hX b h i ⟨j.val + k.val, hk⟩
  · rw [dif_neg (fun h => hk h.2), if_neg hk]

include hX in
theorem v25_at (b : Fin 2) (h : Fin 16) (i j : Fin 2048) :
    val_main_v25_0 (F := Ideal) x0 (ix4 b h i j) = if j.val < i.val then wE (qE X b (h / 2)) (kE X b (h / 2)) (h % 2) i j else 0 := by
  pointwise [val_main_v25_0, val_main_v25_1, val_main_v16, val_main_v15, val_main_v14, val_main_v13, val_main_v12, val_main_v11, val_main_call4_v2, val_main_call4_v0, val_main_cst_1,
    val_main_v24, val_main_v23, val_main_v22]
  rw [word_slt2, v17_at x0 X hX, v21_at x0 X hX, v20_at x0 X hX]
  split
  · rename_i hj
    rw [suffix (fun n => lE (zR X b h i n)) i j i.isLt hj, exponent]
    rfl
  · exact zero_val
end

end Cert.ReferenceIdeal.SbE

namespace Cert.Reference22Ideal.Sb

open Cert.Reference22Ideal Cert.Reference22Ideal.Gen Cert.Reference22Ideal.Read
open Cert.Kernel22Ideal.Sb (lE lg wE qE kE vE tE oE)
open Cert.ReferenceIdeal.Sb (hd ln hd_div hd_mod ln_eq)
open Cert.ReferenceIdeal.SbE (zR v20_at v25_at sum_row sum_before)
open Idealize.ShloMosaic Idealize.ShloMosaic.Pointwise
open Finset (range)

section
variable (x0 : FVec Ideal S4096x4608 .bf16)

/-- The masked weights are those of the gradient's reference. -/
theorem v25_same : val_main_v25 (F := Ideal) x0 = Cert.ReferenceIdeal.Read.val_main_v25_0 (F := Ideal) x0 := rfl
/-- So are the masked entries the totals sum. -/
theorem v48_same : val_main_v48 (F := Ideal) x0 = Cert.ReferenceIdeal.Read.val_main_v20_0 (F := Ideal) x0 := rfl

variable (X : ℕ → ℕ → EReal) (hX : ∀ (r : Fin 4096) (s : Fin 4608), x0 (ix2 r s) = X r.val s.val)
include hX

theorem v26_at (b : Fin 2) (h : Fin 16) (d : Fin 64) (i : Fin 2048) :
    val_main_v26 (F := Ideal) x0 (ix4 b h d i)
      = ∑ n ∈ range i.val, wE (qE X b (h / 2)) (kE X b (h / 2)) (h % 2) i n * vE X b (h / 2) n (64 * (h % 2) + d) := by
  pointwise [val_main_v26, val_main_v7, val_main_v6, val_main_v1, val_main_v0]
  simp only [v25_same, v25_at x0 X hX, hX]
  rw [← sum_before]
  refine sum_row _ (fun n => if n < i.val then wE (qE X b (h / 2)) (kE X b (h / 2)) (h % 2) i n * vE X b (h / 2) n (64 * (h % 2) + d) else 0) fun k => ?_
  have e2 : b.val * 2048 + k.val = 2048 * b.val + k.val := by ring
  have e4 : 1536 + (2048 + (h.val * 64 + d.val)) = 3584 + 128 * (h.val / 2) + (64 * (h.val % 2) + d.val) := by omega
  rw [e2, e4]
  show _ = if k.val < i.val then wE (qE X b (h / 2)) (kE X b (h / 2)) (h % 2) i k * (X (2048 * b.val + k.val) (3584 + 128 * (h.val / 2) + (64 * (h.val % 2) + d.val))) else 0
  split
  · exact mul_comm _ _
  · exact mul_zero _

/-- The mixed values. -/
theorem out_at (b : Fin 2) (i : Fin 2048) (p : Fin 8) (l : Fin 128) :
    val_main_v28 (F := Ideal) x0 (ix2 (⟨2048 * b.val + i.val, by omega⟩ : Fin 4096) (⟨128 * p.val + l.val, by omega⟩ : Fin 1024))
      = oE X b p i l := by
  have e : val_main_v28 (F := Ideal) x0 (ix2 (⟨2048 * b.val + i.val, by omega⟩ : Fin 4096) (⟨128 * p.val + l.val, by omega⟩ : Fin 1024))
      = val_main_v26 (F := Ideal) x0 (ix4 b (hd p l) (ln l) i) := by
    pointwise [val_main_v28, val_main_v27]
    refine congrArg _ (funext fun a => Fin.ext ?_)
    fin_cases a
    · simp
    · simp [hd]; omega
    · simp [ln]; omega
    · simp
  rw [e, v26_at x0 X hX, hd_div, hd_mod, ln_eq p l]
  rfl

/-- The rows' totals. -/
theorem v49_at (b : Fin 2) (h : Fin 16) (i : Fin 2048) :
    val_main_v49 (F := Ideal) x0 (ix3 b h i) = tE X b (h / 2) (h % 2) i := by
  pointwise [val_main_v49, val_main_cst_4]
  simp only [v48_same, v20_at x0 X hX]
  rw [sum_row _ (fun n => if n < i.val then lE (zR X b h i n) else 0) (fun k => rfl), sum_before]
  rfl

theorem tot_at (b : Fin 2) (p : Fin 8) (i : Fin 2048) (l : Fin 128) :
    val_main_v54 (F := Ideal) x0 (ix3 (⟨8 * b.val + p.val, by omega⟩ : Fin 16) i l) = tE X b p (l.val / 64) i := by
  have e : val_main_v54 (F := Ideal) x0 (ix3 (⟨8 * b.val + p.val, by omega⟩ : Fin 16) i l)
      = val_main_v49 (F := Ideal) x0 (ix3 b (hd p l) i) := by
    pointwise [val_main_v54, val_main_v53, val_main_v52, val_main_v51, val_main_v50]
    refine congrArg _ (funext fun a => Fin.ext ?_)
    fin_cases a
    · simp
    · simp [hd]; omega
    · simp
  rw [e, v49_at x0 X hX, hd_div, hd_mod]
end

end Cert.Reference22Ideal.Sb

end
-- ==== Proof.Sb.FwdSame.lean ====
/-
  The forward kernel's two results are the reference's: entry by entry.
-/
module

public import proofs.«01_k».proof.Proof.Sb.FwdSweep
public import proofs.«01_k».proof.Proof.Sb.FwdRef

@[expose] public section

noncomputable section

namespace Cert.Kernel22Ideal.Sb

open Cert.Kernel22Ideal Cert.Kernel22Ideal.Gen Cert.Kernel22Ideal.Value
open Idealize.ShloMosaic Idealize.ShloMosaic.TcCoe Idealize.ShloMosaic.Pointwise
open Finset (range)

/-- The blocks a grid point reads and writes. -/
theorem idx0 : ∀ t : Fin grid0.N,
    win0_0.index t = ![8 * (grid0.coords t 0).val + (grid0.coords t 2).val, 12 + (grid0.coords t 1).val]
    ∧ win0_1.index t = ![(grid0.coords t 0).val, 20 + (grid0.coords t 1).val]
    ∧ win0_2.index t = ![(grid0.coords t 0).val, 28 + (grid0.coords t 1).val]
    ∧ win0_3.index t = ![8 * (grid0.coords t 0).val + (grid0.coords t 2).val, (grid0.coords t 1).val]
    ∧ win0_4.index t = ![8 * (grid0.coords t 0).val + (grid0.coords t 1).val, (grid0.coords t 2).val, 0] := by
  decide +kernel

section
variable (m : (ℓ : Loc nD τ sig) → Buf (Elt Ideal) ℓ) (c : Dev nD) (t : Fin cfg0.N)

abbrev gb : Fin 2 := grid0.coords t 0
abbrev gp : Fin 8 := grid0.coords t 1
abbrev gi : Fin 8 := grid0.coords t 2

/-- The grid point of a batch entry, a pair of heads and a block of rows. -/
theorem point_of : ∀ (b : Fin 2) (p j : Fin 8), ∃ t : Fin cfg0.N, gb t = b ∧ gp t = p ∧ gi t = j := by decide +kernel

theorem blk0 (i : Fin 256) (d : Fin 128) : iblk m c 0 t (ix2 i d) = m ((c : Thread nD τ).loc main_arg0)
    (ix2 (⟨2048 * (gb t).val + (256 * (gi t).val + i.val), by omega⟩ : Fin 4096) (⟨1536 + 128 * (gp t).val + d.val, by omega⟩ : Fin 4608)) := by
  blk_ext [iblk, V, (idx0 t).1]
  all_goals (simp only [gb, gp, gi]; ring)
theorem blk1 (i : Fin 2048) (d : Fin 128) : iblk m c 1 t (ix2 i d) = m ((c : Thread nD τ).loc main_arg0)
    (ix2 (⟨2048 * (gb t).val + i.val, by omega⟩ : Fin 4096) (⟨2560 + 128 * (gp t).val + d.val, by omega⟩ : Fin 4608)) := by
  blk_ext [iblk, V, (idx0 t).2.1]
  all_goals (simp only [gb, gp]; ring)
theorem blk2 (i : Fin 2048) (d : Fin 128) : iblk m c 2 t (ix2 i d) = m ((c : Thread nD τ).loc main_arg0)
    (ix2 (⟨2048 * (gb t).val + i.val, by omega⟩ : Fin 4096) (⟨3584 + 128 * (gp t).val + d.val, by omega⟩ : Fin 4608)) := by
  blk_ext [iblk, V, (idx0 t).2.2.1]
  all_goals (simp only [gb, gp]; ring)

theorem emb3 (i : Fin 256) (d : Fin 128) : ((cfg0.win 3).blk t).view.emb (ix2 i d)
    = ix2 (⟨2048 * (gb t).val + (256 * (gi t).val + i.val), by omega⟩ : Fin 4096) (⟨128 * (gp t).val + d.val, by omega⟩ : Fin 1024) := by
  have e := (idx0 t).2.2.2.1
  funext a
  apply Fin.ext
  match a with
  | ⟨0, _⟩ =>
    show win0_3.index t (0 : Fin 2) * 256 + 1 * i.val = 2048 * (gb t).val + (256 * (gi t).val + i.val)
    rw [e]
    show (8 * (gb t).val + (gi t).val) * 256 + 1 * i.val = _
    ring
  | ⟨1, _⟩ =>
    show win0_3.index t (1 : Fin 2) * 128 + 1 * d.val = 128 * (gp t).val + d.val
    rw [e]
    show (gp t).val * 128 + 1 * d.val = _
    ring
theorem emb4 (i : Fin 256) (d : Fin 128) : ((cfg0.win 4).blk t).view.emb (ix3 (0 : Fin 1) i d)
    = ix3 (⟨8 * (gb t).val + (gp t).val, by omega⟩ : Fin 16) (⟨256 * (gi t).val + i.val, by omega⟩ : Fin 2048) d := by
  have e := (idx0 t).2.2.2.2
  funext a
  apply Fin.ext
  match a with
  | ⟨0, _⟩ =>
    show win0_4.index t (0 : Fin 3) * 1 + 1 * 0 = 8 * (gb t).val + (gp t).val
    rw [e]
    show (8 * (gb t).val + (gp t).val) * 1 + 1 * 0 = _
    ring
  | ⟨1, _⟩ =>
    show win0_4.index t (1 : Fin 3) * 256 + 1 * i.val = 256 * (gi t).val + i.val
    rw [e]
    show (gi t).val * 256 + 1 * i.val = _
    ring
  | ⟨2, _⟩ =>
    show win0_4.index t (2 : Fin 3) * 128 + 1 * d.val = d.val
    rw [e]
    show 0 * 128 + 1 * d.val = _
    ring
theorem cut3 (X : Vec Ideal S256x128 .f32) (i : Fin 256) (d : Fin 128) : (cfg0.win 3).cut (grid0.coords t) X (ix2 i d) = X (ix2 i d) := rfl
theorem cut4 (X : Vec Ideal S1x256x128 .f32) (i : Fin 256) (d : Fin 128) :
    (cfg0.win 4).cut (grid0.coords t) X (ix3 (0 : Fin 1) i d) = X (ix3 (0 : Fin 1) i d) := rfl

section
variable (X : ℕ → ℕ → EReal)
  (hX : ∀ (r : Fin 4096) (s : Fin 4608), m ((c : Thread nD τ).loc main_arg0) (ix2 r s) = X r.val s.val)
include hX

/-- The values a grid point carries out of its tiles. -/
theorem point_rep : CarryRep (last (grid0.coords t) (iblk m c 0 t) (iblk m c 1 t) (iblk m c 2 t))
    (fun h i => tE X (gb t) (gp t) h (256 * (gi t).val + i))
    (fun h i d => ∑ C ∈ range (256 * (gi t).val + i),
      wE (qE X (gb t) (gp t)) (kE X (gb t) (gp t)) h (256 * (gi t).val + i) C * vE X (gb t) (gp t) C d) :=
  last_rep (Q := qE X (gb t) (gp t)) (K := kE X (gb t) (gp t)) (V := vE X (gb t) (gp t)) (gi t).isLt
    (fun i d => (blk0 m c t i d).trans (hX _ _)) (fun i d => (blk1 m c t i d).trans (hX _ _)) (fun i d => (blk2 m c t i d).trans (hX _ _))

theorem out_at (b : Fin 2) (i : Fin 2048) (p : Fin 8) (l : Fin 128) :
    (dats m 0 c).arrAt 3 cfg0.N (ix2 (⟨2048 * b.val + i.val, by omega⟩ : Fin 4096) (⟨128 * p.val + l.val, by omega⟩ : Fin 1024))
      = oE X b p i l := by
  obtain ⟨j, r, hi⟩ : ∃ (j : Fin 8) (r : Fin 256), i.val = 256 * j.val + r.val := ⟨⟨i.val / 256, by omega⟩, ⟨i.val % 256, by omega⟩, by dsimp only; omega⟩
  obtain ⟨t, hb, hp, hj⟩ : ∃ t : Fin cfg0.N, gb t = b ∧ gp t = p ∧ gi t = j := point_of b p j
  subst hb hp hj
  have h := (dats m 0 c).arrAt_emb_eq_flushed 3 disjoint3 t (flush0_3 _) (ix2 r l)
  rw [emb3, flushed3_A, out_eq] at h
  have ei : (⟨2048 * (gb t).val + i.val, by omega⟩ : Fin 4096) = ⟨2048 * (gb t).val + (256 * (gi t).val + r.val), by omega⟩ := Fin.ext (by dsimp only; omega)
  rw [ei, hi]
  exact h.trans ((cut3 t _ r l).trans (out_rep (point_rep m c t X hX) r l))

theorem tot_at (b : Fin 2) (p : Fin 8) (i : Fin 2048) (l : Fin 128) :
    (dats m 0 c).arrAt 4 cfg0.N (ix3 (⟨8 * b.val + p.val, by omega⟩ : Fin 16) i l) = tE X b p (l.val / 64) i := by
  obtain ⟨j, r, hi⟩ : ∃ (j : Fin 8) (r : Fin 256), i.val = 256 * j.val + r.val := ⟨⟨i.val / 256, by omega⟩, ⟨i.val % 256, by omega⟩, by dsimp only; omega⟩
  obtain ⟨t, hb, hp, hj⟩ : ∃ t : Fin cfg0.N, gb t = b ∧ gp t = p ∧ gi t = j := point_of b p j
  subst hb hp hj
  have h := (dats m 0 c).arrAt_emb_eq_flushed 4 disjoint4 t (flush0_4 _) (ix3 (0 : Fin 1) r l)
  rw [emb4, flushed4_A, lt_eq] at h
  have ei : i = (⟨256 * (gi t).val + r.val, by omega⟩ : Fin 2048) := Fin.ext hi
  rw [hi, ei]
  exact h.trans ((cut4 t _ r l).trans (tot_rep (point_rep m c t X hX) r l))
end
end

end Cert.Kernel22Ideal.Sb

namespace Cert.Reference22Ideal.Sb

open Cert.Reference22Ideal Cert.Reference22Ideal.Gen Cert.Reference22Ideal.Read
open Idealize.ShloMosaic Idealize.ShloMosaic.TcCoe Idealize.ShloMosaic.Pointwise

/-- The array's entries by row and column numbers. -/
def vals (x : FVec Ideal S4096x4608 .bf16) (r s : ℕ) : EReal :=
  if h : r < 4096 ∧ s < 4608 then x (ix2 (⟨r, h.1⟩ : Fin 4096) (⟨s, h.2⟩ : Fin 4608)) else 0
theorem vals_eq (x : FVec Ideal S4096x4608 .bf16) (r : Fin 4096) (s : Fin 4608) : x (ix2 r s) = vals x r.val s.val := by
  rw [vals, dif_pos ⟨r.isLt, s.isLt⟩]

section
variable (m : (ℓ : Loc Cert.Kernel22Ideal.nD Cert.Kernel22Ideal.τ Cert.Kernel22Ideal.sig) → Buf (Elt Ideal) ℓ) (c : Dev Cert.Kernel22Ideal.nD)

/-- The mixed values are the reference's. -/
theorem out_same : (Cert.Kernel22Ideal.Gen.dats m 0 c).arrAt 3 Cert.Kernel22Ideal.cfg0.N
    = val_main_v28 (F := Ideal) (m ((c.tc : Thread Cert.Kernel22Ideal.nD Cert.Kernel22Ideal.τ).loc Cert.Kernel22Ideal.main_arg0)) := by
  have hX := vals_eq (m ((c.tc : Thread Cert.Kernel22Ideal.nD Cert.Kernel22Ideal.τ).loc Cert.Kernel22Ideal.main_arg0))
  have key : ∀ (r : Fin 4096) (s : Fin 1024), (Cert.Kernel22Ideal.Gen.dats m 0 c).arrAt 3 Cert.Kernel22Ideal.cfg0.N (ix2 r s)
      = val_main_v28 (F := Ideal) (m ((c.tc : Thread Cert.Kernel22Ideal.nD Cert.Kernel22Ideal.τ).loc Cert.Kernel22Ideal.main_arg0)) (ix2 r s) := by
    intro r s
    obtain ⟨b, i, rfl⟩ : ∃ (b : Fin 2) (i : Fin 2048), r = ⟨2048 * b.val + i.val, by omega⟩ :=
      ⟨⟨r.val / 2048, by omega⟩, ⟨r.val % 2048, by omega⟩, Fin.ext (Nat.div_add_mod _ _).symm⟩
    obtain ⟨p, l, rfl⟩ : ∃ (p : Fin 8) (l : Fin 128), s = ⟨128 * p.val + l.val, by omega⟩ :=
      ⟨⟨s.val / 128, by omega⟩, ⟨s.val % 128, by omega⟩, Fin.ext (Nat.div_add_mod _ _).symm⟩
    exact (Cert.Kernel22Ideal.Sb.out_at m c _ hX b i p l).trans (out_at _ _ hX b i p l).symm
  funext x
  have ex := eq_ix2 x
  rw [ex]
  exact key _ _

/-- The row totals are the reference's. -/
theorem tot_same : (Cert.Kernel22Ideal.Gen.dats m 0 c).arrAt 4 Cert.Kernel22Ideal.cfg0.N
    = val_main_v54 (F := Ideal) (m ((c.tc : Thread Cert.Kernel22Ideal.nD Cert.Kernel22Ideal.τ).loc Cert.Kernel22Ideal.main_arg0)) := by
  have hX := vals_eq (m ((c.tc : Thread Cert.Kernel22Ideal.nD Cert.Kernel22Ideal.τ).loc Cert.Kernel22Ideal.main_arg0))
  have key : ∀ (r : Fin 16) (i : Fin 2048) (l : Fin 128), (Cert.Kernel22Ideal.Gen.dats m 0 c).arrAt 4 Cert.Kernel22Ideal.cfg0.N (ix3 r i l)
      = val_main_v54 (F := Ideal) (m ((c.tc : Thread Cert.Kernel22Ideal.nD Cert.Kernel22Ideal.τ).loc Cert.Kernel22Ideal.main_arg0)) (ix3 r i l) := by
    intro r i l
    obtain ⟨b, p, rfl⟩ : ∃ (b : Fin 2) (p : Fin 8), r = ⟨8 * b.val + p.val, by omega⟩ :=
      ⟨⟨r.val / 8, by omega⟩, ⟨r.val % 8, by omega⟩, Fin.ext (Nat.div_add_mod _ _).symm⟩
    exact (Cert.Kernel22Ideal.Sb.tot_at m c _ hX b p i l).trans (tot_at _ _ hX b p i l).symm
  funext x
  have ex := eq_ix3 x
  rw [ex]
  exact key _ _ _
end

end Cert.Reference22Ideal.Sb

end
-- ==== Proof.Ffn.Sums.lean ====
/-
  What the proofs of the products share: sums taken in parts, and the offsets of a whole block.
-/
module

public import Idealize.ShloMosaic.Lib.Claim
public import Idealize.ShloMosaic.Lib.Pipeline.ValueKit

@[expose] public section

namespace Cert.Ffn

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem off2 : ∀ a : Fin 2, (![0, 0] : Fin 2 → Nat) a = 0 := fun a => by fin_cases a <;> rfl

/-- A sum over an even number of terms, half by half. -/
theorem sum_halves {n N : ℕ} (h : N = n + n) (f : Fin N → EReal) :
    ∑ k, f k = ∑ k : Fin n, f ⟨k.val, by omega⟩ + ∑ k : Fin n, f ⟨n + k.val, by omega⟩ := by
  subst h; exact Fin.sum_univ_add f

/-- The gate of the activation: an entry times its logistic function. -/
noncomputable abbrev silu (x : EReal) : EReal := x * Idealize.ShloMosaic.Ideal.div 1 (1 + Idealize.ShloMosaic.Ideal.exp (-x))

end Cert.Ffn
-- ==== Proof.Ffn.UpGrad.lean ====
/-
  The weight gradient of a gate or up projection: the kernel adds the two halves of the tokens in turn, and the
  reference sums over all the tokens at once.
-/
module

public import proofs.«01_k».proof.Proof.Gen.Kernel3Ideal.Value
public import proofs.«01_k».proof.Proof.Gen.Reference3Ideal.Read
public import proofs.«01_k».proof.Proof.Ffn.Sums

@[expose] public section

noncomputable section

namespace Cert.Kernel3Ideal.Ffn

open Cert.Kernel3Ideal Cert.Kernel3Ideal.Gen Cert.Kernel3Ideal.Value
open Cert.Ffn (hz2 hz3 hz4 sum_halves)
open Idealize.ShloMosaic Idealize.ShloMosaic.TcCoe Idealize.ShloMosaic.Pointwise

section Body
variable {F : FTy → Type} [FloatOps F]
variable (c : Dev nD) (i : grid0.Coords) (a3 : Memref sig .tc .vmem S2048x1024 .bf16) (h3 : a3.IsWhole)
  (a4 : Memref sig .tc .vmem S1x2048x1408 .bf16) (h4 : a4.IsWhole) (a5 : Memref sig .tc .vmem S1x1x1024x1408 .bf16) (h5 : a5.IsWhole)
  (a6 : Memref sig .tc .vmem S1024x1408 .f32) (h6 : a6.IsWhole)

/-- A first step leaves its product added to zero. -/
theorem first_eq (g0 : cond0_0 i) (g1 : ¬cond0_1 i) (x : Vec F S2048x1024 .bf16) (y : Vec F S1x2048x1408 .bf16) :
    sout0_A_0 c i a3 h3 a4 h4 a5 h5 a6 h6 g0 g1 x y = k0_pay2 y (k0_pay1 (F := F)) x := by
  unfold sout0_A_0
  rw [View.read_writes_eq_canon _ _ _ (scover0_A_0 c i a3 h3 a4 h4 a5 h5 a6 h6 g0 g1 x y)]
  unfold kernelRun0_A
  dsimp only
  sl_unfold_words
  rw [View.canon_cons_unit_zero (S := S1024x1408) hz2]
  simp only [View.readCov_unit_zero (S := S1024x1408) _ hz2, View.readAt_eq_ld, h3.read_unread, h4.read_unread, View.ld_unit_zero (S := S2048x1024) hz2, View.ld_unit_zero (S := S1x2048x1408) hz3]

/-- A last step adds its product to what the first left, and rounds the sum. -/
theorem last_eq (g0 : ¬cond0_0 i) (g1 : cond0_1 i) (x : Vec F S2048x1024 .bf16) (y : Vec F S1x2048x1408 .bf16) (z : Vec F S1024x1408 .f32) :
    out0_B_2 c i a3 h3 a4 h4 a5 h5 a6 h6 g0 g1 x y z = k0_pay3 (k0_pay2 y z x) := by
  unfold out0_B_2
  rw [View.read_writes_eq_canon _ _ _ (cover0_B_2 c i a3 h3 a4 h4 a5 h5 a6 h6 g0 g1 x y z)]
  unfold kernelRun0_B
  dsimp only
  sl_unfold_words
  rw [View.canon_unit_zero hz4]
  simp only [View.readCov_unit_zero (S := S1024x1408) _ hz2, View.readAt_eq_ld, h3.read_unread, h4.read_unread, h6.read_unread, View.ld_unit_zero (S := S2048x1024) hz2, View.ld_unit_zero (S := S1x2048x1408) hz3, View.ld_unit_zero (S := S1024x1408) hz2]
end Body

variable (m : (ℓ : Loc nD τ sig) → Buf (Elt Ideal) ℓ) (c : Dev nD)

/-- The blocks a grid point reads. -/
theorem idx0 : ∀ t : Fin grid0.N, win0_0.index t = ![t.val % 2, t.val / 2 % 2] ∧ win0_1.index t = ![t.val / 4, t.val % 2, 0] := by
  decide +kernel

theorem blk0 (t : Fin cfg0.N) (k : Fin 2048) (a : Fin 1024) : iblk m c 0 t (ix2 k a) = m ((c : Thread nD τ).loc main_arg0)
    (ix2 (⟨2048 * (t.val % 2) + k.val, by omega⟩ : Fin 4096) (⟨1024 * (t.val / 2 % 2) + a.val, by omega⟩ : Fin 2048)) := by
  blk_ext [iblk, V, (idx0 t).1]

theorem blk1 (t : Fin cfg0.N) (ht : t.val < 16) (k : Fin 2048) (b : Fin 1408) : iblk m c 1 t (ix3 0 k b) = m ((c : Thread nD τ).loc main_arg1)
    (ix3 (⟨t.val / 4, by omega⟩ : Fin 4) (⟨2048 * (t.val % 2) + k.val, by omega⟩ : Fin 4096) b) := by
  blk_ext [iblk, V, (idx0 t).2]

/-- The kernel's product, entry by entry. -/
theorem prod_apply (y : Vec Ideal S1x2048x1408 .bf16) (z : Vec Ideal S1024x1408 .f32) (x : Vec Ideal S2048x1024 .bf16) (a : Fin 1024) (b : Fin 1408) :
    k0_pay2 y z x (ix2 a b) = z (ix2 a b) + ∑ k : Fin 2048, x (ix2 k a) * y (ix3 0 k b) := by
  pointwise [k0_pay2]

theorem zero_apply (a : Fin 1024) (b : Fin 1408) : k0_pay1 (F := Ideal) (ix2 a b) = 0 := by
  pointwise [k0_pay1]

theorem round_apply (z : Vec Ideal S1024x1408 .f32) (a : Fin 1024) (b : Fin 1408) : k0_pay3 z (ix4 0 0 a b) = z (ix2 a b) := by
  pointwise [k0_pay3]

/-- The sum the result's entry holds: over all the tokens. -/
abbrev entry (x : Vec Ideal S4096x2048 .bf16) (y : Vec Ideal S4x4096x1408 .bf16) (j : Fin 2) (s : Fin 4) (a : Fin 1024) (b : Fin 1408) : EReal :=
  ∑ k : Fin 4096, x (ix2 k (⟨1024 * j.val + a.val, by omega⟩ : Fin 2048)) * y (ix3 s k b)

/-- What the kernel leaves in the result. -/
theorem result_apply (j : Fin 2) (s : Fin 4) (a : Fin 1024) (b : Fin 1408) :
    G2 m c (ix4 j s a b) = entry (m ((c : Thread nD τ).loc main_arg0)) (m ((c : Thread nD τ).loc main_arg1)) j s a b := by
  have hN : cfg0.N = 16 := N_0
  have hp : pt2Of (ix4 j s a b) = 2 * (j.val + 2 * s.val) + 1 := by
    show 2 * (1 * (j.val / 1 - 0) + 2 * (s.val / 1 - 0) + 8 * (a.val / 1024 - 0) + 8 * (b.val / 1408 - 0)) + 1 = _
    omega
  have hl : loc2Of (ix4 j s a b) = ix4 (0 : Fin 1) (0 : Fin 1) a b := by
    funext q
    apply Fin.ext
    match q with
    | ⟨0, _⟩ => exact Nat.mod_one _
    | ⟨1, _⟩ => exact Nat.mod_one _
    | ⟨2, _⟩ => exact Nat.mod_eq_of_lt a.isLt
    | ⟨3, _⟩ => exact Nat.mod_eq_of_lt b.isLt
  have hlt : 2 * (j.val + 2 * s.val) + 1 < cfg0.N := by omega
  unfold G2
  rw [dif_pos (hp ▸ hlt), hl, fold0_congr m c _ _ (2 * (j.val + 2 * s.val) + 1) (by omega) hp, ← outsAt0_sweep m c _ hlt,
    outsAt0_B m c ⟨_, hlt⟩ (by dsimp only; omega) (by dsimp only; omega)]
  dsimp only
  rw [last_eq, round_apply, prod_apply,
    outsAt0_A m c ⟨2 * (j.val + 2 * s.val) + 1 - 1, by omega⟩ (by dsimp only; omega) (by dsimp only; omega)]
  dsimp only
  rw [first_eq, prod_apply, zero_apply, zero_add, entry, sum_halves (n := 2048) rfl]
  refine congrArg₂ _ (Finset.sum_congr rfl fun k _ => ?_) (Finset.sum_congr rfl fun k _ => ?_)
  · rw [blk0, blk1 m c _ (by dsimp only; omega)]
    refine congrArg₂ _ (congrArg _ ?_) (congrArg _ ?_)
    all_goals (dsimp only; congr 1 <;> (apply Fin.ext; dsimp only; omega))
  · rw [blk0, blk1 m c _ (by dsimp only; omega)]
    refine congrArg₂ _ (congrArg _ ?_) (congrArg _ ?_)
    all_goals (dsimp only; congr 1 <;> (apply Fin.ext; dsimp only; omega))

end Cert.Kernel3Ideal.Ffn

namespace Cert.Reference3Ideal.Ffn

open Cert.Reference3Ideal Cert.Reference3Ideal.Gen
open Idealize.ShloMosaic Idealize.ShloMosaic.TcCoe Idealize.ShloMosaic.Pointwise

/-- The reference's result, entry by entry. -/
theorem result_apply (x : Vec Ideal S4096x2048 .bf16) (y : Vec Ideal S4x4096x1408 .bf16) (j : Fin 2) (s : Fin 4) (a : Fin 1024) (b : Fin 1408) :
    Read.val_main_v10 x y (ix4 j s a b) = Cert.Kernel3Ideal.Ffn.entry x y j s a b := by
  pointwise [Read.val_main_v10, Read.val_main_v9, Read.val_main_v8, Read.val_main_v7, Read.val_main_v6, Read.val_main_v5, Read.val_main_v1, Read.val_main_v0]
  rw [Cert.Kernel3Ideal.Ffn.entry]
  refine Finset.sum_congr rfl fun k _ => ?_
  rw [mul_comm]
  congr 3
  apply Fin.ext
  dsimp only
  omega

/-- The kernel's result is the reference's function of the kernel's arguments. -/
theorem result_eq (m : (ℓ : Loc Cert.Kernel3Ideal.nD Cert.Kernel3Ideal.τ Cert.Kernel3Ideal.sig) → Buf (Elt Ideal) ℓ) (c : Dev Cert.Kernel3Ideal.nD) :
    Cert.Kernel3Ideal.Value.G2 m c
      = Read.val_main_v10 (F := Ideal)
        (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1)) := by
  funext x
  have ex := eq_ix4 x
  rw [ex]
  exact (Cert.Kernel3Ideal.Ffn.result_apply m c _ _ _ _).trans (result_apply _ _ _ _ _ _).symm

end Cert.Reference3Ideal.Ffn
-- ==== Proof.Ffn.DownGrad.lean ====
/-
  The weight gradient of a down projection: the kernel adds the two halves of the tokens in turn, and the
  reference sums over all the tokens at once.
-/
module

public import proofs.«01_k».proof.Proof.Gen.Kernel4Ideal.Value
public import proofs.«01_k».proof.Proof.Gen.Reference4Ideal.Read
public import proofs.«01_k».proof.Proof.Ffn.Sums

@[expose] public section

noncomputable section

namespace Cert.Kernel4Ideal.Ffn

open Cert.Kernel4Ideal Cert.Kernel4Ideal.Gen Cert.Kernel4Ideal.Value
open Cert.Ffn (hz2 hz3 hz4 sum_halves)
open Idealize.ShloMosaic Idealize.ShloMosaic.TcCoe Idealize.ShloMosaic.Pointwise

section Body
variable {F : FTy → Type} [FloatOps F]
variable (c : Dev nD) (i : grid0.Coords) (a3 : Memref sig .tc .vmem S1x2048x1408 .bf16) (h3 : a3.IsWhole)
  (a4 : Memref sig .tc .vmem S2048x1024 .f32) (h4 : a4.IsWhole) (a5 : Memref sig .tc .vmem S1x1x1408x1024 .bf16) (h5 : a5.IsWhole)
  (a6 : Memref sig .tc .vmem S1408x1024 .f32) (h6 : a6.IsWhole)

/-- A first step leaves its product added to zero. -/
theorem first_eq (g0 : cond0_0 i) (g1 : ¬cond0_1 i) (x : Vec F S1x2048x1408 .bf16) (y : Vec F S2048x1024 .f32) :
    sout0_A_0 c i a3 h3 a4 h4 a5 h5 a6 h6 g0 g1 x y = k0_pay2 y (k0_pay1 (F := F)) x := by
  unfold sout0_A_0
  rw [View.read_writes_eq_canon _ _ _ (scover0_A_0 c i a3 h3 a4 h4 a5 h5 a6 h6 g0 g1 x y)]
  unfold kernelRun0_A
  dsimp only
  sl_unfold_words
  rw [View.canon_cons_unit_zero (S := S1408x1024) hz2]
  simp only [View.readCov_unit_zero (S := S1408x1024) _ hz2, View.readAt_eq_ld, h3.read_unread, h4.read_unread, View.ld_unit_zero (S := S2048x1024) hz2, View.ld_unit_zero (S := S1x2048x1408) hz3]

/-- A last step adds its product to what the first left, and rounds the sum. -/
theorem last_eq (g0 : ¬cond0_0 i) (g1 : cond0_1 i) (x : Vec F S1x2048x1408 .bf16) (y : Vec F S2048x1024 .f32) (z : Vec F S1408x1024 .f32) :
    out0_B_2 c i a3 h3 a4 h4 a5 h5 a6 h6 g0 g1 x y z = k0_pay3 (k0_pay2 y z x) := by
  unfold out0_B_2
  rw [View.read_writes_eq_canon _ _ _ (cover0_B_2 c i a3 h3 a4 h4 a5 h5 a6 h6 g0 g1 x y z)]
  unfold kernelRun0_B
  dsimp only
  sl_unfold_words
  rw [View.canon_unit_zero hz4]
  simp only [View.readCov_unit_zero (S := S1408x1024) _ hz2, View.readAt_eq_ld, h3.read_unread, h4.read_unread, h6.read_unread, View.ld_unit_zero (S := S2048x1024) hz2, View.ld_unit_zero (S := S1x2048x1408) hz3, View.ld_unit_zero (S := S1408x1024) hz2]
end Body

variable (m : (ℓ : Loc nD τ sig) → Buf (Elt Ideal) ℓ) (c : Dev nD)

/-- The blocks a grid point reads. -/
theorem idx0 : ∀ t : Fin grid0.N, win0_0.index t = ![t.val / 4, t.val % 2, 0] ∧ win0_1.index t = ![t.val % 2, t.val / 2 % 2] := by
  decide +kernel

theorem blk0 (t : Fin cfg0.N) (ht : t.val < 16) (k : Fin 2048) (a : Fin 1408) : iblk m c 0 t (ix3 0 k a) = m ((c : Thread nD τ).loc main_arg0)
    (ix3 (⟨t.val / 4, by omega⟩ : Fin 4) (⟨2048 * (t.val % 2) + k.val, by omega⟩ : Fin 4096) a) := by
  blk_ext [iblk, V, (idx0 t).1]

theorem blk1 (t : Fin cfg0.N) (k : Fin 2048) (b : Fin 1024) : iblk m c 1 t (ix2 k b) = m ((c : Thread nD τ).loc main_arg1)
    (ix2 (⟨2048 * (t.val % 2) + k.val, by omega⟩ : Fin 4096) (⟨1024 * (t.val / 2 % 2) + b.val, by omega⟩ : Fin 2048)) := by
  blk_ext [iblk, V, (idx0 t).2]

/-- The factor the gradient is scaled by, as it is written. -/
abbrev half : EReal := Ideal.ofBits .f32 0x3F000000#32

/-- The kernel's product, entry by entry. -/
theorem prod_apply (y : Vec Ideal S2048x1024 .f32) (z : Vec Ideal S1408x1024 .f32) (x : Vec Ideal S1x2048x1408 .bf16) (a : Fin 1408) (b : Fin 1024) :
    k0_pay2 y z x (ix2 a b) = z (ix2 a b) + ∑ k : Fin 2048, x (ix3 0 k a) * (half * y (ix2 k b)) := by
  pointwise [k0_pay2]

theorem zero_apply (a : Fin 1408) (b : Fin 1024) : k0_pay1 (F := Ideal) (ix2 a b) = 0 := by
  pointwise [k0_pay1]

theorem round_apply (z : Vec Ideal S1408x1024 .f32) (a : Fin 1408) (b : Fin 1024) : k0_pay3 z (ix4 0 0 a b) = z (ix2 a b) := by
  pointwise [k0_pay3]

/-- The sum the result's entry holds: over all the tokens. -/
abbrev entry (x : Vec Ideal S4x4096x1408 .bf16) (y : Vec Ideal S4096x2048 .f32) (j : Fin 2) (s : Fin 4) (a : Fin 1408) (b : Fin 1024) : EReal :=
  ∑ k : Fin 4096, x (ix3 s k a) * (half * y (ix2 k (⟨1024 * j.val + b.val, by omega⟩ : Fin 2048)))

/-- What the kernel leaves in the result. -/
theorem result_apply (j : Fin 2) (s : Fin 4) (a : Fin 1408) (b : Fin 1024) :
    G2 m c (ix4 j s a b) = entry (m ((c : Thread nD τ).loc main_arg0)) (m ((c : Thread nD τ).loc main_arg1)) j s a b := by
  have hN : cfg0.N = 16 := N_0
  have hp : pt2Of (ix4 j s a b) = 2 * (j.val + 2 * s.val) + 1 := by
    show 2 * (1 * (j.val / 1 - 0) + 2 * (s.val / 1 - 0) + 8 * (a.val / 1408 - 0) + 8 * (b.val / 1024 - 0)) + 1 = _
    omega
  have hl : loc2Of (ix4 j s a b) = ix4 (0 : Fin 1) (0 : Fin 1) a b := by
    funext q
    apply Fin.ext
    match q with
    | ⟨0, _⟩ => exact Nat.mod_one _
    | ⟨1, _⟩ => exact Nat.mod_one _
    | ⟨2, _⟩ => exact Nat.mod_eq_of_lt a.isLt
    | ⟨3, _⟩ => exact Nat.mod_eq_of_lt b.isLt
  have hlt : 2 * (j.val + 2 * s.val) + 1 < cfg0.N := by omega
  unfold G2
  rw [dif_pos (hp ▸ hlt), hl, fold0_congr m c _ _ (2 * (j.val + 2 * s.val) + 1) (by omega) hp, ← outsAt0_sweep m c _ hlt,
    outsAt0_B m c ⟨_, hlt⟩ (by dsimp only; omega) (by dsimp only; omega)]
  dsimp only
  rw [last_eq, round_apply, prod_apply,
    outsAt0_A m c ⟨2 * (j.val + 2 * s.val) + 1 - 1, by omega⟩ (by dsimp only; omega) (by dsimp only; omega)]
  dsimp only
  rw [first_eq, prod_apply, zero_apply, zero_add, entry, sum_halves (n := 2048) rfl]
  refine congrArg₂ _ (Finset.sum_congr rfl fun k _ => ?_) (Finset.sum_congr rfl fun k _ => ?_)
  · rw [blk0 m c _ (by dsimp only; omega), blk1]
    refine congrArg₂ _ (congrArg _ ?_) (congrArg _ (congrArg _ ?_))
    all_goals (dsimp only; congr 1 <;> (apply Fin.ext; dsimp only; omega))
  · rw [blk0 m c _ (by dsimp only; omega), blk1]
    refine congrArg₂ _ (congrArg _ ?_) (congrArg _ (congrArg _ ?_))
    all_goals (dsimp only; congr 1 <;> (apply Fin.ext; dsimp only; omega))

end Cert.Kernel4Ideal.Ffn

namespace Cert.Reference4Ideal.Ffn

open Cert.Reference4Ideal Cert.Reference4Ideal.Gen
open Idealize.ShloMosaic Idealize.ShloMosaic.TcCoe Idealize.ShloMosaic.Pointwise

/-- The reference's result, entry by entry. -/
theorem result_apply (x : Vec Ideal S4x4096x1408 .bf16) (y : Vec Ideal S4096x2048 .f32) (j : Fin 2) (s : Fin 4) (a : Fin 1408) (b : Fin 1024) :
    Read.val_main_v11 x y (ix4 j s a b) = Cert.Kernel4Ideal.Ffn.entry x y j s a b := by
  pointwise [Read.val_main_v11, Read.val_main_v10, Read.val_main_v9, Read.val_main_v8, Read.val_main_v7, Read.val_main_v6, Read.val_main_v5, Read.val_main_cst_1, Read.val_main_v0]
  rw [Cert.Kernel4Ideal.Ffn.entry]
  refine Finset.sum_congr rfl fun k _ => ?_
  rw [mul_comm]
  congr 4
  apply Fin.ext
  dsimp only
  omega

/-- The kernel's result is the reference's function of the kernel's arguments. -/
theorem result_eq (m : (ℓ : Loc Cert.Kernel4Ideal.nD Cert.Kernel4Ideal.τ Cert.Kernel4Ideal.sig) → Buf (Elt Ideal) ℓ) (c : Dev Cert.Kernel4Ideal.nD) :
    Cert.Kernel4Ideal.Value.G2 m c
      = Read.val_main_v11 (F := Ideal)
        (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg1)) := by
  funext x
  have ex := eq_ix4 x
  rw [ex]
  exact (Cert.Kernel4Ideal.Ffn.result_apply m c _ _ _ _).trans (result_apply _ _ _ _ _ _).symm

end Cert.Reference4Ideal.Ffn
-- ==== Proof.Ffn.InGrad.lean ====
/-
  The gradient of the feed-forward block's input: the kernel adds the two products of one shard of the hidden width
  after those of another, and the reference sums over all of the hidden width, for each of the two products.
-/
module

public import proofs.«01_k».proof.Proof.Gen.Kernel5Ideal.Value
public import proofs.«01_k».proof.Proof.Gen.Reference5Ideal.Read
public import proofs.«01_k».proof.Proof.Ffn.Sums

@[expose] public section

noncomputable section

namespace Cert.Kernel5Ideal.Ffn

open Cert.Kernel5Ideal Cert.Kernel5Ideal.Gen Cert.Kernel5Ideal.Value
open Cert.Ffn (hz2 hz3 off2)
open Idealize.ShloMosaic Idealize.ShloMosaic.TcCoe Idealize.ShloMosaic.Pointwise

section Body
variable {F : FTy → Type} [FloatOps F]
variable (c : Dev nD) (i : grid0.Coords) (a2 : Memref sig .tc .vmem S1x512x1408 .bf16) (h2 : a2.IsWhole)
  (a3 : Memref sig .tc .vmem S1x512x1408 .bf16) (h3 : a3.IsWhole) (a4 : Memref sig .tc .vmem S1x2048x1408 .bf16) (h4 : a4.IsWhole)
  (a5 : Memref sig .tc .vmem S1x2048x1408 .bf16) (h5 : a5.IsWhole) (a6 : Memref sig .tc .vmem S512x2048 .f32) (h6 : a6.IsWhole)
  (a7 : Memref sig .tc .vmem S512x2048 .f32) (h7 : a7.IsWhole)
  (dg du : Vec F S1x512x1408 .bf16) (wg wu : Vec F S1x2048x1408 .bf16) (z : Vec F S512x2048 .f32)

/-- What a step adds to what it finds: the gate's product, then the up projection's. -/
def step (z : Vec F S512x2048 .f32) : Vec F S512x2048 .f32 := k0_pay3 (k0_pay2 z dg wg) du wu

/-- A first step starts from zero. -/
theorem first_eq (g0 : cond0_0 i) (g1 : ¬cond0_1 i) :
    sout0_A_0 c i a2 h2 a3 h3 a4 h4 a5 h5 a6 h6 a7 h7 g0 g1 dg du wg wu = step dg du wg wu (k0_pay1 (F := F)) := by
  unfold sout0_A_0 step
  rw [View.read_writes_eq_canon _ _ _ (scover0_A_0 c i a2 h2 a3 h3 a4 h4 a5 h5 a6 h6 a7 h7 g0 g1 dg du wg wu)]
  unfold kernelRun0_A
  dsimp only
  sl_unfold_words
  rw [View.canon_cons_unit_zero (S := S512x2048) hz2]
  simp only [View.readCov_cons_unit_lit' (S := S512x2048) _ _ _ _ _ off2 off2, View.readCov_unit_zero (S := S512x2048) _ hz2, View.readAt_eq_ld, h2.read_unread, h3.read_unread, h4.read_unread, h5.read_unread, View.ld_unit_zero (S := S1x512x1408) hz3, View.ld_unit_zero (S := S1x2048x1408) hz3]

/-- A middle step starts from what the step before left. -/
theorem middle_eq (g0 : ¬cond0_0 i) (g1 : ¬cond0_1 i) :
    sout0_B_0 c i a2 h2 a3 h3 a4 h4 a5 h5 a6 h6 a7 h7 g0 g1 dg du wg wu z = step dg du wg wu z := by
  unfold sout0_B_0 step
  rw [View.read_writes_eq_canon _ _ _ (scover0_B_0 c i a2 h2 a3 h3 a4 h4 a5 h5 a6 h6 a7 h7 g0 g1 dg du wg wu z)]
  unfold kernelRun0_B
  dsimp only
  sl_unfold_words
  rw [View.canon_cons_unit_zero (S := S512x2048) hz2]
  simp only [View.readCov_cons_unit_lit' (S := S512x2048) _ _ _ _ _ off2 off2, View.readCov_unit_zero (S := S512x2048) _ hz2, View.readAt_eq_ld, h2.read_unread, h3.read_unread, h4.read_unread, h5.read_unread, h7.read_unread, View.ld_unit_zero (S := S1x512x1408) hz3, View.ld_unit_zero (S := S1x2048x1408) hz3, View.ld_unit_zero (S := S512x2048) hz2]

/-- A last step stores what it leaves. -/
theorem last_eq (g0 : ¬cond0_0 i) (g1 : cond0_1 i) :
    out0_C_4 c i a2 h2 a3 h3 a4 h4 a5 h5 a6 h6 a7 h7 g0 g1 dg du wg wu z = step dg du wg wu z := by
  unfold out0_C_4 step
  rw [View.read_writes_eq_canon _ _ _ (cover0_C_4 c i a2 h2 a3 h3 a4 h4 a5 h5 a6 h6 a7 h7 g0 g1 dg du wg wu z)]
  unfold kernelRun0_C
  dsimp only
  sl_unfold_words
  rw [View.canon_unit_zero hz2]
  simp only [View.readCov_cons_unit_lit' (S := S512x2048) _ _ _ _ _ off2 off2, View.readCov_unit_zero (S := S512x2048) _ hz2, View.readAt_eq_ld, h2.read_unread, h3.read_unread, h4.read_unread, h5.read_unread, h7.read_unread, View.ld_unit_zero (S := S1x512x1408) hz3, View.ld_unit_zero (S := S1x2048x1408) hz3, View.ld_unit_zero (S := S512x2048) hz2]
end Body

variable (m : (ℓ : Loc nD τ sig) → Buf (Elt Ideal) ℓ) (c : Dev nD)

/-- The blocks a grid point reads. -/
theorem idx0 : ∀ t : Fin grid0.N, win0_0.index t = ![t.val % 4, t.val / 4, 0] ∧ win0_1.index t = ![t.val % 4, t.val / 4, 0]
    ∧ win0_2.index t = ![t.val % 4, 0, 0] ∧ win0_3.index t = ![t.val % 4, 0, 0] := by
  decide +kernel

theorem blk0 (t : Fin cfg0.N) (ht : t.val < 32) (i : Fin 512) (f : Fin 1408) : iblk m c 0 t (ix3 0 i f) = m ((c : Thread nD τ).loc main_arg0)
    (ix3 (⟨t.val % 4, by omega⟩ : Fin 4) (⟨512 * (t.val / 4) + i.val, by omega⟩ : Fin 4096) f) := by
  blk_ext [iblk, V, (idx0 t).1]
theorem blk1 (t : Fin cfg0.N) (ht : t.val < 32) (i : Fin 512) (f : Fin 1408) : iblk m c 1 t (ix3 0 i f) = m ((c : Thread nD τ).loc main_arg1)
    (ix3 (⟨t.val % 4, by omega⟩ : Fin 4) (⟨512 * (t.val / 4) + i.val, by omega⟩ : Fin 4096) f) := by
  blk_ext [iblk, V, (idx0 t).2.1]
theorem blk2 (t : Fin cfg0.N) (d : Fin 2048) (f : Fin 1408) : iblk m c 2 t (ix3 0 d f) = m ((c : Thread nD τ).loc main_arg2)
    (ix3 (⟨t.val % 4, by omega⟩ : Fin 4) d f) := by
  blk_ext [iblk, V, (idx0 t).2.2.1]
theorem blk3 (t : Fin cfg0.N) (d : Fin 2048) (f : Fin 1408) : iblk m c 3 t (ix3 0 d f) = m ((c : Thread nD τ).loc main_arg3)
    (ix3 (⟨t.val % 4, by omega⟩ : Fin 4) d f) := by
  blk_ext [iblk, V, (idx0 t).2.2.2]

/-- A step, entry by entry. -/
theorem step_apply (dg du : Vec Ideal S1x512x1408 .bf16) (wg wu : Vec Ideal S1x2048x1408 .bf16) (z : Vec Ideal S512x2048 .f32) (i : Fin 512) (d : Fin 2048) :
    step dg du wg wu z (ix2 i d) = z (ix2 i d) + ∑ f : Fin 1408, dg (ix3 0 i f) * wg (ix3 0 d f) + ∑ f : Fin 1408, du (ix3 0 i f) * wu (ix3 0 d f) := by
  pointwise [step, k0_pay3, k0_pay2]

theorem zero_apply (i : Fin 512) (d : Fin 2048) : k0_pay1 (F := Ideal) (ix2 i d) = 0 := by
  pointwise [k0_pay1]

/-- The sum the result's entry holds, of one of the two products. -/
abbrev entry (y : Vec Ideal S4x4096x1408 .bf16) (w : Vec Ideal S4x2048x1408 .bf16) (t : Fin 4096) (d : Fin 2048) : EReal :=
  ∑ s : Fin 4, ∑ f : Fin 1408, y (ix3 s t f) * w (ix3 s d f)

/-- The step of a grid point. -/
abbrev stepAt (t : Fin cfg0.N) (z : Vec Ideal S512x2048 .f32) : Vec Ideal S512x2048 .f32 :=
  step (iblk m c 0 t) (iblk m c 1 t) (iblk m c 2 t) (iblk m c 3 t) z

/-- The products a shard adds. -/
abbrev part (y : Vec Ideal S4x4096x1408 .bf16) (w : Vec Ideal S4x2048x1408 .bf16) (t : Fin 4096) (d : Fin 2048) (s : Fin 4) : EReal :=
  ∑ f : Fin 1408, y (ix3 s t f) * w (ix3 s d f)

theorem stepAt_apply (p : Fin 8) (s : Fin 4) (h : 4 * p.val + s.val < cfg0.N) (z : Vec Ideal S512x2048 .f32) (i : Fin 512) (d : Fin 2048) :
    stepAt m c ⟨4 * p.val + s.val, h⟩ z (ix2 i d) = z (ix2 i d)
      + part (m ((c : Thread nD τ).loc main_arg0)) (m ((c : Thread nD τ).loc main_arg2)) ⟨512 * p.val + i.val, by omega⟩ d s
      + part (m ((c : Thread nD τ).loc main_arg1)) (m ((c : Thread nD τ).loc main_arg3)) ⟨512 * p.val + i.val, by omega⟩ d s := by
  have hN : cfg0.N = 32 := N_0
  have e1 : (⟨(4 * p.val + s.val) % 4, by omega⟩ : Fin 4) = s := Fin.ext (by dsimp only; omega)
  have e2 : (⟨512 * ((4 * p.val + s.val) / 4) + i.val, by omega⟩ : Fin 4096) = ⟨512 * p.val + i.val, by omega⟩ := Fin.ext (by dsimp only; omega)
  rw [stepAt, step_apply]
  refine congrArg₂ _ (congrArg _ (Finset.sum_congr rfl fun f _ => ?_)) (Finset.sum_congr rfl fun f _ => ?_)
  · rw [blk0 m c _ (by dsimp only; omega), blk2]
    dsimp only
    rw [e1, e2]
  · rw [blk1 m c _ (by dsimp only; omega), blk3]
    dsimp only
    rw [e1, e2]

/-- What the kernel leaves in the result. -/
theorem result_apply (t : Fin 4096) (d : Fin 2048) :
    G4 m c (ix2 t d) = entry (m ((c : Thread nD τ).loc main_arg1)) (m ((c : Thread nD τ).loc main_arg3)) t d
      + entry (m ((c : Thread nD τ).loc main_arg0)) (m ((c : Thread nD τ).loc main_arg2)) t d := by
  have hN : cfg0.N = 32 := N_0
  obtain ⟨p, i, rfl⟩ : ∃ (p : Fin 8) (i : Fin 512), t = ⟨512 * p.val + i.val, by omega⟩ :=
    ⟨⟨t.val / 512, by omega⟩, ⟨t.val % 512, by omega⟩, Fin.ext (Nat.div_add_mod _ _).symm⟩
  have hp : pt4Of (ix2 (⟨512 * p.val + i.val, by omega⟩ : Fin 4096) d) = 4 * p.val + 3 := by
    show 4 * (1 * ((512 * p.val + i.val) / 512 - 0) + 1 * (d.val / 2048 - 0)) + 3 = _
    omega
  have hl : loc4Of (ix2 (⟨512 * p.val + i.val, by omega⟩ : Fin 4096) d) = ix2 i d := by
    funext q
    apply Fin.ext
    match q with
    | ⟨0, _⟩ => show (512 * p.val + i.val) % 512 = i.val; omega
    | ⟨1, _⟩ => exact Nat.mod_eq_of_lt d.isLt
  have hlt : 4 * p.val + 3 < cfg0.N := by omega
  unfold G4
  rw [dif_pos (hp ▸ hlt), hl, fold0_congr m c _ _ (4 * p.val + 3) (by omega) hp, ← outsAt0_sweep m c _ hlt,
    outsAt0_C m c ⟨_, hlt⟩ (by dsimp only; omega) (by dsimp only; omega)]
  dsimp only
  rw [last_eq, outsAt0_B m c ⟨4 * p.val + 3 - 1, by omega⟩ (by dsimp only; omega) (by dsimp only; omega)]
  dsimp only
  rw [middle_eq, outsAt0_B m c ⟨4 * p.val + 3 - 1 - 1, by omega⟩ (by dsimp only; omega) (by dsimp only; omega)]
  dsimp only
  rw [middle_eq, outsAt0_A m c ⟨4 * p.val + 3 - 1 - 1 - 1, by omega⟩ (by dsimp only; omega) (by dsimp only; omega)]
  dsimp only
  rw [first_eq]
  have s3 := stepAt_apply m c p 3 hlt
  have s2 := stepAt_apply m c p 2 (by show 4 * p.val + 2 < _; omega)
  have s1 := stepAt_apply m c p 1 (by show 4 * p.val + 1 < _; omega)
  have s0 := stepAt_apply m c p 0 (by show 4 * p.val + 0 < _; omega)
  refine (s3 _ i d).trans ?_
  rw [show ∀ z, step (iblk m c 0 ⟨4 * p.val + 3 - 1, _⟩) (iblk m c 1 ⟨4 * p.val + 3 - 1, _⟩) (iblk m c 2 ⟨4 * p.val + 3 - 1, _⟩) (iblk m c 3 ⟨4 * p.val + 3 - 1, _⟩) z (ix2 i d) = _ from fun z => s2 z i d,
    show ∀ z, step (iblk m c 0 ⟨4 * p.val + 3 - 1 - 1, _⟩) (iblk m c 1 ⟨4 * p.val + 3 - 1 - 1, _⟩) (iblk m c 2 ⟨4 * p.val + 3 - 1 - 1, _⟩) (iblk m c 3 ⟨4 * p.val + 3 - 1 - 1, _⟩) z (ix2 i d) = _ from fun z => s1 z i d,
    show ∀ z, step (iblk m c 0 ⟨4 * p.val + 3 - 1 - 1 - 1, _⟩) (iblk m c 1 ⟨4 * p.val + 3 - 1 - 1 - 1, _⟩) (iblk m c 2 ⟨4 * p.val + 3 - 1 - 1 - 1, _⟩) (iblk m c 3 ⟨4 * p.val + 3 - 1 - 1 - 1, _⟩) z (ix2 i d) = _ from fun z => s0 z i d,
    zero_apply, entry, entry, Fin.sum_univ_four, Fin.sum_univ_four]
  abel

end Cert.Kernel5Ideal.Ffn

namespace Cert.Reference5Ideal.Ffn

open Cert.Reference5Ideal Cert.Reference5Ideal.Gen
open Idealize.ShloMosaic Idealize.ShloMosaic.TcCoe Idealize.ShloMosaic.Pointwise

/-- The reference's result, entry by entry. -/
theorem result_apply (dg du : Vec Ideal S4x4096x1408 .bf16) (wg wu : Vec Ideal S4x2048x1408 .bf16) (t : Fin 4096) (d : Fin 2048) :
    Read.val_main_v13 dg du wg wu (ix2 t d) = Cert.Kernel5Ideal.Ffn.entry du wu t d + Cert.Kernel5Ideal.Ffn.entry dg wg t d := by
  pointwise [Read.val_main_v13, Read.val_main_v12, Read.val_main_v11, Read.val_main_v10, Read.val_main_v9, Read.val_main_v3, Read.val_main_v2, Read.val_main_v1, Read.val_main_v0]

/-- The kernel's result is the reference's function of the kernel's arguments. -/
theorem result_eq (m : (ℓ : Loc Cert.Kernel5Ideal.nD Cert.Kernel5Ideal.τ Cert.Kernel5Ideal.sig) → Buf (Elt Ideal) ℓ) (c : Dev Cert.Kernel5Ideal.nD) :
    Cert.Kernel5Ideal.Value.G4 m c
      = Read.val_main_v13 (F := Ideal)
        (m ((c.tc : Thread Cert.Kernel5Ideal.nD Cert.Kernel5Ideal.τ).loc Cert.Kernel5Ideal.main_arg0))
        (m ((c.tc : Thread Cert.Kernel5Ideal.nD Cert.Kernel5Ideal.τ).loc Cert.Kernel5Ideal.main_arg1))
        (m ((c.tc : Thread Cert.Kernel5Ideal.nD Cert.Kernel5Ideal.τ).loc Cert.Kernel5Ideal.main_arg2))
        (m ((c.tc : Thread Cert.Kernel5Ideal.nD Cert.Kernel5Ideal.τ).loc Cert.Kernel5Ideal.main_arg3)) := by
  funext x
  have ex := eq_ix2 x
  rw [ex]
  exact (Cert.Kernel5Ideal.Ffn.result_apply m c _ _).trans (result_apply _ _ _ _ _ _).symm

end Cert.Reference5Ideal.Ffn
-- ==== Proof.Ffn.ActGrad.lean ====
/-
  The gradient of a gated feed-forward half's activation, one shard of the hidden width after another. A grid point takes
  the product of a block of the halved output gradient with a shard of the down weights, in two parts of the shard's
  columns, and stores from it the gradients of the gate and of the up projection. The kernel writes the derivative of
  the gate as σ·(1 + g·(1 − σ)), the reference sums its two terms: the two agree where the product is finite, which is
  what the precondition gives.
-/
module

public import proofs.«01_k».proof.Proof.Gen.Kernel2Ideal.Value
public import proofs.«01_k».proof.Proof.Gen.Reference2Ideal.Read
public import proofs.«01_k».proof.Pre_finite2
public import Idealize.ShloMosaic.Lib.ReduceAll
public import proofs.«01_k».proof.Proof.Ffn.Sums

@[expose] public section

noncomputable section

namespace Cert.Kernel2Ideal.Ffn

open Cert.Kernel2Ideal Cert.Kernel2Ideal.Gen Cert.Kernel2Ideal.Value
open Cert.Ffn (hz2 hz3)
open Idealize.ShloMosaic Idealize.ShloMosaic.TcCoe Idealize.ShloMosaic.Pointwise

/-- The logistic function. -/
abbrev sgm (x : EReal) : EReal := Ideal.div 1 (1 + Ideal.exp (-x))

/-- The factor of the half step, as it is written. -/
abbrev half : EReal := Ideal.ofBits .f32 0x3F000000#32

/-- The up projection's gradient from the product and the gate. -/
abbrev upG (p g : EReal) : EReal := p * (g * sgm g)
/-- The gate's gradient from the product, the gate and the up projection. -/
abbrev gateG (p g u : EReal) : EReal := p * u * (sgm g * (1 + g * (1 - sgm g)))

section Parts
/-- The columns a store of the first part covers. -/
theorem emb_lo (inb) (i : Fin 512) (f : Fin 768) : (Rect.unit (s := S1x512x1408) ![0, 0, 0] ![1, 512, 768] inb).emb (ix3 (0 : Fin 1) i f)
    = ix3 0 i (⟨f.val, by omega⟩ : Fin 1408) := by
  funext a
  apply Fin.ext
  match a with
  | ⟨0, _⟩ => rfl
  | ⟨1, _⟩ => show 0 + 1 * i.val = i.val; omega
  | ⟨2, _⟩ => show 0 + 1 * f.val = f.val; omega
/-- The columns a store of the second part covers. -/
theorem emb_hi (inb) (i : Fin 512) (f : Fin 640) : (Rect.unit (s := S1x512x1408) ![0, 0, 768] ![1, 512, 640] inb).emb (ix3 (0 : Fin 1) i f)
    = ix3 0 i (⟨768 + f.val, by omega⟩ : Fin 1408) := by
  funext a
  apply Fin.ext
  match a with
  | ⟨0, _⟩ => rfl
  | ⟨1, _⟩ => show 0 + 1 * i.val = i.val; omega
  | ⟨2, _⟩ => show 768 + 1 * f.val = 768 + f.val; omega
/-- The columns a load of the first part reads. -/
theorem col_lo (v : Vec Ideal S1x512x1408 .bf16) (inb) (i : Fin 512) (f : Fin 768) :
    View.ld v (Rect.unit (s := S1x512x1408) ![0, 0, 0] ![1, 512, 768] inb) (ix3 (0 : Fin 1) i f) = v (ix3 0 i (⟨f.val, by omega⟩ : Fin 1408)) :=
  congrArg v (emb_lo inb i f)
/-- The columns a load of the second part reads. -/
theorem col_hi (v : Vec Ideal S1x512x1408 .bf16) (inb) (i : Fin 512) (f : Fin 640) :
    View.ld v (Rect.unit (s := S1x512x1408) ![0, 0, 768] ![1, 512, 640] inb) (ix3 (0 : Fin 1) i f) = v (ix3 0 i (⟨768 + f.val, by omega⟩ : Fin 1408)) :=
  congrArg v (emb_hi inb i f)
/-- The rows of the weights a load of the first part reads. -/
theorem row_lo (w : Vec Ideal S1x1408x2048 .bf16) (inb) (f : Fin 768) (k : Fin 2048) :
    View.ld w (Rect.unit (s := S1x1408x2048) ![0, 0, 0] ![1, 768, 2048] inb) (ix3 (0 : Fin 1) f k) = w (ix3 0 (⟨f.val, by omega⟩ : Fin 1408) k) := by
  refine congrArg w (funext fun a => Fin.ext ?_)
  match a with
  | ⟨0, _⟩ => rfl
  | ⟨1, _⟩ => show 0 + 1 * f.val = f.val; omega
  | ⟨2, _⟩ => show 0 + 1 * k.val = k.val; omega
/-- The rows of the weights a load of the second part reads. -/
theorem row_hi (w : Vec Ideal S1x1408x2048 .bf16) (inb) (f : Fin 640) (k : Fin 2048) :
    View.ld w (Rect.unit (s := S1x1408x2048) ![0, 768, 0] ![1, 640, 2048] inb) (ix3 (0 : Fin 1) f k) = w (ix3 0 (⟨768 + f.val, by omega⟩ : Fin 1408) k) := by
  refine congrArg w (funext fun a => Fin.ext ?_)
  match a with
  | ⟨0, _⟩ => rfl
  | ⟨1, _⟩ => show 768 + 1 * f.val = 768 + f.val; omega
  | ⟨2, _⟩ => show 0 + 1 * k.val = k.val; omega

/-- An index of the first part. -/
theorem idx_lo (x : S1x512x768.Idx) : ∃ (i : Fin 512) (f : Fin 768), x = ix3 (0 : Fin 1) i f :=
  ⟨x 1, x 2, (eq_ix3 x).trans (congrArg (fun z => ix3 z (x 1) (x 2)) (Fin.ext (by have := (x 0).isLt; have h : (x 0).val < 1 := this; show (x 0).val = 0; omega)))⟩
/-- An index of the second part. -/
theorem idx_hi (x : S1x512x640.Idx) : ∃ (i : Fin 512) (f : Fin 640), x = ix3 (0 : Fin 1) i f :=
  ⟨x 1, x 2, (eq_ix3 x).trans (congrArg (fun z => ix3 z (x 1) (x 2)) (Fin.ext (by have := (x 0).isLt; have h : (x 0).val < 1 := this; show (x 0).val = 0; omega)))⟩
end Parts

section Pays
variable (h : Vec Ideal S512x2048 .f32) (i : Fin 512)

theorem up_lo_apply (v : Vec Ideal S1x768x2048 .bf16) (g : Vec Ideal S1x512x768 .bf16) (f : Fin 768) : k0_pay6 h v g (ix3 0 i f)
    = upG (∑ k : Fin 2048, half * h (ix2 i k) * v (ix3 0 f k)) (g (ix3 0 i f)) := by
  pointwise [k0_pay6, k0_pay5, k0_pay4, k0_pay3, k0_pay2]
  rw [zero_sub]
theorem up_hi_apply (v : Vec Ideal S1x640x2048 .bf16) (g : Vec Ideal S1x512x640 .bf16) (f : Fin 640) : k0_pay12 (k0_pay2 h) v g (ix3 0 i f)
    = upG (∑ k : Fin 2048, half * h (ix2 i k) * v (ix3 0 f k)) (g (ix3 0 i f)) := by
  pointwise [k0_pay12, k0_pay11, k0_pay10, k0_pay9, k0_pay2]
  rw [zero_sub]
theorem gate_lo_apply (v : Vec Ideal S1x768x2048 .bf16) (g u : Vec Ideal S1x512x768 .bf16) (f : Fin 768) : k0_pay8 (k0_pay7 h v g u) (ix3 0 i f)
    = gateG (∑ k : Fin 2048, half * h (ix2 i k) * v (ix3 0 f k)) (g (ix3 0 i f)) (u (ix3 0 i f)) := by
  pointwise [k0_pay8, k0_pay7, k0_pay5, k0_pay4, k0_pay3, k0_pay2]
  rw [zero_sub]
theorem gate_hi_apply (v : Vec Ideal S1x640x2048 .bf16) (g u : Vec Ideal S1x512x640 .bf16) (f : Fin 640) :
    k0_pay1 (k0_pay13 (k0_pay2 h) v g u) (ix3 0 i f)
      = gateG (∑ k : Fin 2048, half * h (ix2 i k) * v (ix3 0 f k)) (g (ix3 0 i f)) (u (ix3 0 i f)) := by
  pointwise [k0_pay1, k0_pay13, k0_pay11, k0_pay10, k0_pay9, k0_pay2]
  rw [zero_sub]
end Pays

/-- A block of the product, entry by entry. -/
abbrev prodB (h : Vec Ideal S512x2048 .f32) (w : Vec Ideal S1x1408x2048 .bf16) : S1x512x1408.Idx → EReal := fun y =>
  ∑ k : Fin 2048, half * h (ix2 (y 1) k) * w (ix3 0 (y 2) k)

theorem sum_lo (h : Vec Ideal S512x2048 .f32) (w : Vec Ideal S1x1408x2048 .bf16) (inb) (i : Fin 512) (f : Fin 768) :
    ∑ k : Fin 2048, half * h (ix2 i k) * View.ld w (Rect.unit (s := S1x1408x2048) ![0, 0, 0] ![1, 768, 2048] inb) (ix3 (0 : Fin 1) f k)
      = prodB h w (ix3 0 i (⟨f.val, by omega⟩ : Fin 1408)) :=
  Finset.sum_congr rfl fun k _ => congrArg (fun x : EReal => half * (h (ix2 i k) : EReal) * x) (row_lo w inb f k)
theorem sum_hi (h : Vec Ideal S512x2048 .f32) (w : Vec Ideal S1x1408x2048 .bf16) (inb) (i : Fin 512) (f : Fin 640) :
    ∑ k : Fin 2048, half * h (ix2 i k) * View.ld w (Rect.unit (s := S1x1408x2048) ![0, 768, 0] ![1, 640, 2048] inb) (ix3 (0 : Fin 1) f k)
      = prodB h w (ix3 0 i (⟨768 + f.val, by omega⟩ : Fin 1408)) :=
  Finset.sum_congr rfl fun k _ => congrArg (fun x : EReal => half * (h (ix2 i k) : EReal) * x) (row_hi w inb f k)

/-- Equal arguments give equal gradients. -/
theorem upG_congr {p p' g g' : EReal} (hp : p = p') (hg : g = g') : upG p g = upG p' g' := by rw [hp, hg]
theorem gateG_congr {p p' g g' u u' : EReal} (hp : p = p') (hg : g = g') (hu : u = u') : gateG p g u = gateG p' g' u' := by rw [hp, hg, hu]

section Body
variable (c : Dev nD) (i : grid0.Coords) (a2 : Memref sig .tc .vmem S512x2048 .f32) (h2 : a2.IsWhole)
  (a3 : Memref sig .tc .vmem S1x1408x2048 .bf16) (h3 : a3.IsWhole) (a4 : Memref sig .tc .vmem S1x512x1408 .bf16) (h4 : a4.IsWhole)
  (a5 : Memref sig .tc .vmem S1x512x1408 .bf16) (h5 : a5.IsWhole) (a6 : Memref sig .tc .vmem S1x512x1408 .bf16) (h6 : a6.IsWhole)
  (a7 : Memref sig .tc .vmem S1x512x1408 .bf16) (h7 : a7.IsWhole)
  (h : Vec Ideal S512x2048 .f32) (w : Vec Ideal S1x1408x2048 .bf16) (g u : Vec Ideal S1x512x1408 .bf16)

/-- What a grid point stores of the gate's gradient. -/
theorem gate_eq : out0_A_4 c i a2 h2 a3 h3 a4 h4 a5 h5 a6 h6 a7 h7 h w g u = fun y => gateG (prodB h w y) (g y) (u y) := by
  unfold out0_A_4
  rw [View.read_writes_eq_canon _ _ _ (cover0_A_4 c i a2 h2 a3 h3 a4 h4 a5 h5 a6 h6 a7 h7 h w g u)]
  funext y
  refine View.canon_apply_of_pieces (fun y => gateG (prodB h w y) (g y) (u y)) _ ?_ y (cover0_A_4 c i a2 h2 a3 h3 a4 h4 a5 h5 a6 h6 a7 h7 h w g u y)
  unfold kernelRun0_A
  dsimp only
  sl_unfold_words
  simp only [View.readAt_eq_ld, h2.read_unread, h3.read_unread, h4.read_unread, h5.read_unread, View.ld_unit_zero (S := S512x2048) hz2]
  intro pc hpc
  rcases List.mem_cons.mp hpc with rfl | hpc
  · intro x
    obtain ⟨i, f, rfl⟩ := idx_hi x
    dsimp only
    rw [emb_hi]
    exact (gate_hi_apply _ _ _ _ _ _).trans (gateG_congr (sum_hi _ _ _ _ _) (col_hi _ _ _ _) (col_hi _ _ _ _))
  rcases List.mem_cons.mp hpc with rfl | hpc
  · intro x
    obtain ⟨i, f, rfl⟩ := idx_lo x
    dsimp only
    rw [emb_lo]
    exact (gate_lo_apply _ _ _ _ _ _).trans (gateG_congr (sum_lo _ _ _ _ _) (col_lo _ _ _ _) (col_lo _ _ _ _))
  nomatch hpc

/-- What a grid point stores of the up projection's gradient. -/
theorem up_eq : out0_A_5 c i a2 h2 a3 h3 a4 h4 a5 h5 a6 h6 a7 h7 h w g u = fun y => upG (prodB h w y) (g y) := by
  unfold out0_A_5
  rw [View.read_writes_eq_canon _ _ _ (cover0_A_5 c i a2 h2 a3 h3 a4 h4 a5 h5 a6 h6 a7 h7 h w g u)]
  funext y
  refine View.canon_apply_of_pieces (fun y => upG (prodB h w y) (g y)) _ ?_ y (cover0_A_5 c i a2 h2 a3 h3 a4 h4 a5 h5 a6 h6 a7 h7 h w g u y)
  unfold kernelRun0_A
  dsimp only
  sl_unfold_words
  simp only [View.readAt_eq_ld, h2.read_unread, h3.read_unread, h4.read_unread, h5.read_unread, View.ld_unit_zero (S := S512x2048) hz2]
  intro pc hpc
  rcases List.mem_cons.mp hpc with rfl | hpc
  · intro x
    obtain ⟨i, f, rfl⟩ := idx_hi x
    dsimp only
    rw [emb_hi]
    exact (up_hi_apply _ _ _ _ _).trans (upG_congr (sum_hi _ _ _ _ _) (col_hi _ _ _ _))
  rcases List.mem_cons.mp hpc with rfl | hpc
  · intro x
    obtain ⟨i, f, rfl⟩ := idx_lo x
    dsimp only
    rw [emb_lo]
    exact (up_lo_apply _ _ _ _ _).trans (upG_congr (sum_lo _ _ _ _ _) (col_lo _ _ _ _))
  nomatch hpc

end Body

variable (m : (ℓ : Loc nD τ sig) → Buf (Elt Ideal) ℓ) (c : Dev nD)

/-- The blocks a grid point reads and writes. -/
theorem idx0 : ∀ t : Fin grid0.N, win0_0.index t = ![t.val % 8, 0] ∧ win0_1.index t = ![t.val / 8, 0, 0]
    ∧ win0_2.index t = ![t.val / 8, t.val % 8, 0] ∧ win0_3.index t = ![t.val / 8, t.val % 8, 0] ∧ win0_4.index t = ![t.val / 8, t.val % 8, 0] ∧ win0_5.index t = ![t.val / 8, t.val % 8, 0] := by
  decide +kernel

theorem blk0 (t : Fin cfg0.N) (i : Fin 512) (k : Fin 2048) : iblk m c 0 t (ix2 i k) = m ((c : Thread nD τ).loc main_arg0)
    (ix2 (⟨512 * (t.val % 8) + i.val, by omega⟩ : Fin 4096) k) := by
  blk_ext [iblk, V, (idx0 t).1]
theorem blk1 (t : Fin cfg0.N) (ht : t.val < 32) (f : Fin 1408) (k : Fin 2048) : iblk m c 1 t (ix3 0 f k) = m ((c : Thread nD τ).loc main_arg1)
    (ix3 (⟨t.val / 8, by omega⟩ : Fin 4) f k) := by
  blk_ext [iblk, V, (idx0 t).2.1]
theorem blk2 (t : Fin cfg0.N) (ht : t.val < 32) (i : Fin 512) (f : Fin 1408) : iblk m c 2 t (ix3 0 i f) = m ((c : Thread nD τ).loc main_arg2)
    (ix3 (⟨t.val / 8, by omega⟩ : Fin 4) (⟨512 * (t.val % 8) + i.val, by omega⟩ : Fin 4096) f) := by
  blk_ext [iblk, V, (idx0 t).2.2.1]
theorem blk3 (t : Fin cfg0.N) (ht : t.val < 32) (i : Fin 512) (f : Fin 1408) : iblk m c 3 t (ix3 0 i f) = m ((c : Thread nD τ).loc main_arg3)
    (ix3 (⟨t.val / 8, by omega⟩ : Fin 4) (⟨512 * (t.val % 8) + i.val, by omega⟩ : Fin 4096) f) := by
  blk_ext [iblk, V, (idx0 t).2.2.2.1]

theorem emb4 (t : Fin cfg0.N) (ht : t.val < 32) (i : Fin 512) (f : Fin 1408) : ((cfg0.win 4).blk t).view.emb (ix3 (0 : Fin 1) i f)
    = ix3 (⟨t.val / 8, by omega⟩ : Fin 4) (⟨512 * (t.val % 8) + i.val, by omega⟩ : Fin 4096) f := by
  have e := (idx0 t).2.2.2.2.1
  funext a
  apply Fin.ext
  match a with
  | ⟨0, _⟩ => show win0_4.index t (0 : Fin 3) * 1 + 1 * 0 = t.val / 8; rw [e]; show t.val / 8 * 1 + 1 * 0 = _; omega
  | ⟨1, _⟩ => show win0_4.index t (1 : Fin 3) * 512 + 1 * i.val = 512 * (t.val % 8) + i.val; rw [e]; show t.val % 8 * 512 + 1 * i.val = _; omega
  | ⟨2, _⟩ => show win0_4.index t (2 : Fin 3) * 1408 + 1 * f.val = f.val; rw [e]; show 0 * 1408 + 1 * f.val = _; omega

theorem emb5 (t : Fin cfg0.N) (ht : t.val < 32) (i : Fin 512) (f : Fin 1408) : ((cfg0.win 5).blk t).view.emb (ix3 (0 : Fin 1) i f)
    = ix3 (⟨t.val / 8, by omega⟩ : Fin 4) (⟨512 * (t.val % 8) + i.val, by omega⟩ : Fin 4096) f := by
  have e := (idx0 t).2.2.2.2.2
  funext a
  apply Fin.ext
  match a with
  | ⟨0, _⟩ => show win0_5.index t (0 : Fin 3) * 1 + 1 * 0 = t.val / 8; rw [e]; show t.val / 8 * 1 + 1 * 0 = _; omega
  | ⟨1, _⟩ => show win0_5.index t (1 : Fin 3) * 512 + 1 * i.val = 512 * (t.val % 8) + i.val; rw [e]; show t.val % 8 * 512 + 1 * i.val = _; omega
  | ⟨2, _⟩ => show win0_5.index t (2 : Fin 3) * 1408 + 1 * f.val = f.val; rw [e]; show 0 * 1408 + 1 * f.val = _; omega

/-- An entry of the product of the halved output gradient with the down weights. -/
abbrev entry (h : Vec Ideal S4096x2048 .f32) (w : Vec Ideal S4x1408x2048 .bf16) (s : Fin 4) (t : Fin 4096) (f : Fin 1408) : EReal :=
  ∑ k : Fin 2048, half * h (ix2 t k) * w (ix3 s f k)

/-- Equal rows and shards give equal terms. -/
theorem term_congr (h : Vec Ideal S4096x2048 .f32) (w : Vec Ideal S4x1408x2048 .bf16) (k : Fin 2048) (f : Fin 1408) {t t' : Fin 4096} {s s' : Fin 4}
    (ht : t = t') (hs : s = s') : half * h (ix2 t k) * w (ix3 s f k) = half * h (ix2 t' k) * w (ix3 s' f k) := by
  rw [ht, hs]
theorem at_congr (v : Vec Ideal S4x4096x1408 .bf16) (f : Fin 1408) {t t' : Fin 4096} {s s' : Fin 4}
    (ht : t = t') (hs : s = s') : v (ix3 s t f) = v (ix3 s' t' f) := by
  rw [ht, hs]

/-- A point's block of the product. -/
theorem prod_at (p : Fin cfg0.N) (i : Fin 512) (f : Fin 1408) (s : Fin 4) {t : Fin 4096} (hp : p.val < 32)
    (ht : (⟨512 * (p.val % 8) + i.val, by omega⟩ : Fin 4096) = t) (hs : (⟨p.val / 8, by omega⟩ : Fin 4) = s) :
    prodB (iblk m c 0 p) (iblk m c 1 p) (ix3 0 i f) = entry (m ((c : Thread nD τ).loc main_arg0)) (m ((c : Thread nD τ).loc main_arg1)) s t f := by
  refine Finset.sum_congr rfl fun k _ => ?_
  refine (congrArg₂ (fun x y : EReal => half * x * y) (blk0 m c p i k) (blk1 m c _ hp f k)).trans ?_
  exact term_congr _ _ k f ht hs

/-- What the kernel leaves in the gate's gradient. -/
theorem gate_result (s : Fin 4) (t : Fin 4096) (f : Fin 1408) :
    (dats m 0 c).arrAt 4 cfg0.N (ix3 s t f) = gateG (entry (m ((c : Thread nD τ).loc main_arg0)) (m ((c : Thread nD τ).loc main_arg1)) s t f)
      (m ((c : Thread nD τ).loc main_arg2) (ix3 s t f)) (m ((c : Thread nD τ).loc main_arg3) (ix3 s t f)) := by
  have hN : cfg0.N = 32 := N_0
  have hs : (⟨8 * s.val + t.val / 512, by omega⟩ : Fin cfg0.N).val / 8 = s.val := by dsimp only; omega
  have ht : 512 * ((⟨8 * s.val + t.val / 512, by omega⟩ : Fin cfg0.N).val % 8) + t.val % 512 = t.val := by dsimp only; omega
  have h := (dats m 0 c).arrAt_emb_eq_flushed 4 disjoint4 ⟨8 * s.val + t.val / 512, by omega⟩ (flush0_4 _)
    (ix3 (0 : Fin 1) (⟨t.val % 512, by omega⟩ : Fin 512) f)
  rw [emb4 _ (by dsimp only; omega), flushed4_A, gate_eq] at h
  have e0 : (ix3 (⟨(⟨8 * s.val + t.val / 512, by omega⟩ : Fin cfg0.N).val / 8, by omega⟩ : Fin 4)
      (⟨512 * ((⟨8 * s.val + t.val / 512, by omega⟩ : Fin cfg0.N).val % 8) + t.val % 512, by omega⟩ : Fin 4096) f : S4x4096x1408.Idx) = ix3 s t f := by
    rw [show (⟨(⟨8 * s.val + t.val / 512, by omega⟩ : Fin cfg0.N).val / 8, by omega⟩ : Fin 4) = s from Fin.ext hs,
      show (⟨512 * ((⟨8 * s.val + t.val / 512, by omega⟩ : Fin cfg0.N).val % 8) + t.val % 512, by omega⟩ : Fin 4096) = t from Fin.ext ht]
  refine (congrArg ((dats m 0 c).arrAt 4 cfg0.N) e0).symm.trans (h.trans ?_)
  show gateG (prodB (iblk m c 0 _) (iblk m c 1 _) (ix3 0 _ f)) (iblk m c 2 _ (ix3 0 _ f)) (iblk m c 3 _ (ix3 0 _ f)) = _
  exact gateG_congr (prod_at m c _ _ _ _ (by dsimp only; omega) (Fin.ext ht) (Fin.ext hs))
    ((blk2 m c _ (by dsimp only; omega) _ _).trans (at_congr _ _ (Fin.ext ht) (Fin.ext hs)))
    ((blk3 m c _ (by dsimp only; omega) _ _).trans (at_congr _ _ (Fin.ext ht) (Fin.ext hs)))

/-- What the kernel leaves in the up projection's gradient. -/
theorem up_result (s : Fin 4) (t : Fin 4096) (f : Fin 1408) :
    (dats m 0 c).arrAt 5 cfg0.N (ix3 s t f) = upG (entry (m ((c : Thread nD τ).loc main_arg0)) (m ((c : Thread nD τ).loc main_arg1)) s t f)
      (m ((c : Thread nD τ).loc main_arg2) (ix3 s t f)) := by
  have hN : cfg0.N = 32 := N_0
  have hs : (⟨8 * s.val + t.val / 512, by omega⟩ : Fin cfg0.N).val / 8 = s.val := by dsimp only; omega
  have ht : 512 * ((⟨8 * s.val + t.val / 512, by omega⟩ : Fin cfg0.N).val % 8) + t.val % 512 = t.val := by dsimp only; omega
  have h := (dats m 0 c).arrAt_emb_eq_flushed 5 disjoint5 ⟨8 * s.val + t.val / 512, by omega⟩ (flush0_5 _)
    (ix3 (0 : Fin 1) (⟨t.val % 512, by omega⟩ : Fin 512) f)
  rw [emb5 _ (by dsimp only; omega), flushed5_A, up_eq] at h
  have e0 : (ix3 (⟨(⟨8 * s.val + t.val / 512, by omega⟩ : Fin cfg0.N).val / 8, by omega⟩ : Fin 4)
      (⟨512 * ((⟨8 * s.val + t.val / 512, by omega⟩ : Fin cfg0.N).val % 8) + t.val % 512, by omega⟩ : Fin 4096) f : S4x4096x1408.Idx) = ix3 s t f := by
    rw [show (⟨(⟨8 * s.val + t.val / 512, by omega⟩ : Fin cfg0.N).val / 8, by omega⟩ : Fin 4) = s from Fin.ext hs,
      show (⟨512 * ((⟨8 * s.val + t.val / 512, by omega⟩ : Fin cfg0.N).val % 8) + t.val % 512, by omega⟩ : Fin 4096) = t from Fin.ext ht]
  refine (congrArg ((dats m 0 c).arrAt 5 cfg0.N) e0).symm.trans (h.trans ?_)
  show upG (prodB (iblk m c 0 _) (iblk m c 1 _) (ix3 0 _ f)) (iblk m c 2 _ (ix3 0 _ f)) = _
  exact upG_congr (prod_at m c _ _ _ _ (by dsimp only; omega) (Fin.ext ht) (Fin.ext hs))
    ((blk2 m c _ (by dsimp only; omega) _ _).trans (at_congr _ _ (Fin.ext ht) (Fin.ext hs)))

end Cert.Kernel2Ideal.Ffn

namespace Cert.Reference2Ideal.Ffn

open Cert.Reference2Ideal Cert.Reference2Ideal.Gen
open Cert.Kernel2Ideal.Ffn (entry upG gateG sgm half)
open Idealize.ShloMosaic Idealize.ShloMosaic.TcCoe Idealize.ShloMosaic.Pointwise

/-- The reference's gradient of the up projection, entry by entry. -/
theorem up_result (x0 : Vec Ideal S4096x2048 .f32) (x1 : Vec Ideal S4x1408x2048 .bf16) (x2 : Vec Ideal S4x4096x1408 .bf16)
    (s : Fin 4) (t : Fin 4096) (f : Fin 1408) : Read.val_main_v16 (F := Ideal) x0 x1 x2 (ix3 s t f) = upG (entry x0 x1 s t f) (x2 (ix3 s t f)) := by
  pointwise [Read.val_main_v16, Read.val_main_v12, Read.val_main_v11, Read.val_main_v10, Read.val_main_v9, Read.val_main_v8, Read.val_main_cst_0,
    Read.val_main_v3_0, Read.val_main_v3_2, Read.val_main_v1, Read.val_main_v0, Read.val_main_call0_v4, Read.val_main_call0_v3, Read.val_main_call0_v2,
    Read.val_main_call0_v1, Read.val_main_call0_v0, Read.val_main_call0_cst, Read.val_main_call0_cst_0]
  exact mul_comm _ _

/-- The reference's gradient of the gate, entry by entry. -/
theorem gate_result (x0 : Vec Ideal S4096x2048 .f32) (x1 : Vec Ideal S4x1408x2048 .bf16) (x2 x3 : Vec Ideal S4x4096x1408 .bf16)
    (s : Fin 4) (t : Fin 4096) (f : Fin 1408) : Read.val_main_v15 (F := Ideal) x0 x1 x2 x3 (ix3 s t f)
      = entry x0 x1 s t f * x3 (ix3 s t f) * sgm (x2 (ix3 s t f))
        + x2 (ix3 s t f) * (entry x0 x1 s t f * x3 (ix3 s t f)) * (sgm (x2 (ix3 s t f)) * (1 - sgm (x2 (ix3 s t f)))) := by
  pointwise [Read.val_main_v15, Read.val_main_v14, Read.val_main_call1_v2, Read.val_main_call1_v1, Read.val_main_call1_v0, Read.val_main_v13, Read.val_main_v2,
    Read.val_main_v11, Read.val_main_v10, Read.val_main_v9, Read.val_main_v8, Read.val_main_cst_0,
    Read.val_main_v3_1, Read.val_main_v3_2, Read.val_main_v1, Read.val_main_v0, Read.val_main_call0_v7, Read.val_main_call0_v6, Read.val_main_call0_cst_1,
    Read.val_main_call0_v4, Read.val_main_call0_v3, Read.val_main_call0_v2,
    Read.val_main_call0_v1, Read.val_main_call0_v0, Read.val_main_call0_cst, Read.val_main_call0_cst_0]

/-- The logistic function of a real number. -/
theorem sgm_coe (x : ℝ) : sgm (x : EReal) = ((1 / (1 + Real.exp (-x)) : ℝ) : EReal) := by
  have hp : 0 < 1 + Real.exp (-x) := by positivity
  show Ideal.div 1 (1 + Ideal.exp (-(x : EReal))) = _
  rw [← EReal.coe_neg, Ideal.exp_coe, ← EReal.coe_one, ← EReal.coe_add, Ideal.div_coe hp.ne', ← EReal.coe_mul, one_mul]
theorem sgm_top : sgm ⊤ = 1 := by
  show Ideal.div 1 (1 + Ideal.exp (-(⊤ : EReal))) = 1
  rw [EReal.neg_top, Ideal.exp_bot, add_zero, ← EReal.coe_one, Ideal.div_coe one_ne_zero, ← EReal.coe_mul]
  norm_num
theorem sgm_bot : sgm ⊥ = 0 := by
  show Ideal.div 1 (1 + Ideal.exp (-(⊥ : EReal))) = 0
  rw [EReal.neg_bot, Ideal.exp_top, ← EReal.coe_one, EReal.coe_add_top]
  simp [Ideal.div]

/-- The two ways of writing the gate's gradient agree for a finite product. -/
theorem gate_forms (a : ℝ) (g : EReal) :
    (a : EReal) * (sgm g * (1 + g * (1 - sgm g))) = (a : EReal) * sgm g + g * (a : EReal) * (sgm g * (1 - sgm g)) := by
  induction g using EReal.rec with
  | bot => rw [sgm_bot]; simp
  | top =>
    rw [sgm_top, show (1 : EReal) - 1 = 0 by rw [← EReal.coe_one, ← EReal.coe_sub, sub_self, EReal.coe_zero]]
    simp
  | coe x =>
    rw [sgm_coe, ← EReal.coe_one]
    simp only [← EReal.coe_sub, ← EReal.coe_mul, ← EReal.coe_add]
    congr 1
    ring

section Finite

/-- The word of one half. -/
theorem half_val : half = ((1 / 2 : ℝ) : EReal) := by
  simp [half, Ideal.ofBits, Ideal.ieee, -EReal.coe_mul]; norm_num
/-- The word of the infinity. -/
theorem inf_val : Ideal.ofBits .f32 2139095040#32 = (⊤ : EReal) := by
  simp [Ideal.ofBits, Ideal.ieee]

/-- A number whose size is below ⊤ is finite. -/
theorem real_of_abs (x : EReal) (h : max x (-x) < ⊤) : ∃ r : ℝ, x = (r : EReal) := by
  induction x using EReal.rec with
  | bot => exact absurd h (by simp)
  | top => exact absurd h (by simp)
  | coe r => exact ⟨r, rfl⟩

/-- A finite sum of finite terms is finite. -/
theorem real_of_sum {n : ℕ} (f : Fin n → EReal) (h : ∀ k, ∃ r : ℝ, f k = (r : EReal)) : ∃ r : ℝ, ∑ k, f k = (r : EReal) := by
  choose r hr using h
  refine ⟨∑ k, r k, ?_⟩
  simp only [hr]
  exact (map_sum (⟨⟨Real.toEReal, EReal.coe_zero⟩, EReal.coe_add⟩ : ℝ →+ EReal) r _).symm

instance facts_finite : Cert.Pre_finite2.Facts where
  bcast_S_S4096x2048 := by decide
  reducesTo_S4096x2048_S_d0_1 := by decide
  h_S_ := by decide
  bitsLt_bf16_f32 := by decide
  bcast_S_S4x1408x2048 := by decide
  reducesTo_S4x1408x2048_S_d0_1_2 := by decide
  bcast_S_S4x4096x1408 := by decide
  reducesTo_S4x4096x1408_S_d0_1_2 := by decide

/-- The precondition says that the output gradient, the weights and the up projection are finite. -/
theorem finite_of (x0 : FVec Ideal S4096x2048 .f32) (x1 : FVec Ideal S4x1408x2048 .bf16) (x2 x3 : FVec Ideal S4x4096x1408 .bf16)
    (h : Cert.Pre_finite2.fn (F := Ideal) x0 x1 x2 x3 = fun _ => 1#1) :
    (∀ i, ∃ r : ℝ, (x0 i : EReal) = (r : EReal)) ∧ (∀ i, ∃ r : ℝ, (x1 i : EReal) = (r : EReal)) ∧ ∀ i, ∃ r : ℝ, (x3 i : EReal) = (r : EReal) := by
  have h0 := congrFun h ix0
  have two : ∀ a b : BitVec 1, IntOp.andi a b = 1#1 → a = 1#1 ∧ b = 1#1 := by decide
  have one : ∀ p : Bool, BitVec.ofBool p = 1#1 → p = true := by decide
  obtain ⟨hab, hc⟩ := two _ _ h0
  obtain ⟨ha, hb⟩ := two _ _ hab
  haveI : Subsingleton Cert.Pre_finite2.S_.Idx := ⟨fun a b => funext fun i => i.elim0⟩
  refine ⟨fun i => ?_, fun i => ?_, fun i => ?_⟩
  · have h1 := Host.reduce_andi_all _ _ _ _ _ ha i
    pointwise at h1
    rw [inf_val] at h1
    exact real_of_abs _ (of_decide_eq_true (one _ h1))
  · have h1 := Host.reduce_andi_all _ _ _ _ _ hb i
    pointwise at h1
    rw [inf_val] at h1
    exact real_of_abs _ (of_decide_eq_true (one _ h1))
  · have h1 := Host.reduce_andi_all _ _ _ _ _ hc i
    pointwise at h1
    rw [inf_val] at h1
    exact real_of_abs _ (of_decide_eq_true (one _ h1))

/-- Of finite arguments the product is finite. -/
theorem entry_real (x0 : Vec Ideal S4096x2048 .f32) (x1 : Vec Ideal S4x1408x2048 .bf16) (h0 : ∀ i, ∃ r : ℝ, (x0 i : EReal) = (r : EReal))
    (h1 : ∀ i, ∃ r : ℝ, (x1 i : EReal) = (r : EReal)) (s : Fin 4) (t : Fin 4096) (f : Fin 1408) : ∃ r : ℝ, entry x0 x1 s t f = (r : EReal) := by
  refine real_of_sum _ fun k => ?_
  obtain ⟨a, ha⟩ := h0 (ix2 t k)
  obtain ⟨b, hb⟩ := h1 (ix3 s f k)
  exact ⟨1 / 2 * a * b, by rw [ha, hb, half_val, ← EReal.coe_mul, ← EReal.coe_mul]⟩

end Finite

/-- The two gradients of the gate agree, entry by entry. -/
theorem gate_same (x0 : Vec Ideal S4096x2048 .f32) (x1 : Vec Ideal S4x1408x2048 .bf16) (x2 x3 : Vec Ideal S4x4096x1408 .bf16)
    (h : Cert.Pre_finite2.fn (F := Ideal) x0 x1 x2 x3 = fun _ => 1#1) (s : Fin 4) (t : Fin 4096) (f : Fin 1408) :
    gateG (entry x0 x1 s t f) (x2 (ix3 s t f)) (x3 (ix3 s t f)) = Read.val_main_v15 (F := Ideal) x0 x1 x2 x3 (ix3 s t f) := by
  obtain ⟨h0, h1, h3⟩ := finite_of x0 x1 x2 x3 h
  obtain ⟨p, hp⟩ := entry_real x0 x1 h0 h1 s t f
  obtain ⟨u, hu⟩ := h3 (ix3 s t f)
  rw [gate_result, gateG, hp, hu, ← EReal.coe_mul]
  exact gate_forms _ _

/-- The kernel's gradient of the up projection is the reference's function of the kernel's arguments. -/
theorem up_eq (m : (ℓ : Loc Cert.Kernel2Ideal.nD Cert.Kernel2Ideal.τ Cert.Kernel2Ideal.sig) → Buf (Elt Ideal) ℓ) (c : Dev Cert.Kernel2Ideal.nD) :
    (Cert.Kernel2Ideal.Gen.dats m 0 c).arrAt 5 Cert.Kernel2Ideal.cfg0.N
      = Read.val_main_v16 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2)) := by
  funext x
  have ex := eq_ix3 x
  rw [ex]
  exact (Cert.Kernel2Ideal.Ffn.up_result m c _ _ _).trans (up_result _ _ _ _ _ _).symm

/-- The kernel's gradient of the gate is the reference's function of the kernel's arguments. -/
theorem gate_eq (m : (ℓ : Loc Cert.Kernel2Ideal.nD Cert.Kernel2Ideal.τ Cert.Kernel2Ideal.sig) → Buf (Elt Ideal) ℓ) (c : Dev Cert.Kernel2Ideal.nD)
    (h : Cert.Pre_finite2.fn (F := Ideal)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)) = fun _ => 1#1) :
    (Cert.Kernel2Ideal.Gen.dats m 0 c).arrAt 4 Cert.Kernel2Ideal.cfg0.N
      = Read.val_main_v15 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3)) := by
  funext x
  have ex := eq_ix3 x
  rw [ex]
  exact (Cert.Kernel2Ideal.Ffn.gate_result m c _ _ _).trans (gate_same _ _ _ _ h _ _ _)

end Cert.Reference2Ideal.Ffn
-- ==== Proof.Ffn.Up.lean ====
/-
  The gate and up projections of a feed-forward half with the gated activation, one shard of the hidden width after
  another: a grid point stores its block of each result in two parts of its columns, and either part comes from the
  products of a block of rows with the same columns of a shard of the weights.
-/
module

public import proofs.«01_k».proof.Proof.Gen.Kernel6Ideal.Value
public import proofs.«01_k».proof.Proof.Gen.Reference6Ideal.Read
public import proofs.«01_k».proof.Proof.Ffn.Sums

@[expose] public section

noncomputable section

namespace Cert.Kernel6Ideal.Ffn

open Cert.Kernel6Ideal Cert.Kernel6Ideal.Gen Cert.Kernel6Ideal.Value
open Cert.Ffn (hz2 hz3 silu)
open Idealize.ShloMosaic Idealize.ShloMosaic.TcCoe Idealize.ShloMosaic.Pointwise

section Parts
/-- The columns a store of the first part covers. -/
theorem emb_lo (inb) (i : Fin 512) (f : Fin 768) : (Rect.unit (s := S1x512x1408) ![0, 0, 0] ![1, 512, 768] inb).emb (ix3 (0 : Fin 1) i f)
    = ix3 0 i (⟨f.val, by omega⟩ : Fin 1408) := by
  funext a
  apply Fin.ext
  match a with
  | ⟨0, _⟩ => rfl
  | ⟨1, _⟩ => show 0 + 1 * i.val = i.val; omega
  | ⟨2, _⟩ => show 0 + 1 * f.val = f.val; omega
/-- The columns a store of the second part covers. -/
theorem emb_hi (inb) (i : Fin 512) (f : Fin 640) : (Rect.unit (s := S1x512x1408) ![0, 0, 768] ![1, 512, 640] inb).emb (ix3 (0 : Fin 1) i f)
    = ix3 0 i (⟨768 + f.val, by omega⟩ : Fin 1408) := by
  funext a
  apply Fin.ext
  match a with
  | ⟨0, _⟩ => rfl
  | ⟨1, _⟩ => show 0 + 1 * i.val = i.val; omega
  | ⟨2, _⟩ => show 768 + 1 * f.val = 768 + f.val; omega
/-- The columns of the weights a load of the first part reads. -/
theorem ld_lo (w : Vec Ideal S1x2048x1408 .bf16) (inb) (k : Fin 2048) (f : Fin 768) :
    View.ld w (Rect.unit (s := S1x2048x1408) ![0, 0, 0] ![1, 2048, 768] inb) (ix3 (0 : Fin 1) k f) = w (ix3 0 k (⟨f.val, by omega⟩ : Fin 1408)) := by
  refine congrArg w (funext fun a => Fin.ext ?_)
  match a with
  | ⟨0, _⟩ => rfl
  | ⟨1, _⟩ => show 0 + 1 * k.val = k.val; omega
  | ⟨2, _⟩ => show 0 + 1 * f.val = f.val; omega
/-- The columns of the weights a load of the second part reads. -/
theorem ld_hi (w : Vec Ideal S1x2048x1408 .bf16) (inb) (k : Fin 2048) (f : Fin 640) :
    View.ld w (Rect.unit (s := S1x2048x1408) ![0, 0, 768] ![1, 2048, 640] inb) (ix3 (0 : Fin 1) k f) = w (ix3 0 k (⟨768 + f.val, by omega⟩ : Fin 1408)) := by
  refine congrArg w (funext fun a => Fin.ext ?_)
  match a with
  | ⟨0, _⟩ => rfl
  | ⟨1, _⟩ => show 0 + 1 * k.val = k.val; omega
  | ⟨2, _⟩ => show 768 + 1 * f.val = 768 + f.val; omega

/-- An index of the first part. -/
theorem idx_lo (x : S1x512x768.Idx) : ∃ (i : Fin 512) (f : Fin 768), x = ix3 (0 : Fin 1) i f :=
  ⟨x 1, x 2, (eq_ix3 x).trans (congrArg (fun z => ix3 z (x 1) (x 2)) (Fin.ext (by have := (x 0).isLt; have h : (x 0).val < 1 := this; show (x 0).val = 0; omega)))⟩
/-- An index of the second part. -/
theorem idx_hi (x : S1x512x640.Idx) : ∃ (i : Fin 512) (f : Fin 640), x = ix3 (0 : Fin 1) i f :=
  ⟨x 1, x 2, (eq_ix3 x).trans (congrArg (fun z => ix3 z (x 1) (x 2)) (Fin.ext (by have := (x 0).isLt; have h : (x 0).val < 1 := this; show (x 0).val = 0; omega)))⟩
end Parts

section Pays
variable (h : Vec Ideal S512x2048 .bf16) (i : Fin 512)

theorem gate_hi_apply (v : Vec Ideal S1x2048x640 .bf16) (f : Fin 640) : k0_pay3 h (k0_pay11 v) (ix3 0 i f) = ∑ k : Fin 2048, h (ix2 i k) * v (ix3 0 k f) := by
  pointwise [k0_pay3, k0_pay1, k0_pay11]
theorem gate_lo_apply (v : Vec Ideal S1x2048x768 .bf16) (f : Fin 768) : k0_pay8 h v (ix3 0 i f) = ∑ k : Fin 2048, h (ix2 i k) * v (ix3 0 k f) := by
  pointwise [k0_pay8, k0_pay6]
theorem up_hi_apply (v : Vec Ideal S1x2048x640 .bf16) (f : Fin 640) : k0_pay4 h v (ix3 0 i f) = ∑ k : Fin 2048, h (ix2 i k) * v (ix3 0 k f) := by
  pointwise [k0_pay4, k0_pay2]
theorem up_lo_apply (v : Vec Ideal S1x2048x768 .bf16) (f : Fin 768) : k0_pay9 h v (ix3 0 i f) = ∑ k : Fin 2048, h (ix2 i k) * v (ix3 0 k f) := by
  pointwise [k0_pay9, k0_pay7]
theorem act_hi_apply (v w : Vec Ideal S1x2048x640 .bf16) (f : Fin 640) : k0_pay5 h (k0_pay11 v) w (ix3 0 i f)
    = silu (∑ k : Fin 2048, h (ix2 i k) * v (ix3 0 k f)) * ∑ k : Fin 2048, h (ix2 i k) * w (ix3 0 k f) := by
  pointwise [k0_pay5, k0_pay1, k0_pay2, k0_pay11]
  rw [zero_sub]
theorem act_lo_apply (v w : Vec Ideal S1x2048x768 .bf16) (f : Fin 768) : k0_pay10 h v w (ix3 0 i f)
    = silu (∑ k : Fin 2048, h (ix2 i k) * v (ix3 0 k f)) * ∑ k : Fin 2048, h (ix2 i k) * w (ix3 0 k f) := by
  pointwise [k0_pay10, k0_pay6, k0_pay7]
  rw [zero_sub]
end Pays

/-- A block of the product, entry by entry. -/
abbrev prodB (h : Vec Ideal S512x2048 .bf16) (w : Vec Ideal S1x2048x1408 .bf16) : Vec Ideal S1x512x1408 .bf16 := fun y =>
  ∑ k : Fin 2048, h (ix2 (y 1) k) * w (ix3 0 k (y 2))

theorem sum_lo (h : Vec Ideal S512x2048 .bf16) (w : Vec Ideal S1x2048x1408 .bf16) (inb) (i : Fin 512) (f : Fin 768) :
    ∑ k : Fin 2048, h (ix2 i k) * View.ld w (Rect.unit (s := S1x2048x1408) ![0, 0, 0] ![1, 2048, 768] inb) (ix3 (0 : Fin 1) k f)
      = prodB h w (ix3 0 i (⟨f.val, by omega⟩ : Fin 1408)) :=
  Finset.sum_congr rfl fun k _ => congrArg (fun x : EReal => (h (ix2 i k) : EReal) * x) (ld_lo w inb k f)
theorem sum_hi (h : Vec Ideal S512x2048 .bf16) (w : Vec Ideal S1x2048x1408 .bf16) (inb) (i : Fin 512) (f : Fin 640) :
    ∑ k : Fin 2048, h (ix2 i k) * View.ld w (Rect.unit (s := S1x2048x1408) ![0, 0, 768] ![1, 2048, 640] inb) (ix3 (0 : Fin 1) k f)
      = prodB h w (ix3 0 i (⟨768 + f.val, by omega⟩ : Fin 1408)) :=
  Finset.sum_congr rfl fun k _ => congrArg (fun x : EReal => (h (ix2 i k) : EReal) * x) (ld_hi w inb k f)

section Body
variable (c : Dev nD) (i : grid0.Coords) (a2 : Memref sig .tc .vmem S512x2048 .bf16) (h2 : a2.IsWhole)
  (a3 : Memref sig .tc .vmem S1x2048x1408 .bf16) (h3 : a3.IsWhole) (a4 : Memref sig .tc .vmem S1x2048x1408 .bf16) (h4 : a4.IsWhole)
  (a5 : Memref sig .tc .vmem S1x512x1408 .bf16) (h5 : a5.IsWhole) (a6 : Memref sig .tc .vmem S1x512x1408 .bf16) (h6 : a6.IsWhole)
  (a7 : Memref sig .tc .vmem S1x512x1408 .bf16) (h7 : a7.IsWhole)
  (h : Vec Ideal S512x2048 .bf16) (wg wu : Vec Ideal S1x2048x1408 .bf16)

/-- What a grid point stores of the gate. -/
theorem gate_eq : out0_A_3 c i a2 h2 a3 h3 a4 h4 a5 h5 a6 h6 a7 h7 h wg wu = prodB h wg := by
  unfold out0_A_3
  rw [View.read_writes_eq_canon _ _ _ (cover0_A_3 c i a2 h2 a3 h3 a4 h4 a5 h5 a6 h6 a7 h7 h wg wu)]
  funext y
  refine View.canon_apply_of_pieces (prodB h wg) _ ?_ y (cover0_A_3 c i a2 h2 a3 h3 a4 h4 a5 h5 a6 h6 a7 h7 h wg wu y)
  unfold kernelRun0_A
  dsimp only
  sl_unfold_words
  simp only [View.readAt_eq_ld, h2.read_unread, h3.read_unread, h4.read_unread, View.ld_unit_zero (S := S512x2048) hz2]
  intro pc hpc
  rcases List.mem_cons.mp hpc with rfl | hpc
  · intro x
    obtain ⟨i, f, rfl⟩ := idx_hi x
    dsimp only
    rw [emb_hi]
    exact (gate_hi_apply _ _ _ _).trans (sum_hi _ _ _ _ _)
  rcases List.mem_cons.mp hpc with rfl | hpc
  · intro x
    obtain ⟨i, f, rfl⟩ := idx_lo x
    dsimp only
    rw [emb_lo]
    exact (gate_lo_apply _ _ _ _).trans (sum_lo _ _ _ _ _)
  nomatch hpc

/-- What a grid point stores of the up projection. -/
theorem up_eq : out0_A_4 c i a2 h2 a3 h3 a4 h4 a5 h5 a6 h6 a7 h7 h wg wu = prodB h wu := by
  unfold out0_A_4
  rw [View.read_writes_eq_canon _ _ _ (cover0_A_4 c i a2 h2 a3 h3 a4 h4 a5 h5 a6 h6 a7 h7 h wg wu)]
  funext y
  refine View.canon_apply_of_pieces (prodB h wu) _ ?_ y (cover0_A_4 c i a2 h2 a3 h3 a4 h4 a5 h5 a6 h6 a7 h7 h wg wu y)
  unfold kernelRun0_A
  dsimp only
  sl_unfold_words
  simp only [View.readAt_eq_ld, h2.read_unread, h3.read_unread, h4.read_unread, View.ld_unit_zero (S := S512x2048) hz2]
  intro pc hpc
  rcases List.mem_cons.mp hpc with rfl | hpc
  · intro x
    obtain ⟨i, f, rfl⟩ := idx_hi x
    dsimp only
    rw [emb_hi]
    exact (up_hi_apply _ _ _ _).trans (sum_hi _ _ _ _ _)
  rcases List.mem_cons.mp hpc with rfl | hpc
  · intro x
    obtain ⟨i, f, rfl⟩ := idx_lo x
    dsimp only
    rw [emb_lo]
    exact (up_lo_apply _ _ _ _).trans (sum_lo _ _ _ _ _)
  nomatch hpc

/-- What a grid point stores of the activation. -/
theorem act_eq : out0_A_5 c i a2 h2 a3 h3 a4 h4 a5 h5 a6 h6 a7 h7 h wg wu = fun y => silu (prodB h wg y) * prodB h wu y := by
  unfold out0_A_5
  rw [View.read_writes_eq_canon _ _ _ (cover0_A_5 c i a2 h2 a3 h3 a4 h4 a5 h5 a6 h6 a7 h7 h wg wu)]
  funext y
  refine View.canon_apply_of_pieces (fun y => silu (prodB h wg y) * prodB h wu y) _ ?_ y (cover0_A_5 c i a2 h2 a3 h3 a4 h4 a5 h5 a6 h6 a7 h7 h wg wu y)
  unfold kernelRun0_A
  dsimp only
  sl_unfold_words
  simp only [View.readAt_eq_ld, h2.read_unread, h3.read_unread, h4.read_unread, View.ld_unit_zero (S := S512x2048) hz2]
  intro pc hpc
  rcases List.mem_cons.mp hpc with rfl | hpc
  · intro x
    obtain ⟨i, f, rfl⟩ := idx_hi x
    dsimp only
    rw [emb_hi]
    exact (act_hi_apply _ _ _ _ _).trans (congrArg₂ (fun x y : EReal => silu x * y) (sum_hi _ _ _ _ _) (sum_hi _ _ _ _ _))
  rcases List.mem_cons.mp hpc with rfl | hpc
  · intro x
    obtain ⟨i, f, rfl⟩ := idx_lo x
    dsimp only
    rw [emb_lo]
    exact (act_lo_apply _ _ _ _ _).trans (congrArg₂ (fun x y : EReal => silu x * y) (sum_lo _ _ _ _ _) (sum_lo _ _ _ _ _))
  nomatch hpc

end Body

variable (m : (ℓ : Loc nD τ sig) → Buf (Elt Ideal) ℓ) (c : Dev nD)

/-- The blocks a grid point reads and writes. -/
theorem idx0 : ∀ t : Fin grid0.N, win0_0.index t = ![t.val % 8, 0] ∧ win0_1.index t = ![t.val / 8, 0, 0]
    ∧ win0_2.index t = ![t.val / 8, 0, 0] ∧ win0_3.index t = ![t.val / 8, t.val % 8, 0] ∧ win0_4.index t = ![t.val / 8, t.val % 8, 0] ∧ win0_5.index t = ![t.val / 8, t.val % 8, 0] := by
  decide +kernel

theorem blk0 (t : Fin cfg0.N) (i : Fin 512) (k : Fin 2048) : iblk m c 0 t (ix2 i k) = m ((c : Thread nD τ).loc main_arg0)
    (ix2 (⟨512 * (t.val % 8) + i.val, by omega⟩ : Fin 4096) k) := by
  blk_ext [iblk, V, (idx0 t).1]
theorem blk1 (t : Fin cfg0.N) (ht : t.val < 32) (k : Fin 2048) (f : Fin 1408) : iblk m c 1 t (ix3 0 k f) = m ((c : Thread nD τ).loc main_arg1)
    (ix3 (⟨t.val / 8, by omega⟩ : Fin 4) k f) := by
  blk_ext [iblk, V, (idx0 t).2.1]
theorem blk2 (t : Fin cfg0.N) (ht : t.val < 32) (k : Fin 2048) (f : Fin 1408) : iblk m c 2 t (ix3 0 k f) = m ((c : Thread nD τ).loc main_arg2)
    (ix3 (⟨t.val / 8, by omega⟩ : Fin 4) k f) := by
  blk_ext [iblk, V, (idx0 t).2.2.1]
theorem emb3 (t : Fin cfg0.N) (ht : t.val < 32) (i : Fin 512) (f : Fin 1408) : ((cfg0.win 3).blk t).view.emb (ix3 (0 : Fin 1) i f)
    = ix3 (⟨t.val / 8, by omega⟩ : Fin 4) (⟨512 * (t.val % 8) + i.val, by omega⟩ : Fin 4096) f := by
  have e := (idx0 t).2.2.2.1
  funext a
  apply Fin.ext
  match a with
  | ⟨0, _⟩ => show win0_3.index t (0 : Fin 3) * 1 + 1 * 0 = t.val / 8; rw [e]; show t.val / 8 * 1 + 1 * 0 = _; omega
  | ⟨1, _⟩ => show win0_3.index t (1 : Fin 3) * 512 + 1 * i.val = 512 * (t.val % 8) + i.val; rw [e]; show t.val % 8 * 512 + 1 * i.val = _; omega
  | ⟨2, _⟩ => show win0_3.index t (2 : Fin 3) * 1408 + 1 * f.val = f.val; rw [e]; show 0 * 1408 + 1 * f.val = _; omega

theorem emb4 (t : Fin cfg0.N) (ht : t.val < 32) (i : Fin 512) (f : Fin 1408) : ((cfg0.win 4).blk t).view.emb (ix3 (0 : Fin 1) i f)
    = ix3 (⟨t.val / 8, by omega⟩ : Fin 4) (⟨512 * (t.val % 8) + i.val, by omega⟩ : Fin 4096) f := by
  have e := (idx0 t).2.2.2.2.1
  funext a
  apply Fin.ext
  match a with
  | ⟨0, _⟩ => show win0_4.index t (0 : Fin 3) * 1 + 1 * 0 = t.val / 8; rw [e]; show t.val / 8 * 1 + 1 * 0 = _; omega
  | ⟨1, _⟩ => show win0_4.index t (1 : Fin 3) * 512 + 1 * i.val = 512 * (t.val % 8) + i.val; rw [e]; show t.val % 8 * 512 + 1 * i.val = _; omega
  | ⟨2, _⟩ => show win0_4.index t (2 : Fin 3) * 1408 + 1 * f.val = f.val; rw [e]; show 0 * 1408 + 1 * f.val = _; omega

theorem emb5 (t : Fin cfg0.N) (ht : t.val < 32) (i : Fin 512) (f : Fin 1408) : ((cfg0.win 5).blk t).view.emb (ix3 (0 : Fin 1) i f)
    = ix3 (⟨t.val / 8, by omega⟩ : Fin 4) (⟨512 * (t.val % 8) + i.val, by omega⟩ : Fin 4096) f := by
  have e := (idx0 t).2.2.2.2.2
  funext a
  apply Fin.ext
  match a with
  | ⟨0, _⟩ => show win0_5.index t (0 : Fin 3) * 1 + 1 * 0 = t.val / 8; rw [e]; show t.val / 8 * 1 + 1 * 0 = _; omega
  | ⟨1, _⟩ => show win0_5.index t (1 : Fin 3) * 512 + 1 * i.val = 512 * (t.val % 8) + i.val; rw [e]; show t.val % 8 * 512 + 1 * i.val = _; omega
  | ⟨2, _⟩ => show win0_5.index t (2 : Fin 3) * 1408 + 1 * f.val = f.val; rw [e]; show 0 * 1408 + 1 * f.val = _; omega

/-- What the result's entry holds. -/
abbrev entry (h : Vec Ideal S4096x2048 .bf16) (w : Vec Ideal S4x2048x1408 .bf16) (s : Fin 4) (t : Fin 4096) (f : Fin 1408) : EReal :=
  ∑ k : Fin 2048, h (ix2 t k) * w (ix3 s k f)

/-- What the activation's entry holds. -/
abbrev gated (h : Vec Ideal S4096x2048 .bf16) (wg wu : Vec Ideal S4x2048x1408 .bf16) (s : Fin 4) (t : Fin 4096) (f : Fin 1408) : EReal :=
  silu (entry h wg s t f) * entry h wu s t f

/-- Equal rows and shards give equal terms. -/
theorem term_congr (h : Vec Ideal S4096x2048 .bf16) (w : Vec Ideal S4x2048x1408 .bf16) (k : Fin 2048) (f : Fin 1408) {t t' : Fin 4096} {s s' : Fin 4}
    (ht : t = t') (hs : s = s') : h (ix2 t k) * w (ix3 s k f) = h (ix2 t' k) * w (ix3 s' k f) := by
  rw [ht, hs]

/-- A point's block of the product with the gate weights. -/
theorem prod_gate (p : Fin cfg0.N) (i : Fin 512) (f : Fin 1408) (s : Fin 4) {t : Fin 4096} (hp : p.val < 32)
    (ht : (⟨512 * (p.val % 8) + i.val, by omega⟩ : Fin 4096) = t) (hs : (⟨p.val / 8, by omega⟩ : Fin 4) = s) :
    prodB (iblk m c 0 p) (iblk m c 1 p) (ix3 0 i f) = entry (m ((c : Thread nD τ).loc main_arg0)) (m ((c : Thread nD τ).loc main_arg1)) s t f := by
  refine Finset.sum_congr rfl fun k _ => ?_
  refine (congrArg₂ (fun x y : EReal => x * y) (blk0 m c p i k) (blk1 m c _ hp k f)).trans ?_
  exact term_congr _ _ k f ht hs

/-- A point's block of the product with the up weights. -/
theorem prod_up (p : Fin cfg0.N) (i : Fin 512) (f : Fin 1408) (s : Fin 4) {t : Fin 4096} (hp : p.val < 32)
    (ht : (⟨512 * (p.val % 8) + i.val, by omega⟩ : Fin 4096) = t) (hs : (⟨p.val / 8, by omega⟩ : Fin 4) = s) :
    prodB (iblk m c 0 p) (iblk m c 2 p) (ix3 0 i f) = entry (m ((c : Thread nD τ).loc main_arg0)) (m ((c : Thread nD τ).loc main_arg2)) s t f := by
  refine Finset.sum_congr rfl fun k _ => ?_
  refine (congrArg₂ (fun x y : EReal => x * y) (blk0 m c p i k) (blk2 m c _ hp k f)).trans ?_
  exact term_congr _ _ k f ht hs

/-- What the kernel leaves in the gate. -/
theorem gate_result (s : Fin 4) (t : Fin 4096) (f : Fin 1408) :
    (dats m 0 c).arrAt 3 cfg0.N (ix3 s t f) = entry (m ((c : Thread nD τ).loc main_arg0)) (m ((c : Thread nD τ).loc main_arg1)) s t f := by
  have hN : cfg0.N = 32 := N_0
  have hs : (⟨8 * s.val + t.val / 512, by omega⟩ : Fin cfg0.N).val / 8 = s.val := by dsimp only; omega
  have ht : 512 * ((⟨8 * s.val + t.val / 512, by omega⟩ : Fin cfg0.N).val % 8) + t.val % 512 = t.val := by dsimp only; omega
  have h := (dats m 0 c).arrAt_emb_eq_flushed 3 disjoint3 ⟨8 * s.val + t.val / 512, by omega⟩ (flush0_3 _)
    (ix3 (0 : Fin 1) (⟨t.val % 512, by omega⟩ : Fin 512) f)
  rw [emb3 _ (by dsimp only; omega), flushed3_A, gate_eq] at h
  have e0 : (ix3 (⟨(⟨8 * s.val + t.val / 512, by omega⟩ : Fin cfg0.N).val / 8, by omega⟩ : Fin 4)
      (⟨512 * ((⟨8 * s.val + t.val / 512, by omega⟩ : Fin cfg0.N).val % 8) + t.val % 512, by omega⟩ : Fin 4096) f : S4x4096x1408.Idx) = ix3 s t f := by
    rw [show (⟨(⟨8 * s.val + t.val / 512, by omega⟩ : Fin cfg0.N).val / 8, by omega⟩ : Fin 4) = s from Fin.ext hs,
      show (⟨512 * ((⟨8 * s.val + t.val / 512, by omega⟩ : Fin cfg0.N).val % 8) + t.val % 512, by omega⟩ : Fin 4096) = t from Fin.ext ht]
  refine (congrArg ((dats m 0 c).arrAt 3 cfg0.N) e0).symm.trans (h.trans ?_)
  show prodB (iblk m c 0 _) (iblk m c 1 _) (ix3 0 _ f) = _
  exact (prod_gate m c _ _ _ _ (by dsimp only; omega) (Fin.ext ht) (Fin.ext hs))

/-- What the kernel leaves in the up projection. -/
theorem up_result (s : Fin 4) (t : Fin 4096) (f : Fin 1408) :
    (dats m 0 c).arrAt 4 cfg0.N (ix3 s t f) = entry (m ((c : Thread nD τ).loc main_arg0)) (m ((c : Thread nD τ).loc main_arg2)) s t f := by
  have hN : cfg0.N = 32 := N_0
  have hs : (⟨8 * s.val + t.val / 512, by omega⟩ : Fin cfg0.N).val / 8 = s.val := by dsimp only; omega
  have ht : 512 * ((⟨8 * s.val + t.val / 512, by omega⟩ : Fin cfg0.N).val % 8) + t.val % 512 = t.val := by dsimp only; omega
  have h := (dats m 0 c).arrAt_emb_eq_flushed 4 disjoint4 ⟨8 * s.val + t.val / 512, by omega⟩ (flush0_4 _)
    (ix3 (0 : Fin 1) (⟨t.val % 512, by omega⟩ : Fin 512) f)
  rw [emb4 _ (by dsimp only; omega), flushed4_A, up_eq] at h
  have e0 : (ix3 (⟨(⟨8 * s.val + t.val / 512, by omega⟩ : Fin cfg0.N).val / 8, by omega⟩ : Fin 4)
      (⟨512 * ((⟨8 * s.val + t.val / 512, by omega⟩ : Fin cfg0.N).val % 8) + t.val % 512, by omega⟩ : Fin 4096) f : S4x4096x1408.Idx) = ix3 s t f := by
    rw [show (⟨(⟨8 * s.val + t.val / 512, by omega⟩ : Fin cfg0.N).val / 8, by omega⟩ : Fin 4) = s from Fin.ext hs,
      show (⟨512 * ((⟨8 * s.val + t.val / 512, by omega⟩ : Fin cfg0.N).val % 8) + t.val % 512, by omega⟩ : Fin 4096) = t from Fin.ext ht]
  refine (congrArg ((dats m 0 c).arrAt 4 cfg0.N) e0).symm.trans (h.trans ?_)
  show prodB (iblk m c 0 _) (iblk m c 2 _) (ix3 0 _ f) = _
  exact (prod_up m c _ _ _ _ (by dsimp only; omega) (Fin.ext ht) (Fin.ext hs))

/-- What the kernel leaves in the activation. -/
theorem act_result (s : Fin 4) (t : Fin 4096) (f : Fin 1408) :
    (dats m 0 c).arrAt 5 cfg0.N (ix3 s t f) = gated (m ((c : Thread nD τ).loc main_arg0)) (m ((c : Thread nD τ).loc main_arg1))
      (m ((c : Thread nD τ).loc main_arg2)) s t f := by
  have hN : cfg0.N = 32 := N_0
  have hs : (⟨8 * s.val + t.val / 512, by omega⟩ : Fin cfg0.N).val / 8 = s.val := by dsimp only; omega
  have ht : 512 * ((⟨8 * s.val + t.val / 512, by omega⟩ : Fin cfg0.N).val % 8) + t.val % 512 = t.val := by dsimp only; omega
  have h := (dats m 0 c).arrAt_emb_eq_flushed 5 disjoint5 ⟨8 * s.val + t.val / 512, by omega⟩ (flush0_5 _)
    (ix3 (0 : Fin 1) (⟨t.val % 512, by omega⟩ : Fin 512) f)
  rw [emb5 _ (by dsimp only; omega), flushed5_A, act_eq] at h
  have e0 : (ix3 (⟨(⟨8 * s.val + t.val / 512, by omega⟩ : Fin cfg0.N).val / 8, by omega⟩ : Fin 4)
      (⟨512 * ((⟨8 * s.val + t.val / 512, by omega⟩ : Fin cfg0.N).val % 8) + t.val % 512, by omega⟩ : Fin 4096) f : S4x4096x1408.Idx) = ix3 s t f := by
    rw [show (⟨(⟨8 * s.val + t.val / 512, by omega⟩ : Fin cfg0.N).val / 8, by omega⟩ : Fin 4) = s from Fin.ext hs,
      show (⟨512 * ((⟨8 * s.val + t.val / 512, by omega⟩ : Fin cfg0.N).val % 8) + t.val % 512, by omega⟩ : Fin 4096) = t from Fin.ext ht]
  refine (congrArg ((dats m 0 c).arrAt 5 cfg0.N) e0).symm.trans (h.trans ?_)
  show silu (prodB (iblk m c 0 _) (iblk m c 1 _) (ix3 0 _ f)) * prodB (iblk m c 0 _) (iblk m c 2 _) (ix3 0 _ f) = _
  exact (congrArg₂ (fun x y : EReal => silu x * y)
    (prod_gate m c _ _ _ _ (by dsimp only; omega) (Fin.ext ht) (Fin.ext hs))
    (prod_up m c _ _ _ _ (by dsimp only; omega) (Fin.ext ht) (Fin.ext hs)))

end Cert.Kernel6Ideal.Ffn

namespace Cert.Reference6Ideal.Ffn

open Cert.Reference6Ideal Cert.Reference6Ideal.Gen
open Idealize.ShloMosaic Idealize.ShloMosaic.TcCoe Idealize.ShloMosaic.Pointwise

/-- The reference's gate, entry by entry. -/
theorem gate_result (h : Vec Ideal S4096x2048 .bf16) (w : Vec Ideal S4x2048x1408 .bf16) (s : Fin 4) (t : Fin 4096) (f : Fin 1408) :
    Read.val_main_v7 h w (ix3 s t f) = Cert.Kernel6Ideal.Ffn.entry h w s t f := by
  pointwise [Read.val_main_v7, Read.val_main_v4, Read.val_main_v3, Read.val_main_v1, Read.val_main_v0]
  exact Finset.sum_congr rfl fun k _ => mul_comm _ _

/-- The reference's up projection, entry by entry. -/
theorem up_result (h : Vec Ideal S4096x2048 .bf16) (w : Vec Ideal S4x2048x1408 .bf16) (s : Fin 4) (t : Fin 4096) (f : Fin 1408) :
    Read.val_main_v8 h w (ix3 s t f) = Cert.Kernel6Ideal.Ffn.entry h w s t f := by
  pointwise [Read.val_main_v8, Read.val_main_v6, Read.val_main_v5, Read.val_main_v2, Read.val_main_v0]
  exact Finset.sum_congr rfl fun k _ => mul_comm _ _

/-- The reference's activation, entry by entry. -/
theorem act_result (h : Vec Ideal S4096x2048 .bf16) (wg wu : Vec Ideal S4x2048x1408 .bf16) (s : Fin 4) (t : Fin 4096) (f : Fin 1408) :
    Read.val_main_v11 h wg wu (ix3 s t f) = Cert.Kernel6Ideal.Ffn.gated h wg wu s t f := by
  pointwise [Read.val_main_v11, Read.val_main_v10, Read.val_main_v9, Read.val_main_v6, Read.val_main_v5, Read.val_main_v4, Read.val_main_v3, Read.val_main_v2,
    Read.val_main_v1, Read.val_main_v0, Read.val_main_call0_v5, Read.val_main_call0_v4, Read.val_main_call0_v3, Read.val_main_call0_v2, Read.val_main_call0_v1, Read.val_main_call0_v0,
    Read.val_main_call0_cst, Read.val_main_call0_cst_0]
  have e (w : Vec Ideal S4x2048x1408 .bf16) : ∑ k : Fin 2048, w (ix3 s k f) * h (ix2 t k) = Cert.Kernel6Ideal.Ffn.entry h w s t f :=
    Finset.sum_congr rfl fun k _ => mul_comm _ _
  rw [e, e]

/-- The kernel's gate is the reference's function of the kernel's arguments. -/
theorem gate_eq (m : (ℓ : Loc Cert.Kernel6Ideal.nD Cert.Kernel6Ideal.τ Cert.Kernel6Ideal.sig) → Buf (Elt Ideal) ℓ) (c : Dev Cert.Kernel6Ideal.nD) :
    (Cert.Kernel6Ideal.Gen.dats m 0 c).arrAt 3 Cert.Kernel6Ideal.cfg0.N
      = Read.val_main_v7 (F := Ideal)
        (m ((c.tc : Thread Cert.Kernel6Ideal.nD Cert.Kernel6Ideal.τ).loc Cert.Kernel6Ideal.main_arg0))
        (m ((c.tc : Thread Cert.Kernel6Ideal.nD Cert.Kernel6Ideal.τ).loc Cert.Kernel6Ideal.main_arg1)) := by
  funext x
  have ex := eq_ix3 x
  rw [ex]
  exact (Cert.Kernel6Ideal.Ffn.gate_result m c _ _ _).trans (gate_result _ _ _ _ _).symm

/-- The kernel's up projection is the reference's function of the kernel's arguments. -/
theorem up_eq (m : (ℓ : Loc Cert.Kernel6Ideal.nD Cert.Kernel6Ideal.τ Cert.Kernel6Ideal.sig) → Buf (Elt Ideal) ℓ) (c : Dev Cert.Kernel6Ideal.nD) :
    (Cert.Kernel6Ideal.Gen.dats m 0 c).arrAt 4 Cert.Kernel6Ideal.cfg0.N
      = Read.val_main_v8 (F := Ideal)
        (m ((c.tc : Thread Cert.Kernel6Ideal.nD Cert.Kernel6Ideal.τ).loc Cert.Kernel6Ideal.main_arg0))
        (m ((c.tc : Thread Cert.Kernel6Ideal.nD Cert.Kernel6Ideal.τ).loc Cert.Kernel6Ideal.main_arg2)) := by
  funext x
  have ex := eq_ix3 x
  rw [ex]
  exact (Cert.Kernel6Ideal.Ffn.up_result m c _ _ _).trans (up_result _ _ _ _ _).symm

/-- The kernel's activation is the reference's function of the kernel's arguments. -/
theorem act_eq (m : (ℓ : Loc Cert.Kernel6Ideal.nD Cert.Kernel6Ideal.τ Cert.Kernel6Ideal.sig) → Buf (Elt Ideal) ℓ) (c : Dev Cert.Kernel6Ideal.nD) :
    (Cert.Kernel6Ideal.Gen.dats m 0 c).arrAt 5 Cert.Kernel6Ideal.cfg0.N
      = Read.val_main_v11 (F := Ideal)
        (m ((c.tc : Thread Cert.Kernel6Ideal.nD Cert.Kernel6Ideal.τ).loc Cert.Kernel6Ideal.main_arg0))
        (m ((c.tc : Thread Cert.Kernel6Ideal.nD Cert.Kernel6Ideal.τ).loc Cert.Kernel6Ideal.main_arg1))
        (m ((c.tc : Thread Cert.Kernel6Ideal.nD Cert.Kernel6Ideal.τ).loc Cert.Kernel6Ideal.main_arg2)) := by
  funext x
  have ex := eq_ix3 x
  rw [ex]
  exact (Cert.Kernel6Ideal.Ffn.act_result m c _ _ _).trans (act_result _ _ _ _ _ _).symm

end Cert.Reference6Ideal.Ffn
-- ==== Proof.Ffn.Gate.lean ====
/-
  The gate projection of a feed-forward half, one shard of the hidden width after another: every block of the result
  is one product of a block of rows with a shard of the weights.
-/
module

public import proofs.«01_k».proof.Proof.Gen.Kernel7Ideal.Value
public import proofs.«01_k».proof.Proof.Gen.Reference7Ideal.Read
public import proofs.«01_k».proof.Proof.Ffn.Sums

@[expose] public section

noncomputable section

namespace Cert.Kernel7Ideal.Ffn

open Cert.Kernel7Ideal Cert.Kernel7Ideal.Gen Cert.Kernel7Ideal.Value
open Cert.Ffn (hz2 hz3)
open Idealize.ShloMosaic Idealize.ShloMosaic.TcCoe Idealize.ShloMosaic.Pointwise

/-- What a grid point stores. -/
theorem store_eq {F : FTy → Type} [FloatOps F] (h : Vec F S512x2048 .bf16) (w : Vec F S1x2048x1408 .bf16) : out0_2 h w = k0_pay1 h w := by
  unfold out0_2
  rw [View.canon_unit_zero hz3, View.ld_unit_zero (S := S512x2048) hz2, View.ld_unit_zero (S := S1x2048x1408) hz3]

variable (m : (ℓ : Loc nD τ sig) → Buf (Elt Ideal) ℓ) (c : Dev nD)

/-- The blocks a grid point reads and writes. -/
theorem idx0 : ∀ t : Fin grid0.N, win0_0.index t = ![t.val % 8, 0] ∧ win0_1.index t = ![t.val / 8, 0, 0]
    ∧ win0_2.index t = ![t.val / 8, t.val % 8, 0] := by
  decide +kernel

theorem blk0 (t : Fin cfg0.N) (i : Fin 512) (k : Fin 2048) : iblk m c 0 t (ix2 i k) = m ((c : Thread nD τ).loc main_arg0)
    (ix2 (⟨512 * (t.val % 8) + i.val, by omega⟩ : Fin 4096) k) := by
  blk_ext [iblk, V, (idx0 t).1]
theorem blk1 (t : Fin cfg0.N) (ht : t.val < 32) (k : Fin 2048) (f : Fin 1408) : iblk m c 1 t (ix3 0 k f) = m ((c : Thread nD τ).loc main_arg1)
    (ix3 (⟨t.val / 8, by omega⟩ : Fin 4) k f) := by
  blk_ext [iblk, V, (idx0 t).2.1]
theorem emb2 (t : Fin cfg0.N) (ht : t.val < 32) (i : Fin 512) (f : Fin 1408) : ((cfg0.win 2).blk t).view.emb (ix3 (0 : Fin 1) i f)
    = ix3 (⟨t.val / 8, by omega⟩ : Fin 4) (⟨512 * (t.val % 8) + i.val, by omega⟩ : Fin 4096) f := by
  have e := (idx0 t).2.2
  funext a
  apply Fin.ext
  match a with
  | ⟨0, _⟩ => show win0_2.index t (0 : Fin 3) * 1 + 1 * 0 = t.val / 8; rw [e]; show t.val / 8 * 1 + 1 * 0 = _; omega
  | ⟨1, _⟩ => show win0_2.index t (1 : Fin 3) * 512 + 1 * i.val = 512 * (t.val % 8) + i.val; rw [e]; show t.val % 8 * 512 + 1 * i.val = _; omega
  | ⟨2, _⟩ => show win0_2.index t (2 : Fin 3) * 1408 + 1 * f.val = f.val; rw [e]; show 0 * 1408 + 1 * f.val = _; omega

/-- A point's block of the result lies at the point's shard and rows. -/
theorem cut2 (t : Fin cfg0.N) (X : Vec Ideal S1x512x1408 .bf16) (i : Fin 512) (f : Fin 1408) :
    (cfg0.win 2).cut (grid0.coords t) X (ix3 (0 : Fin 1) i f) = X (ix3 0 i f) := rfl

theorem pay_apply (h : Vec Ideal S512x2048 .bf16) (w : Vec Ideal S1x2048x1408 .bf16) (i : Fin 512) (f : Fin 1408) :
    k0_pay1 h w (ix3 0 i f) = ∑ k : Fin 2048, h (ix2 i k) * w (ix3 0 k f) := by
  pointwise [k0_pay1]

/-- What the result's entry holds. -/
abbrev entry (h : Vec Ideal S4096x2048 .bf16) (w : Vec Ideal S4x2048x1408 .bf16) (s : Fin 4) (t : Fin 4096) (f : Fin 1408) : EReal :=
  ∑ k : Fin 2048, h (ix2 t k) * w (ix3 s k f)

/-- Equal rows and shards give equal terms. -/
theorem term_congr (h : Vec Ideal S4096x2048 .bf16) (w : Vec Ideal S4x2048x1408 .bf16) (k : Fin 2048) (f : Fin 1408) {t t' : Fin 4096} {s s' : Fin 4}
    (ht : t = t') (hs : s = s') : h (ix2 t k) * w (ix3 s k f) = h (ix2 t' k) * w (ix3 s' k f) := by
  rw [ht, hs]

/-- What the kernel leaves in the result. -/
theorem result_apply (s : Fin 4) (t : Fin 4096) (f : Fin 1408) :
    (dats m 0 c).arrAt 2 cfg0.N (ix3 s t f) = entry (m ((c : Thread nD τ).loc main_arg0)) (m ((c : Thread nD τ).loc main_arg1)) s t f := by
  have hN : cfg0.N = 32 := N_0
  have hs : (⟨8 * s.val + t.val / 512, by omega⟩ : Fin cfg0.N).val / 8 = s.val := by dsimp only; omega
  have ht : 512 * ((⟨8 * s.val + t.val / 512, by omega⟩ : Fin cfg0.N).val % 8) + t.val % 512 = t.val := by dsimp only; omega
  have h := (dats m 0 c).arrAt_emb_eq_flushed 2 disjoint2 ⟨8 * s.val + t.val / 512, by omega⟩ (flush0_2 _)
    (ix3 (0 : Fin 1) (⟨t.val % 512, by omega⟩ : Fin 512) f)
  rw [emb2 _ (by dsimp only; omega), flushed2, store_eq] at h
  have e0 : (ix3 (⟨(⟨8 * s.val + t.val / 512, by omega⟩ : Fin cfg0.N).val / 8, by omega⟩ : Fin 4)
      (⟨512 * ((⟨8 * s.val + t.val / 512, by omega⟩ : Fin cfg0.N).val % 8) + t.val % 512, by omega⟩ : Fin 4096) f : S4x4096x1408.Idx) = ix3 s t f := by
    rw [show (⟨(⟨8 * s.val + t.val / 512, by omega⟩ : Fin cfg0.N).val / 8, by omega⟩ : Fin 4) = s from Fin.ext hs,
      show (⟨512 * ((⟨8 * s.val + t.val / 512, by omega⟩ : Fin cfg0.N).val % 8) + t.val % 512, by omega⟩ : Fin 4096) = t from Fin.ext ht]
  refine (congrArg ((dats m 0 c).arrAt 2 cfg0.N) e0).symm.trans (h.trans ?_)
  refine (cut2 _ _ _ _).trans ((pay_apply _ _ _ _).trans (Finset.sum_congr rfl fun k _ => ?_))
  rw [blk0, blk1 m c _ (by dsimp only; omega)]
  exact term_congr _ _ k f (Fin.ext ht) (Fin.ext hs)

end Cert.Kernel7Ideal.Ffn

namespace Cert.Reference7Ideal.Ffn

open Cert.Reference7Ideal Cert.Reference7Ideal.Gen
open Idealize.ShloMosaic Idealize.ShloMosaic.TcCoe Idealize.ShloMosaic.Pointwise

/-- The reference's result, entry by entry. -/
theorem result_apply (h : Vec Ideal S4096x2048 .bf16) (w : Vec Ideal S4x2048x1408 .bf16) (s : Fin 4) (t : Fin 4096) (f : Fin 1408) :
    Read.val_main_v4 h w (ix3 s t f) = Cert.Kernel7Ideal.Ffn.entry h w s t f := by
  pointwise [Read.val_main_v4, Read.val_main_v3, Read.val_main_v2, Read.val_main_v1, Read.val_main_v0]
  exact Finset.sum_congr rfl fun k _ => mul_comm _ _

/-- The kernel's result is the reference's function of the kernel's arguments. -/
theorem result_eq (m : (ℓ : Loc Cert.Kernel7Ideal.nD Cert.Kernel7Ideal.τ Cert.Kernel7Ideal.sig) → Buf (Elt Ideal) ℓ) (c : Dev Cert.Kernel7Ideal.nD) :
    (Cert.Kernel7Ideal.Gen.dats m 0 c).arrAt 2 Cert.Kernel7Ideal.cfg0.N
      = Read.val_main_v4 (F := Ideal)
        (m ((c.tc : Thread Cert.Kernel7Ideal.nD Cert.Kernel7Ideal.τ).loc Cert.Kernel7Ideal.main_arg0))
        (m ((c.tc : Thread Cert.Kernel7Ideal.nD Cert.Kernel7Ideal.τ).loc Cert.Kernel7Ideal.main_arg1)) := by
  funext x
  have ex := eq_ix3 x
  rw [ex]
  exact (Cert.Kernel7Ideal.Ffn.result_apply m c _ _ _).trans (result_apply _ _ _ _ _).symm

end Cert.Reference7Ideal.Ffn
-- ==== Proof.Ffn.UpAct.lean ====
/-
  The up projection of a feed-forward half together with the gated activation, one shard of the hidden width after
  another: every block of the results comes from one product of a block of rows with a shard of the weights and the
  same block of the gate.
-/
module

public import proofs.«01_k».proof.Proof.Gen.Kernel8Ideal.Value
public import proofs.«01_k».proof.Proof.Gen.Reference8Ideal.Read
public import proofs.«01_k».proof.Proof.Ffn.Sums

@[expose] public section

noncomputable section

namespace Cert.Kernel8Ideal.Ffn

open Cert.Kernel8Ideal Cert.Kernel8Ideal.Gen Cert.Kernel8Ideal.Value
open Cert.Ffn (hz2 hz3 silu)
open Idealize.ShloMosaic Idealize.ShloMosaic.TcCoe Idealize.ShloMosaic.Pointwise

/-- What a grid point stores of the projection. -/
theorem up_eq {F : FTy → Type} [FloatOps F] (h : Vec F S512x2048 .bf16) (w : Vec F S1x2048x1408 .bf16) (g : Vec F S1x512x1408 .bf16) :
    out0_3 h w g = k0_pay2 h w := by
  unfold out0_3
  rw [View.canon_unit_zero hz3, View.ld_unit_zero (S := S512x2048) hz2, View.ld_unit_zero (S := S1x2048x1408) hz3]

/-- What a grid point stores of the activation. -/
theorem act_eq {F : FTy → Type} [FloatOps F] (h : Vec F S512x2048 .bf16) (w : Vec F S1x2048x1408 .bf16) (g : Vec F S1x512x1408 .bf16) :
    out0_4 h w g = k0_pay3 h w g := by
  unfold out0_4
  rw [View.canon_unit_zero hz3, View.ld_unit_zero (S := S512x2048) hz2, View.ld_unit_zero (S := S1x2048x1408) hz3, View.ld_unit_zero (S := S1x512x1408) hz3]

variable (m : (ℓ : Loc nD τ sig) → Buf (Elt Ideal) ℓ) (c : Dev nD)

/-- The blocks a grid point reads and writes. -/
theorem idx0 : ∀ t : Fin grid0.N, win0_0.index t = ![t.val % 8, 0] ∧ win0_1.index t = ![t.val / 8, 0, 0]
    ∧ win0_2.index t = ![t.val / 8, t.val % 8, 0] ∧ win0_3.index t = ![t.val / 8, t.val % 8, 0] ∧ win0_4.index t = ![t.val / 8, t.val % 8, 0] := by
  decide +kernel

theorem blk0 (t : Fin cfg0.N) (i : Fin 512) (k : Fin 2048) : iblk m c 0 t (ix2 i k) = m ((c : Thread nD τ).loc main_arg0)
    (ix2 (⟨512 * (t.val % 8) + i.val, by omega⟩ : Fin 4096) k) := by
  blk_ext [iblk, V, (idx0 t).1]
theorem blk1 (t : Fin cfg0.N) (ht : t.val < 32) (k : Fin 2048) (f : Fin 1408) : iblk m c 1 t (ix3 0 k f) = m ((c : Thread nD τ).loc main_arg1)
    (ix3 (⟨t.val / 8, by omega⟩ : Fin 4) k f) := by
  blk_ext [iblk, V, (idx0 t).2.1]
theorem blk2 (t : Fin cfg0.N) (ht : t.val < 32) (i : Fin 512) (f : Fin 1408) : iblk m c 2 t (ix3 0 i f) = m ((c : Thread nD τ).loc main_arg2)
    (ix3 (⟨t.val / 8, by omega⟩ : Fin 4) (⟨512 * (t.val % 8) + i.val, by omega⟩ : Fin 4096) f) := by
  blk_ext [iblk, V, (idx0 t).2.2.1]
theorem emb3 (t : Fin cfg0.N) (ht : t.val < 32) (i : Fin 512) (f : Fin 1408) : ((cfg0.win 3).blk t).view.emb (ix3 (0 : Fin 1) i f)
    = ix3 (⟨t.val / 8, by omega⟩ : Fin 4) (⟨512 * (t.val % 8) + i.val, by omega⟩ : Fin 4096) f := by
  have e := (idx0 t).2.2.2.1
  funext a
  apply Fin.ext
  match a with
  | ⟨0, _⟩ => show win0_3.index t (0 : Fin 3) * 1 + 1 * 0 = t.val / 8; rw [e]; show t.val / 8 * 1 + 1 * 0 = _; omega
  | ⟨1, _⟩ => show win0_3.index t (1 : Fin 3) * 512 + 1 * i.val = 512 * (t.val % 8) + i.val; rw [e]; show t.val % 8 * 512 + 1 * i.val = _; omega
  | ⟨2, _⟩ => show win0_3.index t (2 : Fin 3) * 1408 + 1 * f.val = f.val; rw [e]; show 0 * 1408 + 1 * f.val = _; omega

theorem emb4 (t : Fin cfg0.N) (ht : t.val < 32) (i : Fin 512) (f : Fin 1408) : ((cfg0.win 4).blk t).view.emb (ix3 (0 : Fin 1) i f)
    = ix3 (⟨t.val / 8, by omega⟩ : Fin 4) (⟨512 * (t.val % 8) + i.val, by omega⟩ : Fin 4096) f := by
  have e := (idx0 t).2.2.2.2
  funext a
  apply Fin.ext
  match a with
  | ⟨0, _⟩ => show win0_4.index t (0 : Fin 3) * 1 + 1 * 0 = t.val / 8; rw [e]; show t.val / 8 * 1 + 1 * 0 = _; omega
  | ⟨1, _⟩ => show win0_4.index t (1 : Fin 3) * 512 + 1 * i.val = 512 * (t.val % 8) + i.val; rw [e]; show t.val % 8 * 512 + 1 * i.val = _; omega
  | ⟨2, _⟩ => show win0_4.index t (2 : Fin 3) * 1408 + 1 * f.val = f.val; rw [e]; show 0 * 1408 + 1 * f.val = _; omega

theorem cut3 (t : Fin cfg0.N) (X : Vec Ideal S1x512x1408 .bf16) (i : Fin 512) (f : Fin 1408) :
    (cfg0.win 3).cut (grid0.coords t) X (ix3 (0 : Fin 1) i f) = X (ix3 0 i f) := rfl
theorem cut4 (t : Fin cfg0.N) (X : Vec Ideal S1x512x1408 .bf16) (i : Fin 512) (f : Fin 1408) :
    (cfg0.win 4).cut (grid0.coords t) X (ix3 (0 : Fin 1) i f) = X (ix3 0 i f) := rfl

theorem up_apply (h : Vec Ideal S512x2048 .bf16) (w : Vec Ideal S1x2048x1408 .bf16) (i : Fin 512) (f : Fin 1408) :
    k0_pay2 h w (ix3 0 i f) = ∑ k : Fin 2048, h (ix2 i k) * w (ix3 0 k f) := by
  pointwise [k0_pay2, k0_pay1]

theorem act_apply (h : Vec Ideal S512x2048 .bf16) (w : Vec Ideal S1x2048x1408 .bf16) (g : Vec Ideal S1x512x1408 .bf16) (i : Fin 512) (f : Fin 1408) :
    k0_pay3 h w g (ix3 0 i f) = silu (g (ix3 0 i f)) * ∑ k : Fin 2048, h (ix2 i k) * w (ix3 0 k f) := by
  pointwise [k0_pay3, k0_pay1]
  rw [zero_sub]

/-- What the result's entry holds. -/
abbrev entry (h : Vec Ideal S4096x2048 .bf16) (w : Vec Ideal S4x2048x1408 .bf16) (s : Fin 4) (t : Fin 4096) (f : Fin 1408) : EReal :=
  ∑ k : Fin 2048, h (ix2 t k) * w (ix3 s k f)

/-- What the activation's entry holds. -/
abbrev gated (h : Vec Ideal S4096x2048 .bf16) (w : Vec Ideal S4x2048x1408 .bf16) (g : Vec Ideal S4x4096x1408 .bf16) (s : Fin 4) (t : Fin 4096) (f : Fin 1408) : EReal :=
  silu (g (ix3 s t f)) * entry h w s t f

/-- Equal rows and shards give equal terms. -/
theorem term_congr (h : Vec Ideal S4096x2048 .bf16) (w : Vec Ideal S4x2048x1408 .bf16) (k : Fin 2048) (f : Fin 1408) {t t' : Fin 4096} {s s' : Fin 4}
    (ht : t = t') (hs : s = s') : h (ix2 t k) * w (ix3 s k f) = h (ix2 t' k) * w (ix3 s' k f) := by
  rw [ht, hs]

/-- What the kernel leaves in the projection. -/
theorem up_result (s : Fin 4) (t : Fin 4096) (f : Fin 1408) :
    (dats m 0 c).arrAt 3 cfg0.N (ix3 s t f) = entry (m ((c : Thread nD τ).loc main_arg0)) (m ((c : Thread nD τ).loc main_arg1)) s t f := by
  have hN : cfg0.N = 32 := N_0
  have hs : (⟨8 * s.val + t.val / 512, by omega⟩ : Fin cfg0.N).val / 8 = s.val := by dsimp only; omega
  have ht : 512 * ((⟨8 * s.val + t.val / 512, by omega⟩ : Fin cfg0.N).val % 8) + t.val % 512 = t.val := by dsimp only; omega
  have h := (dats m 0 c).arrAt_emb_eq_flushed 3 disjoint3 ⟨8 * s.val + t.val / 512, by omega⟩ (flush0_3 _)
    (ix3 (0 : Fin 1) (⟨t.val % 512, by omega⟩ : Fin 512) f)
  rw [emb3 _ (by dsimp only; omega), flushed3, up_eq] at h
  have e0 : (ix3 (⟨(⟨8 * s.val + t.val / 512, by omega⟩ : Fin cfg0.N).val / 8, by omega⟩ : Fin 4)
      (⟨512 * ((⟨8 * s.val + t.val / 512, by omega⟩ : Fin cfg0.N).val % 8) + t.val % 512, by omega⟩ : Fin 4096) f : S4x4096x1408.Idx) = ix3 s t f := by
    rw [show (⟨(⟨8 * s.val + t.val / 512, by omega⟩ : Fin cfg0.N).val / 8, by omega⟩ : Fin 4) = s from Fin.ext hs,
      show (⟨512 * ((⟨8 * s.val + t.val / 512, by omega⟩ : Fin cfg0.N).val % 8) + t.val % 512, by omega⟩ : Fin 4096) = t from Fin.ext ht]
  refine (congrArg ((dats m 0 c).arrAt 3 cfg0.N) e0).symm.trans (h.trans ?_)
  refine (cut3 _ _ _ _).trans ((up_apply _ _ _ _).trans (Finset.sum_congr rfl fun k _ => ?_))
  rw [blk0, blk1 m c _ (by dsimp only; omega)]
  exact term_congr _ _ k f (Fin.ext ht) (Fin.ext hs)

/-- What the kernel leaves in the activation. -/
theorem act_result (s : Fin 4) (t : Fin 4096) (f : Fin 1408) :
    (dats m 0 c).arrAt 4 cfg0.N (ix3 s t f) = gated (m ((c : Thread nD τ).loc main_arg0)) (m ((c : Thread nD τ).loc main_arg1))
      (m ((c : Thread nD τ).loc main_arg2)) s t f := by
  have hN : cfg0.N = 32 := N_0
  have hs : (⟨8 * s.val + t.val / 512, by omega⟩ : Fin cfg0.N).val / 8 = s.val := by dsimp only; omega
  have ht : 512 * ((⟨8 * s.val + t.val / 512, by omega⟩ : Fin cfg0.N).val % 8) + t.val % 512 = t.val := by dsimp only; omega
  have h := (dats m 0 c).arrAt_emb_eq_flushed 4 disjoint4 ⟨8 * s.val + t.val / 512, by omega⟩ (flush0_4 _)
    (ix3 (0 : Fin 1) (⟨t.val % 512, by omega⟩ : Fin 512) f)
  rw [emb4 _ (by dsimp only; omega), flushed4, act_eq] at h
  have e0 : (ix3 (⟨(⟨8 * s.val + t.val / 512, by omega⟩ : Fin cfg0.N).val / 8, by omega⟩ : Fin 4)
      (⟨512 * ((⟨8 * s.val + t.val / 512, by omega⟩ : Fin cfg0.N).val % 8) + t.val % 512, by omega⟩ : Fin 4096) f : S4x4096x1408.Idx) = ix3 s t f := by
    rw [show (⟨(⟨8 * s.val + t.val / 512, by omega⟩ : Fin cfg0.N).val / 8, by omega⟩ : Fin 4) = s from Fin.ext hs,
      show (⟨512 * ((⟨8 * s.val + t.val / 512, by omega⟩ : Fin cfg0.N).val % 8) + t.val % 512, by omega⟩ : Fin 4096) = t from Fin.ext ht]
  refine (congrArg ((dats m 0 c).arrAt 4 cfg0.N) e0).symm.trans (h.trans ?_)
  refine (cut4 _ _ _ _).trans ((act_apply _ _ _ _ _).trans (congrArg₂ (fun x y : EReal => silu x * y) ?_ (Finset.sum_congr rfl fun k _ => ?_)))
  · rw [blk2 m c _ (by dsimp only; omega)]
    exact congrArg (m ((c : Thread nD τ).loc main_arg2)) e0
  · rw [blk0, blk1 m c _ (by dsimp only; omega)]
    exact term_congr _ _ k f (Fin.ext ht) (Fin.ext hs)

end Cert.Kernel8Ideal.Ffn

namespace Cert.Reference8Ideal.Ffn

open Cert.Reference8Ideal Cert.Reference8Ideal.Gen
open Idealize.ShloMosaic Idealize.ShloMosaic.TcCoe Idealize.ShloMosaic.Pointwise

/-- The reference's projection, entry by entry. -/
theorem up_result (h : Vec Ideal S4096x2048 .bf16) (w : Vec Ideal S4x2048x1408 .bf16) (s : Fin 4) (t : Fin 4096) (f : Fin 1408) :
    Read.val_main_v5 h w (ix3 s t f) = Cert.Kernel8Ideal.Ffn.entry h w s t f := by
  pointwise [Read.val_main_v5, Read.val_main_v4, Read.val_main_v3, Read.val_main_v1, Read.val_main_v0]
  exact Finset.sum_congr rfl fun k _ => mul_comm _ _

/-- The reference's activation, entry by entry. -/
theorem act_result (h : Vec Ideal S4096x2048 .bf16) (w : Vec Ideal S4x2048x1408 .bf16) (g : Vec Ideal S4x4096x1408 .bf16) (s : Fin 4) (t : Fin 4096) (f : Fin 1408) :
    Read.val_main_v8 h w g (ix3 s t f) = Cert.Kernel8Ideal.Ffn.gated h w g s t f := by
  pointwise [Read.val_main_v8, Read.val_main_v7, Read.val_main_v6, Read.val_main_v4, Read.val_main_v3, Read.val_main_v2, Read.val_main_v1, Read.val_main_v0,
    Read.val_main_call0_v5, Read.val_main_call0_v4, Read.val_main_call0_v3, Read.val_main_call0_v2, Read.val_main_call0_v1, Read.val_main_call0_v0,
    Read.val_main_call0_cst, Read.val_main_call0_cst_0]
  exact congrArg _ (Finset.sum_congr rfl fun k _ => mul_comm _ _)

/-- The kernel's projection is the reference's function of the kernel's arguments. -/
theorem up_eq (m : (ℓ : Loc Cert.Kernel8Ideal.nD Cert.Kernel8Ideal.τ Cert.Kernel8Ideal.sig) → Buf (Elt Ideal) ℓ) (c : Dev Cert.Kernel8Ideal.nD) :
    (Cert.Kernel8Ideal.Gen.dats m 0 c).arrAt 3 Cert.Kernel8Ideal.cfg0.N
      = Read.val_main_v5 (F := Ideal)
        (m ((c.tc : Thread Cert.Kernel8Ideal.nD Cert.Kernel8Ideal.τ).loc Cert.Kernel8Ideal.main_arg0))
        (m ((c.tc : Thread Cert.Kernel8Ideal.nD Cert.Kernel8Ideal.τ).loc Cert.Kernel8Ideal.main_arg1)) := by
  funext x
  have ex := eq_ix3 x
  rw [ex]
  exact (Cert.Kernel8Ideal.Ffn.up_result m c _ _ _).trans (up_result _ _ _ _ _).symm

/-- The kernel's activation is the reference's function of the kernel's arguments. -/
theorem act_eq (m : (ℓ : Loc Cert.Kernel8Ideal.nD Cert.Kernel8Ideal.τ Cert.Kernel8Ideal.sig) → Buf (Elt Ideal) ℓ) (c : Dev Cert.Kernel8Ideal.nD) :
    (Cert.Kernel8Ideal.Gen.dats m 0 c).arrAt 4 Cert.Kernel8Ideal.cfg0.N
      = Read.val_main_v8 (F := Ideal)
        (m ((c.tc : Thread Cert.Kernel8Ideal.nD Cert.Kernel8Ideal.τ).loc Cert.Kernel8Ideal.main_arg0))
        (m ((c.tc : Thread Cert.Kernel8Ideal.nD Cert.Kernel8Ideal.τ).loc Cert.Kernel8Ideal.main_arg1))
        (m ((c.tc : Thread Cert.Kernel8Ideal.nD Cert.Kernel8Ideal.τ).loc Cert.Kernel8Ideal.main_arg2)) := by
  funext x
  have ex := eq_ix3 x
  rw [ex]
  exact (Cert.Kernel8Ideal.Ffn.act_result m c _ _ _).trans (act_result _ _ _ _ _ _).symm

end Cert.Reference8Ideal.Ffn
-- ==== Proof.Ffn.Down.lean ====
/-
  The down projection of a feed-forward half, added to the residual stream: the kernel adds the product of one shard
  of the hidden width after that of another, halves the sum and adds it to the stream; the reference sums over all of
  the hidden width.
-/
module

public import proofs.«01_k».proof.Proof.Gen.Kernel9Ideal.Value
public import proofs.«01_k».proof.Proof.Gen.Reference9Ideal.Read
public import proofs.«01_k».proof.Proof.Ffn.Sums

@[expose] public section

noncomputable section

namespace Cert.Kernel9Ideal.Ffn

open Cert.Kernel9Ideal Cert.Kernel9Ideal.Gen Cert.Kernel9Ideal.Value
open Cert.Ffn (hz2 hz3 off2)
open Idealize.ShloMosaic Idealize.ShloMosaic.TcCoe Idealize.ShloMosaic.Pointwise

section Body
variable {F : FTy → Type} [FloatOps F]
variable (c : Dev nD) (i : grid0.Coords) (a2 : Memref sig .tc .vmem S1x512x1408 .bf16) (h2 : a2.IsWhole)
  (a3 : Memref sig .tc .vmem S1x1408x2048 .bf16) (h3 : a3.IsWhole) (a4 : Memref sig .tc .vmem S512x2048 .f32) (h4 : a4.IsWhole)
  (a5 : Memref sig .tc .vmem S512x2048 .f32) (h5 : a5.IsWhole) (a6 : Memref sig .tc .vmem S512x2048 .f32) (h6 : a6.IsWhole)
  (act : Vec F S1x512x1408 .bf16) (w : Vec F S1x1408x2048 .bf16) (x z : Vec F S512x2048 .f32)

/-- A first step adds its product to zero. -/
theorem first_eq (g0 : cond0_0 i) (g1 : ¬cond0_1 i) :
    sout0_A_0 c i a2 h2 a3 h3 a4 h4 a5 h5 a6 h6 g0 g1 act w x = k0_pay2 (k0_pay1 (F := F)) act w := by
  unfold sout0_A_0
  rw [View.read_writes_eq_canon _ _ _ (scover0_A_0 c i a2 h2 a3 h3 a4 h4 a5 h5 a6 h6 g0 g1 act w x)]
  unfold kernelRun0_A
  dsimp only
  sl_unfold_words
  rw [View.canon_cons_unit_zero (S := S512x2048) hz2]
  simp only [View.readCov_cons_unit_lit' (S := S512x2048) _ _ _ _ _ off2 off2, View.readCov_unit_zero (S := S512x2048) _ hz2, View.readAt_eq_ld, h2.read_unread, h3.read_unread, View.ld_unit_zero (S := S1x512x1408) hz3, View.ld_unit_zero (S := S1x1408x2048) hz3]

/-- A middle step adds its product to what the step before left. -/
theorem middle_eq (g0 : ¬cond0_0 i) (g1 : ¬cond0_1 i) :
    sout0_B_0 c i a2 h2 a3 h3 a4 h4 a5 h5 a6 h6 g0 g1 act w x z = k0_pay2 z act w := by
  unfold sout0_B_0
  rw [View.read_writes_eq_canon _ _ _ (scover0_B_0 c i a2 h2 a3 h3 a4 h4 a5 h5 a6 h6 g0 g1 act w x z)]
  unfold kernelRun0_B
  dsimp only
  sl_unfold_words
  rw [View.canon_unit_zero hz2]
  simp only [View.readAt_eq_ld, h2.read_unread, h3.read_unread, h6.read_unread, View.ld_unit_zero (S := S1x512x1408) hz3, View.ld_unit_zero (S := S1x1408x2048) hz3, View.ld_unit_zero (S := S512x2048) hz2]

/-- A last step stores the stream and half of the sum. -/
theorem last_eq (g0 : ¬cond0_0 i) (g1 : cond0_1 i) :
    out0_C_3 c i a2 h2 a3 h3 a4 h4 a5 h5 a6 h6 g0 g1 act w x z = k0_pay3 x (k0_pay2 z act w) := by
  unfold out0_C_3
  rw [View.read_writes_eq_canon _ _ _ (cover0_C_3 c i a2 h2 a3 h3 a4 h4 a5 h5 a6 h6 g0 g1 act w x z)]
  unfold kernelRun0_C
  dsimp only
  sl_unfold_words
  rw [View.canon_unit_zero hz2]
  simp only [View.readCov_unit_zero (S := S512x2048) _ hz2, View.readAt_eq_ld, h2.read_unread, h3.read_unread, h4.read_unread, h6.read_unread, View.ld_unit_zero (S := S1x512x1408) hz3, View.ld_unit_zero (S := S1x1408x2048) hz3, View.ld_unit_zero (S := S512x2048) hz2]
end Body

variable (m : (ℓ : Loc nD τ sig) → Buf (Elt Ideal) ℓ) (c : Dev nD)

/-- The blocks a grid point reads. -/
theorem idx0 : ∀ t : Fin grid0.N, win0_0.index t = ![t.val % 4, t.val / 4, 0] ∧ win0_1.index t = ![t.val % 4, 0, 0]
    ∧ win0_2.index t = ![t.val / 4, 0] := by
  decide +kernel

theorem blk0 (t : Fin cfg0.N) (ht : t.val < 32) (i : Fin 512) (f : Fin 1408) : iblk m c 0 t (ix3 0 i f) = m ((c : Thread nD τ).loc main_arg0)
    (ix3 (⟨t.val % 4, by omega⟩ : Fin 4) (⟨512 * (t.val / 4) + i.val, by omega⟩ : Fin 4096) f) := by
  blk_ext [iblk, V, (idx0 t).1]
theorem blk1 (t : Fin cfg0.N) (f : Fin 1408) (d : Fin 2048) : iblk m c 1 t (ix3 0 f d) = m ((c : Thread nD τ).loc main_arg1)
    (ix3 (⟨t.val % 4, by omega⟩ : Fin 4) f d) := by
  blk_ext [iblk, V, (idx0 t).2.1]
theorem blk2 (t : Fin cfg0.N) (ht : t.val < 32) (i : Fin 512) (d : Fin 2048) : iblk m c 2 t (ix2 i d) = m ((c : Thread nD τ).loc main_arg2)
    (ix2 (⟨512 * (t.val / 4) + i.val, by omega⟩ : Fin 4096) d) := by
  blk_ext [iblk, V, (idx0 t).2.2]

/-- The factor of the half step, as it is written. -/
abbrev half : EReal := Ideal.ofBits .f32 0x3F000000#32

/-- A step, entry by entry. -/
theorem step_apply (act : Vec Ideal S1x512x1408 .bf16) (w : Vec Ideal S1x1408x2048 .bf16) (z : Vec Ideal S512x2048 .f32) (i : Fin 512) (d : Fin 2048) :
    k0_pay2 z act w (ix2 i d) = z (ix2 i d) + ∑ f : Fin 1408, act (ix3 0 i f) * w (ix3 0 f d) := by
  pointwise [k0_pay2]

theorem zero_apply (i : Fin 512) (d : Fin 2048) : k0_pay1 (F := Ideal) (ix2 i d) = 0 := by
  pointwise [k0_pay1]

theorem store_apply (x z : Vec Ideal S512x2048 .f32) (i : Fin 512) (d : Fin 2048) : k0_pay3 x z (ix2 i d) = x (ix2 i d) + half * z (ix2 i d) := by
  pointwise [k0_pay3]

/-- The products a shard adds. -/
abbrev part (y : Vec Ideal S4x4096x1408 .bf16) (w : Vec Ideal S4x1408x2048 .bf16) (t : Fin 4096) (d : Fin 2048) (s : Fin 4) : EReal :=
  ∑ f : Fin 1408, y (ix3 s t f) * w (ix3 s f d)

/-- What the result's entry holds. -/
abbrev entry (y : Vec Ideal S4x4096x1408 .bf16) (w : Vec Ideal S4x1408x2048 .bf16) (x : Vec Ideal S4096x2048 .f32) (t : Fin 4096) (d : Fin 2048) : EReal :=
  x (ix2 t d) + half * ∑ s : Fin 4, part y w t d s

theorem step_at (p : Fin 8) (s : Fin 4) (h : 4 * p.val + s.val < cfg0.N) (z : Vec Ideal S512x2048 .f32) (i : Fin 512) (d : Fin 2048) :
    k0_pay2 z (iblk m c 0 ⟨4 * p.val + s.val, h⟩) (iblk m c 1 ⟨4 * p.val + s.val, h⟩) (ix2 i d) = z (ix2 i d)
      + part (m ((c : Thread nD τ).loc main_arg0)) (m ((c : Thread nD τ).loc main_arg1)) ⟨512 * p.val + i.val, by omega⟩ d s := by
  have hN : cfg0.N = 32 := N_0
  have e1 : (⟨(4 * p.val + s.val) % 4, by omega⟩ : Fin 4) = s := Fin.ext (by dsimp only; omega)
  have e2 : (⟨512 * ((4 * p.val + s.val) / 4) + i.val, by omega⟩ : Fin 4096) = ⟨512 * p.val + i.val, by omega⟩ := Fin.ext (by dsimp only; omega)
  rw [step_apply]
  refine congrArg _ (Finset.sum_congr rfl fun f _ => ?_)
  rw [blk0 m c _ (by dsimp only; omega), blk1]
  dsimp only
  rw [e1, e2]

/-- What the kernel leaves in the result. -/
theorem result_apply (t : Fin 4096) (d : Fin 2048) :
    G3 m c (ix2 t d) = entry (m ((c : Thread nD τ).loc main_arg0)) (m ((c : Thread nD τ).loc main_arg1)) (m ((c : Thread nD τ).loc main_arg2)) t d := by
  have hN : cfg0.N = 32 := N_0
  obtain ⟨p, i, rfl⟩ : ∃ (p : Fin 8) (i : Fin 512), t = ⟨512 * p.val + i.val, by omega⟩ :=
    ⟨⟨t.val / 512, by omega⟩, ⟨t.val % 512, by omega⟩, Fin.ext (Nat.div_add_mod _ _).symm⟩
  have hp : pt3Of (ix2 (⟨512 * p.val + i.val, by omega⟩ : Fin 4096) d) = 4 * p.val + 3 := by
    show 4 * (1 * ((512 * p.val + i.val) / 512 - 0) + 1 * (d.val / 2048 - 0)) + 3 = _
    omega
  have hl : loc3Of (ix2 (⟨512 * p.val + i.val, by omega⟩ : Fin 4096) d) = ix2 i d := by
    funext q
    apply Fin.ext
    match q with
    | ⟨0, _⟩ => show (512 * p.val + i.val) % 512 = i.val; omega
    | ⟨1, _⟩ => exact Nat.mod_eq_of_lt d.isLt
  have hlt : 4 * p.val + 3 < cfg0.N := by omega
  have hrow : (⟨512 * ((4 * p.val + 3) / 4) + i.val, by omega⟩ : Fin 4096) = ⟨512 * p.val + i.val, by omega⟩ := Fin.ext (by dsimp only; omega)
  unfold G3
  rw [dif_pos (hp ▸ hlt), hl, fold0_congr m c _ _ (4 * p.val + 3) (by omega) hp, ← outsAt0_sweep m c _ hlt,
    outsAt0_C m c ⟨_, hlt⟩ (by dsimp only; omega) (by dsimp only; omega)]
  dsimp only
  rw [last_eq, outsAt0_B m c ⟨4 * p.val + 3 - 1, by omega⟩ (by dsimp only; omega) (by dsimp only; omega)]
  dsimp only
  rw [middle_eq, outsAt0_B m c ⟨4 * p.val + 3 - 1 - 1, by omega⟩ (by dsimp only; omega) (by dsimp only; omega)]
  dsimp only
  rw [middle_eq, outsAt0_A m c ⟨4 * p.val + 3 - 1 - 1 - 1, by omega⟩ (by dsimp only; omega) (by dsimp only; omega)]
  dsimp only
  rw [first_eq, store_apply, blk2 m c _ (by dsimp only; omega)]
  have s3 := step_at m c p 3 hlt
  have s2 := step_at m c p 2 (by show 4 * p.val + 2 < _; omega)
  have s1 := step_at m c p 1 (by show 4 * p.val + 1 < _; omega)
  have s0 := step_at m c p 0 (by show 4 * p.val + 0 < _; omega)
  refine congrArg₂ _ (congrArg _ (congrArg (fun r => ix2 r d) hrow)) (congrArg _ ((s3 _ i d).trans ?_))
  rw [show ∀ z, k0_pay2 z (iblk m c 0 ⟨4 * p.val + 3 - 1, _⟩) (iblk m c 1 ⟨4 * p.val + 3 - 1, _⟩) (ix2 i d) = _ from fun z => s2 z i d,
    show ∀ z, k0_pay2 z (iblk m c 0 ⟨4 * p.val + 3 - 1 - 1, _⟩) (iblk m c 1 ⟨4 * p.val + 3 - 1 - 1, _⟩) (ix2 i d) = _ from fun z => s1 z i d,
    show ∀ z, k0_pay2 z (iblk m c 0 ⟨4 * p.val + 3 - 1 - 1 - 1, _⟩) (iblk m c 1 ⟨4 * p.val + 3 - 1 - 1 - 1, _⟩) (ix2 i d) = _ from fun z => s0 z i d,
    zero_apply, Fin.sum_univ_four, zero_add]

end Cert.Kernel9Ideal.Ffn

namespace Cert.Reference9Ideal.Ffn

open Cert.Reference9Ideal Cert.Reference9Ideal.Gen
open Idealize.ShloMosaic Idealize.ShloMosaic.TcCoe Idealize.ShloMosaic.Pointwise

/-- The reference's result, entry by entry. -/
theorem result_apply (act : Vec Ideal S4x4096x1408 .bf16) (w : Vec Ideal S4x1408x2048 .bf16) (x : Vec Ideal S4096x2048 .f32) (t : Fin 4096) (d : Fin 2048) :
    Read.val_main_v5 act w x (ix2 t d) = Cert.Kernel9Ideal.Ffn.entry act w x t d := by
  pointwise [Read.val_main_v5, Read.val_main_v4, Read.val_main_v3, Read.val_main_cst, Read.val_main_v2, Read.val_main_v1, Read.val_main_v0]
  rw [Cert.Kernel9Ideal.Ffn.entry, Finset.sum_comm]

/-- The kernel's result is the reference's function of the kernel's arguments. -/
theorem result_eq (m : (ℓ : Loc Cert.Kernel9Ideal.nD Cert.Kernel9Ideal.τ Cert.Kernel9Ideal.sig) → Buf (Elt Ideal) ℓ) (c : Dev Cert.Kernel9Ideal.nD) :
    Cert.Kernel9Ideal.Value.G3 m c
      = Read.val_main_v5 (F := Ideal)
        (m ((c.tc : Thread Cert.Kernel9Ideal.nD Cert.Kernel9Ideal.τ).loc Cert.Kernel9Ideal.main_arg0))
        (m ((c.tc : Thread Cert.Kernel9Ideal.nD Cert.Kernel9Ideal.τ).loc Cert.Kernel9Ideal.main_arg1))
        (m ((c.tc : Thread Cert.Kernel9Ideal.nD Cert.Kernel9Ideal.τ).loc Cert.Kernel9Ideal.main_arg2)) := by
  funext x
  have ex := eq_ix2 x
  rw [ex]
  exact (Cert.Kernel9Ideal.Ffn.result_apply m c _ _).trans (result_apply _ _ _ _ _).symm

end Cert.Reference9Ideal.Ffn
-- ==== Proof.Proj.InGrad.lean ====
/-
  The weight gradient of the input projection: the kernel adds the two halves of the tokens in turn, and the
  reference sums over all the tokens at once.
-/
module

public import proofs.«01_k».proof.Proof.Gen.Kernel10Ideal.Value
public import proofs.«01_k».proof.Proof.Gen.Reference10Ideal.Read
public import proofs.«01_k».proof.Proof.Ffn.Sums

@[expose] public section

noncomputable section

namespace Cert.Kernel10Ideal.Proj

open Cert.Kernel10Ideal Cert.Kernel10Ideal.Gen Cert.Kernel10Ideal.Value
open Cert.Ffn (hz2 hz3 hz4 sum_halves)
open Idealize.ShloMosaic Idealize.ShloMosaic.TcCoe Idealize.ShloMosaic.Pointwise

section Body
variable {F : FTy → Type} [FloatOps F]
variable (c : Dev nD) (i : grid0.Coords) (a3 : Memref sig .tc .vmem S2048x1024 .bf16) (h3 : a3.IsWhole)
  (a4 : Memref sig .tc .vmem S2048x1152 .bf16) (h4 : a4.IsWhole) (a5 : Memref sig .tc .vmem S1x1x1024x1152 .bf16) (h5 : a5.IsWhole)
  (a6 : Memref sig .tc .vmem S1024x1152 .f32) (h6 : a6.IsWhole)

/-- A first step leaves its product added to zero. -/
theorem first_eq (g0 : cond0_0 i) (g1 : ¬cond0_1 i) (x : Vec F S2048x1024 .bf16) (y : Vec F S2048x1152 .bf16) :
    sout0_A_0 c i a3 h3 a4 h4 a5 h5 a6 h6 g0 g1 x y = k0_pay2 y (k0_pay1 (F := F)) x := by
  unfold sout0_A_0
  rw [View.read_writes_eq_canon _ _ _ (scover0_A_0 c i a3 h3 a4 h4 a5 h5 a6 h6 g0 g1 x y)]
  unfold kernelRun0_A
  dsimp only
  sl_unfold_words
  rw [View.canon_cons_unit_zero (S := S1024x1152) hz2]
  simp only [View.readCov_unit_zero (S := S1024x1152) _ hz2, View.readAt_eq_ld, h3.read_unread, h4.read_unread, View.ld_unit_zero (S := S2048x1024) hz2, View.ld_unit_zero (S := S2048x1152) hz2]

/-- A last step adds its product to what the first left, and rounds the sum. -/
theorem last_eq (g0 : ¬cond0_0 i) (g1 : cond0_1 i) (x : Vec F S2048x1024 .bf16) (y : Vec F S2048x1152 .bf16) (z : Vec F S1024x1152 .f32) :
    out0_B_2 c i a3 h3 a4 h4 a5 h5 a6 h6 g0 g1 x y z = k0_pay3 (k0_pay2 y z x) := by
  unfold out0_B_2
  rw [View.read_writes_eq_canon _ _ _ (cover0_B_2 c i a3 h3 a4 h4 a5 h5 a6 h6 g0 g1 x y z)]
  unfold kernelRun0_B
  dsimp only
  sl_unfold_words
  rw [View.canon_unit_zero hz4]
  simp only [View.readCov_unit_zero (S := S1024x1152) _ hz2, View.readAt_eq_ld, h3.read_unread, h4.read_unread, h6.read_unread, View.ld_unit_zero (S := S2048x1024) hz2, View.ld_unit_zero (S := S2048x1152) hz2, View.ld_unit_zero (S := S1024x1152) hz2]
end Body

variable (m : (ℓ : Loc nD τ sig) → Buf (Elt Ideal) ℓ) (c : Dev nD)

/-- The blocks a grid point reads. -/
theorem idx0 : ∀ t : Fin grid0.N, win0_0.index t = ![t.val % 2, t.val / 2 % 2] ∧ win0_1.index t = ![t.val % 2, t.val / 4] := by
  decide +kernel

theorem blk0 (t : Fin cfg0.N) (k : Fin 2048) (a : Fin 1024) : iblk m c 0 t (ix2 k a) = m ((c : Thread nD τ).loc main_arg0)
    (ix2 (⟨2048 * (t.val % 2) + k.val, by omega⟩ : Fin 4096) (⟨1024 * (t.val / 2 % 2) + a.val, by omega⟩ : Fin 2048)) := by
  blk_ext [iblk, V, (idx0 t).1]

theorem blk1 (t : Fin cfg0.N) (ht : t.val < 16) (k : Fin 2048) (b : Fin 1152) : iblk m c 1 t (ix2 k b) = m ((c : Thread nD τ).loc main_arg1)
    (ix2 (⟨2048 * (t.val % 2) + k.val, by omega⟩ : Fin 4096) (⟨1152 * (t.val / 4) + b.val, by omega⟩ : Fin 4608)) := by
  blk_ext [iblk, V, (idx0 t).2]

/-- The kernel's product, entry by entry. -/
theorem prod_apply (y : Vec Ideal S2048x1152 .bf16) (z : Vec Ideal S1024x1152 .f32) (x : Vec Ideal S2048x1024 .bf16) (a : Fin 1024) (b : Fin 1152) :
    k0_pay2 y z x (ix2 a b) = z (ix2 a b) + ∑ k : Fin 2048, x (ix2 k a) * y (ix2 k b) := by
  pointwise [k0_pay2]

theorem zero_apply (a : Fin 1024) (b : Fin 1152) : k0_pay1 (F := Ideal) (ix2 a b) = 0 := by
  pointwise [k0_pay1]

theorem round_apply (z : Vec Ideal S1024x1152 .f32) (a : Fin 1024) (b : Fin 1152) : k0_pay3 z (ix4 0 0 a b) = z (ix2 a b) := by
  pointwise [k0_pay3]

/-- The sum the result's entry holds: over all the tokens. -/
abbrev entry (x : Vec Ideal S4096x2048 .bf16) (y : Vec Ideal S4096x4608 .bf16) (j : Fin 2) (s : Fin 4) (a : Fin 1024) (b : Fin 1152) : EReal :=
  ∑ k : Fin 4096, x (ix2 k (⟨1024 * j.val + a.val, by omega⟩ : Fin 2048)) * y (ix2 k (⟨1152 * s.val + b.val, by omega⟩ : Fin 4608))

/-- What the kernel leaves in the result. -/
theorem result_apply (j : Fin 2) (s : Fin 4) (a : Fin 1024) (b : Fin 1152) :
    G2 m c (ix4 j s a b) = entry (m ((c : Thread nD τ).loc main_arg0)) (m ((c : Thread nD τ).loc main_arg1)) j s a b := by
  have hN : cfg0.N = 16 := N_0
  have hp : pt2Of (ix4 j s a b) = 2 * (j.val + 2 * s.val) + 1 := by
    show 2 * (1 * (j.val / 1 - 0) + 2 * (s.val / 1 - 0) + 8 * (a.val / 1024 - 0) + 8 * (b.val / 1152 - 0)) + 1 = _
    omega
  have hl : loc2Of (ix4 j s a b) = ix4 (0 : Fin 1) (0 : Fin 1) a b := by
    funext q
    apply Fin.ext
    match q with
    | ⟨0, _⟩ => exact Nat.mod_one _
    | ⟨1, _⟩ => exact Nat.mod_one _
    | ⟨2, _⟩ => exact Nat.mod_eq_of_lt a.isLt
    | ⟨3, _⟩ => exact Nat.mod_eq_of_lt b.isLt
  have hlt : 2 * (j.val + 2 * s.val) + 1 < cfg0.N := by omega
  unfold G2
  rw [dif_pos (hp ▸ hlt), hl, fold0_congr m c _ _ (2 * (j.val + 2 * s.val) + 1) (by omega) hp, ← outsAt0_sweep m c _ hlt,
    outsAt0_B m c ⟨_, hlt⟩ (by dsimp only; omega) (by dsimp only; omega)]
  dsimp only
  rw [last_eq, round_apply, prod_apply,
    outsAt0_A m c ⟨2 * (j.val + 2 * s.val) + 1 - 1, by omega⟩ (by dsimp only; omega) (by dsimp only; omega)]
  dsimp only
  rw [first_eq, prod_apply, zero_apply, zero_add, entry, sum_halves (n := 2048) rfl]
  refine congrArg₂ _ (Finset.sum_congr rfl fun k _ => ?_) (Finset.sum_congr rfl fun k _ => ?_)
  · rw [blk0, blk1 m c _ (by dsimp only; omega)]
    refine congrArg₂ _ (congrArg _ ?_) (congrArg _ ?_)
    all_goals (dsimp only; congr 1 <;> (apply Fin.ext; dsimp only; omega))
  · rw [blk0, blk1 m c _ (by dsimp only; omega)]
    refine congrArg₂ _ (congrArg _ ?_) (congrArg _ ?_)
    all_goals (dsimp only; congr 1 <;> (apply Fin.ext; dsimp only; omega))

end Cert.Kernel10Ideal.Proj

namespace Cert.Reference10Ideal.Proj

open Cert.Reference10Ideal Cert.Reference10Ideal.Gen
open Idealize.ShloMosaic Idealize.ShloMosaic.TcCoe Idealize.ShloMosaic.Pointwise

/-- The reference's result, entry by entry. -/
theorem result_apply (x : Vec Ideal S4096x2048 .bf16) (y : Vec Ideal S4096x4608 .bf16) (j : Fin 2) (s : Fin 4) (a : Fin 1024) (b : Fin 1152) :
    Read.val_main_v10 x y (ix4 j s a b) = Cert.Kernel10Ideal.Proj.entry x y j s a b := by
  pointwise [Read.val_main_v10, Read.val_main_v9, Read.val_main_v8, Read.val_main_v7, Read.val_main_v6, Read.val_main_v5, Read.val_main_v1, Read.val_main_v0]
  rw [Cert.Kernel10Ideal.Proj.entry]
  refine Finset.sum_congr rfl fun k _ => ?_
  rw [mul_comm]
  congr 3 <;> (apply Fin.ext; dsimp only; omega)

/-- The kernel's result is the reference's function of the kernel's arguments. -/
theorem result_eq (m : (ℓ : Loc Cert.Kernel10Ideal.nD Cert.Kernel10Ideal.τ Cert.Kernel10Ideal.sig) → Buf (Elt Ideal) ℓ) (c : Dev Cert.Kernel10Ideal.nD) :
    Cert.Kernel10Ideal.Value.G2 m c
      = Read.val_main_v10 (F := Ideal)
        (m ((c.tc : Thread Cert.Kernel10Ideal.nD Cert.Kernel10Ideal.τ).loc Cert.Kernel10Ideal.main_arg0))
        (m ((c.tc : Thread Cert.Kernel10Ideal.nD Cert.Kernel10Ideal.τ).loc Cert.Kernel10Ideal.main_arg1)) := by
  funext x
  have ex := eq_ix4 x
  rw [ex]
  exact (Cert.Kernel10Ideal.Proj.result_apply m c _ _ _ _).trans (result_apply _ _ _ _ _ _).symm

end Cert.Reference10Ideal.Proj
-- ==== Proof.Proj.InBack.lean ====
/-
  The gradient of the input projection's input: the kernel adds the product of one shard of the projection's columns
  after that of another, and the reference sums over all of them.
-/
module

public import proofs.«01_k».proof.Proof.Gen.Kernel11Ideal.Value
public import proofs.«01_k».proof.Proof.Gen.Reference11Ideal.Read
public import proofs.«01_k».proof.Proof.Ffn.Sums

@[expose] public section

noncomputable section

namespace Cert.Kernel11Ideal.Proj

open Cert.Kernel11Ideal Cert.Kernel11Ideal.Gen Cert.Kernel11Ideal.Value
open Cert.Ffn (hz2 hz3 off2)
open Idealize.ShloMosaic Idealize.ShloMosaic.TcCoe Idealize.ShloMosaic.Pointwise

section Body
variable {F : FTy → Type} [FloatOps F]
variable (c : Dev nD) (i : grid0.Coords) (a2 : Memref sig .tc .vmem S512x1152 .bf16) (h2 : a2.IsWhole)
  (a3 : Memref sig .tc .vmem S1x2048x1152 .bf16) (h3 : a3.IsWhole) (a4 : Memref sig .tc .vmem S512x2048 .f32) (h4 : a4.IsWhole)
  (a5 : Memref sig .tc .vmem S512x2048 .f32) (h5 : a5.IsWhole)
  (dp : Vec F S512x1152 .bf16) (w : Vec F S1x2048x1152 .bf16) (z : Vec F S512x2048 .f32)

/-- A first step adds its product to zero. -/
theorem first_eq (g0 : cond0_0 i) (g1 : ¬cond0_1 i) :
    sout0_A_0 c i a2 h2 a3 h3 a4 h4 a5 h5 g0 g1 dp w = k0_pay2 (k0_pay1 (F := F)) dp w := by
  unfold sout0_A_0
  rw [View.read_writes_eq_canon _ _ _ (scover0_A_0 c i a2 h2 a3 h3 a4 h4 a5 h5 g0 g1 dp w)]
  unfold kernelRun0_A
  dsimp only
  sl_unfold_words
  rw [View.canon_cons_unit_zero (S := S512x2048) hz2]
  simp only [View.readCov_cons_unit_lit' (S := S512x2048) _ _ _ _ _ off2 off2, View.readCov_unit_zero (S := S512x2048) _ hz2, View.readAt_eq_ld, h2.read_unread, h3.read_unread, View.ld_unit_zero (S := S512x1152) hz2, View.ld_unit_zero (S := S1x2048x1152) hz3]

/-- A middle step adds its product to what the step before left. -/
theorem middle_eq (g0 : ¬cond0_0 i) (g1 : ¬cond0_1 i) :
    sout0_B_0 c i a2 h2 a3 h3 a4 h4 a5 h5 g0 g1 dp w z = k0_pay2 z dp w := by
  unfold sout0_B_0
  rw [View.read_writes_eq_canon _ _ _ (scover0_B_0 c i a2 h2 a3 h3 a4 h4 a5 h5 g0 g1 dp w z)]
  unfold kernelRun0_B
  dsimp only
  sl_unfold_words
  rw [View.canon_unit_zero hz2]
  simp only [View.readAt_eq_ld, h2.read_unread, h3.read_unread, h5.read_unread, View.ld_unit_zero (S := S512x1152) hz2, View.ld_unit_zero (S := S1x2048x1152) hz3, View.ld_unit_zero (S := S512x2048) hz2]

/-- A last step stores the sum it comes to. -/
theorem last_eq (g0 : ¬cond0_0 i) (g1 : cond0_1 i) :
    out0_C_2 c i a2 h2 a3 h3 a4 h4 a5 h5 g0 g1 dp w z = k0_pay2 z dp w := by
  unfold out0_C_2
  rw [View.read_writes_eq_canon _ _ _ (cover0_C_2 c i a2 h2 a3 h3 a4 h4 a5 h5 g0 g1 dp w z)]
  unfold kernelRun0_C
  dsimp only
  sl_unfold_words
  rw [View.canon_unit_zero hz2]
  simp only [View.readCov_unit_zero (S := S512x2048) _ hz2, View.readAt_eq_ld, h2.read_unread, h3.read_unread, h5.read_unread, View.ld_unit_zero (S := S512x1152) hz2, View.ld_unit_zero (S := S1x2048x1152) hz3, View.ld_unit_zero (S := S512x2048) hz2]
end Body

variable (m : (ℓ : Loc nD τ sig) → Buf (Elt Ideal) ℓ) (c : Dev nD)

/-- The blocks a grid point reads. -/
theorem idx0 : ∀ t : Fin grid0.N, win0_0.index t = ![t.val / 4, t.val % 4] ∧ win0_1.index t = ![t.val % 4, 0, 0] := by
  decide +kernel

theorem blk0 (t : Fin cfg0.N) (ht : t.val < 32) (i : Fin 512) (f : Fin 1152) : iblk m c 0 t (ix2 i f) = m ((c : Thread nD τ).loc main_arg0)
    (ix2 (⟨512 * (t.val / 4) + i.val, by omega⟩ : Fin 4096) (⟨1152 * (t.val % 4) + f.val, by omega⟩ : Fin 4608)) := by
  blk_ext [iblk, V, (idx0 t).1]
theorem blk1 (t : Fin cfg0.N) (d : Fin 2048) (f : Fin 1152) : iblk m c 1 t (ix3 0 d f) = m ((c : Thread nD τ).loc main_arg1)
    (ix3 (⟨t.val % 4, by omega⟩ : Fin 4) d f) := by
  blk_ext [iblk, V, (idx0 t).2]

/-- A step, entry by entry. -/
theorem step_apply (dp : Vec Ideal S512x1152 .bf16) (w : Vec Ideal S1x2048x1152 .bf16) (z : Vec Ideal S512x2048 .f32) (i : Fin 512) (d : Fin 2048) :
    k0_pay2 z dp w (ix2 i d) = z (ix2 i d) + ∑ f : Fin 1152, dp (ix2 i f) * w (ix3 0 d f) := by
  pointwise [k0_pay2]

theorem zero_apply (i : Fin 512) (d : Fin 2048) : k0_pay1 (F := Ideal) (ix2 i d) = 0 := by
  pointwise [k0_pay1]

/-- The products a shard adds. -/
abbrev part (y : Vec Ideal S4096x4608 .bf16) (w : Vec Ideal S4x2048x1152 .bf16) (t : Fin 4096) (d : Fin 2048) (s : Fin 4) : EReal :=
  ∑ f : Fin 1152, y (ix2 t (⟨1152 * s.val + f.val, by omega⟩ : Fin 4608)) * w (ix3 s d f)

/-- What the result's entry holds. -/
abbrev entry (y : Vec Ideal S4096x4608 .bf16) (w : Vec Ideal S4x2048x1152 .bf16) (t : Fin 4096) (d : Fin 2048) : EReal :=
  ∑ s : Fin 4, part y w t d s

theorem step_at (p : Fin 8) (s : Fin 4) (h : 4 * p.val + s.val < cfg0.N) (z : Vec Ideal S512x2048 .f32) (i : Fin 512) (d : Fin 2048) :
    k0_pay2 z (iblk m c 0 ⟨4 * p.val + s.val, h⟩) (iblk m c 1 ⟨4 * p.val + s.val, h⟩) (ix2 i d) = z (ix2 i d)
      + part (m ((c : Thread nD τ).loc main_arg0)) (m ((c : Thread nD τ).loc main_arg1)) ⟨512 * p.val + i.val, by omega⟩ d s := by
  have hN : cfg0.N = 32 := N_0
  have e1 : (⟨(4 * p.val + s.val) % 4, by omega⟩ : Fin 4) = s := Fin.ext (by dsimp only; omega)
  have e2 : (⟨512 * ((4 * p.val + s.val) / 4) + i.val, by omega⟩ : Fin 4096) = ⟨512 * p.val + i.val, by omega⟩ := Fin.ext (by dsimp only; omega)
  have e3 (f : Fin 1152) : (⟨1152 * ((4 * p.val + s.val) % 4) + f.val, by omega⟩ : Fin 4608) = ⟨1152 * s.val + f.val, by omega⟩ := Fin.ext (by dsimp only; omega)
  rw [step_apply]
  refine congrArg _ (Finset.sum_congr rfl fun f _ => ?_)
  rw [blk0 m c _ (by dsimp only; omega), blk1]
  dsimp only
  rw [e1, e2, e3]

/-- What the kernel leaves in the result. -/
theorem result_apply (t : Fin 4096) (d : Fin 2048) :
    G2 m c (ix2 t d) = entry (m ((c : Thread nD τ).loc main_arg0)) (m ((c : Thread nD τ).loc main_arg1)) t d := by
  have hN : cfg0.N = 32 := N_0
  obtain ⟨p, i, rfl⟩ : ∃ (p : Fin 8) (i : Fin 512), t = ⟨512 * p.val + i.val, by omega⟩ :=
    ⟨⟨t.val / 512, by omega⟩, ⟨t.val % 512, by omega⟩, Fin.ext (Nat.div_add_mod _ _).symm⟩
  have hp : pt2Of (ix2 (⟨512 * p.val + i.val, by omega⟩ : Fin 4096) d) = 4 * p.val + 3 := by
    show 4 * (1 * ((512 * p.val + i.val) / 512 - 0) + 1 * (d.val / 2048 - 0)) + 3 = _
    omega
  have hl : loc2Of (ix2 (⟨512 * p.val + i.val, by omega⟩ : Fin 4096) d) = ix2 i d := by
    funext q
    apply Fin.ext
    match q with
    | ⟨0, _⟩ => show (512 * p.val + i.val) % 512 = i.val; omega
    | ⟨1, _⟩ => exact Nat.mod_eq_of_lt d.isLt
  have hlt : 4 * p.val + 3 < cfg0.N := by omega
  unfold G2
  rw [dif_pos (hp ▸ hlt), hl, fold0_congr m c _ _ (4 * p.val + 3) (by omega) hp, ← outsAt0_sweep m c _ hlt,
    outsAt0_C m c ⟨_, hlt⟩ (by dsimp only; omega) (by dsimp only; omega)]
  dsimp only
  rw [last_eq, outsAt0_B m c ⟨4 * p.val + 3 - 1, by omega⟩ (by dsimp only; omega) (by dsimp only; omega)]
  dsimp only
  rw [middle_eq, outsAt0_B m c ⟨4 * p.val + 3 - 1 - 1, by omega⟩ (by dsimp only; omega) (by dsimp only; omega)]
  dsimp only
  rw [middle_eq, outsAt0_A m c ⟨4 * p.val + 3 - 1 - 1 - 1, by omega⟩ (by dsimp only; omega) (by dsimp only; omega)]
  dsimp only
  rw [first_eq]
  have s3 := step_at m c p 3 hlt
  have s2 := step_at m c p 2 (by show 4 * p.val + 2 < _; omega)
  have s1 := step_at m c p 1 (by show 4 * p.val + 1 < _; omega)
  have s0 := step_at m c p 0 (by show 4 * p.val + 0 < _; omega)
  refine (s3 _ i d).trans ?_
  rw [show ∀ z, k0_pay2 z (iblk m c 0 ⟨4 * p.val + 3 - 1, _⟩) (iblk m c 1 ⟨4 * p.val + 3 - 1, _⟩) (ix2 i d) = _ from fun z => s2 z i d,
    show ∀ z, k0_pay2 z (iblk m c 0 ⟨4 * p.val + 3 - 1 - 1, _⟩) (iblk m c 1 ⟨4 * p.val + 3 - 1 - 1, _⟩) (ix2 i d) = _ from fun z => s1 z i d,
    show ∀ z, k0_pay2 z (iblk m c 0 ⟨4 * p.val + 3 - 1 - 1 - 1, _⟩) (iblk m c 1 ⟨4 * p.val + 3 - 1 - 1 - 1, _⟩) (ix2 i d) = _ from fun z => s0 z i d,
    zero_apply, entry, Fin.sum_univ_four, zero_add]

end Cert.Kernel11Ideal.Proj

namespace Cert.Reference11Ideal.Proj

open Cert.Reference11Ideal Cert.Reference11Ideal.Gen
open Idealize.ShloMosaic Idealize.ShloMosaic.TcCoe Idealize.ShloMosaic.Pointwise

/-- The reference's result, entry by entry. -/
theorem result_apply (dp : Vec Ideal S4096x4608 .bf16) (w : Vec Ideal S4x2048x1152 .bf16) (t : Fin 4096) (d : Fin 2048) :
    Read.val_main_v6 dp w (ix2 t d) = Cert.Kernel11Ideal.Proj.entry dp w t d := by
  pointwise [Read.val_main_v6, Read.val_main_v5, Read.val_main_v1, Read.val_main_v0]
  rw [Cert.Kernel11Ideal.Proj.entry]
  refine Finset.sum_congr rfl fun s _ => Finset.sum_congr rfl fun f _ => ?_
  congr 3
  apply Fin.ext
  dsimp only
  omega

/-- The kernel's result is the reference's function of the kernel's arguments. -/
theorem result_eq (m : (ℓ : Loc Cert.Kernel11Ideal.nD Cert.Kernel11Ideal.τ Cert.Kernel11Ideal.sig) → Buf (Elt Ideal) ℓ) (c : Dev Cert.Kernel11Ideal.nD) :
    Cert.Kernel11Ideal.Value.G2 m c
      = Read.val_main_v6 (F := Ideal)
        (m ((c.tc : Thread Cert.Kernel11Ideal.nD Cert.Kernel11Ideal.τ).loc Cert.Kernel11Ideal.main_arg0))
        (m ((c.tc : Thread Cert.Kernel11Ideal.nD Cert.Kernel11Ideal.τ).loc Cert.Kernel11Ideal.main_arg1)) := by
  funext x
  have ex := eq_ix2 x
  rw [ex]
  exact (Cert.Kernel11Ideal.Proj.result_apply m c _ _).trans (result_apply _ _ _ _).symm

end Cert.Reference11Ideal.Proj
-- ==== Proof.Proj.In.lean ====
/-
  The input projection, one shard of its columns after another: every block of the result is one product of a block of
  rows with a shard of the weights.
-/
module

public import proofs.«01_k».proof.Proof.Gen.Kernel12Ideal.Value
public import proofs.«01_k».proof.Proof.Gen.Reference12Ideal.Read
public import proofs.«01_k».proof.Proof.Ffn.Sums

@[expose] public section

noncomputable section

namespace Cert.Kernel12Ideal.Proj

open Cert.Kernel12Ideal Cert.Kernel12Ideal.Gen Cert.Kernel12Ideal.Value
open Cert.Ffn (hz2 hz3)
open Idealize.ShloMosaic Idealize.ShloMosaic.TcCoe Idealize.ShloMosaic.Pointwise

/-- What a grid point stores. -/
theorem store_eq {F : FTy → Type} [FloatOps F] (h : Vec F S1024x2048 .bf16) (w : Vec F S1x2048x1152 .bf16) : out0_2 h w = k0_pay1 h w := by
  unfold out0_2
  rw [View.canon_unit_zero hz2, View.ld_unit_zero (S := S1024x2048) hz2, View.ld_unit_zero (S := S1x2048x1152) hz3]

variable (m : (ℓ : Loc nD τ sig) → Buf (Elt Ideal) ℓ) (c : Dev nD)

/-- The blocks a grid point reads and writes. -/
theorem idx0 : ∀ t : Fin grid0.N, win0_0.index t = ![t.val % 4, 0] ∧ win0_1.index t = ![t.val / 4, 0, 0]
    ∧ win0_2.index t = ![t.val % 4, t.val / 4] := by
  decide +kernel

theorem blk0 (t : Fin cfg0.N) (i : Fin 1024) (k : Fin 2048) : iblk m c 0 t (ix2 i k) = m ((c : Thread nD τ).loc main_arg0)
    (ix2 (⟨1024 * (t.val % 4) + i.val, by omega⟩ : Fin 4096) k) := by
  blk_ext [iblk, V, (idx0 t).1]
theorem blk1 (t : Fin cfg0.N) (ht : t.val < 16) (k : Fin 2048) (f : Fin 1152) : iblk m c 1 t (ix3 0 k f) = m ((c : Thread nD τ).loc main_arg1)
    (ix3 (⟨t.val / 4, by omega⟩ : Fin 4) k f) := by
  blk_ext [iblk, V, (idx0 t).2.1]
theorem emb2 (t : Fin cfg0.N) (ht : t.val < 16) (i : Fin 1024) (f : Fin 1152) : ((cfg0.win 2).blk t).view.emb (ix2 i f)
    = ix2 (⟨1024 * (t.val % 4) + i.val, by omega⟩ : Fin 4096) (⟨1152 * (t.val / 4) + f.val, by omega⟩ : Fin 4608) := by
  have e := (idx0 t).2.2
  funext a
  apply Fin.ext
  match a with
  | ⟨0, _⟩ => show win0_2.index t (0 : Fin 2) * 1024 + 1 * i.val = 1024 * (t.val % 4) + i.val; rw [e]; show t.val % 4 * 1024 + 1 * i.val = _; omega
  | ⟨1, _⟩ => show win0_2.index t (1 : Fin 2) * 1152 + 1 * f.val = 1152 * (t.val / 4) + f.val; rw [e]; show t.val / 4 * 1152 + 1 * f.val = _; omega

/-- A point's block of the result lies at the point's shard and rows. -/
theorem cut2 (t : Fin cfg0.N) (X : Vec Ideal S1024x1152 .bf16) (i : Fin 1024) (f : Fin 1152) :
    (cfg0.win 2).cut (grid0.coords t) X (ix2 i f) = X (ix2 i f) := rfl

theorem pay_apply (h : Vec Ideal S1024x2048 .bf16) (w : Vec Ideal S1x2048x1152 .bf16) (i : Fin 1024) (f : Fin 1152) :
    k0_pay1 h w (ix2 i f) = ∑ k : Fin 2048, h (ix2 i k) * w (ix3 0 k f) := by
  pointwise [k0_pay1]

/-- What the result's entry holds. -/
abbrev entry (h : Vec Ideal S4096x2048 .bf16) (w : Vec Ideal S4x2048x1152 .bf16) (s : Fin 4) (t : Fin 4096) (f : Fin 1152) : EReal :=
  ∑ k : Fin 2048, h (ix2 t k) * w (ix3 s k f)

/-- Equal rows and shards give equal terms. -/
theorem term_congr (h : Vec Ideal S4096x2048 .bf16) (w : Vec Ideal S4x2048x1152 .bf16) (k : Fin 2048) (f : Fin 1152) {t t' : Fin 4096} {s s' : Fin 4}
    (ht : t = t') (hs : s = s') : h (ix2 t k) * w (ix3 s k f) = h (ix2 t' k) * w (ix3 s' k f) := by
  rw [ht, hs]

/-- What the kernel leaves in the result. -/
theorem result_apply (t : Fin 4096) (s : Fin 4) (f : Fin 1152) :
    (dats m 0 c).arrAt 2 cfg0.N (ix2 t (⟨1152 * s.val + f.val, by omega⟩ : Fin 4608))
      = entry (m ((c : Thread nD τ).loc main_arg0)) (m ((c : Thread nD τ).loc main_arg1)) s t f := by
  have hN : cfg0.N = 16 := N_0
  have hs : (⟨4 * s.val + t.val / 1024, by omega⟩ : Fin cfg0.N).val / 4 = s.val := by dsimp only; omega
  have ht : 1024 * ((⟨4 * s.val + t.val / 1024, by omega⟩ : Fin cfg0.N).val % 4) + t.val % 1024 = t.val := by dsimp only; omega
  have h := (dats m 0 c).arrAt_emb_eq_flushed 2 disjoint2 ⟨4 * s.val + t.val / 1024, by omega⟩ (flush0_2 _)
    (ix2 (⟨t.val % 1024, by omega⟩ : Fin 1024) f)
  rw [emb2 _ (by dsimp only; omega), flushed2, store_eq] at h
  have e0 : (ix2 (⟨1024 * ((⟨4 * s.val + t.val / 1024, by omega⟩ : Fin cfg0.N).val % 4) + t.val % 1024, by omega⟩ : Fin 4096)
      (⟨1152 * ((⟨4 * s.val + t.val / 1024, by omega⟩ : Fin cfg0.N).val / 4) + f.val, by omega⟩ : Fin 4608) : S4096x4608.Idx)
      = ix2 t (⟨1152 * s.val + f.val, by omega⟩ : Fin 4608) := by
    rw [show (⟨1152 * ((⟨4 * s.val + t.val / 1024, by omega⟩ : Fin cfg0.N).val / 4) + f.val, by omega⟩ : Fin 4608)
        = ⟨1152 * s.val + f.val, by omega⟩ from Fin.ext (congrArg (fun n => 1152 * n + f.val) hs),
      show (⟨1024 * ((⟨4 * s.val + t.val / 1024, by omega⟩ : Fin cfg0.N).val % 4) + t.val % 1024, by omega⟩ : Fin 4096) = t from Fin.ext ht]
  refine (congrArg ((dats m 0 c).arrAt 2 cfg0.N) e0).symm.trans (h.trans ?_)
  refine (cut2 _ _ _ _).trans ((pay_apply _ _ _ _).trans (Finset.sum_congr rfl fun k _ => ?_))
  rw [blk0, blk1 m c _ (by dsimp only; omega)]
  exact term_congr _ _ k f (Fin.ext ht) (Fin.ext hs)

end Cert.Kernel12Ideal.Proj

namespace Cert.Reference12Ideal.Proj

open Cert.Reference12Ideal Cert.Reference12Ideal.Gen
open Idealize.ShloMosaic Idealize.ShloMosaic.TcCoe Idealize.ShloMosaic.Pointwise

/-- The reference's result, entry by entry. -/
theorem result_apply (h : Vec Ideal S4096x2048 .bf16) (w : Vec Ideal S4x2048x1152 .bf16) (t : Fin 4096) (s : Fin 4) (f : Fin 1152) :
    Read.val_main_v4 h w (ix2 t (⟨1152 * s.val + f.val, by omega⟩ : Fin 4608)) = Cert.Kernel12Ideal.Proj.entry h w s t f := by
  pointwise [Read.val_main_v4, Read.val_main_v3, Read.val_main_v2, Read.val_main_v1, Read.val_main_v0]

/-- The kernel's result is the reference's function of the kernel's arguments. -/
theorem result_eq (m : (ℓ : Loc Cert.Kernel12Ideal.nD Cert.Kernel12Ideal.τ Cert.Kernel12Ideal.sig) → Buf (Elt Ideal) ℓ) (c : Dev Cert.Kernel12Ideal.nD) :
    (Cert.Kernel12Ideal.Gen.dats m 0 c).arrAt 2 Cert.Kernel12Ideal.cfg0.N
      = Read.val_main_v4 (F := Ideal)
        (m ((c.tc : Thread Cert.Kernel12Ideal.nD Cert.Kernel12Ideal.τ).loc Cert.Kernel12Ideal.main_arg0))
        (m ((c.tc : Thread Cert.Kernel12Ideal.nD Cert.Kernel12Ideal.τ).loc Cert.Kernel12Ideal.main_arg1)) := by
  funext x
  obtain ⟨t, s, f, rfl⟩ : ∃ (t : Fin 4096) (s : Fin 4) (f : Fin 1152), x = ix2 t (⟨1152 * s.val + f.val, by omega⟩ : Fin 4608) := by
    have h1 : (x 1).val < 4608 := (x 1).isLt
    refine ⟨x 0, ⟨(x 1).val / 1152, by omega⟩, ⟨(x 1).val % 1152, by omega⟩, (eq_ix2 x).trans (congrArg (ix2 (x 0)) (Fin.ext ?_))⟩
    exact (Nat.div_add_mod _ _).symm
  exact (Cert.Kernel12Ideal.Proj.result_apply m c _ _ _).trans (result_apply _ _ _ _ _).symm

end Cert.Reference12Ideal.Proj
-- ==== Proof.Proj.OutGrad.lean ====
/-
  The weight gradient of the output projection: the kernel adds the two halves of the tokens in turn, and the
  reference sums over all the tokens at once.
-/
module

public import proofs.«01_k».proof.Proof.Gen.Kernel13Ideal.Value
public import proofs.«01_k».proof.Proof.Gen.Reference13Ideal.Read
public import proofs.«01_k».proof.Proof.Ffn.Sums

@[expose] public section

noncomputable section

namespace Cert.Kernel13Ideal.Proj

open Cert.Kernel13Ideal Cert.Kernel13Ideal.Gen Cert.Kernel13Ideal.Value
open Cert.Ffn (hz2 hz3 hz4 sum_halves)
open Idealize.ShloMosaic Idealize.ShloMosaic.TcCoe Idealize.ShloMosaic.Pointwise

section Body
variable {F : FTy → Type} [FloatOps F]
variable (c : Dev nD) (i : grid0.Coords) (a3 : Memref sig .tc .vmem S2048x256 .bf16) (h3 : a3.IsWhole)
  (a4 : Memref sig .tc .vmem S2048x2048 .f32) (h4 : a4.IsWhole) (a5 : Memref sig .tc .vmem S1x1x256x2048 .bf16) (h5 : a5.IsWhole)
  (a6 : Memref sig .tc .vmem S256x2048 .f32) (h6 : a6.IsWhole)

/-- A first step leaves its product added to zero. -/
theorem first_eq (g0 : cond0_0 i) (g1 : ¬cond0_1 i) (x : Vec F S2048x256 .bf16) (y : Vec F S2048x2048 .f32) :
    sout0_A_0 c i a3 h3 a4 h4 a5 h5 a6 h6 g0 g1 x y = k0_pay2 y (k0_pay1 (F := F)) x := by
  unfold sout0_A_0
  rw [View.read_writes_eq_canon _ _ _ (scover0_A_0 c i a3 h3 a4 h4 a5 h5 a6 h6 g0 g1 x y)]
  unfold kernelRun0_A
  dsimp only
  sl_unfold_words
  rw [View.canon_cons_unit_zero (S := S256x2048) hz2]
  simp only [View.readCov_unit_zero (S := S256x2048) _ hz2, View.readAt_eq_ld, h3.read_unread, h4.read_unread, View.ld_unit_zero (S := S2048x256) hz2, View.ld_unit_zero (S := S2048x2048) hz2]

/-- A last step adds its product to what the first left, and rounds the sum. -/
theorem last_eq (g0 : ¬cond0_0 i) (g1 : cond0_1 i) (x : Vec F S2048x256 .bf16) (y : Vec F S2048x2048 .f32) (z : Vec F S256x2048 .f32) :
    out0_B_2 c i a3 h3 a4 h4 a5 h5 a6 h6 g0 g1 x y z = k0_pay3 (k0_pay2 y z x) := by
  unfold out0_B_2
  rw [View.read_writes_eq_canon _ _ _ (cover0_B_2 c i a3 h3 a4 h4 a5 h5 a6 h6 g0 g1 x y z)]
  unfold kernelRun0_B
  dsimp only
  sl_unfold_words
  rw [View.canon_unit_zero hz4]
  simp only [View.readCov_unit_zero (S := S256x2048) _ hz2, View.readAt_eq_ld, h3.read_unread, h4.read_unread, h6.read_unread, View.ld_unit_zero (S := S2048x256) hz2, View.ld_unit_zero (S := S2048x2048) hz2, View.ld_unit_zero (S := S256x2048) hz2]
end Body

variable (m : (ℓ : Loc nD τ sig) → Buf (Elt Ideal) ℓ) (c : Dev nD)

/-- The blocks a grid point reads. -/
theorem idx0 : ∀ t : Fin grid0.N, win0_0.index t = ![t.val % 2, t.val / 2] ∧ win0_1.index t = ![t.val % 2, 0] := by
  decide +kernel

theorem blk0 (t : Fin cfg0.N) (ht : t.val < 16) (k : Fin 2048) (a : Fin 256) : iblk m c 0 t (ix2 k a) = m ((c : Thread nD τ).loc main_arg0)
    (ix2 (⟨2048 * (t.val % 2) + k.val, by omega⟩ : Fin 4096) (⟨256 * (t.val / 2) + a.val, by omega⟩ : Fin 2048)) := by
  blk_ext [iblk, V, (idx0 t).1]

theorem blk1 (t : Fin cfg0.N) (k : Fin 2048) (b : Fin 2048) : iblk m c 1 t (ix2 k b) = m ((c : Thread nD τ).loc main_arg1)
    (ix2 (⟨2048 * (t.val % 2) + k.val, by omega⟩ : Fin 4096) b) := by
  blk_ext [iblk, V, (idx0 t).2]

/-- The kernel's product, entry by entry. -/
theorem prod_apply (y : Vec Ideal S2048x2048 .f32) (z : Vec Ideal S256x2048 .f32) (x : Vec Ideal S2048x256 .bf16) (a : Fin 256) (b : Fin 2048) :
    k0_pay2 y z x (ix2 a b) = z (ix2 a b) + ∑ k : Fin 2048, x (ix2 k a) * y (ix2 k b) := by
  pointwise [k0_pay2]

theorem zero_apply (a : Fin 256) (b : Fin 2048) : k0_pay1 (F := Ideal) (ix2 a b) = 0 := by
  pointwise [k0_pay1]

theorem round_apply (z : Vec Ideal S256x2048 .f32) (a : Fin 256) (b : Fin 2048) : k0_pay3 z (ix4 0 0 a b) = z (ix2 a b) := by
  pointwise [k0_pay3]

/-- The sum the result's entry holds: over all the tokens. -/
abbrev entry (x : Vec Ideal S4096x2048 .bf16) (y : Vec Ideal S4096x2048 .f32) (j : Fin 2) (s : Fin 4) (a : Fin 256) (b : Fin 2048) : EReal :=
  ∑ k : Fin 4096, x (ix2 k (⟨256 * (2 * s.val + j.val) + a.val, by omega⟩ : Fin 2048)) * y (ix2 k b)

/-- What the kernel leaves in the result. -/
theorem result_apply (j : Fin 2) (s : Fin 4) (a : Fin 256) (b : Fin 2048) :
    G2 m c (ix4 j s a b) = entry (m ((c : Thread nD τ).loc main_arg0)) (m ((c : Thread nD τ).loc main_arg1)) j s a b := by
  have hN : cfg0.N = 16 := N_0
  have hp : pt2Of (ix4 j s a b) = 2 * (j.val + 2 * s.val) + 1 := by
    show 2 * (1 * (j.val / 1 - 0) + 2 * (s.val / 1 - 0) + 8 * (a.val / 256 - 0) + 8 * (b.val / 2048 - 0)) + 1 = _
    omega
  have hl : loc2Of (ix4 j s a b) = ix4 (0 : Fin 1) (0 : Fin 1) a b := by
    funext q
    apply Fin.ext
    match q with
    | ⟨0, _⟩ => exact Nat.mod_one _
    | ⟨1, _⟩ => exact Nat.mod_one _
    | ⟨2, _⟩ => exact Nat.mod_eq_of_lt a.isLt
    | ⟨3, _⟩ => exact Nat.mod_eq_of_lt b.isLt
  have hlt : 2 * (j.val + 2 * s.val) + 1 < cfg0.N := by omega
  unfold G2
  rw [dif_pos (hp ▸ hlt), hl, fold0_congr m c _ _ (2 * (j.val + 2 * s.val) + 1) (by omega) hp, ← outsAt0_sweep m c _ hlt,
    outsAt0_B m c ⟨_, hlt⟩ (by dsimp only; omega) (by dsimp only; omega)]
  dsimp only
  rw [last_eq, round_apply, prod_apply,
    outsAt0_A m c ⟨2 * (j.val + 2 * s.val) + 1 - 1, by omega⟩ (by dsimp only; omega) (by dsimp only; omega)]
  dsimp only
  rw [first_eq, prod_apply, zero_apply, zero_add, entry, sum_halves (n := 2048) rfl]
  refine congrArg₂ _ (Finset.sum_congr rfl fun k _ => ?_) (Finset.sum_congr rfl fun k _ => ?_)
  · rw [blk0 m c _ (by dsimp only; omega), blk1]
    refine congrArg₂ _ (congrArg _ ?_) (congrArg _ ?_)
    all_goals (dsimp only; congr 1 <;> (apply Fin.ext; dsimp only; omega))
  · rw [blk0 m c _ (by dsimp only; omega), blk1]
    refine congrArg₂ _ (congrArg _ ?_) (congrArg _ ?_)
    all_goals (dsimp only; congr 1 <;> (apply Fin.ext; dsimp only; omega))

end Cert.Kernel13Ideal.Proj

namespace Cert.Reference13Ideal.Proj

open Cert.Reference13Ideal Cert.Reference13Ideal.Gen
open Idealize.ShloMosaic Idealize.ShloMosaic.TcCoe Idealize.ShloMosaic.Pointwise

/-- The reference's result, entry by entry. -/
theorem result_apply (x : Vec Ideal S4096x2048 .bf16) (y : Vec Ideal S4096x2048 .f32) (j : Fin 2) (s : Fin 4) (a : Fin 256) (b : Fin 2048) :
    Read.val_main_v7 x y (ix4 j s a b) = Cert.Kernel13Ideal.Proj.entry x y j s a b := by
  pointwise [Read.val_main_v7, Read.val_main_v6, Read.val_main_v5, Read.val_main_v4, Read.val_main_v3, Read.val_main_v0]
  rw [Cert.Kernel13Ideal.Proj.entry]
  refine Finset.sum_congr rfl fun k _ => ?_
  rw [mul_comm]
  congr 3 <;> (apply Fin.ext; dsimp only; omega)

/-- The kernel's result is the reference's function of the kernel's arguments. -/
theorem result_eq (m : (ℓ : Loc Cert.Kernel13Ideal.nD Cert.Kernel13Ideal.τ Cert.Kernel13Ideal.sig) → Buf (Elt Ideal) ℓ) (c : Dev Cert.Kernel13Ideal.nD) :
    Cert.Kernel13Ideal.Value.G2 m c
      = Read.val_main_v7 (F := Ideal)
        (m ((c.tc : Thread Cert.Kernel13Ideal.nD Cert.Kernel13Ideal.τ).loc Cert.Kernel13Ideal.main_arg0))
        (m ((c.tc : Thread Cert.Kernel13Ideal.nD Cert.Kernel13Ideal.τ).loc Cert.Kernel13Ideal.main_arg1)) := by
  funext x
  have ex := eq_ix4 x
  rw [ex]
  exact (Cert.Kernel13Ideal.Proj.result_apply m c _ _ _ _).trans (result_apply _ _ _ _ _ _).symm

end Cert.Reference13Ideal.Proj
-- ==== Proof.Proj.Out.lean ====
/-
  The output projection added to the residual stream: every block of the result is a block of the stream and one
  product of a block of rows with the weights.
-/
module

public import proofs.«01_k».proof.Proof.Gen.Kernel14Ideal.Value
public import proofs.«01_k».proof.Proof.Gen.Reference14Ideal.Read
public import proofs.«01_k».proof.Proof.Ffn.Sums

@[expose] public section

noncomputable section

namespace Cert.Kernel14Ideal.Proj

open Cert.Kernel14Ideal Cert.Kernel14Ideal.Gen Cert.Kernel14Ideal.Value
open Cert.Ffn (hz2)
open Idealize.ShloMosaic Idealize.ShloMosaic.TcCoe Idealize.ShloMosaic.Pointwise

/-- What a grid point stores. -/
theorem store_eq {F : FTy → Type} [FloatOps F] (y : Vec F S512x2048 .bf16) (w : Vec F S2048x2048 .bf16) (x : Vec F S512x2048 .f32) :
    out0_3 y w x = k0_pay1 x y w := by
  unfold out0_3
  rw [View.canon_unit_zero hz2, View.ld_unit_zero (S := S512x2048) hz2, View.ld_unit_zero (S := S512x2048) hz2, View.ld_unit_zero (S := S2048x2048) hz2]

variable (m : (ℓ : Loc nD τ sig) → Buf (Elt Ideal) ℓ) (c : Dev nD)

/-- The blocks a grid point reads and writes. -/
theorem idx0 : ∀ t : Fin grid0.N, win0_0.index t = ![t.val, 0] ∧ win0_1.index t = ![0, 0]
    ∧ win0_2.index t = ![t.val, 0] ∧ win0_3.index t = ![t.val, 0] := by
  decide +kernel

theorem blk0 (t : Fin cfg0.N) (ht : t.val < 8) (i : Fin 512) (k : Fin 2048) : iblk m c 0 t (ix2 i k) = m ((c : Thread nD τ).loc main_arg0)
    (ix2 (⟨512 * t.val + i.val, by omega⟩ : Fin 4096) k) := by
  blk_ext [iblk, V, (idx0 t).1]
theorem blk1 (t : Fin cfg0.N) (k d : Fin 2048) : iblk m c 1 t (ix2 k d) = m ((c : Thread nD τ).loc main_arg1) (ix2 k d) := by
  blk_ext [iblk, V, (idx0 t).2.1]
theorem blk2 (t : Fin cfg0.N) (ht : t.val < 8) (i : Fin 512) (d : Fin 2048) : iblk m c 2 t (ix2 i d) = m ((c : Thread nD τ).loc main_arg2)
    (ix2 (⟨512 * t.val + i.val, by omega⟩ : Fin 4096) d) := by
  blk_ext [iblk, V, (idx0 t).2.2.1]
theorem emb3 (t : Fin cfg0.N) (ht : t.val < 8) (i : Fin 512) (d : Fin 2048) : ((cfg0.win 3).blk t).view.emb (ix2 i d)
    = ix2 (⟨512 * t.val + i.val, by omega⟩ : Fin 4096) d := by
  have e := (idx0 t).2.2.2
  funext a
  apply Fin.ext
  match a with
  | ⟨0, _⟩ => show win0_3.index t (0 : Fin 2) * 512 + 1 * i.val = 512 * t.val + i.val; rw [e]; show t.val * 512 + 1 * i.val = _; omega
  | ⟨1, _⟩ => show win0_3.index t (1 : Fin 2) * 2048 + 1 * d.val = d.val; rw [e]; show 0 * 2048 + 1 * d.val = _; omega

theorem cut3 (t : Fin cfg0.N) (X : Vec Ideal S512x2048 .f32) (i : Fin 512) (d : Fin 2048) :
    (cfg0.win 3).cut (grid0.coords t) X (ix2 i d) = X (ix2 i d) := rfl

theorem pay_apply (x : Vec Ideal S512x2048 .f32) (y : Vec Ideal S512x2048 .bf16) (w : Vec Ideal S2048x2048 .bf16) (i : Fin 512) (d : Fin 2048) :
    k0_pay1 x y w (ix2 i d) = x (ix2 i d) + ∑ k : Fin 2048, y (ix2 i k) * w (ix2 k d) := by
  pointwise [k0_pay1]

/-- What the result's entry holds. -/
abbrev entry (y : Vec Ideal S4096x2048 .bf16) (w : Vec Ideal S2048x2048 .bf16) (x : Vec Ideal S4096x2048 .f32) (t : Fin 4096) (d : Fin 2048) : EReal :=
  x (ix2 t d) + ∑ k : Fin 2048, y (ix2 t k) * w (ix2 k d)

/-- The entries at equal rows. -/
theorem entry_congr (y : Vec Ideal S4096x2048 .bf16) (w : Vec Ideal S2048x2048 .bf16) (x : Vec Ideal S4096x2048 .f32) {t t' : Fin 4096} (h : t = t') (d : Fin 2048) :
    x (ix2 t d) + ∑ k : Fin 2048, y (ix2 t k) * w (ix2 k d) = entry y w x t' d := by
  rw [h]

/-- What the kernel leaves in the result. -/
theorem result_apply (t : Fin 4096) (d : Fin 2048) :
    (dats m 0 c).arrAt 3 cfg0.N (ix2 t d)
      = entry (m ((c : Thread nD τ).loc main_arg0)) (m ((c : Thread nD τ).loc main_arg1)) (m ((c : Thread nD τ).loc main_arg2)) t d := by
  have hN : cfg0.N = 8 := N_0
  have ht : 512 * (⟨t.val / 512, by omega⟩ : Fin cfg0.N).val + t.val % 512 = t.val := by dsimp only; omega
  have h := (dats m 0 c).arrAt_emb_eq_flushed 3 disjoint3 ⟨t.val / 512, by omega⟩ (flush0_3 _) (ix2 (⟨t.val % 512, by omega⟩ : Fin 512) d)
  rw [emb3 _ (by dsimp only; omega), flushed3, store_eq] at h
  have e0 : (ix2 (⟨512 * (⟨t.val / 512, by omega⟩ : Fin cfg0.N).val + t.val % 512, by omega⟩ : Fin 4096) d : S4096x2048.Idx) = ix2 t d := by
    rw [show (⟨512 * (⟨t.val / 512, by omega⟩ : Fin cfg0.N).val + t.val % 512, by omega⟩ : Fin 4096) = t from Fin.ext ht]
  refine (congrArg ((dats m 0 c).arrAt 3 cfg0.N) e0).symm.trans (h.trans ?_)
  refine (cut3 _ _ _ _).trans ((pay_apply _ _ _ _ _).trans ?_)
  rw [blk2 m c _ (by dsimp only; omega)]
  refine (congrArg _ (Finset.sum_congr rfl fun k _ => ?_)).trans (entry_congr _ _ _ (Fin.ext ht) d)
  rw [blk0 m c _ (by dsimp only; omega), blk1]

end Cert.Kernel14Ideal.Proj

namespace Cert.Reference14Ideal.Proj

open Cert.Reference14Ideal Cert.Reference14Ideal.Gen
open Idealize.ShloMosaic Idealize.ShloMosaic.TcCoe Idealize.ShloMosaic.Pointwise

/-- The reference's result, entry by entry. -/
theorem result_apply (y : Vec Ideal S4096x2048 .bf16) (w : Vec Ideal S2048x2048 .bf16) (x : Vec Ideal S4096x2048 .f32) (t : Fin 4096) (d : Fin 2048) :
    Read.val_main_v3 y w x (ix2 t d) = Cert.Kernel14Ideal.Proj.entry y w x t d := by
  pointwise [Read.val_main_v3, Read.val_main_v2, Read.val_main_v1, Read.val_main_v0]

/-- The kernel's result is the reference's function of the kernel's arguments. -/
theorem result_eq (m : (ℓ : Loc Cert.Kernel14Ideal.nD Cert.Kernel14Ideal.τ Cert.Kernel14Ideal.sig) → Buf (Elt Ideal) ℓ) (c : Dev Cert.Kernel14Ideal.nD) :
    (Cert.Kernel14Ideal.Gen.dats m 0 c).arrAt 3 Cert.Kernel14Ideal.cfg0.N
      = Read.val_main_v3 (F := Ideal)
        (m ((c.tc : Thread Cert.Kernel14Ideal.nD Cert.Kernel14Ideal.τ).loc Cert.Kernel14Ideal.main_arg0))
        (m ((c.tc : Thread Cert.Kernel14Ideal.nD Cert.Kernel14Ideal.τ).loc Cert.Kernel14Ideal.main_arg1))
        (m ((c.tc : Thread Cert.Kernel14Ideal.nD Cert.Kernel14Ideal.τ).loc Cert.Kernel14Ideal.main_arg2)) := by
  funext x
  have ex := eq_ix2 x
  rw [ex]
  exact (Cert.Kernel14Ideal.Proj.result_apply m c _ _).trans (result_apply _ _ _ _ _).symm

end Cert.Reference14Ideal.Proj
-- ==== Proof.Ffn.InGradA.lean ====
/-
  The gradient of the first feed-forward half's input, in two calls: the first writes the first half of the tokens. It adds
  the two products of one shard of the hidden width after those of another, and the reference sums over all of the hidden
  width, for each of the two products.
-/
module

public import proofs.«01_k».proof.Proof.Gen.Kernel15Ideal.Frame
public import proofs.«01_k».proof.Proof.Gen.Reference15Ideal.Read
public import proofs.«01_k».proof.Proof.Ffn.Sums

@[expose] public section

noncomputable section

namespace Cert.Kernel15Ideal.Ffn

open Cert.Kernel15Ideal Cert.Kernel15Ideal.Gen
open Cert.Ffn (hz2 hz3 off2)
open Idealize.ShloMosaic Idealize.ShloMosaic.TcCoe Idealize.ShloMosaic.Pointwise

section Body
variable {F : FTy → Type} [FloatOps F]
variable (c : Dev nD) (i : grid0.Coords) (a2 : Memref sig .tc .vmem S1x512x1408 .bf16) (h2 : a2.IsWhole)
  (a3 : Memref sig .tc .vmem S1x512x1408 .bf16) (h3 : a3.IsWhole) (a4 : Memref sig .tc .vmem S1x2048x1408 .bf16) (h4 : a4.IsWhole)
  (a5 : Memref sig .tc .vmem S1x2048x1408 .bf16) (h5 : a5.IsWhole) (a6 : Memref sig .tc .vmem S512x2048 .f32) (h6 : a6.IsWhole)
  (a7 : Memref sig .tc .vmem S512x2048 .f32) (h7 : a7.IsWhole)
  (dg du : Vec F S1x512x1408 .bf16) (wg wu : Vec F S1x2048x1408 .bf16) (z : Vec F S512x2048 .f32)

/-- What a step adds to what it finds: the gate's product, then the up projection's. -/
def step (z : Vec F S512x2048 .f32) : Vec F S512x2048 .f32 := k0_pay3 (k0_pay2 z dg wg) du wu

/-- A first step starts from zero. -/
theorem first_eq (g0 : cond0_0 i) (g1 : ¬cond0_1 i) :
    sout0_A_0 c i a2 h2 a3 h3 a4 h4 a5 h5 a6 h6 a7 h7 g0 g1 dg du wg wu = step dg du wg wu (k0_pay1 (F := F)) := by
  unfold sout0_A_0 step
  rw [View.read_writes_eq_canon _ _ _ (scover0_A_0 c i a2 h2 a3 h3 a4 h4 a5 h5 a6 h6 a7 h7 g0 g1 dg du wg wu)]
  unfold kernelRun0_A
  dsimp only
  sl_unfold_words
  rw [View.canon_cons_unit_zero (S := S512x2048) hz2]
  simp only [View.readCov_cons_unit_lit' (S := S512x2048) _ _ _ _ _ off2 off2, View.readCov_unit_zero (S := S512x2048) _ hz2, View.readAt_eq_ld, h2.read_unread, h3.read_unread, h4.read_unread, h5.read_unread, View.ld_unit_zero (S := S1x512x1408) hz3, View.ld_unit_zero (S := S1x2048x1408) hz3]

/-- A middle step starts from what the step before left. -/
theorem middle_eq (g0 : ¬cond0_0 i) (g1 : ¬cond0_1 i) :
    sout0_B_0 c i a2 h2 a3 h3 a4 h4 a5 h5 a6 h6 a7 h7 g0 g1 dg du wg wu z = step dg du wg wu z := by
  unfold sout0_B_0 step
  rw [View.read_writes_eq_canon _ _ _ (scover0_B_0 c i a2 h2 a3 h3 a4 h4 a5 h5 a6 h6 a7 h7 g0 g1 dg du wg wu z)]
  unfold kernelRun0_B
  dsimp only
  sl_unfold_words
  rw [View.canon_cons_unit_zero (S := S512x2048) hz2]
  simp only [View.readCov_cons_unit_lit' (S := S512x2048) _ _ _ _ _ off2 off2, View.readCov_unit_zero (S := S512x2048) _ hz2, View.readAt_eq_ld, h2.read_unread, h3.read_unread, h4.read_unread, h5.read_unread, h7.read_unread, View.ld_unit_zero (S := S1x512x1408) hz3, View.ld_unit_zero (S := S1x2048x1408) hz3, View.ld_unit_zero (S := S512x2048) hz2]

/-- A last step stores what it leaves. -/
theorem last_eq (g0 : ¬cond0_0 i) (g1 : cond0_1 i) :
    out0_C_4 c i a2 h2 a3 h3 a4 h4 a5 h5 a6 h6 a7 h7 g0 g1 dg du wg wu z = step dg du wg wu z := by
  unfold out0_C_4 step
  rw [View.read_writes_eq_canon _ _ _ (cover0_C_4 c i a2 h2 a3 h3 a4 h4 a5 h5 a6 h6 a7 h7 g0 g1 dg du wg wu z)]
  unfold kernelRun0_C
  dsimp only
  sl_unfold_words
  rw [View.canon_unit_zero hz2]
  simp only [View.readCov_cons_unit_lit' (S := S512x2048) _ _ _ _ _ off2 off2, View.readCov_unit_zero (S := S512x2048) _ hz2, View.readAt_eq_ld, h2.read_unread, h3.read_unread, h4.read_unread, h5.read_unread, h7.read_unread, View.ld_unit_zero (S := S1x512x1408) hz3, View.ld_unit_zero (S := S1x2048x1408) hz3, View.ld_unit_zero (S := S512x2048) hz2]
end Body

variable (m : (ℓ : Loc nD τ sig) → Buf (Elt Ideal) ℓ) (c : Dev nD)

/-- The blocks a grid point reads. -/
theorem idx0 : ∀ t : Fin grid0.N, win0_0.index t = ![t.val % 4, t.val / 4, 0] ∧ win0_1.index t = ![t.val % 4, t.val / 4, 0]
    ∧ win0_2.index t = ![t.val % 4, 0, 0] ∧ win0_3.index t = ![t.val % 4, 0, 0]
    ∧ win0_4.index t = ![t.val / 4, 0] := by
  decide +kernel

theorem blk0 (t : Fin cfg0.N) (ht : t.val < 16) (i : Fin 512) (f : Fin 1408) : iblk m c 0 t (ix3 0 i f) = m ((c : Thread nD τ).loc main_arg0)
    (ix3 (⟨t.val % 4, by omega⟩ : Fin 4) (⟨512 * (t.val / 4) + i.val, by omega⟩ : Fin 4096) f) := by
  blk_ext [iblk, V, (idx0 t).1]
theorem blk1 (t : Fin cfg0.N) (ht : t.val < 16) (i : Fin 512) (f : Fin 1408) : iblk m c 1 t (ix3 0 i f) = m ((c : Thread nD τ).loc main_arg1)
    (ix3 (⟨t.val % 4, by omega⟩ : Fin 4) (⟨512 * (t.val / 4) + i.val, by omega⟩ : Fin 4096) f) := by
  blk_ext [iblk, V, (idx0 t).2.1]
theorem blk2 (t : Fin cfg0.N) (d : Fin 2048) (f : Fin 1408) : iblk m c 2 t (ix3 0 d f) = m ((c : Thread nD τ).loc main_arg2)
    (ix3 (⟨t.val % 4, by omega⟩ : Fin 4) d f) := by
  blk_ext [iblk, V, (idx0 t).2.2.1]
theorem blk3 (t : Fin cfg0.N) (d : Fin 2048) (f : Fin 1408) : iblk m c 3 t (ix3 0 d f) = m ((c : Thread nD τ).loc main_arg3)
    (ix3 (⟨t.val % 4, by omega⟩ : Fin 4) d f) := by
  blk_ext [iblk, V, (idx0 t).2.2.2.1]

/-- A step, entry by entry. -/
theorem step_apply (dg du : Vec Ideal S1x512x1408 .bf16) (wg wu : Vec Ideal S1x2048x1408 .bf16) (z : Vec Ideal S512x2048 .f32) (i : Fin 512) (d : Fin 2048) :
    step dg du wg wu z (ix2 i d) = z (ix2 i d) + ∑ f : Fin 1408, dg (ix3 0 i f) * wg (ix3 0 d f) + ∑ f : Fin 1408, du (ix3 0 i f) * wu (ix3 0 d f) := by
  pointwise [step, k0_pay3, k0_pay2]

theorem zero_apply (i : Fin 512) (d : Fin 2048) : k0_pay1 (F := Ideal) (ix2 i d) = 0 := by
  pointwise [k0_pay1]

/-- The sum the result's entry holds, of one of the two products. -/
abbrev entry (y : Vec Ideal S4x4096x1408 .bf16) (w : Vec Ideal S4x2048x1408 .bf16) (t : Fin 4096) (d : Fin 2048) : EReal :=
  ∑ s : Fin 4, ∑ f : Fin 1408, y (ix3 s t f) * w (ix3 s d f)

/-- The step of a grid point. -/
abbrev stepAt (t : Fin cfg0.N) (z : Vec Ideal S512x2048 .f32) : Vec Ideal S512x2048 .f32 :=
  step (iblk m c 0 t) (iblk m c 1 t) (iblk m c 2 t) (iblk m c 3 t) z

/-- The products a shard adds. -/
abbrev part (y : Vec Ideal S4x4096x1408 .bf16) (w : Vec Ideal S4x2048x1408 .bf16) (t : Fin 4096) (d : Fin 2048) (s : Fin 4) : EReal :=
  ∑ f : Fin 1408, y (ix3 s t f) * w (ix3 s d f)

theorem stepAt_apply (p : Fin 4) (s : Fin 4) (h : 4 * p.val + s.val < cfg0.N) (z : Vec Ideal S512x2048 .f32) (i : Fin 512) (d : Fin 2048) :
    stepAt m c ⟨4 * p.val + s.val, h⟩ z (ix2 i d) = z (ix2 i d)
      + part (m ((c : Thread nD τ).loc main_arg0)) (m ((c : Thread nD τ).loc main_arg2)) ⟨512 * p.val + i.val, by omega⟩ d s
      + part (m ((c : Thread nD τ).loc main_arg1)) (m ((c : Thread nD τ).loc main_arg3)) ⟨512 * p.val + i.val, by omega⟩ d s := by
  have hN : cfg0.N = 16 := N_0
  have e1 : (⟨(4 * p.val + s.val) % 4, by omega⟩ : Fin 4) = s := Fin.ext (by dsimp only; omega)
  have e2 : (⟨512 * ((4 * p.val + s.val) / 4) + i.val, by omega⟩ : Fin 4096) = ⟨512 * p.val + i.val, by omega⟩ := Fin.ext (by dsimp only; omega)
  rw [stepAt, step_apply]
  refine congrArg₂ _ (congrArg _ (Finset.sum_congr rfl fun f _ => ?_)) (Finset.sum_congr rfl fun f _ => ?_)
  · rw [blk0 m c _ (by dsimp only; omega), blk2]
    dsimp only
    rw [e1, e2]
  · rw [blk1 m c _ (by dsimp only; omega), blk3]
    dsimp only
    rw [e1, e2]

/-- The blocks of the result that are written back: a block's last step's. -/
theorem flush_iff : ∀ t : Fin cfg0.N, (cfg0.win 4).flush t = true ↔ t.val % 4 = 3 := by
  decide +kernel

theorem emb4 (t : Fin cfg0.N) (ht : t.val < 16) (i : Fin 512) (d : Fin 2048) : ((cfg0.win 4).blk t).view.emb (ix2 i d)
    = ix2 (⟨512 * (t.val / 4) + i.val, by omega⟩ : Fin 4096) d := by
  have e := (idx0 t).2.2.2.2
  funext a
  apply Fin.ext
  match a with
  | ⟨0, _⟩ => show win0_4.index t (0 : Fin 2) * 512 + 1 * i.val = 512 * (t.val / 4) + i.val; rw [e]; show (t.val / 4) * 512 + 1 * i.val = _; omega
  | ⟨1, _⟩ => show win0_4.index t (1 : Fin 2) * 2048 + 1 * d.val = d.val; rw [e]; show 0 * 2048 + 1 * d.val = _; omega

/-- What a block's last step writes back. -/
theorem flushed_apply (p : Fin 4) (hlt : 4 * p.val + 3 < cfg0.N) (i : Fin 512) (d : Fin 2048) :
    (dats m 0 c).flushed 4 ⟨4 * p.val + 3, hlt⟩ (ix2 i d)
      = entry (m ((c : Thread nD τ).loc main_arg1)) (m ((c : Thread nD τ).loc main_arg3)) ⟨512 * (p.val) + i.val, by omega⟩ d
        + entry (m ((c : Thread nD τ).loc main_arg0)) (m ((c : Thread nD τ).loc main_arg2)) ⟨512 * (p.val) + i.val, by omega⟩ d := by
  have hN : cfg0.N = 16 := N_0
  show (dats m 0 c).after 4 ⟨4 * p.val + 3, hlt⟩ (ix2 i d) = _
  rw [after0_4, outsAt0_C m c ⟨_, hlt⟩ (by dsimp only; omega) (by dsimp only; omega)]
  dsimp only
  rw [last_eq, outsAt0_B m c ⟨4 * p.val + 3 - 1, by omega⟩ (by dsimp only; omega) (by dsimp only; omega)]
  dsimp only
  rw [middle_eq, outsAt0_B m c ⟨4 * p.val + 3 - 1 - 1, by omega⟩ (by dsimp only; omega) (by dsimp only; omega)]
  dsimp only
  rw [middle_eq, outsAt0_A m c ⟨4 * p.val + 3 - 1 - 1 - 1, by omega⟩ (by dsimp only; omega) (by dsimp only; omega)]
  dsimp only
  rw [first_eq]
  have s3 := stepAt_apply m c p 3 hlt
  have s2 := stepAt_apply m c p 2 (by show 4 * p.val + 2 < _; omega)
  have s1 := stepAt_apply m c p 1 (by show 4 * p.val + 1 < _; omega)
  have s0 := stepAt_apply m c p 0 (by show 4 * p.val + 0 < _; omega)
  refine (s3 _ i d).trans ?_
  rw [show ∀ z, step (iblk m c 0 ⟨4 * p.val + 3 - 1, _⟩) (iblk m c 1 ⟨4 * p.val + 3 - 1, _⟩) (iblk m c 2 ⟨4 * p.val + 3 - 1, _⟩) (iblk m c 3 ⟨4 * p.val + 3 - 1, _⟩) z (ix2 i d) = _ from fun z => s2 z i d,
    show ∀ z, step (iblk m c 0 ⟨4 * p.val + 3 - 1 - 1, _⟩) (iblk m c 1 ⟨4 * p.val + 3 - 1 - 1, _⟩) (iblk m c 2 ⟨4 * p.val + 3 - 1 - 1, _⟩) (iblk m c 3 ⟨4 * p.val + 3 - 1 - 1, _⟩) z (ix2 i d) = _ from fun z => s1 z i d,
    show ∀ z, step (iblk m c 0 ⟨4 * p.val + 3 - 1 - 1 - 1, _⟩) (iblk m c 1 ⟨4 * p.val + 3 - 1 - 1 - 1, _⟩) (iblk m c 2 ⟨4 * p.val + 3 - 1 - 1 - 1, _⟩) (iblk m c 3 ⟨4 * p.val + 3 - 1 - 1 - 1, _⟩) z (ix2 i d) = _ from fun z => s0 z i d,
    zero_apply, entry, entry, Fin.sum_univ_four, Fin.sum_univ_four]
  abel

/-- The rows that the call computes. -/
abbrev rows : Vec Ideal S4096x2048 .f32 := fun x =>
  entry (m ((c : Thread nD τ).loc main_arg1)) (m ((c : Thread nD τ).loc main_arg3)) (x 0) (x 1)
    + entry (m ((c : Thread nD τ).loc main_arg0)) (m ((c : Thread nD τ).loc main_arg2)) (x 0) (x 1)

theorem flushed_rows (t : Fin cfg0.N) (h : (cfg0.win 4).flush t = true) :
    (dats m 0 c).flushed 4 t = ((cfg0.win 4).blk t).view.read (Elt Ideal) (rows m c) := by
  have hN : cfg0.N = 16 := N_0
  have h3 := (flush_iff t).mp h
  obtain ⟨n, hn⟩ := t
  obtain ⟨p, rfl⟩ : ∃ p : Fin 4, n = 4 * p.val + 3 := ⟨⟨n / 4, by omega⟩, by dsimp only at h3 ⊢; omega⟩
  funext y
  obtain ⟨i, d, rfl⟩ : ∃ (i : Fin 512) (d : Fin 2048), y = ix2 i d := ⟨y 0, y 1, eq_ix2 y⟩
  have hlt : 4 * p.val + 3 < cfg0.N := hn
  have e : (⟨512 * (p.val) + i.val, by omega⟩ : Fin 4096) = ⟨512 * ((4 * p.val + 3) / 4) + i.val, by omega⟩ := Fin.ext (by dsimp only; omega)
  refine (flushed_apply m c p hlt i d).trans ?_
  rw [e]
  exact (congrArg (rows m c) (emb4 ⟨4 * p.val + 3, hlt⟩ (by dsimp only; omega) i d)).symm

/-- The kernel's result in the rows that the call computes. -/
theorem array_apply (t : Fin 4096) (ht : t.val < 2048) (d : Fin 2048) : (dats m 0 c).arrAt 4 cfg0.N (ix2 t d)
    = entry (m ((c : Thread nD τ).loc main_arg1)) (m ((c : Thread nD τ).loc main_arg3)) t d
      + entry (m ((c : Thread nD τ).loc main_arg0)) (m ((c : Thread nD τ).loc main_arg2)) t d := by
  have hN : cfg0.N = 16 := N_0
  have hlt : 4 * (t.val / 512) + 3 < cfg0.N := by omega
  refine (dats m 0 c).arrAt_apply_of_mem 4 (rows m c) (flushed_rows m c) cfg0.N ⟨4 * (t.val / 512) + 3, hlt⟩ (ix2 t d) hlt
    ((flush_iff _).mpr (by dsimp only; omega)) ?_
  have e := emb4 ⟨4 * (t.val / 512) + 3, hlt⟩ (by dsimp only; omega) ⟨t.val % 512, by omega⟩ d
  have e' : (⟨512 * ((⟨4 * (t.val / 512) + 3, hlt⟩ : Fin cfg0.N).val / 4) + (⟨t.val % 512, by omega⟩ : Fin 512).val, by dsimp only; omega⟩ : Fin 4096) = t :=
    Fin.ext (by dsimp only; omega)
  rw [e'] at e
  exact e ▸ View.emb_mem_set _ _

/-- The call's result: the first half of the array. -/
abbrev result : Vec Ideal S2048x2048 .f32 := extractStridedSlice S2048x2048 ![0, 0] ((dats m 0 c).arrAt 4 cfg0.N) slices_S4096x2048_S2048x2048_0_0

/-- The lines after the call read the array that it leaves. -/
theorem tail_eq : Pipeline.afterTail₀ cfgs (dats m) 0 (V0 m) [hostOps1] c main_v1 = result m c := by
  unfold Pipeline.afterTail₀
  simp only [hostOps1, List.flatten_cons, List.flatten_nil, List.append_nil]
  after_results_simp
  exact congrArg (fun A : Vec Ideal S4096x2048 .f32 => extractStridedSlice S2048x2048 ![0, 0] A slices_S4096x2048_S2048x2048_0_0)
    (Pipeline.withArrays_arr spec0 launch0.win.arr_inj c (V0 m c) (fun w => (dats m 0 c).arrAt w cfg0.N) 4)

/-- The run, with its result. -/
theorem run (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (θ_run_and (run_main m ρ) (unchanged m ρ))
  exact ⟨((h.1 c).2 main_v1 (Pipeline.mem_restRefs_of main_v1 (by decide) (by decide))).trans (tail_eq m c), h.2 c⟩

theorem result_apply (t d : Fin 2048) : result m c (ix2 t d)
    = entry (m ((c : Thread nD τ).loc main_arg1)) (m ((c : Thread nD τ).loc main_arg3)) ⟨t.val, by omega⟩ d
      + entry (m ((c : Thread nD τ).loc main_arg0)) (m ((c : Thread nD τ).loc main_arg2)) ⟨t.val, by omega⟩ d := by
  refine (extractStridedSlice_apply ![0, 0] _ slices_S4096x2048_S2048x2048_0_0 (ix2 t d) (ix2 (⟨t.val, by omega⟩ : Fin 4096) d) (fun a => match a with
    | ⟨0, _⟩ => by show t.val = 0 + t.val; omega
    | ⟨1, _⟩ => by show d.val = 0 + d.val; omega)).trans ?_
  exact array_apply m c _ t.isLt d

end Cert.Kernel15Ideal.Ffn

namespace Cert.Reference15Ideal.Ffn

open Cert.Reference15Ideal Cert.Reference15Ideal.Gen
open Idealize.ShloMosaic Idealize.ShloMosaic.TcCoe Idealize.ShloMosaic.Pointwise

/-- The reference's result, entry by entry. -/
theorem result_apply (dg du : Vec Ideal S4x4096x1408 .bf16) (wg wu : Vec Ideal S4x2048x1408 .bf16) (t d : Fin 2048) :
    Read.val_main_v14 dg du wg wu (ix2 t d)
      = Cert.Kernel15Ideal.Ffn.entry du wu ⟨t.val, by omega⟩ d + Cert.Kernel15Ideal.Ffn.entry dg wg ⟨t.val, by omega⟩ d := by
  pointwise [Read.val_main_v14, Read.val_main_v13, Read.val_main_v12, Read.val_main_v11, Read.val_main_v10, Read.val_main_v9, Read.val_main_v3, Read.val_main_v2, Read.val_main_v1, Read.val_main_v0]

/-- The kernel's result is the reference's function of the kernel's arguments. -/
theorem result_eq (m : (ℓ : Loc Cert.Kernel15Ideal.nD Cert.Kernel15Ideal.τ Cert.Kernel15Ideal.sig) → Buf (Elt Ideal) ℓ) (c : Dev Cert.Kernel15Ideal.nD) :
    Cert.Kernel15Ideal.Ffn.result m c
      = Read.val_main_v14 (F := Ideal)
        (m ((c.tc : Thread Cert.Kernel15Ideal.nD Cert.Kernel15Ideal.τ).loc Cert.Kernel15Ideal.main_arg0))
        (m ((c.tc : Thread Cert.Kernel15Ideal.nD Cert.Kernel15Ideal.τ).loc Cert.Kernel15Ideal.main_arg1))
        (m ((c.tc : Thread Cert.Kernel15Ideal.nD Cert.Kernel15Ideal.τ).loc Cert.Kernel15Ideal.main_arg2))
        (m ((c.tc : Thread Cert.Kernel15Ideal.nD Cert.Kernel15Ideal.τ).loc Cert.Kernel15Ideal.main_arg3)) := by
  funext x
  have ex := eq_ix2 x
  rw [ex]
  exact (Cert.Kernel15Ideal.Ffn.result_apply m c _ _).trans (result_apply _ _ _ _ _ _).symm

end Cert.Reference15Ideal.Ffn
-- ==== Proof.Ffn.InGradB.lean ====
/-
  The gradient of the first feed-forward half's input, the second call: it writes the second half of the tokens into the
  array of the first call, and leaves the first half as it finds it.
-/
module

public import proofs.«01_k».proof.Proof.Gen.Kernel16Ideal.Value
public import proofs.«01_k».proof.Proof.Gen.Reference16Ideal.Read
public import proofs.«01_k».proof.Proof.Ffn.Sums

@[expose] public section

noncomputable section

namespace Cert.Kernel16Ideal.Ffn

open Cert.Kernel16Ideal Cert.Kernel16Ideal.Gen Cert.Kernel16Ideal.Value
open Cert.Ffn (hz2 hz3 off2)
open Idealize.ShloMosaic Idealize.ShloMosaic.TcCoe Idealize.ShloMosaic.Pointwise

section Body
variable {F : FTy → Type} [FloatOps F]
variable (c : Dev nD) (i : grid0.Coords) (a2 : Memref sig .tc .vmem S1x512x1408 .bf16) (h2 : a2.IsWhole)
  (a3 : Memref sig .tc .vmem S1x512x1408 .bf16) (h3 : a3.IsWhole) (a4 : Memref sig .tc .vmem S1x2048x1408 .bf16) (h4 : a4.IsWhole)
  (a5 : Memref sig .tc .vmem S1x2048x1408 .bf16) (h5 : a5.IsWhole) (a6 : Memref sig .tc .vmem S512x2048 .f32) (h6 : a6.IsWhole)
  (a7 : Memref sig .tc .vmem S512x2048 .f32) (h7 : a7.IsWhole)
  (dg du : Vec F S1x512x1408 .bf16) (wg wu : Vec F S1x2048x1408 .bf16) (z : Vec F S512x2048 .f32)

/-- What a step adds to what it finds: the gate's product, then the up projection's. -/
def step (z : Vec F S512x2048 .f32) : Vec F S512x2048 .f32 := k0_pay3 (k0_pay2 z dg wg) du wu

/-- A first step starts from zero. -/
theorem first_eq (g0 : cond0_0 i) (g1 : ¬cond0_1 i) :
    sout0_A_0 c i a2 h2 a3 h3 a4 h4 a5 h5 a6 h6 a7 h7 g0 g1 dg du wg wu = step dg du wg wu (k0_pay1 (F := F)) := by
  unfold sout0_A_0 step
  rw [View.read_writes_eq_canon _ _ _ (scover0_A_0 c i a2 h2 a3 h3 a4 h4 a5 h5 a6 h6 a7 h7 g0 g1 dg du wg wu)]
  unfold kernelRun0_A
  dsimp only
  sl_unfold_words
  rw [View.canon_cons_unit_zero (S := S512x2048) hz2]
  simp only [View.readCov_cons_unit_lit' (S := S512x2048) _ _ _ _ _ off2 off2, View.readCov_unit_zero (S := S512x2048) _ hz2, View.readAt_eq_ld, h2.read_unread, h3.read_unread, h4.read_unread, h5.read_unread, View.ld_unit_zero (S := S1x512x1408) hz3, View.ld_unit_zero (S := S1x2048x1408) hz3]

/-- A middle step starts from what the step before left. -/
theorem middle_eq (g0 : ¬cond0_0 i) (g1 : ¬cond0_1 i) :
    sout0_B_0 c i a2 h2 a3 h3 a4 h4 a5 h5 a6 h6 a7 h7 g0 g1 dg du wg wu z = step dg du wg wu z := by
  unfold sout0_B_0 step
  rw [View.read_writes_eq_canon _ _ _ (scover0_B_0 c i a2 h2 a3 h3 a4 h4 a5 h5 a6 h6 a7 h7 g0 g1 dg du wg wu z)]
  unfold kernelRun0_B
  dsimp only
  sl_unfold_words
  rw [View.canon_cons_unit_zero (S := S512x2048) hz2]
  simp only [View.readCov_cons_unit_lit' (S := S512x2048) _ _ _ _ _ off2 off2, View.readCov_unit_zero (S := S512x2048) _ hz2, View.readAt_eq_ld, h2.read_unread, h3.read_unread, h4.read_unread, h5.read_unread, h7.read_unread, View.ld_unit_zero (S := S1x512x1408) hz3, View.ld_unit_zero (S := S1x2048x1408) hz3, View.ld_unit_zero (S := S512x2048) hz2]

/-- A last step stores what it leaves. -/
theorem last_eq (g0 : ¬cond0_0 i) (g1 : cond0_1 i) :
    out0_C_4 c i a2 h2 a3 h3 a4 h4 a5 h5 a6 h6 a7 h7 g0 g1 dg du wg wu z = step dg du wg wu z := by
  unfold out0_C_4 step
  rw [View.read_writes_eq_canon _ _ _ (cover0_C_4 c i a2 h2 a3 h3 a4 h4 a5 h5 a6 h6 a7 h7 g0 g1 dg du wg wu z)]
  unfold kernelRun0_C
  dsimp only
  sl_unfold_words
  rw [View.canon_unit_zero hz2]
  simp only [View.readCov_cons_unit_lit' (S := S512x2048) _ _ _ _ _ off2 off2, View.readCov_unit_zero (S := S512x2048) _ hz2, View.readAt_eq_ld, h2.read_unread, h3.read_unread, h4.read_unread, h5.read_unread, h7.read_unread, View.ld_unit_zero (S := S1x512x1408) hz3, View.ld_unit_zero (S := S1x2048x1408) hz3, View.ld_unit_zero (S := S512x2048) hz2]
end Body

variable (m : (ℓ : Loc nD τ sig) → Buf (Elt Ideal) ℓ) (c : Dev nD)

/-- The blocks a grid point reads. -/
theorem idx0 : ∀ t : Fin grid0.N, win0_0.index t = ![t.val % 4, t.val / 4 + 4, 0] ∧ win0_1.index t = ![t.val % 4, t.val / 4 + 4, 0]
    ∧ win0_2.index t = ![t.val % 4, 0, 0] ∧ win0_3.index t = ![t.val % 4, 0, 0]
    ∧ win0_4.index t = ![t.val / 4 + 4, 0] := by
  decide +kernel

theorem blk0 (t : Fin cfg0.N) (ht : t.val < 16) (i : Fin 512) (f : Fin 1408) : iblk m c 0 t (ix3 0 i f) = m ((c : Thread nD τ).loc main_arg0)
    (ix3 (⟨t.val % 4, by omega⟩ : Fin 4) (⟨512 * (t.val / 4 + 4) + i.val, by omega⟩ : Fin 4096) f) := by
  blk_ext [iblk, V, (idx0 t).1]
theorem blk1 (t : Fin cfg0.N) (ht : t.val < 16) (i : Fin 512) (f : Fin 1408) : iblk m c 1 t (ix3 0 i f) = m ((c : Thread nD τ).loc main_arg1)
    (ix3 (⟨t.val % 4, by omega⟩ : Fin 4) (⟨512 * (t.val / 4 + 4) + i.val, by omega⟩ : Fin 4096) f) := by
  blk_ext [iblk, V, (idx0 t).2.1]
theorem blk2 (t : Fin cfg0.N) (d : Fin 2048) (f : Fin 1408) : iblk m c 2 t (ix3 0 d f) = m ((c : Thread nD τ).loc main_arg2)
    (ix3 (⟨t.val % 4, by omega⟩ : Fin 4) d f) := by
  blk_ext [iblk, V, (idx0 t).2.2.1]
theorem blk3 (t : Fin cfg0.N) (d : Fin 2048) (f : Fin 1408) : iblk m c 3 t (ix3 0 d f) = m ((c : Thread nD τ).loc main_arg3)
    (ix3 (⟨t.val % 4, by omega⟩ : Fin 4) d f) := by
  blk_ext [iblk, V, (idx0 t).2.2.2.1]

/-- A step, entry by entry. -/
theorem step_apply (dg du : Vec Ideal S1x512x1408 .bf16) (wg wu : Vec Ideal S1x2048x1408 .bf16) (z : Vec Ideal S512x2048 .f32) (i : Fin 512) (d : Fin 2048) :
    step dg du wg wu z (ix2 i d) = z (ix2 i d) + ∑ f : Fin 1408, dg (ix3 0 i f) * wg (ix3 0 d f) + ∑ f : Fin 1408, du (ix3 0 i f) * wu (ix3 0 d f) := by
  pointwise [step, k0_pay3, k0_pay2]

theorem zero_apply (i : Fin 512) (d : Fin 2048) : k0_pay1 (F := Ideal) (ix2 i d) = 0 := by
  pointwise [k0_pay1]

/-- The sum the result's entry holds, of one of the two products. -/
abbrev entry (y : Vec Ideal S4x4096x1408 .bf16) (w : Vec Ideal S4x2048x1408 .bf16) (t : Fin 4096) (d : Fin 2048) : EReal :=
  ∑ s : Fin 4, ∑ f : Fin 1408, y (ix3 s t f) * w (ix3 s d f)

/-- The step of a grid point. -/
abbrev stepAt (t : Fin cfg0.N) (z : Vec Ideal S512x2048 .f32) : Vec Ideal S512x2048 .f32 :=
  step (iblk m c 0 t) (iblk m c 1 t) (iblk m c 2 t) (iblk m c 3 t) z

/-- The products a shard adds. -/
abbrev part (y : Vec Ideal S4x4096x1408 .bf16) (w : Vec Ideal S4x2048x1408 .bf16) (t : Fin 4096) (d : Fin 2048) (s : Fin 4) : EReal :=
  ∑ f : Fin 1408, y (ix3 s t f) * w (ix3 s d f)

theorem stepAt_apply (p : Fin 4) (s : Fin 4) (h : 4 * p.val + s.val < cfg0.N) (z : Vec Ideal S512x2048 .f32) (i : Fin 512) (d : Fin 2048) :
    stepAt m c ⟨4 * p.val + s.val, h⟩ z (ix2 i d) = z (ix2 i d)
      + part (m ((c : Thread nD τ).loc main_arg0)) (m ((c : Thread nD τ).loc main_arg2)) ⟨512 * (p.val + 4) + i.val, by omega⟩ d s
      + part (m ((c : Thread nD τ).loc main_arg1)) (m ((c : Thread nD τ).loc main_arg3)) ⟨512 * (p.val + 4) + i.val, by omega⟩ d s := by
  have hN : cfg0.N = 16 := N_0
  have e1 : (⟨(4 * p.val + s.val) % 4, by omega⟩ : Fin 4) = s := Fin.ext (by dsimp only; omega)
  have e2 : (⟨512 * ((4 * p.val + s.val) / 4 + 4) + i.val, by omega⟩ : Fin 4096) = ⟨512 * (p.val + 4) + i.val, by omega⟩ := Fin.ext (by dsimp only; omega)
  rw [stepAt, step_apply]
  refine congrArg₂ _ (congrArg _ (Finset.sum_congr rfl fun f _ => ?_)) (Finset.sum_congr rfl fun f _ => ?_)
  · rw [blk0 m c _ (by dsimp only; omega), blk2]
    dsimp only
    rw [e1, e2]
  · rw [blk1 m c _ (by dsimp only; omega), blk3]
    dsimp only
    rw [e1, e2]

/-- The blocks of the result that are written back: a block's last step's. -/
theorem flush_iff : ∀ t : Fin cfg0.N, (cfg0.win 4).flush t = true ↔ t.val % 4 = 3 := by
  decide +kernel

theorem emb4 (t : Fin cfg0.N) (ht : t.val < 16) (i : Fin 512) (d : Fin 2048) : ((cfg0.win 4).blk t).view.emb (ix2 i d)
    = ix2 (⟨512 * (t.val / 4 + 4) + i.val, by omega⟩ : Fin 4096) d := by
  have e := (idx0 t).2.2.2.2
  funext a
  apply Fin.ext
  match a with
  | ⟨0, _⟩ => show win0_4.index t (0 : Fin 2) * 512 + 1 * i.val = 512 * (t.val / 4 + 4) + i.val; rw [e]; show (t.val / 4 + 4) * 512 + 1 * i.val = _; omega
  | ⟨1, _⟩ => show win0_4.index t (1 : Fin 2) * 2048 + 1 * d.val = d.val; rw [e]; show 0 * 2048 + 1 * d.val = _; omega

/-- What a block's last step writes back. -/
theorem flushed_apply (p : Fin 4) (hlt : 4 * p.val + 3 < cfg0.N) (i : Fin 512) (d : Fin 2048) :
    (dats m 0 c).flushed 4 ⟨4 * p.val + 3, hlt⟩ (ix2 i d)
      = entry (m ((c : Thread nD τ).loc main_arg1)) (m ((c : Thread nD τ).loc main_arg3)) ⟨512 * (p.val + 4) + i.val, by omega⟩ d
        + entry (m ((c : Thread nD τ).loc main_arg0)) (m ((c : Thread nD τ).loc main_arg2)) ⟨512 * (p.val + 4) + i.val, by omega⟩ d := by
  have hN : cfg0.N = 16 := N_0
  show (dats m 0 c).after 4 ⟨4 * p.val + 3, hlt⟩ (ix2 i d) = _
  rw [after0_4, outsAt0_C m c ⟨_, hlt⟩ (by dsimp only; omega) (by dsimp only; omega)]
  dsimp only
  rw [last_eq, outsAt0_B m c ⟨4 * p.val + 3 - 1, by omega⟩ (by dsimp only; omega) (by dsimp only; omega)]
  dsimp only
  rw [middle_eq, outsAt0_B m c ⟨4 * p.val + 3 - 1 - 1, by omega⟩ (by dsimp only; omega) (by dsimp only; omega)]
  dsimp only
  rw [middle_eq, outsAt0_A m c ⟨4 * p.val + 3 - 1 - 1 - 1, by omega⟩ (by dsimp only; omega) (by dsimp only; omega)]
  dsimp only
  rw [first_eq]
  have s3 := stepAt_apply m c p 3 hlt
  have s2 := stepAt_apply m c p 2 (by show 4 * p.val + 2 < _; omega)
  have s1 := stepAt_apply m c p 1 (by show 4 * p.val + 1 < _; omega)
  have s0 := stepAt_apply m c p 0 (by show 4 * p.val + 0 < _; omega)
  refine (s3 _ i d).trans ?_
  rw [show ∀ z, step (iblk m c 0 ⟨4 * p.val + 3 - 1, _⟩) (iblk m c 1 ⟨4 * p.val + 3 - 1, _⟩) (iblk m c 2 ⟨4 * p.val + 3 - 1, _⟩) (iblk m c 3 ⟨4 * p.val + 3 - 1, _⟩) z (ix2 i d) = _ from fun z => s2 z i d,
    show ∀ z, step (iblk m c 0 ⟨4 * p.val + 3 - 1 - 1, _⟩) (iblk m c 1 ⟨4 * p.val + 3 - 1 - 1, _⟩) (iblk m c 2 ⟨4 * p.val + 3 - 1 - 1, _⟩) (iblk m c 3 ⟨4 * p.val + 3 - 1 - 1, _⟩) z (ix2 i d) = _ from fun z => s1 z i d,
    show ∀ z, step (iblk m c 0 ⟨4 * p.val + 3 - 1 - 1 - 1, _⟩) (iblk m c 1 ⟨4 * p.val + 3 - 1 - 1 - 1, _⟩) (iblk m c 2 ⟨4 * p.val + 3 - 1 - 1 - 1, _⟩) (iblk m c 3 ⟨4 * p.val + 3 - 1 - 1 - 1, _⟩) z (ix2 i d) = _ from fun z => s0 z i d,
    zero_apply, entry, entry, Fin.sum_univ_four, Fin.sum_univ_four]
  abel

/-- The rows that the call computes. -/
abbrev rows : Vec Ideal S4096x2048 .f32 := fun x =>
  entry (m ((c : Thread nD τ).loc main_arg1)) (m ((c : Thread nD τ).loc main_arg3)) (x 0) (x 1)
    + entry (m ((c : Thread nD τ).loc main_arg0)) (m ((c : Thread nD τ).loc main_arg2)) (x 0) (x 1)

theorem flushed_rows (t : Fin cfg0.N) (h : (cfg0.win 4).flush t = true) :
    (dats m 0 c).flushed 4 t = ((cfg0.win 4).blk t).view.read (Elt Ideal) (rows m c) := by
  have hN : cfg0.N = 16 := N_0
  have h3 := (flush_iff t).mp h
  obtain ⟨n, hn⟩ := t
  obtain ⟨p, rfl⟩ : ∃ p : Fin 4, n = 4 * p.val + 3 := ⟨⟨n / 4, by omega⟩, by dsimp only at h3 ⊢; omega⟩
  funext y
  obtain ⟨i, d, rfl⟩ : ∃ (i : Fin 512) (d : Fin 2048), y = ix2 i d := ⟨y 0, y 1, eq_ix2 y⟩
  have hlt : 4 * p.val + 3 < cfg0.N := hn
  have e : (⟨512 * (p.val + 4) + i.val, by omega⟩ : Fin 4096) = ⟨512 * ((4 * p.val + 3) / 4 + 4) + i.val, by omega⟩ := Fin.ext (by dsimp only; omega)
  refine (flushed_apply m c p hlt i d).trans ?_
  rw [e]
  exact (congrArg (rows m c) (emb4 ⟨4 * p.val + 3, hlt⟩ (by dsimp only; omega) i d)).symm

/-- The kernel's result in the rows that the call computes. -/
theorem array_apply (t : Fin 4096) (ht : 2048 ≤ t.val) (d : Fin 2048) : (dats m 0 c).arrAt 4 cfg0.N (ix2 t d)
    = entry (m ((c : Thread nD τ).loc main_arg1)) (m ((c : Thread nD τ).loc main_arg3)) t d
      + entry (m ((c : Thread nD τ).loc main_arg0)) (m ((c : Thread nD τ).loc main_arg2)) t d := by
  have hN : cfg0.N = 16 := N_0
  have hlt : 4 * (t.val / 512 - 4) + 3 < cfg0.N := by omega
  refine (dats m 0 c).arrAt_apply_of_mem 4 (rows m c) (flushed_rows m c) cfg0.N ⟨4 * (t.val / 512 - 4) + 3, hlt⟩ (ix2 t d) hlt
    ((flush_iff _).mpr (by dsimp only; omega)) ?_
  have e := emb4 ⟨4 * (t.val / 512 - 4) + 3, hlt⟩ (by dsimp only; omega) ⟨t.val % 512, by omega⟩ d
  have e' : (⟨512 * ((⟨4 * (t.val / 512 - 4) + 3, hlt⟩ : Fin cfg0.N).val / 4 + 4) + (⟨t.val % 512, by omega⟩ : Fin 512).val, by dsimp only; omega⟩ : Fin 4096) = t :=
    Fin.ext (by dsimp only; omega)
  rw [e'] at e
  exact e ▸ View.emb_mem_set _ _

/-- The call starts from the first call's array. -/
theorem V_start : V m c main_v0 = m ((c : Thread nD τ).loc main_arg4) := by
  simp only [V, hostOps0]
  after_results_simp
  rfl

/-- The first half of the tokens stays. -/
theorem kept_apply (t : Fin 4096) (ht : t.val < 2048) (d : Fin 2048) :
    (dats m 0 c).arrAt 4 cfg0.N (ix2 t d) = m ((c : Thread nD τ).loc main_arg4) (ix2 t d) := by
  refine (entry4 m c (ix2 t d) fun s _ hs => ?_).trans (congrFun (V_start m c) _)
  obtain ⟨y, -, hy⟩ := Finset.mem_map.mp hs
  have hN : cfg0.N = 16 := N_0
  obtain ⟨i, e, rfl⟩ : ∃ (i : Fin 512) (e : Fin 2048), y = ix2 i e := ⟨y 0, y 1, eq_ix2 y⟩
  rw [emb4 _ (by omega)] at hy
  have h0 : 512 * (s.val / 4 + 4) + i.val = t.val := congrArg Fin.val (congrFun hy 0)
  omega

end Cert.Kernel16Ideal.Ffn

namespace Cert.Reference16Ideal.Ffn

open Cert.Reference16Ideal Cert.Reference16Ideal.Gen
open Idealize.ShloMosaic Idealize.ShloMosaic.TcCoe Idealize.ShloMosaic.Pointwise

/-- The reference's rows that the call computes. -/
theorem rows_apply (dg du : Vec Ideal S4x4096x1408 .bf16) (wg wu : Vec Ideal S4x2048x1408 .bf16) (t : Fin 4096) (d : Fin 2048) :
    Read.val_main_v14 dg du wg wu (ix2 t d) = Cert.Kernel16Ideal.Ffn.entry du wu t d + Cert.Kernel16Ideal.Ffn.entry dg wg t d := by
  pointwise [Read.val_main_v14, Read.val_main_v13, Read.val_main_v12, Read.val_main_v11, Read.val_main_v10, Read.val_main_v4, Read.val_main_v3, Read.val_main_v2, Read.val_main_v1]

/-- The reference's result in the first half of the tokens. -/
theorem kept_apply (dg du : Vec Ideal S4x4096x1408 .bf16) (wg wu : Vec Ideal S4x2048x1408 .bf16) (prev : Vec Ideal S4096x2048 .f32) (t : Fin 4096) (ht : t.val < 2048) (d : Fin 2048) :
    Read.val_main_v16 dg du wg wu prev (ix2 t d) = prev (ix2 t d) := by
  unfold Read.val_main_v16
  refine (concatenate_pair_apply_left (s₁ := S2048x2048) (s₂ := S2048x2048) 0 _ _ _ (ix2 t d) rfl (ix2 (⟨t.val, ht⟩ : Fin 2048) d) (fun b => ?_)).trans ?_
  · match b with
    | ⟨0, _⟩ => rfl
    | ⟨1, _⟩ => rfl
  · pointwise [Read.val_main_v0]

/-- The reference's result in the second half of the tokens. -/
theorem computed_apply (dg du : Vec Ideal S4x4096x1408 .bf16) (wg wu : Vec Ideal S4x2048x1408 .bf16) (prev : Vec Ideal S4096x2048 .f32) (t : Fin 4096) (ht : 2048 ≤ t.val) (d : Fin 2048) :
    Read.val_main_v16 dg du wg wu prev (ix2 t d) = Read.val_main_v14 dg du wg wu (ix2 t d) := by
  unfold Read.val_main_v16
  refine (concatenate_pair_apply_right (s₁ := S2048x2048) (s₂ := S2048x2048) 0 _ _ _ (ix2 t d) rfl rfl (ix2 (⟨t.val - 2048, by omega⟩ : Fin 2048) d) (fun b hb => ?_) ?_).trans ?_
  · match b with
    | ⟨0, _⟩ => exact absurd rfl hb
    | ⟨1, _⟩ => rfl
  · show t.val - 2048 + 2048 = t.val
    omega
  · refine (Read.val_main_v15_apply _ _ _ _ _).trans (congrArg _ ?_)
    funext a
    apply Fin.ext
    match a with
    | ⟨0, _⟩ => show 2048 + (t.val - 2048) = t.val; omega
    | ⟨1, _⟩ => rfl

/-- The kernel's result is the reference's function of the kernel's arguments. -/
theorem result_eq (m : (ℓ : Loc Cert.Kernel16Ideal.nD Cert.Kernel16Ideal.τ Cert.Kernel16Ideal.sig) → Buf (Elt Ideal) ℓ) (c : Dev Cert.Kernel16Ideal.nD) :
    (Cert.Kernel16Ideal.Gen.dats m 0 c).arrAt 4 Cert.Kernel16Ideal.cfg0.N
      = Read.val_main_v16 (F := Ideal)
        (m ((c.tc : Thread Cert.Kernel16Ideal.nD Cert.Kernel16Ideal.τ).loc Cert.Kernel16Ideal.main_arg0))
        (m ((c.tc : Thread Cert.Kernel16Ideal.nD Cert.Kernel16Ideal.τ).loc Cert.Kernel16Ideal.main_arg1))
        (m ((c.tc : Thread Cert.Kernel16Ideal.nD Cert.Kernel16Ideal.τ).loc Cert.Kernel16Ideal.main_arg2))
        (m ((c.tc : Thread Cert.Kernel16Ideal.nD Cert.Kernel16Ideal.τ).loc Cert.Kernel16Ideal.main_arg3))
        (m ((c.tc : Thread Cert.Kernel16Ideal.nD Cert.Kernel16Ideal.τ).loc Cert.Kernel16Ideal.main_arg4)) := by
  funext x
  obtain ⟨t, d, rfl⟩ : ∃ (t : Fin 4096) (d : Fin 2048), x = ix2 t d := ⟨x 0, x 1, eq_ix2 x⟩
  by_cases ht : t.val < 2048
  · exact (Cert.Kernel16Ideal.Ffn.kept_apply m c t ht d).trans (kept_apply _ _ _ _ _ t ht d).symm
  · exact (Cert.Kernel16Ideal.Ffn.array_apply m c t (by omega) d).trans
      ((computed_apply _ _ _ _ _ t (by omega) d).trans (rows_apply _ _ _ _ t d)).symm

end Cert.Reference16Ideal.Ffn
-- ==== Proof.Norm.Rms.lean ====
/-
  What the proofs of the norms share: the reciprocal root of a row's mean square, the two forms of a norm's gradient, and
  sums over blocks of rows.
-/
module

public import Idealize.ShloMosaic.Lib.Claim
public import Idealize.ShloMosaic.Lib.Pointwise

@[expose] public section

noncomputable section

namespace Cert.Norm

open Idealize.ShloMosaic
open Finset (range)

/-- The number added to the mean square, as it is written. -/
abbrev eps : EReal := Ideal.ofBits .f32 0x358637BD#32

/-- A row's mean square with its offset. -/
abbrev ms {n : ℕ} (w : EReal) (x : Fin n → EReal) : EReal := Ideal.div (∑ k, x k * x k) w + eps

/-- The reciprocal root that a row is scaled by. -/
abbrev rr {n : ℕ} (w : EReal) (x : Fin n → EReal) : EReal := Ideal.rsqrt (ms w x)

theorem w2048 : Ideal.ofBits .f32 0x45000000#32 = ((2048 : ℝ) : EReal) := by
  simp [Ideal.ofBits, Ideal.ieee, -EReal.coe_mul]; norm_num
theorem w1024 : Ideal.ofBits .f32 0x44800000#32 = ((1024 : ℝ) : EReal) := by
  simp [Ideal.ofBits, Ideal.ieee, -EReal.coe_mul]; norm_num
theorem wneg : Ideal.ofBits .f32 0xBF000000#32 = ((-1 / 2 : ℝ) : EReal) := by
  simp [Ideal.ofBits, Ideal.ieee, -EReal.coe_mul]; norm_num
theorem whalf : Ideal.ofBits .f32 0x3F000000#32 = ((1 / 2 : ℝ) : EReal) := by
  simp [Ideal.ofBits, Ideal.ieee, -EReal.coe_mul]; norm_num
theorem wtwo : Ideal.ofBits .f32 0x40000000#32 = ((2 : ℝ) : EReal) := by
  simp [Ideal.ofBits, Ideal.ieee, -EReal.coe_mul]; norm_num
theorem eps_pos : 0 < eps := by
  have : (0 : ℝ) < 8796093 * (2 : ℝ) ^ (-43 : ℤ) := by positivity
  simp [eps, Ideal.ofBits, Ideal.ieee, -EReal.coe_mul]

theorem sq_nonneg (x : EReal) : 0 ≤ x * x := by
  induction x with
  | bot => simp
  | top => simp
  | coe r => exact_mod_cast mul_self_nonneg r

/-- The mean square with its offset is positive. -/
theorem ms_pos {n : ℕ} {w : ℝ} (hw : 0 < w) (x : Fin n → EReal) : 0 < ms (w : EReal) x := by
  have h : (0 : EReal) ≤ Ideal.div (∑ k, x k * x k) (w : EReal) := by
    rw [Ideal.div_coe hw.ne']
    exact mul_nonneg (Finset.sum_nonneg fun k _ => sq_nonneg _) (by exact_mod_cast (by positivity : (0 : ℝ) ≤ 1 / w))
  exact lt_of_lt_of_le eps_pos (le_add_of_nonneg_left h)

/-- The cube of a reciprocal root is the root over its argument. -/
theorem cube {s : EReal} (hs : 0 < s) : Ideal.rsqrt s * Ideal.rsqrt s * Ideal.rsqrt s = Ideal.div (Ideal.rsqrt s) s := by
  induction s with
  | bot => simp at hs
  | top => simp [Ideal.div]
  | coe r =>
    have hr : 0 < r := by exact_mod_cast hs
    rw [Ideal.div_coe hr.ne', Ideal.rsqrt_coe, if_neg hr.not_gt, if_neg hr.ne', ← EReal.coe_mul, ← EReal.coe_mul, ← EReal.coe_mul]
    congr 1
    have h : (Real.sqrt r)⁻¹ * (Real.sqrt r)⁻¹ = 1 / r := by rw [← mul_inv, Real.mul_self_sqrt hr.le, one_div]
    rw [mul_assoc, h]

/-- Twice minus a half of a number. -/
theorem halves (y : EReal) : ((-1 / 2 : ℝ) : EReal) * y + ((-1 / 2 : ℝ) : EReal) * y = -y := by
  induction y with
  | bot => rw [EReal.coe_mul_bot_of_neg (by norm_num)]; rfl
  | top => rw [EReal.coe_mul_top_of_neg (by norm_num)]; rfl
  | coe r => rw [← EReal.coe_mul, ← EReal.coe_add, ← EReal.coe_neg]; congr 1; ring

/-- The gradient of a norm by its input: the reference's form, where the mean square's share comes in two equal parts, and
    the kernel's. `a` is the incoming gradient times the gain, `p` its product with the row. -/
theorem grad {s : EReal} (hs : 0 < s) {w : ℝ} (hw : w ≠ 0) (x a p : EReal) :
    a * Ideal.rsqrt s
        + x * Ideal.div (p * (((-1 / 2 : ℝ) : EReal) * Ideal.div (Ideal.rsqrt s) s)) (w : EReal)
        + Ideal.div (p * (((-1 / 2 : ℝ) : EReal) * Ideal.div (Ideal.rsqrt s) s)) (w : EReal) * x
      = Ideal.rsqrt s * a - x * (Ideal.rsqrt s * Ideal.rsqrt s * Ideal.rsqrt s * Ideal.div p (w : EReal)) := by
  rw [cube hs, Ideal.div_coe hw, Ideal.div_coe hw, add_assoc, mul_comm a, sub_eq_add_neg, ← halves]
  generalize Ideal.div (Ideal.rsqrt s) s = q
  generalize ((1 / w : ℝ) : EReal) = v
  generalize ((-1 / 2 : ℝ) : EReal) = h
  have e : x * (p * (h * q) * v) = h * (x * (q * (p * v))) := by
    ac_rfl
  rw [mul_comm _ x, e]

/-- A norm's gradient by its row `x`, with the gain `g` and the incoming gradient `dy`, at the row's place `d`. -/
abbrev gradRow {n : ℕ} (w : EReal) (x g dy : Fin n → EReal) (d : Fin n) : EReal :=
  rr w x * (dy d * g d) - x d * (rr w x * rr w x * rr w x * Ideal.div (∑ k, dy k * g k * x k) w)

/-- The reference's form of the gradient by a row. -/
theorem gradRow_eq {n : ℕ} {w : ℝ} (hw : 0 < w) (x g dy : Fin n → EReal) (d : Fin n) :
    dy d * g d * rr (w : EReal) x
        + x d * Ideal.div ((∑ k, x k * (dy k * g k)) * (((-1 / 2 : ℝ) : EReal) * Ideal.div (rr (w : EReal) x) (ms (w : EReal) x))) (w : EReal)
        + Ideal.div ((∑ k, x k * (dy k * g k)) * (((-1 / 2 : ℝ) : EReal) * Ideal.div (rr (w : EReal) x) (ms (w : EReal) x))) (w : EReal) * x d
      = gradRow (w : EReal) x g dy d := by
  have hp : ∑ k, x k * (dy k * g k) = ∑ k, dy k * g k * x k := Finset.sum_congr rfl fun k _ => mul_comm _ _
  rw [hp]
  exact grad (ms_pos hw x) hw.ne' (x d) (dy d * g d) (∑ k, dy k * g k * x k)

/-- A sum over the rows of `n + 1` blocks of 256. -/
theorem sum_blocks (f : ℕ → EReal) (n : ℕ) :
    ∑ k ∈ range (256 * (n + 1)), f k = ∑ k ∈ range (256 * n), f k + ∑ i : Fin 256, f (256 * n + i.val) := by
  rw [show 256 * (n + 1) = 256 * n + 256 from by ring, Finset.sum_range_add, Fin.sum_univ_eq_sum_range (fun i => f (256 * n + i)) 256]

/-- A total gathered over sixteen blocks of 256 rows is the sum over all the rows. -/
theorem acc (f : Fin 4096 → EReal) (A : (n : ℕ) → n < 16 → EReal)
    (h0 : A 0 (by omega) = ∑ i : Fin 256, f ⟨256 * 0 + i.val, by omega⟩)
    (hs : ∀ n (h : n + 1 < 16), A (n + 1) h = A n (by omega) + ∑ i : Fin 256, f ⟨256 * (n + 1) + i.val, by omega⟩) :
    A 15 (by omega) = ∑ k, f k := by
  let g : ℕ → EReal := fun k => if h : k < 4096 then f ⟨k, h⟩ else 0
  have hg : ∀ k (h : k < 4096), g k = f ⟨k, h⟩ := fun k h => dif_pos h
  have hb : ∀ n (h : n < 16), (∑ i : Fin 256, f ⟨256 * n + i.val, by omega⟩) = ∑ i : Fin 256, g (256 * n + i.val) := fun n h =>
    Finset.sum_congr rfl fun i _ => (hg _ (by omega)).symm
  have h : ∀ n (h : n < 16), A n h = ∑ k ∈ range (256 * (n + 1)), g k := by
    intro n
    induction n with
    | zero => intro h; rw [h0, hb 0 h, sum_blocks]; simp
    | succ n ih => intro h; rw [hs n h, ih (by omega), hb (n + 1) h, sum_blocks g (n + 1)]
  rw [h 15 (by omega), Finset.sum_range]
  exact Finset.sum_congr rfl fun i _ => hg _ i.isLt

end Cert.Norm

end
-- ==== Proof.Proj.OutBack.lean ====
/-
  The backward pass of the output projection and of the norms before it: each point's product of a block of the stream's
  gradient with the weights, sent through the gradients of two norms, and the gains' gradients gathered over the points.
-/
module

public import proofs.«01_k».proof.Proof.Gen.Kernel17Ideal.Value
public import proofs.«01_k».proof.Proof.Gen.Reference17Ideal.Read
public import proofs.«01_k».proof.Proof.Ffn.Sums
public import proofs.«01_k».proof.Proof.Norm.Rms

@[expose] public section

noncomputable section

namespace Cert.Kernel17Ideal.Proj

open Cert.Kernel17Ideal Cert.Kernel17Ideal.Gen Cert.Kernel17Ideal.Value
open Cert.Ffn (hz2)
open Cert.Norm (rr acc gradRow)
open Idealize.ShloMosaic Idealize.ShloMosaic.TcCoe Idealize.ShloMosaic.Pointwise

section Body
variable {F : FTy → Type} [FloatOps F]
variable (c : Dev nD) (i : grid0.Coords) (a1 : Memref sig .tc .vmem S256x2048 .f32) (h1 : a1.IsWhole)
  (a2 : Memref sig .tc .vmem S2048x2048 .bf16) (h2 : a2.IsWhole) (a3 : Memref sig .tc .vmem S256x1024 .f32) (h3 : a3.IsWhole)
  (a4 : Memref sig .tc .vmem S256x1024 .f32) (h4 : a4.IsWhole) (a5 : Memref sig .tc .vmem S1x1024 .f32) (h5 : a5.IsWhole)
  (a6 : Memref sig .tc .vmem S1x1024 .f32) (h6 : a6.IsWhole) (a7 : Memref sig .tc .vmem S256x1024 .f32) (h7 : a7.IsWhole)
  (a8 : Memref sig .tc .vmem S256x1024 .f32) (h8 : a8.IsWhole) (a9 : Memref sig .tc .vmem S1x1024 .f32) (h9 : a9.IsWhole)
  (a10 : Memref sig .tc .vmem S1x1024 .f32) (h10 : a10.IsWhole)
  (dx : Vec F S256x2048 .f32) (w : Vec F S2048x2048 .bf16) (ya yb : Vec F S256x1024 .f32) (ga gb : Vec F S1x1024 .f32) (za zb : Vec F S1x1024 .f32)

/-- The first point's block of the first norm's gradient. -/
theorem outA6 (g0 : cond0_0 i) : out0_A_6 c i a1 h1 a2 h2 a3 h3 a4 h4 a5 h5 a6 h6 a7 h7 a8 h8 a9 h9 a10 h10 g0 dx w ya yb ga gb
    = k0_pay6 dx w ya ga := by
  unfold out0_A_6
  rw [View.read_writes_eq_canon _ _ _ (cover0_A_6 c i a1 h1 a2 h2 a3 h3 a4 h4 a5 h5 a6 h6 a7 h7 a8 h8 a9 h9 a10 h10 g0 dx w ya yb ga gb)]
  unfold kernelRun0_A
  dsimp only
  sl_unfold_words
  rw [View.canon_unit_zero hz2]
  simp only [View.readCov_unit_zero (S := S1x1024) _ hz2, View.readAt_eq_ld, h1.read_unread, h2.read_unread, h3.read_unread, h4.read_unread, h5.read_unread, h6.read_unread, h9.read_unread, h10.read_unread,
    View.ld_unit_zero (S := S256x2048) hz2, View.ld_unit_zero (S := S2048x2048) hz2, View.ld_unit_zero (S := S256x1024) hz2, View.ld_unit_zero (S := S1x1024) hz2]

/-- Another point's block of it. -/
theorem outB6 (g0 : ¬cond0_0 i) : out0_B_6 c i a1 h1 a2 h2 a3 h3 a4 h4 a5 h5 a6 h6 a7 h7 a8 h8 a9 h9 a10 h10 g0 dx w ya yb ga gb za zb
    = k0_pay6 dx w ya ga := by
  unfold out0_B_6
  rw [View.read_writes_eq_canon _ _ _ (cover0_B_6 c i a1 h1 a2 h2 a3 h3 a4 h4 a5 h5 a6 h6 a7 h7 a8 h8 a9 h9 a10 h10 g0 dx w ya yb ga gb za zb)]
  unfold kernelRun0_B
  dsimp only
  sl_unfold_words
  rw [View.canon_unit_zero hz2]
  simp only [View.readCov_unit_zero (S := S1x1024) _ hz2, View.readAt_eq_ld, h1.read_unread, h2.read_unread, h3.read_unread, h4.read_unread, h5.read_unread, h6.read_unread, h9.read_unread, h10.read_unread,
    View.ld_unit_zero (S := S256x2048) hz2, View.ld_unit_zero (S := S2048x2048) hz2, View.ld_unit_zero (S := S256x1024) hz2, View.ld_unit_zero (S := S1x1024) hz2]

/-- The first point's block of the second norm's gradient. -/
theorem outA7 (g0 : cond0_0 i) : out0_A_7 c i a1 h1 a2 h2 a3 h3 a4 h4 a5 h5 a6 h6 a7 h7 a8 h8 a9 h9 a10 h10 g0 dx w ya yb ga gb
    = k0_pay10 (k0_pay1 dx w) yb gb := by
  unfold out0_A_7
  rw [View.read_writes_eq_canon _ _ _ (cover0_A_7 c i a1 h1 a2 h2 a3 h3 a4 h4 a5 h5 a6 h6 a7 h7 a8 h8 a9 h9 a10 h10 g0 dx w ya yb ga gb)]
  unfold kernelRun0_A
  dsimp only
  sl_unfold_words
  rw [View.canon_unit_zero hz2]
  simp only [View.readCov_unit_zero (S := S1x1024) _ hz2, View.readAt_eq_ld, h1.read_unread, h2.read_unread, h3.read_unread, h4.read_unread, h5.read_unread, h6.read_unread, h9.read_unread, h10.read_unread,
    View.ld_unit_zero (S := S256x2048) hz2, View.ld_unit_zero (S := S2048x2048) hz2, View.ld_unit_zero (S := S256x1024) hz2, View.ld_unit_zero (S := S1x1024) hz2]

/-- Another point's block of it. -/
theorem outB7 (g0 : ¬cond0_0 i) : out0_B_7 c i a1 h1 a2 h2 a3 h3 a4 h4 a5 h5 a6 h6 a7 h7 a8 h8 a9 h9 a10 h10 g0 dx w ya yb ga gb za zb
    = k0_pay10 (k0_pay1 dx w) yb gb := by
  unfold out0_B_7
  rw [View.read_writes_eq_canon _ _ _ (cover0_B_7 c i a1 h1 a2 h2 a3 h3 a4 h4 a5 h5 a6 h6 a7 h7 a8 h8 a9 h9 a10 h10 g0 dx w ya yb ga gb za zb)]
  unfold kernelRun0_B
  dsimp only
  sl_unfold_words
  rw [View.canon_unit_zero hz2]
  simp only [View.readCov_unit_zero (S := S1x1024) _ hz2, View.readAt_eq_ld, h1.read_unread, h2.read_unread, h3.read_unread, h4.read_unread, h5.read_unread, h6.read_unread, h9.read_unread, h10.read_unread,
    View.ld_unit_zero (S := S256x2048) hz2, View.ld_unit_zero (S := S2048x2048) hz2, View.ld_unit_zero (S := S256x1024) hz2, View.ld_unit_zero (S := S1x1024) hz2]

/-- The first point starts the first gain's gradient from zero. -/
theorem outA8 (g0 : cond0_0 i) : out0_A_8 c i a1 h1 a2 h2 a3 h3 a4 h4 a5 h5 a6 h6 a7 h7 a8 h8 a9 h9 a10 h10 g0 dx w ya yb ga gb
    = k0_pay11 (k0_pay7 dx w ya) (k0_pay2 (F := F)) := by
  unfold out0_A_8
  rw [View.read_writes_eq_canon _ _ _ (cover0_A_8 c i a1 h1 a2 h2 a3 h3 a4 h4 a5 h5 a6 h6 a7 h7 a8 h8 a9 h9 a10 h10 g0 dx w ya yb ga gb)]
  unfold kernelRun0_A
  dsimp only
  sl_unfold_words
  rw [View.canon_cons_unit_zero (S := S1x1024) hz2]
  simp only [View.readCov_unit_zero (S := S1x1024) _ hz2, View.readAt_eq_ld, h1.read_unread, h2.read_unread, h3.read_unread, h4.read_unread, h5.read_unread, h6.read_unread, h9.read_unread, h10.read_unread,
    View.ld_unit_zero (S := S256x2048) hz2, View.ld_unit_zero (S := S2048x2048) hz2, View.ld_unit_zero (S := S256x1024) hz2, View.ld_unit_zero (S := S1x1024) hz2]

/-- Another point adds its rows' share to it. -/
theorem outB8 (g0 : ¬cond0_0 i) : out0_B_8 c i a1 h1 a2 h2 a3 h3 a4 h4 a5 h5 a6 h6 a7 h7 a8 h8 a9 h9 a10 h10 g0 dx w ya yb ga gb za zb
    = k0_pay11 (k0_pay7 dx w ya) za := by
  unfold out0_B_8
  rw [View.read_writes_eq_canon _ _ _ (cover0_B_8 c i a1 h1 a2 h2 a3 h3 a4 h4 a5 h5 a6 h6 a7 h7 a8 h8 a9 h9 a10 h10 g0 dx w ya yb ga gb za zb)]
  unfold kernelRun0_B
  dsimp only
  sl_unfold_words
  rw [View.canon_unit_zero hz2]
  simp only [View.readCov_unit_zero (S := S1x1024) _ hz2, View.readAt_eq_ld, h1.read_unread, h2.read_unread, h3.read_unread, h4.read_unread, h5.read_unread, h6.read_unread, h9.read_unread, h10.read_unread,
    View.ld_unit_zero (S := S256x2048) hz2, View.ld_unit_zero (S := S2048x2048) hz2, View.ld_unit_zero (S := S256x1024) hz2, View.ld_unit_zero (S := S1x1024) hz2]

/-- The first point starts the second gain's gradient from zero. -/
theorem outA9 (g0 : cond0_0 i) : out0_A_9 c i a1 h1 a2 h2 a3 h3 a4 h4 a5 h5 a6 h6 a7 h7 a8 h8 a9 h9 a10 h10 g0 dx w ya yb ga gb
    = k0_pay12 (k0_pay1 dx w) yb (k0_pay3 (F := F)) := by
  unfold out0_A_9
  rw [View.read_writes_eq_canon _ _ _ (cover0_A_9 c i a1 h1 a2 h2 a3 h3 a4 h4 a5 h5 a6 h6 a7 h7 a8 h8 a9 h9 a10 h10 g0 dx w ya yb ga gb)]
  unfold kernelRun0_A
  dsimp only
  sl_unfold_words
  rw [View.canon_cons_unit_zero (S := S1x1024) hz2]
  simp only [View.readCov_unit_zero (S := S1x1024) _ hz2, View.readAt_eq_ld, h1.read_unread, h2.read_unread, h3.read_unread, h4.read_unread, h5.read_unread, h6.read_unread, h9.read_unread, h10.read_unread,
    View.ld_unit_zero (S := S256x2048) hz2, View.ld_unit_zero (S := S2048x2048) hz2, View.ld_unit_zero (S := S256x1024) hz2, View.ld_unit_zero (S := S1x1024) hz2]

/-- Another point adds its rows' share to it. -/
theorem outB9 (g0 : ¬cond0_0 i) : out0_B_9 c i a1 h1 a2 h2 a3 h3 a4 h4 a5 h5 a6 h6 a7 h7 a8 h8 a9 h9 a10 h10 g0 dx w ya yb ga gb za zb
    = k0_pay12 (k0_pay1 dx w) yb zb := by
  unfold out0_B_9
  rw [View.read_writes_eq_canon _ _ _ (cover0_B_9 c i a1 h1 a2 h2 a3 h3 a4 h4 a5 h5 a6 h6 a7 h7 a8 h8 a9 h9 a10 h10 g0 dx w ya yb ga gb za zb)]
  unfold kernelRun0_B
  dsimp only
  sl_unfold_words
  rw [View.canon_unit_zero hz2]
  simp only [View.readCov_unit_zero (S := S1x1024) _ hz2, View.readAt_eq_ld, h1.read_unread, h2.read_unread, h3.read_unread, h4.read_unread, h5.read_unread, h6.read_unread, h9.read_unread, h10.read_unread,
    View.ld_unit_zero (S := S256x2048) hz2, View.ld_unit_zero (S := S2048x2048) hz2, View.ld_unit_zero (S := S256x1024) hz2, View.ld_unit_zero (S := S1x1024) hz2]

end Body

variable (m : (ℓ : Loc nD τ sig) → Buf (Elt Ideal) ℓ) (c : Dev nD)

/-- The blocks a grid point reads. -/
theorem idx0 : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![0, 0] := by
  decide +kernel
/-- The blocks a grid point writes. -/
theorem idx1 : ∀ t : Fin grid0.N, win0_6.index t = ![t.val, 0] ∧ win0_7.index t = ![t.val, 0] ∧ win0_8.index t = ![0, 0] ∧ win0_9.index t = ![0, 0] := by
  decide +kernel

theorem blk0 (t : Fin cfg0.N) (ht : t.val < 16) (i : Fin 256) (k : Fin 2048) : iblk m c 0 t (ix2 i k) = m ((c : Thread nD τ).loc main_arg0)
    (ix2 (⟨256 * t.val + i.val, by omega⟩ : Fin 4096) k) := by
  blk_ext [iblk, V, (idx0 t).1]
theorem blk1 (t : Fin cfg0.N) (k n : Fin 2048) : iblk m c 1 t (ix2 k n) = m ((c : Thread nD τ).loc main_arg1) (ix2 k n) := by
  blk_ext [iblk, V, (idx0 t).2.1]
theorem blk2 (t : Fin cfg0.N) (ht : t.val < 16) (i : Fin 256) (k : Fin 1024) : iblk m c 2 t (ix2 i k) = m ((c : Thread nD τ).loc main_arg2)
    (ix2 (⟨256 * t.val + i.val, by omega⟩ : Fin 4096) k) := by
  blk_ext [iblk, V, (idx0 t).2.2.1]
theorem blk3 (t : Fin cfg0.N) (ht : t.val < 16) (i : Fin 256) (k : Fin 1024) : iblk m c 3 t (ix2 i k) = m ((c : Thread nD τ).loc main_arg3)
    (ix2 (⟨256 * t.val + i.val, by omega⟩ : Fin 4096) k) := by
  blk_ext [iblk, V, (idx0 t).2.2.2.1]
theorem blk4 (t : Fin cfg0.N) (k : Fin 1024) : iblk m c 4 t (ix2 0 k) = m ((c : Thread nD τ).loc main_arg4) (ix2 0 k) := by
  blk_ext [iblk, V, (idx0 t).2.2.2.2.1]
theorem blk5 (t : Fin cfg0.N) (k : Fin 1024) : iblk m c 5 t (ix2 0 k) = m ((c : Thread nD τ).loc main_arg5) (ix2 0 k) := by
  blk_ext [iblk, V, (idx0 t).2.2.2.2.2]
theorem emb6 (t : Fin cfg0.N) (ht : t.val < 16) (i : Fin 256) (d : Fin 1024) : ((cfg0.win 6).blk t).view.emb (ix2 i d)
    = ix2 (⟨256 * t.val + i.val, by omega⟩ : Fin 4096) d := by
  have e := (idx1 t).1
  funext a
  apply Fin.ext
  match a with
  | ⟨0, _⟩ => show win0_6.index t (0 : Fin 2) * 256 + 1 * i.val = 256 * t.val + i.val; rw [e]; show t.val * 256 + 1 * i.val = _; omega
  | ⟨1, _⟩ => show win0_6.index t (1 : Fin 2) * 1024 + 1 * d.val = d.val; rw [e]; show 0 * 1024 + 1 * d.val = _; omega
theorem emb7 (t : Fin cfg0.N) (ht : t.val < 16) (i : Fin 256) (d : Fin 1024) : ((cfg0.win 7).blk t).view.emb (ix2 i d)
    = ix2 (⟨256 * t.val + i.val, by omega⟩ : Fin 4096) d := by
  have e := (idx1 t).2.1
  funext a
  apply Fin.ext
  match a with
  | ⟨0, _⟩ => show win0_7.index t (0 : Fin 2) * 256 + 1 * i.val = 256 * t.val + i.val; rw [e]; show t.val * 256 + 1 * i.val = _; omega
  | ⟨1, _⟩ => show win0_7.index t (1 : Fin 2) * 1024 + 1 * d.val = d.val; rw [e]; show 0 * 1024 + 1 * d.val = _; omega
theorem emb8 (t : Fin cfg0.N) (d : Fin 1024) : ((cfg0.win 8).blk t).view.emb (ix2 (0 : Fin 1) d) = ix2 0 d := by
  have e := (idx1 t).2.2.1
  funext a
  apply Fin.ext
  match a with
  | ⟨0, _⟩ => show win0_8.index t (0 : Fin 2) * 1 + 1 * 0 = 0; rw [e]; rfl
  | ⟨1, _⟩ => show win0_8.index t (1 : Fin 2) * 1024 + 1 * d.val = d.val; rw [e]; show 0 * 1024 + 1 * d.val = _; omega
theorem emb9 (t : Fin cfg0.N) (d : Fin 1024) : ((cfg0.win 9).blk t).view.emb (ix2 (0 : Fin 1) d) = ix2 0 d := by
  have e := (idx1 t).2.2.2
  funext a
  apply Fin.ext
  match a with
  | ⟨0, _⟩ => show win0_9.index t (0 : Fin 2) * 1 + 1 * 0 = 0; rw [e]; rfl
  | ⟨1, _⟩ => show win0_9.index t (1 : Fin 2) * 1024 + 1 * d.val = d.val; rw [e]; show 0 * 1024 + 1 * d.val = _; omega
theorem cut6 (t : Fin cfg0.N) (X : Vec Ideal S256x1024 .f32) (i : Fin 256) (d : Fin 1024) :
    (cfg0.win 6).cut (grid0.coords t) X (ix2 i d) = X (ix2 i d) := rfl
theorem cut7 (t : Fin cfg0.N) (X : Vec Ideal S256x1024 .f32) (i : Fin 256) (d : Fin 1024) :
    (cfg0.win 7).cut (grid0.coords t) X (ix2 i d) = X (ix2 i d) := rfl
theorem cut8 (t : Fin cfg0.N) (X : Vec Ideal S1x1024 .f32) (d : Fin 1024) :
    (cfg0.win 8).cut (grid0.coords t) X (ix2 (0 : Fin 1) d) = X (ix2 0 d) := rfl
theorem cut9 (t : Fin cfg0.N) (X : Vec Ideal S1x1024 .f32) (d : Fin 1024) :
    (cfg0.win 9).cut (grid0.coords t) X (ix2 (0 : Fin 1) d) = X (ix2 0 d) := rfl

/-- The number 1024, as it is written. -/
abbrev wd : EReal := Ideal.ofBits .f32 0x44800000#32

/-- The first half of the projection's columns. -/
abbrev lo (k : Fin 1024) : Fin 2048 := ⟨k.val, by omega⟩
/-- The second half of the projection's columns. -/
abbrev hi (k : Fin 1024) : Fin 2048 := ⟨1024 + k.val, by omega⟩

section Pays
variable (dx : Vec Ideal S256x2048 .f32) (w : Vec Ideal S2048x2048 .bf16) (y : Vec Ideal S256x1024 .f32) (g : Vec Ideal S1x1024 .f32)

theorem dyA_apply (i : Fin 256) (k : Fin 1024) : k0_pay4 dx w (ix2 i k) = ∑ n : Fin 2048, dx (ix2 i n) * w (ix2 (lo k) n) := by
  pointwise [k0_pay4, k0_pay1]
theorem dyB_apply (i : Fin 256) (k : Fin 1024) : k0_pay8 (k0_pay1 dx w) (ix2 i k) = ∑ n : Fin 2048, dx (ix2 i n) * w (ix2 (hi k) n) := by
  pointwise [k0_pay8, k0_pay1]

theorem da_apply (i : Fin 256) (d : Fin 1024) : k0_pay6 dx w y g (ix2 i d)
    = gradRow wd (fun k : Fin 1024 => y (ix2 i k)) (fun k => g (ix2 0 k)) (fun k => ∑ n : Fin 2048, dx (ix2 i n) * w (ix2 (lo k) n)) d := by
  pointwise [k0_pay6, k0_pay5]
  simp only [dyA_apply]
theorem db_apply (i : Fin 256) (d : Fin 1024) : k0_pay10 (k0_pay1 dx w) y g (ix2 i d)
    = gradRow wd (fun k : Fin 1024 => y (ix2 i k)) (fun k => g (ix2 0 k)) (fun k => ∑ n : Fin 2048, dx (ix2 i n) * w (ix2 (hi k) n)) d := by
  pointwise [k0_pay10, k0_pay9]
  simp only [dyB_apply]

theorem dga_apply (z : Vec Ideal S1x1024 .f32) (d : Fin 1024) : k0_pay11 (k0_pay7 dx w y) z (ix2 0 d)
    = z (ix2 0 d) + ∑ i : Fin 256, (∑ n : Fin 2048, dx (ix2 i n) * w (ix2 (lo d) n)) * (y (ix2 i d) * rr wd (fun k : Fin 1024 => y (ix2 i k))) := by
  pointwise [k0_pay11, k0_pay7, k0_pay5]
  simp only [dyA_apply]
theorem dgb_apply (z : Vec Ideal S1x1024 .f32) (d : Fin 1024) : k0_pay12 (k0_pay1 dx w) y z (ix2 0 d)
    = z (ix2 0 d) + ∑ i : Fin 256, (∑ n : Fin 2048, dx (ix2 i n) * w (ix2 (hi d) n)) * (y (ix2 i d) * rr wd (fun k : Fin 1024 => y (ix2 i k))) := by
  pointwise [k0_pay12, k0_pay9]
  simp only [dyB_apply]

theorem zeroA (d : Fin 1024) : k0_pay2 (F := Ideal) (ix2 0 d) = 0 := by
  pointwise [k0_pay2]
theorem zeroB (d : Fin 1024) : k0_pay3 (F := Ideal) (ix2 0 d) = 0 := by
  pointwise [k0_pay3]
end Pays

section Entries
variable (h : Fin 1024 → Fin 2048) (dx : Vec Ideal S4096x2048 .f32) (w : Vec Ideal S2048x2048 .bf16) (y : Vec Ideal S4096x1024 .f32) (g : Vec Ideal S1x1024 .f32)

/-- The gradient of the norm's result, from the half `h` of the projection's columns. -/
abbrev dyE (t : Fin 4096) (k : Fin 1024) : EReal := ∑ n : Fin 2048, dx (ix2 t n) * w (ix2 (h k) n)
/-- What an entry of the norm's gradient holds. -/
abbrev dE (t : Fin 4096) (d : Fin 1024) : EReal :=
  gradRow wd (fun k : Fin 1024 => y (ix2 t k)) (fun k => g (ix2 0 k)) (fun k => dyE h dx w t k) d
/-- A row's share of the gain's gradient. -/
abbrev share (d : Fin 1024) (t : Fin 4096) : EReal := dyE h dx w t d * (y (ix2 t d) * rr wd (fun k : Fin 1024 => y (ix2 t k)))
/-- What an entry of the gain's gradient holds. -/
abbrev dgE (d : Fin 1024) : EReal := ∑ t : Fin 4096, share h dx w y d t
end Entries

theorem step6 (t : Fin cfg0.N) : (outsAt0 m c t.val t.isLt).1 = k0_pay6 (iblk m c 0 t) (iblk m c 1 t) (iblk m c 2 t) (iblk m c 4 t) := by
  by_cases h0 : t.val % 16 = 0
  · rw [outsAt0_A m c t h0]
    dsimp only
    rw [outA6]
  · rw [outsAt0_B m c t h0]
    dsimp only
    rw [outB6]

/-- What the kernel leaves of the first norm's gradient. -/
theorem da_result (t : Fin 4096) (d : Fin 1024) : (dats m 0 c).arrAt 6 cfg0.N (ix2 t d)
    = dE lo (m ((c : Thread nD τ).loc main_arg0)) (m ((c : Thread nD τ).loc main_arg1)) (m ((c : Thread nD τ).loc main_arg2)) (m ((c : Thread nD τ).loc main_arg4)) t d := by
  have hN : cfg0.N = 16 := N_0
  have ht : (⟨256 * (⟨t.val / 256, by omega⟩ : Fin cfg0.N).val + t.val % 256, by dsimp only; omega⟩ : Fin 4096) = t := Fin.ext (by dsimp only; omega)
  have h := (dats m 0 c).arrAt_emb_eq_flushed 6 disjoint6 ⟨t.val / 256, by omega⟩ (flush0_6 _) (ix2 (⟨t.val % 256, by omega⟩ : Fin 256) d)
  rw [emb6 _ (by dsimp only; omega), flushed6, step6, ht] at h
  refine h.trans ((cut6 _ _ _ _).trans ((da_apply _ _ _ _ _ _).trans ?_))
  simp only [blk0 m c (⟨t.val / 256, by omega⟩ : Fin cfg0.N) (show t.val / 256 < 16 by omega), blk1, blk2 m c (⟨t.val / 256, by omega⟩ : Fin cfg0.N) (show t.val / 256 < 16 by omega), blk4, ht]

theorem step7 (t : Fin cfg0.N) : (outsAt0 m c t.val t.isLt).2.1 = k0_pay10 (k0_pay1 (iblk m c 0 t) (iblk m c 1 t)) (iblk m c 3 t) (iblk m c 5 t) := by
  by_cases h0 : t.val % 16 = 0
  · rw [outsAt0_A m c t h0]
    dsimp only
    rw [outA7]
  · rw [outsAt0_B m c t h0]
    dsimp only
    rw [outB7]

/-- What the kernel leaves of the second norm's gradient. -/
theorem db_result (t : Fin 4096) (d : Fin 1024) : (dats m 0 c).arrAt 7 cfg0.N (ix2 t d)
    = dE hi (m ((c : Thread nD τ).loc main_arg0)) (m ((c : Thread nD τ).loc main_arg1)) (m ((c : Thread nD τ).loc main_arg3)) (m ((c : Thread nD τ).loc main_arg5)) t d := by
  have hN : cfg0.N = 16 := N_0
  have ht : (⟨256 * (⟨t.val / 256, by omega⟩ : Fin cfg0.N).val + t.val % 256, by dsimp only; omega⟩ : Fin 4096) = t := Fin.ext (by dsimp only; omega)
  have h := (dats m 0 c).arrAt_emb_eq_flushed 7 disjoint7 ⟨t.val / 256, by omega⟩ (flush0_7 _) (ix2 (⟨t.val % 256, by omega⟩ : Fin 256) d)
  rw [emb7 _ (by dsimp only; omega), flushed7, step7, ht] at h
  refine h.trans ((cut7 _ _ _ _).trans ((db_apply _ _ _ _ _ _).trans ?_))
  simp only [blk0 m c (⟨t.val / 256, by omega⟩ : Fin cfg0.N) (show t.val / 256 < 16 by omega), blk1, blk3 m c (⟨t.val / 256, by omega⟩ : Fin cfg0.N) (show t.val / 256 < 16 by omega), blk5, ht]

/-- What the first gain's gradient has gathered after point `n`. -/
def part8 (d : Fin 1024) (n : ℕ) (hn : n < 16) : EReal := (outsAt0 m c n (by have hN : cfg0.N = 16 := N_0; omega)).2.2.1 (ix2 0 d)

theorem part8_zero (d : Fin 1024) : part8 m c d 0 (by omega) = ∑ i : Fin 256, share lo (m ((c : Thread nD τ).loc main_arg0)) (m ((c : Thread nD τ).loc main_arg1)) (m ((c : Thread nD τ).loc main_arg2)) d ⟨256 * 0 + i.val, by omega⟩ := by
  have hN : cfg0.N = 16 := N_0
  unfold part8
  rw [outsAt0_A m c ⟨0, by omega⟩ rfl]
  dsimp only
  rw [outA8, dga_apply, zeroA, zero_add]
  refine Finset.sum_congr rfl fun i _ => ?_
  simp only [blk0 m c (⟨0, by omega⟩ : Fin cfg0.N) (show 0 < 16 by omega), blk2 m c (⟨0, by omega⟩ : Fin cfg0.N) (show 0 < 16 by omega), blk1]

theorem part8_succ (d : Fin 1024) (n : ℕ) (hn : n + 1 < 16) :
    part8 m c d (n + 1) hn = part8 m c d n (by omega) + ∑ i : Fin 256, share lo (m ((c : Thread nD τ).loc main_arg0)) (m ((c : Thread nD τ).loc main_arg1)) (m ((c : Thread nD τ).loc main_arg2)) d ⟨256 * (n + 1) + i.val, by omega⟩ := by
  have hN : cfg0.N = 16 := N_0
  unfold part8
  rw [outsAt0_B m c ⟨n + 1, by omega⟩ (by dsimp only; omega)]
  dsimp only
  rw [outB8, dga_apply]
  refine congrArg₂ _ rfl (Finset.sum_congr rfl fun i _ => ?_)
  simp only [blk0 m c (⟨n + 1, by omega⟩ : Fin cfg0.N) hn, blk2 m c (⟨n + 1, by omega⟩ : Fin cfg0.N) hn, blk1]

/-- The array is written once, after the last point. -/
theorem held8 (d : Fin 1024) (n : ℕ) (hn : n < 16) (h15 : n = 15) : (dats m 0 c).arrAt 8 cfg0.N (ix2 0 d) = part8 m c d n hn := by
  have hN : cfg0.N = 16 := N_0
  have h := (dats m 0 c).arrAt_emb_eq_flushed 8 (fun t t' e e' hne => absurd (Fin.ext (by
    have h1 := (flush0_8 t).mp e; have h2 := (flush0_8 t').mp e'; have := t.isLt; have := t'.isLt; omega)) hne)
    ⟨n, by omega⟩ ((flush0_8 _).mpr (by dsimp only; omega)) (ix2 (0 : Fin 1) d)
  rw [emb8, flushed8] at h
  exact h.trans (cut8 _ _ _)

/-- What the kernel leaves of the first gain's gradient. -/
theorem dga_result (d : Fin 1024) : (dats m 0 c).arrAt 8 cfg0.N (ix2 0 d)
    = dgE lo (m ((c : Thread nD τ).loc main_arg0)) (m ((c : Thread nD τ).loc main_arg1)) (m ((c : Thread nD τ).loc main_arg2)) d :=
  (held8 m c d 15 (by omega) rfl).trans (acc _ (part8 m c d) (part8_zero m c d) (part8_succ m c d))

/-- What the second gain's gradient has gathered after point `n`. -/
def part9 (d : Fin 1024) (n : ℕ) (hn : n < 16) : EReal := (outsAt0 m c n (by have hN : cfg0.N = 16 := N_0; omega)).2.2.2 (ix2 0 d)

theorem part9_zero (d : Fin 1024) : part9 m c d 0 (by omega) = ∑ i : Fin 256, share hi (m ((c : Thread nD τ).loc main_arg0)) (m ((c : Thread nD τ).loc main_arg1)) (m ((c : Thread nD τ).loc main_arg3)) d ⟨256 * 0 + i.val, by omega⟩ := by
  have hN : cfg0.N = 16 := N_0
  unfold part9
  rw [outsAt0_A m c ⟨0, by omega⟩ rfl]
  dsimp only
  rw [outA9, dgb_apply, zeroB, zero_add]
  refine Finset.sum_congr rfl fun i _ => ?_
  simp only [blk0 m c (⟨0, by omega⟩ : Fin cfg0.N) (show 0 < 16 by omega), blk3 m c (⟨0, by omega⟩ : Fin cfg0.N) (show 0 < 16 by omega), blk1]

theorem part9_succ (d : Fin 1024) (n : ℕ) (hn : n + 1 < 16) :
    part9 m c d (n + 1) hn = part9 m c d n (by omega) + ∑ i : Fin 256, share hi (m ((c : Thread nD τ).loc main_arg0)) (m ((c : Thread nD τ).loc main_arg1)) (m ((c : Thread nD τ).loc main_arg3)) d ⟨256 * (n + 1) + i.val, by omega⟩ := by
  have hN : cfg0.N = 16 := N_0
  unfold part9
  rw [outsAt0_B m c ⟨n + 1, by omega⟩ (by dsimp only; omega)]
  dsimp only
  rw [outB9, dgb_apply]
  refine congrArg₂ _ rfl (Finset.sum_congr rfl fun i _ => ?_)
  simp only [blk0 m c (⟨n + 1, by omega⟩ : Fin cfg0.N) hn, blk3 m c (⟨n + 1, by omega⟩ : Fin cfg0.N) hn, blk1]

/-- The array is written once, after the last point. -/
theorem held9 (d : Fin 1024) (n : ℕ) (hn : n < 16) (h15 : n = 15) : (dats m 0 c).arrAt 9 cfg0.N (ix2 0 d) = part9 m c d n hn := by
  have hN : cfg0.N = 16 := N_0
  have h := (dats m 0 c).arrAt_emb_eq_flushed 9 (fun t t' e e' hne => absurd (Fin.ext (by
    have h1 := (flush0_9 t).mp e; have h2 := (flush0_9 t').mp e'; have := t.isLt; have := t'.isLt; omega)) hne)
    ⟨n, by omega⟩ ((flush0_9 _).mpr (by dsimp only; omega)) (ix2 (0 : Fin 1) d)
  rw [emb9, flushed9] at h
  exact h.trans (cut9 _ _ _)

/-- What the kernel leaves of the second gain's gradient. -/
theorem dgb_result (d : Fin 1024) : (dats m 0 c).arrAt 9 cfg0.N (ix2 0 d)
    = dgE hi (m ((c : Thread nD τ).loc main_arg0)) (m ((c : Thread nD τ).loc main_arg1)) (m ((c : Thread nD τ).loc main_arg3)) d :=
  (held9 m c d 15 (by omega) rfl).trans (acc _ (part9 m c d) (part9_zero m c d) (part9_succ m c d))

end Cert.Kernel17Ideal.Proj

namespace Cert.Reference17Ideal.Proj

open Cert.Reference17Ideal Cert.Reference17Ideal.Gen
open Cert.Kernel17Ideal.Proj (lo hi dyE dE dgE)
open Cert.Norm (gradRow_eq w1024 wneg)
open Idealize.ShloMosaic Idealize.ShloMosaic.TcCoe Idealize.ShloMosaic.Pointwise

section Values
variable (dx : Vec Ideal S4096x2048 .f32) (w : Vec Ideal S2048x2048 .bf16) (y : Vec Ideal S4096x1024 .f32) (g : Vec Ideal S1x1024 .f32)

theorem dyA_apply (t : Fin 4096) (k : Fin 1024) : Read.val_main_v34 dx w (ix2 t k) = dyE lo dx w t k := by
  pointwise [Read.val_main_v34, Read.val_main_v33, Read.val_main_v0]
theorem dyB_apply (t : Fin 4096) (k : Fin 1024) : Read.val_main_v35 dx w (ix2 t k) = dyE hi dx w t k := by
  pointwise [Read.val_main_v35, Read.val_main_v33, Read.val_main_v0]

/-- The reference's gradient of the first norm's input, entry by entry. -/
theorem da_apply (t : Fin 4096) (d : Fin 1024) : Read.val_main_v73 dx w y g (ix2 t d) = dE lo dx w y g t d := by
  pointwise [Read.val_main_v58, Read.val_main_v59, Read.val_main_v60, Read.val_main_v61, Read.val_main_v62, Read.val_main_v63, Read.val_main_v64, Read.val_main_v65, Read.val_main_v66, Read.val_main_v67, Read.val_main_v68, Read.val_main_v69, Read.val_main_v70, Read.val_main_v71, Read.val_main_v72, Read.val_main_v73, Read.val_main_v1, Read.val_main_v2, Read.val_main_v3, Read.val_main_v4, Read.val_main_v5, Read.val_main_v6, Read.val_main_v7, Read.val_main_v8, Read.val_main_v9, Read.val_main_v10, Read.val_main_v11, Read.val_main_cst, Read.val_main_cst_0, Read.val_main_cst_1, Read.val_main_cst_2, Read.val_main_cst_12, Read.val_main_cst_13, Read.val_main_cst_14]
  simp only [Finset.univ_unique, Finset.sum_singleton, w1024, wneg, dyA_apply, dE]
  exact gradRow_eq (w := 1024) (by norm_num) (fun k : Fin 1024 => y (ix2 t k)) (fun k => g (ix2 0 k)) (fun k => dyE lo dx w t k) d

/-- The reference's gradient of the first gain, entry by entry. -/
theorem dga_apply (d : Fin 1024) : Read.val_main_v57 dx w y (ix2 0 d) = dgE lo dx w y d := by
  pointwise [Read.val_main_v57, Read.val_main_v56, Read.val_main_v55, Read.val_main_v13, Read.val_main_v12, Read.val_main_v8, Read.val_main_v7, Read.val_main_v6, Read.val_main_v5, Read.val_main_v4, Read.val_main_v3, Read.val_main_v2, Read.val_main_v1, Read.val_main_cst, Read.val_main_cst_0, Read.val_main_cst_1, Read.val_main_cst_11]
  simp only [dyA_apply]
  exact Finset.sum_congr rfl fun k _ => mul_comm _ _

/-- The reference's gradient of the second norm's input, entry by entry. -/
theorem db_apply (t : Fin 4096) (d : Fin 1024) : Read.val_main_v54 dx w y g (ix2 t d) = dE hi dx w y g t d := by
  pointwise [Read.val_main_v39, Read.val_main_v40, Read.val_main_v41, Read.val_main_v42, Read.val_main_v43, Read.val_main_v44, Read.val_main_v45, Read.val_main_v46, Read.val_main_v47, Read.val_main_v48, Read.val_main_v49, Read.val_main_v50, Read.val_main_v51, Read.val_main_v52, Read.val_main_v53, Read.val_main_v54, Read.val_main_v16, Read.val_main_v17, Read.val_main_v18, Read.val_main_v19, Read.val_main_v20, Read.val_main_v21, Read.val_main_v22, Read.val_main_v23, Read.val_main_v24, Read.val_main_v25, Read.val_main_v26, Read.val_main_cst_3, Read.val_main_cst_4, Read.val_main_cst_5, Read.val_main_cst_6, Read.val_main_cst_8, Read.val_main_cst_9, Read.val_main_cst_10]
  simp only [Finset.univ_unique, Finset.sum_singleton, w1024, wneg, dyB_apply, dE]
  exact gradRow_eq (w := 1024) (by norm_num) (fun k : Fin 1024 => y (ix2 t k)) (fun k => g (ix2 0 k)) (fun k => dyE hi dx w t k) d

/-- The reference's gradient of the second gain, entry by entry. -/
theorem dgb_apply (d : Fin 1024) : Read.val_main_v38 dx w y (ix2 0 d) = dgE hi dx w y d := by
  pointwise [Read.val_main_v38, Read.val_main_v37, Read.val_main_v36, Read.val_main_v28, Read.val_main_v27, Read.val_main_v23, Read.val_main_v22, Read.val_main_v21, Read.val_main_v20, Read.val_main_v19, Read.val_main_v18, Read.val_main_v17, Read.val_main_v16, Read.val_main_cst_3, Read.val_main_cst_4, Read.val_main_cst_5, Read.val_main_cst_7]
  simp only [dyB_apply]
  exact Finset.sum_congr rfl fun k _ => mul_comm _ _

end Values

/-- The kernel's result is the reference's function of the kernel's arguments. -/
theorem da_eq (m : (ℓ : Loc Cert.Kernel17Ideal.nD Cert.Kernel17Ideal.τ Cert.Kernel17Ideal.sig) → Buf (Elt Ideal) ℓ) (c : Dev Cert.Kernel17Ideal.nD) :
    (Cert.Kernel17Ideal.Gen.dats m 0 c).arrAt 6 Cert.Kernel17Ideal.cfg0.N
      = Read.val_main_v73 (F := Ideal)
        (m ((c.tc : Thread Cert.Kernel17Ideal.nD Cert.Kernel17Ideal.τ).loc Cert.Kernel17Ideal.main_arg0))
        (m ((c.tc : Thread Cert.Kernel17Ideal.nD Cert.Kernel17Ideal.τ).loc Cert.Kernel17Ideal.main_arg1))
        (m ((c.tc : Thread Cert.Kernel17Ideal.nD Cert.Kernel17Ideal.τ).loc Cert.Kernel17Ideal.main_arg2))
        (m ((c.tc : Thread Cert.Kernel17Ideal.nD Cert.Kernel17Ideal.τ).loc Cert.Kernel17Ideal.main_arg4)) := by
  funext x
  have ex := eq_ix2 x
  rw [ex]
  exact (Cert.Kernel17Ideal.Proj.da_result m c _ _).trans (da_apply _ _ _ _ _ _).symm

/-- The kernel's result is the reference's function of the kernel's arguments. -/
theorem db_eq (m : (ℓ : Loc Cert.Kernel17Ideal.nD Cert.Kernel17Ideal.τ Cert.Kernel17Ideal.sig) → Buf (Elt Ideal) ℓ) (c : Dev Cert.Kernel17Ideal.nD) :
    (Cert.Kernel17Ideal.Gen.dats m 0 c).arrAt 7 Cert.Kernel17Ideal.cfg0.N
      = Read.val_main_v54 (F := Ideal)
        (m ((c.tc : Thread Cert.Kernel17Ideal.nD Cert.Kernel17Ideal.τ).loc Cert.Kernel17Ideal.main_arg0))
        (m ((c.tc : Thread Cert.Kernel17Ideal.nD Cert.Kernel17Ideal.τ).loc Cert.Kernel17Ideal.main_arg1))
        (m ((c.tc : Thread Cert.Kernel17Ideal.nD Cert.Kernel17Ideal.τ).loc Cert.Kernel17Ideal.main_arg3))
        (m ((c.tc : Thread Cert.Kernel17Ideal.nD Cert.Kernel17Ideal.τ).loc Cert.Kernel17Ideal.main_arg5)) := by
  funext x
  have ex := eq_ix2 x
  rw [ex]
  exact (Cert.Kernel17Ideal.Proj.db_result m c _ _).trans (db_apply _ _ _ _ _ _).symm

/-- The kernel's result is the reference's function of the kernel's arguments. -/
theorem dga_eq (m : (ℓ : Loc Cert.Kernel17Ideal.nD Cert.Kernel17Ideal.τ Cert.Kernel17Ideal.sig) → Buf (Elt Ideal) ℓ) (c : Dev Cert.Kernel17Ideal.nD) :
    (Cert.Kernel17Ideal.Gen.dats m 0 c).arrAt 8 Cert.Kernel17Ideal.cfg0.N
      = Read.val_main_v57 (F := Ideal)
        (m ((c.tc : Thread Cert.Kernel17Ideal.nD Cert.Kernel17Ideal.τ).loc Cert.Kernel17Ideal.main_arg0))
        (m ((c.tc : Thread Cert.Kernel17Ideal.nD Cert.Kernel17Ideal.τ).loc Cert.Kernel17Ideal.main_arg1))
        (m ((c.tc : Thread Cert.Kernel17Ideal.nD Cert.Kernel17Ideal.τ).loc Cert.Kernel17Ideal.main_arg2)) := by
  funext x
  have ex := (eq_ix2 x).trans (congrArg (fun z => ix2 z (x 1)) (Fin.ext (by have := (x 0).isLt; have h : (x 0).val < 1 := this; show (x 0).val = (0 : Fin 1).val; simp only [Fin.val_zero]; omega)))
  rw [ex]
  exact (Cert.Kernel17Ideal.Proj.dga_result m c _).trans (dga_apply _ _ _ _).symm

/-- The kernel's result is the reference's function of the kernel's arguments. -/
theorem dgb_eq (m : (ℓ : Loc Cert.Kernel17Ideal.nD Cert.Kernel17Ideal.τ Cert.Kernel17Ideal.sig) → Buf (Elt Ideal) ℓ) (c : Dev Cert.Kernel17Ideal.nD) :
    (Cert.Kernel17Ideal.Gen.dats m 0 c).arrAt 9 Cert.Kernel17Ideal.cfg0.N
      = Read.val_main_v38 (F := Ideal)
        (m ((c.tc : Thread Cert.Kernel17Ideal.nD Cert.Kernel17Ideal.τ).loc Cert.Kernel17Ideal.main_arg0))
        (m ((c.tc : Thread Cert.Kernel17Ideal.nD Cert.Kernel17Ideal.τ).loc Cert.Kernel17Ideal.main_arg1))
        (m ((c.tc : Thread Cert.Kernel17Ideal.nD Cert.Kernel17Ideal.τ).loc Cert.Kernel17Ideal.main_arg3)) := by
  funext x
  have ex := (eq_ix2 x).trans (congrArg (fun z => ix2 z (x 1)) (Fin.ext (by have := (x 0).isLt; have h : (x 0).val < 1 := this; show (x 0).val = (0 : Fin 1).val; simp only [Fin.val_zero]; omega)))
  rw [ex]
  exact (Cert.Kernel17Ideal.Proj.dgb_result m c _).trans (dgb_apply _ _ _ _).symm

end Cert.Reference17Ideal.Proj
-- ==== Proof.Norm.Cast.lean ====
/-
  A norm of every row: each block of the result is a block of rows, each scaled by the reciprocal root of its mean
  square and by the gain.
-/
module

public import proofs.«01_k».proof.Proof.Gen.Kernel18Ideal.Value
public import proofs.«01_k».proof.Proof.Gen.Reference18Ideal.Read
public import proofs.«01_k».proof.Proof.Ffn.Sums
public import proofs.«01_k».proof.Proof.Norm.Rms

@[expose] public section

noncomputable section

namespace Cert.Kernel18Ideal.Norm

open Cert.Kernel18Ideal Cert.Kernel18Ideal.Gen Cert.Kernel18Ideal.Value
open Cert.Ffn (hz2)
open Cert.Norm (rr)
open Idealize.ShloMosaic Idealize.ShloMosaic.TcCoe Idealize.ShloMosaic.Pointwise

/-- What a grid point stores. -/
theorem store_eq {F : FTy → Type} [FloatOps F] (x : Vec F S512x2048 .f32) (g : Vec F S1x2048 .f32) : out0_2 x g = k0_pay1 x g := by
  unfold out0_2
  rw [View.canon_unit_zero hz2, View.ld_unit_zero (S := S512x2048) hz2, View.ld_unit_zero (S := S1x2048) hz2]

variable (m : (ℓ : Loc nD τ sig) → Buf (Elt Ideal) ℓ) (c : Dev nD)

/-- The blocks a grid point reads and writes. -/
theorem idx0 : ∀ t : Fin grid0.N, win0_0.index t = ![t.val, 0] ∧ win0_1.index t = ![0, 0] ∧ win0_2.index t = ![t.val, 0] := by
  decide +kernel

theorem blk0 (t : Fin cfg0.N) (ht : t.val < 8) (i : Fin 512) (k : Fin 2048) : iblk m c 0 t (ix2 i k) = m ((c : Thread nD τ).loc main_arg0)
    (ix2 (⟨512 * t.val + i.val, by omega⟩ : Fin 4096) k) := by
  blk_ext [iblk, V, (idx0 t).1]
theorem blk1 (t : Fin cfg0.N) (k : Fin 2048) : iblk m c 1 t (ix2 0 k) = m ((c : Thread nD τ).loc main_arg1) (ix2 0 k) := by
  blk_ext [iblk, V, (idx0 t).2.1]
theorem emb2 (t : Fin cfg0.N) (ht : t.val < 8) (i : Fin 512) (d : Fin 2048) : ((cfg0.win 2).blk t).view.emb (ix2 i d)
    = ix2 (⟨512 * t.val + i.val, by omega⟩ : Fin 4096) d := by
  have e := (idx0 t).2.2
  funext a
  apply Fin.ext
  match a with
  | ⟨0, _⟩ => show win0_2.index t (0 : Fin 2) * 512 + 1 * i.val = 512 * t.val + i.val; rw [e]; show t.val * 512 + 1 * i.val = _; omega
  | ⟨1, _⟩ => show win0_2.index t (1 : Fin 2) * 2048 + 1 * d.val = d.val; rw [e]; show 0 * 2048 + 1 * d.val = _; omega

theorem cut2 (t : Fin cfg0.N) (X : Vec Ideal S512x2048 .bf16) (i : Fin 512) (d : Fin 2048) :
    (cfg0.win 2).cut (grid0.coords t) X (ix2 i d) = X (ix2 i d) := rfl

/-- The number 2048, as it is written. -/
abbrev wd : EReal := Ideal.ofBits .f32 0x45000000#32

theorem pay_apply (x : Vec Ideal S512x2048 .f32) (g : Vec Ideal S1x2048 .f32) (i : Fin 512) (d : Fin 2048) :
    k0_pay1 x g (ix2 i d) = x (ix2 i d) * rr wd (fun k : Fin 2048 => x (ix2 i k)) * g (ix2 0 d) := by
  pointwise [k0_pay1]

/-- What the result's entry holds. -/
abbrev entry (x : Vec Ideal S4096x2048 .f32) (g : Vec Ideal S1x2048 .f32) (t : Fin 4096) (d : Fin 2048) : EReal :=
  x (ix2 t d) * rr wd (fun k : Fin 2048 => x (ix2 t k)) * g (ix2 0 d)

/-- What the kernel leaves in the result. -/
theorem result_apply (t : Fin 4096) (d : Fin 2048) : (dats m 0 c).arrAt 2 cfg0.N (ix2 t d)
    = entry (m ((c : Thread nD τ).loc main_arg0)) (m ((c : Thread nD τ).loc main_arg1)) t d := by
  have hN : cfg0.N = 8 := N_0
  have ht : (⟨512 * (⟨t.val / 512, by omega⟩ : Fin cfg0.N).val + t.val % 512, by dsimp only; omega⟩ : Fin 4096) = t := Fin.ext (by dsimp only; omega)
  have h := (dats m 0 c).arrAt_emb_eq_flushed 2 disjoint2 ⟨t.val / 512, by omega⟩ (flush0_2 _) (ix2 (⟨t.val % 512, by omega⟩ : Fin 512) d)
  rw [emb2 _ (by dsimp only; omega), flushed2, store_eq, ht] at h
  refine h.trans ((cut2 _ _ _ _).trans ((pay_apply _ _ _ _).trans ?_))
  simp only [blk0 m c (⟨t.val / 512, by omega⟩ : Fin cfg0.N) (show t.val / 512 < 8 by omega), blk1, ht]

end Cert.Kernel18Ideal.Norm

namespace Cert.Reference18Ideal.Norm

open Cert.Reference18Ideal Cert.Reference18Ideal.Gen
open Idealize.ShloMosaic Idealize.ShloMosaic.TcCoe Idealize.ShloMosaic.Pointwise

/-- The reference's result, entry by entry. -/
theorem result_apply (x : Vec Ideal S4096x2048 .f32) (g : Vec Ideal S1x2048 .f32) (t : Fin 4096) (d : Fin 2048) :
    Read.val_main_v12 x g (ix2 t d) = Cert.Kernel18Ideal.Norm.entry x g t d := by
  pointwise [Read.val_main_v12, Read.val_main_v11, Read.val_main_v10, Read.val_main_v9, Read.val_main_v8, Read.val_main_v7, Read.val_main_v6, Read.val_main_v5,
    Read.val_main_v4, Read.val_main_v3, Read.val_main_v2, Read.val_main_v1, Read.val_main_v0,
    Read.val_main_cst, Read.val_main_cst_0, Read.val_main_cst_1]

/-- The kernel's result is the reference's function of the kernel's arguments. -/
theorem result_eq (m : (ℓ : Loc Cert.Kernel18Ideal.nD Cert.Kernel18Ideal.τ Cert.Kernel18Ideal.sig) → Buf (Elt Ideal) ℓ) (c : Dev Cert.Kernel18Ideal.nD) :
    (Cert.Kernel18Ideal.Gen.dats m 0 c).arrAt 2 Cert.Kernel18Ideal.cfg0.N
      = Read.val_main_v12 (F := Ideal)
        (m ((c.tc : Thread Cert.Kernel18Ideal.nD Cert.Kernel18Ideal.τ).loc Cert.Kernel18Ideal.main_arg0))
        (m ((c.tc : Thread Cert.Kernel18Ideal.nD Cert.Kernel18Ideal.τ).loc Cert.Kernel18Ideal.main_arg1)) := by
  funext x
  have ex := eq_ix2 x
  rw [ex]
  exact (Cert.Kernel18Ideal.Norm.result_apply m c _ _).trans (result_apply _ _ _ _).symm

end Cert.Reference18Ideal.Norm
-- ==== Proof.Norm.Back.lean ====
/-
  The gradient of a norm, added to the residual stream's: the blocks of rows of the stream's gradient, and the gain's
  gradient gathered over them.
-/
module

public import proofs.«01_k».proof.Proof.Gen.Kernel19Ideal.Value
public import proofs.«01_k».proof.Proof.Gen.Reference19Ideal.Read
public import proofs.«01_k».proof.Proof.Ffn.Sums
public import proofs.«01_k».proof.Proof.Norm.Rms

@[expose] public section

noncomputable section

namespace Cert.Kernel19Ideal.Norm

open Cert.Kernel19Ideal Cert.Kernel19Ideal.Gen Cert.Kernel19Ideal.Value
open Cert.Ffn (hz2)
open Cert.Norm (rr acc gradRow)
open Idealize.ShloMosaic Idealize.ShloMosaic.TcCoe Idealize.ShloMosaic.Pointwise

section Body
variable {F : FTy → Type} [FloatOps F]
variable (c : Dev nD) (i : grid0.Coords) (a1 : Memref sig .tc .vmem S256x2048 .f32) (h1 : a1.IsWhole)
  (a2 : Memref sig .tc .vmem S1x2048 .f32) (h2 : a2.IsWhole) (a3 : Memref sig .tc .vmem S256x2048 .f32) (h3 : a3.IsWhole)
  (a4 : Memref sig .tc .vmem S256x2048 .f32) (h4 : a4.IsWhole) (a5 : Memref sig .tc .vmem S256x2048 .f32) (h5 : a5.IsWhole)
  (a6 : Memref sig .tc .vmem S1x2048 .f32) (h6 : a6.IsWhole)
  (x : Vec F S256x2048 .f32) (g : Vec F S1x2048 .f32) (dy dx : Vec F S256x2048 .f32) (z : Vec F S1x2048 .f32)

/-- The first point's block of the stream's gradient. -/
theorem dxA_eq (g0 : cond0_0 i) : out0_A_4 c i a1 h1 a2 h2 a3 h3 a4 h4 a5 h5 a6 h6 g0 x g dy dx = k0_pay4 x g dy dx := by
  unfold out0_A_4
  rw [View.read_writes_eq_canon _ _ _ (cover0_A_4 c i a1 h1 a2 h2 a3 h3 a4 h4 a5 h5 a6 h6 g0 x g dy dx)]
  unfold kernelRun0_A
  dsimp only
  sl_unfold_words
  rw [View.canon_unit_zero hz2]
  simp only [View.readAt_eq_ld, h1.read_unread, h2.read_unread, h3.read_unread, h4.read_unread, View.ld_unit_zero (S := S256x2048) hz2, View.ld_unit_zero (S := S1x2048) hz2]

/-- Another point's block of the stream's gradient. -/
theorem dxB_eq (g0 : ¬cond0_0 i) : out0_B_4 c i a1 h1 a2 h2 a3 h3 a4 h4 a5 h5 a6 h6 g0 x g dy dx z = k0_pay4 x g dy dx := by
  unfold out0_B_4
  rw [View.read_writes_eq_canon _ _ _ (cover0_B_4 c i a1 h1 a2 h2 a3 h3 a4 h4 a5 h5 a6 h6 g0 x g dy dx z)]
  unfold kernelRun0_B
  dsimp only
  sl_unfold_words
  rw [View.canon_unit_zero hz2]
  simp only [View.readAt_eq_ld, h1.read_unread, h2.read_unread, h3.read_unread, h4.read_unread, View.ld_unit_zero (S := S256x2048) hz2, View.ld_unit_zero (S := S1x2048) hz2]

/-- The first point starts the gain's gradient from zero. -/
theorem dgA_eq (g0 : cond0_0 i) : out0_A_5 c i a1 h1 a2 h2 a3 h3 a4 h4 a5 h5 a6 h6 g0 x g dy dx = k0_pay1 (k0_pay3 x dy) (k0_pay5 (F := F)) := by
  unfold out0_A_5
  rw [View.read_writes_eq_canon _ _ _ (cover0_A_5 c i a1 h1 a2 h2 a3 h3 a4 h4 a5 h5 a6 h6 g0 x g dy dx)]
  unfold kernelRun0_A
  dsimp only
  sl_unfold_words
  rw [View.canon_cons_unit_zero (S := S1x2048) hz2]
  simp only [View.readCov_unit_zero (S := S1x2048) _ hz2, View.readAt_eq_ld, h1.read_unread, h2.read_unread, h3.read_unread, h4.read_unread, View.ld_unit_zero (S := S256x2048) hz2, View.ld_unit_zero (S := S1x2048) hz2]

/-- Another point adds its rows' share to it. -/
theorem dgB_eq (g0 : ¬cond0_0 i) : out0_B_5 c i a1 h1 a2 h2 a3 h3 a4 h4 a5 h5 a6 h6 g0 x g dy dx z = k0_pay1 (k0_pay3 x dy) z := by
  unfold out0_B_5
  rw [View.read_writes_eq_canon _ _ _ (cover0_B_5 c i a1 h1 a2 h2 a3 h3 a4 h4 a5 h5 a6 h6 g0 x g dy dx z)]
  unfold kernelRun0_B
  dsimp only
  sl_unfold_words
  rw [View.canon_unit_zero hz2]
  simp only [View.readCov_unit_zero (S := S1x2048) _ hz2, View.readAt_eq_ld, h1.read_unread, h2.read_unread, h3.read_unread, h4.read_unread, h6.read_unread, View.ld_unit_zero (S := S256x2048) hz2, View.ld_unit_zero (S := S1x2048) hz2]
end Body

variable (m : (ℓ : Loc nD τ sig) → Buf (Elt Ideal) ℓ) (c : Dev nD)

/-- The blocks a grid point reads and writes. -/
theorem idx0 : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by
  decide +kernel

theorem blk0 (t : Fin cfg0.N) (ht : t.val < 16) (i : Fin 256) (k : Fin 2048) : iblk m c 0 t (ix2 i k) = m ((c : Thread nD τ).loc main_arg0)
    (ix2 (⟨256 * t.val + i.val, by omega⟩ : Fin 4096) k) := by
  blk_ext [iblk, V, (idx0 t).1]
theorem blk1 (t : Fin cfg0.N) (k : Fin 2048) : iblk m c 1 t (ix2 0 k) = m ((c : Thread nD τ).loc main_arg1) (ix2 0 k) := by
  blk_ext [iblk, V, (idx0 t).2.1]
theorem blk2 (t : Fin cfg0.N) (ht : t.val < 16) (i : Fin 256) (k : Fin 2048) : iblk m c 2 t (ix2 i k) = m ((c : Thread nD τ).loc main_arg2)
    (ix2 (⟨256 * t.val + i.val, by omega⟩ : Fin 4096) k) := by
  blk_ext [iblk, V, (idx0 t).2.2.1]
theorem blk3 (t : Fin cfg0.N) (ht : t.val < 16) (i : Fin 256) (k : Fin 2048) : iblk m c 3 t (ix2 i k) = m ((c : Thread nD τ).loc main_arg3)
    (ix2 (⟨256 * t.val + i.val, by omega⟩ : Fin 4096) k) := by
  blk_ext [iblk, V, (idx0 t).2.2.2.1]
theorem emb4 (t : Fin cfg0.N) (ht : t.val < 16) (i : Fin 256) (d : Fin 2048) : ((cfg0.win 4).blk t).view.emb (ix2 i d)
    = ix2 (⟨256 * t.val + i.val, by omega⟩ : Fin 4096) d := by
  have e := (idx0 t).2.2.2.2.1
  funext a
  apply Fin.ext
  match a with
  | ⟨0, _⟩ => show win0_4.index t (0 : Fin 2) * 256 + 1 * i.val = 256 * t.val + i.val; rw [e]; show t.val * 256 + 1 * i.val = _; omega
  | ⟨1, _⟩ => show win0_4.index t (1 : Fin 2) * 2048 + 1 * d.val = d.val; rw [e]; show 0 * 2048 + 1 * d.val = _; omega
theorem emb5 (t : Fin cfg0.N) (d : Fin 2048) : ((cfg0.win 5).blk t).view.emb (ix2 (0 : Fin 1) d) = ix2 0 d := by
  have e := (idx0 t).2.2.2.2.2
  funext a
  apply Fin.ext
  match a with
  | ⟨0, _⟩ => show win0_5.index t (0 : Fin 2) * 1 + 1 * 0 = 0; rw [e]; rfl
  | ⟨1, _⟩ => show win0_5.index t (1 : Fin 2) * 2048 + 1 * d.val = d.val; rw [e]; show 0 * 2048 + 1 * d.val = _; omega

theorem cut4 (t : Fin cfg0.N) (X : Vec Ideal S256x2048 .f32) (i : Fin 256) (d : Fin 2048) :
    (cfg0.win 4).cut (grid0.coords t) X (ix2 i d) = X (ix2 i d) := rfl
theorem cut5 (t : Fin cfg0.N) (X : Vec Ideal S1x2048 .f32) (d : Fin 2048) :
    (cfg0.win 5).cut (grid0.coords t) X (ix2 (0 : Fin 1) d) = X (ix2 0 d) := rfl

/-- The number 2048, as it is written. -/
abbrev wd : EReal := Ideal.ofBits .f32 0x45000000#32

theorem dx_apply (x : Vec Ideal S256x2048 .f32) (g : Vec Ideal S1x2048 .f32) (dy dx : Vec Ideal S256x2048 .f32) (i : Fin 256) (d : Fin 2048) :
    k0_pay4 x g dy dx (ix2 i d)
      = dx (ix2 i d) + gradRow wd (fun k => x (ix2 i k)) (fun k => g (ix2 0 k)) (fun k => dy (ix2 i k)) d := by
  pointwise [k0_pay4, k0_pay2]

theorem dg_apply (x dy : Vec Ideal S256x2048 .f32) (z : Vec Ideal S1x2048 .f32) (d : Fin 2048) :
    k0_pay1 (k0_pay3 x dy) z (ix2 0 d) = z (ix2 0 d) + ∑ i : Fin 256, dy (ix2 i d) * (x (ix2 i d) * rr wd (fun k : Fin 2048 => x (ix2 i k))) := by
  pointwise [k0_pay1, k0_pay3, k0_pay2]

theorem zero_apply (d : Fin 2048) : k0_pay5 (F := Ideal) (ix2 0 d) = 0 := by
  pointwise [k0_pay5]

/-- What an entry of the stream's gradient holds. -/
abbrev dxE (x : Vec Ideal S4096x2048 .f32) (g : Vec Ideal S1x2048 .f32) (dy dx : Vec Ideal S4096x2048 .f32) (t : Fin 4096) (d : Fin 2048) : EReal :=
  dx (ix2 t d) + gradRow wd (fun k => x (ix2 t k)) (fun k => g (ix2 0 k)) (fun k => dy (ix2 t k)) d
/-- A row's share of the gain's gradient. -/
abbrev share (x dy : Vec Ideal S4096x2048 .f32) (d : Fin 2048) (t : Fin 4096) : EReal :=
  dy (ix2 t d) * (x (ix2 t d) * rr wd (fun k : Fin 2048 => x (ix2 t k)))
/-- What an entry of the gain's gradient holds. -/
abbrev dgE (x dy : Vec Ideal S4096x2048 .f32) (d : Fin 2048) : EReal := ∑ t : Fin 4096, share x dy d t

theorem step4 (t : Fin cfg0.N) : (outsAt0 m c t.val t.isLt).1 = k0_pay4 (iblk m c 0 t) (iblk m c 1 t) (iblk m c 2 t) (iblk m c 3 t) := by
  by_cases h0 : t.val % 16 = 0
  · rw [outsAt0_A m c t h0]
    dsimp only
    rw [dxA_eq]
  · rw [outsAt0_B m c t h0]
    dsimp only
    rw [dxB_eq]

/-- What the kernel leaves of the stream's gradient. -/
theorem dx_result (t : Fin 4096) (d : Fin 2048) : (dats m 0 c).arrAt 4 cfg0.N (ix2 t d)
    = dxE (m ((c : Thread nD τ).loc main_arg0)) (m ((c : Thread nD τ).loc main_arg1)) (m ((c : Thread nD τ).loc main_arg2)) (m ((c : Thread nD τ).loc main_arg3)) t d := by
  have hN : cfg0.N = 16 := N_0
  have ht : (⟨256 * (⟨t.val / 256, by omega⟩ : Fin cfg0.N).val + t.val % 256, by dsimp only; omega⟩ : Fin 4096) = t := Fin.ext (by dsimp only; omega)
  have h := (dats m 0 c).arrAt_emb_eq_flushed 4 disjoint4 ⟨t.val / 256, by omega⟩ (flush0_4 _) (ix2 (⟨t.val % 256, by omega⟩ : Fin 256) d)
  rw [emb4 _ (by dsimp only; omega), flushed4, step4, ht] at h
  refine h.trans ((cut4 _ _ _ _).trans ((dx_apply _ _ _ _ _ _).trans ?_))
  simp only [blk0 m c (⟨t.val / 256, by omega⟩ : Fin cfg0.N) (show t.val / 256 < 16 by omega), blk1, blk2 m c (⟨t.val / 256, by omega⟩ : Fin cfg0.N) (show t.val / 256 < 16 by omega), blk3 m c (⟨t.val / 256, by omega⟩ : Fin cfg0.N) (show t.val / 256 < 16 by omega), ht]

/-- What the gain's gradient has gathered after point `n`. -/
def part (d : Fin 2048) (n : ℕ) (hn : n < 16) : EReal := (outsAt0 m c n (by have hN : cfg0.N = 16 := N_0; omega)).2 (ix2 0 d)
theorem part_zero (d : Fin 2048) : part m c d 0 (by omega) = ∑ i : Fin 256, share (m ((c : Thread nD τ).loc main_arg0)) (m ((c : Thread nD τ).loc main_arg2)) d ⟨256 * 0 + i.val, by omega⟩ := by
  have hN : cfg0.N = 16 := N_0
  unfold part
  rw [outsAt0_A m c ⟨0, by omega⟩ rfl]
  dsimp only
  rw [dgA_eq, dg_apply, zero_apply, zero_add]
  refine Finset.sum_congr rfl fun i _ => ?_
  simp only [blk0 m c (⟨0, by omega⟩ : Fin cfg0.N) (show 0 < 16 by omega), blk2 m c (⟨0, by omega⟩ : Fin cfg0.N) (show 0 < 16 by omega)]

theorem part_succ (d : Fin 2048) (n : ℕ) (hn : n + 1 < 16) :
    part m c d (n + 1) hn = part m c d n (by omega) + ∑ i : Fin 256, share (m ((c : Thread nD τ).loc main_arg0)) (m ((c : Thread nD τ).loc main_arg2)) d ⟨256 * (n + 1) + i.val, by omega⟩ := by
  have hN : cfg0.N = 16 := N_0
  unfold part
  rw [outsAt0_B m c ⟨n + 1, by omega⟩ (by dsimp only; omega)]
  dsimp only
  rw [dgB_eq, dg_apply]
  refine congrArg₂ _ rfl (Finset.sum_congr rfl fun i _ => ?_)
  simp only [blk0 m c (⟨n + 1, by omega⟩ : Fin cfg0.N) hn, blk2 m c (⟨n + 1, by omega⟩ : Fin cfg0.N) hn]

/-- The gain's gradient is written once, after the last point. -/
theorem held (d : Fin 2048) (n : ℕ) (hn : n < 16) (h15 : n = 15) : (dats m 0 c).arrAt 5 cfg0.N (ix2 0 d) = part m c d n hn := by
  have hN : cfg0.N = 16 := N_0
  have h := (dats m 0 c).arrAt_emb_eq_flushed 5 (fun t t' e e' hne => absurd (Fin.ext (by
    have h1 := (flush0_5 t).mp e; have h2 := (flush0_5 t').mp e'; have := t.isLt; have := t'.isLt; omega)) hne)
    ⟨n, by omega⟩ ((flush0_5 _).mpr (by dsimp only; omega)) (ix2 (0 : Fin 1) d)
  rw [emb5, flushed5] at h
  exact h.trans (cut5 _ _ _)

/-- What the kernel leaves of the gain's gradient. -/
theorem dg_result (d : Fin 2048) : (dats m 0 c).arrAt 5 cfg0.N (ix2 0 d)
    = dgE (m ((c : Thread nD τ).loc main_arg0)) (m ((c : Thread nD τ).loc main_arg2)) d :=
  (held m c d 15 (by omega) rfl).trans (acc _ (part m c d) (part_zero m c d) (part_succ m c d))

end Cert.Kernel19Ideal.Norm

namespace Cert.Reference19Ideal.Norm

open Cert.Reference19Ideal Cert.Reference19Ideal.Gen
open Cert.Norm (gradRow_eq w2048 wneg)
open Idealize.ShloMosaic Idealize.ShloMosaic.TcCoe Idealize.ShloMosaic.Pointwise

/-- The reference's gradient of the stream, entry by entry. -/
theorem dx_apply (x : Vec Ideal S4096x2048 .f32) (g : Vec Ideal S1x2048 .f32) (dy dx : Vec Ideal S4096x2048 .f32) (t : Fin 4096) (d : Fin 2048) :
    Read.val_main_v34 x g dy dx (ix2 t d) = Cert.Kernel19Ideal.Norm.dxE x g dy dx t d := by
  pointwise [Read.val_main_v34, Read.val_main_v33, Read.val_main_v32, Read.val_main_v31, Read.val_main_v30, Read.val_main_v29, Read.val_main_v28, Read.val_main_v27,
    Read.val_main_v26, Read.val_main_v25, Read.val_main_v24, Read.val_main_v23, Read.val_main_v22, Read.val_main_v21, Read.val_main_v20, Read.val_main_v19, Read.val_main_v18,
    Read.val_main_v10, Read.val_main_v9, Read.val_main_v8, Read.val_main_v7, Read.val_main_v6, Read.val_main_v5,
    Read.val_main_v4, Read.val_main_v3, Read.val_main_v2, Read.val_main_v1, Read.val_main_v0, Read.val_main_cst, Read.val_main_cst_0, Read.val_main_cst_1, Read.val_main_cst_2,
    Read.val_main_cst_4, Read.val_main_cst_5, Read.val_main_cst_6]
  simp only [zero_add, Finset.univ_unique, Finset.sum_singleton, w2048, wneg, Cert.Kernel19Ideal.Norm.dxE]
  rw [add_assoc, add_assoc]
  exact congrArg (fun z : EReal => dx (ix2 t d) + z) ((add_assoc _ _ _).symm.trans
    (gradRow_eq (w := 2048) (by norm_num) (fun k : Fin 2048 => x (ix2 t k)) (fun k => g (ix2 0 k)) (fun k => dy (ix2 t k)) d))

/-- The reference's gradient of the gain, entry by entry. -/
theorem dg_apply (x dy : Vec Ideal S4096x2048 .f32) (d : Fin 2048) :
    Read.val_main_v17 x dy (ix2 0 d) = Cert.Kernel19Ideal.Norm.dgE x dy d := by
  pointwise [Read.val_main_v17, Read.val_main_v16, Read.val_main_v15, Read.val_main_v12, Read.val_main_v11, Read.val_main_v7, Read.val_main_v6, Read.val_main_v5,
    Read.val_main_v4, Read.val_main_v3, Read.val_main_v2, Read.val_main_v1, Read.val_main_v0, Read.val_main_cst, Read.val_main_cst_0, Read.val_main_cst_1, Read.val_main_cst_3]
  exact Finset.sum_congr rfl fun k _ => mul_comm _ _

/-- The kernel's result is the reference's function of the kernel's arguments. -/
theorem dx_eq (m : (ℓ : Loc Cert.Kernel19Ideal.nD Cert.Kernel19Ideal.τ Cert.Kernel19Ideal.sig) → Buf (Elt Ideal) ℓ) (c : Dev Cert.Kernel19Ideal.nD) :
    (Cert.Kernel19Ideal.Gen.dats m 0 c).arrAt 4 Cert.Kernel19Ideal.cfg0.N
      = Read.val_main_v34 (F := Ideal)
        (m ((c.tc : Thread Cert.Kernel19Ideal.nD Cert.Kernel19Ideal.τ).loc Cert.Kernel19Ideal.main_arg0))
        (m ((c.tc : Thread Cert.Kernel19Ideal.nD Cert.Kernel19Ideal.τ).loc Cert.Kernel19Ideal.main_arg1))
        (m ((c.tc : Thread Cert.Kernel19Ideal.nD Cert.Kernel19Ideal.τ).loc Cert.Kernel19Ideal.main_arg2))
        (m ((c.tc : Thread Cert.Kernel19Ideal.nD Cert.Kernel19Ideal.τ).loc Cert.Kernel19Ideal.main_arg3)) := by
  funext x
  have ex := eq_ix2 x
  rw [ex]
  exact (Cert.Kernel19Ideal.Norm.dx_result m c _ _).trans (dx_apply _ _ _ _ _ _).symm

/-- The kernel's result is the reference's function of the kernel's arguments. -/
theorem dg_eq (m : (ℓ : Loc Cert.Kernel19Ideal.nD Cert.Kernel19Ideal.τ Cert.Kernel19Ideal.sig) → Buf (Elt Ideal) ℓ) (c : Dev Cert.Kernel19Ideal.nD) :
    (Cert.Kernel19Ideal.Gen.dats m 0 c).arrAt 5 Cert.Kernel19Ideal.cfg0.N
      = Read.val_main_v17 (F := Ideal)
        (m ((c.tc : Thread Cert.Kernel19Ideal.nD Cert.Kernel19Ideal.τ).loc Cert.Kernel19Ideal.main_arg0))
        (m ((c.tc : Thread Cert.Kernel19Ideal.nD Cert.Kernel19Ideal.τ).loc Cert.Kernel19Ideal.main_arg2)) := by
  funext x
  have ex := (eq_ix2 x).trans (congrArg (fun z => ix2 z (x 1)) (Fin.ext (by have := (x 0).isLt; have h : (x 0).val < 1 := this; show (x 0).val = (0 : Fin 1).val; simp only [Fin.val_zero]; omega)))
  rw [ex]
  exact (Cert.Kernel19Ideal.Norm.dg_result m c _).trans (dg_apply _ _ _).symm

end Cert.Reference19Ideal.Norm
-- ==== Proof.Norm.Heads.lean ====
/-
  The norm of both branches before the output projection: each block of the result is a block of rows of the two branches
  side by side, each normed by itself.
-/
module

public import proofs.«01_k».proof.Proof.Gen.Kernel20Ideal.Value
public import proofs.«01_k».proof.Proof.Gen.Reference20Ideal.Read
public import proofs.«01_k».proof.Proof.Ffn.Sums
public import proofs.«01_k».proof.Proof.Norm.Rms

@[expose] public section

noncomputable section

namespace Cert.Kernel20Ideal.Norm

open Cert.Kernel20Ideal Cert.Kernel20Ideal.Gen Cert.Kernel20Ideal.Value
open Cert.Ffn (hz2)
open Cert.Norm (rr)
open Idealize.ShloMosaic Idealize.ShloMosaic.TcCoe Idealize.ShloMosaic.Pointwise

/-- The number 1024, as it is written. -/
abbrev wd : EReal := Ideal.ofBits .f32 0x44800000#32
/-- A normed row at its place `d`. -/
abbrev nrm (x g : Fin 1024 → EReal) (d : Fin 1024) : EReal := x d * rr wd x * g d
/-- Two normed rows side by side, at the place `d`. -/
abbrev pair (x y g h : Fin 1024 → EReal) (d : Fin 2048) : EReal :=
  if p : d.val < 1024 then nrm x g ⟨d.val, p⟩ else nrm y h ⟨d.val - 1024, by omega⟩

theorem pair_lo (x y g h : Fin 1024 → EReal) (d : Fin 2048) (p : d.val < 1024) : pair x y g h d = nrm x g ⟨d.val, p⟩ := dif_pos p
theorem pair_hi (x y g h : Fin 1024 → EReal) (d : Fin 2048) (p : ¬d.val < 1024) : pair x y g h d = nrm y h ⟨d.val - 1024, by omega⟩ := dif_neg p

/-- The columns the first store covers. -/
theorem emb_lo (i : Fin 512) (f : Fin 1024) : r0_2.emb (ix2 i f) = ix2 i (⟨f.val, by omega⟩ : Fin 2048) := by
  funext a
  apply Fin.ext
  match a with
  | ⟨0, _⟩ => show 0 + 1 * i.val = i.val; omega
  | ⟨1, _⟩ => show 0 + 1 * f.val = f.val; omega
/-- The columns the second store covers. -/
theorem emb_hi (i : Fin 512) (f : Fin 1024) : r0_3.emb (ix2 i f) = ix2 i (⟨1024 + f.val, by omega⟩ : Fin 2048) := by
  funext a
  apply Fin.ext
  match a with
  | ⟨0, _⟩ => show 0 + 1 * i.val = i.val; omega
  | ⟨1, _⟩ => show 1024 + 1 * f.val = 1024 + f.val; omega

theorem lo_apply (x : Vec Ideal S512x1024 .f32) (g : Vec Ideal S1x1024 .f32) (i : Fin 512) (d : Fin 1024) :
    k0_pay1 x g (ix2 i d) = nrm (fun k => x (ix2 i k)) (fun k => g (ix2 0 k)) d := by
  pointwise [k0_pay1]
theorem hi_apply (x : Vec Ideal S512x1024 .f32) (g : Vec Ideal S1x1024 .f32) (i : Fin 512) (d : Fin 1024) :
    k0_pay2 x g (ix2 i d) = nrm (fun k => x (ix2 i k)) (fun k => g (ix2 0 k)) d := by
  pointwise [k0_pay2]

/-- What a grid point stores, entry by entry. -/
abbrev block (a b : Vec Ideal S512x1024 .f32) (ga gb : Vec Ideal S1x1024 .f32) : Vec Ideal S512x2048 .bf16 := fun y =>
  pair (fun k => a (ix2 (y 0) k)) (fun k => b (ix2 (y 0) k)) (fun k => ga (ix2 0 k)) (fun k => gb (ix2 0 k)) (y 1)

/-- What a grid point stores. -/
theorem store_eq (a b : Vec Ideal S512x1024 .f32) (ga gb : Vec Ideal S1x1024 .f32) : out0_4 a b ga gb = block a b ga gb := by
  unfold out0_4
  rw [View.ld_unit_zero (S := S512x1024) hz2, View.ld_unit_zero (S := S1x1024) hz2, View.ld_unit_zero (S := S512x1024) hz2, View.ld_unit_zero (S := S1x1024) hz2]
  funext y
  refine View.canon_apply_of_pieces (block a b ga gb) _ ?_ y (cover0_4 _ _ y)
  intro pc hpc
  rcases List.mem_cons.mp hpc with rfl | hpc
  · intro x
    obtain ⟨i, f, rfl⟩ : ∃ (i : Fin 512) (f : Fin 1024), x = ix2 i f := ⟨x 0, x 1, eq_ix2 x⟩
    dsimp only
    rw [emb_hi]
    refine (hi_apply _ _ _ _).trans ((pair_hi _ _ _ _ (⟨1024 + f.val, by omega⟩ : Fin 2048) (by dsimp only; omega)).trans ?_).symm
    exact congrArg (nrm (fun k => b (ix2 i k)) (fun k => gb (ix2 0 k))) (Fin.ext (show 1024 + f.val - 1024 = f.val by omega))
  rcases List.mem_cons.mp hpc with rfl | hpc
  · intro x
    obtain ⟨i, f, rfl⟩ : ∃ (i : Fin 512) (f : Fin 1024), x = ix2 i f := ⟨x 0, x 1, eq_ix2 x⟩
    dsimp only
    rw [emb_lo]
    exact (lo_apply _ _ _ _).trans (pair_lo _ _ _ _ (⟨f.val, by omega⟩ : Fin 2048) f.isLt).symm
  nomatch hpc

variable (m : (ℓ : Loc nD τ sig) → Buf (Elt Ideal) ℓ) (c : Dev nD)

/-- The blocks a grid point reads and writes. -/
theorem idx0 : ∀ t : Fin grid0.N, win0_0.index t = ![t.val, 0] ∧ win0_1.index t = ![t.val, 0] ∧ win0_2.index t = ![0, 0]
    ∧ win0_3.index t = ![0, 0] ∧ win0_4.index t = ![t.val, 0] := by
  decide +kernel

theorem blk0 (t : Fin cfg0.N) (ht : t.val < 8) (i : Fin 512) (k : Fin 1024) : iblk m c 0 t (ix2 i k) = m ((c : Thread nD τ).loc main_arg0)
    (ix2 (⟨512 * t.val + i.val, by omega⟩ : Fin 4096) k) := by
  blk_ext [iblk, V, (idx0 t).1]
theorem blk1 (t : Fin cfg0.N) (ht : t.val < 8) (i : Fin 512) (k : Fin 1024) : iblk m c 1 t (ix2 i k) = m ((c : Thread nD τ).loc main_arg1)
    (ix2 (⟨512 * t.val + i.val, by omega⟩ : Fin 4096) k) := by
  blk_ext [iblk, V, (idx0 t).2.1]
theorem blk2 (t : Fin cfg0.N) (k : Fin 1024) : iblk m c 2 t (ix2 0 k) = m ((c : Thread nD τ).loc main_arg2) (ix2 0 k) := by
  blk_ext [iblk, V, (idx0 t).2.2.1]
theorem blk3 (t : Fin cfg0.N) (k : Fin 1024) : iblk m c 3 t (ix2 0 k) = m ((c : Thread nD τ).loc main_arg3) (ix2 0 k) := by
  blk_ext [iblk, V, (idx0 t).2.2.2.1]
theorem emb4 (t : Fin cfg0.N) (ht : t.val < 8) (i : Fin 512) (d : Fin 2048) : ((cfg0.win 4).blk t).view.emb (ix2 i d)
    = ix2 (⟨512 * t.val + i.val, by omega⟩ : Fin 4096) d := by
  have e := (idx0 t).2.2.2.2
  funext a
  apply Fin.ext
  match a with
  | ⟨0, _⟩ => show win0_4.index t (0 : Fin 2) * 512 + 1 * i.val = 512 * t.val + i.val; rw [e]; show t.val * 512 + 1 * i.val = _; omega
  | ⟨1, _⟩ => show win0_4.index t (1 : Fin 2) * 2048 + 1 * d.val = d.val; rw [e]; show 0 * 2048 + 1 * d.val = _; omega
theorem cut4 (t : Fin cfg0.N) (X : Vec Ideal S512x2048 .bf16) (i : Fin 512) (d : Fin 2048) :
    (cfg0.win 4).cut (grid0.coords t) X (ix2 i d) = X (ix2 i d) := rfl

/-- What the result's entry holds. -/
abbrev entry (a b : Vec Ideal S4096x1024 .f32) (ga gb : Vec Ideal S1x1024 .f32) (t : Fin 4096) (d : Fin 2048) : EReal :=
  pair (fun k => a (ix2 t k)) (fun k => b (ix2 t k)) (fun k => ga (ix2 0 k)) (fun k => gb (ix2 0 k)) d

/-- What the kernel leaves in the result. -/
theorem result_apply (t : Fin 4096) (d : Fin 2048) : (dats m 0 c).arrAt 4 cfg0.N (ix2 t d) = entry (m ((c : Thread nD τ).loc main_arg0)) (m ((c : Thread nD τ).loc main_arg1)) (m ((c : Thread nD τ).loc main_arg2)) (m ((c : Thread nD τ).loc main_arg3)) t d := by
  have hN : cfg0.N = 8 := N_0
  have ht : (⟨512 * (⟨t.val / 512, by omega⟩ : Fin cfg0.N).val + t.val % 512, by dsimp only; omega⟩ : Fin 4096) = t := Fin.ext (by dsimp only; omega)
  have h := (dats m 0 c).arrAt_emb_eq_flushed 4 disjoint4 ⟨t.val / 512, by omega⟩ (flush0_4 _) (ix2 (⟨t.val % 512, by omega⟩ : Fin 512) d)
  rw [emb4 _ (by dsimp only; omega), flushed4, store_eq, ht] at h
  refine h.trans ((cut4 _ (block _ _ _ _) _ _).trans ?_)
  show pair (fun k => iblk m c 0 _ (ix2 (⟨t.val % 512, by omega⟩ : Fin 512) k)) (fun k => iblk m c 1 _ (ix2 (⟨t.val % 512, by omega⟩ : Fin 512) k)) (fun k => iblk m c 2 _ (ix2 0 k)) (fun k => iblk m c 3 _ (ix2 0 k)) d = _
  simp only [blk0 m c (⟨t.val / 512, by omega⟩ : Fin cfg0.N) (show t.val / 512 < 8 by omega), blk1 m c (⟨t.val / 512, by omega⟩ : Fin cfg0.N) (show t.val / 512 < 8 by omega), blk2, blk3, ht]

end Cert.Kernel20Ideal.Norm

namespace Cert.Reference20Ideal.Norm

open Cert.Reference20Ideal Cert.Reference20Ideal.Gen
open Cert.Kernel20Ideal.Norm (nrm entry)
open Idealize.ShloMosaic Idealize.ShloMosaic.TcCoe Idealize.ShloMosaic.Pointwise

/-- The reference's first norm, entry by entry. -/
theorem lo_apply (x : Vec Ideal S4096x1024 .f32) (g : Vec Ideal S1x1024 .f32) (t : Fin 4096) (d : Fin 1024) :
    Read.val_main_v11 x g (ix2 t d) = nrm (fun k => x (ix2 t k)) (fun k => g (ix2 0 k)) d := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_cst, Read.val_main_cst_0, Read.val_main_cst_1]
/-- The reference's second norm, entry by entry. -/
theorem hi_apply (x : Vec Ideal S4096x1024 .f32) (g : Vec Ideal S1x1024 .f32) (t : Fin 4096) (d : Fin 1024) :
    Read.val_main_v23 x g (ix2 t d) = nrm (fun k => x (ix2 t k)) (fun k => g (ix2 0 k)) d := by
  pointwise [Read.val_main_v12, Read.val_main_v13, Read.val_main_v14, Read.val_main_v15, Read.val_main_v16, Read.val_main_v17, Read.val_main_v18, Read.val_main_v19, Read.val_main_v20, Read.val_main_v21, Read.val_main_v22, Read.val_main_v23, Read.val_main_cst_2, Read.val_main_cst_3, Read.val_main_cst_4]

/-- The reference's result, entry by entry. -/
theorem result_apply (a b : Vec Ideal S4096x1024 .f32) (ga gb : Vec Ideal S1x1024 .f32) (t : Fin 4096) (d : Fin 2048) :
    Read.val_main_v25 a b ga gb (ix2 t d) = entry a b ga gb t d := by
  have e : Read.val_main_v25 a b ga gb (ix2 t d) = Read.val_main_v24 a b ga gb (ix2 t d) := by
    pointwise [Read.val_main_v25]
  rw [e]
  unfold Read.val_main_v24
  by_cases hd : d.val < 1024
  · refine (concatenate_pair_apply_left (s₁ := S4096x1024) (s₂ := S4096x1024) 1 _ _ _ (ix2 t d) rfl (ix2 t (⟨d.val, hd⟩ : Fin 1024)) (fun b => ?_)).trans ?_
    · match b with
      | ⟨0, _⟩ => rfl
      | ⟨1, _⟩ => rfl
    · exact (lo_apply _ _ _ _).trans (Cert.Kernel20Ideal.Norm.pair_lo _ _ _ _ d hd).symm
  · refine (concatenate_pair_apply_right (s₁ := S4096x1024) (s₂ := S4096x1024) 1 _ _ _ (ix2 t d) rfl rfl (ix2 t (⟨d.val - 1024, by omega⟩ : Fin 1024)) (fun b hb => ?_) ?_).trans ?_
    · match b with
      | ⟨0, _⟩ => rfl
      | ⟨1, _⟩ => exact absurd rfl hb
    · show d.val - 1024 + 1024 = d.val
      omega
    · exact (hi_apply _ _ _ _).trans (Cert.Kernel20Ideal.Norm.pair_hi _ _ _ _ d hd).symm

/-- The kernel's result is the reference's function of the kernel's arguments. -/
theorem result_eq (m : (ℓ : Loc Cert.Kernel20Ideal.nD Cert.Kernel20Ideal.τ Cert.Kernel20Ideal.sig) → Buf (Elt Ideal) ℓ) (c : Dev Cert.Kernel20Ideal.nD) :
    (Cert.Kernel20Ideal.Gen.dats m 0 c).arrAt 4 Cert.Kernel20Ideal.cfg0.N
      = Read.val_main_v25 (F := Ideal)
        (m ((c.tc : Thread Cert.Kernel20Ideal.nD Cert.Kernel20Ideal.τ).loc Cert.Kernel20Ideal.main_arg0))
        (m ((c.tc : Thread Cert.Kernel20Ideal.nD Cert.Kernel20Ideal.τ).loc Cert.Kernel20Ideal.main_arg1))
        (m ((c.tc : Thread Cert.Kernel20Ideal.nD Cert.Kernel20Ideal.τ).loc Cert.Kernel20Ideal.main_arg2))
        (m ((c.tc : Thread Cert.Kernel20Ideal.nD Cert.Kernel20Ideal.τ).loc Cert.Kernel20Ideal.main_arg3)) := by
  funext x
  have ex := eq_ix2 x
  rw [ex]
  exact (Cert.Kernel20Ideal.Norm.result_apply m c _ _).trans (result_apply _ _ _ _ _ _).symm

end Cert.Reference20Ideal.Norm
-- ==== Proof.Norm.Loss.lean ====
/-
  The last norm, the mean square loss and their gradients: each point sends a block of rows through the norm and the error,
  and the gain's gradient and the loss are gathered over the points.
-/
module

public import proofs.«01_k».proof.Proof.Gen.Kernel21Ideal.Value
public import proofs.«01_k».proof.Proof.Gen.Reference21Ideal.Read
public import proofs.«01_k».proof.Proof.Ffn.Sums
public import proofs.«01_k».proof.Proof.Norm.Rms

@[expose] public section

noncomputable section

namespace Cert.Kernel21Ideal.Norm

open Cert.Kernel21Ideal Cert.Kernel21Ideal.Gen Cert.Kernel21Ideal.Value
open Cert.Ffn (hz2)
open Cert.Norm (rr acc gradRow sq_nonneg w2048 whalf wtwo)
open Idealize.ShloMosaic Idealize.ShloMosaic.TcCoe Idealize.ShloMosaic.Pointwise

section Body
variable {F : FTy → Type} [FloatOps F]
variable (c : Dev nD) (i : grid0.Coords) (a1 : Memref sig .tc .vmem S256x2048 .f32) (h1 : a1.IsWhole)
  (a2 : Memref sig .tc .vmem S1x2048 .f32) (h2 : a2.IsWhole) (a3 : Memref sig .tc .vmem S256x2048 .f32) (h3 : a3.IsWhole)
  (a4 : Memref sig .tc .vmem S256x2048 .f32) (h4 : a4.IsWhole) (a5 : Memref sig .tc .vmem S1x2048 .f32) (h5 : a5.IsWhole)
  (a6 : Memref sig .tc .vmem S1x128 .f32) (h6 : a6.IsWhole)
  (x : Vec F S256x2048 .f32) (g : Vec F S1x2048 .f32) (y : Vec F S256x2048 .f32) (z : Vec F S1x2048 .f32) (u : Vec F S1x128 .f32)

/-- The first point's block of the stream's gradient. -/
theorem outA3 (g0 : cond0_0 i) : out0_A_3 c i a1 h1 a2 h2 a3 h3 a4 h4 a5 h5 a6 h6 g0 x g y
    = k0_pay1 x (k0_pay9 x) (k0_pay10 x g y) (k0_pay11 x g y) (k0_pay12 x) := by
  unfold out0_A_3
  rw [View.read_writes_eq_canon _ _ _ (cover0_A_3 c i a1 h1 a2 h2 a3 h3 a4 h4 a5 h5 a6 h6 g0 x g y)]
  unfold kernelRun0_A
  dsimp only
  sl_unfold_words
  rw [View.canon_unit_zero hz2]
  simp only [View.readCov_unit_zero (S := S1x2048) _ hz2, View.readCov_unit_zero (S := S1x128) _ hz2, View.readAt_eq_ld, h1.read_unread, h2.read_unread, h3.read_unread, h5.read_unread, h6.read_unread,
    View.ld_unit_zero (S := S256x2048) hz2, View.ld_unit_zero (S := S1x2048) hz2, View.ld_unit_zero (S := S1x128) hz2]

/-- Another point's block of it. -/
theorem outB3 (g0 : ¬cond0_0 i) : out0_B_3 c i a1 h1 a2 h2 a3 h3 a4 h4 a5 h5 a6 h6 g0 x g y z u
    = k0_pay1 x (k0_pay9 x) (k0_pay10 x g y) (k0_pay11 x g y) (k0_pay12 x) := by
  unfold out0_B_3
  rw [View.read_writes_eq_canon _ _ _ (cover0_B_3 c i a1 h1 a2 h2 a3 h3 a4 h4 a5 h5 a6 h6 g0 x g y z u)]
  unfold kernelRun0_B
  dsimp only
  sl_unfold_words
  rw [View.canon_unit_zero hz2]
  simp only [View.readCov_unit_zero (S := S1x2048) _ hz2, View.readCov_unit_zero (S := S1x128) _ hz2, View.readAt_eq_ld, h1.read_unread, h2.read_unread, h3.read_unread, h5.read_unread, h6.read_unread,
    View.ld_unit_zero (S := S256x2048) hz2, View.ld_unit_zero (S := S1x2048) hz2, View.ld_unit_zero (S := S1x128) hz2]

/-- The first point starts the gain's gradient from zero. -/
theorem outA4 (g0 : cond0_0 i) : out0_A_4 c i a1 h1 a2 h2 a3 h3 a4 h4 a5 h5 a6 h6 g0 x g y
    = k0_pay4 x (k0_pay8 x g y) (k0_pay9 x) (k0_pay2 (F := F)) := by
  unfold out0_A_4
  rw [View.read_writes_eq_canon _ _ _ (cover0_A_4 c i a1 h1 a2 h2 a3 h3 a4 h4 a5 h5 a6 h6 g0 x g y)]
  unfold kernelRun0_A
  dsimp only
  sl_unfold_words
  rw [View.canon_cons_unit_zero (S := S1x2048) hz2]
  simp only [View.readCov_unit_zero (S := S1x2048) _ hz2, View.readCov_unit_zero (S := S1x128) _ hz2, View.readAt_eq_ld, h1.read_unread, h2.read_unread, h3.read_unread, h5.read_unread, h6.read_unread,
    View.ld_unit_zero (S := S256x2048) hz2, View.ld_unit_zero (S := S1x2048) hz2, View.ld_unit_zero (S := S1x128) hz2]

/-- Another point adds its rows' share to it. -/
theorem outB4 (g0 : ¬cond0_0 i) : out0_B_4 c i a1 h1 a2 h2 a3 h3 a4 h4 a5 h5 a6 h6 g0 x g y z u
    = k0_pay4 x (k0_pay8 x g y) (k0_pay9 x) z := by
  unfold out0_B_4
  rw [View.read_writes_eq_canon _ _ _ (cover0_B_4 c i a1 h1 a2 h2 a3 h3 a4 h4 a5 h5 a6 h6 g0 x g y z u)]
  unfold kernelRun0_B
  dsimp only
  sl_unfold_words
  rw [View.canon_unit_zero hz2]
  simp only [View.readCov_unit_zero (S := S1x2048) _ hz2, View.readCov_unit_zero (S := S1x128) _ hz2, View.readAt_eq_ld, h1.read_unread, h2.read_unread, h3.read_unread, h5.read_unread, h6.read_unread,
    View.ld_unit_zero (S := S256x2048) hz2, View.ld_unit_zero (S := S1x2048) hz2, View.ld_unit_zero (S := S1x128) hz2]

/-- The first point starts the loss from zero. -/
theorem outA5 (g0 : cond0_0 i) : out0_A_5 c i a1 h1 a2 h2 a3 h3 a4 h4 a5 h5 a6 h6 g0 x g y
    = k0_pay5 (k0_pay7 x g y) (k0_pay3 (F := F)) := by
  unfold out0_A_5
  rw [View.read_writes_eq_canon _ _ _ (cover0_A_5 c i a1 h1 a2 h2 a3 h3 a4 h4 a5 h5 a6 h6 g0 x g y)]
  unfold kernelRun0_A
  dsimp only
  sl_unfold_words
  rw [View.canon_cons_unit_zero (S := S1x128) hz2]
  simp only [View.readCov_unit_zero (S := S1x2048) _ hz2, View.readCov_unit_zero (S := S1x128) _ hz2, View.readAt_eq_ld, h1.read_unread, h2.read_unread, h3.read_unread, h5.read_unread, h6.read_unread,
    View.ld_unit_zero (S := S256x2048) hz2, View.ld_unit_zero (S := S1x2048) hz2, View.ld_unit_zero (S := S1x128) hz2]

/-- Another point adds its rows' share to it. -/
theorem outB5 (g0 : ¬cond0_0 i) : out0_B_5 c i a1 h1 a2 h2 a3 h3 a4 h4 a5 h5 a6 h6 g0 x g y z u
    = k0_pay5 (k0_pay7 x g y) u := by
  unfold out0_B_5
  rw [View.read_writes_eq_canon _ _ _ (cover0_B_5 c i a1 h1 a2 h2 a3 h3 a4 h4 a5 h5 a6 h6 g0 x g y z u)]
  unfold kernelRun0_B
  dsimp only
  sl_unfold_words
  rw [View.canon_unit_zero hz2]
  simp only [View.readCov_unit_zero (S := S1x2048) _ hz2, View.readCov_unit_zero (S := S1x128) _ hz2, View.readAt_eq_ld, h1.read_unread, h2.read_unread, h3.read_unread, h5.read_unread, h6.read_unread,
    View.ld_unit_zero (S := S256x2048) hz2, View.ld_unit_zero (S := S1x2048) hz2, View.ld_unit_zero (S := S1x128) hz2]

end Body

variable (m : (ℓ : Loc nD τ sig) → Buf (Elt Ideal) ℓ) (c : Dev nD)

/-- The blocks a grid point reads and writes. -/
theorem idx0 : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![0, 0] := by
  decide +kernel

theorem blk0 (t : Fin cfg0.N) (ht : t.val < 16) (i : Fin 256) (k : Fin 2048) : iblk m c 0 t (ix2 i k) = m ((c : Thread nD τ).loc main_arg0)
    (ix2 (⟨256 * t.val + i.val, by omega⟩ : Fin 4096) k) := by
  blk_ext [iblk, V, (idx0 t).1]
theorem blk2 (t : Fin cfg0.N) (ht : t.val < 16) (i : Fin 256) (k : Fin 2048) : iblk m c 2 t (ix2 i k) = m ((c : Thread nD τ).loc main_arg2)
    (ix2 (⟨256 * t.val + i.val, by omega⟩ : Fin 4096) k) := by
  blk_ext [iblk, V, (idx0 t).2.2.1]
theorem blk1 (t : Fin cfg0.N) (k : Fin 2048) : iblk m c 1 t (ix2 0 k) = m ((c : Thread nD τ).loc main_arg1) (ix2 0 k) := by
  blk_ext [iblk, V, (idx0 t).2.1]
theorem emb3 (t : Fin cfg0.N) (ht : t.val < 16) (i : Fin 256) (d : Fin 2048) : ((cfg0.win 3).blk t).view.emb (ix2 i d)
    = ix2 (⟨256 * t.val + i.val, by omega⟩ : Fin 4096) d := by
  have e := (idx0 t).2.2.2.1
  funext a
  apply Fin.ext
  match a with
  | ⟨0, _⟩ => show win0_3.index t (0 : Fin 2) * 256 + 1 * i.val = 256 * t.val + i.val; rw [e]; show t.val * 256 + 1 * i.val = _; omega
  | ⟨1, _⟩ => show win0_3.index t (1 : Fin 2) * 2048 + 1 * d.val = d.val; rw [e]; show 0 * 2048 + 1 * d.val = _; omega
theorem emb4 (t : Fin cfg0.N) (d : Fin 2048) : ((cfg0.win 4).blk t).view.emb (ix2 (0 : Fin 1) d) = ix2 0 d := by
  have e := (idx0 t).2.2.2.2.1
  funext a
  apply Fin.ext
  match a with
  | ⟨0, _⟩ => show win0_4.index t (0 : Fin 2) * 1 + 1 * 0 = 0; rw [e]; rfl
  | ⟨1, _⟩ => show win0_4.index t (1 : Fin 2) * 2048 + 1 * d.val = d.val; rw [e]; show 0 * 2048 + 1 * d.val = _; omega
theorem emb5 (t : Fin cfg0.N) (d : Fin 128) : ((cfg0.win 5).blk t).view.emb (ix2 (0 : Fin 1) d) = ix2 0 d := by
  have e := (idx0 t).2.2.2.2.2
  funext a
  apply Fin.ext
  match a with
  | ⟨0, _⟩ => show win0_5.index t (0 : Fin 2) * 1 + 1 * 0 = 0; rw [e]; rfl
  | ⟨1, _⟩ => show win0_5.index t (1 : Fin 2) * 128 + 1 * d.val = d.val; rw [e]; show 0 * 128 + 1 * d.val = _; omega
theorem cut3 (t : Fin cfg0.N) (X : Vec Ideal S256x2048 .f32) (i : Fin 256) (d : Fin 2048) :
    (cfg0.win 3).cut (grid0.coords t) X (ix2 i d) = X (ix2 i d) := rfl
theorem cut4 (t : Fin cfg0.N) (X : Vec Ideal S1x2048 .f32) (d : Fin 2048) :
    (cfg0.win 4).cut (grid0.coords t) X (ix2 (0 : Fin 1) d) = X (ix2 0 d) := rfl
theorem cut5 (t : Fin cfg0.N) (X : Vec Ideal S1x128 .f32) (d : Fin 128) :
    (cfg0.win 5).cut (grid0.coords t) X (ix2 (0 : Fin 1) d) = X (ix2 0 d) := rfl

/-- The number 2048, as it is written. -/
abbrev wd : EReal := Ideal.ofBits .f32 0x45000000#32
/-- The number a half, as it is written. -/
abbrev half : EReal := Ideal.ofBits .f32 0x3F000000#32

/-- A row's error at its place `d`. -/
abbrev err (x g y : Fin 2048 → EReal) (d : Fin 2048) : EReal := x d * rr wd x * g d - y d
/-- A row's mean square error. -/
abbrev mse (x g y : Fin 2048 → EReal) : EReal := Ideal.div (∑ k, err x g y k * err x g y k) wd

/-- A mean square is not negative. -/
theorem mse_nonneg (x g y : Fin 2048 → EReal) : 0 ≤ mse x g y := by
  unfold mse wd
  rw [w2048, Ideal.div_coe (by norm_num)]
  exact mul_nonneg (Finset.sum_nonneg fun k _ => sq_nonneg _) (by exact_mod_cast (by positivity : (0 : ℝ) ≤ 1 / 2048))

/-- A half of a sum of numbers that are not negative. -/
theorem half_sum {n : ℕ} (f : Fin n → EReal) (hf : ∀ i, 0 ≤ f i) : half * ∑ i, f i = ∑ i, half * f i := by
  have h : ∀ s : Finset (Fin n), half * ∑ i ∈ s, f i = ∑ i ∈ s, half * f i := by
    intro s
    induction s using Finset.cons_induction with
    | empty => simp
    | cons a s ha ih => rw [Finset.sum_cons, Finset.sum_cons, EReal.left_distrib_of_nonneg (hf a) (Finset.sum_nonneg fun i _ => hf i), ih]
  exact h Finset.univ

section Pays
variable (x : Vec Ideal S256x2048 .f32) (g : Vec Ideal S1x2048 .f32) (y : Vec Ideal S256x2048 .f32)

theorem err_apply (i : Fin 256) (d : Fin 2048) :
    k0_pay6 x g y (ix2 i d) = err (fun k => x (ix2 i k)) (fun k => g (ix2 0 k)) (fun k => y (ix2 i k)) d := by
  pointwise [k0_pay6]
theorem dy_apply (i : Fin 256) (d : Fin 2048) :
    k0_pay8 x g y (ix2 i d) = Ideal.div (err (fun k => x (ix2 i k)) (fun k => g (ix2 0 k)) (fun k => y (ix2 i k)) d) wd := by
  pointwise [k0_pay8]
  simp only [err_apply]

theorem dx_apply (i : Fin 256) (d : Fin 2048) : k0_pay1 x (k0_pay9 x) (k0_pay10 x g y) (k0_pay11 x g y) (k0_pay12 x) (ix2 i d)
    = gradRow wd (fun k => x (ix2 i k)) (fun k => g (ix2 0 k))
      (fun k => Ideal.div (err (fun k => x (ix2 i k)) (fun k => g (ix2 0 k)) (fun k => y (ix2 i k)) k) wd) d := by
  pointwise [k0_pay1, k0_pay9, k0_pay10, k0_pay11, k0_pay12]
  simp only [dy_apply]

theorem dg_apply (z : Vec Ideal S1x2048 .f32) (d : Fin 2048) : k0_pay4 x (k0_pay8 x g y) (k0_pay9 x) z (ix2 0 d)
    = z (ix2 0 d) + ∑ i : Fin 256, Ideal.div (err (fun k => x (ix2 i k)) (fun k => g (ix2 0 k)) (fun k => y (ix2 i k)) d) wd
      * (x (ix2 i d) * rr wd (fun k : Fin 2048 => x (ix2 i k))) := by
  pointwise [k0_pay4, k0_pay9]
  simp only [dy_apply]

theorem loss_apply (u : Vec Ideal S1x128 .f32) (d : Fin 128) : k0_pay5 (k0_pay7 x g y) u (ix2 0 d)
    = u (ix2 0 d) + ∑ i : Fin 256, half * mse (fun k => x (ix2 i k)) (fun k => g (ix2 0 k)) (fun k => y (ix2 i k)) := by
  pointwise [k0_pay5, k0_pay7]
  simp only [err_apply]
  exact congrArg (u (ix2 0 d) + ·) (half_sum (fun i => mse (fun k => x (ix2 i k)) (fun k => g (ix2 0 k)) (fun k => y (ix2 i k))) fun i => mse_nonneg _ _ _)

theorem zeroG (d : Fin 2048) : k0_pay2 (F := Ideal) (ix2 0 d) = 0 := by
  pointwise [k0_pay2]
theorem zeroL (d : Fin 128) : k0_pay3 (F := Ideal) (ix2 0 d) = 0 := by
  pointwise [k0_pay3]
end Pays

section Entries
variable (x : Vec Ideal S4096x2048 .f32) (g : Vec Ideal S1x2048 .f32) (y : Vec Ideal S4096x2048 .f32)

/-- The error at an entry. -/
abbrev errE (t : Fin 4096) (d : Fin 2048) : EReal := err (fun k => x (ix2 t k)) (fun k => g (ix2 0 k)) (fun k => y (ix2 t k)) d
/-- What an entry of the stream's gradient holds. -/
abbrev dxE (t : Fin 4096) (d : Fin 2048) : EReal :=
  gradRow wd (fun k => x (ix2 t k)) (fun k => g (ix2 0 k)) (fun k => Ideal.div (errE x g y t k) wd) d
/-- A row's share of the gain's gradient. -/
abbrev shareG (d : Fin 2048) (t : Fin 4096) : EReal := Ideal.div (errE x g y t d) wd * (x (ix2 t d) * rr wd (fun k : Fin 2048 => x (ix2 t k)))
/-- What an entry of the gain's gradient holds. -/
abbrev dgE (d : Fin 2048) : EReal := ∑ t : Fin 4096, shareG x g y d t
/-- A row's share of the loss. -/
abbrev shareL (t : Fin 4096) : EReal := half * mse (fun k => x (ix2 t k)) (fun k => g (ix2 0 k)) (fun k => y (ix2 t k))
/-- The loss. -/
abbrev lossE : EReal := ∑ t : Fin 4096, shareL x g y t
end Entries

theorem step3 (t : Fin cfg0.N) : (outsAt0 m c t.val t.isLt).1 = k0_pay1 (iblk m c 0 t) (k0_pay9 (iblk m c 0 t))
    (k0_pay10 (iblk m c 0 t) (iblk m c 1 t) (iblk m c 2 t)) (k0_pay11 (iblk m c 0 t) (iblk m c 1 t) (iblk m c 2 t)) (k0_pay12 (iblk m c 0 t)) := by
  by_cases h0 : t.val % 16 = 0
  · rw [outsAt0_A m c t h0]
    dsimp only
    rw [outA3]
  · rw [outsAt0_B m c t h0]
    dsimp only
    rw [outB3]

/-- What the kernel leaves of the stream's gradient. -/
theorem dx_result (t : Fin 4096) (d : Fin 2048) : (dats m 0 c).arrAt 3 cfg0.N (ix2 t d)
    = dxE (m ((c : Thread nD τ).loc main_arg0)) (m ((c : Thread nD τ).loc main_arg1)) (m ((c : Thread nD τ).loc main_arg2)) t d := by
  have hN : cfg0.N = 16 := N_0
  have ht : (⟨256 * (⟨t.val / 256, by omega⟩ : Fin cfg0.N).val + t.val % 256, by dsimp only; omega⟩ : Fin 4096) = t := Fin.ext (by dsimp only; omega)
  have h := (dats m 0 c).arrAt_emb_eq_flushed 3 disjoint3 ⟨t.val / 256, by omega⟩ (flush0_3 _) (ix2 (⟨t.val % 256, by omega⟩ : Fin 256) d)
  rw [emb3 _ (by dsimp only; omega), flushed3, step3, ht] at h
  refine h.trans ((cut3 _ _ _ _).trans ((dx_apply _ _ _ _ _).trans ?_))
  simp only [blk0 m c (⟨t.val / 256, by omega⟩ : Fin cfg0.N) (show t.val / 256 < 16 by omega), blk1, blk2 m c (⟨t.val / 256, by omega⟩ : Fin cfg0.N) (show t.val / 256 < 16 by omega), ht]

/-- What the gain's gradient has gathered after point `n`. -/
def part4 (d : Fin 2048) (n : ℕ) (hn : n < 16) : EReal := (outsAt0 m c n (by have hN : cfg0.N = 16 := N_0; omega)).2.1 (ix2 0 d)

theorem part4_zero (d : Fin 2048) : part4 m c d 0 (by omega) = ∑ i : Fin 256, shareG (m ((c : Thread nD τ).loc main_arg0)) (m ((c : Thread nD τ).loc main_arg1)) (m ((c : Thread nD τ).loc main_arg2)) d ⟨256 * 0 + i.val, by omega⟩ := by
  have hN : cfg0.N = 16 := N_0
  unfold part4
  rw [outsAt0_A m c ⟨0, by omega⟩ rfl]
  dsimp only
  rw [outA4, dg_apply, zeroG, zero_add]
  refine Finset.sum_congr rfl fun i _ => ?_
  simp only [blk0 m c (⟨0, by omega⟩ : Fin cfg0.N) (show 0 < 16 by omega), blk2 m c (⟨0, by omega⟩ : Fin cfg0.N) (show 0 < 16 by omega), blk1]

theorem part4_succ (d : Fin 2048) (n : ℕ) (hn : n + 1 < 16) :
    part4 m c d (n + 1) hn = part4 m c d n (by omega) + ∑ i : Fin 256, shareG (m ((c : Thread nD τ).loc main_arg0)) (m ((c : Thread nD τ).loc main_arg1)) (m ((c : Thread nD τ).loc main_arg2)) d ⟨256 * (n + 1) + i.val, by omega⟩ := by
  have hN : cfg0.N = 16 := N_0
  unfold part4
  rw [outsAt0_B m c ⟨n + 1, by omega⟩ (by dsimp only; omega)]
  dsimp only
  rw [outB4, dg_apply]
  refine congrArg₂ _ rfl (Finset.sum_congr rfl fun i _ => ?_)
  simp only [blk0 m c (⟨n + 1, by omega⟩ : Fin cfg0.N) hn, blk2 m c (⟨n + 1, by omega⟩ : Fin cfg0.N) hn, blk1]

/-- The array is written once, after the last point. -/
theorem held4 (d : Fin 2048) (n : ℕ) (hn : n < 16) (h15 : n = 15) : (dats m 0 c).arrAt 4 cfg0.N (ix2 0 d) = part4 m c d n hn := by
  have hN : cfg0.N = 16 := N_0
  have h := (dats m 0 c).arrAt_emb_eq_flushed 4 (fun t t' e e' hne => absurd (Fin.ext (by
    have h1 := (flush0_4 t).mp e; have h2 := (flush0_4 t').mp e'; have := t.isLt; have := t'.isLt; omega)) hne)
    ⟨n, by omega⟩ ((flush0_4 _).mpr (by dsimp only; omega)) (ix2 (0 : Fin 1) d)
  rw [emb4, flushed4] at h
  exact h.trans (cut4 _ _ _)

/-- What the kernel leaves of the gain's gradient. -/
theorem dg_result (d : Fin 2048) : (dats m 0 c).arrAt 4 cfg0.N (ix2 0 d)
    = dgE (m ((c : Thread nD τ).loc main_arg0)) (m ((c : Thread nD τ).loc main_arg1)) (m ((c : Thread nD τ).loc main_arg2)) d :=
  (held4 m c d 15 (by omega) rfl).trans (acc _ (part4 m c d) (part4_zero m c d) (part4_succ m c d))

/-- What the loss has gathered after point `n`. -/
def part5 (d : Fin 128) (n : ℕ) (hn : n < 16) : EReal := (outsAt0 m c n (by have hN : cfg0.N = 16 := N_0; omega)).2.2 (ix2 0 d)

theorem part5_zero (d : Fin 128) : part5 m c d 0 (by omega) = ∑ i : Fin 256, shareL (m ((c : Thread nD τ).loc main_arg0)) (m ((c : Thread nD τ).loc main_arg1)) (m ((c : Thread nD τ).loc main_arg2)) ⟨256 * 0 + i.val, by omega⟩ := by
  have hN : cfg0.N = 16 := N_0
  unfold part5
  rw [outsAt0_A m c ⟨0, by omega⟩ rfl]
  dsimp only
  rw [outA5, loss_apply, zeroL, zero_add]
  refine Finset.sum_congr rfl fun i _ => ?_
  simp only [blk0 m c (⟨0, by omega⟩ : Fin cfg0.N) (show 0 < 16 by omega), blk2 m c (⟨0, by omega⟩ : Fin cfg0.N) (show 0 < 16 by omega), blk1]

theorem part5_succ (d : Fin 128) (n : ℕ) (hn : n + 1 < 16) :
    part5 m c d (n + 1) hn = part5 m c d n (by omega) + ∑ i : Fin 256, shareL (m ((c : Thread nD τ).loc main_arg0)) (m ((c : Thread nD τ).loc main_arg1)) (m ((c : Thread nD τ).loc main_arg2)) ⟨256 * (n + 1) + i.val, by omega⟩ := by
  have hN : cfg0.N = 16 := N_0
  unfold part5
  rw [outsAt0_B m c ⟨n + 1, by omega⟩ (by dsimp only; omega)]
  dsimp only
  rw [outB5, loss_apply]
  refine congrArg₂ _ rfl (Finset.sum_congr rfl fun i _ => ?_)
  simp only [blk0 m c (⟨n + 1, by omega⟩ : Fin cfg0.N) hn, blk2 m c (⟨n + 1, by omega⟩ : Fin cfg0.N) hn, blk1]

/-- The array is written once, after the last point. -/
theorem held5 (d : Fin 128) (n : ℕ) (hn : n < 16) (h15 : n = 15) : (dats m 0 c).arrAt 5 cfg0.N (ix2 0 d) = part5 m c d n hn := by
  have hN : cfg0.N = 16 := N_0
  have h := (dats m 0 c).arrAt_emb_eq_flushed 5 (fun t t' e e' hne => absurd (Fin.ext (by
    have h1 := (flush0_5 t).mp e; have h2 := (flush0_5 t').mp e'; have := t.isLt; have := t'.isLt; omega)) hne)
    ⟨n, by omega⟩ ((flush0_5 _).mpr (by dsimp only; omega)) (ix2 (0 : Fin 1) d)
  rw [emb5, flushed5] at h
  exact h.trans (cut5 _ _ _)

/-- What the kernel leaves of the loss. -/
theorem loss_result (d : Fin 128) : (dats m 0 c).arrAt 5 cfg0.N (ix2 0 d)
    = lossE (m ((c : Thread nD τ).loc main_arg0)) (m ((c : Thread nD τ).loc main_arg1)) (m ((c : Thread nD τ).loc main_arg2)) :=
  (held5 m c d 15 (by omega) rfl).trans (acc _ (part5 m c d) (part5_zero m c d) (part5_succ m c d))

end Cert.Kernel21Ideal.Norm

namespace Cert.Reference21Ideal.Norm

open Cert.Reference21Ideal Cert.Reference21Ideal.Gen
open Cert.Kernel21Ideal.Norm (wd half err errE dxE dgE lossE mse mse_nonneg half_sum)
open Cert.Norm (gradRow_eq w2048 wneg whalf wtwo)
open Idealize.ShloMosaic Idealize.ShloMosaic.TcCoe Idealize.ShloMosaic.Pointwise

/-- The gradient of half of a mean of squares: the reference's form and the kernel's. -/
theorem meanGrad (e : EReal) : Ideal.div half wd * (Ideal.ofBits .f32 0x40000000#32 * e) = Ideal.div e wd := by
  unfold half wd
  rw [whalf, wtwo, w2048, Ideal.div_coe (by norm_num), Ideal.div_coe (by norm_num), ← mul_assoc, ← EReal.coe_mul, ← EReal.coe_mul, mul_comm]
  congr 2
  norm_num

section Values
variable (x : Vec Ideal S4096x2048 .f32) (g : Vec Ideal S1x2048 .f32) (y : Vec Ideal S4096x2048 .f32)

theorem err_apply (t : Fin 4096) (d : Fin 2048) : Read.val_main_v15 x g y (ix2 t d) = errE x g y t d := by
  pointwise [Read.val_main_v15, Read.val_main_v14, Read.val_main_v13, Read.val_main_v12, Read.val_main_v11, Read.val_main_v7, Read.val_main_v6, Read.val_main_v5, Read.val_main_v4, Read.val_main_v3, Read.val_main_v2, Read.val_main_v1, Read.val_main_v0, Read.val_main_cst, Read.val_main_cst_0, Read.val_main_cst_1]

theorem dy_apply (t : Fin 4096) (d : Fin 2048) : Read.val_main_v29 x g y (ix2 t d) = Ideal.div (errE x g y t d) wd := by
  pointwise [Read.val_main_v29, Read.val_main_v28, Read.val_main_v27, Read.val_main_v26, Read.val_main_v25, Read.val_main_v24, Read.val_main_v18, Read.val_main_v17, Read.val_main_cst_3, Read.val_main_cst_8, Read.val_main_cst_9, Read.val_main_cst_10]
  rw [err_apply]
  exact meanGrad _

/-- The reference's gradient of the stream, entry by entry. -/
theorem dx_apply (t : Fin 4096) (d : Fin 2048) : Read.val_main_v48 x g y (ix2 t d) = dxE x g y t d := by
  pointwise [Read.val_main_v33, Read.val_main_v34, Read.val_main_v35, Read.val_main_v36, Read.val_main_v37, Read.val_main_v38, Read.val_main_v39, Read.val_main_v40, Read.val_main_v41, Read.val_main_v42, Read.val_main_v43, Read.val_main_v44, Read.val_main_v45, Read.val_main_v46, Read.val_main_v47, Read.val_main_v48, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_12, Read.val_main_cst_13, Read.val_main_cst_14]
  simp only [Finset.univ_unique, Finset.sum_singleton, dy_apply, dxE]
  unfold wd
  simp only [w2048, wneg]
  exact gradRow_eq (w := 2048) (by norm_num) (fun k : Fin 2048 => x (ix2 t k)) (fun k => g (ix2 0 k)) (fun k => Ideal.div (errE x g y t k) ((2048 : ℝ) : EReal)) d

/-- The reference's gradient of the gain, entry by entry. -/
theorem dg_apply (d : Fin 2048) : Read.val_main_v32 x g y (ix2 0 d) = dgE x g y d := by
  pointwise [Read.val_main_v32, Read.val_main_v31, Read.val_main_v30, Read.val_main_v12, Read.val_main_v11, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_11]
  simp only [dy_apply]
  exact Finset.sum_congr rfl fun k _ => mul_comm _ _

/-- The reference's loss, entry by entry. -/
theorem loss_apply (d : Fin 128) : Read.val_main_v49 x g y (ix2 0 d) = lossE x g y := by
  pointwise [Read.val_main_v49, Read.val_main_v23, Read.val_main_v22, Read.val_main_v21, Read.val_main_v20, Read.val_main_v19, Read.val_main_v16, Read.val_main_cst_4, Read.val_main_cst_5, Read.val_main_cst_6, Read.val_main_cst_7]
  simp only [err_apply]
  exact half_sum (fun t => mse (fun k => x (ix2 t k)) (fun k => g (ix2 0 k)) (fun k => y (ix2 t k))) fun t => mse_nonneg _ _ _
end Values

/-- The kernel's result is the reference's function of the kernel's arguments. -/
theorem dx_eq (m : (ℓ : Loc Cert.Kernel21Ideal.nD Cert.Kernel21Ideal.τ Cert.Kernel21Ideal.sig) → Buf (Elt Ideal) ℓ) (c : Dev Cert.Kernel21Ideal.nD) :
    (Cert.Kernel21Ideal.Gen.dats m 0 c).arrAt 3 Cert.Kernel21Ideal.cfg0.N
      = Read.val_main_v48 (F := Ideal)
        (m ((c.tc : Thread Cert.Kernel21Ideal.nD Cert.Kernel21Ideal.τ).loc Cert.Kernel21Ideal.main_arg0))
        (m ((c.tc : Thread Cert.Kernel21Ideal.nD Cert.Kernel21Ideal.τ).loc Cert.Kernel21Ideal.main_arg1))
        (m ((c.tc : Thread Cert.Kernel21Ideal.nD Cert.Kernel21Ideal.τ).loc Cert.Kernel21Ideal.main_arg2)) := by
  funext x
  have ex := eq_ix2 x
  rw [ex]
  exact (Cert.Kernel21Ideal.Norm.dx_result m c _ _).trans (dx_apply _ _ _ _ _).symm

/-- The kernel's result is the reference's function of the kernel's arguments. -/
theorem dg_eq (m : (ℓ : Loc Cert.Kernel21Ideal.nD Cert.Kernel21Ideal.τ Cert.Kernel21Ideal.sig) → Buf (Elt Ideal) ℓ) (c : Dev Cert.Kernel21Ideal.nD) :
    (Cert.Kernel21Ideal.Gen.dats m 0 c).arrAt 4 Cert.Kernel21Ideal.cfg0.N
      = Read.val_main_v32 (F := Ideal)
        (m ((c.tc : Thread Cert.Kernel21Ideal.nD Cert.Kernel21Ideal.τ).loc Cert.Kernel21Ideal.main_arg0))
        (m ((c.tc : Thread Cert.Kernel21Ideal.nD Cert.Kernel21Ideal.τ).loc Cert.Kernel21Ideal.main_arg1))
        (m ((c.tc : Thread Cert.Kernel21Ideal.nD Cert.Kernel21Ideal.τ).loc Cert.Kernel21Ideal.main_arg2)) := by
  funext x
  have ex := (eq_ix2 x).trans (congrArg (fun z => ix2 z (x 1)) (Fin.ext (by have := (x 0).isLt; have h : (x 0).val < 1 := this; show (x 0).val = (0 : Fin 1).val; simp only [Fin.val_zero]; omega)))
  rw [ex]
  exact (Cert.Kernel21Ideal.Norm.dg_result m c _).trans (dg_apply _ _ _ _).symm

/-- The kernel's result is the reference's function of the kernel's arguments. -/
theorem loss_eq (m : (ℓ : Loc Cert.Kernel21Ideal.nD Cert.Kernel21Ideal.τ Cert.Kernel21Ideal.sig) → Buf (Elt Ideal) ℓ) (c : Dev Cert.Kernel21Ideal.nD) :
    (Cert.Kernel21Ideal.Gen.dats m 0 c).arrAt 5 Cert.Kernel21Ideal.cfg0.N
      = Read.val_main_v49 (F := Ideal)
        (m ((c.tc : Thread Cert.Kernel21Ideal.nD Cert.Kernel21Ideal.τ).loc Cert.Kernel21Ideal.main_arg0))
        (m ((c.tc : Thread Cert.Kernel21Ideal.nD Cert.Kernel21Ideal.τ).loc Cert.Kernel21Ideal.main_arg1))
        (m ((c.tc : Thread Cert.Kernel21Ideal.nD Cert.Kernel21Ideal.τ).loc Cert.Kernel21Ideal.main_arg2)) := by
  funext x
  have ex := (eq_ix2 x).trans (congrArg (fun z => ix2 z (x 1)) (Fin.ext (by have := (x 0).isLt; have h : (x 0).val < 1 := this; show (x 0).val = (0 : Fin 1).val; simp only [Fin.val_zero]; omega)))
  rw [ex]
  exact (Cert.Kernel21Ideal.Norm.loss_result m c _).trans (loss_apply _ _ _ _).symm

end Cert.Reference21Ideal.Norm
-- ==== Proof.Opt.Adam.lean ====
/-
  The optimiser's step on the vectors: the kernel's function of its four blocks is the reference's, entry by entry.
-/
module

public import proofs.«01_k».proof.Proof.Gen.Kernel23Ideal.Value
public import proofs.«01_k».proof.Proof.Gen.Reference23Ideal.Read
public import Idealize.ShloMosaic.Lib.Claim
public import Idealize.ShloMosaic.Lib.Pipeline.ValueKit

@[expose] public section

noncomputable section

namespace Cert.Reference23Ideal.Opt

open Cert.Reference23Ideal Cert.Reference23Ideal.Gen
open Idealize.ShloMosaic Idealize.ShloMosaic.TcCoe Idealize.ShloMosaic.Pointwise

variable (w g m v : Vec Ideal S88x128 .f32)

/-- The running mean of the gradient. -/
theorem mean_eq : Cert.Kernel23Ideal.Gen.k0_pay1 (F := Ideal) g m = Read.val_main_v4 (F := Ideal) m g := by
  funext x
  rfl

/-- The running mean of its square. -/
theorem square_eq : Cert.Kernel23Ideal.Gen.k0_pay2 (F := Ideal) g v = Read.val_main_v10 (F := Ideal) v g := by
  funext x
  rfl

/-- The step. -/
theorem step_eq : Cert.Kernel23Ideal.Gen.k0_pay3 (F := Ideal) g w m v = Read.val_main_v23 (F := Ideal) w m v g := by
  funext x
  rfl

end Cert.Reference23Ideal.Opt
-- ==== Proof.Opt.Words.lean ====
/-
  The words by which a grid point picks its half of the joined gradient: the half a row block lies in, its place within
  the half, and the choice between a core's own half and the other core's; and the optimiser's step of one entry.
-/
module

public import Idealize.ShloMosaic.Lib.Claim
public import Idealize.ShloMosaic.Lib.Pipeline.ValueKit

@[expose] public section

namespace Cert.Opt

open Idealize.ShloMosaic

/-- The quotient of a word, rounded down, as the program spells it. -/
def halfWord (q n : BitVec 32) : BitVec 32 :=
  Scalar.select
    (Scalar.andi
      (Scalar.cmpi .ne (Scalar.subi (Scalar.extui (Scalar.cmpi .sgt n 0#32)) (Scalar.extui (Scalar.cmpi .slt n 0#32)))
        (Scalar.subi (Scalar.extui (Scalar.cmpi .sgt q 0#32)) (Scalar.extui (Scalar.cmpi .slt q 0#32))))
      (Scalar.cmpi .ne (Scalar.remsi n q) 0#32))
    (Scalar.subi (Scalar.divsi n q) 1#32) (Scalar.divsi n q)

/-- The divisor, or one were it zero. -/
def divisor (q : BitVec 32) : BitVec 32 := Scalar.select (Scalar.cmpi .eq q 0#32) 1#32 q

/-- The remainder of a word, of the divisor's sign. -/
def remWord (q n : BitVec 32) : BitVec 32 :=
  Scalar.select
    (Scalar.andi (Scalar.xori (Scalar.cmpi .slt (Scalar.remsi n (divisor q)) 0#32) (Scalar.cmpi .slt (divisor q) 0#32))
      (Scalar.cmpi .ne (Scalar.remsi n (divisor q)) 0#32))
    (Scalar.addi (Scalar.remsi n (divisor q)) (divisor q)) (Scalar.remsi n (divisor q))

/-- The half of a row block, and its place within it, of eight and of two row blocks a half. -/
theorem words8 : ∀ k : Fin 16, halfWord 8#32 (BitVec.ofNat 32 k.val) = BitVec.ofNat 32 (k.val / 8)
    ∧ (remWord 8#32 (BitVec.ofNat 32 k.val)).toNat = k.val % 8 := by decide +kernel
theorem words2 : ∀ k : Fin 4, halfWord 2#32 (BitVec.ofNat 32 k.val) = BitVec.ofNat 32 (k.val / 2)
    ∧ (remWord 2#32 (BitVec.ofNat 32 k.val)).toNat = k.val % 2 := by decide +kernel

/-- A test's truth, as a bit. -/
theorem eq_bit (a w : BitVec 32) : Scalar.cmpi .eq a w = if a = w then 1#1 else 0#1 := by
  show BitVec.ofBool (a == w) = _
  by_cases h : a = w
  · rw [if_pos h, beq_iff_eq.mpr h]; rfl
  · rw [if_neg h, beq_eq_false_iff_ne.mpr h]; rfl

section
variable (q n s j : BitVec 32) (a b : ℕ) (hq : halfWord q n = BitVec.ofNat 32 a ∧ (remWord q n).toNat = b) (hj : j.toNat = 0)
include hq hj

/-- A core's own half is read where the test holds. -/
theorem index_mine : (![(Scalar.select (Scalar.xori (Scalar.xori (Scalar.cmpi .eq (halfWord q n) s) 1#1) 1#1) (remWord q n) 0#32).toNat, j.toNat] : Fin 2 → ℕ)
    = ![if BitVec.ofNat 32 a = s then b else 0, 0] := by
  rw [eq_bit, hq.1, ← hq.2, hj]
  split <;> rfl

/-- The other core's half is read where it does not. -/
theorem index_theirs : (![(Scalar.select (Scalar.xori (Scalar.xori (Scalar.cmpi .eq (halfWord q n) s) 0#1) 1#1) (remWord q n) 0#32).toNat, j.toNat] : Fin 2 → ℕ)
    = ![if BitVec.ofNat 32 a = s then 0 else b, 0] := by
  rw [eq_bit, hq.1, ← hq.2, hj]
  split <;> rfl
end

/-- Of two blocks the one the test picks. -/
theorem pick_block {α : Type} (a w : BitVec 32) (x y : α) : Scalar.select (Scalar.cmpi .eq a w) x y = if a = w then x else y := by
  rw [eq_bit]
  split <;> rfl

/-- The running mean, the running mean of the square and the step, of one entry. -/
noncomputable abbrev meanE (g μ : EReal) : EReal := Ideal.ofBits .f32 0x3F666666#32 * μ + Ideal.ofBits .f32 0x3DCCCCCD#32 * g
noncomputable abbrev squareE (g ν : EReal) : EReal := Ideal.ofBits .f32 0x3F7FBE77#32 * ν + Ideal.ofBits .f32 0x3A83126F#32 * (g * g)
noncomputable abbrev stepE (w μ ν : EReal) : EReal := Ideal.ofBits .f32 0xBA83126F#32 *
  (Ideal.div (Ideal.div μ (Ideal.ofBits .f32 0x3F26BD02#32))
    (Ideal.sqrt (Ideal.div ν (Ideal.ofBits .f32 0x3C231ACC#32)) + Ideal.ofBits .f32 0x322BCC77#32) + Ideal.ofBits .f32 0x3C23D70A#32 * w)

end Cert.Opt
-- ==== Proof.Opt.Halves.lean ====
/-
  The optimiser's step on a matrix whose gradient is held in two halves: each block of rows takes its gradient from the
  half it lies in, a core's own or the other core's.
-/
module

public import proofs.«01_k».proof.Proof.Gen.Kernel24.Frame
public import proofs.«01_k».proof.Proof.Gen.Kernel24Ideal.Frame
public import proofs.«01_k».proof.Proof.Gen.Reference24Ideal.Read
public import proofs.«01_k».proof.Proof.Opt.Words
public import proofs.«01_k».proof.Proof.Ffn.Sums

@[expose] public section

noncomputable section

namespace Cert.Kernel24Ideal.Opt

open Cert.Kernel24Ideal Cert.Kernel24Ideal.Gen
open Cert.Ffn (hz2)
open Cert.Opt (halfWord words8 index_mine index_theirs pick_block meanE squareE stepE)
open Idealize.ShloMosaic Idealize.ShloMosaic.TcCoe Idealize.ShloMosaic.Pointwise

section Blocks
variable {F : FTy → Type} [FloatOps F] (pf : pre0.Contents (Elt F)) (i : grid0.Coords)

/-- The core's number, as the table holds it. -/
abbrev core : BitVec 32 := pf.at 0 (Rect.unit (s := S1) ![0] S1.size inb_S1_S1_0) numel1_S1

/-- The blocks of a core's own half and of the other core's that a grid point reads: the row's, of the half it lies in. -/
theorem halves_index : cc0_transform_3 inb_S1_S1_0 numel1_S1 pf i = ![if BitVec.ofNat 32 ((i 0).val / 8) = core pf then (i 0).val % 8 else 0, 0]
    ∧ cc0_transform_4 inb_S1_S1_0 numel1_S1 pf i = ![if BitVec.ofNat 32 ((i 0).val / 8) = core pf then 0 else (i 0).val % 8, 0] := by
  have h1 : (i 1).val = 0 := by have h : (i 1).val < 1 := (i 1).isLt; omega
  have hz : (BitVec.ofNat 32 (i 1).val).toNat = 0 := by rw [h1]; rfl
  have hw := words8 ⟨(i 0).val, (i 0).isLt⟩
  exact ⟨index_mine 8#32 (BitVec.ofNat 32 (i 0).val) (core pf) _ _ _ hw hz, index_theirs 8#32 (BitVec.ofNat 32 (i 0).val) (core pf) _ _ _ hw hz⟩

/-- Whatever the core's number, these lie inside the halves. -/
theorem ok_all : ok0 pf := by
  have hb : ∀ n : ℕ, n < 8 → ∀ a, ((![n, 0] : Fin 2 → ℕ) a + 1) * S128x1408.size a ≤ S1024x1408.size a := by
    intro n hn a
    match a with
    | ⟨0, _⟩ => show (n + 1) * 128 ≤ 1024; omega
    | ⟨1, _⟩ => show (0 + 1) * 1408 ≤ 1408; omega
  refine ⟨fun i => ⟨?_, .inl rfl⟩, fun i => ⟨?_, .inl rfl⟩⟩
  · rw [(halves_index pf i).1]
    exact hb _ (by split <;> omega)
  · rw [(halves_index pf i).2]
    exact hb _ (by split <;> omega)
end Blocks

/-- The columns kept of a half's block. -/
abbrev cols (x : Vec Ideal S128x1408 .f32) : Vec Ideal S128x1376 .f32 := View.ld x (Rect.unit ![0, 0] ![128, 1376] inb_S128x1408_S128x1376_0_0)

theorem cols_apply (x : Vec Ideal S128x1408 .f32) (j : Fin 128) (d : Fin 1376) : cols x (ix2 j d) = x (ix2 j (⟨d.val, by omega⟩ : Fin 1408)) := by
  refine congrArg x (funext fun a => Fin.ext ?_)
  match a with
  | ⟨0, _⟩ => show 0 + 1 * j.val = j.val; omega
  | ⟨1, _⟩ => show 0 + 1 * d.val = d.val; omega

section Body
variable (c : Dev nD) (i : grid0.Coords) (a3 : Memref sig .tc .vmem S128x1376 .f32) (h3 : a3.IsWhole)
  (a4 : Memref sig .tc .vmem S128x1376 .f32) (h4 : a4.IsWhole) (a5 : Memref sig .tc .vmem S128x1376 .f32) (h5 : a5.IsWhole)
  (a6 : Memref sig .tc .vmem S128x1408 .f32) (h6 : a6.IsWhole) (a7 : Memref sig .tc .vmem S128x1408 .f32) (h7 : a7.IsWhole)
  (a8 : Memref sig .tc .vmem S128x1376 .f32) (h8 : a8.IsWhole) (a9 : Memref sig .tc .vmem S128x1376 .f32) (h9 : a9.IsWhole)
  (a10 : Memref sig .tc .vmem S128x1376 .f32) (h10 : a10.IsWhole) (a11 : Memref sig .tc .vmem S128x1376 .f32) (h11 : a11.IsWhole)
  (w μ ν : Vec Ideal S128x1376 .f32) (x y : Vec Ideal S128x1408 .f32) (pf : pre0.Contents (Elt Ideal))

/-- What a grid point stores of the gradient, the step, the running mean and the running mean of the square. -/
theorem stores : out0_A_5 c i a3 h3 a4 h4 a5 h5 a6 h6 a7 h7 a8 h8 a9 h9 a10 h10 a11 h11 w μ ν x y (pf 0) = k0_pay2 i (core pf) (cols x) (cols y)
    ∧ out0_A_6 c i a3 h3 a4 h4 a5 h5 a6 h6 a7 h7 a8 h8 a9 h9 a10 h10 a11 h11 w μ ν x y (pf 0) = k0_pay1 w (k0_pay3 i (core pf) (cols x) (cols y) μ) (k0_pay4 i (core pf) (cols x) (cols y) ν)
    ∧ out0_A_7 c i a3 h3 a4 h4 a5 h5 a6 h6 a7 h7 a8 h8 a9 h9 a10 h10 a11 h11 w μ ν x y (pf 0) = k0_pay3 i (core pf) (cols x) (cols y) μ
    ∧ out0_A_8 c i a3 h3 a4 h4 a5 h5 a6 h6 a7 h7 a8 h8 a9 h9 a10 h10 a11 h11 w μ ν x y (pf 0) = k0_pay4 i (core pf) (cols x) (cols y) ν := by
  unfold out0_A_5 out0_A_6 out0_A_7 out0_A_8
  rw [View.read_writes_eq_canon _ _ _ (cover0_A_5 c i a3 h3 a4 h4 a5 h5 a6 h6 a7 h7 a8 h8 a9 h9 a10 h10 a11 h11 w μ ν x y (pf 0)),
    View.read_writes_eq_canon _ _ _ (cover0_A_6 c i a3 h3 a4 h4 a5 h5 a6 h6 a7 h7 a8 h8 a9 h9 a10 h10 a11 h11 w μ ν x y (pf 0)),
    View.read_writes_eq_canon _ _ _ (cover0_A_7 c i a3 h3 a4 h4 a5 h5 a6 h6 a7 h7 a8 h8 a9 h9 a10 h10 a11 h11 w μ ν x y (pf 0)),
    View.read_writes_eq_canon _ _ _ (cover0_A_8 c i a3 h3 a4 h4 a5 h5 a6 h6 a7 h7 a8 h8 a9 h9 a10 h10 a11 h11 w μ ν x y (pf 0))]
  unfold kernelRun0_A
  dsimp only
  sl_unfold_words
  refine ⟨?_, ?_, ?_, ?_⟩
  all_goals
    rw [View.canon_unit_zero hz2]
    simp only [View.readAt_eq_ld, h3.read_unread, h4.read_unread, h5.read_unread, h6.read_unread, h7.read_unread, View.ld_unit_zero (S := S128x1376) hz2]
    rfl
end Body

section Entries
variable (i : grid0.Coords) (s : BitVec 32) (x y w μ ν : Vec Ideal S128x1376 .f32) (z : S128x1376.Idx)

theorem grad_pay : k0_pay2 i s x y z = if BitVec.ofNat 32 ((i 0).val / 8) = s then x z else y z := by
  have e : k0_pay2 i s x y = Scalar.select (Scalar.cmpi .eq (halfWord 8#32 (BitVec.ofNat 32 (i 0).val)) s) x y := rfl
  rw [e, (words8 ⟨(i 0).val, (i 0).isLt⟩).1, pick_block]
  split <;> rfl

theorem mean_pay : k0_pay3 i s x y μ z = meanE (k0_pay2 i s x y z) (μ z) := rfl
theorem square_pay : k0_pay4 i s x y ν z = squareE (k0_pay2 i s x y z) (ν z) := rfl
theorem step_pay : k0_pay1 w μ ν z = stepE (w z) (μ z) (ν z) := rfl
end Entries

variable (m : (ℓ : Loc nD τ sig) → Buf (Elt Ideal) ℓ) (hO : Ok m) (c : Dev nD)

/-- The arguments: the weights, the running means, the halves of the gradient, and the core's number. -/
abbrev wA : Vec Ideal S2048x1376 .f32 := m ((c.tc : Thread nD τ).loc main_arg0)
abbrev meanA : Vec Ideal S2048x1376 .f32 := m ((c.tc : Thread nD τ).loc main_arg1)
abbrev squareA : Vec Ideal S2048x1376 .f32 := m ((c.tc : Thread nD τ).loc main_arg2)
abbrev mineA : Vec Ideal S1024x1408 .f32 := m ((c.tc : Thread nD τ).loc main_arg3)
abbrev theirsA : Vec Ideal S1024x1408 .f32 := m ((c.tc : Thread nD τ).loc main_arg4)
abbrev coreA : Vec Ideal S1 .i32 := m ((c.tc : Thread nD τ).loc main_arg5)

theorem row_val : ∀ t : Fin grid0.N, (grid0.coords t 0).val = t.val := by decide +kernel
theorem idx0 : ∀ t : Fin grid0.N, cc0_transform_0 (grid0.coords t) = ![t.val, 0] := by decide +kernel

/-- The blocks a grid point reads. -/
def wB (t : Fin (cfgM m hO).N) : Vec Ideal S128x1376 .f32 := iblk m hO c 0 t
def meanB (t : Fin (cfgM m hO).N) : Vec Ideal S128x1376 .f32 := iblk m hO c 1 t
def squareB (t : Fin (cfgM m hO).N) : Vec Ideal S128x1376 .f32 := iblk m hO c 2 t
def mineB (t : Fin (cfgM m hO).N) : Vec Ideal S128x1408 .f32 := iblk m hO c 3 t
def theirsB (t : Fin (cfgM m hO).N) : Vec Ideal S128x1408 .f32 := iblk m hO c 4 t

theorem core_eq : core (tbl m) = coreA m c (ix1 (0 : Fin 1)) := by
  obtain rfl : c = 0 := Subsingleton.elim _ _
  exact congrArg (coreA m 0) (funext fun a => Fin.ext (by match a with | ⟨0, _⟩ => rfl))

/-- The gradient's entry, of the half its row lies in. -/
abbrev gradE (s : BitVec 32) (x y : Vec Ideal S1024x1408 .f32) (u : Fin 2048) (d : Fin 1376) : EReal :=
  if BitVec.ofNat 32 (u.val / 1024) = s then x (ix2 (⟨u.val % 1024, by omega⟩ : Fin 1024) (⟨d.val, by omega⟩ : Fin 1408)) else y (ix2 (⟨u.val % 1024, by omega⟩ : Fin 1024) (⟨d.val, by omega⟩ : Fin 1408))

/-- The gradient's entry where the kernel has its arguments. -/
abbrev gradA (u : Fin 2048) (d : Fin 1376) : EReal := gradE (coreA m c (ix1 (0 : Fin 1))) (mineA m c) (theirsA m c) u d

section Row
variable (t : Fin (cfgM m hO).N) (i : Fin 128) (d : Fin 1376) (u : Fin 2048) (hu : u.val = 128 * t.val + i.val)
include hu

/-- The blocks of the weights and the running means are the rows' own. -/
theorem blk : wB m hO c t (ix2 i d) = wA m c (ix2 u d) ∧ meanB m hO c t (ix2 i d) = meanA m c (ix2 u d)
    ∧ squareB m hO c t (ix2 i d) = squareA m c (ix2 u d) := by
  have e0 : ((cfgM m hO).win 0).index t = ![t.val, 0] := idx0 t
  have e1 : ((cfgM m hO).win 1).index t = ![t.val, 0] := idx0 t
  have e2 : ((cfgM m hO).win 2).index t = ![t.val, 0] := idx0 t
  obtain ⟨u, hlt⟩ := u
  dsimp only at hu
  subst hu
  unfold wB meanB squareB wA meanA squareA
  refine ⟨?_, ?_, ?_⟩
  · blk_ext [iblk, V, e0]
  · blk_ext [iblk, V, e1]
  · blk_ext [iblk, V, e2]

/-- The gradient's entry in a grid point's block. -/
theorem grad_blk : k0_pay2 (grid0.coords t) (core (tbl m)) (cols (mineB m hO c t)) (cols (theirsB m hO c t)) (ix2 i d) = gradA m c u d := by
  have e1 : t.val / 8 = u.val / 1024 := by omega
  have e2 : (⟨128 * (t.val % 8) + i.val, by omega⟩ : Fin 1024) = ⟨u.val % 1024, by omega⟩ := Fin.ext (by dsimp only; omega)
  rw [grad_pay, row_val t, cols_apply, cols_apply, gradA, gradE, ← core_eq m c, ← e1, ← e2]
  split
  · rename_i h
    have e : ((cfgM m hO).win 3).index t = ![t.val % 8, 0] := by
      refine (halves_index (tbl m) (grid0.coords t)).1.trans ?_
      rw [row_val t, if_pos h]
    unfold mineB mineA
    blk_ext [iblk, V, e]
  · rename_i h
    have e : ((cfgM m hO).win 4).index t = ![t.val % 8, 0] := by
      refine (halves_index (tbl m) (grid0.coords t)).2.trans ?_
      rw [row_val t, if_neg h]
    unfold theirsB theirsA
    blk_ext [iblk, V, e]

/-- The results' blocks are the rows' own, one a grid point. -/
theorem emb : (((cfgM m hO).win 5).blk t).view.emb (ix2 i d) = ix2 u d := by
  have e : ((cfgM m hO).win 5).index t = ![t.val, 0] := idx0 t
  funext a
  apply Fin.ext
  match a with
  | ⟨0, _⟩ => show ((cfgM m hO).win 5).index t (0 : Fin 2) * 128 + 1 * i.val = u.val; rw [e]; show t.val * 128 + 1 * i.val = _; omega
  | ⟨1, _⟩ => show ((cfgM m hO).win 5).index t (1 : Fin 2) * 1376 + 1 * d.val = d.val; rw [e]; show 0 * 1376 + 1 * d.val = _; omega
end Row

theorem disjoint (t t' : Fin (cfgM m hO).N) (hne : t ≠ t') : Disjoint (((cfgM m hO).win 5).blk t).view.set (((cfgM m hO).win 5).blk t').view.set :=
  ((cfgM m hO).win 5).disjoint_blk fun h => hne (by
    have e : ((cfgM m hO).win 5).index t = ![t.val, 0] := idx0 t
    have e' : ((cfgM m hO).win 5).index t' = ![t'.val, 0] := idx0 t'
    rw [e, e'] at h
    exact Fin.ext (congrFun h 0))

theorem outs (t : Fin (cfgM m hO).N) : (outsAt0 m hO c t).1 = k0_pay2 (grid0.coords t) (core (tbl m)) (cols (mineB m hO c t)) (cols (theirsB m hO c t))
    ∧ (outsAt0 m hO c t).2.1 = k0_pay1 (wB m hO c t) (k0_pay3 (grid0.coords t) (core (tbl m)) (cols (mineB m hO c t)) (cols (theirsB m hO c t)) (meanB m hO c t)) (k0_pay4 (grid0.coords t) (core (tbl m)) (cols (mineB m hO c t)) (cols (theirsB m hO c t)) (squareB m hO c t))
    ∧ (outsAt0 m hO c t).2.2.1 = k0_pay3 (grid0.coords t) (core (tbl m)) (cols (mineB m hO c t)) (cols (theirsB m hO c t)) (meanB m hO c t)
    ∧ (outsAt0 m hO c t).2.2.2 = k0_pay4 (grid0.coords t) (core (tbl m)) (cols (mineB m hO c t)) (cols (theirsB m hO c t)) (squareB m hO c t) := by
  unfold outsAt0
  dsimp only
  exact stores c (grid0.coords t) _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (wB m hO c t) (meanB m hO c t) (squareB m hO c t) (mineB m hO c t) (theirsB m hO c t) (tbl m)

/-- What the kernel leaves in its results, at a row of a grid point's block. -/
theorem stored (t : Fin (cfgM m hO).N) (i : Fin 128) (d : Fin 1376) (u : Fin 2048) (hu : u.val = 128 * t.val + i.val) :
    (dats m hO 0 c).arrAt 5 (cfgM m hO).N (ix2 u d) = (outsAt0 m hO c t).1 (ix2 i d)
    ∧ (dats m hO 0 c).arrAt 6 (cfgM m hO).N (ix2 u d) = (outsAt0 m hO c t).2.1 (ix2 i d)
    ∧ (dats m hO 0 c).arrAt 7 (cfgM m hO).N (ix2 u d) = (outsAt0 m hO c t).2.2.1 (ix2 i d)
    ∧ (dats m hO 0 c).arrAt 8 (cfgM m hO).N (ix2 u d) = (outsAt0 m hO c t).2.2.2 (ix2 i d) := by
  have h5 := (dats m hO 0 c).arrAt_emb_eq_flushed 5 (fun t t' _ _ => disjoint m hO t t') t (flush0_5 _ t) (ix2 i d)
  have h6 := (dats m hO 0 c).arrAt_emb_eq_flushed 6 (fun t t' _ _ => disjoint m hO t t') t (flush0_6 _ t) (ix2 i d)
  have h7 := (dats m hO 0 c).arrAt_emb_eq_flushed 7 (fun t t' _ _ => disjoint m hO t t') t (flush0_7 _ t) (ix2 i d)
  have h8 := (dats m hO 0 c).arrAt_emb_eq_flushed 8 (fun t t' _ _ => disjoint m hO t t') t (flush0_8 _ t) (ix2 i d)
  have e5 : (((cfgM m hO).win 5).blk t).view.emb (ix2 i d) = ix2 u d := emb m hO t i d u hu
  have e6 : (((cfgM m hO).win 6).blk t).view.emb (ix2 i d) = ix2 u d := emb m hO t i d u hu
  have e7 : (((cfgM m hO).win 7).blk t).view.emb (ix2 i d) = ix2 u d := emb m hO t i d u hu
  have e8 : (((cfgM m hO).win 8).blk t).view.emb (ix2 i d) = ix2 u d := emb m hO t i d u hu
  rw [e5] at h5
  rw [e6] at h6
  rw [e7] at h7
  rw [e8] at h8
  exact ⟨h5.trans (congrFun (after0_5 m hO c t) _), h6.trans (congrFun (after0_6 m hO c t) _), h7.trans (congrFun (after0_7 m hO c t) _), h8.trans (congrFun (after0_8 m hO c t) _)⟩

/-- What it leaves at every entry. -/
theorem apply (u : Fin 2048) (d : Fin 1376) : (dats m hO 0 c).arrAt 5 (cfgM m hO).N (ix2 u d) = gradA m c u d
    ∧ (dats m hO 0 c).arrAt 6 (cfgM m hO).N (ix2 u d) = stepE (wA m c (ix2 u d)) (meanE (gradA m c u d) (meanA m c (ix2 u d))) (squareE (gradA m c u d) (squareA m c (ix2 u d)))
    ∧ (dats m hO 0 c).arrAt 7 (cfgM m hO).N (ix2 u d) = meanE (gradA m c u d) (meanA m c (ix2 u d))
    ∧ (dats m hO 0 c).arrAt 8 (cfgM m hO).N (ix2 u d) = squareE (gradA m c u d) (squareA m c (ix2 u d)) := by
  obtain ⟨t, i, hu⟩ : ∃ t : Fin (cfgM m hO).N, ∃ i : Fin 128, u.val = 128 * t.val + i.val :=
    ⟨⟨u.val / 128, by have h : (cfgM m hO).N = 16 := N_0; omega⟩, ⟨u.val % 128, by omega⟩, by dsimp only; omega⟩
  obtain ⟨s5, s6, s7, s8⟩ := stored m hO c t i d u hu
  obtain ⟨o5, o6, o7, o8⟩ := outs m hO c t
  obtain ⟨b0, b1, b2⟩ := blk m hO c t i d u hu
  rw [s5, s6, s7, s8, o5, o6, o7, o8, step_pay, mean_pay, square_pay, grad_blk m hO c t i d u hu, b0, b1, b2]
  exact ⟨rfl, rfl, rfl, rfl⟩

end Cert.Kernel24Ideal.Opt

namespace Cert.Reference24Ideal.Opt

open Cert.Reference24Ideal Cert.Reference24Ideal.Gen
open Cert.Kernel24Ideal.Opt (gradE wA meanA squareA mineA theirsA coreA)
open Cert.Opt (meanE squareE stepE)
open Idealize.ShloMosaic Idealize.ShloMosaic.TcCoe Idealize.ShloMosaic.Pointwise

section
variable (w μ ν : Vec Ideal S2048x1376 .f32) (x y : Vec Ideal S1024x1408 .f32) (s : Vec Ideal S1 .i32) (u : Fin 2048) (d : Fin 1376)

/-- The joined gradient, its columns kept. -/
theorem grad_apply : Read.val_main_v7 (F := Ideal) x y s (ix2 u d) = gradE (s (ix1 0)) x y u d := by
  have e : Read.val_main_v7 (F := Ideal) x y s (ix2 u d) = if h : u.val < 1024
      then Scalar.select (Scalar.cmpi .eq (s (ix1 0)) 0#32) (x (ix2 (⟨u.val, h⟩ : Fin 1024) (⟨d.val, by omega⟩ : Fin 1408))) (y (ix2 (⟨u.val, h⟩ : Fin 1024) (⟨d.val, by omega⟩ : Fin 1408)))
      else Scalar.select (Scalar.cmpi .eq (s (ix1 0)) 1#32) (x (ix2 (⟨u.val - 1024, by omega⟩ : Fin 1024) (⟨d.val, by omega⟩ : Fin 1408)))
        (y (ix2 (⟨u.val - 1024, by omega⟩ : Fin 1024) (⟨d.val, by omega⟩ : Fin 1408))) := by
    pointwise [Read.val_main_v7, Read.val_main_v6, Read.val_main_v5, Read.val_main_v4, Read.val_main_v3, Read.val_main_c_0,
      Read.val_main_v2, Read.val_main_v1, Read.val_main_v0, Read.val_main_c]
    rfl
  rw [e]
  by_cases h : u.val < 1024
  · have e1 : u.val / 1024 = 0 := by omega
    have e2 : u.val % 1024 = u.val := by omega
    rw [dif_pos h, Cert.Opt.pick_block]
    simp only [gradE, e1, e2, eq_comm]
  · have e1 : u.val / 1024 = 1 := by omega
    have e2 : u.val % 1024 = u.val - 1024 := by omega
    rw [dif_neg h, Cert.Opt.pick_block]
    simp only [gradE, e1, e2, eq_comm]

theorem mean_apply : Read.val_main_v12 (F := Ideal) μ x y s (ix2 u d) = meanE (gradE (s (ix1 0)) x y u d) (μ (ix2 u d)) := by
  rw [← grad_apply]
  rfl
theorem square_apply : Read.val_main_v18 (F := Ideal) ν x y s (ix2 u d) = squareE (gradE (s (ix1 0)) x y u d) (ν (ix2 u d)) := by
  rw [← grad_apply]
  rfl
theorem step_apply : Read.val_main_v31 (F := Ideal) w μ ν x y s (ix2 u d)
    = stepE (w (ix2 u d)) (meanE (gradE (s (ix1 0)) x y u d) (μ (ix2 u d))) (squareE (gradE (s (ix1 0)) x y u d) (ν (ix2 u d))) := by
  rw [← mean_apply, ← square_apply]
  rfl
end

/-- What the kernel leaves in its four results is the reference's function of the kernel's arguments. -/
theorem same (m : (ℓ : Loc Cert.Kernel24Ideal.nD Cert.Kernel24Ideal.τ Cert.Kernel24Ideal.sig) → Buf (Elt Ideal) ℓ) (hO : Cert.Kernel24Ideal.Gen.Ok m) (c : Dev Cert.Kernel24Ideal.nD) :
    (Cert.Kernel24Ideal.Gen.dats m hO 0 c).arrAt 5 (Cert.Kernel24Ideal.Gen.cfgM m hO).N = Read.val_main_v7 (F := Ideal) (mineA m c) (theirsA m c) (coreA m c)
    ∧ (Cert.Kernel24Ideal.Gen.dats m hO 0 c).arrAt 6 (Cert.Kernel24Ideal.Gen.cfgM m hO).N = Read.val_main_v31 (F := Ideal) (wA m c) (meanA m c) (squareA m c) (mineA m c) (theirsA m c) (coreA m c)
    ∧ (Cert.Kernel24Ideal.Gen.dats m hO 0 c).arrAt 7 (Cert.Kernel24Ideal.Gen.cfgM m hO).N = Read.val_main_v12 (F := Ideal) (meanA m c) (mineA m c) (theirsA m c) (coreA m c)
    ∧ (Cert.Kernel24Ideal.Gen.dats m hO 0 c).arrAt 8 (Cert.Kernel24Ideal.Gen.cfgM m hO).N = Read.val_main_v18 (F := Ideal) (squareA m c) (mineA m c) (theirsA m c) (coreA m c) := by
  refine ⟨?_, ?_, ?_, ?_⟩ <;> funext z <;> rw [eq_ix2 z]
  · exact (Cert.Kernel24Ideal.Opt.apply m hO c _ _).1.trans (grad_apply _ _ _ _ _).symm
  · exact (Cert.Kernel24Ideal.Opt.apply m hO c _ _).2.1.trans (step_apply _ _ _ _ _ _ _ _).symm
  · exact (Cert.Kernel24Ideal.Opt.apply m hO c _ _).2.2.1.trans (mean_apply _ _ _ _ _ _).symm
  · exact (Cert.Kernel24Ideal.Opt.apply m hO c _ _).2.2.2.trans (square_apply _ _ _ _ _ _).symm

end Cert.Reference24Ideal.Opt

namespace Cert.Kernel24.Opt

open Cert.Kernel24 Cert.Kernel24.Gen
open Idealize.ShloMosaic

/-- Before the program is made ideal, too, the blocks lie inside the halves. -/
theorem ok_all {F : FTy → Type} [FloatOps F] (pf : pre0.Contents (Elt F)) : ok0 pf := Cert.Kernel24Ideal.Opt.ok_all pf

end Cert.Kernel24.Opt
-- ==== Proof.Opt.In.lean ====
/-
  The optimiser's step on the mixer's input projection: as on the feed-forward's matrices, but the halves of the gradient
  are as wide as the matrix.
-/
module

public import proofs.«01_k».proof.Proof.Gen.Kernel25.Frame
public import proofs.«01_k».proof.Proof.Gen.Kernel25Ideal.Frame
public import proofs.«01_k».proof.Proof.Gen.Reference25Ideal.Read
public import proofs.«01_k».proof.Proof.Opt.Words
public import proofs.«01_k».proof.Proof.Ffn.Sums

@[expose] public section

noncomputable section

namespace Cert.Kernel25Ideal.Opt

open Cert.Kernel25Ideal Cert.Kernel25Ideal.Gen
open Cert.Ffn (hz2)
open Cert.Opt (halfWord words8 index_mine index_theirs pick_block meanE squareE stepE)
open Idealize.ShloMosaic Idealize.ShloMosaic.TcCoe Idealize.ShloMosaic.Pointwise

section Blocks
variable {F : FTy → Type} [FloatOps F] (pf : pre0.Contents (Elt F)) (i : grid0.Coords)

/-- The core's number, as the table holds it. -/
abbrev core : BitVec 32 := pf.at 0 (Rect.unit (s := S1) ![0] S1.size inb_S1_S1_0) numel1_S1

/-- The blocks of a core's own half and of the other core's that a grid point reads: the row's, of the half it lies in. -/
theorem halves_index : cc0_transform_3 inb_S1_S1_0 numel1_S1 pf i = ![if BitVec.ofNat 32 ((i 0).val / 8) = core pf then (i 0).val % 8 else 0, 0]
    ∧ cc0_transform_4 inb_S1_S1_0 numel1_S1 pf i = ![if BitVec.ofNat 32 ((i 0).val / 8) = core pf then 0 else (i 0).val % 8, 0] := by
  have h1 : (i 1).val = 0 := by have h : (i 1).val < 1 := (i 1).isLt; omega
  have hz : (BitVec.ofNat 32 (i 1).val).toNat = 0 := by rw [h1]; rfl
  have hw := words8 ⟨(i 0).val, (i 0).isLt⟩
  exact ⟨index_mine 8#32 (BitVec.ofNat 32 (i 0).val) (core pf) _ _ _ hw hz, index_theirs 8#32 (BitVec.ofNat 32 (i 0).val) (core pf) _ _ _ hw hz⟩

/-- Whatever the core's number, these lie inside the halves. -/
theorem ok_all : ok0 pf := by
  have hb : ∀ n : ℕ, n < 8 → ∀ a, ((![n, 0] : Fin 2 → ℕ) a + 1) * S128x1152.size a ≤ S1024x1152.size a := by
    intro n hn a
    match a with
    | ⟨0, _⟩ => show (n + 1) * 128 ≤ 1024; omega
    | ⟨1, _⟩ => show (0 + 1) * 1152 ≤ 1152; omega
  refine ⟨fun i => ⟨?_, .inl rfl⟩, fun i => ⟨?_, .inl rfl⟩⟩
  · rw [(halves_index pf i).1]
    exact hb _ (by split <;> omega)
  · rw [(halves_index pf i).2]
    exact hb _ (by split <;> omega)
end Blocks

section Body
variable (c : Dev nD) (i : grid0.Coords) (a3 : Memref sig .tc .vmem S128x1152 .f32) (h3 : a3.IsWhole)
  (a4 : Memref sig .tc .vmem S128x1152 .f32) (h4 : a4.IsWhole) (a5 : Memref sig .tc .vmem S128x1152 .f32) (h5 : a5.IsWhole)
  (a6 : Memref sig .tc .vmem S128x1152 .f32) (h6 : a6.IsWhole) (a7 : Memref sig .tc .vmem S128x1152 .f32) (h7 : a7.IsWhole)
  (a8 : Memref sig .tc .vmem S128x1152 .f32) (h8 : a8.IsWhole) (a9 : Memref sig .tc .vmem S128x1152 .f32) (h9 : a9.IsWhole)
  (a10 : Memref sig .tc .vmem S128x1152 .f32) (h10 : a10.IsWhole) (a11 : Memref sig .tc .vmem S128x1152 .f32) (h11 : a11.IsWhole)
  (w μ ν : Vec Ideal S128x1152 .f32) (x y : Vec Ideal S128x1152 .f32) (pf : pre0.Contents (Elt Ideal))

/-- What a grid point stores of the gradient, the step, the running mean and the running mean of the square. -/
theorem stores : out0_A_5 c i a3 h3 a4 h4 a5 h5 a6 h6 a7 h7 a8 h8 a9 h9 a10 h10 a11 h11 w μ ν x y (pf 0) = k0_pay2 i (core pf) x y
    ∧ out0_A_6 c i a3 h3 a4 h4 a5 h5 a6 h6 a7 h7 a8 h8 a9 h9 a10 h10 a11 h11 w μ ν x y (pf 0) = k0_pay1 w (k0_pay3 i (core pf) x y μ) (k0_pay4 i (core pf) x y ν)
    ∧ out0_A_7 c i a3 h3 a4 h4 a5 h5 a6 h6 a7 h7 a8 h8 a9 h9 a10 h10 a11 h11 w μ ν x y (pf 0) = k0_pay3 i (core pf) x y μ
    ∧ out0_A_8 c i a3 h3 a4 h4 a5 h5 a6 h6 a7 h7 a8 h8 a9 h9 a10 h10 a11 h11 w μ ν x y (pf 0) = k0_pay4 i (core pf) x y ν := by
  unfold out0_A_5 out0_A_6 out0_A_7 out0_A_8
  rw [View.read_writes_eq_canon _ _ _ (cover0_A_5 c i a3 h3 a4 h4 a5 h5 a6 h6 a7 h7 a8 h8 a9 h9 a10 h10 a11 h11 w μ ν x y (pf 0)),
    View.read_writes_eq_canon _ _ _ (cover0_A_6 c i a3 h3 a4 h4 a5 h5 a6 h6 a7 h7 a8 h8 a9 h9 a10 h10 a11 h11 w μ ν x y (pf 0)),
    View.read_writes_eq_canon _ _ _ (cover0_A_7 c i a3 h3 a4 h4 a5 h5 a6 h6 a7 h7 a8 h8 a9 h9 a10 h10 a11 h11 w μ ν x y (pf 0)),
    View.read_writes_eq_canon _ _ _ (cover0_A_8 c i a3 h3 a4 h4 a5 h5 a6 h6 a7 h7 a8 h8 a9 h9 a10 h10 a11 h11 w μ ν x y (pf 0))]
  unfold kernelRun0_A
  dsimp only
  sl_unfold_words
  refine ⟨?_, ?_, ?_, ?_⟩
  all_goals
    rw [View.canon_unit_zero hz2]
    simp only [View.readAt_eq_ld, h3.read_unread, h4.read_unread, h5.read_unread, h6.read_unread, h7.read_unread, View.ld_unit_zero (S := S128x1152) hz2]
    rfl
end Body

section Entries
variable (i : grid0.Coords) (s : BitVec 32) (x y w μ ν : Vec Ideal S128x1152 .f32) (z : S128x1152.Idx)

theorem grad_pay : k0_pay2 i s x y z = if BitVec.ofNat 32 ((i 0).val / 8) = s then x z else y z := by
  have e : k0_pay2 i s x y = Scalar.select (Scalar.cmpi .eq (halfWord 8#32 (BitVec.ofNat 32 (i 0).val)) s) x y := rfl
  rw [e, (words8 ⟨(i 0).val, (i 0).isLt⟩).1, pick_block]
  split <;> rfl

theorem mean_pay : k0_pay3 i s x y μ z = meanE (k0_pay2 i s x y z) (μ z) := rfl
theorem square_pay : k0_pay4 i s x y ν z = squareE (k0_pay2 i s x y z) (ν z) := rfl
theorem step_pay : k0_pay1 w μ ν z = stepE (w z) (μ z) (ν z) := rfl
end Entries

variable (m : (ℓ : Loc nD τ sig) → Buf (Elt Ideal) ℓ) (hO : Ok m) (c : Dev nD)

/-- The arguments: the weights, the running means, the halves of the gradient, and the core's number. -/
abbrev wA : Vec Ideal S2048x1152 .f32 := m ((c.tc : Thread nD τ).loc main_arg0)
abbrev meanA : Vec Ideal S2048x1152 .f32 := m ((c.tc : Thread nD τ).loc main_arg1)
abbrev squareA : Vec Ideal S2048x1152 .f32 := m ((c.tc : Thread nD τ).loc main_arg2)
abbrev mineA : Vec Ideal S1024x1152 .f32 := m ((c.tc : Thread nD τ).loc main_arg3)
abbrev theirsA : Vec Ideal S1024x1152 .f32 := m ((c.tc : Thread nD τ).loc main_arg4)
abbrev coreA : Vec Ideal S1 .i32 := m ((c.tc : Thread nD τ).loc main_arg5)

theorem row_val : ∀ t : Fin grid0.N, (grid0.coords t 0).val = t.val := by decide +kernel
theorem idx0 : ∀ t : Fin grid0.N, cc0_transform_0 (grid0.coords t) = ![t.val, 0] := by decide +kernel

/-- The blocks a grid point reads. -/
def wB (t : Fin (cfgM m hO).N) : Vec Ideal S128x1152 .f32 := iblk m hO c 0 t
def meanB (t : Fin (cfgM m hO).N) : Vec Ideal S128x1152 .f32 := iblk m hO c 1 t
def squareB (t : Fin (cfgM m hO).N) : Vec Ideal S128x1152 .f32 := iblk m hO c 2 t
def mineB (t : Fin (cfgM m hO).N) : Vec Ideal S128x1152 .f32 := iblk m hO c 3 t
def theirsB (t : Fin (cfgM m hO).N) : Vec Ideal S128x1152 .f32 := iblk m hO c 4 t

theorem core_eq : core (tbl m) = coreA m c (ix1 (0 : Fin 1)) := by
  obtain rfl : c = 0 := Subsingleton.elim _ _
  exact congrArg (coreA m 0) (funext fun a => Fin.ext (by match a with | ⟨0, _⟩ => rfl))

/-- The gradient's entry, of the half its row lies in. -/
abbrev gradE (s : BitVec 32) (x y : Vec Ideal S1024x1152 .f32) (u : Fin 2048) (d : Fin 1152) : EReal :=
  if BitVec.ofNat 32 (u.val / 1024) = s then x (ix2 (⟨u.val % 1024, by omega⟩ : Fin 1024) d) else y (ix2 (⟨u.val % 1024, by omega⟩ : Fin 1024) d)

/-- The gradient's entry where the kernel has its arguments. -/
abbrev gradA (u : Fin 2048) (d : Fin 1152) : EReal := gradE (coreA m c (ix1 (0 : Fin 1))) (mineA m c) (theirsA m c) u d

section Row
variable (t : Fin (cfgM m hO).N) (i : Fin 128) (d : Fin 1152) (u : Fin 2048) (hu : u.val = 128 * t.val + i.val)
include hu

/-- The blocks of the weights and the running means are the rows' own. -/
theorem blk : wB m hO c t (ix2 i d) = wA m c (ix2 u d) ∧ meanB m hO c t (ix2 i d) = meanA m c (ix2 u d)
    ∧ squareB m hO c t (ix2 i d) = squareA m c (ix2 u d) := by
  have e0 : ((cfgM m hO).win 0).index t = ![t.val, 0] := idx0 t
  have e1 : ((cfgM m hO).win 1).index t = ![t.val, 0] := idx0 t
  have e2 : ((cfgM m hO).win 2).index t = ![t.val, 0] := idx0 t
  obtain ⟨u, hlt⟩ := u
  dsimp only at hu
  subst hu
  unfold wB meanB squareB wA meanA squareA
  refine ⟨?_, ?_, ?_⟩
  · blk_ext [iblk, V, e0]
  · blk_ext [iblk, V, e1]
  · blk_ext [iblk, V, e2]

/-- The gradient's entry in a grid point's block. -/
theorem grad_blk : k0_pay2 (grid0.coords t) (core (tbl m)) (mineB m hO c t) (theirsB m hO c t) (ix2 i d) = gradA m c u d := by
  have e1 : t.val / 8 = u.val / 1024 := by omega
  have e2 : (⟨128 * (t.val % 8) + i.val, by omega⟩ : Fin 1024) = ⟨u.val % 1024, by omega⟩ := Fin.ext (by dsimp only; omega)
  rw [grad_pay, row_val t, gradA, gradE, ← core_eq m c, ← e1, ← e2]
  split
  · rename_i h
    have e : ((cfgM m hO).win 3).index t = ![t.val % 8, 0] := by
      refine (halves_index (tbl m) (grid0.coords t)).1.trans ?_
      rw [row_val t, if_pos h]
    unfold mineB mineA
    blk_ext [iblk, V, e]
  · rename_i h
    have e : ((cfgM m hO).win 4).index t = ![t.val % 8, 0] := by
      refine (halves_index (tbl m) (grid0.coords t)).2.trans ?_
      rw [row_val t, if_neg h]
    unfold theirsB theirsA
    blk_ext [iblk, V, e]

/-- The results' blocks are the rows' own, one a grid point. -/
theorem emb : (((cfgM m hO).win 5).blk t).view.emb (ix2 i d) = ix2 u d := by
  have e : ((cfgM m hO).win 5).index t = ![t.val, 0] := idx0 t
  funext a
  apply Fin.ext
  match a with
  | ⟨0, _⟩ => show ((cfgM m hO).win 5).index t (0 : Fin 2) * 128 + 1 * i.val = u.val; rw [e]; show t.val * 128 + 1 * i.val = _; omega
  | ⟨1, _⟩ => show ((cfgM m hO).win 5).index t (1 : Fin 2) * 1152 + 1 * d.val = d.val; rw [e]; show 0 * 1152 + 1 * d.val = _; omega
end Row

theorem disjoint (t t' : Fin (cfgM m hO).N) (hne : t ≠ t') : Disjoint (((cfgM m hO).win 5).blk t).view.set (((cfgM m hO).win 5).blk t').view.set :=
  ((cfgM m hO).win 5).disjoint_blk fun h => hne (by
    have e : ((cfgM m hO).win 5).index t = ![t.val, 0] := idx0 t
    have e' : ((cfgM m hO).win 5).index t' = ![t'.val, 0] := idx0 t'
    rw [e, e'] at h
    exact Fin.ext (congrFun h 0))

theorem outs (t : Fin (cfgM m hO).N) : (outsAt0 m hO c t).1 = k0_pay2 (grid0.coords t) (core (tbl m)) (mineB m hO c t) (theirsB m hO c t)
    ∧ (outsAt0 m hO c t).2.1 = k0_pay1 (wB m hO c t) (k0_pay3 (grid0.coords t) (core (tbl m)) (mineB m hO c t) (theirsB m hO c t) (meanB m hO c t)) (k0_pay4 (grid0.coords t) (core (tbl m)) (mineB m hO c t) (theirsB m hO c t) (squareB m hO c t))
    ∧ (outsAt0 m hO c t).2.2.1 = k0_pay3 (grid0.coords t) (core (tbl m)) (mineB m hO c t) (theirsB m hO c t) (meanB m hO c t)
    ∧ (outsAt0 m hO c t).2.2.2 = k0_pay4 (grid0.coords t) (core (tbl m)) (mineB m hO c t) (theirsB m hO c t) (squareB m hO c t) := by
  unfold outsAt0
  dsimp only
  exact stores c (grid0.coords t) _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (wB m hO c t) (meanB m hO c t) (squareB m hO c t) (mineB m hO c t) (theirsB m hO c t) (tbl m)

/-- What the kernel leaves in its results, at a row of a grid point's block. -/
theorem stored (t : Fin (cfgM m hO).N) (i : Fin 128) (d : Fin 1152) (u : Fin 2048) (hu : u.val = 128 * t.val + i.val) :
    (dats m hO 0 c).arrAt 5 (cfgM m hO).N (ix2 u d) = (outsAt0 m hO c t).1 (ix2 i d)
    ∧ (dats m hO 0 c).arrAt 6 (cfgM m hO).N (ix2 u d) = (outsAt0 m hO c t).2.1 (ix2 i d)
    ∧ (dats m hO 0 c).arrAt 7 (cfgM m hO).N (ix2 u d) = (outsAt0 m hO c t).2.2.1 (ix2 i d)
    ∧ (dats m hO 0 c).arrAt 8 (cfgM m hO).N (ix2 u d) = (outsAt0 m hO c t).2.2.2 (ix2 i d) := by
  have h5 := (dats m hO 0 c).arrAt_emb_eq_flushed 5 (fun t t' _ _ => disjoint m hO t t') t (flush0_5 _ t) (ix2 i d)
  have h6 := (dats m hO 0 c).arrAt_emb_eq_flushed 6 (fun t t' _ _ => disjoint m hO t t') t (flush0_6 _ t) (ix2 i d)
  have h7 := (dats m hO 0 c).arrAt_emb_eq_flushed 7 (fun t t' _ _ => disjoint m hO t t') t (flush0_7 _ t) (ix2 i d)
  have h8 := (dats m hO 0 c).arrAt_emb_eq_flushed 8 (fun t t' _ _ => disjoint m hO t t') t (flush0_8 _ t) (ix2 i d)
  have e5 : (((cfgM m hO).win 5).blk t).view.emb (ix2 i d) = ix2 u d := emb m hO t i d u hu
  have e6 : (((cfgM m hO).win 6).blk t).view.emb (ix2 i d) = ix2 u d := emb m hO t i d u hu
  have e7 : (((cfgM m hO).win 7).blk t).view.emb (ix2 i d) = ix2 u d := emb m hO t i d u hu
  have e8 : (((cfgM m hO).win 8).blk t).view.emb (ix2 i d) = ix2 u d := emb m hO t i d u hu
  rw [e5] at h5
  rw [e6] at h6
  rw [e7] at h7
  rw [e8] at h8
  exact ⟨h5.trans (congrFun (after0_5 m hO c t) _), h6.trans (congrFun (after0_6 m hO c t) _), h7.trans (congrFun (after0_7 m hO c t) _), h8.trans (congrFun (after0_8 m hO c t) _)⟩

/-- What it leaves at every entry. -/
theorem apply (u : Fin 2048) (d : Fin 1152) : (dats m hO 0 c).arrAt 5 (cfgM m hO).N (ix2 u d) = gradA m c u d
    ∧ (dats m hO 0 c).arrAt 6 (cfgM m hO).N (ix2 u d) = stepE (wA m c (ix2 u d)) (meanE (gradA m c u d) (meanA m c (ix2 u d))) (squareE (gradA m c u d) (squareA m c (ix2 u d)))
    ∧ (dats m hO 0 c).arrAt 7 (cfgM m hO).N (ix2 u d) = meanE (gradA m c u d) (meanA m c (ix2 u d))
    ∧ (dats m hO 0 c).arrAt 8 (cfgM m hO).N (ix2 u d) = squareE (gradA m c u d) (squareA m c (ix2 u d)) := by
  obtain ⟨t, i, hu⟩ : ∃ t : Fin (cfgM m hO).N, ∃ i : Fin 128, u.val = 128 * t.val + i.val :=
    ⟨⟨u.val / 128, by have h : (cfgM m hO).N = 16 := N_0; omega⟩, ⟨u.val % 128, by omega⟩, by dsimp only; omega⟩
  obtain ⟨s5, s6, s7, s8⟩ := stored m hO c t i d u hu
  obtain ⟨o5, o6, o7, o8⟩ := outs m hO c t
  obtain ⟨b0, b1, b2⟩ := blk m hO c t i d u hu
  rw [s5, s6, s7, s8, o5, o6, o7, o8, step_pay, mean_pay, square_pay, grad_blk m hO c t i d u hu, b0, b1, b2]
  exact ⟨rfl, rfl, rfl, rfl⟩

end Cert.Kernel25Ideal.Opt

namespace Cert.Reference25Ideal.Opt

open Cert.Reference25Ideal Cert.Reference25Ideal.Gen
open Cert.Kernel25Ideal.Opt (gradE wA meanA squareA mineA theirsA coreA)
open Cert.Opt (meanE squareE stepE)
open Idealize.ShloMosaic Idealize.ShloMosaic.TcCoe Idealize.ShloMosaic.Pointwise

section
variable (w μ ν : Vec Ideal S2048x1152 .f32) (x y : Vec Ideal S1024x1152 .f32) (s : Vec Ideal S1 .i32) (u : Fin 2048) (d : Fin 1152)

/-- The joined gradient. -/
theorem grad_apply : Read.val_main_v6 (F := Ideal) x y s (ix2 u d) = gradE (s (ix1 0)) x y u d := by
  have e : Read.val_main_v6 (F := Ideal) x y s (ix2 u d) = if h : u.val < 1024
      then Scalar.select (Scalar.cmpi .eq (s (ix1 0)) 0#32) (x (ix2 (⟨u.val, h⟩ : Fin 1024) d)) (y (ix2 (⟨u.val, h⟩ : Fin 1024) d))
      else Scalar.select (Scalar.cmpi .eq (s (ix1 0)) 1#32) (x (ix2 (⟨u.val - 1024, by omega⟩ : Fin 1024) d))
        (y (ix2 (⟨u.val - 1024, by omega⟩ : Fin 1024) d)) := by
    pointwise [Read.val_main_v6, Read.val_main_v5, Read.val_main_v4, Read.val_main_v3, Read.val_main_c_0,
      Read.val_main_v2, Read.val_main_v1, Read.val_main_v0, Read.val_main_c]
    rfl
  rw [e]
  by_cases h : u.val < 1024
  · have e1 : u.val / 1024 = 0 := by omega
    have e2 : u.val % 1024 = u.val := by omega
    rw [dif_pos h, Cert.Opt.pick_block]
    simp only [gradE, e1, e2, eq_comm]
  · have e1 : u.val / 1024 = 1 := by omega
    have e2 : u.val % 1024 = u.val - 1024 := by omega
    rw [dif_neg h, Cert.Opt.pick_block]
    simp only [gradE, e1, e2, eq_comm]

theorem mean_apply : Read.val_main_v11 (F := Ideal) μ x y s (ix2 u d) = meanE (gradE (s (ix1 0)) x y u d) (μ (ix2 u d)) := by
  rw [← grad_apply]
  rfl
theorem square_apply : Read.val_main_v17 (F := Ideal) ν x y s (ix2 u d) = squareE (gradE (s (ix1 0)) x y u d) (ν (ix2 u d)) := by
  rw [← grad_apply]
  rfl
theorem step_apply : Read.val_main_v30 (F := Ideal) w μ ν x y s (ix2 u d)
    = stepE (w (ix2 u d)) (meanE (gradE (s (ix1 0)) x y u d) (μ (ix2 u d))) (squareE (gradE (s (ix1 0)) x y u d) (ν (ix2 u d))) := by
  rw [← mean_apply, ← square_apply]
  rfl
end

/-- What the kernel leaves in its four results is the reference's function of the kernel's arguments. -/
theorem same (m : (ℓ : Loc Cert.Kernel25Ideal.nD Cert.Kernel25Ideal.τ Cert.Kernel25Ideal.sig) → Buf (Elt Ideal) ℓ) (hO : Cert.Kernel25Ideal.Gen.Ok m) (c : Dev Cert.Kernel25Ideal.nD) :
    (Cert.Kernel25Ideal.Gen.dats m hO 0 c).arrAt 5 (Cert.Kernel25Ideal.Gen.cfgM m hO).N = Read.val_main_v6 (F := Ideal) (mineA m c) (theirsA m c) (coreA m c)
    ∧ (Cert.Kernel25Ideal.Gen.dats m hO 0 c).arrAt 6 (Cert.Kernel25Ideal.Gen.cfgM m hO).N = Read.val_main_v30 (F := Ideal) (wA m c) (meanA m c) (squareA m c) (mineA m c) (theirsA m c) (coreA m c)
    ∧ (Cert.Kernel25Ideal.Gen.dats m hO 0 c).arrAt 7 (Cert.Kernel25Ideal.Gen.cfgM m hO).N = Read.val_main_v11 (F := Ideal) (meanA m c) (mineA m c) (theirsA m c) (coreA m c)
    ∧ (Cert.Kernel25Ideal.Gen.dats m hO 0 c).arrAt 8 (Cert.Kernel25Ideal.Gen.cfgM m hO).N = Read.val_main_v17 (F := Ideal) (squareA m c) (mineA m c) (theirsA m c) (coreA m c) := by
  refine ⟨?_, ?_, ?_, ?_⟩ <;> funext z <;> rw [eq_ix2 z]
  · exact (Cert.Kernel25Ideal.Opt.apply m hO c _ _).1.trans (grad_apply _ _ _ _ _).symm
  · exact (Cert.Kernel25Ideal.Opt.apply m hO c _ _).2.1.trans (step_apply _ _ _ _ _ _ _ _).symm
  · exact (Cert.Kernel25Ideal.Opt.apply m hO c _ _).2.2.1.trans (mean_apply _ _ _ _ _ _).symm
  · exact (Cert.Kernel25Ideal.Opt.apply m hO c _ _).2.2.2.trans (square_apply _ _ _ _ _ _).symm

end Cert.Reference25Ideal.Opt

namespace Cert.Kernel25.Opt

open Cert.Kernel25 Cert.Kernel25.Gen
open Idealize.ShloMosaic

/-- Before the program is made ideal, too, the blocks lie inside the halves. -/
theorem ok_all {F : FTy → Type} [FloatOps F] (pf : pre0.Contents (Elt F)) : ok0 pf := Cert.Kernel25Ideal.Opt.ok_all pf

end Cert.Kernel25.Opt
-- ==== Proof.Opt.Out.lean ====
/-
  The optimiser's step on the mixer's output projection: two blocks of rows lie in a half.
-/
module

public import proofs.«01_k».proof.Proof.Gen.Kernel26.Frame
public import proofs.«01_k».proof.Proof.Gen.Kernel26Ideal.Frame
public import proofs.«01_k».proof.Proof.Gen.Reference26Ideal.Read
public import proofs.«01_k».proof.Proof.Opt.Words
public import proofs.«01_k».proof.Proof.Ffn.Sums

@[expose] public section

noncomputable section

namespace Cert.Kernel26Ideal.Opt

open Cert.Kernel26Ideal Cert.Kernel26Ideal.Gen
open Cert.Ffn (hz2)
open Cert.Opt (halfWord words2 index_mine index_theirs pick_block meanE squareE stepE)
open Idealize.ShloMosaic Idealize.ShloMosaic.TcCoe Idealize.ShloMosaic.Pointwise

section Blocks
variable {F : FTy → Type} [FloatOps F] (pf : pre0.Contents (Elt F)) (i : grid0.Coords)

/-- The core's number, as the table holds it. -/
abbrev core : BitVec 32 := pf.at 0 (Rect.unit (s := S1) ![0] S1.size inb_S1_S1_0) numel1_S1

/-- The blocks of a core's own half and of the other core's that a grid point reads: the row's, of the half it lies in. -/
theorem halves_index : cc0_transform_3 inb_S1_S1_0 numel1_S1 pf i = ![if BitVec.ofNat 32 ((i 0).val / 2) = core pf then (i 0).val % 2 else 0, 0]
    ∧ cc0_transform_4 inb_S1_S1_0 numel1_S1 pf i = ![if BitVec.ofNat 32 ((i 0).val / 2) = core pf then 0 else (i 0).val % 2, 0] := by
  have h1 : (i 1).val = 0 := by have h : (i 1).val < 1 := (i 1).isLt; omega
  have hz : (BitVec.ofNat 32 (i 1).val).toNat = 0 := by rw [h1]; rfl
  have hw := words2 ⟨(i 0).val, (i 0).isLt⟩
  exact ⟨index_mine 2#32 (BitVec.ofNat 32 (i 0).val) (core pf) _ _ _ hw hz, index_theirs 2#32 (BitVec.ofNat 32 (i 0).val) (core pf) _ _ _ hw hz⟩

/-- Whatever the core's number, these lie inside the halves. -/
theorem ok_all : ok0 pf := by
  have hb : ∀ n : ℕ, n < 2 → ∀ a, ((![n, 0] : Fin 2 → ℕ) a + 1) * S128x2048.size a ≤ S256x2048.size a := by
    intro n hn a
    match a with
    | ⟨0, _⟩ => show (n + 1) * 128 ≤ 256; omega
    | ⟨1, _⟩ => show (0 + 1) * 2048 ≤ 2048; omega
  refine ⟨fun i => ⟨?_, .inl rfl⟩, fun i => ⟨?_, .inl rfl⟩⟩
  · rw [(halves_index pf i).1]
    exact hb _ (by split <;> omega)
  · rw [(halves_index pf i).2]
    exact hb _ (by split <;> omega)
end Blocks

section Body
variable (c : Dev nD) (i : grid0.Coords) (a3 : Memref sig .tc .vmem S128x2048 .f32) (h3 : a3.IsWhole)
  (a4 : Memref sig .tc .vmem S128x2048 .f32) (h4 : a4.IsWhole) (a5 : Memref sig .tc .vmem S128x2048 .f32) (h5 : a5.IsWhole)
  (a6 : Memref sig .tc .vmem S128x2048 .f32) (h6 : a6.IsWhole) (a7 : Memref sig .tc .vmem S128x2048 .f32) (h7 : a7.IsWhole)
  (a8 : Memref sig .tc .vmem S128x2048 .f32) (h8 : a8.IsWhole) (a9 : Memref sig .tc .vmem S128x2048 .f32) (h9 : a9.IsWhole)
  (a10 : Memref sig .tc .vmem S128x2048 .f32) (h10 : a10.IsWhole) (a11 : Memref sig .tc .vmem S128x2048 .f32) (h11 : a11.IsWhole)
  (w μ ν : Vec Ideal S128x2048 .f32) (x y : Vec Ideal S128x2048 .f32) (pf : pre0.Contents (Elt Ideal))

/-- What a grid point stores of the gradient, the step, the running mean and the running mean of the square. -/
theorem stores : out0_A_5 c i a3 h3 a4 h4 a5 h5 a6 h6 a7 h7 a8 h8 a9 h9 a10 h10 a11 h11 w μ ν x y (pf 0) = k0_pay2 i (core pf) x y
    ∧ out0_A_6 c i a3 h3 a4 h4 a5 h5 a6 h6 a7 h7 a8 h8 a9 h9 a10 h10 a11 h11 w μ ν x y (pf 0) = k0_pay1 w (k0_pay3 i (core pf) x y μ) (k0_pay4 i (core pf) x y ν)
    ∧ out0_A_7 c i a3 h3 a4 h4 a5 h5 a6 h6 a7 h7 a8 h8 a9 h9 a10 h10 a11 h11 w μ ν x y (pf 0) = k0_pay3 i (core pf) x y μ
    ∧ out0_A_8 c i a3 h3 a4 h4 a5 h5 a6 h6 a7 h7 a8 h8 a9 h9 a10 h10 a11 h11 w μ ν x y (pf 0) = k0_pay4 i (core pf) x y ν := by
  unfold out0_A_5 out0_A_6 out0_A_7 out0_A_8
  rw [View.read_writes_eq_canon _ _ _ (cover0_A_5 c i a3 h3 a4 h4 a5 h5 a6 h6 a7 h7 a8 h8 a9 h9 a10 h10 a11 h11 w μ ν x y (pf 0)),
    View.read_writes_eq_canon _ _ _ (cover0_A_6 c i a3 h3 a4 h4 a5 h5 a6 h6 a7 h7 a8 h8 a9 h9 a10 h10 a11 h11 w μ ν x y (pf 0)),
    View.read_writes_eq_canon _ _ _ (cover0_A_7 c i a3 h3 a4 h4 a5 h5 a6 h6 a7 h7 a8 h8 a9 h9 a10 h10 a11 h11 w μ ν x y (pf 0)),
    View.read_writes_eq_canon _ _ _ (cover0_A_8 c i a3 h3 a4 h4 a5 h5 a6 h6 a7 h7 a8 h8 a9 h9 a10 h10 a11 h11 w μ ν x y (pf 0))]
  unfold kernelRun0_A
  dsimp only
  sl_unfold_words
  refine ⟨?_, ?_, ?_, ?_⟩
  all_goals
    rw [View.canon_unit_zero hz2]
    simp only [View.readAt_eq_ld, h3.read_unread, h4.read_unread, h5.read_unread, h6.read_unread, h7.read_unread, View.ld_unit_zero (S := S128x2048) hz2]
    rfl
end Body

section Entries
variable (i : grid0.Coords) (s : BitVec 32) (x y w μ ν : Vec Ideal S128x2048 .f32) (z : S128x2048.Idx)

theorem grad_pay : k0_pay2 i s x y z = if BitVec.ofNat 32 ((i 0).val / 2) = s then x z else y z := by
  have e : k0_pay2 i s x y = Scalar.select (Scalar.cmpi .eq (halfWord 2#32 (BitVec.ofNat 32 (i 0).val)) s) x y := rfl
  rw [e, (words2 ⟨(i 0).val, (i 0).isLt⟩).1, pick_block]
  split <;> rfl

theorem mean_pay : k0_pay3 i s x y μ z = meanE (k0_pay2 i s x y z) (μ z) := rfl
theorem square_pay : k0_pay4 i s x y ν z = squareE (k0_pay2 i s x y z) (ν z) := rfl
theorem step_pay : k0_pay1 w μ ν z = stepE (w z) (μ z) (ν z) := rfl
end Entries

variable (m : (ℓ : Loc nD τ sig) → Buf (Elt Ideal) ℓ) (hO : Ok m) (c : Dev nD)

/-- The arguments: the weights, the running means, the halves of the gradient, and the core's number. -/
abbrev wA : Vec Ideal S512x2048 .f32 := m ((c.tc : Thread nD τ).loc main_arg0)
abbrev meanA : Vec Ideal S512x2048 .f32 := m ((c.tc : Thread nD τ).loc main_arg1)
abbrev squareA : Vec Ideal S512x2048 .f32 := m ((c.tc : Thread nD τ).loc main_arg2)
abbrev mineA : Vec Ideal S256x2048 .f32 := m ((c.tc : Thread nD τ).loc main_arg3)
abbrev theirsA : Vec Ideal S256x2048 .f32 := m ((c.tc : Thread nD τ).loc main_arg4)
abbrev coreA : Vec Ideal S1 .i32 := m ((c.tc : Thread nD τ).loc main_arg5)

theorem row_val : ∀ t : Fin grid0.N, (grid0.coords t 0).val = t.val := by decide +kernel
theorem idx0 : ∀ t : Fin grid0.N, cc0_transform_0 (grid0.coords t) = ![t.val, 0] := by decide +kernel

/-- The blocks a grid point reads. -/
def wB (t : Fin (cfgM m hO).N) : Vec Ideal S128x2048 .f32 := iblk m hO c 0 t
def meanB (t : Fin (cfgM m hO).N) : Vec Ideal S128x2048 .f32 := iblk m hO c 1 t
def squareB (t : Fin (cfgM m hO).N) : Vec Ideal S128x2048 .f32 := iblk m hO c 2 t
def mineB (t : Fin (cfgM m hO).N) : Vec Ideal S128x2048 .f32 := iblk m hO c 3 t
def theirsB (t : Fin (cfgM m hO).N) : Vec Ideal S128x2048 .f32 := iblk m hO c 4 t

theorem core_eq : core (tbl m) = coreA m c (ix1 (0 : Fin 1)) := by
  obtain rfl : c = 0 := Subsingleton.elim _ _
  exact congrArg (coreA m 0) (funext fun a => Fin.ext (by match a with | ⟨0, _⟩ => rfl))

/-- The gradient's entry, of the half its row lies in. -/
abbrev gradE (s : BitVec 32) (x y : Vec Ideal S256x2048 .f32) (u : Fin 512) (d : Fin 2048) : EReal :=
  if BitVec.ofNat 32 (u.val / 256) = s then x (ix2 (⟨u.val % 256, by omega⟩ : Fin 256) d) else y (ix2 (⟨u.val % 256, by omega⟩ : Fin 256) d)

/-- The gradient's entry where the kernel has its arguments. -/
abbrev gradA (u : Fin 512) (d : Fin 2048) : EReal := gradE (coreA m c (ix1 (0 : Fin 1))) (mineA m c) (theirsA m c) u d

section Row
variable (t : Fin (cfgM m hO).N) (i : Fin 128) (d : Fin 2048) (u : Fin 512) (hu : u.val = 128 * t.val + i.val)
include hu

/-- The blocks of the weights and the running means are the rows' own. -/
theorem blk : wB m hO c t (ix2 i d) = wA m c (ix2 u d) ∧ meanB m hO c t (ix2 i d) = meanA m c (ix2 u d)
    ∧ squareB m hO c t (ix2 i d) = squareA m c (ix2 u d) := by
  have e0 : ((cfgM m hO).win 0).index t = ![t.val, 0] := idx0 t
  have e1 : ((cfgM m hO).win 1).index t = ![t.val, 0] := idx0 t
  have e2 : ((cfgM m hO).win 2).index t = ![t.val, 0] := idx0 t
  obtain ⟨u, hlt⟩ := u
  dsimp only at hu
  subst hu
  unfold wB meanB squareB wA meanA squareA
  refine ⟨?_, ?_, ?_⟩
  · blk_ext [iblk, V, e0]
  · blk_ext [iblk, V, e1]
  · blk_ext [iblk, V, e2]

/-- The gradient's entry in a grid point's block. -/
theorem grad_blk : k0_pay2 (grid0.coords t) (core (tbl m)) (mineB m hO c t) (theirsB m hO c t) (ix2 i d) = gradA m c u d := by
  have e1 : t.val / 2 = u.val / 256 := by omega
  have e2 : (⟨128 * (t.val % 2) + i.val, by omega⟩ : Fin 256) = ⟨u.val % 256, by omega⟩ := Fin.ext (by dsimp only; omega)
  rw [grad_pay, row_val t, gradA, gradE, ← core_eq m c, ← e1, ← e2]
  split
  · rename_i h
    have e : ((cfgM m hO).win 3).index t = ![t.val % 2, 0] := by
      refine (halves_index (tbl m) (grid0.coords t)).1.trans ?_
      rw [row_val t, if_pos h]
    unfold mineB mineA
    blk_ext [iblk, V, e]
  · rename_i h
    have e : ((cfgM m hO).win 4).index t = ![t.val % 2, 0] := by
      refine (halves_index (tbl m) (grid0.coords t)).2.trans ?_
      rw [row_val t, if_neg h]
    unfold theirsB theirsA
    blk_ext [iblk, V, e]

/-- The results' blocks are the rows' own, one a grid point. -/
theorem emb : (((cfgM m hO).win 5).blk t).view.emb (ix2 i d) = ix2 u d := by
  have e : ((cfgM m hO).win 5).index t = ![t.val, 0] := idx0 t
  funext a
  apply Fin.ext
  match a with
  | ⟨0, _⟩ => show ((cfgM m hO).win 5).index t (0 : Fin 2) * 128 + 1 * i.val = u.val; rw [e]; show t.val * 128 + 1 * i.val = _; omega
  | ⟨1, _⟩ => show ((cfgM m hO).win 5).index t (1 : Fin 2) * 2048 + 1 * d.val = d.val; rw [e]; show 0 * 2048 + 1 * d.val = _; omega
end Row

theorem disjoint (t t' : Fin (cfgM m hO).N) (hne : t ≠ t') : Disjoint (((cfgM m hO).win 5).blk t).view.set (((cfgM m hO).win 5).blk t').view.set :=
  ((cfgM m hO).win 5).disjoint_blk fun h => hne (by
    have e : ((cfgM m hO).win 5).index t = ![t.val, 0] := idx0 t
    have e' : ((cfgM m hO).win 5).index t' = ![t'.val, 0] := idx0 t'
    rw [e, e'] at h
    exact Fin.ext (congrFun h 0))

theorem outs (t : Fin (cfgM m hO).N) : (outsAt0 m hO c t).1 = k0_pay2 (grid0.coords t) (core (tbl m)) (mineB m hO c t) (theirsB m hO c t)
    ∧ (outsAt0 m hO c t).2.1 = k0_pay1 (wB m hO c t) (k0_pay3 (grid0.coords t) (core (tbl m)) (mineB m hO c t) (theirsB m hO c t) (meanB m hO c t)) (k0_pay4 (grid0.coords t) (core (tbl m)) (mineB m hO c t) (theirsB m hO c t) (squareB m hO c t))
    ∧ (outsAt0 m hO c t).2.2.1 = k0_pay3 (grid0.coords t) (core (tbl m)) (mineB m hO c t) (theirsB m hO c t) (meanB m hO c t)
    ∧ (outsAt0 m hO c t).2.2.2 = k0_pay4 (grid0.coords t) (core (tbl m)) (mineB m hO c t) (theirsB m hO c t) (squareB m hO c t) := by
  unfold outsAt0
  dsimp only
  exact stores c (grid0.coords t) _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (wB m hO c t) (meanB m hO c t) (squareB m hO c t) (mineB m hO c t) (theirsB m hO c t) (tbl m)

/-- What the kernel leaves in its results, at a row of a grid point's block. -/
theorem stored (t : Fin (cfgM m hO).N) (i : Fin 128) (d : Fin 2048) (u : Fin 512) (hu : u.val = 128 * t.val + i.val) :
    (dats m hO 0 c).arrAt 5 (cfgM m hO).N (ix2 u d) = (outsAt0 m hO c t).1 (ix2 i d)
    ∧ (dats m hO 0 c).arrAt 6 (cfgM m hO).N (ix2 u d) = (outsAt0 m hO c t).2.1 (ix2 i d)
    ∧ (dats m hO 0 c).arrAt 7 (cfgM m hO).N (ix2 u d) = (outsAt0 m hO c t).2.2.1 (ix2 i d)
    ∧ (dats m hO 0 c).arrAt 8 (cfgM m hO).N (ix2 u d) = (outsAt0 m hO c t).2.2.2 (ix2 i d) := by
  have h5 := (dats m hO 0 c).arrAt_emb_eq_flushed 5 (fun t t' _ _ => disjoint m hO t t') t (flush0_5 _ t) (ix2 i d)
  have h6 := (dats m hO 0 c).arrAt_emb_eq_flushed 6 (fun t t' _ _ => disjoint m hO t t') t (flush0_6 _ t) (ix2 i d)
  have h7 := (dats m hO 0 c).arrAt_emb_eq_flushed 7 (fun t t' _ _ => disjoint m hO t t') t (flush0_7 _ t) (ix2 i d)
  have h8 := (dats m hO 0 c).arrAt_emb_eq_flushed 8 (fun t t' _ _ => disjoint m hO t t') t (flush0_8 _ t) (ix2 i d)
  have e5 : (((cfgM m hO).win 5).blk t).view.emb (ix2 i d) = ix2 u d := emb m hO t i d u hu
  have e6 : (((cfgM m hO).win 6).blk t).view.emb (ix2 i d) = ix2 u d := emb m hO t i d u hu
  have e7 : (((cfgM m hO).win 7).blk t).view.emb (ix2 i d) = ix2 u d := emb m hO t i d u hu
  have e8 : (((cfgM m hO).win 8).blk t).view.emb (ix2 i d) = ix2 u d := emb m hO t i d u hu
  rw [e5] at h5
  rw [e6] at h6
  rw [e7] at h7
  rw [e8] at h8
  exact ⟨h5.trans (congrFun (after0_5 m hO c t) _), h6.trans (congrFun (after0_6 m hO c t) _), h7.trans (congrFun (after0_7 m hO c t) _), h8.trans (congrFun (after0_8 m hO c t) _)⟩

/-- What it leaves at every entry. -/
theorem apply (u : Fin 512) (d : Fin 2048) : (dats m hO 0 c).arrAt 5 (cfgM m hO).N (ix2 u d) = gradA m c u d
    ∧ (dats m hO 0 c).arrAt 6 (cfgM m hO).N (ix2 u d) = stepE (wA m c (ix2 u d)) (meanE (gradA m c u d) (meanA m c (ix2 u d))) (squareE (gradA m c u d) (squareA m c (ix2 u d)))
    ∧ (dats m hO 0 c).arrAt 7 (cfgM m hO).N (ix2 u d) = meanE (gradA m c u d) (meanA m c (ix2 u d))
    ∧ (dats m hO 0 c).arrAt 8 (cfgM m hO).N (ix2 u d) = squareE (gradA m c u d) (squareA m c (ix2 u d)) := by
  obtain ⟨t, i, hu⟩ : ∃ t : Fin (cfgM m hO).N, ∃ i : Fin 128, u.val = 128 * t.val + i.val :=
    ⟨⟨u.val / 128, by have h : (cfgM m hO).N = 4 := N_0; omega⟩, ⟨u.val % 128, by omega⟩, by dsimp only; omega⟩
  obtain ⟨s5, s6, s7, s8⟩ := stored m hO c t i d u hu
  obtain ⟨o5, o6, o7, o8⟩ := outs m hO c t
  obtain ⟨b0, b1, b2⟩ := blk m hO c t i d u hu
  rw [s5, s6, s7, s8, o5, o6, o7, o8, step_pay, mean_pay, square_pay, grad_blk m hO c t i d u hu, b0, b1, b2]
  exact ⟨rfl, rfl, rfl, rfl⟩

end Cert.Kernel26Ideal.Opt

namespace Cert.Reference26Ideal.Opt

open Cert.Reference26Ideal Cert.Reference26Ideal.Gen
open Cert.Kernel26Ideal.Opt (gradE wA meanA squareA mineA theirsA coreA)
open Cert.Opt (meanE squareE stepE)
open Idealize.ShloMosaic Idealize.ShloMosaic.TcCoe Idealize.ShloMosaic.Pointwise

section
variable (w μ ν : Vec Ideal S512x2048 .f32) (x y : Vec Ideal S256x2048 .f32) (s : Vec Ideal S1 .i32) (u : Fin 512) (d : Fin 2048)

/-- The joined gradient. -/
theorem grad_apply : Read.val_main_v6 (F := Ideal) x y s (ix2 u d) = gradE (s (ix1 0)) x y u d := by
  have e : Read.val_main_v6 (F := Ideal) x y s (ix2 u d) = if h : u.val < 256
      then Scalar.select (Scalar.cmpi .eq (s (ix1 0)) 0#32) (x (ix2 (⟨u.val, h⟩ : Fin 256) d)) (y (ix2 (⟨u.val, h⟩ : Fin 256) d))
      else Scalar.select (Scalar.cmpi .eq (s (ix1 0)) 1#32) (x (ix2 (⟨u.val - 256, by omega⟩ : Fin 256) d))
        (y (ix2 (⟨u.val - 256, by omega⟩ : Fin 256) d)) := by
    pointwise [Read.val_main_v6, Read.val_main_v5, Read.val_main_v4, Read.val_main_v3, Read.val_main_c_0,
      Read.val_main_v2, Read.val_main_v1, Read.val_main_v0, Read.val_main_c]
    rfl
  rw [e]
  by_cases h : u.val < 256
  · have e1 : u.val / 256 = 0 := by omega
    have e2 : u.val % 256 = u.val := by omega
    rw [dif_pos h, Cert.Opt.pick_block]
    simp only [gradE, e1, e2, eq_comm]
  · have e1 : u.val / 256 = 1 := by omega
    have e2 : u.val % 256 = u.val - 256 := by omega
    rw [dif_neg h, Cert.Opt.pick_block]
    simp only [gradE, e1, e2, eq_comm]

theorem mean_apply : Read.val_main_v11 (F := Ideal) μ x y s (ix2 u d) = meanE (gradE (s (ix1 0)) x y u d) (μ (ix2 u d)) := by
  rw [← grad_apply]
  rfl
theorem square_apply : Read.val_main_v17 (F := Ideal) ν x y s (ix2 u d) = squareE (gradE (s (ix1 0)) x y u d) (ν (ix2 u d)) := by
  rw [← grad_apply]
  rfl
theorem step_apply : Read.val_main_v30 (F := Ideal) w μ ν x y s (ix2 u d)
    = stepE (w (ix2 u d)) (meanE (gradE (s (ix1 0)) x y u d) (μ (ix2 u d))) (squareE (gradE (s (ix1 0)) x y u d) (ν (ix2 u d))) := by
  rw [← mean_apply, ← square_apply]
  rfl
end

/-- What the kernel leaves in its four results is the reference's function of the kernel's arguments. -/
theorem same (m : (ℓ : Loc Cert.Kernel26Ideal.nD Cert.Kernel26Ideal.τ Cert.Kernel26Ideal.sig) → Buf (Elt Ideal) ℓ) (hO : Cert.Kernel26Ideal.Gen.Ok m) (c : Dev Cert.Kernel26Ideal.nD) :
    (Cert.Kernel26Ideal.Gen.dats m hO 0 c).arrAt 5 (Cert.Kernel26Ideal.Gen.cfgM m hO).N = Read.val_main_v6 (F := Ideal) (mineA m c) (theirsA m c) (coreA m c)
    ∧ (Cert.Kernel26Ideal.Gen.dats m hO 0 c).arrAt 6 (Cert.Kernel26Ideal.Gen.cfgM m hO).N = Read.val_main_v30 (F := Ideal) (wA m c) (meanA m c) (squareA m c) (mineA m c) (theirsA m c) (coreA m c)
    ∧ (Cert.Kernel26Ideal.Gen.dats m hO 0 c).arrAt 7 (Cert.Kernel26Ideal.Gen.cfgM m hO).N = Read.val_main_v11 (F := Ideal) (meanA m c) (mineA m c) (theirsA m c) (coreA m c)
    ∧ (Cert.Kernel26Ideal.Gen.dats m hO 0 c).arrAt 8 (Cert.Kernel26Ideal.Gen.cfgM m hO).N = Read.val_main_v17 (F := Ideal) (squareA m c) (mineA m c) (theirsA m c) (coreA m c) := by
  refine ⟨?_, ?_, ?_, ?_⟩ <;> funext z <;> rw [eq_ix2 z]
  · exact (Cert.Kernel26Ideal.Opt.apply m hO c _ _).1.trans (grad_apply _ _ _ _ _).symm
  · exact (Cert.Kernel26Ideal.Opt.apply m hO c _ _).2.1.trans (step_apply _ _ _ _ _ _ _ _).symm
  · exact (Cert.Kernel26Ideal.Opt.apply m hO c _ _).2.2.1.trans (mean_apply _ _ _ _ _ _).symm
  · exact (Cert.Kernel26Ideal.Opt.apply m hO c _ _).2.2.2.trans (square_apply _ _ _ _ _ _).symm

end Cert.Reference26Ideal.Opt

namespace Cert.Kernel26.Opt

open Cert.Kernel26 Cert.Kernel26.Gen
open Idealize.ShloMosaic

/-- Before the program is made ideal, too, the blocks lie inside the halves. -/
theorem ok_all {F : FTy → Type} [FloatOps F] (pf : pre0.Contents (Elt F)) : ok0 pf := Cert.Kernel26Ideal.Opt.ok_all pf

end Cert.Kernel26.Opt
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Value
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Value
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Value
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Sb.Run
public import proofs.«01_k».proof.Proof.Sb.Same
public import proofs.«01_k».proof.Proof.Sb.FwdSame
public import proofs.«01_k».proof.Proof.Ffn.UpGrad
public import proofs.«01_k».proof.Proof.Ffn.DownGrad
public import proofs.«01_k».proof.Proof.Ffn.InGrad
public import proofs.«01_k».proof.Proof.Ffn.ActGrad
public import proofs.«01_k».proof.Proof.Ffn.Up
public import proofs.«01_k».proof.Proof.Ffn.Gate
public import proofs.«01_k».proof.Proof.Ffn.UpAct
public import proofs.«01_k».proof.Proof.Ffn.Down
public import proofs.«01_k».proof.Proof.Proj.InGrad
public import proofs.«01_k».proof.Proof.Proj.InBack
public import proofs.«01_k».proof.Proof.Proj.In
public import proofs.«01_k».proof.Proof.Proj.OutGrad
public import proofs.«01_k».proof.Proof.Proj.Out
public import proofs.«01_k».proof.Proof.Ffn.InGradA
public import proofs.«01_k».proof.Proof.Ffn.InGradB
public import proofs.«01_k».proof.Proof.Proj.OutBack
public import proofs.«01_k».proof.Proof.Norm.Cast
public import proofs.«01_k».proof.Proof.Norm.Back
public import proofs.«01_k».proof.Proof.Norm.Heads
public import proofs.«01_k».proof.Proof.Norm.Loss
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Reference26Ideal.Read
public import Idealize.ShloMosaic.Adequacy
public import Idealize.ShloMosaic.Init
public import proofs.«01_k».proof.Proof.Opt.Adam
public import proofs.«01_k».proof.Proof.Opt.Halves
public import proofs.«01_k».proof.Proof.Opt.In
public import proofs.«01_k».proof.Proof.Opt.Out

@[expose] public section

noncomputable section

namespace Cert.Proof

open Idealize.ShloMosaic Idealize.SL.Sem

set_option maxHeartbeats 4000000 in
set_option smartUnfolding false in
/-- The kernel of float values ends with its arguments unchanged and every semaphore at zero. -/
theorem frame_kernel : Cert.quiescent_Kernel := fun m ρ _ =>
  (θ_run Cert.KernelIdeal.defs (onTc (τ := Cert.KernelIdeal.τ) Cert.KernelIdeal.main) ⟨m, fun _ => 0, ρ⟩).mono
    (fun _ h => ⟨fun c => (h.1 c).1, h.2⟩) (Cert.KernelIdeal.Sb.run_result (F := Bits) m ρ)

/-- The same of the idealized kernel: the same run. -/
theorem frame_kernelIdeal : Cert.quiescent_KernelIdeal := fun m ρ _ =>
  (θ_run Cert.KernelIdeal.defs _ _).mono (fun _ h => ⟨fun c => (h.1 c).1, h.2⟩)
    (Cert.KernelIdeal.Sb.run_result (F := Ideal) m ρ)

/-- The reference ends with its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The same runs, of arguments that meet the precondition. -/
theorem frame_kernelIdeal_finite : Cert.quiescent_KernelIdeal_pre_finite := fun m ρ _ => frame_kernelIdeal m ρ trivial

theorem frame_reference_finite : Cert.quiescent_ReferenceIdeal_pre_finite := fun m ρ _ => frame_reference m ρ trivial

/-- For finite arguments the kernel and the reference end with the same result. -/
theorem algebraic : Cert.algebraic_KernelIdeal_ReferenceIdeal_pre_finite := by
  intro m g m' g' hpre hargs
  refine ⟨fun c => Cert.KernelIdeal.Sb.resultAt m c Cert.KernelIdeal.cfg0.N, ?_, ?_⟩
  · exact (θ_run Cert.KernelIdeal.defs _ _).mono (fun _ h c => ⟨(h.1 c).2, (h.1 c).1⟩)
      (Cert.KernelIdeal.Sb.run_result (F := Ideal) m g)
  · refine (θ_run Cert.ReferenceIdeal.defs _ _).mono (fun r h c => ⟨?_, (h c).2⟩) (Cert.ReferenceIdeal.Value.run m' g')
    refine (h c).1.trans ((Cert.ReferenceIdeal.Read.val_main_v56_eq _).trans ?_)
    obtain ⟨h0, h1, h2⟩ := hargs c
    refine Eq.trans ?_ (Cert.ReferenceIdeal.Sb.result_eq m c (hpre c)).symm
    rw [← h0, ← h1, ← h2]

/-! The call of the gradient of the gated activation. -/

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

theorem frame_kernel2Ideal_finite : Cert.quiescent_Kernel2Ideal_pre_finite2 := fun m ρ _ => frame_kernel2Ideal m ρ trivial

theorem frame_reference2_finite : Cert.quiescent_Reference2Ideal_pre_finite2 := fun m ρ _ => frame_reference2 m ρ trivial

theorem algebraic2 : Cert.algebraic_Kernel2Ideal_Reference2Ideal_pre_finite2 := by
  intro m g m' g' hpre hargs
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N, ?_, ?_⟩
  · exact (θ_run Cert.Kernel2Ideal.defs _ _).mono (fun _ h c => h c) (Cert.Kernel2Ideal.Value.run_blocks m g)
  · refine (θ_run Cert.Reference2Ideal.defs _ _).mono (fun r h c => ⟨?_, ?_, (h c).2.2⟩) (Cert.Reference2Ideal.Value.run m' g')
    · refine (h c).1.trans ((Cert.Reference2Ideal.Read.val_main_v15_eq _ _ _ _).trans ?_)
      obtain ⟨h0, h1, h2, h3⟩ := hargs c
      refine Eq.trans ?_ (Cert.Reference2Ideal.Ffn.gate_eq m c (hpre c)).symm
      rw [← h0, ← h1, ← h2, ← h3]
    · refine (h c).2.1.trans ((Cert.Reference2Ideal.Read.val_main_v16_eq _ _ _).trans ?_)
      obtain ⟨h0, h1, h2, _⟩ := hargs c
      refine Eq.trans ?_ (Cert.Reference2Ideal.Ffn.up_eq m c).symm
      rw [← h0, ← h1, ← h2]

/-! The call of the weight gradient of a gate or up projection. -/

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem algebraic3 : Cert.algebraic_Kernel3Ideal_Reference3Ideal := by
  intro m g m' g' _ hargs
  refine ⟨fun c => Cert.Kernel3Ideal.Value.G2 m c, ?_, ?_⟩
  · exact (θ_run Cert.Kernel3Ideal.defs _ _).mono (fun _ h c => h c) (Cert.Kernel3Ideal.Value.run m g)
  · refine (θ_run Cert.Reference3Ideal.defs _ _).mono (fun r h c => ⟨?_, (h c).2⟩) (Cert.Reference3Ideal.Value.run m' g')
    refine (h c).1.trans ((Cert.Reference3Ideal.Read.val_main_v10_eq _ _).trans ?_)
    obtain ⟨h0, h1⟩ := hargs c
    refine Eq.trans ?_ (Cert.Reference3Ideal.Ffn.result_eq m c).symm
    rw [← h0, ← h1]

/-! The call of the weight gradient of a down projection. -/

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem algebraic4 : Cert.algebraic_Kernel4Ideal_Reference4Ideal := by
  intro m g m' g' _ hargs
  refine ⟨fun c => Cert.Kernel4Ideal.Value.G2 m c, ?_, ?_⟩
  · exact (θ_run Cert.Kernel4Ideal.defs _ _).mono (fun _ h c => h c) (Cert.Kernel4Ideal.Value.run m g)
  · refine (θ_run Cert.Reference4Ideal.defs _ _).mono (fun r h c => ⟨?_, (h c).2⟩) (Cert.Reference4Ideal.Value.run m' g')
    refine (h c).1.trans ((Cert.Reference4Ideal.Read.val_main_v11_eq _ _).trans ?_)
    obtain ⟨h0, h1⟩ := hargs c
    refine Eq.trans ?_ (Cert.Reference4Ideal.Ffn.result_eq m c).symm
    rw [← h0, ← h1]

/-! The call of the gradient of the gate and up projections' input. -/

theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem algebraic5 : Cert.algebraic_Kernel5Ideal_Reference5Ideal := by
  intro m g m' g' _ hargs
  refine ⟨fun c => Cert.Kernel5Ideal.Value.G4 m c, ?_, ?_⟩
  · exact (θ_run Cert.Kernel5Ideal.defs _ _).mono (fun _ h c => h c) (Cert.Kernel5Ideal.Value.run m g)
  · refine (θ_run Cert.Reference5Ideal.defs _ _).mono (fun r h c => ⟨?_, (h c).2⟩) (Cert.Reference5Ideal.Value.run m' g')
    refine (h c).1.trans ((Cert.Reference5Ideal.Read.val_main_v13_eq _ _ _ _).trans ?_)
    obtain ⟨h0, h1, h2, h3⟩ := hargs c
    refine Eq.trans ?_ (Cert.Reference5Ideal.Ffn.result_eq m c).symm
    rw [← h0, ← h1, ← h2, ← h3]

/-! The call of the gate and up projections with the activation. -/

theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run m ρ)

theorem algebraic6 : Cert.algebraic_Kernel6Ideal_Reference6Ideal := by
  intro m g m' g' _ hargs
  refine ⟨fun c => (Cert.Kernel6Ideal.Gen.dats m 0 c).arrAt 3 Cert.Kernel6Ideal.cfg0.N, fun c => (Cert.Kernel6Ideal.Gen.dats m 0 c).arrAt 4 Cert.Kernel6Ideal.cfg0.N, fun c => (Cert.Kernel6Ideal.Gen.dats m 0 c).arrAt 5 Cert.Kernel6Ideal.cfg0.N, ?_, ?_⟩
  · exact (θ_run Cert.Kernel6Ideal.defs _ _).mono (fun _ h c => h c) (Cert.Kernel6Ideal.Value.run_blocks m g)
  · refine (θ_run Cert.Reference6Ideal.defs _ _).mono (fun r h c => ⟨?_, ?_, ?_, (h c).2.2.2⟩) (Cert.Reference6Ideal.Value.run m' g')
    · refine (h c).1.trans ((Cert.Reference6Ideal.Read.val_main_v7_eq _ _).trans ?_)
      obtain ⟨h0, h1, _⟩ := hargs c
      refine Eq.trans ?_ (Cert.Reference6Ideal.Ffn.gate_eq m c).symm
      rw [← h0, ← h1]
    · refine (h c).2.1.trans ((Cert.Reference6Ideal.Read.val_main_v8_eq _ _).trans ?_)
      obtain ⟨h0, _, h2⟩ := hargs c
      refine Eq.trans ?_ (Cert.Reference6Ideal.Ffn.up_eq m c).symm
      rw [← h0, ← h2]
    · refine (h c).2.2.1.trans ((Cert.Reference6Ideal.Read.val_main_v11_eq _ _ _).trans ?_)
      obtain ⟨h0, h1, h2⟩ := hargs c
      refine Eq.trans ?_ (Cert.Reference6Ideal.Ffn.act_eq m c).symm
      rw [← h0, ← h1, ← h2]

/-! The call of the gate projection. -/

theorem frame_kernel7 : Cert.quiescent_Kernel7 := fun m ρ _ => Cert.Kernel7.Gen.frame m ρ

theorem frame_kernel7Ideal : Cert.quiescent_Kernel7Ideal := fun m ρ _ => Cert.Kernel7Ideal.Gen.frame m ρ

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem algebraic7 : Cert.algebraic_Kernel7Ideal_Reference7Ideal := by
  intro m g m' g' _ hargs
  refine ⟨fun c => (Cert.Kernel7Ideal.Gen.dats m 0 c).arrAt 2 Cert.Kernel7Ideal.cfg0.N, ?_, ?_⟩
  · exact (θ_run Cert.Kernel7Ideal.defs _ _).mono (fun _ h c => h c) (Cert.Kernel7Ideal.Value.run_blocks m g)
  · refine (θ_run Cert.Reference7Ideal.defs _ _).mono (fun r h c => ⟨?_, (h c).2⟩) (Cert.Reference7Ideal.Value.run m' g')
    refine (h c).1.trans ((Cert.Reference7Ideal.Read.val_main_v4_eq _ _).trans ?_)
    obtain ⟨h0, h1⟩ := hargs c
    refine Eq.trans ?_ (Cert.Reference7Ideal.Ffn.result_eq m c).symm
    rw [← h0, ← h1]

/-! The call of the up projection with the activation. -/

theorem frame_kernel8 : Cert.quiescent_Kernel8 := fun m ρ _ => Cert.Kernel8.Gen.frame m ρ

theorem frame_kernel8Ideal : Cert.quiescent_Kernel8Ideal := fun m ρ _ => Cert.Kernel8Ideal.Gen.frame m ρ

theorem frame_reference8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run m ρ)

theorem algebraic8 : Cert.algebraic_Kernel8Ideal_Reference8Ideal := by
  intro m g m' g' _ hargs
  refine ⟨fun c => (Cert.Kernel8Ideal.Gen.dats m 0 c).arrAt 3 Cert.Kernel8Ideal.cfg0.N, fun c => (Cert.Kernel8Ideal.Gen.dats m 0 c).arrAt 4 Cert.Kernel8Ideal.cfg0.N, ?_, ?_⟩
  · exact (θ_run Cert.Kernel8Ideal.defs _ _).mono (fun _ h c => h c) (Cert.Kernel8Ideal.Value.run_blocks m g)
  · refine (θ_run Cert.Reference8Ideal.defs _ _).mono (fun r h c => ⟨?_, ?_, (h c).2.2⟩) (Cert.Reference8Ideal.Value.run m' g')
    · refine (h c).1.trans ((Cert.Reference8Ideal.Read.val_main_v5_eq _ _).trans ?_)
      obtain ⟨h0, h1, _⟩ := hargs c
      refine Eq.trans ?_ (Cert.Reference8Ideal.Ffn.up_eq m c).symm
      rw [← h0, ← h1]
    · refine (h c).2.1.trans ((Cert.Reference8Ideal.Read.val_main_v8_eq _ _ _).trans ?_)
      obtain ⟨h0, h1, h2⟩ := hargs c
      refine Eq.trans ?_ (Cert.Reference8Ideal.Ffn.act_eq m c).symm
      rw [← h0, ← h1, ← h2]

/-! The call of the down projection. -/

theorem frame_kernel9 : Cert.quiescent_Kernel9 := fun m ρ _ => Cert.Kernel9.Gen.frame m ρ

theorem frame_kernel9Ideal : Cert.quiescent_Kernel9Ideal := fun m ρ _ => Cert.Kernel9Ideal.Gen.frame m ρ

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem algebraic9 : Cert.algebraic_Kernel9Ideal_Reference9Ideal := by
  intro m g m' g' _ hargs
  refine ⟨fun c => Cert.Kernel9Ideal.Value.G3 m c, ?_, ?_⟩
  · exact (θ_run Cert.Kernel9Ideal.defs _ _).mono (fun _ h c => h c) (Cert.Kernel9Ideal.Value.run m g)
  · refine (θ_run Cert.Reference9Ideal.defs _ _).mono (fun r h c => ⟨?_, (h c).2⟩) (Cert.Reference9Ideal.Value.run m' g')
    refine (h c).1.trans ((Cert.Reference9Ideal.Read.val_main_v5_eq _ _ _).trans ?_)
    obtain ⟨h0, h1, h2⟩ := hargs c
    refine Eq.trans ?_ (Cert.Reference9Ideal.Ffn.result_eq m c).symm
    rw [← h0, ← h1, ← h2]

/-! The call of the weight gradient of the mixer's input projection. -/

theorem frame_kernel10 : Cert.quiescent_Kernel10 := fun m ρ _ => Cert.Kernel10.Gen.frame m ρ

theorem frame_kernel10Ideal : Cert.quiescent_Kernel10Ideal := fun m ρ _ => Cert.Kernel10Ideal.Gen.frame m ρ

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem algebraic10 : Cert.algebraic_Kernel10Ideal_Reference10Ideal := by
  intro m g m' g' _ hargs
  refine ⟨fun c => Cert.Kernel10Ideal.Value.G2 m c, ?_, ?_⟩
  · exact (θ_run Cert.Kernel10Ideal.defs _ _).mono (fun _ h c => h c) (Cert.Kernel10Ideal.Value.run m g)
  · refine (θ_run Cert.Reference10Ideal.defs _ _).mono (fun r h c => ⟨?_, (h c).2⟩) (Cert.Reference10Ideal.Value.run m' g')
    refine (h c).1.trans ((Cert.Reference10Ideal.Read.val_main_v10_eq _ _).trans ?_)
    obtain ⟨h0, h1⟩ := hargs c
    refine Eq.trans ?_ (Cert.Reference10Ideal.Proj.result_eq m c).symm
    rw [← h0, ← h1]

/-! The call of the input gradient of the mixer's input projection. -/

theorem frame_kernel11 : Cert.quiescent_Kernel11 := fun m ρ _ => Cert.Kernel11.Gen.frame m ρ

theorem frame_kernel11Ideal : Cert.quiescent_Kernel11Ideal := fun m ρ _ => Cert.Kernel11Ideal.Gen.frame m ρ

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

theorem algebraic11 : Cert.algebraic_Kernel11Ideal_Reference11Ideal := by
  intro m g m' g' _ hargs
  refine ⟨fun c => Cert.Kernel11Ideal.Value.G2 m c, ?_, ?_⟩
  · exact (θ_run Cert.Kernel11Ideal.defs _ _).mono (fun _ h c => h c) (Cert.Kernel11Ideal.Value.run m g)
  · refine (θ_run Cert.Reference11Ideal.defs _ _).mono (fun r h c => ⟨?_, (h c).2⟩) (Cert.Reference11Ideal.Value.run m' g')
    refine (h c).1.trans ((Cert.Reference11Ideal.Read.val_main_v6_eq _ _).trans ?_)
    obtain ⟨h0, h1⟩ := hargs c
    refine Eq.trans ?_ (Cert.Reference11Ideal.Proj.result_eq m c).symm
    rw [← h0, ← h1]

/-! The call of the mixer's input projection. -/

theorem frame_kernel12 : Cert.quiescent_Kernel12 := fun m ρ _ => Cert.Kernel12.Gen.frame m ρ

theorem frame_kernel12Ideal : Cert.quiescent_Kernel12Ideal := fun m ρ _ => Cert.Kernel12Ideal.Gen.frame m ρ

theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

theorem algebraic12 : Cert.algebraic_Kernel12Ideal_Reference12Ideal := by
  intro m g m' g' _ hargs
  refine ⟨fun c => (Cert.Kernel12Ideal.Gen.dats m 0 c).arrAt 2 Cert.Kernel12Ideal.cfg0.N, ?_, ?_⟩
  · exact (θ_run Cert.Kernel12Ideal.defs _ _).mono (fun _ h c => h c) (Cert.Kernel12Ideal.Value.run_blocks m g)
  · refine (θ_run Cert.Reference12Ideal.defs _ _).mono (fun r h c => ⟨?_, (h c).2⟩) (Cert.Reference12Ideal.Value.run m' g')
    refine (h c).1.trans ((Cert.Reference12Ideal.Read.val_main_v4_eq _ _).trans ?_)
    obtain ⟨h0, h1⟩ := hargs c
    refine Eq.trans ?_ (Cert.Reference12Ideal.Proj.result_eq m c).symm
    rw [← h0, ← h1]

/-! The call of the weight gradient of the mixer's output projection. -/

theorem frame_kernel13 : Cert.quiescent_Kernel13 := fun m ρ _ => Cert.Kernel13.Gen.frame m ρ

theorem frame_kernel13Ideal : Cert.quiescent_Kernel13Ideal := fun m ρ _ => Cert.Kernel13Ideal.Gen.frame m ρ

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

theorem algebraic13 : Cert.algebraic_Kernel13Ideal_Reference13Ideal := by
  intro m g m' g' _ hargs
  refine ⟨fun c => Cert.Kernel13Ideal.Value.G2 m c, ?_, ?_⟩
  · exact (θ_run Cert.Kernel13Ideal.defs _ _).mono (fun _ h c => h c) (Cert.Kernel13Ideal.Value.run m g)
  · refine (θ_run Cert.Reference13Ideal.defs _ _).mono (fun r h c => ⟨?_, (h c).2⟩) (Cert.Reference13Ideal.Value.run m' g')
    refine (h c).1.trans ((Cert.Reference13Ideal.Read.val_main_v7_eq _ _).trans ?_)
    obtain ⟨h0, h1⟩ := hargs c
    refine Eq.trans ?_ (Cert.Reference13Ideal.Proj.result_eq m c).symm
    rw [← h0, ← h1]

/-! The call of the mixer's output projection. -/

theorem frame_kernel14 : Cert.quiescent_Kernel14 := fun m ρ _ => Cert.Kernel14.Gen.frame m ρ

theorem frame_kernel14Ideal : Cert.quiescent_Kernel14Ideal := fun m ρ _ => Cert.Kernel14Ideal.Gen.frame m ρ

theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

theorem algebraic14 : Cert.algebraic_Kernel14Ideal_Reference14Ideal := by
  intro m g m' g' _ hargs
  refine ⟨fun c => (Cert.Kernel14Ideal.Gen.dats m 0 c).arrAt 3 Cert.Kernel14Ideal.cfg0.N, ?_, ?_⟩
  · exact (θ_run Cert.Kernel14Ideal.defs _ _).mono (fun _ h c => h c) (Cert.Kernel14Ideal.Value.run_blocks m g)
  · refine (θ_run Cert.Reference14Ideal.defs _ _).mono (fun r h c => ⟨?_, (h c).2⟩) (Cert.Reference14Ideal.Value.run m' g')
    refine (h c).1.trans ((Cert.Reference14Ideal.Read.val_main_v3_eq _ _ _).trans ?_)
    obtain ⟨h0, h1, h2⟩ := hargs c
    refine Eq.trans ?_ (Cert.Reference14Ideal.Proj.result_eq m c).symm
    rw [← h0, ← h1, ← h2]

/-! The call of the first half's input gradient, its first rows. -/

theorem frame_kernel15 : Cert.quiescent_Kernel15 := fun m ρ _ => Cert.Kernel15.Gen.frame m ρ

theorem frame_kernel15Ideal : Cert.quiescent_Kernel15Ideal := fun m ρ _ => Cert.Kernel15Ideal.Gen.frame m ρ

theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

theorem algebraic15 : Cert.algebraic_Kernel15Ideal_Reference15Ideal := by
  intro m g m' g' _ hargs
  refine ⟨fun c => Cert.Kernel15Ideal.Ffn.result m c, ?_, ?_⟩
  · exact (θ_run Cert.Kernel15Ideal.defs _ _).mono (fun _ h c => h c) (Cert.Kernel15Ideal.Ffn.run m g)
  · refine (θ_run Cert.Reference15Ideal.defs _ _).mono (fun r h c => ⟨?_, (h c).2⟩) (Cert.Reference15Ideal.Value.run m' g')
    refine (h c).1.trans ((Cert.Reference15Ideal.Read.val_main_v14_eq _ _ _ _).trans ?_)
    obtain ⟨h0, h1, h2, h3⟩ := hargs c
    refine Eq.trans ?_ (Cert.Reference15Ideal.Ffn.result_eq m c).symm
    rw [← h0, ← h1, ← h2, ← h3]

/-! The call of the first half's input gradient, its second rows. -/

theorem frame_kernel16 : Cert.quiescent_Kernel16 := fun m ρ _ => Cert.Kernel16.Gen.frame m ρ

theorem frame_kernel16Ideal : Cert.quiescent_Kernel16Ideal := fun m ρ _ => Cert.Kernel16Ideal.Gen.frame m ρ

theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run m ρ)

theorem algebraic16 : Cert.algebraic_Kernel16Ideal_Reference16Ideal := by
  intro m g m' g' _ hargs
  refine ⟨fun c => (Cert.Kernel16Ideal.Gen.dats m 0 c).arrAt 4 Cert.Kernel16Ideal.cfg0.N, ?_, ?_⟩
  · exact (θ_run Cert.Kernel16Ideal.defs _ _).mono (fun _ h c => h c) (Cert.Kernel16Ideal.Value.run_blocks m g)
  · refine (θ_run Cert.Reference16Ideal.defs _ _).mono (fun r h c => ⟨?_, (h c).2⟩) (Cert.Reference16Ideal.Value.run m' g')
    refine (h c).1.trans ((Cert.Reference16Ideal.Read.val_main_v16_eq _ _ _ _ _).trans ?_)
    obtain ⟨h0, h1, h2, h3, h4⟩ := hargs c
    refine Eq.trans ?_ (Cert.Reference16Ideal.Ffn.result_eq m c).symm
    rw [← h0, ← h1, ← h2, ← h3, ← h4]

/-! The call of the gradients of the output projection and of the norms before it. -/

theorem frame_kernel17 : Cert.quiescent_Kernel17 := fun m ρ _ => Cert.Kernel17.Gen.frame m ρ

theorem frame_kernel17Ideal : Cert.quiescent_Kernel17Ideal := fun m ρ _ => Cert.Kernel17Ideal.Gen.frame m ρ

theorem frame_reference17 : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run m ρ)

theorem algebraic17 : Cert.algebraic_Kernel17Ideal_Reference17Ideal := by
  intro m g m' g' _ hargs
  refine ⟨fun c => (Cert.Kernel17Ideal.Gen.dats m 0 c).arrAt 6 Cert.Kernel17Ideal.cfg0.N, fun c => (Cert.Kernel17Ideal.Gen.dats m 0 c).arrAt 7 Cert.Kernel17Ideal.cfg0.N, fun c => (Cert.Kernel17Ideal.Gen.dats m 0 c).arrAt 8 Cert.Kernel17Ideal.cfg0.N, fun c => (Cert.Kernel17Ideal.Gen.dats m 0 c).arrAt 9 Cert.Kernel17Ideal.cfg0.N, ?_, ?_⟩
  · exact (θ_run Cert.Kernel17Ideal.defs _ _).mono (fun _ h c => h c) (Cert.Kernel17Ideal.Value.run_blocks m g)
  · refine (θ_run Cert.Reference17Ideal.defs _ _).mono (fun r h c => ⟨?_, ?_, ?_, ?_, (h c).2.2.2.2⟩) (Cert.Reference17Ideal.Value.run m' g')
    · refine (h c).1.trans ((Cert.Reference17Ideal.Read.val_main_v73_eq _ _).trans ?_)
      obtain ⟨h0, h1, h2, _, h4, _⟩ := hargs c
      refine Eq.trans ?_ (Cert.Reference17Ideal.Proj.da_eq m c).symm
      rw [← h0, ← h1, ← h2, ← h4]
    · refine (h c).2.1.trans ((Cert.Reference17Ideal.Read.val_main_v54_eq _ _).trans ?_)
      obtain ⟨h0, h1, _, h3, _, h5⟩ := hargs c
      refine Eq.trans ?_ (Cert.Reference17Ideal.Proj.db_eq m c).symm
      rw [← h0, ← h1, ← h3, ← h5]
    · refine (h c).2.2.1.trans ((Cert.Reference17Ideal.Read.val_main_v57_eq _ _ _).trans ?_)
      obtain ⟨h0, h1, h2, _, _, _⟩ := hargs c
      refine Eq.trans ?_ (Cert.Reference17Ideal.Proj.dga_eq m c).symm
      rw [← h0, ← h1, ← h2]
    · refine (h c).2.2.2.1.trans ((Cert.Reference17Ideal.Read.val_main_v38_eq _ _ _).trans ?_)
      obtain ⟨h0, h1, _, h3, _, _⟩ := hargs c
      refine Eq.trans ?_ (Cert.Reference17Ideal.Proj.dgb_eq m c).symm
      rw [← h0, ← h1, ← h3]

/-! The call of the norm of the stream. -/

theorem frame_kernel18 : Cert.quiescent_Kernel18 := fun m ρ _ => Cert.Kernel18.Gen.frame m ρ

theorem frame_kernel18Ideal : Cert.quiescent_Kernel18Ideal := fun m ρ _ => Cert.Kernel18Ideal.Gen.frame m ρ

theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run m ρ)

theorem algebraic18 : Cert.algebraic_Kernel18Ideal_Reference18Ideal := by
  intro m g m' g' _ hargs
  refine ⟨fun c => (Cert.Kernel18Ideal.Gen.dats m 0 c).arrAt 2 Cert.Kernel18Ideal.cfg0.N, ?_, ?_⟩
  · exact (θ_run Cert.Kernel18Ideal.defs _ _).mono (fun _ h c => h c) (Cert.Kernel18Ideal.Value.run_blocks m g)
  · refine (θ_run Cert.Reference18Ideal.defs _ _).mono (fun r h c => ⟨?_, (h c).2⟩) (Cert.Reference18Ideal.Value.run m' g')
    refine (h c).1.trans ((Cert.Reference18Ideal.Read.val_main_v12_eq _ _).trans ?_)
    obtain ⟨h0, h1⟩ := hargs c
    refine Eq.trans ?_ (Cert.Reference18Ideal.Norm.result_eq m c).symm
    rw [← h0, ← h1]

/-! The call of the gradient of a norm, added to the stream's. -/

theorem frame_kernel19 : Cert.quiescent_Kernel19 := fun m ρ _ => Cert.Kernel19.Gen.frame m ρ

theorem frame_kernel19Ideal : Cert.quiescent_Kernel19Ideal := fun m ρ _ => Cert.Kernel19Ideal.Gen.frame m ρ

theorem frame_reference19 : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run m ρ)

theorem algebraic19 : Cert.algebraic_Kernel19Ideal_Reference19Ideal := by
  intro m g m' g' _ hargs
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, ?_, ?_⟩
  · exact (θ_run Cert.Kernel19Ideal.defs _ _).mono (fun _ h c => h c) (Cert.Kernel19Ideal.Value.run_blocks m g)
  · refine (θ_run Cert.Reference19Ideal.defs _ _).mono (fun r h c => ⟨?_, ?_, (h c).2.2⟩) (Cert.Reference19Ideal.Value.run m' g')
    · refine (h c).1.trans ((Cert.Reference19Ideal.Read.val_main_v34_eq _ _ _ _).trans ?_)
      obtain ⟨h0, h1, h2, h3⟩ := hargs c
      refine Eq.trans ?_ (Cert.Reference19Ideal.Norm.dx_eq m c).symm
      rw [← h0, ← h1, ← h2, ← h3]
    · refine (h c).2.1.trans ((Cert.Reference19Ideal.Read.val_main_v17_eq _ _).trans ?_)
      obtain ⟨h0, _, h2, _⟩ := hargs c
      refine Eq.trans ?_ (Cert.Reference19Ideal.Norm.dg_eq m c).symm
      rw [← h0, ← h2]

/-! The call of the norms of both branches. -/

theorem frame_kernel20 : Cert.quiescent_Kernel20 := fun m ρ _ => Cert.Kernel20.Gen.frame m ρ

theorem frame_kernel20Ideal : Cert.quiescent_Kernel20Ideal := fun m ρ _ => Cert.Kernel20Ideal.Gen.frame m ρ

theorem frame_reference20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run m ρ)

theorem algebraic20 : Cert.algebraic_Kernel20Ideal_Reference20Ideal := by
  intro m g m' g' _ hargs
  refine ⟨fun c => (Cert.Kernel20Ideal.Gen.dats m 0 c).arrAt 4 Cert.Kernel20Ideal.cfg0.N, ?_, ?_⟩
  · exact (θ_run Cert.Kernel20Ideal.defs _ _).mono (fun _ h c => h c) (Cert.Kernel20Ideal.Value.run_blocks m g)
  · refine (θ_run Cert.Reference20Ideal.defs _ _).mono (fun r h c => ⟨?_, (h c).2⟩) (Cert.Reference20Ideal.Value.run m' g')
    refine (h c).1.trans ((Cert.Reference20Ideal.Read.val_main_v25_eq _ _ _ _).trans ?_)
    obtain ⟨h0, h1, h2, h3⟩ := hargs c
    refine Eq.trans ?_ (Cert.Reference20Ideal.Norm.result_eq m c).symm
    rw [← h0, ← h1, ← h2, ← h3]

/-! The call of the last norm, the loss and their gradients. -/

theorem frame_kernel21 : Cert.quiescent_Kernel21 := fun m ρ _ => Cert.Kernel21.Gen.frame m ρ

theorem frame_kernel21Ideal : Cert.quiescent_Kernel21Ideal := fun m ρ _ => Cert.Kernel21Ideal.Gen.frame m ρ

theorem frame_reference21 : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run m ρ)

theorem algebraic21 : Cert.algebraic_Kernel21Ideal_Reference21Ideal := by
  intro m g m' g' _ hargs
  refine ⟨fun c => (Cert.Kernel21Ideal.Gen.dats m 0 c).arrAt 3 Cert.Kernel21Ideal.cfg0.N, fun c => (Cert.Kernel21Ideal.Gen.dats m 0 c).arrAt 4 Cert.Kernel21Ideal.cfg0.N, fun c => (Cert.Kernel21Ideal.Gen.dats m 0 c).arrAt 5 Cert.Kernel21Ideal.cfg0.N, ?_, ?_⟩
  · exact (θ_run Cert.Kernel21Ideal.defs _ _).mono (fun _ h c => h c) (Cert.Kernel21Ideal.Value.run_blocks m g)
  · refine (θ_run Cert.Reference21Ideal.defs _ _).mono (fun r h c => ⟨?_, ?_, ?_, (h c).2.2.2⟩) (Cert.Reference21Ideal.Value.run m' g')
    · refine (h c).1.trans ((Cert.Reference21Ideal.Read.val_main_v48_eq _ _).trans ?_)
      obtain ⟨h0, h1, h2⟩ := hargs c
      refine Eq.trans ?_ (Cert.Reference21Ideal.Norm.dx_eq m c).symm
      rw [← h0, ← h1, ← h2]
    · refine (h c).2.1.trans ((Cert.Reference21Ideal.Read.val_main_v32_eq _ _ _).trans ?_)
      obtain ⟨h0, h1, h2⟩ := hargs c
      refine Eq.trans ?_ (Cert.Reference21Ideal.Norm.dg_eq m c).symm
      rw [← h0, ← h1, ← h2]
    · refine (h c).2.2.1.trans ((Cert.Reference21Ideal.Read.val_main_v49_eq _ _ _).trans ?_)
      obtain ⟨h0, h1, h2⟩ := hargs c
      refine Eq.trans ?_ (Cert.Reference21Ideal.Norm.loss_eq m c).symm
      rw [← h0, ← h1, ← h2]

/-! The call of the stick-breaking forward kernel. -/

theorem frame_kernel22 : Cert.quiescent_Kernel22 := fun m ρ _ => Cert.Kernel22.Gen.frame m ρ

theorem frame_kernel22Ideal : Cert.quiescent_Kernel22Ideal := fun m ρ _ => Cert.Kernel22Ideal.Gen.frame m ρ

theorem frame_reference22 : Cert.quiescent_Reference22Ideal := fun m ρ _ =>
  (θ_run Cert.Reference22Ideal.defs _ _).mono (fun r h => ⟨fun c => (h c).2.2, sem_eq_zero_of_no_sems (by decide) r.2⟩)
    (Cert.Reference22Ideal.Value.run m ρ)

/-- The mask's constant stands for −∞. -/
theorem preserves22 : Cert.preserves_Kernel22_Kernel22Ideal :=
  IdealRules.named_const.statement Cert.Kernel22Ideal.κ "mask" .f32 0xF149F2CA#32 ⊥ rfl

theorem algebraic22 : Cert.algebraic_Kernel22Ideal_Reference22Ideal := by
  intro m g m' g' _ hargs
  refine ⟨fun c => (Cert.Kernel22Ideal.Gen.dats m 0 c).arrAt 3 Cert.Kernel22Ideal.cfg0.N,
    fun c => (Cert.Kernel22Ideal.Gen.dats m 0 c).arrAt 4 Cert.Kernel22Ideal.cfg0.N, ?_, ?_⟩
  · exact (θ_run Cert.Kernel22Ideal.defs _ _).mono (fun _ h c => h c) (Cert.Kernel22Ideal.Value.run_blocks m g)
  · refine (θ_run Cert.Reference22Ideal.defs _ _).mono (fun r h c => ⟨?_, ?_, (h c).2.2⟩) (Cert.Reference22Ideal.Value.run m' g')
    · refine (h c).1.trans ((Cert.Reference22Ideal.Read.val_main_v28_eq _ _).trans ?_)
      have h0 := hargs c
      refine Eq.trans ?_ (Cert.Reference22Ideal.Sb.out_same m c).symm
      rw [← h0]
    · refine (h c).2.1.trans ((Cert.Reference22Ideal.Read.val_main_v54_eq _ _).trans ?_)
      have h0 := hargs c
      refine Eq.trans ?_ (Cert.Reference22Ideal.Sb.tot_same m c).symm
      rw [← h0]

/-! The call of the optimiser on the vectors. -/

theorem frame_kernel23 : Cert.quiescent_Kernel23 := fun m ρ _ => Cert.Kernel23.Gen.frame m ρ

theorem frame_kernel23Ideal : Cert.quiescent_Kernel23Ideal := fun m ρ _ => Cert.Kernel23Ideal.Gen.frame m ρ

theorem frame_reference23 : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run m ρ)

theorem algebraic23 : Cert.algebraic_Kernel23Ideal_Reference23Ideal := by
  intro m g m' g' _ hargs
  refine ⟨fun c => (Cert.Kernel23Ideal.Gen.dats m 0 c).arrAt 4 Cert.Kernel23Ideal.cfg0.N, fun c => (Cert.Kernel23Ideal.Gen.dats m 0 c).arrAt 5 Cert.Kernel23Ideal.cfg0.N,
    fun c => (Cert.Kernel23Ideal.Gen.dats m 0 c).arrAt 6 Cert.Kernel23Ideal.cfg0.N, fun c => (Cert.Kernel23Ideal.Gen.dats m 0 c).arrAt 7 Cert.Kernel23Ideal.cfg0.N, ?_, ?_⟩
  · exact (θ_run Cert.Kernel23Ideal.defs _ _).mono (fun _ h c => h c) (Cert.Kernel23Ideal.Value.run_blocks m g)
  · refine (θ_run Cert.Reference23Ideal.defs _ _).mono (fun r h c => ⟨?_, ?_, ?_, ?_, (h c).2.2.2.2⟩) (Cert.Reference23Ideal.Value.run m' g')
    · refine (h c).1.trans ?_
      obtain ⟨_, _, _, h3⟩ := hargs c
      refine Eq.trans ?_ (Cert.Kernel23Ideal.Value.final4 m c).symm
      rw [← h3]
    · refine (h c).2.1.trans ((Cert.Reference23Ideal.Read.val_main_v23_eq _ _ _ _).trans ?_)
      obtain ⟨h0, h1, h2, h3⟩ := hargs c
      refine Eq.trans ?_ ((Cert.Kernel23Ideal.Value.final5 m c).trans (Cert.Reference23Ideal.Opt.step_eq _ _ _ _)).symm
      rw [← h0, ← h1, ← h2, ← h3]
    · refine (h c).2.2.1.trans ((Cert.Reference23Ideal.Read.val_main_v4_eq _ _).trans ?_)
      obtain ⟨_, h1, _, h3⟩ := hargs c
      refine Eq.trans ?_ ((Cert.Kernel23Ideal.Value.final6 m c).trans (Cert.Reference23Ideal.Opt.mean_eq _ _)).symm
      rw [← h1, ← h3]
    · refine (h c).2.2.2.1.trans ((Cert.Reference23Ideal.Read.val_main_v10_eq _ _).trans ?_)
      obtain ⟨_, _, h2, h3⟩ := hargs c
      refine Eq.trans ?_ ((Cert.Kernel23Ideal.Value.final7 m c).trans (Cert.Reference23Ideal.Opt.square_eq _ _)).symm
      rw [← h2, ← h3]

/-! The call of the optimiser on a matrix whose gradient is held in halves. -/

theorem frame_kernel24 : Cert.quiescent_Kernel24 := fun m ρ _ => Cert.Kernel24.Gen.frame m ρ (Cert.Kernel24.Opt.ok_all _)

theorem frame_kernel24Ideal : Cert.quiescent_Kernel24Ideal := fun m ρ _ => Cert.Kernel24Ideal.Gen.frame m ρ (Cert.Kernel24Ideal.Opt.ok_all _)

theorem frame_reference24 : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run m ρ)

theorem algebraic24 : Cert.algebraic_Kernel24Ideal_Reference24Ideal := by
  intro m g m' g' _ hargs
  refine ⟨fun c => (Cert.Kernel24Ideal.Gen.dats m (Cert.Kernel24Ideal.Opt.ok_all _) 0 c).arrAt 5 (Cert.Kernel24Ideal.Gen.cfgM m (Cert.Kernel24Ideal.Opt.ok_all _)).N,
    fun c => (Cert.Kernel24Ideal.Gen.dats m (Cert.Kernel24Ideal.Opt.ok_all _) 0 c).arrAt 6 (Cert.Kernel24Ideal.Gen.cfgM m (Cert.Kernel24Ideal.Opt.ok_all _)).N,
    fun c => (Cert.Kernel24Ideal.Gen.dats m (Cert.Kernel24Ideal.Opt.ok_all _) 0 c).arrAt 7 (Cert.Kernel24Ideal.Gen.cfgM m (Cert.Kernel24Ideal.Opt.ok_all _)).N,
    fun c => (Cert.Kernel24Ideal.Gen.dats m (Cert.Kernel24Ideal.Opt.ok_all _) 0 c).arrAt 8 (Cert.Kernel24Ideal.Gen.cfgM m (Cert.Kernel24Ideal.Opt.ok_all _)).N, ?_, ?_⟩
  · exact (θ_run Cert.Kernel24Ideal.defs _ _).mono (fun _ h c => ⟨(h.1 c).1 5, (h.1 c).1 6, (h.1 c).1 7, (h.1 c).1 8, h.2 c⟩)
      (θ_run_and (Cert.Kernel24Ideal.Gen.run_main m g (Cert.Kernel24Ideal.Opt.ok_all _)) (Cert.Kernel24Ideal.Gen.unchanged m g (Cert.Kernel24Ideal.Opt.ok_all _)))
  · refine (θ_run Cert.Reference24Ideal.defs _ _).mono (fun r h c => ⟨?_, ?_, ?_, ?_, (h c).2.2.2.2⟩) (Cert.Reference24Ideal.Value.run m' g')
    · refine (h c).1.trans ((Cert.Reference24Ideal.Read.val_main_v7_eq _ _ _).trans ?_)
      obtain ⟨_, _, _, h3, h4, h5⟩ := hargs c
      refine Eq.trans ?_ (Cert.Reference24Ideal.Opt.same m _ c).1.symm
      rw [h3, h4, h5]
    · refine (h c).2.1.trans ((Cert.Reference24Ideal.Read.val_main_v31_eq _ _ _ _ _ _).trans ?_)
      obtain ⟨h0, h1, h2, h3, h4, h5⟩ := hargs c
      refine Eq.trans ?_ (Cert.Reference24Ideal.Opt.same m _ c).2.1.symm
      rw [h0, h1, h2, h3, h4, h5]
    · refine (h c).2.2.1.trans ((Cert.Reference24Ideal.Read.val_main_v12_eq _ _ _ _).trans ?_)
      obtain ⟨_, h1, _, h3, h4, h5⟩ := hargs c
      refine Eq.trans ?_ (Cert.Reference24Ideal.Opt.same m _ c).2.2.1.symm
      rw [h1, h3, h4, h5]
    · refine (h c).2.2.2.1.trans ((Cert.Reference24Ideal.Read.val_main_v18_eq _ _ _ _).trans ?_)
      obtain ⟨_, _, h2, h3, h4, h5⟩ := hargs c
      refine Eq.trans ?_ (Cert.Reference24Ideal.Opt.same m _ c).2.2.2.symm
      rw [h2, h3, h4, h5]

theorem frame_kernel25 : Cert.quiescent_Kernel25 := fun m ρ _ => Cert.Kernel25.Gen.frame m ρ (Cert.Kernel25.Opt.ok_all _)

theorem frame_kernel25Ideal : Cert.quiescent_Kernel25Ideal := fun m ρ _ => Cert.Kernel25Ideal.Gen.frame m ρ (Cert.Kernel25Ideal.Opt.ok_all _)

theorem frame_reference25 : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run m ρ)

theorem algebraic25 : Cert.algebraic_Kernel25Ideal_Reference25Ideal := by
  intro m g m' g' _ hargs
  refine ⟨fun c => (Cert.Kernel25Ideal.Gen.dats m (Cert.Kernel25Ideal.Opt.ok_all _) 0 c).arrAt 5 (Cert.Kernel25Ideal.Gen.cfgM m (Cert.Kernel25Ideal.Opt.ok_all _)).N,
    fun c => (Cert.Kernel25Ideal.Gen.dats m (Cert.Kernel25Ideal.Opt.ok_all _) 0 c).arrAt 6 (Cert.Kernel25Ideal.Gen.cfgM m (Cert.Kernel25Ideal.Opt.ok_all _)).N,
    fun c => (Cert.Kernel25Ideal.Gen.dats m (Cert.Kernel25Ideal.Opt.ok_all _) 0 c).arrAt 7 (Cert.Kernel25Ideal.Gen.cfgM m (Cert.Kernel25Ideal.Opt.ok_all _)).N,
    fun c => (Cert.Kernel25Ideal.Gen.dats m (Cert.Kernel25Ideal.Opt.ok_all _) 0 c).arrAt 8 (Cert.Kernel25Ideal.Gen.cfgM m (Cert.Kernel25Ideal.Opt.ok_all _)).N, ?_, ?_⟩
  · exact (θ_run Cert.Kernel25Ideal.defs _ _).mono (fun _ h c => ⟨(h.1 c).1 5, (h.1 c).1 6, (h.1 c).1 7, (h.1 c).1 8, h.2 c⟩)
      (θ_run_and (Cert.Kernel25Ideal.Gen.run_main m g (Cert.Kernel25Ideal.Opt.ok_all _)) (Cert.Kernel25Ideal.Gen.unchanged m g (Cert.Kernel25Ideal.Opt.ok_all _)))
  · refine (θ_run Cert.Reference25Ideal.defs _ _).mono (fun r h c => ⟨?_, ?_, ?_, ?_, (h c).2.2.2.2⟩) (Cert.Reference25Ideal.Value.run m' g')
    · refine (h c).1.trans ((Cert.Reference25Ideal.Read.val_main_v6_eq _ _ _).trans ?_)
      obtain ⟨_, _, _, h3, h4, h5⟩ := hargs c
      refine Eq.trans ?_ (Cert.Reference25Ideal.Opt.same m _ c).1.symm
      rw [h3, h4, h5]
    · refine (h c).2.1.trans ((Cert.Reference25Ideal.Read.val_main_v30_eq _ _ _ _ _ _).trans ?_)
      obtain ⟨h0, h1, h2, h3, h4, h5⟩ := hargs c
      refine Eq.trans ?_ (Cert.Reference25Ideal.Opt.same m _ c).2.1.symm
      rw [h0, h1, h2, h3, h4, h5]
    · refine (h c).2.2.1.trans ((Cert.Reference25Ideal.Read.val_main_v11_eq _ _ _ _).trans ?_)
      obtain ⟨_, h1, _, h3, h4, h5⟩ := hargs c
      refine Eq.trans ?_ (Cert.Reference25Ideal.Opt.same m _ c).2.2.1.symm
      rw [h1, h3, h4, h5]
    · refine (h c).2.2.2.1.trans ((Cert.Reference25Ideal.Read.val_main_v17_eq _ _ _ _).trans ?_)
      obtain ⟨_, _, h2, h3, h4, h5⟩ := hargs c
      refine Eq.trans ?_ (Cert.Reference25Ideal.Opt.same m _ c).2.2.2.symm
      rw [h2, h3, h4, h5]

theorem frame_kernel26 : Cert.quiescent_Kernel26 := fun m ρ _ => Cert.Kernel26.Gen.frame m ρ (Cert.Kernel26.Opt.ok_all _)

theorem frame_kernel26Ideal : Cert.quiescent_Kernel26Ideal := fun m ρ _ => Cert.Kernel26Ideal.Gen.frame m ρ (Cert.Kernel26Ideal.Opt.ok_all _)

theorem frame_reference26 : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run m ρ)

theorem algebraic26 : Cert.algebraic_Kernel26Ideal_Reference26Ideal := by
  intro m g m' g' _ hargs
  refine ⟨fun c => (Cert.Kernel26Ideal.Gen.dats m (Cert.Kernel26Ideal.Opt.ok_all _) 0 c).arrAt 5 (Cert.Kernel26Ideal.Gen.cfgM m (Cert.Kernel26Ideal.Opt.ok_all _)).N,
    fun c => (Cert.Kernel26Ideal.Gen.dats m (Cert.Kernel26Ideal.Opt.ok_all _) 0 c).arrAt 6 (Cert.Kernel26Ideal.Gen.cfgM m (Cert.Kernel26Ideal.Opt.ok_all _)).N,
    fun c => (Cert.Kernel26Ideal.Gen.dats m (Cert.Kernel26Ideal.Opt.ok_all _) 0 c).arrAt 7 (Cert.Kernel26Ideal.Gen.cfgM m (Cert.Kernel26Ideal.Opt.ok_all _)).N,
    fun c => (Cert.Kernel26Ideal.Gen.dats m (Cert.Kernel26Ideal.Opt.ok_all _) 0 c).arrAt 8 (Cert.Kernel26Ideal.Gen.cfgM m (Cert.Kernel26Ideal.Opt.ok_all _)).N, ?_, ?_⟩
  · exact (θ_run Cert.Kernel26Ideal.defs _ _).mono (fun _ h c => ⟨(h.1 c).1 5, (h.1 c).1 6, (h.1 c).1 7, (h.1 c).1 8, h.2 c⟩)
      (θ_run_and (Cert.Kernel26Ideal.Gen.run_main m g (Cert.Kernel26Ideal.Opt.ok_all _)) (Cert.Kernel26Ideal.Gen.unchanged m g (Cert.Kernel26Ideal.Opt.ok_all _)))
  · refine (θ_run Cert.Reference26Ideal.defs _ _).mono (fun r h c => ⟨?_, ?_, ?_, ?_, (h c).2.2.2.2⟩) (Cert.Reference26Ideal.Value.run m' g')
    · refine (h c).1.trans ((Cert.Reference26Ideal.Read.val_main_v6_eq _ _ _).trans ?_)
      obtain ⟨_, _, _, h3, h4, h5⟩ := hargs c
      refine Eq.trans ?_ (Cert.Reference26Ideal.Opt.same m _ c).1.symm
      rw [h3, h4, h5]
    · refine (h c).2.1.trans ((Cert.Reference26Ideal.Read.val_main_v30_eq _ _ _ _ _ _).trans ?_)
      obtain ⟨h0, h1, h2, h3, h4, h5⟩ := hargs c
      refine Eq.trans ?_ (Cert.Reference26Ideal.Opt.same m _ c).2.1.symm
      rw [h0, h1, h2, h3, h4, h5]
    · refine (h c).2.2.1.trans ((Cert.Reference26Ideal.Read.val_main_v11_eq _ _ _ _).trans ?_)
      obtain ⟨_, h1, _, h3, h4, h5⟩ := hargs c
      refine Eq.trans ?_ (Cert.Reference26Ideal.Opt.same m _ c).2.2.1.symm
      rw [h1, h3, h4, h5]
    · refine (h c).2.2.2.1.trans ((Cert.Reference26Ideal.Read.val_main_v17_eq _ _ _ _).trans ?_)
      obtain ⟨_, _, h2, h3, h4, h5⟩ := hargs c
      refine Eq.trans ?_ (Cert.Reference26Ideal.Opt.same m _ c).2.2.2.symm
      rw [h2, h3, h4, h5]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.ReferenceIdeal.Sb.facts_finite, Cert.Reference2Ideal.Ffn.facts_finite,
    frame_kernel, frame_kernelIdeal, frame_kernelIdeal_finite, frame_reference, frame_reference_finite,
    frame_kernel2, frame_kernel2Ideal, frame_kernel2Ideal_finite, frame_reference2, frame_reference2_finite,
    frame_kernel3, frame_kernel3Ideal, frame_reference3,
    frame_kernel4, frame_kernel4Ideal, frame_reference4,
    frame_kernel5, frame_kernel5Ideal, frame_reference5,
    frame_kernel6, frame_kernel6Ideal, frame_reference6,
    frame_kernel7, frame_kernel7Ideal, frame_reference7,
    frame_kernel8, frame_kernel8Ideal, frame_reference8,
    frame_kernel9, frame_kernel9Ideal, frame_reference9,
    frame_kernel10, frame_kernel10Ideal, frame_reference10,
    frame_kernel11, frame_kernel11Ideal, frame_reference11,
    frame_kernel12, frame_kernel12Ideal, frame_reference12,
    frame_kernel13, frame_kernel13Ideal, frame_reference13,
    frame_kernel14, frame_kernel14Ideal, frame_reference14,
    frame_kernel15, frame_kernel15Ideal, frame_reference15,
    frame_kernel16, frame_kernel16Ideal, frame_reference16,
    frame_kernel17, frame_kernel17Ideal, frame_reference17,
    frame_kernel18, frame_kernel18Ideal, frame_reference18,
    frame_kernel19, frame_kernel19Ideal, frame_reference19,
    frame_kernel20, frame_kernel20Ideal, frame_reference20,
    frame_kernel21, frame_kernel21Ideal, frame_reference21,
    frame_kernel22, frame_kernel22Ideal, frame_reference22,
    frame_kernel23, frame_kernel23Ideal, frame_reference23,
    frame_kernel24, frame_kernel24Ideal, frame_reference24,
    frame_kernel25, frame_kernel25Ideal, frame_reference25,
    frame_kernel26, frame_kernel26Ideal, frame_reference26,
    trivial, algebraic,
    trivial, algebraic2, trivial, algebraic3, trivial, algebraic4, trivial, algebraic5, trivial, algebraic6,
    trivial, algebraic7, trivial, algebraic8, trivial, algebraic9, trivial, algebraic10, trivial, algebraic11,
    trivial, algebraic12, trivial, algebraic13, trivial, algebraic14, trivial, algebraic15, trivial, algebraic16,
    trivial, algebraic17, trivial, algebraic18, trivial, algebraic19, trivial, algebraic20, trivial, algebraic21,
    preserves22, algebraic22, trivial, algebraic23, trivial, algebraic24, trivial, algebraic25, trivial, algebraic26⟩

end Cert.Proof

end
